-- ==== Defs.lean ====
def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_OpsKernel (m : (ℓ : Loc Cert.OpsKernel.nD Cert.OpsKernel.τ Cert.OpsKernel.sig) → Buf (Elt Bits) ℓ) : Prop :=
  True

def Pre_OpsKernelIdeal (m : (ℓ : Loc Cert.OpsKernelIdeal.nD Cert.OpsKernelIdeal.τ Cert.OpsKernelIdeal.sig) → Buf (Elt Ideal) ℓ) : Prop :=
  True

def Pre_OpsKernelIdeal_finite_ops [hPre_finite_ops : Cert.Pre_finite_ops.Facts] (m : (ℓ : Loc Cert.OpsKernelIdeal.nD Cert.OpsKernelIdeal.τ Cert.OpsKernelIdeal.sig) → Buf (Elt Ideal) ℓ) : Prop :=
  ∀ c : Dev Cert.OpsKernelIdeal.nD,
    (Cert.Pre_finite_ops.fn (F := Ideal) (m ((c.tc : Thread Cert.OpsKernelIdeal.nD Cert.OpsKernelIdeal.τ).loc Cert.OpsKernelIdeal.main_arg0)) (m ((c.tc : Thread Cert.OpsKernelIdeal.nD Cert.OpsKernelIdeal.τ).loc Cert.OpsKernelIdeal.main_arg1)) (m ((c.tc : Thread Cert.OpsKernelIdeal.nD Cert.OpsKernelIdeal.τ).loc Cert.OpsKernelIdeal.main_arg2)) (m ((c.tc : Thread Cert.OpsKernelIdeal.nD Cert.OpsKernelIdeal.τ).loc Cert.OpsKernelIdeal.main_arg3)) (m ((c.tc : Thread Cert.OpsKernelIdeal.nD Cert.OpsKernelIdeal.τ).loc Cert.OpsKernelIdeal.main_arg4)) (m ((c.tc : Thread Cert.OpsKernelIdeal.nD Cert.OpsKernelIdeal.τ).loc Cert.OpsKernelIdeal.main_arg5)) (m ((c.tc : Thread Cert.OpsKernelIdeal.nD Cert.OpsKernelIdeal.τ).loc Cert.OpsKernelIdeal.main_arg6)) (m ((c.tc : Thread Cert.OpsKernelIdeal.nD Cert.OpsKernelIdeal.τ).loc Cert.OpsKernelIdeal.main_arg7)) (m ((c.tc : Thread Cert.OpsKernelIdeal.nD Cert.OpsKernelIdeal.τ).loc Cert.OpsKernelIdeal.main_arg8)) (m ((c.tc : Thread Cert.OpsKernelIdeal.nD Cert.OpsKernelIdeal.τ).loc Cert.OpsKernelIdeal.main_arg9)) (m ((c.tc : Thread Cert.OpsKernelIdeal.nD Cert.OpsKernelIdeal.τ).loc Cert.OpsKernelIdeal.main_arg10))) = (fun _ => 1#1)

def Pre_OpsReferenceIdeal (m : (ℓ : Loc Cert.OpsReferenceIdeal.nD Cert.OpsReferenceIdeal.τ Cert.OpsReferenceIdeal.sig) → Buf (Elt Ideal) ℓ) : Prop :=
  True

def Pre_OpsReferenceIdeal_finite_ops [hPre_finite_ops : Cert.Pre_finite_ops.Facts] (m : (ℓ : Loc Cert.OpsReferenceIdeal.nD Cert.OpsReferenceIdeal.τ Cert.OpsReferenceIdeal.sig) → Buf (Elt Ideal) ℓ) : Prop :=
  ∀ c : Dev Cert.OpsReferenceIdeal.nD,
    (Cert.Pre_finite_ops.fn (F := Ideal) (m ((c.tc : Thread Cert.OpsReferenceIdeal.nD Cert.OpsReferenceIdeal.τ).loc Cert.OpsReferenceIdeal.main_arg0)) (m ((c.tc : Thread Cert.OpsReferenceIdeal.nD Cert.OpsReferenceIdeal.τ).loc Cert.OpsReferenceIdeal.main_arg1)) (m ((c.tc : Thread Cert.OpsReferenceIdeal.nD Cert.OpsReferenceIdeal.τ).loc Cert.OpsReferenceIdeal.main_arg2)) (m ((c.tc : Thread Cert.OpsReferenceIdeal.nD Cert.OpsReferenceIdeal.τ).loc Cert.OpsReferenceIdeal.main_arg3)) (m ((c.tc : Thread Cert.OpsReferenceIdeal.nD Cert.OpsReferenceIdeal.τ).loc Cert.OpsReferenceIdeal.main_arg4)) (m ((c.tc : Thread Cert.OpsReferenceIdeal.nD Cert.OpsReferenceIdeal.τ).loc Cert.OpsReferenceIdeal.main_arg5)) (m ((c.tc : Thread Cert.OpsReferenceIdeal.nD Cert.OpsReferenceIdeal.τ).loc Cert.OpsReferenceIdeal.main_arg6)) (m ((c.tc : Thread Cert.OpsReferenceIdeal.nD Cert.OpsReferenceIdeal.τ).loc Cert.OpsReferenceIdeal.main_arg7)) (m ((c.tc : Thread Cert.OpsReferenceIdeal.nD Cert.OpsReferenceIdeal.τ).loc Cert.OpsReferenceIdeal.main_arg8)) (m ((c.tc : Thread Cert.OpsReferenceIdeal.nD Cert.OpsReferenceIdeal.τ).loc Cert.OpsReferenceIdeal.main_arg9)) (m ((c.tc : Thread Cert.OpsReferenceIdeal.nD Cert.OpsReferenceIdeal.τ).loc Cert.OpsReferenceIdeal.main_arg10))) = (fun _ => 1#1)

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_finite_merge [hPre_finite_merge : Cert.Pre_finite_merge.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_finite_merge.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_merge [hPre_finite_merge : Cert.Pre_finite_merge.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5))) = (fun _ => 1#1)

def Pre_S5Kernel (m : (ℓ : Loc Cert.S5Kernel.nD Cert.S5Kernel.τ Cert.S5Kernel.sig) → Buf (Elt Bits) ℓ) : Prop :=
  True

def Pre_S5KernelIdeal (m : (ℓ : Loc Cert.S5KernelIdeal.nD Cert.S5KernelIdeal.τ Cert.S5KernelIdeal.sig) → Buf (Elt Ideal) ℓ) : Prop :=
  True

def Pre_S5KernelIdeal_finite_s5 [hPre_finite_s5 : Cert.Pre_finite_s5.Facts] (m : (ℓ : Loc Cert.S5KernelIdeal.nD Cert.S5KernelIdeal.τ Cert.S5KernelIdeal.sig) → Buf (Elt Ideal) ℓ) : Prop :=
  ∀ c : Dev Cert.S5KernelIdeal.nD,
    (Cert.Pre_finite_s5.fn (F := Ideal) (m ((c.tc : Thread Cert.S5KernelIdeal.nD Cert.S5KernelIdeal.τ).loc Cert.S5KernelIdeal.main_arg0)) (m ((c.tc : Thread Cert.S5KernelIdeal.nD Cert.S5KernelIdeal.τ).loc Cert.S5KernelIdeal.main_arg1)) (m ((c.tc : Thread Cert.S5KernelIdeal.nD Cert.S5KernelIdeal.τ).loc Cert.S5KernelIdeal.main_arg2)) (m ((c.tc : Thread Cert.S5KernelIdeal.nD Cert.S5KernelIdeal.τ).loc Cert.S5KernelIdeal.main_arg3)) (m ((c.tc : Thread Cert.S5KernelIdeal.nD Cert.S5KernelIdeal.τ).loc Cert.S5KernelIdeal.main_arg4)) (m ((c.tc : Thread Cert.S5KernelIdeal.nD Cert.S5KernelIdeal.τ).loc Cert.S5KernelIdeal.main_arg5)) (m ((c.tc : Thread Cert.S5KernelIdeal.nD Cert.S5KernelIdeal.τ).loc Cert.S5KernelIdeal.main_arg6)) (m ((c.tc : Thread Cert.S5KernelIdeal.nD Cert.S5KernelIdeal.τ).loc Cert.S5KernelIdeal.main_arg7)) (m ((c.tc : Thread Cert.S5KernelIdeal.nD Cert.S5KernelIdeal.τ).loc Cert.S5KernelIdeal.main_arg8)) (m ((c.tc : Thread Cert.S5KernelIdeal.nD Cert.S5KernelIdeal.τ).loc Cert.S5KernelIdeal.main_arg9))) = (fun _ => 1#1)

def Pre_S5ReferenceIdeal (m : (ℓ : Loc Cert.S5ReferenceIdeal.nD Cert.S5ReferenceIdeal.τ Cert.S5ReferenceIdeal.sig) → Buf (Elt Ideal) ℓ) : Prop :=
  True

def Pre_S5ReferenceIdeal_finite_s5 [hPre_finite_s5 : Cert.Pre_finite_s5.Facts] (m : (ℓ : Loc Cert.S5ReferenceIdeal.nD Cert.S5ReferenceIdeal.τ Cert.S5ReferenceIdeal.sig) → Buf (Elt Ideal) ℓ) : Prop :=
  ∀ c : Dev Cert.S5ReferenceIdeal.nD,
    (Cert.Pre_finite_s5.fn (F := Ideal) (m ((c.tc : Thread Cert.S5ReferenceIdeal.nD Cert.S5ReferenceIdeal.τ).loc Cert.S5ReferenceIdeal.main_arg0)) (m ((c.tc : Thread Cert.S5ReferenceIdeal.nD Cert.S5ReferenceIdeal.τ).loc Cert.S5ReferenceIdeal.main_arg1)) (m ((c.tc : Thread Cert.S5ReferenceIdeal.nD Cert.S5ReferenceIdeal.τ).loc Cert.S5ReferenceIdeal.main_arg2)) (m ((c.tc : Thread Cert.S5ReferenceIdeal.nD Cert.S5ReferenceIdeal.τ).loc Cert.S5ReferenceIdeal.main_arg3)) (m ((c.tc : Thread Cert.S5ReferenceIdeal.nD Cert.S5ReferenceIdeal.τ).loc Cert.S5ReferenceIdeal.main_arg4)) (m ((c.tc : Thread Cert.S5ReferenceIdeal.nD Cert.S5ReferenceIdeal.τ).loc Cert.S5ReferenceIdeal.main_arg5)) (m ((c.tc : Thread Cert.S5ReferenceIdeal.nD Cert.S5ReferenceIdeal.τ).loc Cert.S5ReferenceIdeal.main_arg6)) (m ((c.tc : Thread Cert.S5ReferenceIdeal.nD Cert.S5ReferenceIdeal.τ).loc Cert.S5ReferenceIdeal.main_arg7)) (m ((c.tc : Thread Cert.S5ReferenceIdeal.nD Cert.S5ReferenceIdeal.τ).loc Cert.S5ReferenceIdeal.main_arg8)) (m ((c.tc : Thread Cert.S5ReferenceIdeal.nD Cert.S5ReferenceIdeal.τ).loc Cert.S5ReferenceIdeal.main_arg9))) = (fun _ => 1#1)

def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_GlufKernel (m : (ℓ : Loc Cert.GlufKernel.nD Cert.GlufKernel.τ Cert.GlufKernel.sig) → Buf (Elt Bits) ℓ) : Prop :=
  True

def Pre_GlufKernelIdeal (m : (ℓ : Loc Cert.GlufKernelIdeal.nD Cert.GlufKernelIdeal.τ Cert.GlufKernelIdeal.sig) → Buf (Elt Ideal) ℓ) : Prop :=
  True

def Pre_GlufReferenceIdeal (m : (ℓ : Loc Cert.GlufReferenceIdeal.nD Cert.GlufReferenceIdeal.τ Cert.GlufReferenceIdeal.sig) → Buf (Elt Ideal) ℓ) : Prop :=
  True

def Pre_PlefKernel (m : (ℓ : Loc Cert.PlefKernel.nD Cert.PlefKernel.τ Cert.PlefKernel.sig) → Buf (Elt Bits) ℓ) : Prop :=
  True

def Pre_PlefKernelIdeal (m : (ℓ : Loc Cert.PlefKernelIdeal.nD Cert.PlefKernelIdeal.τ Cert.PlefKernelIdeal.sig) → Buf (Elt Ideal) ℓ) : Prop :=
  True

def Pre_PlefReferenceIdeal (m : (ℓ : Loc Cert.PlefReferenceIdeal.nD Cert.PlefReferenceIdeal.τ Cert.PlefReferenceIdeal.sig) → Buf (Elt Ideal) ℓ) : Prop :=
  True

def Pre_FfnfKernel (m : (ℓ : Loc Cert.FfnfKernel.nD Cert.FfnfKernel.τ Cert.FfnfKernel.sig) → Buf (Elt Bits) ℓ) : Prop :=
  True

def Pre_FfnfKernelIdeal (m : (ℓ : Loc Cert.FfnfKernelIdeal.nD Cert.FfnfKernelIdeal.τ Cert.FfnfKernelIdeal.sig) → Buf (Elt Ideal) ℓ) : Prop :=
  True

def Pre_FfnfReferenceIdeal (m : (ℓ : Loc Cert.FfnfReferenceIdeal.nD Cert.FfnfReferenceIdeal.τ Cert.FfnfReferenceIdeal.sig) → Buf (Elt Ideal) ℓ) : Prop :=
  True

def Pre_MergefKernel (m : (ℓ : Loc Cert.MergefKernel.nD Cert.MergefKernel.τ Cert.MergefKernel.sig) → Buf (Elt Bits) ℓ) : Prop :=
  True

def Pre_MergefKernelIdeal (m : (ℓ : Loc Cert.MergefKernelIdeal.nD Cert.MergefKernelIdeal.τ Cert.MergefKernelIdeal.sig) → Buf (Elt Ideal) ℓ) : Prop :=
  True

def Pre_MergefKernelIdeal_finite_mergef [hPre_finite_mergef : Cert.Pre_finite_mergef.Facts] (m : (ℓ : Loc Cert.MergefKernelIdeal.nD Cert.MergefKernelIdeal.τ Cert.MergefKernelIdeal.sig) → Buf (Elt Ideal) ℓ) : Prop :=
  ∀ c : Dev Cert.MergefKernelIdeal.nD,
    (Cert.Pre_finite_mergef.fn (F := Ideal) (m ((c.tc : Thread Cert.MergefKernelIdeal.nD Cert.MergefKernelIdeal.τ).loc Cert.MergefKernelIdeal.main_arg0)) (m ((c.tc : Thread Cert.MergefKernelIdeal.nD Cert.MergefKernelIdeal.τ).loc Cert.MergefKernelIdeal.main_arg1)) (m ((c.tc : Thread Cert.MergefKernelIdeal.nD Cert.MergefKernelIdeal.τ).loc Cert.MergefKernelIdeal.main_arg2)) (m ((c.tc : Thread Cert.MergefKernelIdeal.nD Cert.MergefKernelIdeal.τ).loc Cert.MergefKernelIdeal.main_arg3)) (m ((c.tc : Thread Cert.MergefKernelIdeal.nD Cert.MergefKernelIdeal.τ).loc Cert.MergefKernelIdeal.main_arg4))) = (fun _ => 1#1)

def Pre_MergefReferenceIdeal (m : (ℓ : Loc Cert.MergefReferenceIdeal.nD Cert.MergefReferenceIdeal.τ Cert.MergefReferenceIdeal.sig) → Buf (Elt Ideal) ℓ) : Prop :=
  True

def Pre_MergefReferenceIdeal_finite_mergef [hPre_finite_mergef : Cert.Pre_finite_mergef.Facts] (m : (ℓ : Loc Cert.MergefReferenceIdeal.nD Cert.MergefReferenceIdeal.τ Cert.MergefReferenceIdeal.sig) → Buf (Elt Ideal) ℓ) : Prop :=
  ∀ c : Dev Cert.MergefReferenceIdeal.nD,
    (Cert.Pre_finite_mergef.fn (F := Ideal) (m ((c.tc : Thread Cert.MergefReferenceIdeal.nD Cert.MergefReferenceIdeal.τ).loc Cert.MergefReferenceIdeal.main_arg0)) (m ((c.tc : Thread Cert.MergefReferenceIdeal.nD Cert.MergefReferenceIdeal.τ).loc Cert.MergefReferenceIdeal.main_arg1)) (m ((c.tc : Thread Cert.MergefReferenceIdeal.nD Cert.MergefReferenceIdeal.τ).loc Cert.MergefReferenceIdeal.main_arg2)) (m ((c.tc : Thread Cert.MergefReferenceIdeal.nD Cert.MergefReferenceIdeal.τ).loc Cert.MergefReferenceIdeal.main_arg3)) (m ((c.tc : Thread Cert.MergefReferenceIdeal.nD Cert.MergefReferenceIdeal.τ).loc Cert.MergefReferenceIdeal.main_arg4))) = (fun _ => 1#1)

def Pre_S5fKernel (m : (ℓ : Loc Cert.S5fKernel.nD Cert.S5fKernel.τ Cert.S5fKernel.sig) → Buf (Elt Bits) ℓ) : Prop :=
  True

def Pre_S5fKernelIdeal (m : (ℓ : Loc Cert.S5fKernelIdeal.nD Cert.S5fKernelIdeal.τ Cert.S5fKernelIdeal.sig) → Buf (Elt Ideal) ℓ) : Prop :=
  True

def Pre_S5fKernelIdeal_finite_s5f [hPre_finite_s5f : Cert.Pre_finite_s5f.Facts] (m : (ℓ : Loc Cert.S5fKernelIdeal.nD Cert.S5fKernelIdeal.τ Cert.S5fKernelIdeal.sig) → Buf (Elt Ideal) ℓ) : Prop :=
  ∀ c : Dev Cert.S5fKernelIdeal.nD,
    (Cert.Pre_finite_s5f.fn (F := Ideal) (m ((c.tc : Thread Cert.S5fKernelIdeal.nD Cert.S5fKernelIdeal.τ).loc Cert.S5fKernelIdeal.main_arg0)) (m ((c.tc : Thread Cert.S5fKernelIdeal.nD Cert.S5fKernelIdeal.τ).loc Cert.S5fKernelIdeal.main_arg1)) (m ((c.tc : Thread Cert.S5fKernelIdeal.nD Cert.S5fKernelIdeal.τ).loc Cert.S5fKernelIdeal.main_arg2)) (m ((c.tc : Thread Cert.S5fKernelIdeal.nD Cert.S5fKernelIdeal.τ).loc Cert.S5fKernelIdeal.main_arg3)) (m ((c.tc : Thread Cert.S5fKernelIdeal.nD Cert.S5fKernelIdeal.τ).loc Cert.S5fKernelIdeal.main_arg4)) (m ((c.tc : Thread Cert.S5fKernelIdeal.nD Cert.S5fKernelIdeal.τ).loc Cert.S5fKernelIdeal.main_arg5)) (m ((c.tc : Thread Cert.S5fKernelIdeal.nD Cert.S5fKernelIdeal.τ).loc Cert.S5fKernelIdeal.main_arg6)) (m ((c.tc : Thread Cert.S5fKernelIdeal.nD Cert.S5fKernelIdeal.τ).loc Cert.S5fKernelIdeal.main_arg7)) (m ((c.tc : Thread Cert.S5fKernelIdeal.nD Cert.S5fKernelIdeal.τ).loc Cert.S5fKernelIdeal.main_arg8))) = (fun _ => 1#1)

def Pre_S5fReferenceIdeal (m : (ℓ : Loc Cert.S5fReferenceIdeal.nD Cert.S5fReferenceIdeal.τ Cert.S5fReferenceIdeal.sig) → Buf (Elt Ideal) ℓ) : Prop :=
  True

def Pre_S5fReferenceIdeal_finite_s5f [hPre_finite_s5f : Cert.Pre_finite_s5f.Facts] (m : (ℓ : Loc Cert.S5fReferenceIdeal.nD Cert.S5fReferenceIdeal.τ Cert.S5fReferenceIdeal.sig) → Buf (Elt Ideal) ℓ) : Prop :=
  ∀ c : Dev Cert.S5fReferenceIdeal.nD,
    (Cert.Pre_finite_s5f.fn (F := Ideal) (m ((c.tc : Thread Cert.S5fReferenceIdeal.nD Cert.S5fReferenceIdeal.τ).loc Cert.S5fReferenceIdeal.main_arg0)) (m ((c.tc : Thread Cert.S5fReferenceIdeal.nD Cert.S5fReferenceIdeal.τ).loc Cert.S5fReferenceIdeal.main_arg1)) (m ((c.tc : Thread Cert.S5fReferenceIdeal.nD Cert.S5fReferenceIdeal.τ).loc Cert.S5fReferenceIdeal.main_arg2)) (m ((c.tc : Thread Cert.S5fReferenceIdeal.nD Cert.S5fReferenceIdeal.τ).loc Cert.S5fReferenceIdeal.main_arg3)) (m ((c.tc : Thread Cert.S5fReferenceIdeal.nD Cert.S5fReferenceIdeal.τ).loc Cert.S5fReferenceIdeal.main_arg4)) (m ((c.tc : Thread Cert.S5fReferenceIdeal.nD Cert.S5fReferenceIdeal.τ).loc Cert.S5fReferenceIdeal.main_arg5)) (m ((c.tc : Thread Cert.S5fReferenceIdeal.nD Cert.S5fReferenceIdeal.τ).loc Cert.S5fReferenceIdeal.main_arg6)) (m ((c.tc : Thread Cert.S5fReferenceIdeal.nD Cert.S5fReferenceIdeal.τ).loc Cert.S5fReferenceIdeal.main_arg7)) (m ((c.tc : Thread Cert.S5fReferenceIdeal.nD Cert.S5fReferenceIdeal.τ).loc Cert.S5fReferenceIdeal.main_arg8))) = (fun _ => 1#1)

def Pre_NlfKernel (m : (ℓ : Loc Cert.NlfKernel.nD Cert.NlfKernel.τ Cert.NlfKernel.sig) → Buf (Elt Bits) ℓ) : Prop :=
  True

def Pre_NlfKernelIdeal (m : (ℓ : Loc Cert.NlfKernelIdeal.nD Cert.NlfKernelIdeal.τ Cert.NlfKernelIdeal.sig) → Buf (Elt Ideal) ℓ) : Prop :=
  True

def Pre_NlfReferenceIdeal (m : (ℓ : Loc Cert.NlfReferenceIdeal.nD Cert.NlfReferenceIdeal.τ Cert.NlfReferenceIdeal.sig) → Buf (Elt Ideal) ℓ) : Prop :=
  True

def Pre_LinfKernel (m : (ℓ : Loc Cert.LinfKernel.nD Cert.LinfKernel.τ Cert.LinfKernel.sig) → Buf (Elt Bits) ℓ) : Prop :=
  True

def Pre_LinfKernelIdeal (m : (ℓ : Loc Cert.LinfKernelIdeal.nD Cert.LinfKernelIdeal.τ Cert.LinfKernelIdeal.sig) → Buf (Elt Ideal) ℓ) : Prop :=
  True

def Pre_LinfReferenceIdeal (m : (ℓ : Loc Cert.LinfReferenceIdeal.nD Cert.LinfReferenceIdeal.τ Cert.LinfReferenceIdeal.sig) → Buf (Elt Ideal) ℓ) : Prop :=
  True

def Pre_LinKernel (m : (ℓ : Loc Cert.LinKernel.nD Cert.LinKernel.τ Cert.LinKernel.sig) → Buf (Elt Bits) ℓ) : Prop :=
  True

def Pre_LinKernelIdeal (m : (ℓ : Loc Cert.LinKernelIdeal.nD Cert.LinKernelIdeal.τ Cert.LinKernelIdeal.sig) → Buf (Elt Ideal) ℓ) : Prop :=
  True

def Pre_LinReferenceIdeal (m : (ℓ : Loc Cert.LinReferenceIdeal.nD Cert.LinReferenceIdeal.τ Cert.LinReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_OpsfKernel (m : (ℓ : Loc Cert.OpsfKernel.nD Cert.OpsfKernel.τ Cert.OpsfKernel.sig) → Buf (Elt Bits) ℓ) : Prop :=
  True

def Pre_OpsfKernelIdeal (m : (ℓ : Loc Cert.OpsfKernelIdeal.nD Cert.OpsfKernelIdeal.τ Cert.OpsfKernelIdeal.sig) → Buf (Elt Ideal) ℓ) : Prop :=
  True

def Pre_OpsfKernelIdeal_finite_opsf [hPre_finite_opsf : Cert.Pre_finite_opsf.Facts] (m : (ℓ : Loc Cert.OpsfKernelIdeal.nD Cert.OpsfKernelIdeal.τ Cert.OpsfKernelIdeal.sig) → Buf (Elt Ideal) ℓ) : Prop :=
  ∀ c : Dev Cert.OpsfKernelIdeal.nD,
    (Cert.Pre_finite_opsf.fn (F := Ideal) (m ((c.tc : Thread Cert.OpsfKernelIdeal.nD Cert.OpsfKernelIdeal.τ).loc Cert.OpsfKernelIdeal.main_arg0)) (m ((c.tc : Thread Cert.OpsfKernelIdeal.nD Cert.OpsfKernelIdeal.τ).loc Cert.OpsfKernelIdeal.main_arg1)) (m ((c.tc : Thread Cert.OpsfKernelIdeal.nD Cert.OpsfKernelIdeal.τ).loc Cert.OpsfKernelIdeal.main_arg2)) (m ((c.tc : Thread Cert.OpsfKernelIdeal.nD Cert.OpsfKernelIdeal.τ).loc Cert.OpsfKernelIdeal.main_arg3)) (m ((c.tc : Thread Cert.OpsfKernelIdeal.nD Cert.OpsfKernelIdeal.τ).loc Cert.OpsfKernelIdeal.main_arg4))) = (fun _ => 1#1)

def Pre_OpsfReferenceIdeal (m : (ℓ : Loc Cert.OpsfReferenceIdeal.nD Cert.OpsfReferenceIdeal.τ Cert.OpsfReferenceIdeal.sig) → Buf (Elt Ideal) ℓ) : Prop :=
  True

def Pre_OpsfReferenceIdeal_finite_opsf [hPre_finite_opsf : Cert.Pre_finite_opsf.Facts] (m : (ℓ : Loc Cert.OpsfReferenceIdeal.nD Cert.OpsfReferenceIdeal.τ Cert.OpsfReferenceIdeal.sig) → Buf (Elt Ideal) ℓ) : Prop :=
  ∀ c : Dev Cert.OpsfReferenceIdeal.nD,
    (Cert.Pre_finite_opsf.fn (F := Ideal) (m ((c.tc : Thread Cert.OpsfReferenceIdeal.nD Cert.OpsfReferenceIdeal.τ).loc Cert.OpsfReferenceIdeal.main_arg0)) (m ((c.tc : Thread Cert.OpsfReferenceIdeal.nD Cert.OpsfReferenceIdeal.τ).loc Cert.OpsfReferenceIdeal.main_arg1)) (m ((c.tc : Thread Cert.OpsfReferenceIdeal.nD Cert.OpsfReferenceIdeal.τ).loc Cert.OpsfReferenceIdeal.main_arg2)) (m ((c.tc : Thread Cert.OpsfReferenceIdeal.nD Cert.OpsfReferenceIdeal.τ).loc Cert.OpsfReferenceIdeal.main_arg3)) (m ((c.tc : Thread Cert.OpsfReferenceIdeal.nD Cert.OpsfReferenceIdeal.τ).loc Cert.OpsfReferenceIdeal.main_arg4))) = (fun _ => 1#1)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_OpsKernel [hOpsKernel : Cert.OpsKernel.Facts] : Prop :=
  ∀ (m : (ℓ : Loc Cert.OpsKernel.nD Cert.OpsKernel.τ Cert.OpsKernel.sig) → Buf (Elt Bits) ℓ) (g : Dev Cert.OpsKernel.nD → PrngReg), Pre_OpsKernel m →
    θ_run (Cert.OpsKernel.defs (F := Bits)) (onTc (τ := Cert.OpsKernel.τ) (Cert.OpsKernel.main (F := Bits))) ⟨m, fun _ => 0, g⟩ (fun r => (∀ c : Dev Cert.OpsKernel.nD,
      r.2.mem ((c.tc : Thread Cert.OpsKernel.nD Cert.OpsKernel.τ).loc Cert.OpsKernel.main_arg0) = m ((c.tc : Thread Cert.OpsKernel.nD Cert.OpsKernel.τ).loc Cert.OpsKernel.main_arg0)
      ∧ r.2.mem ((c.tc : Thread Cert.OpsKernel.nD Cert.OpsKernel.τ).loc Cert.OpsKernel.main_arg1) = m ((c.tc : Thread Cert.OpsKernel.nD Cert.OpsKernel.τ).loc Cert.OpsKernel.main_arg1)
      ∧ r.2.mem ((c.tc : Thread Cert.OpsKernel.nD Cert.OpsKernel.τ).loc Cert.OpsKernel.main_arg2) = m ((c.tc : Thread Cert.OpsKernel.nD Cert.OpsKernel.τ).loc Cert.OpsKernel.main_arg2)
      ∧ r.2.mem ((c.tc : Thread Cert.OpsKernel.nD Cert.OpsKernel.τ).loc Cert.OpsKernel.main_arg3) = m ((c.tc : Thread Cert.OpsKernel.nD Cert.OpsKernel.τ).loc Cert.OpsKernel.main_arg3)
      ∧ r.2.mem ((c.tc : Thread Cert.OpsKernel.nD Cert.OpsKernel.τ).loc Cert.OpsKernel.main_arg4) = m ((c.tc : Thread Cert.OpsKernel.nD Cert.OpsKernel.τ).loc Cert.OpsKernel.main_arg4)
      ∧ r.2.mem ((c.tc : Thread Cert.OpsKernel.nD Cert.OpsKernel.τ).loc Cert.OpsKernel.main_arg5) = m ((c.tc : Thread Cert.OpsKernel.nD Cert.OpsKernel.τ).loc Cert.OpsKernel.main_arg5)
      ∧ r.2.mem ((c.tc : Thread Cert.OpsKernel.nD Cert.OpsKernel.τ).loc Cert.OpsKernel.main_arg6) = m ((c.tc : Thread Cert.OpsKernel.nD Cert.OpsKernel.τ).loc Cert.OpsKernel.main_arg6)
      ∧ r.2.mem ((c.tc : Thread Cert.OpsKernel.nD Cert.OpsKernel.τ).loc Cert.OpsKernel.main_arg7) = m ((c.tc : Thread Cert.OpsKernel.nD Cert.OpsKernel.τ).loc Cert.OpsKernel.main_arg7)
      ∧ r.2.mem ((c.tc : Thread Cert.OpsKernel.nD Cert.OpsKernel.τ).loc Cert.OpsKernel.main_arg8) = m ((c.tc : Thread Cert.OpsKernel.nD Cert.OpsKernel.τ).loc Cert.OpsKernel.main_arg8)
      ∧ r.2.mem ((c.tc : Thread Cert.OpsKernel.nD Cert.OpsKernel.τ).loc Cert.OpsKernel.main_arg9) = m ((c.tc : Thread Cert.OpsKernel.nD Cert.OpsKernel.τ).loc Cert.OpsKernel.main_arg9)
      ∧ r.2.mem ((c.tc : Thread Cert.OpsKernel.nD Cert.OpsKernel.τ).loc Cert.OpsKernel.main_arg10) = m ((c.tc : Thread Cert.OpsKernel.nD Cert.OpsKernel.τ).loc Cert.OpsKernel.main_arg10))
      ∧ r.2.sem = fun _ => 0)

def quiescent_OpsKernelIdeal [hOpsKernelIdeal : Cert.OpsKernelIdeal.Facts] : Prop :=
  ∀ (m : (ℓ : Loc Cert.OpsKernelIdeal.nD Cert.OpsKernelIdeal.τ Cert.OpsKernelIdeal.sig) → Buf (Elt Ideal) ℓ) (g : Dev Cert.OpsKernelIdeal.nD → PrngReg), Pre_OpsKernelIdeal m →
    θ_run (Cert.OpsKernelIdeal.defs (F := Ideal)) (onTc (τ := Cert.OpsKernelIdeal.τ) (Cert.OpsKernelIdeal.main (F := Ideal))) ⟨m, fun _ => 0, g⟩ (fun r => (∀ c : Dev Cert.OpsKernelIdeal.nD,
      r.2.mem ((c.tc : Thread Cert.OpsKernelIdeal.nD Cert.OpsKernelIdeal.τ).loc Cert.OpsKernelIdeal.main_arg0) = m ((c.tc : Thread Cert.OpsKernelIdeal.nD Cert.OpsKernelIdeal.τ).loc Cert.OpsKernelIdeal.main_arg0)
      ∧ r.2.mem ((c.tc : Thread Cert.OpsKernelIdeal.nD Cert.OpsKernelIdeal.τ).loc Cert.OpsKernelIdeal.main_arg1) = m ((c.tc : Thread Cert.OpsKernelIdeal.nD Cert.OpsKernelIdeal.τ).loc Cert.OpsKernelIdeal.main_arg1)
      ∧ r.2.mem ((c.tc : Thread Cert.OpsKernelIdeal.nD Cert.OpsKernelIdeal.τ).loc Cert.OpsKernelIdeal.main_arg2) = m ((c.tc : Thread Cert.OpsKernelIdeal.nD Cert.OpsKernelIdeal.τ).loc Cert.OpsKernelIdeal.main_arg2)
      ∧ r.2.mem ((c.tc : Thread Cert.OpsKernelIdeal.nD Cert.OpsKernelIdeal.τ).loc Cert.OpsKernelIdeal.main_arg3) = m ((c.tc : Thread Cert.OpsKernelIdeal.nD Cert.OpsKernelIdeal.τ).loc Cert.OpsKernelIdeal.main_arg3)
      ∧ r.2.mem ((c.tc : Thread Cert.OpsKernelIdeal.nD Cert.OpsKernelIdeal.τ).loc Cert.OpsKernelIdeal.main_arg4) = m ((c.tc : Thread Cert.OpsKernelIdeal.nD Cert.OpsKernelIdeal.τ).loc Cert.OpsKernelIdeal.main_arg4)
      ∧ r.2.mem ((c.tc : Thread Cert.OpsKernelIdeal.nD Cert.OpsKernelIdeal.τ).loc Cert.OpsKernelIdeal.main_arg5) = m ((c.tc : Thread Cert.OpsKernelIdeal.nD Cert.OpsKernelIdeal.τ).loc Cert.OpsKernelIdeal.main_arg5)
      ∧ r.2.mem ((c.tc : Thread Cert.OpsKernelIdeal.nD Cert.OpsKernelIdeal.τ).loc Cert.OpsKernelIdeal.main_arg6) = m ((c.tc : Thread Cert.OpsKernelIdeal.nD Cert.OpsKernelIdeal.τ).loc Cert.OpsKernelIdeal.main_arg6)
      ∧ r.2.mem ((c.tc : Thread Cert.OpsKernelIdeal.nD Cert.OpsKernelIdeal.τ).loc Cert.OpsKernelIdeal.main_arg7) = m ((c.tc : Thread Cert.OpsKernelIdeal.nD Cert.OpsKernelIdeal.τ).loc Cert.OpsKernelIdeal.main_arg7)
      ∧ r.2.mem ((c.tc : Thread Cert.OpsKernelIdeal.nD Cert.OpsKernelIdeal.τ).loc Cert.OpsKernelIdeal.main_arg8) = m ((c.tc : Thread Cert.OpsKernelIdeal.nD Cert.OpsKernelIdeal.τ).loc Cert.OpsKernelIdeal.main_arg8)
      ∧ r.2.mem ((c.tc : Thread Cert.OpsKernelIdeal.nD Cert.OpsKernelIdeal.τ).loc Cert.OpsKernelIdeal.main_arg9) = m ((c.tc : Thread Cert.OpsKernelIdeal.nD Cert.OpsKernelIdeal.τ).loc Cert.OpsKernelIdeal.main_arg9)
      ∧ r.2.mem ((c.tc : Thread Cert.OpsKernelIdeal.nD Cert.OpsKernelIdeal.τ).loc Cert.OpsKernelIdeal.main_arg10) = m ((c.tc : Thread Cert.OpsKernelIdeal.nD Cert.OpsKernelIdeal.τ).loc Cert.OpsKernelIdeal.main_arg10))
      ∧ r.2.sem = fun _ => 0)

def quiescent_OpsKernelIdeal_pre_finite_ops [hOpsKernelIdeal : Cert.OpsKernelIdeal.Facts] [hPre_finite_ops : Cert.Pre_finite_ops.Facts] : Prop :=
  ∀ (m : (ℓ : Loc Cert.OpsKernelIdeal.nD Cert.OpsKernelIdeal.τ Cert.OpsKernelIdeal.sig) → Buf (Elt Ideal) ℓ) (g : Dev Cert.OpsKernelIdeal.nD → PrngReg), Pre_OpsKernelIdeal_finite_ops m →
    θ_run (Cert.OpsKernelIdeal.defs (F := Ideal)) (onTc (τ := Cert.OpsKernelIdeal.τ) (Cert.OpsKernelIdeal.main (F := Ideal))) ⟨m, fun _ => 0, g⟩ (fun r => (∀ c : Dev Cert.OpsKernelIdeal.nD,
      r.2.mem ((c.tc : Thread Cert.OpsKernelIdeal.nD Cert.OpsKernelIdeal.τ).loc Cert.OpsKernelIdeal.main_arg0) = m ((c.tc : Thread Cert.OpsKernelIdeal.nD Cert.OpsKernelIdeal.τ).loc Cert.OpsKernelIdeal.main_arg0)
      ∧ r.2.mem ((c.tc : Thread Cert.OpsKernelIdeal.nD Cert.OpsKernelIdeal.τ).loc Cert.OpsKernelIdeal.main_arg1) = m ((c.tc : Thread Cert.OpsKernelIdeal.nD Cert.OpsKernelIdeal.τ).loc Cert.OpsKernelIdeal.main_arg1)
      ∧ r.2.mem ((c.tc : Thread Cert.OpsKernelIdeal.nD Cert.OpsKernelIdeal.τ).loc Cert.OpsKernelIdeal.main_arg2) = m ((c.tc : Thread Cert.OpsKernelIdeal.nD Cert.OpsKernelIdeal.τ).loc Cert.OpsKernelIdeal.main_arg2)
      ∧ r.2.mem ((c.tc : Thread Cert.OpsKernelIdeal.nD Cert.OpsKernelIdeal.τ).loc Cert.OpsKernelIdeal.main_arg3) = m ((c.tc : Thread Cert.OpsKernelIdeal.nD Cert.OpsKernelIdeal.τ).loc Cert.OpsKernelIdeal.main_arg3)
      ∧ r.2.mem ((c.tc : Thread Cert.OpsKernelIdeal.nD Cert.OpsKernelIdeal.τ).loc Cert.OpsKernelIdeal.main_arg4) = m ((c.tc : Thread Cert.OpsKernelIdeal.nD Cert.OpsKernelIdeal.τ).loc Cert.OpsKernelIdeal.main_arg4)
      ∧ r.2.mem ((c.tc : Thread Cert.OpsKernelIdeal.nD Cert.OpsKernelIdeal.τ).loc Cert.OpsKernelIdeal.main_arg5) = m ((c.tc : Thread Cert.OpsKernelIdeal.nD Cert.OpsKernelIdeal.τ).loc Cert.OpsKernelIdeal.main_arg5)
      ∧ r.2.mem ((c.tc : Thread Cert.OpsKernelIdeal.nD Cert.OpsKernelIdeal.τ).loc Cert.OpsKernelIdeal.main_arg6) = m ((c.tc : Thread Cert.OpsKernelIdeal.nD Cert.OpsKernelIdeal.τ).loc Cert.OpsKernelIdeal.main_arg6)
      ∧ r.2.mem ((c.tc : Thread Cert.OpsKernelIdeal.nD Cert.OpsKernelIdeal.τ).loc Cert.OpsKernelIdeal.main_arg7) = m ((c.tc : Thread Cert.OpsKernelIdeal.nD Cert.OpsKernelIdeal.τ).loc Cert.OpsKernelIdeal.main_arg7)
      ∧ r.2.mem ((c.tc : Thread Cert.OpsKernelIdeal.nD Cert.OpsKernelIdeal.τ).loc Cert.OpsKernelIdeal.main_arg8) = m ((c.tc : Thread Cert.OpsKernelIdeal.nD Cert.OpsKernelIdeal.τ).loc Cert.OpsKernelIdeal.main_arg8)
      ∧ r.2.mem ((c.tc : Thread Cert.OpsKernelIdeal.nD Cert.OpsKernelIdeal.τ).loc Cert.OpsKernelIdeal.main_arg9) = m ((c.tc : Thread Cert.OpsKernelIdeal.nD Cert.OpsKernelIdeal.τ).loc Cert.OpsKernelIdeal.main_arg9)
      ∧ r.2.mem ((c.tc : Thread Cert.OpsKernelIdeal.nD Cert.OpsKernelIdeal.τ).loc Cert.OpsKernelIdeal.main_arg10) = m ((c.tc : Thread Cert.OpsKernelIdeal.nD Cert.OpsKernelIdeal.τ).loc Cert.OpsKernelIdeal.main_arg10))
      ∧ r.2.sem = fun _ => 0)

def quiescent_OpsReferenceIdeal [hOpsReferenceIdeal : Cert.OpsReferenceIdeal.Facts] : Prop :=
  ∀ (m : (ℓ : Loc Cert.OpsReferenceIdeal.nD Cert.OpsReferenceIdeal.τ Cert.OpsReferenceIdeal.sig) → Buf (Elt Ideal) ℓ) (g : Dev Cert.OpsReferenceIdeal.nD → PrngReg), Pre_OpsReferenceIdeal m →
    θ_run (Cert.OpsReferenceIdeal.defs (F := Ideal)) (onTc (τ := Cert.OpsReferenceIdeal.τ) (Cert.OpsReferenceIdeal.main (F := Ideal))) ⟨m, fun _ => 0, g⟩ (fun r => (∀ c : Dev Cert.OpsReferenceIdeal.nD,
      r.2.mem ((c.tc : Thread Cert.OpsReferenceIdeal.nD Cert.OpsReferenceIdeal.τ).loc Cert.OpsReferenceIdeal.main_arg0) = m ((c.tc : Thread Cert.OpsReferenceIdeal.nD Cert.OpsReferenceIdeal.τ).loc Cert.OpsReferenceIdeal.main_arg0)
      ∧ r.2.mem ((c.tc : Thread Cert.OpsReferenceIdeal.nD Cert.OpsReferenceIdeal.τ).loc Cert.OpsReferenceIdeal.main_arg1) = m ((c.tc : Thread Cert.OpsReferenceIdeal.nD Cert.OpsReferenceIdeal.τ).loc Cert.OpsReferenceIdeal.main_arg1)
      ∧ r.2.mem ((c.tc : Thread Cert.OpsReferenceIdeal.nD Cert.OpsReferenceIdeal.τ).loc Cert.OpsReferenceIdeal.main_arg2) = m ((c.tc : Thread Cert.OpsReferenceIdeal.nD Cert.OpsReferenceIdeal.τ).loc Cert.OpsReferenceIdeal.main_arg2)
      ∧ r.2.mem ((c.tc : Thread Cert.OpsReferenceIdeal.nD Cert.OpsReferenceIdeal.τ).loc Cert.OpsReferenceIdeal.main_arg3) = m ((c.tc : Thread Cert.OpsReferenceIdeal.nD Cert.OpsReferenceIdeal.τ).loc Cert.OpsReferenceIdeal.main_arg3)
      ∧ r.2.mem ((c.tc : Thread Cert.OpsReferenceIdeal.nD Cert.OpsReferenceIdeal.τ).loc Cert.OpsReferenceIdeal.main_arg4) = m ((c.tc : Thread Cert.OpsReferenceIdeal.nD Cert.OpsReferenceIdeal.τ).loc Cert.OpsReferenceIdeal.main_arg4)
      ∧ r.2.mem ((c.tc : Thread Cert.OpsReferenceIdeal.nD Cert.OpsReferenceIdeal.τ).loc Cert.OpsReferenceIdeal.main_arg5) = m ((c.tc : Thread Cert.OpsReferenceIdeal.nD Cert.OpsReferenceIdeal.τ).loc Cert.OpsReferenceIdeal.main_arg5)
      ∧ r.2.mem ((c.tc : Thread Cert.OpsReferenceIdeal.nD Cert.OpsReferenceIdeal.τ).loc Cert.OpsReferenceIdeal.main_arg6) = m ((c.tc : Thread Cert.OpsReferenceIdeal.nD Cert.OpsReferenceIdeal.τ).loc Cert.OpsReferenceIdeal.main_arg6)
      ∧ r.2.mem ((c.tc : Thread Cert.OpsReferenceIdeal.nD Cert.OpsReferenceIdeal.τ).loc Cert.OpsReferenceIdeal.main_arg7) = m ((c.tc : Thread Cert.OpsReferenceIdeal.nD Cert.OpsReferenceIdeal.τ).loc Cert.OpsReferenceIdeal.main_arg7)
      ∧ r.2.mem ((c.tc : Thread Cert.OpsReferenceIdeal.nD Cert.OpsReferenceIdeal.τ).loc Cert.OpsReferenceIdeal.main_arg8) = m ((c.tc : Thread Cert.OpsReferenceIdeal.nD Cert.OpsReferenceIdeal.τ).loc Cert.OpsReferenceIdeal.main_arg8)
      ∧ r.2.mem ((c.tc : Thread Cert.OpsReferenceIdeal.nD Cert.OpsReferenceIdeal.τ).loc Cert.OpsReferenceIdeal.main_arg9) = m ((c.tc : Thread Cert.OpsReferenceIdeal.nD Cert.OpsReferenceIdeal.τ).loc Cert.OpsReferenceIdeal.main_arg9)
      ∧ r.2.mem ((c.tc : Thread Cert.OpsReferenceIdeal.nD Cert.OpsReferenceIdeal.τ).loc Cert.OpsReferenceIdeal.main_arg10) = m ((c.tc : Thread Cert.OpsReferenceIdeal.nD Cert.OpsReferenceIdeal.τ).loc Cert.OpsReferenceIdeal.main_arg10))
      ∧ r.2.sem = fun _ => 0)

def quiescent_OpsReferenceIdeal_pre_finite_ops [hOpsReferenceIdeal : Cert.OpsReferenceIdeal.Facts] [hPre_finite_ops : Cert.Pre_finite_ops.Facts] : Prop :=
  ∀ (m : (ℓ : Loc Cert.OpsReferenceIdeal.nD Cert.OpsReferenceIdeal.τ Cert.OpsReferenceIdeal.sig) → Buf (Elt Ideal) ℓ) (g : Dev Cert.OpsReferenceIdeal.nD → PrngReg), Pre_OpsReferenceIdeal_finite_ops m →
    θ_run (Cert.OpsReferenceIdeal.defs (F := Ideal)) (onTc (τ := Cert.OpsReferenceIdeal.τ) (Cert.OpsReferenceIdeal.main (F := Ideal))) ⟨m, fun _ => 0, g⟩ (fun r => (∀ c : Dev Cert.OpsReferenceIdeal.nD,
      r.2.mem ((c.tc : Thread Cert.OpsReferenceIdeal.nD Cert.OpsReferenceIdeal.τ).loc Cert.OpsReferenceIdeal.main_arg0) = m ((c.tc : Thread Cert.OpsReferenceIdeal.nD Cert.OpsReferenceIdeal.τ).loc Cert.OpsReferenceIdeal.main_arg0)
      ∧ r.2.mem ((c.tc : Thread Cert.OpsReferenceIdeal.nD Cert.OpsReferenceIdeal.τ).loc Cert.OpsReferenceIdeal.main_arg1) = m ((c.tc : Thread Cert.OpsReferenceIdeal.nD Cert.OpsReferenceIdeal.τ).loc Cert.OpsReferenceIdeal.main_arg1)
      ∧ r.2.mem ((c.tc : Thread Cert.OpsReferenceIdeal.nD Cert.OpsReferenceIdeal.τ).loc Cert.OpsReferenceIdeal.main_arg2) = m ((c.tc : Thread Cert.OpsReferenceIdeal.nD Cert.OpsReferenceIdeal.τ).loc Cert.OpsReferenceIdeal.main_arg2)
      ∧ r.2.mem ((c.tc : Thread Cert.OpsReferenceIdeal.nD Cert.OpsReferenceIdeal.τ).loc Cert.OpsReferenceIdeal.main_arg3) = m ((c.tc : Thread Cert.OpsReferenceIdeal.nD Cert.OpsReferenceIdeal.τ).loc Cert.OpsReferenceIdeal.main_arg3)
      ∧ r.2.mem ((c.tc : Thread Cert.OpsReferenceIdeal.nD Cert.OpsReferenceIdeal.τ).loc Cert.OpsReferenceIdeal.main_arg4) = m ((c.tc : Thread Cert.OpsReferenceIdeal.nD Cert.OpsReferenceIdeal.τ).loc Cert.OpsReferenceIdeal.main_arg4)
      ∧ r.2.mem ((c.tc : Thread Cert.OpsReferenceIdeal.nD Cert.OpsReferenceIdeal.τ).loc Cert.OpsReferenceIdeal.main_arg5) = m ((c.tc : Thread Cert.OpsReferenceIdeal.nD Cert.OpsReferenceIdeal.τ).loc Cert.OpsReferenceIdeal.main_arg5)
      ∧ r.2.mem ((c.tc : Thread Cert.OpsReferenceIdeal.nD Cert.OpsReferenceIdeal.τ).loc Cert.OpsReferenceIdeal.main_arg6) = m ((c.tc : Thread Cert.OpsReferenceIdeal.nD Cert.OpsReferenceIdeal.τ).loc Cert.OpsReferenceIdeal.main_arg6)
      ∧ r.2.mem ((c.tc : Thread Cert.OpsReferenceIdeal.nD Cert.OpsReferenceIdeal.τ).loc Cert.OpsReferenceIdeal.main_arg7) = m ((c.tc : Thread Cert.OpsReferenceIdeal.nD Cert.OpsReferenceIdeal.τ).loc Cert.OpsReferenceIdeal.main_arg7)
      ∧ r.2.mem ((c.tc : Thread Cert.OpsReferenceIdeal.nD Cert.OpsReferenceIdeal.τ).loc Cert.OpsReferenceIdeal.main_arg8) = m ((c.tc : Thread Cert.OpsReferenceIdeal.nD Cert.OpsReferenceIdeal.τ).loc Cert.OpsReferenceIdeal.main_arg8)
      ∧ r.2.mem ((c.tc : Thread Cert.OpsReferenceIdeal.nD Cert.OpsReferenceIdeal.τ).loc Cert.OpsReferenceIdeal.main_arg9) = m ((c.tc : Thread Cert.OpsReferenceIdeal.nD Cert.OpsReferenceIdeal.τ).loc Cert.OpsReferenceIdeal.main_arg9)
      ∧ r.2.mem ((c.tc : Thread Cert.OpsReferenceIdeal.nD Cert.OpsReferenceIdeal.τ).loc Cert.OpsReferenceIdeal.main_arg10) = m ((c.tc : Thread Cert.OpsReferenceIdeal.nD Cert.OpsReferenceIdeal.τ).loc Cert.OpsReferenceIdeal.main_arg10))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ r.2.sem = fun _ => 0)

def quiescent_MergeKernelIdeal_pre_finite_merge [hMergeKernelIdeal : Cert.MergeKernelIdeal.Facts] [hPre_finite_merge : Cert.Pre_finite_merge.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_finite_merge m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_MergeReferenceIdeal_pre_finite_merge [hMergeReferenceIdeal : Cert.MergeReferenceIdeal.Facts] [hPre_finite_merge : Cert.Pre_finite_merge.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_merge m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_S5Kernel [hS5Kernel : Cert.S5Kernel.Facts] : Prop :=
  ∀ (m : (ℓ : Loc Cert.S5Kernel.nD Cert.S5Kernel.τ Cert.S5Kernel.sig) → Buf (Elt Bits) ℓ) (g : Dev Cert.S5Kernel.nD → PrngReg), Pre_S5Kernel m →
    θ_run (Cert.S5Kernel.defs (F := Bits)) (onTc (τ := Cert.S5Kernel.τ) (Cert.S5Kernel.main (F := Bits))) ⟨m, fun _ => 0, g⟩ (fun r => (∀ c : Dev Cert.S5Kernel.nD,
      r.2.mem ((c.tc : Thread Cert.S5Kernel.nD Cert.S5Kernel.τ).loc Cert.S5Kernel.main_arg0) = m ((c.tc : Thread Cert.S5Kernel.nD Cert.S5Kernel.τ).loc Cert.S5Kernel.main_arg0)
      ∧ r.2.mem ((c.tc : Thread Cert.S5Kernel.nD Cert.S5Kernel.τ).loc Cert.S5Kernel.main_arg1) = m ((c.tc : Thread Cert.S5Kernel.nD Cert.S5Kernel.τ).loc Cert.S5Kernel.main_arg1)
      ∧ r.2.mem ((c.tc : Thread Cert.S5Kernel.nD Cert.S5Kernel.τ).loc Cert.S5Kernel.main_arg2) = m ((c.tc : Thread Cert.S5Kernel.nD Cert.S5Kernel.τ).loc Cert.S5Kernel.main_arg2)
      ∧ r.2.mem ((c.tc : Thread Cert.S5Kernel.nD Cert.S5Kernel.τ).loc Cert.S5Kernel.main_arg3) = m ((c.tc : Thread Cert.S5Kernel.nD Cert.S5Kernel.τ).loc Cert.S5Kernel.main_arg3)
      ∧ r.2.mem ((c.tc : Thread Cert.S5Kernel.nD Cert.S5Kernel.τ).loc Cert.S5Kernel.main_arg4) = m ((c.tc : Thread Cert.S5Kernel.nD Cert.S5Kernel.τ).loc Cert.S5Kernel.main_arg4)
      ∧ r.2.mem ((c.tc : Thread Cert.S5Kernel.nD Cert.S5Kernel.τ).loc Cert.S5Kernel.main_arg5) = m ((c.tc : Thread Cert.S5Kernel.nD Cert.S5Kernel.τ).loc Cert.S5Kernel.main_arg5)
      ∧ r.2.mem ((c.tc : Thread Cert.S5Kernel.nD Cert.S5Kernel.τ).loc Cert.S5Kernel.main_arg6) = m ((c.tc : Thread Cert.S5Kernel.nD Cert.S5Kernel.τ).loc Cert.S5Kernel.main_arg6)
      ∧ r.2.mem ((c.tc : Thread Cert.S5Kernel.nD Cert.S5Kernel.τ).loc Cert.S5Kernel.main_arg7) = m ((c.tc : Thread Cert.S5Kernel.nD Cert.S5Kernel.τ).loc Cert.S5Kernel.main_arg7)
      ∧ r.2.mem ((c.tc : Thread Cert.S5Kernel.nD Cert.S5Kernel.τ).loc Cert.S5Kernel.main_arg8) = m ((c.tc : Thread Cert.S5Kernel.nD Cert.S5Kernel.τ).loc Cert.S5Kernel.main_arg8)
      ∧ r.2.mem ((c.tc : Thread Cert.S5Kernel.nD Cert.S5Kernel.τ).loc Cert.S5Kernel.main_arg9) = m ((c.tc : Thread Cert.S5Kernel.nD Cert.S5Kernel.τ).loc Cert.S5Kernel.main_arg9))
      ∧ r.2.sem = fun _ => 0)

def quiescent_S5KernelIdeal [hS5KernelIdeal : Cert.S5KernelIdeal.Facts] : Prop :=
  ∀ (m : (ℓ : Loc Cert.S5KernelIdeal.nD Cert.S5KernelIdeal.τ Cert.S5KernelIdeal.sig) → Buf (Elt Ideal) ℓ) (g : Dev Cert.S5KernelIdeal.nD → PrngReg), Pre_S5KernelIdeal m →
    θ_run (Cert.S5KernelIdeal.defs (F := Ideal)) (onTc (τ := Cert.S5KernelIdeal.τ) (Cert.S5KernelIdeal.main (F := Ideal))) ⟨m, fun _ => 0, g⟩ (fun r => (∀ c : Dev Cert.S5KernelIdeal.nD,
      r.2.mem ((c.tc : Thread Cert.S5KernelIdeal.nD Cert.S5KernelIdeal.τ).loc Cert.S5KernelIdeal.main_arg0) = m ((c.tc : Thread Cert.S5KernelIdeal.nD Cert.S5KernelIdeal.τ).loc Cert.S5KernelIdeal.main_arg0)
      ∧ r.2.mem ((c.tc : Thread Cert.S5KernelIdeal.nD Cert.S5KernelIdeal.τ).loc Cert.S5KernelIdeal.main_arg1) = m ((c.tc : Thread Cert.S5KernelIdeal.nD Cert.S5KernelIdeal.τ).loc Cert.S5KernelIdeal.main_arg1)
      ∧ r.2.mem ((c.tc : Thread Cert.S5KernelIdeal.nD Cert.S5KernelIdeal.τ).loc Cert.S5KernelIdeal.main_arg2) = m ((c.tc : Thread Cert.S5KernelIdeal.nD Cert.S5KernelIdeal.τ).loc Cert.S5KernelIdeal.main_arg2)
      ∧ r.2.mem ((c.tc : Thread Cert.S5KernelIdeal.nD Cert.S5KernelIdeal.τ).loc Cert.S5KernelIdeal.main_arg3) = m ((c.tc : Thread Cert.S5KernelIdeal.nD Cert.S5KernelIdeal.τ).loc Cert.S5KernelIdeal.main_arg3)
      ∧ r.2.mem ((c.tc : Thread Cert.S5KernelIdeal.nD Cert.S5KernelIdeal.τ).loc Cert.S5KernelIdeal.main_arg4) = m ((c.tc : Thread Cert.S5KernelIdeal.nD Cert.S5KernelIdeal.τ).loc Cert.S5KernelIdeal.main_arg4)
      ∧ r.2.mem ((c.tc : Thread Cert.S5KernelIdeal.nD Cert.S5KernelIdeal.τ).loc Cert.S5KernelIdeal.main_arg5) = m ((c.tc : Thread Cert.S5KernelIdeal.nD Cert.S5KernelIdeal.τ).loc Cert.S5KernelIdeal.main_arg5)
      ∧ r.2.mem ((c.tc : Thread Cert.S5KernelIdeal.nD Cert.S5KernelIdeal.τ).loc Cert.S5KernelIdeal.main_arg6) = m ((c.tc : Thread Cert.S5KernelIdeal.nD Cert.S5KernelIdeal.τ).loc Cert.S5KernelIdeal.main_arg6)
      ∧ r.2.mem ((c.tc : Thread Cert.S5KernelIdeal.nD Cert.S5KernelIdeal.τ).loc Cert.S5KernelIdeal.main_arg7) = m ((c.tc : Thread Cert.S5KernelIdeal.nD Cert.S5KernelIdeal.τ).loc Cert.S5KernelIdeal.main_arg7)
      ∧ r.2.mem ((c.tc : Thread Cert.S5KernelIdeal.nD Cert.S5KernelIdeal.τ).loc Cert.S5KernelIdeal.main_arg8) = m ((c.tc : Thread Cert.S5KernelIdeal.nD Cert.S5KernelIdeal.τ).loc Cert.S5KernelIdeal.main_arg8)
      ∧ r.2.mem ((c.tc : Thread Cert.S5KernelIdeal.nD Cert.S5KernelIdeal.τ).loc Cert.S5KernelIdeal.main_arg9) = m ((c.tc : Thread Cert.S5KernelIdeal.nD Cert.S5KernelIdeal.τ).loc Cert.S5KernelIdeal.main_arg9))
      ∧ r.2.sem = fun _ => 0)

def quiescent_S5KernelIdeal_pre_finite_s5 [hS5KernelIdeal : Cert.S5KernelIdeal.Facts] [hPre_finite_s5 : Cert.Pre_finite_s5.Facts] : Prop :=
  ∀ (m : (ℓ : Loc Cert.S5KernelIdeal.nD Cert.S5KernelIdeal.τ Cert.S5KernelIdeal.sig) → Buf (Elt Ideal) ℓ) (g : Dev Cert.S5KernelIdeal.nD → PrngReg), Pre_S5KernelIdeal_finite_s5 m →
    θ_run (Cert.S5KernelIdeal.defs (F := Ideal)) (onTc (τ := Cert.S5KernelIdeal.τ) (Cert.S5KernelIdeal.main (F := Ideal))) ⟨m, fun _ => 0, g⟩ (fun r => (∀ c : Dev Cert.S5KernelIdeal.nD,
      r.2.mem ((c.tc : Thread Cert.S5KernelIdeal.nD Cert.S5KernelIdeal.τ).loc Cert.S5KernelIdeal.main_arg0) = m ((c.tc : Thread Cert.S5KernelIdeal.nD Cert.S5KernelIdeal.τ).loc Cert.S5KernelIdeal.main_arg0)
      ∧ r.2.mem ((c.tc : Thread Cert.S5KernelIdeal.nD Cert.S5KernelIdeal.τ).loc Cert.S5KernelIdeal.main_arg1) = m ((c.tc : Thread Cert.S5KernelIdeal.nD Cert.S5KernelIdeal.τ).loc Cert.S5KernelIdeal.main_arg1)
      ∧ r.2.mem ((c.tc : Thread Cert.S5KernelIdeal.nD Cert.S5KernelIdeal.τ).loc Cert.S5KernelIdeal.main_arg2) = m ((c.tc : Thread Cert.S5KernelIdeal.nD Cert.S5KernelIdeal.τ).loc Cert.S5KernelIdeal.main_arg2)
      ∧ r.2.mem ((c.tc : Thread Cert.S5KernelIdeal.nD Cert.S5KernelIdeal.τ).loc Cert.S5KernelIdeal.main_arg3) = m ((c.tc : Thread Cert.S5KernelIdeal.nD Cert.S5KernelIdeal.τ).loc Cert.S5KernelIdeal.main_arg3)
      ∧ r.2.mem ((c.tc : Thread Cert.S5KernelIdeal.nD Cert.S5KernelIdeal.τ).loc Cert.S5KernelIdeal.main_arg4) = m ((c.tc : Thread Cert.S5KernelIdeal.nD Cert.S5KernelIdeal.τ).loc Cert.S5KernelIdeal.main_arg4)
      ∧ r.2.mem ((c.tc : Thread Cert.S5KernelIdeal.nD Cert.S5KernelIdeal.τ).loc Cert.S5KernelIdeal.main_arg5) = m ((c.tc : Thread Cert.S5KernelIdeal.nD Cert.S5KernelIdeal.τ).loc Cert.S5KernelIdeal.main_arg5)
      ∧ r.2.mem ((c.tc : Thread Cert.S5KernelIdeal.nD Cert.S5KernelIdeal.τ).loc Cert.S5KernelIdeal.main_arg6) = m ((c.tc : Thread Cert.S5KernelIdeal.nD Cert.S5KernelIdeal.τ).loc Cert.S5KernelIdeal.main_arg6)
      ∧ r.2.mem ((c.tc : Thread Cert.S5KernelIdeal.nD Cert.S5KernelIdeal.τ).loc Cert.S5KernelIdeal.main_arg7) = m ((c.tc : Thread Cert.S5KernelIdeal.nD Cert.S5KernelIdeal.τ).loc Cert.S5KernelIdeal.main_arg7)
      ∧ r.2.mem ((c.tc : Thread Cert.S5KernelIdeal.nD Cert.S5KernelIdeal.τ).loc Cert.S5KernelIdeal.main_arg8) = m ((c.tc : Thread Cert.S5KernelIdeal.nD Cert.S5KernelIdeal.τ).loc Cert.S5KernelIdeal.main_arg8)
      ∧ r.2.mem ((c.tc : Thread Cert.S5KernelIdeal.nD Cert.S5KernelIdeal.τ).loc Cert.S5KernelIdeal.main_arg9) = m ((c.tc : Thread Cert.S5KernelIdeal.nD Cert.S5KernelIdeal.τ).loc Cert.S5KernelIdeal.main_arg9))
      ∧ r.2.sem = fun _ => 0)

def quiescent_S5ReferenceIdeal [hS5ReferenceIdeal : Cert.S5ReferenceIdeal.Facts] : Prop :=
  ∀ (m : (ℓ : Loc Cert.S5ReferenceIdeal.nD Cert.S5ReferenceIdeal.τ Cert.S5ReferenceIdeal.sig) → Buf (Elt Ideal) ℓ) (g : Dev Cert.S5ReferenceIdeal.nD → PrngReg), Pre_S5ReferenceIdeal m →
    θ_run (Cert.S5ReferenceIdeal.defs (F := Ideal)) (onTc (τ := Cert.S5ReferenceIdeal.τ) (Cert.S5ReferenceIdeal.main (F := Ideal))) ⟨m, fun _ => 0, g⟩ (fun r => (∀ c : Dev Cert.S5ReferenceIdeal.nD,
      r.2.mem ((c.tc : Thread Cert.S5ReferenceIdeal.nD Cert.S5ReferenceIdeal.τ).loc Cert.S5ReferenceIdeal.main_arg0) = m ((c.tc : Thread Cert.S5ReferenceIdeal.nD Cert.S5ReferenceIdeal.τ).loc Cert.S5ReferenceIdeal.main_arg0)
      ∧ r.2.mem ((c.tc : Thread Cert.S5ReferenceIdeal.nD Cert.S5ReferenceIdeal.τ).loc Cert.S5ReferenceIdeal.main_arg1) = m ((c.tc : Thread Cert.S5ReferenceIdeal.nD Cert.S5ReferenceIdeal.τ).loc Cert.S5ReferenceIdeal.main_arg1)
      ∧ r.2.mem ((c.tc : Thread Cert.S5ReferenceIdeal.nD Cert.S5ReferenceIdeal.τ).loc Cert.S5ReferenceIdeal.main_arg2) = m ((c.tc : Thread Cert.S5ReferenceIdeal.nD Cert.S5ReferenceIdeal.τ).loc Cert.S5ReferenceIdeal.main_arg2)
      ∧ r.2.mem ((c.tc : Thread Cert.S5ReferenceIdeal.nD Cert.S5ReferenceIdeal.τ).loc Cert.S5ReferenceIdeal.main_arg3) = m ((c.tc : Thread Cert.S5ReferenceIdeal.nD Cert.S5ReferenceIdeal.τ).loc Cert.S5ReferenceIdeal.main_arg3)
      ∧ r.2.mem ((c.tc : Thread Cert.S5ReferenceIdeal.nD Cert.S5ReferenceIdeal.τ).loc Cert.S5ReferenceIdeal.main_arg4) = m ((c.tc : Thread Cert.S5ReferenceIdeal.nD Cert.S5ReferenceIdeal.τ).loc Cert.S5ReferenceIdeal.main_arg4)
      ∧ r.2.mem ((c.tc : Thread Cert.S5ReferenceIdeal.nD Cert.S5ReferenceIdeal.τ).loc Cert.S5ReferenceIdeal.main_arg5) = m ((c.tc : Thread Cert.S5ReferenceIdeal.nD Cert.S5ReferenceIdeal.τ).loc Cert.S5ReferenceIdeal.main_arg5)
      ∧ r.2.mem ((c.tc : Thread Cert.S5ReferenceIdeal.nD Cert.S5ReferenceIdeal.τ).loc Cert.S5ReferenceIdeal.main_arg6) = m ((c.tc : Thread Cert.S5ReferenceIdeal.nD Cert.S5ReferenceIdeal.τ).loc Cert.S5ReferenceIdeal.main_arg6)
      ∧ r.2.mem ((c.tc : Thread Cert.S5ReferenceIdeal.nD Cert.S5ReferenceIdeal.τ).loc Cert.S5ReferenceIdeal.main_arg7) = m ((c.tc : Thread Cert.S5ReferenceIdeal.nD Cert.S5ReferenceIdeal.τ).loc Cert.S5ReferenceIdeal.main_arg7)
      ∧ r.2.mem ((c.tc : Thread Cert.S5ReferenceIdeal.nD Cert.S5ReferenceIdeal.τ).loc Cert.S5ReferenceIdeal.main_arg8) = m ((c.tc : Thread Cert.S5ReferenceIdeal.nD Cert.S5ReferenceIdeal.τ).loc Cert.S5ReferenceIdeal.main_arg8)
      ∧ r.2.mem ((c.tc : Thread Cert.S5ReferenceIdeal.nD Cert.S5ReferenceIdeal.τ).loc Cert.S5ReferenceIdeal.main_arg9) = m ((c.tc : Thread Cert.S5ReferenceIdeal.nD Cert.S5ReferenceIdeal.τ).loc Cert.S5ReferenceIdeal.main_arg9))
      ∧ r.2.sem = fun _ => 0)

def quiescent_S5ReferenceIdeal_pre_finite_s5 [hS5ReferenceIdeal : Cert.S5ReferenceIdeal.Facts] [hPre_finite_s5 : Cert.Pre_finite_s5.Facts] : Prop :=
  ∀ (m : (ℓ : Loc Cert.S5ReferenceIdeal.nD Cert.S5ReferenceIdeal.τ Cert.S5ReferenceIdeal.sig) → Buf (Elt Ideal) ℓ) (g : Dev Cert.S5ReferenceIdeal.nD → PrngReg), Pre_S5ReferenceIdeal_finite_s5 m →
    θ_run (Cert.S5ReferenceIdeal.defs (F := Ideal)) (onTc (τ := Cert.S5ReferenceIdeal.τ) (Cert.S5ReferenceIdeal.main (F := Ideal))) ⟨m, fun _ => 0, g⟩ (fun r => (∀ c : Dev Cert.S5ReferenceIdeal.nD,
      r.2.mem ((c.tc : Thread Cert.S5ReferenceIdeal.nD Cert.S5ReferenceIdeal.τ).loc Cert.S5ReferenceIdeal.main_arg0) = m ((c.tc : Thread Cert.S5ReferenceIdeal.nD Cert.S5ReferenceIdeal.τ).loc Cert.S5ReferenceIdeal.main_arg0)
      ∧ r.2.mem ((c.tc : Thread Cert.S5ReferenceIdeal.nD Cert.S5ReferenceIdeal.τ).loc Cert.S5ReferenceIdeal.main_arg1) = m ((c.tc : Thread Cert.S5ReferenceIdeal.nD Cert.S5ReferenceIdeal.τ).loc Cert.S5ReferenceIdeal.main_arg1)
      ∧ r.2.mem ((c.tc : Thread Cert.S5ReferenceIdeal.nD Cert.S5ReferenceIdeal.τ).loc Cert.S5ReferenceIdeal.main_arg2) = m ((c.tc : Thread Cert.S5ReferenceIdeal.nD Cert.S5ReferenceIdeal.τ).loc Cert.S5ReferenceIdeal.main_arg2)
      ∧ r.2.mem ((c.tc : Thread Cert.S5ReferenceIdeal.nD Cert.S5ReferenceIdeal.τ).loc Cert.S5ReferenceIdeal.main_arg3) = m ((c.tc : Thread Cert.S5ReferenceIdeal.nD Cert.S5ReferenceIdeal.τ).loc Cert.S5ReferenceIdeal.main_arg3)
      ∧ r.2.mem ((c.tc : Thread Cert.S5ReferenceIdeal.nD Cert.S5ReferenceIdeal.τ).loc Cert.S5ReferenceIdeal.main_arg4) = m ((c.tc : Thread Cert.S5ReferenceIdeal.nD Cert.S5ReferenceIdeal.τ).loc Cert.S5ReferenceIdeal.main_arg4)
      ∧ r.2.mem ((c.tc : Thread Cert.S5ReferenceIdeal.nD Cert.S5ReferenceIdeal.τ).loc Cert.S5ReferenceIdeal.main_arg5) = m ((c.tc : Thread Cert.S5ReferenceIdeal.nD Cert.S5ReferenceIdeal.τ).loc Cert.S5ReferenceIdeal.main_arg5)
      ∧ r.2.mem ((c.tc : Thread Cert.S5ReferenceIdeal.nD Cert.S5ReferenceIdeal.τ).loc Cert.S5ReferenceIdeal.main_arg6) = m ((c.tc : Thread Cert.S5ReferenceIdeal.nD Cert.S5ReferenceIdeal.τ).loc Cert.S5ReferenceIdeal.main_arg6)
      ∧ r.2.mem ((c.tc : Thread Cert.S5ReferenceIdeal.nD Cert.S5ReferenceIdeal.τ).loc Cert.S5ReferenceIdeal.main_arg7) = m ((c.tc : Thread Cert.S5ReferenceIdeal.nD Cert.S5ReferenceIdeal.τ).loc Cert.S5ReferenceIdeal.main_arg7)
      ∧ r.2.mem ((c.tc : Thread Cert.S5ReferenceIdeal.nD Cert.S5ReferenceIdeal.τ).loc Cert.S5ReferenceIdeal.main_arg8) = m ((c.tc : Thread Cert.S5ReferenceIdeal.nD Cert.S5ReferenceIdeal.τ).loc Cert.S5ReferenceIdeal.main_arg8)
      ∧ r.2.mem ((c.tc : Thread Cert.S5ReferenceIdeal.nD Cert.S5ReferenceIdeal.τ).loc Cert.S5ReferenceIdeal.main_arg9) = m ((c.tc : Thread Cert.S5ReferenceIdeal.nD Cert.S5ReferenceIdeal.τ).loc Cert.S5ReferenceIdeal.main_arg9))
      ∧ r.2.sem = fun _ => 0)

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7)
      ∧ r.2.mem ((c.tc : Thread Cert.LruKernel.nD Cert.LruKernel.τ).loc Cert.LruKernel.main_arg8) = m ((c.tc : Thread Cert.LruKernel.nD Cert.LruKernel.τ).loc Cert.LruKernel.main_arg8)
      ∧ r.2.mem ((c.tc : Thread Cert.LruKernel.nD Cert.LruKernel.τ).loc Cert.LruKernel.main_arg9) = m ((c.tc : Thread Cert.LruKernel.nD Cert.LruKernel.τ).loc Cert.LruKernel.main_arg9))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8)
      ∧ r.2.mem ((c.tc : Thread Cert.LruKernelIdeal.nD Cert.LruKernelIdeal.τ).loc Cert.LruKernelIdeal.main_arg9) = m ((c.tc : Thread Cert.LruKernelIdeal.nD Cert.LruKernelIdeal.τ).loc Cert.LruKernelIdeal.main_arg9))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8)
      ∧ r.2.mem ((c.tc : Thread Cert.LruReferenceIdeal.nD Cert.LruReferenceIdeal.τ).loc Cert.LruReferenceIdeal.main_arg9) = m ((c.tc : Thread Cert.LruReferenceIdeal.nD Cert.LruReferenceIdeal.τ).loc Cert.LruReferenceIdeal.main_arg9))
      ∧ r.2.sem = fun _ => 0)

def quiescent_GlufKernel [hGlufKernel : Cert.GlufKernel.Facts] : Prop :=
  ∀ (m : (ℓ : Loc Cert.GlufKernel.nD Cert.GlufKernel.τ Cert.GlufKernel.sig) → Buf (Elt Bits) ℓ) (g : Dev Cert.GlufKernel.nD → PrngReg), Pre_GlufKernel m →
    θ_run (Cert.GlufKernel.defs (F := Bits)) (onTc (τ := Cert.GlufKernel.τ) (Cert.GlufKernel.main (F := Bits))) ⟨m, fun _ => 0, g⟩ (fun r => (∀ c : Dev Cert.GlufKernel.nD,
      r.2.mem ((c.tc : Thread Cert.GlufKernel.nD Cert.GlufKernel.τ).loc Cert.GlufKernel.main_arg0) = m ((c.tc : Thread Cert.GlufKernel.nD Cert.GlufKernel.τ).loc Cert.GlufKernel.main_arg0)
      ∧ r.2.mem ((c.tc : Thread Cert.GlufKernel.nD Cert.GlufKernel.τ).loc Cert.GlufKernel.main_arg1) = m ((c.tc : Thread Cert.GlufKernel.nD Cert.GlufKernel.τ).loc Cert.GlufKernel.main_arg1)
      ∧ r.2.mem ((c.tc : Thread Cert.GlufKernel.nD Cert.GlufKernel.τ).loc Cert.GlufKernel.main_arg2) = m ((c.tc : Thread Cert.GlufKernel.nD Cert.GlufKernel.τ).loc Cert.GlufKernel.main_arg2))
      ∧ r.2.sem = fun _ => 0)

def quiescent_GlufKernelIdeal [hGlufKernelIdeal : Cert.GlufKernelIdeal.Facts] : Prop :=
  ∀ (m : (ℓ : Loc Cert.GlufKernelIdeal.nD Cert.GlufKernelIdeal.τ Cert.GlufKernelIdeal.sig) → Buf (Elt Ideal) ℓ) (g : Dev Cert.GlufKernelIdeal.nD → PrngReg), Pre_GlufKernelIdeal m →
    θ_run (Cert.GlufKernelIdeal.defs (F := Ideal)) (onTc (τ := Cert.GlufKernelIdeal.τ) (Cert.GlufKernelIdeal.main (F := Ideal))) ⟨m, fun _ => 0, g⟩ (fun r => (∀ c : Dev Cert.GlufKernelIdeal.nD,
      r.2.mem ((c.tc : Thread Cert.GlufKernelIdeal.nD Cert.GlufKernelIdeal.τ).loc Cert.GlufKernelIdeal.main_arg0) = m ((c.tc : Thread Cert.GlufKernelIdeal.nD Cert.GlufKernelIdeal.τ).loc Cert.GlufKernelIdeal.main_arg0)
      ∧ r.2.mem ((c.tc : Thread Cert.GlufKernelIdeal.nD Cert.GlufKernelIdeal.τ).loc Cert.GlufKernelIdeal.main_arg1) = m ((c.tc : Thread Cert.GlufKernelIdeal.nD Cert.GlufKernelIdeal.τ).loc Cert.GlufKernelIdeal.main_arg1)
      ∧ r.2.mem ((c.tc : Thread Cert.GlufKernelIdeal.nD Cert.GlufKernelIdeal.τ).loc Cert.GlufKernelIdeal.main_arg2) = m ((c.tc : Thread Cert.GlufKernelIdeal.nD Cert.GlufKernelIdeal.τ).loc Cert.GlufKernelIdeal.main_arg2))
      ∧ r.2.sem = fun _ => 0)

def quiescent_GlufReferenceIdeal [hGlufReferenceIdeal : Cert.GlufReferenceIdeal.Facts] : Prop :=
  ∀ (m : (ℓ : Loc Cert.GlufReferenceIdeal.nD Cert.GlufReferenceIdeal.τ Cert.GlufReferenceIdeal.sig) → Buf (Elt Ideal) ℓ) (g : Dev Cert.GlufReferenceIdeal.nD → PrngReg), Pre_GlufReferenceIdeal m →
    θ_run (Cert.GlufReferenceIdeal.defs (F := Ideal)) (onTc (τ := Cert.GlufReferenceIdeal.τ) (Cert.GlufReferenceIdeal.main (F := Ideal))) ⟨m, fun _ => 0, g⟩ (fun r => (∀ c : Dev Cert.GlufReferenceIdeal.nD,
      r.2.mem ((c.tc : Thread Cert.GlufReferenceIdeal.nD Cert.GlufReferenceIdeal.τ).loc Cert.GlufReferenceIdeal.main_arg0) = m ((c.tc : Thread Cert.GlufReferenceIdeal.nD Cert.GlufReferenceIdeal.τ).loc Cert.GlufReferenceIdeal.main_arg0)
      ∧ r.2.mem ((c.tc : Thread Cert.GlufReferenceIdeal.nD Cert.GlufReferenceIdeal.τ).loc Cert.GlufReferenceIdeal.main_arg1) = m ((c.tc : Thread Cert.GlufReferenceIdeal.nD Cert.GlufReferenceIdeal.τ).loc Cert.GlufReferenceIdeal.main_arg1)
      ∧ r.2.mem ((c.tc : Thread Cert.GlufReferenceIdeal.nD Cert.GlufReferenceIdeal.τ).loc Cert.GlufReferenceIdeal.main_arg2) = m ((c.tc : Thread Cert.GlufReferenceIdeal.nD Cert.GlufReferenceIdeal.τ).loc Cert.GlufReferenceIdeal.main_arg2))
      ∧ r.2.sem = fun _ => 0)

def quiescent_PlefKernel [hPlefKernel : Cert.PlefKernel.Facts] : Prop :=
  ∀ (m : (ℓ : Loc Cert.PlefKernel.nD Cert.PlefKernel.τ Cert.PlefKernel.sig) → Buf (Elt Bits) ℓ) (g : Dev Cert.PlefKernel.nD → PrngReg), Pre_PlefKernel m →
    θ_run (Cert.PlefKernel.defs (F := Bits)) (onTc (τ := Cert.PlefKernel.τ) (Cert.PlefKernel.main (F := Bits))) ⟨m, fun _ => 0, g⟩ (fun r => (∀ c : Dev Cert.PlefKernel.nD,
      r.2.mem ((c.tc : Thread Cert.PlefKernel.nD Cert.PlefKernel.τ).loc Cert.PlefKernel.main_arg0) = m ((c.tc : Thread Cert.PlefKernel.nD Cert.PlefKernel.τ).loc Cert.PlefKernel.main_arg0)
      ∧ r.2.mem ((c.tc : Thread Cert.PlefKernel.nD Cert.PlefKernel.τ).loc Cert.PlefKernel.main_arg1) = m ((c.tc : Thread Cert.PlefKernel.nD Cert.PlefKernel.τ).loc Cert.PlefKernel.main_arg1)
      ∧ r.2.mem ((c.tc : Thread Cert.PlefKernel.nD Cert.PlefKernel.τ).loc Cert.PlefKernel.main_arg2) = m ((c.tc : Thread Cert.PlefKernel.nD Cert.PlefKernel.τ).loc Cert.PlefKernel.main_arg2)
      ∧ r.2.mem ((c.tc : Thread Cert.PlefKernel.nD Cert.PlefKernel.τ).loc Cert.PlefKernel.main_arg3) = m ((c.tc : Thread Cert.PlefKernel.nD Cert.PlefKernel.τ).loc Cert.PlefKernel.main_arg3)
      ∧ r.2.mem ((c.tc : Thread Cert.PlefKernel.nD Cert.PlefKernel.τ).loc Cert.PlefKernel.main_arg4) = m ((c.tc : Thread Cert.PlefKernel.nD Cert.PlefKernel.τ).loc Cert.PlefKernel.main_arg4))
      ∧ r.2.sem = fun _ => 0)

def quiescent_PlefKernelIdeal [hPlefKernelIdeal : Cert.PlefKernelIdeal.Facts] : Prop :=
  ∀ (m : (ℓ : Loc Cert.PlefKernelIdeal.nD Cert.PlefKernelIdeal.τ Cert.PlefKernelIdeal.sig) → Buf (Elt Ideal) ℓ) (g : Dev Cert.PlefKernelIdeal.nD → PrngReg), Pre_PlefKernelIdeal m →
    θ_run (Cert.PlefKernelIdeal.defs (F := Ideal)) (onTc (τ := Cert.PlefKernelIdeal.τ) (Cert.PlefKernelIdeal.main (F := Ideal))) ⟨m, fun _ => 0, g⟩ (fun r => (∀ c : Dev Cert.PlefKernelIdeal.nD,
      r.2.mem ((c.tc : Thread Cert.PlefKernelIdeal.nD Cert.PlefKernelIdeal.τ).loc Cert.PlefKernelIdeal.main_arg0) = m ((c.tc : Thread Cert.PlefKernelIdeal.nD Cert.PlefKernelIdeal.τ).loc Cert.PlefKernelIdeal.main_arg0)
      ∧ r.2.mem ((c.tc : Thread Cert.PlefKernelIdeal.nD Cert.PlefKernelIdeal.τ).loc Cert.PlefKernelIdeal.main_arg1) = m ((c.tc : Thread Cert.PlefKernelIdeal.nD Cert.PlefKernelIdeal.τ).loc Cert.PlefKernelIdeal.main_arg1)
      ∧ r.2.mem ((c.tc : Thread Cert.PlefKernelIdeal.nD Cert.PlefKernelIdeal.τ).loc Cert.PlefKernelIdeal.main_arg2) = m ((c.tc : Thread Cert.PlefKernelIdeal.nD Cert.PlefKernelIdeal.τ).loc Cert.PlefKernelIdeal.main_arg2)
      ∧ r.2.mem ((c.tc : Thread Cert.PlefKernelIdeal.nD Cert.PlefKernelIdeal.τ).loc Cert.PlefKernelIdeal.main_arg3) = m ((c.tc : Thread Cert.PlefKernelIdeal.nD Cert.PlefKernelIdeal.τ).loc Cert.PlefKernelIdeal.main_arg3)
      ∧ r.2.mem ((c.tc : Thread Cert.PlefKernelIdeal.nD Cert.PlefKernelIdeal.τ).loc Cert.PlefKernelIdeal.main_arg4) = m ((c.tc : Thread Cert.PlefKernelIdeal.nD Cert.PlefKernelIdeal.τ).loc Cert.PlefKernelIdeal.main_arg4))
      ∧ r.2.sem = fun _ => 0)

def quiescent_PlefReferenceIdeal [hPlefReferenceIdeal : Cert.PlefReferenceIdeal.Facts] : Prop :=
  ∀ (m : (ℓ : Loc Cert.PlefReferenceIdeal.nD Cert.PlefReferenceIdeal.τ Cert.PlefReferenceIdeal.sig) → Buf (Elt Ideal) ℓ) (g : Dev Cert.PlefReferenceIdeal.nD → PrngReg), Pre_PlefReferenceIdeal m →
    θ_run (Cert.PlefReferenceIdeal.defs (F := Ideal)) (onTc (τ := Cert.PlefReferenceIdeal.τ) (Cert.PlefReferenceIdeal.main (F := Ideal))) ⟨m, fun _ => 0, g⟩ (fun r => (∀ c : Dev Cert.PlefReferenceIdeal.nD,
      r.2.mem ((c.tc : Thread Cert.PlefReferenceIdeal.nD Cert.PlefReferenceIdeal.τ).loc Cert.PlefReferenceIdeal.main_arg0) = m ((c.tc : Thread Cert.PlefReferenceIdeal.nD Cert.PlefReferenceIdeal.τ).loc Cert.PlefReferenceIdeal.main_arg0)
      ∧ r.2.mem ((c.tc : Thread Cert.PlefReferenceIdeal.nD Cert.PlefReferenceIdeal.τ).loc Cert.PlefReferenceIdeal.main_arg1) = m ((c.tc : Thread Cert.PlefReferenceIdeal.nD Cert.PlefReferenceIdeal.τ).loc Cert.PlefReferenceIdeal.main_arg1)
      ∧ r.2.mem ((c.tc : Thread Cert.PlefReferenceIdeal.nD Cert.PlefReferenceIdeal.τ).loc Cert.PlefReferenceIdeal.main_arg2) = m ((c.tc : Thread Cert.PlefReferenceIdeal.nD Cert.PlefReferenceIdeal.τ).loc Cert.PlefReferenceIdeal.main_arg2)
      ∧ r.2.mem ((c.tc : Thread Cert.PlefReferenceIdeal.nD Cert.PlefReferenceIdeal.τ).loc Cert.PlefReferenceIdeal.main_arg3) = m ((c.tc : Thread Cert.PlefReferenceIdeal.nD Cert.PlefReferenceIdeal.τ).loc Cert.PlefReferenceIdeal.main_arg3)
      ∧ r.2.mem ((c.tc : Thread Cert.PlefReferenceIdeal.nD Cert.PlefReferenceIdeal.τ).loc Cert.PlefReferenceIdeal.main_arg4) = m ((c.tc : Thread Cert.PlefReferenceIdeal.nD Cert.PlefReferenceIdeal.τ).loc Cert.PlefReferenceIdeal.main_arg4))
      ∧ r.2.sem = fun _ => 0)

def quiescent_FfnfKernel [hFfnfKernel : Cert.FfnfKernel.Facts] : Prop :=
  ∀ (m : (ℓ : Loc Cert.FfnfKernel.nD Cert.FfnfKernel.τ Cert.FfnfKernel.sig) → Buf (Elt Bits) ℓ) (g : Dev Cert.FfnfKernel.nD → PrngReg), Pre_FfnfKernel m →
    θ_run (Cert.FfnfKernel.defs (F := Bits)) (onTc (τ := Cert.FfnfKernel.τ) (Cert.FfnfKernel.main (F := Bits))) ⟨m, fun _ => 0, g⟩ (fun r => (∀ c : Dev Cert.FfnfKernel.nD,
      r.2.mem ((c.tc : Thread Cert.FfnfKernel.nD Cert.FfnfKernel.τ).loc Cert.FfnfKernel.main_arg0) = m ((c.tc : Thread Cert.FfnfKernel.nD Cert.FfnfKernel.τ).loc Cert.FfnfKernel.main_arg0)
      ∧ r.2.mem ((c.tc : Thread Cert.FfnfKernel.nD Cert.FfnfKernel.τ).loc Cert.FfnfKernel.main_arg1) = m ((c.tc : Thread Cert.FfnfKernel.nD Cert.FfnfKernel.τ).loc Cert.FfnfKernel.main_arg1)
      ∧ r.2.mem ((c.tc : Thread Cert.FfnfKernel.nD Cert.FfnfKernel.τ).loc Cert.FfnfKernel.main_arg2) = m ((c.tc : Thread Cert.FfnfKernel.nD Cert.FfnfKernel.τ).loc Cert.FfnfKernel.main_arg2)
      ∧ r.2.mem ((c.tc : Thread Cert.FfnfKernel.nD Cert.FfnfKernel.τ).loc Cert.FfnfKernel.main_arg3) = m ((c.tc : Thread Cert.FfnfKernel.nD Cert.FfnfKernel.τ).loc Cert.FfnfKernel.main_arg3))
      ∧ r.2.sem = fun _ => 0)

def quiescent_FfnfKernelIdeal [hFfnfKernelIdeal : Cert.FfnfKernelIdeal.Facts] : Prop :=
  ∀ (m : (ℓ : Loc Cert.FfnfKernelIdeal.nD Cert.FfnfKernelIdeal.τ Cert.FfnfKernelIdeal.sig) → Buf (Elt Ideal) ℓ) (g : Dev Cert.FfnfKernelIdeal.nD → PrngReg), Pre_FfnfKernelIdeal m →
    θ_run (Cert.FfnfKernelIdeal.defs (F := Ideal)) (onTc (τ := Cert.FfnfKernelIdeal.τ) (Cert.FfnfKernelIdeal.main (F := Ideal))) ⟨m, fun _ => 0, g⟩ (fun r => (∀ c : Dev Cert.FfnfKernelIdeal.nD,
      r.2.mem ((c.tc : Thread Cert.FfnfKernelIdeal.nD Cert.FfnfKernelIdeal.τ).loc Cert.FfnfKernelIdeal.main_arg0) = m ((c.tc : Thread Cert.FfnfKernelIdeal.nD Cert.FfnfKernelIdeal.τ).loc Cert.FfnfKernelIdeal.main_arg0)
      ∧ r.2.mem ((c.tc : Thread Cert.FfnfKernelIdeal.nD Cert.FfnfKernelIdeal.τ).loc Cert.FfnfKernelIdeal.main_arg1) = m ((c.tc : Thread Cert.FfnfKernelIdeal.nD Cert.FfnfKernelIdeal.τ).loc Cert.FfnfKernelIdeal.main_arg1)
      ∧ r.2.mem ((c.tc : Thread Cert.FfnfKernelIdeal.nD Cert.FfnfKernelIdeal.τ).loc Cert.FfnfKernelIdeal.main_arg2) = m ((c.tc : Thread Cert.FfnfKernelIdeal.nD Cert.FfnfKernelIdeal.τ).loc Cert.FfnfKernelIdeal.main_arg2)
      ∧ r.2.mem ((c.tc : Thread Cert.FfnfKernelIdeal.nD Cert.FfnfKernelIdeal.τ).loc Cert.FfnfKernelIdeal.main_arg3) = m ((c.tc : Thread Cert.FfnfKernelIdeal.nD Cert.FfnfKernelIdeal.τ).loc Cert.FfnfKernelIdeal.main_arg3))
      ∧ r.2.sem = fun _ => 0)

def quiescent_FfnfReferenceIdeal [hFfnfReferenceIdeal : Cert.FfnfReferenceIdeal.Facts] : Prop :=
  ∀ (m : (ℓ : Loc Cert.FfnfReferenceIdeal.nD Cert.FfnfReferenceIdeal.τ Cert.FfnfReferenceIdeal.sig) → Buf (Elt Ideal) ℓ) (g : Dev Cert.FfnfReferenceIdeal.nD → PrngReg), Pre_FfnfReferenceIdeal m →
    θ_run (Cert.FfnfReferenceIdeal.defs (F := Ideal)) (onTc (τ := Cert.FfnfReferenceIdeal.τ) (Cert.FfnfReferenceIdeal.main (F := Ideal))) ⟨m, fun _ => 0, g⟩ (fun r => (∀ c : Dev Cert.FfnfReferenceIdeal.nD,
      r.2.mem ((c.tc : Thread Cert.FfnfReferenceIdeal.nD Cert.FfnfReferenceIdeal.τ).loc Cert.FfnfReferenceIdeal.main_arg0) = m ((c.tc : Thread Cert.FfnfReferenceIdeal.nD Cert.FfnfReferenceIdeal.τ).loc Cert.FfnfReferenceIdeal.main_arg0)
      ∧ r.2.mem ((c.tc : Thread Cert.FfnfReferenceIdeal.nD Cert.FfnfReferenceIdeal.τ).loc Cert.FfnfReferenceIdeal.main_arg1) = m ((c.tc : Thread Cert.FfnfReferenceIdeal.nD Cert.FfnfReferenceIdeal.τ).loc Cert.FfnfReferenceIdeal.main_arg1)
      ∧ r.2.mem ((c.tc : Thread Cert.FfnfReferenceIdeal.nD Cert.FfnfReferenceIdeal.τ).loc Cert.FfnfReferenceIdeal.main_arg2) = m ((c.tc : Thread Cert.FfnfReferenceIdeal.nD Cert.FfnfReferenceIdeal.τ).loc Cert.FfnfReferenceIdeal.main_arg2)
      ∧ r.2.mem ((c.tc : Thread Cert.FfnfReferenceIdeal.nD Cert.FfnfReferenceIdeal.τ).loc Cert.FfnfReferenceIdeal.main_arg3) = m ((c.tc : Thread Cert.FfnfReferenceIdeal.nD Cert.FfnfReferenceIdeal.τ).loc Cert.FfnfReferenceIdeal.main_arg3))
      ∧ r.2.sem = fun _ => 0)

def quiescent_MergefKernel [hMergefKernel : Cert.MergefKernel.Facts] : Prop :=
  ∀ (m : (ℓ : Loc Cert.MergefKernel.nD Cert.MergefKernel.τ Cert.MergefKernel.sig) → Buf (Elt Bits) ℓ) (g : Dev Cert.MergefKernel.nD → PrngReg), Pre_MergefKernel m →
    θ_run (Cert.MergefKernel.defs (F := Bits)) (onTc (τ := Cert.MergefKernel.τ) (Cert.MergefKernel.main (F := Bits))) ⟨m, fun _ => 0, g⟩ (fun r => (∀ c : Dev Cert.MergefKernel.nD,
      r.2.mem ((c.tc : Thread Cert.MergefKernel.nD Cert.MergefKernel.τ).loc Cert.MergefKernel.main_arg0) = m ((c.tc : Thread Cert.MergefKernel.nD Cert.MergefKernel.τ).loc Cert.MergefKernel.main_arg0)
      ∧ r.2.mem ((c.tc : Thread Cert.MergefKernel.nD Cert.MergefKernel.τ).loc Cert.MergefKernel.main_arg1) = m ((c.tc : Thread Cert.MergefKernel.nD Cert.MergefKernel.τ).loc Cert.MergefKernel.main_arg1)
      ∧ r.2.mem ((c.tc : Thread Cert.MergefKernel.nD Cert.MergefKernel.τ).loc Cert.MergefKernel.main_arg2) = m ((c.tc : Thread Cert.MergefKernel.nD Cert.MergefKernel.τ).loc Cert.MergefKernel.main_arg2)
      ∧ r.2.mem ((c.tc : Thread Cert.MergefKernel.nD Cert.MergefKernel.τ).loc Cert.MergefKernel.main_arg3) = m ((c.tc : Thread Cert.MergefKernel.nD Cert.MergefKernel.τ).loc Cert.MergefKernel.main_arg3)
      ∧ r.2.mem ((c.tc : Thread Cert.MergefKernel.nD Cert.MergefKernel.τ).loc Cert.MergefKernel.main_arg4) = m ((c.tc : Thread Cert.MergefKernel.nD Cert.MergefKernel.τ).loc Cert.MergefKernel.main_arg4))
      ∧ r.2.sem = fun _ => 0)

def quiescent_MergefKernelIdeal [hMergefKernelIdeal : Cert.MergefKernelIdeal.Facts] : Prop :=
  ∀ (m : (ℓ : Loc Cert.MergefKernelIdeal.nD Cert.MergefKernelIdeal.τ Cert.MergefKernelIdeal.sig) → Buf (Elt Ideal) ℓ) (g : Dev Cert.MergefKernelIdeal.nD → PrngReg), Pre_MergefKernelIdeal m →
    θ_run (Cert.MergefKernelIdeal.defs (F := Ideal)) (onTc (τ := Cert.MergefKernelIdeal.τ) (Cert.MergefKernelIdeal.main (F := Ideal))) ⟨m, fun _ => 0, g⟩ (fun r => (∀ c : Dev Cert.MergefKernelIdeal.nD,
      r.2.mem ((c.tc : Thread Cert.MergefKernelIdeal.nD Cert.MergefKernelIdeal.τ).loc Cert.MergefKernelIdeal.main_arg0) = m ((c.tc : Thread Cert.MergefKernelIdeal.nD Cert.MergefKernelIdeal.τ).loc Cert.MergefKernelIdeal.main_arg0)
      ∧ r.2.mem ((c.tc : Thread Cert.MergefKernelIdeal.nD Cert.MergefKernelIdeal.τ).loc Cert.MergefKernelIdeal.main_arg1) = m ((c.tc : Thread Cert.MergefKernelIdeal.nD Cert.MergefKernelIdeal.τ).loc Cert.MergefKernelIdeal.main_arg1)
      ∧ r.2.mem ((c.tc : Thread Cert.MergefKernelIdeal.nD Cert.MergefKernelIdeal.τ).loc Cert.MergefKernelIdeal.main_arg2) = m ((c.tc : Thread Cert.MergefKernelIdeal.nD Cert.MergefKernelIdeal.τ).loc Cert.MergefKernelIdeal.main_arg2)
      ∧ r.2.mem ((c.tc : Thread Cert.MergefKernelIdeal.nD Cert.MergefKernelIdeal.τ).loc Cert.MergefKernelIdeal.main_arg3) = m ((c.tc : Thread Cert.MergefKernelIdeal.nD Cert.MergefKernelIdeal.τ).loc Cert.MergefKernelIdeal.main_arg3)
      ∧ r.2.mem ((c.tc : Thread Cert.MergefKernelIdeal.nD Cert.MergefKernelIdeal.τ).loc Cert.MergefKernelIdeal.main_arg4) = m ((c.tc : Thread Cert.MergefKernelIdeal.nD Cert.MergefKernelIdeal.τ).loc Cert.MergefKernelIdeal.main_arg4))
      ∧ r.2.sem = fun _ => 0)

def quiescent_MergefKernelIdeal_pre_finite_mergef [hMergefKernelIdeal : Cert.MergefKernelIdeal.Facts] [hPre_finite_mergef : Cert.Pre_finite_mergef.Facts] : Prop :=
  ∀ (m : (ℓ : Loc Cert.MergefKernelIdeal.nD Cert.MergefKernelIdeal.τ Cert.MergefKernelIdeal.sig) → Buf (Elt Ideal) ℓ) (g : Dev Cert.MergefKernelIdeal.nD → PrngReg), Pre_MergefKernelIdeal_finite_mergef m →
    θ_run (Cert.MergefKernelIdeal.defs (F := Ideal)) (onTc (τ := Cert.MergefKernelIdeal.τ) (Cert.MergefKernelIdeal.main (F := Ideal))) ⟨m, fun _ => 0, g⟩ (fun r => (∀ c : Dev Cert.MergefKernelIdeal.nD,
      r.2.mem ((c.tc : Thread Cert.MergefKernelIdeal.nD Cert.MergefKernelIdeal.τ).loc Cert.MergefKernelIdeal.main_arg0) = m ((c.tc : Thread Cert.MergefKernelIdeal.nD Cert.MergefKernelIdeal.τ).loc Cert.MergefKernelIdeal.main_arg0)
      ∧ r.2.mem ((c.tc : Thread Cert.MergefKernelIdeal.nD Cert.MergefKernelIdeal.τ).loc Cert.MergefKernelIdeal.main_arg1) = m ((c.tc : Thread Cert.MergefKernelIdeal.nD Cert.MergefKernelIdeal.τ).loc Cert.MergefKernelIdeal.main_arg1)
      ∧ r.2.mem ((c.tc : Thread Cert.MergefKernelIdeal.nD Cert.MergefKernelIdeal.τ).loc Cert.MergefKernelIdeal.main_arg2) = m ((c.tc : Thread Cert.MergefKernelIdeal.nD Cert.MergefKernelIdeal.τ).loc Cert.MergefKernelIdeal.main_arg2)
      ∧ r.2.mem ((c.tc : Thread Cert.MergefKernelIdeal.nD Cert.MergefKernelIdeal.τ).loc Cert.MergefKernelIdeal.main_arg3) = m ((c.tc : Thread Cert.MergefKernelIdeal.nD Cert.MergefKernelIdeal.τ).loc Cert.MergefKernelIdeal.main_arg3)
      ∧ r.2.mem ((c.tc : Thread Cert.MergefKernelIdeal.nD Cert.MergefKernelIdeal.τ).loc Cert.MergefKernelIdeal.main_arg4) = m ((c.tc : Thread Cert.MergefKernelIdeal.nD Cert.MergefKernelIdeal.τ).loc Cert.MergefKernelIdeal.main_arg4))
      ∧ r.2.sem = fun _ => 0)

def quiescent_MergefReferenceIdeal [hMergefReferenceIdeal : Cert.MergefReferenceIdeal.Facts] : Prop :=
  ∀ (m : (ℓ : Loc Cert.MergefReferenceIdeal.nD Cert.MergefReferenceIdeal.τ Cert.MergefReferenceIdeal.sig) → Buf (Elt Ideal) ℓ) (g : Dev Cert.MergefReferenceIdeal.nD → PrngReg), Pre_MergefReferenceIdeal m →
    θ_run (Cert.MergefReferenceIdeal.defs (F := Ideal)) (onTc (τ := Cert.MergefReferenceIdeal.τ) (Cert.MergefReferenceIdeal.main (F := Ideal))) ⟨m, fun _ => 0, g⟩ (fun r => (∀ c : Dev Cert.MergefReferenceIdeal.nD,
      r.2.mem ((c.tc : Thread Cert.MergefReferenceIdeal.nD Cert.MergefReferenceIdeal.τ).loc Cert.MergefReferenceIdeal.main_arg0) = m ((c.tc : Thread Cert.MergefReferenceIdeal.nD Cert.MergefReferenceIdeal.τ).loc Cert.MergefReferenceIdeal.main_arg0)
      ∧ r.2.mem ((c.tc : Thread Cert.MergefReferenceIdeal.nD Cert.MergefReferenceIdeal.τ).loc Cert.MergefReferenceIdeal.main_arg1) = m ((c.tc : Thread Cert.MergefReferenceIdeal.nD Cert.MergefReferenceIdeal.τ).loc Cert.MergefReferenceIdeal.main_arg1)
      ∧ r.2.mem ((c.tc : Thread Cert.MergefReferenceIdeal.nD Cert.MergefReferenceIdeal.τ).loc Cert.MergefReferenceIdeal.main_arg2) = m ((c.tc : Thread Cert.MergefReferenceIdeal.nD Cert.MergefReferenceIdeal.τ).loc Cert.MergefReferenceIdeal.main_arg2)
      ∧ r.2.mem ((c.tc : Thread Cert.MergefReferenceIdeal.nD Cert.MergefReferenceIdeal.τ).loc Cert.MergefReferenceIdeal.main_arg3) = m ((c.tc : Thread Cert.MergefReferenceIdeal.nD Cert.MergefReferenceIdeal.τ).loc Cert.MergefReferenceIdeal.main_arg3)
      ∧ r.2.mem ((c.tc : Thread Cert.MergefReferenceIdeal.nD Cert.MergefReferenceIdeal.τ).loc Cert.MergefReferenceIdeal.main_arg4) = m ((c.tc : Thread Cert.MergefReferenceIdeal.nD Cert.MergefReferenceIdeal.τ).loc Cert.MergefReferenceIdeal.main_arg4))
      ∧ r.2.sem = fun _ => 0)

def quiescent_MergefReferenceIdeal_pre_finite_mergef [hMergefReferenceIdeal : Cert.MergefReferenceIdeal.Facts] [hPre_finite_mergef : Cert.Pre_finite_mergef.Facts] : Prop :=
  ∀ (m : (ℓ : Loc Cert.MergefReferenceIdeal.nD Cert.MergefReferenceIdeal.τ Cert.MergefReferenceIdeal.sig) → Buf (Elt Ideal) ℓ) (g : Dev Cert.MergefReferenceIdeal.nD → PrngReg), Pre_MergefReferenceIdeal_finite_mergef m →
    θ_run (Cert.MergefReferenceIdeal.defs (F := Ideal)) (onTc (τ := Cert.MergefReferenceIdeal.τ) (Cert.MergefReferenceIdeal.main (F := Ideal))) ⟨m, fun _ => 0, g⟩ (fun r => (∀ c : Dev Cert.MergefReferenceIdeal.nD,
      r.2.mem ((c.tc : Thread Cert.MergefReferenceIdeal.nD Cert.MergefReferenceIdeal.τ).loc Cert.MergefReferenceIdeal.main_arg0) = m ((c.tc : Thread Cert.MergefReferenceIdeal.nD Cert.MergefReferenceIdeal.τ).loc Cert.MergefReferenceIdeal.main_arg0)
      ∧ r.2.mem ((c.tc : Thread Cert.MergefReferenceIdeal.nD Cert.MergefReferenceIdeal.τ).loc Cert.MergefReferenceIdeal.main_arg1) = m ((c.tc : Thread Cert.MergefReferenceIdeal.nD Cert.MergefReferenceIdeal.τ).loc Cert.MergefReferenceIdeal.main_arg1)
      ∧ r.2.mem ((c.tc : Thread Cert.MergefReferenceIdeal.nD Cert.MergefReferenceIdeal.τ).loc Cert.MergefReferenceIdeal.main_arg2) = m ((c.tc : Thread Cert.MergefReferenceIdeal.nD Cert.MergefReferenceIdeal.τ).loc Cert.MergefReferenceIdeal.main_arg2)
      ∧ r.2.mem ((c.tc : Thread Cert.MergefReferenceIdeal.nD Cert.MergefReferenceIdeal.τ).loc Cert.MergefReferenceIdeal.main_arg3) = m ((c.tc : Thread Cert.MergefReferenceIdeal.nD Cert.MergefReferenceIdeal.τ).loc Cert.MergefReferenceIdeal.main_arg3)
      ∧ r.2.mem ((c.tc : Thread Cert.MergefReferenceIdeal.nD Cert.MergefReferenceIdeal.τ).loc Cert.MergefReferenceIdeal.main_arg4) = m ((c.tc : Thread Cert.MergefReferenceIdeal.nD Cert.MergefReferenceIdeal.τ).loc Cert.MergefReferenceIdeal.main_arg4))
      ∧ r.2.sem = fun _ => 0)

def quiescent_S5fKernel [hS5fKernel : Cert.S5fKernel.Facts] : Prop :=
  ∀ (m : (ℓ : Loc Cert.S5fKernel.nD Cert.S5fKernel.τ Cert.S5fKernel.sig) → Buf (Elt Bits) ℓ) (g : Dev Cert.S5fKernel.nD → PrngReg), Pre_S5fKernel m →
    θ_run (Cert.S5fKernel.defs (F := Bits)) (onTc (τ := Cert.S5fKernel.τ) (Cert.S5fKernel.main (F := Bits))) ⟨m, fun _ => 0, g⟩ (fun r => (∀ c : Dev Cert.S5fKernel.nD,
      r.2.mem ((c.tc : Thread Cert.S5fKernel.nD Cert.S5fKernel.τ).loc Cert.S5fKernel.main_arg0) = m ((c.tc : Thread Cert.S5fKernel.nD Cert.S5fKernel.τ).loc Cert.S5fKernel.main_arg0)
      ∧ r.2.mem ((c.tc : Thread Cert.S5fKernel.nD Cert.S5fKernel.τ).loc Cert.S5fKernel.main_arg1) = m ((c.tc : Thread Cert.S5fKernel.nD Cert.S5fKernel.τ).loc Cert.S5fKernel.main_arg1)
      ∧ r.2.mem ((c.tc : Thread Cert.S5fKernel.nD Cert.S5fKernel.τ).loc Cert.S5fKernel.main_arg2) = m ((c.tc : Thread Cert.S5fKernel.nD Cert.S5fKernel.τ).loc Cert.S5fKernel.main_arg2)
      ∧ r.2.mem ((c.tc : Thread Cert.S5fKernel.nD Cert.S5fKernel.τ).loc Cert.S5fKernel.main_arg3) = m ((c.tc : Thread Cert.S5fKernel.nD Cert.S5fKernel.τ).loc Cert.S5fKernel.main_arg3)
      ∧ r.2.mem ((c.tc : Thread Cert.S5fKernel.nD Cert.S5fKernel.τ).loc Cert.S5fKernel.main_arg4) = m ((c.tc : Thread Cert.S5fKernel.nD Cert.S5fKernel.τ).loc Cert.S5fKernel.main_arg4)
      ∧ r.2.mem ((c.tc : Thread Cert.S5fKernel.nD Cert.S5fKernel.τ).loc Cert.S5fKernel.main_arg5) = m ((c.tc : Thread Cert.S5fKernel.nD Cert.S5fKernel.τ).loc Cert.S5fKernel.main_arg5)
      ∧ r.2.mem ((c.tc : Thread Cert.S5fKernel.nD Cert.S5fKernel.τ).loc Cert.S5fKernel.main_arg6) = m ((c.tc : Thread Cert.S5fKernel.nD Cert.S5fKernel.τ).loc Cert.S5fKernel.main_arg6)
      ∧ r.2.mem ((c.tc : Thread Cert.S5fKernel.nD Cert.S5fKernel.τ).loc Cert.S5fKernel.main_arg7) = m ((c.tc : Thread Cert.S5fKernel.nD Cert.S5fKernel.τ).loc Cert.S5fKernel.main_arg7)
      ∧ r.2.mem ((c.tc : Thread Cert.S5fKernel.nD Cert.S5fKernel.τ).loc Cert.S5fKernel.main_arg8) = m ((c.tc : Thread Cert.S5fKernel.nD Cert.S5fKernel.τ).loc Cert.S5fKernel.main_arg8))
      ∧ r.2.sem = fun _ => 0)

def quiescent_S5fKernelIdeal [hS5fKernelIdeal : Cert.S5fKernelIdeal.Facts] : Prop :=
  ∀ (m : (ℓ : Loc Cert.S5fKernelIdeal.nD Cert.S5fKernelIdeal.τ Cert.S5fKernelIdeal.sig) → Buf (Elt Ideal) ℓ) (g : Dev Cert.S5fKernelIdeal.nD → PrngReg), Pre_S5fKernelIdeal m →
    θ_run (Cert.S5fKernelIdeal.defs (F := Ideal)) (onTc (τ := Cert.S5fKernelIdeal.τ) (Cert.S5fKernelIdeal.main (F := Ideal))) ⟨m, fun _ => 0, g⟩ (fun r => (∀ c : Dev Cert.S5fKernelIdeal.nD,
      r.2.mem ((c.tc : Thread Cert.S5fKernelIdeal.nD Cert.S5fKernelIdeal.τ).loc Cert.S5fKernelIdeal.main_arg0) = m ((c.tc : Thread Cert.S5fKernelIdeal.nD Cert.S5fKernelIdeal.τ).loc Cert.S5fKernelIdeal.main_arg0)
      ∧ r.2.mem ((c.tc : Thread Cert.S5fKernelIdeal.nD Cert.S5fKernelIdeal.τ).loc Cert.S5fKernelIdeal.main_arg1) = m ((c.tc : Thread Cert.S5fKernelIdeal.nD Cert.S5fKernelIdeal.τ).loc Cert.S5fKernelIdeal.main_arg1)
      ∧ r.2.mem ((c.tc : Thread Cert.S5fKernelIdeal.nD Cert.S5fKernelIdeal.τ).loc Cert.S5fKernelIdeal.main_arg2) = m ((c.tc : Thread Cert.S5fKernelIdeal.nD Cert.S5fKernelIdeal.τ).loc Cert.S5fKernelIdeal.main_arg2)
      ∧ r.2.mem ((c.tc : Thread Cert.S5fKernelIdeal.nD Cert.S5fKernelIdeal.τ).loc Cert.S5fKernelIdeal.main_arg3) = m ((c.tc : Thread Cert.S5fKernelIdeal.nD Cert.S5fKernelIdeal.τ).loc Cert.S5fKernelIdeal.main_arg3)
      ∧ r.2.mem ((c.tc : Thread Cert.S5fKernelIdeal.nD Cert.S5fKernelIdeal.τ).loc Cert.S5fKernelIdeal.main_arg4) = m ((c.tc : Thread Cert.S5fKernelIdeal.nD Cert.S5fKernelIdeal.τ).loc Cert.S5fKernelIdeal.main_arg4)
      ∧ r.2.mem ((c.tc : Thread Cert.S5fKernelIdeal.nD Cert.S5fKernelIdeal.τ).loc Cert.S5fKernelIdeal.main_arg5) = m ((c.tc : Thread Cert.S5fKernelIdeal.nD Cert.S5fKernelIdeal.τ).loc Cert.S5fKernelIdeal.main_arg5)
      ∧ r.2.mem ((c.tc : Thread Cert.S5fKernelIdeal.nD Cert.S5fKernelIdeal.τ).loc Cert.S5fKernelIdeal.main_arg6) = m ((c.tc : Thread Cert.S5fKernelIdeal.nD Cert.S5fKernelIdeal.τ).loc Cert.S5fKernelIdeal.main_arg6)
      ∧ r.2.mem ((c.tc : Thread Cert.S5fKernelIdeal.nD Cert.S5fKernelIdeal.τ).loc Cert.S5fKernelIdeal.main_arg7) = m ((c.tc : Thread Cert.S5fKernelIdeal.nD Cert.S5fKernelIdeal.τ).loc Cert.S5fKernelIdeal.main_arg7)
      ∧ r.2.mem ((c.tc : Thread Cert.S5fKernelIdeal.nD Cert.S5fKernelIdeal.τ).loc Cert.S5fKernelIdeal.main_arg8) = m ((c.tc : Thread Cert.S5fKernelIdeal.nD Cert.S5fKernelIdeal.τ).loc Cert.S5fKernelIdeal.main_arg8))
      ∧ r.2.sem = fun _ => 0)

def quiescent_S5fKernelIdeal_pre_finite_s5f [hS5fKernelIdeal : Cert.S5fKernelIdeal.Facts] [hPre_finite_s5f : Cert.Pre_finite_s5f.Facts] : Prop :=
  ∀ (m : (ℓ : Loc Cert.S5fKernelIdeal.nD Cert.S5fKernelIdeal.τ Cert.S5fKernelIdeal.sig) → Buf (Elt Ideal) ℓ) (g : Dev Cert.S5fKernelIdeal.nD → PrngReg), Pre_S5fKernelIdeal_finite_s5f m →
    θ_run (Cert.S5fKernelIdeal.defs (F := Ideal)) (onTc (τ := Cert.S5fKernelIdeal.τ) (Cert.S5fKernelIdeal.main (F := Ideal))) ⟨m, fun _ => 0, g⟩ (fun r => (∀ c : Dev Cert.S5fKernelIdeal.nD,
      r.2.mem ((c.tc : Thread Cert.S5fKernelIdeal.nD Cert.S5fKernelIdeal.τ).loc Cert.S5fKernelIdeal.main_arg0) = m ((c.tc : Thread Cert.S5fKernelIdeal.nD Cert.S5fKernelIdeal.τ).loc Cert.S5fKernelIdeal.main_arg0)
      ∧ r.2.mem ((c.tc : Thread Cert.S5fKernelIdeal.nD Cert.S5fKernelIdeal.τ).loc Cert.S5fKernelIdeal.main_arg1) = m ((c.tc : Thread Cert.S5fKernelIdeal.nD Cert.S5fKernelIdeal.τ).loc Cert.S5fKernelIdeal.main_arg1)
      ∧ r.2.mem ((c.tc : Thread Cert.S5fKernelIdeal.nD Cert.S5fKernelIdeal.τ).loc Cert.S5fKernelIdeal.main_arg2) = m ((c.tc : Thread Cert.S5fKernelIdeal.nD Cert.S5fKernelIdeal.τ).loc Cert.S5fKernelIdeal.main_arg2)
      ∧ r.2.mem ((c.tc : Thread Cert.S5fKernelIdeal.nD Cert.S5fKernelIdeal.τ).loc Cert.S5fKernelIdeal.main_arg3) = m ((c.tc : Thread Cert.S5fKernelIdeal.nD Cert.S5fKernelIdeal.τ).loc Cert.S5fKernelIdeal.main_arg3)
      ∧ r.2.mem ((c.tc : Thread Cert.S5fKernelIdeal.nD Cert.S5fKernelIdeal.τ).loc Cert.S5fKernelIdeal.main_arg4) = m ((c.tc : Thread Cert.S5fKernelIdeal.nD Cert.S5fKernelIdeal.τ).loc Cert.S5fKernelIdeal.main_arg4)
      ∧ r.2.mem ((c.tc : Thread Cert.S5fKernelIdeal.nD Cert.S5fKernelIdeal.τ).loc Cert.S5fKernelIdeal.main_arg5) = m ((c.tc : Thread Cert.S5fKernelIdeal.nD Cert.S5fKernelIdeal.τ).loc Cert.S5fKernelIdeal.main_arg5)
      ∧ r.2.mem ((c.tc : Thread Cert.S5fKernelIdeal.nD Cert.S5fKernelIdeal.τ).loc Cert.S5fKernelIdeal.main_arg6) = m ((c.tc : Thread Cert.S5fKernelIdeal.nD Cert.S5fKernelIdeal.τ).loc Cert.S5fKernelIdeal.main_arg6)
      ∧ r.2.mem ((c.tc : Thread Cert.S5fKernelIdeal.nD Cert.S5fKernelIdeal.τ).loc Cert.S5fKernelIdeal.main_arg7) = m ((c.tc : Thread Cert.S5fKernelIdeal.nD Cert.S5fKernelIdeal.τ).loc Cert.S5fKernelIdeal.main_arg7)
      ∧ r.2.mem ((c.tc : Thread Cert.S5fKernelIdeal.nD Cert.S5fKernelIdeal.τ).loc Cert.S5fKernelIdeal.main_arg8) = m ((c.tc : Thread Cert.S5fKernelIdeal.nD Cert.S5fKernelIdeal.τ).loc Cert.S5fKernelIdeal.main_arg8))
      ∧ r.2.sem = fun _ => 0)

def quiescent_S5fReferenceIdeal [hS5fReferenceIdeal : Cert.S5fReferenceIdeal.Facts] : Prop :=
  ∀ (m : (ℓ : Loc Cert.S5fReferenceIdeal.nD Cert.S5fReferenceIdeal.τ Cert.S5fReferenceIdeal.sig) → Buf (Elt Ideal) ℓ) (g : Dev Cert.S5fReferenceIdeal.nD → PrngReg), Pre_S5fReferenceIdeal m →
    θ_run (Cert.S5fReferenceIdeal.defs (F := Ideal)) (onTc (τ := Cert.S5fReferenceIdeal.τ) (Cert.S5fReferenceIdeal.main (F := Ideal))) ⟨m, fun _ => 0, g⟩ (fun r => (∀ c : Dev Cert.S5fReferenceIdeal.nD,
      r.2.mem ((c.tc : Thread Cert.S5fReferenceIdeal.nD Cert.S5fReferenceIdeal.τ).loc Cert.S5fReferenceIdeal.main_arg0) = m ((c.tc : Thread Cert.S5fReferenceIdeal.nD Cert.S5fReferenceIdeal.τ).loc Cert.S5fReferenceIdeal.main_arg0)
      ∧ r.2.mem ((c.tc : Thread Cert.S5fReferenceIdeal.nD Cert.S5fReferenceIdeal.τ).loc Cert.S5fReferenceIdeal.main_arg1) = m ((c.tc : Thread Cert.S5fReferenceIdeal.nD Cert.S5fReferenceIdeal.τ).loc Cert.S5fReferenceIdeal.main_arg1)
      ∧ r.2.mem ((c.tc : Thread Cert.S5fReferenceIdeal.nD Cert.S5fReferenceIdeal.τ).loc Cert.S5fReferenceIdeal.main_arg2) = m ((c.tc : Thread Cert.S5fReferenceIdeal.nD Cert.S5fReferenceIdeal.τ).loc Cert.S5fReferenceIdeal.main_arg2)
      ∧ r.2.mem ((c.tc : Thread Cert.S5fReferenceIdeal.nD Cert.S5fReferenceIdeal.τ).loc Cert.S5fReferenceIdeal.main_arg3) = m ((c.tc : Thread Cert.S5fReferenceIdeal.nD Cert.S5fReferenceIdeal.τ).loc Cert.S5fReferenceIdeal.main_arg3)
      ∧ r.2.mem ((c.tc : Thread Cert.S5fReferenceIdeal.nD Cert.S5fReferenceIdeal.τ).loc Cert.S5fReferenceIdeal.main_arg4) = m ((c.tc : Thread Cert.S5fReferenceIdeal.nD Cert.S5fReferenceIdeal.τ).loc Cert.S5fReferenceIdeal.main_arg4)
      ∧ r.2.mem ((c.tc : Thread Cert.S5fReferenceIdeal.nD Cert.S5fReferenceIdeal.τ).loc Cert.S5fReferenceIdeal.main_arg5) = m ((c.tc : Thread Cert.S5fReferenceIdeal.nD Cert.S5fReferenceIdeal.τ).loc Cert.S5fReferenceIdeal.main_arg5)
      ∧ r.2.mem ((c.tc : Thread Cert.S5fReferenceIdeal.nD Cert.S5fReferenceIdeal.τ).loc Cert.S5fReferenceIdeal.main_arg6) = m ((c.tc : Thread Cert.S5fReferenceIdeal.nD Cert.S5fReferenceIdeal.τ).loc Cert.S5fReferenceIdeal.main_arg6)
      ∧ r.2.mem ((c.tc : Thread Cert.S5fReferenceIdeal.nD Cert.S5fReferenceIdeal.τ).loc Cert.S5fReferenceIdeal.main_arg7) = m ((c.tc : Thread Cert.S5fReferenceIdeal.nD Cert.S5fReferenceIdeal.τ).loc Cert.S5fReferenceIdeal.main_arg7)
      ∧ r.2.mem ((c.tc : Thread Cert.S5fReferenceIdeal.nD Cert.S5fReferenceIdeal.τ).loc Cert.S5fReferenceIdeal.main_arg8) = m ((c.tc : Thread Cert.S5fReferenceIdeal.nD Cert.S5fReferenceIdeal.τ).loc Cert.S5fReferenceIdeal.main_arg8))
      ∧ r.2.sem = fun _ => 0)

def quiescent_S5fReferenceIdeal_pre_finite_s5f [hS5fReferenceIdeal : Cert.S5fReferenceIdeal.Facts] [hPre_finite_s5f : Cert.Pre_finite_s5f.Facts] : Prop :=
  ∀ (m : (ℓ : Loc Cert.S5fReferenceIdeal.nD Cert.S5fReferenceIdeal.τ Cert.S5fReferenceIdeal.sig) → Buf (Elt Ideal) ℓ) (g : Dev Cert.S5fReferenceIdeal.nD → PrngReg), Pre_S5fReferenceIdeal_finite_s5f m →
    θ_run (Cert.S5fReferenceIdeal.defs (F := Ideal)) (onTc (τ := Cert.S5fReferenceIdeal.τ) (Cert.S5fReferenceIdeal.main (F := Ideal))) ⟨m, fun _ => 0, g⟩ (fun r => (∀ c : Dev Cert.S5fReferenceIdeal.nD,
      r.2.mem ((c.tc : Thread Cert.S5fReferenceIdeal.nD Cert.S5fReferenceIdeal.τ).loc Cert.S5fReferenceIdeal.main_arg0) = m ((c.tc : Thread Cert.S5fReferenceIdeal.nD Cert.S5fReferenceIdeal.τ).loc Cert.S5fReferenceIdeal.main_arg0)
      ∧ r.2.mem ((c.tc : Thread Cert.S5fReferenceIdeal.nD Cert.S5fReferenceIdeal.τ).loc Cert.S5fReferenceIdeal.main_arg1) = m ((c.tc : Thread Cert.S5fReferenceIdeal.nD Cert.S5fReferenceIdeal.τ).loc Cert.S5fReferenceIdeal.main_arg1)
      ∧ r.2.mem ((c.tc : Thread Cert.S5fReferenceIdeal.nD Cert.S5fReferenceIdeal.τ).loc Cert.S5fReferenceIdeal.main_arg2) = m ((c.tc : Thread Cert.S5fReferenceIdeal.nD Cert.S5fReferenceIdeal.τ).loc Cert.S5fReferenceIdeal.main_arg2)
      ∧ r.2.mem ((c.tc : Thread Cert.S5fReferenceIdeal.nD Cert.S5fReferenceIdeal.τ).loc Cert.S5fReferenceIdeal.main_arg3) = m ((c.tc : Thread Cert.S5fReferenceIdeal.nD Cert.S5fReferenceIdeal.τ).loc Cert.S5fReferenceIdeal.main_arg3)
      ∧ r.2.mem ((c.tc : Thread Cert.S5fReferenceIdeal.nD Cert.S5fReferenceIdeal.τ).loc Cert.S5fReferenceIdeal.main_arg4) = m ((c.tc : Thread Cert.S5fReferenceIdeal.nD Cert.S5fReferenceIdeal.τ).loc Cert.S5fReferenceIdeal.main_arg4)
      ∧ r.2.mem ((c.tc : Thread Cert.S5fReferenceIdeal.nD Cert.S5fReferenceIdeal.τ).loc Cert.S5fReferenceIdeal.main_arg5) = m ((c.tc : Thread Cert.S5fReferenceIdeal.nD Cert.S5fReferenceIdeal.τ).loc Cert.S5fReferenceIdeal.main_arg5)
      ∧ r.2.mem ((c.tc : Thread Cert.S5fReferenceIdeal.nD Cert.S5fReferenceIdeal.τ).loc Cert.S5fReferenceIdeal.main_arg6) = m ((c.tc : Thread Cert.S5fReferenceIdeal.nD Cert.S5fReferenceIdeal.τ).loc Cert.S5fReferenceIdeal.main_arg6)
      ∧ r.2.mem ((c.tc : Thread Cert.S5fReferenceIdeal.nD Cert.S5fReferenceIdeal.τ).loc Cert.S5fReferenceIdeal.main_arg7) = m ((c.tc : Thread Cert.S5fReferenceIdeal.nD Cert.S5fReferenceIdeal.τ).loc Cert.S5fReferenceIdeal.main_arg7)
      ∧ r.2.mem ((c.tc : Thread Cert.S5fReferenceIdeal.nD Cert.S5fReferenceIdeal.τ).loc Cert.S5fReferenceIdeal.main_arg8) = m ((c.tc : Thread Cert.S5fReferenceIdeal.nD Cert.S5fReferenceIdeal.τ).loc Cert.S5fReferenceIdeal.main_arg8))
      ∧ r.2.sem = fun _ => 0)

def quiescent_NlfKernel [hNlfKernel : Cert.NlfKernel.Facts] : Prop :=
  ∀ (m : (ℓ : Loc Cert.NlfKernel.nD Cert.NlfKernel.τ Cert.NlfKernel.sig) → Buf (Elt Bits) ℓ) (g : Dev Cert.NlfKernel.nD → PrngReg), Pre_NlfKernel m →
    θ_run (Cert.NlfKernel.defs (F := Bits)) (onTc (τ := Cert.NlfKernel.τ) (Cert.NlfKernel.main (F := Bits))) ⟨m, fun _ => 0, g⟩ (fun r => (∀ c : Dev Cert.NlfKernel.nD,
      r.2.mem ((c.tc : Thread Cert.NlfKernel.nD Cert.NlfKernel.τ).loc Cert.NlfKernel.main_arg0) = m ((c.tc : Thread Cert.NlfKernel.nD Cert.NlfKernel.τ).loc Cert.NlfKernel.main_arg0)
      ∧ r.2.mem ((c.tc : Thread Cert.NlfKernel.nD Cert.NlfKernel.τ).loc Cert.NlfKernel.main_arg1) = m ((c.tc : Thread Cert.NlfKernel.nD Cert.NlfKernel.τ).loc Cert.NlfKernel.main_arg1)
      ∧ r.2.mem ((c.tc : Thread Cert.NlfKernel.nD Cert.NlfKernel.τ).loc Cert.NlfKernel.main_arg2) = m ((c.tc : Thread Cert.NlfKernel.nD Cert.NlfKernel.τ).loc Cert.NlfKernel.main_arg2))
      ∧ r.2.sem = fun _ => 0)

def quiescent_NlfKernelIdeal [hNlfKernelIdeal : Cert.NlfKernelIdeal.Facts] : Prop :=
  ∀ (m : (ℓ : Loc Cert.NlfKernelIdeal.nD Cert.NlfKernelIdeal.τ Cert.NlfKernelIdeal.sig) → Buf (Elt Ideal) ℓ) (g : Dev Cert.NlfKernelIdeal.nD → PrngReg), Pre_NlfKernelIdeal m →
    θ_run (Cert.NlfKernelIdeal.defs (F := Ideal)) (onTc (τ := Cert.NlfKernelIdeal.τ) (Cert.NlfKernelIdeal.main (F := Ideal))) ⟨m, fun _ => 0, g⟩ (fun r => (∀ c : Dev Cert.NlfKernelIdeal.nD,
      r.2.mem ((c.tc : Thread Cert.NlfKernelIdeal.nD Cert.NlfKernelIdeal.τ).loc Cert.NlfKernelIdeal.main_arg0) = m ((c.tc : Thread Cert.NlfKernelIdeal.nD Cert.NlfKernelIdeal.τ).loc Cert.NlfKernelIdeal.main_arg0)
      ∧ r.2.mem ((c.tc : Thread Cert.NlfKernelIdeal.nD Cert.NlfKernelIdeal.τ).loc Cert.NlfKernelIdeal.main_arg1) = m ((c.tc : Thread Cert.NlfKernelIdeal.nD Cert.NlfKernelIdeal.τ).loc Cert.NlfKernelIdeal.main_arg1)
      ∧ r.2.mem ((c.tc : Thread Cert.NlfKernelIdeal.nD Cert.NlfKernelIdeal.τ).loc Cert.NlfKernelIdeal.main_arg2) = m ((c.tc : Thread Cert.NlfKernelIdeal.nD Cert.NlfKernelIdeal.τ).loc Cert.NlfKernelIdeal.main_arg2))
      ∧ r.2.sem = fun _ => 0)

def quiescent_NlfReferenceIdeal [hNlfReferenceIdeal : Cert.NlfReferenceIdeal.Facts] : Prop :=
  ∀ (m : (ℓ : Loc Cert.NlfReferenceIdeal.nD Cert.NlfReferenceIdeal.τ Cert.NlfReferenceIdeal.sig) → Buf (Elt Ideal) ℓ) (g : Dev Cert.NlfReferenceIdeal.nD → PrngReg), Pre_NlfReferenceIdeal m →
    θ_run (Cert.NlfReferenceIdeal.defs (F := Ideal)) (onTc (τ := Cert.NlfReferenceIdeal.τ) (Cert.NlfReferenceIdeal.main (F := Ideal))) ⟨m, fun _ => 0, g⟩ (fun r => (∀ c : Dev Cert.NlfReferenceIdeal.nD,
      r.2.mem ((c.tc : Thread Cert.NlfReferenceIdeal.nD Cert.NlfReferenceIdeal.τ).loc Cert.NlfReferenceIdeal.main_arg0) = m ((c.tc : Thread Cert.NlfReferenceIdeal.nD Cert.NlfReferenceIdeal.τ).loc Cert.NlfReferenceIdeal.main_arg0)
      ∧ r.2.mem ((c.tc : Thread Cert.NlfReferenceIdeal.nD Cert.NlfReferenceIdeal.τ).loc Cert.NlfReferenceIdeal.main_arg1) = m ((c.tc : Thread Cert.NlfReferenceIdeal.nD Cert.NlfReferenceIdeal.τ).loc Cert.NlfReferenceIdeal.main_arg1)
      ∧ r.2.mem ((c.tc : Thread Cert.NlfReferenceIdeal.nD Cert.NlfReferenceIdeal.τ).loc Cert.NlfReferenceIdeal.main_arg2) = m ((c.tc : Thread Cert.NlfReferenceIdeal.nD Cert.NlfReferenceIdeal.τ).loc Cert.NlfReferenceIdeal.main_arg2))
      ∧ r.2.sem = fun _ => 0)

def quiescent_LinfKernel [hLinfKernel : Cert.LinfKernel.Facts] : Prop :=
  ∀ (m : (ℓ : Loc Cert.LinfKernel.nD Cert.LinfKernel.τ Cert.LinfKernel.sig) → Buf (Elt Bits) ℓ) (g : Dev Cert.LinfKernel.nD → PrngReg), Pre_LinfKernel m →
    θ_run (Cert.LinfKernel.defs (F := Bits)) (onTc (τ := Cert.LinfKernel.τ) (Cert.LinfKernel.main (F := Bits))) ⟨m, fun _ => 0, g⟩ (fun r => (∀ c : Dev Cert.LinfKernel.nD,
      r.2.mem ((c.tc : Thread Cert.LinfKernel.nD Cert.LinfKernel.τ).loc Cert.LinfKernel.main_arg0) = m ((c.tc : Thread Cert.LinfKernel.nD Cert.LinfKernel.τ).loc Cert.LinfKernel.main_arg0)
      ∧ r.2.mem ((c.tc : Thread Cert.LinfKernel.nD Cert.LinfKernel.τ).loc Cert.LinfKernel.main_arg1) = m ((c.tc : Thread Cert.LinfKernel.nD Cert.LinfKernel.τ).loc Cert.LinfKernel.main_arg1)
      ∧ r.2.mem ((c.tc : Thread Cert.LinfKernel.nD Cert.LinfKernel.τ).loc Cert.LinfKernel.main_arg2) = m ((c.tc : Thread Cert.LinfKernel.nD Cert.LinfKernel.τ).loc Cert.LinfKernel.main_arg2))
      ∧ r.2.sem = fun _ => 0)

def quiescent_LinfKernelIdeal [hLinfKernelIdeal : Cert.LinfKernelIdeal.Facts] : Prop :=
  ∀ (m : (ℓ : Loc Cert.LinfKernelIdeal.nD Cert.LinfKernelIdeal.τ Cert.LinfKernelIdeal.sig) → Buf (Elt Ideal) ℓ) (g : Dev Cert.LinfKernelIdeal.nD → PrngReg), Pre_LinfKernelIdeal m →
    θ_run (Cert.LinfKernelIdeal.defs (F := Ideal)) (onTc (τ := Cert.LinfKernelIdeal.τ) (Cert.LinfKernelIdeal.main (F := Ideal))) ⟨m, fun _ => 0, g⟩ (fun r => (∀ c : Dev Cert.LinfKernelIdeal.nD,
      r.2.mem ((c.tc : Thread Cert.LinfKernelIdeal.nD Cert.LinfKernelIdeal.τ).loc Cert.LinfKernelIdeal.main_arg0) = m ((c.tc : Thread Cert.LinfKernelIdeal.nD Cert.LinfKernelIdeal.τ).loc Cert.LinfKernelIdeal.main_arg0)
      ∧ r.2.mem ((c.tc : Thread Cert.LinfKernelIdeal.nD Cert.LinfKernelIdeal.τ).loc Cert.LinfKernelIdeal.main_arg1) = m ((c.tc : Thread Cert.LinfKernelIdeal.nD Cert.LinfKernelIdeal.τ).loc Cert.LinfKernelIdeal.main_arg1)
      ∧ r.2.mem ((c.tc : Thread Cert.LinfKernelIdeal.nD Cert.LinfKernelIdeal.τ).loc Cert.LinfKernelIdeal.main_arg2) = m ((c.tc : Thread Cert.LinfKernelIdeal.nD Cert.LinfKernelIdeal.τ).loc Cert.LinfKernelIdeal.main_arg2))
      ∧ r.2.sem = fun _ => 0)

def quiescent_LinfReferenceIdeal [hLinfReferenceIdeal : Cert.LinfReferenceIdeal.Facts] : Prop :=
  ∀ (m : (ℓ : Loc Cert.LinfReferenceIdeal.nD Cert.LinfReferenceIdeal.τ Cert.LinfReferenceIdeal.sig) → Buf (Elt Ideal) ℓ) (g : Dev Cert.LinfReferenceIdeal.nD → PrngReg), Pre_LinfReferenceIdeal m →
    θ_run (Cert.LinfReferenceIdeal.defs (F := Ideal)) (onTc (τ := Cert.LinfReferenceIdeal.τ) (Cert.LinfReferenceIdeal.main (F := Ideal))) ⟨m, fun _ => 0, g⟩ (fun r => (∀ c : Dev Cert.LinfReferenceIdeal.nD,
      r.2.mem ((c.tc : Thread Cert.LinfReferenceIdeal.nD Cert.LinfReferenceIdeal.τ).loc Cert.LinfReferenceIdeal.main_arg0) = m ((c.tc : Thread Cert.LinfReferenceIdeal.nD Cert.LinfReferenceIdeal.τ).loc Cert.LinfReferenceIdeal.main_arg0)
      ∧ r.2.mem ((c.tc : Thread Cert.LinfReferenceIdeal.nD Cert.LinfReferenceIdeal.τ).loc Cert.LinfReferenceIdeal.main_arg1) = m ((c.tc : Thread Cert.LinfReferenceIdeal.nD Cert.LinfReferenceIdeal.τ).loc Cert.LinfReferenceIdeal.main_arg1)
      ∧ r.2.mem ((c.tc : Thread Cert.LinfReferenceIdeal.nD Cert.LinfReferenceIdeal.τ).loc Cert.LinfReferenceIdeal.main_arg2) = m ((c.tc : Thread Cert.LinfReferenceIdeal.nD Cert.LinfReferenceIdeal.τ).loc Cert.LinfReferenceIdeal.main_arg2))
      ∧ r.2.sem = fun _ => 0)

def quiescent_LinKernel [hLinKernel : Cert.LinKernel.Facts] : Prop :=
  ∀ (m : (ℓ : Loc Cert.LinKernel.nD Cert.LinKernel.τ Cert.LinKernel.sig) → Buf (Elt Bits) ℓ) (g : Dev Cert.LinKernel.nD → PrngReg), Pre_LinKernel m →
    θ_run (Cert.LinKernel.defs (F := Bits)) (onTc (τ := Cert.LinKernel.τ) (Cert.LinKernel.main (F := Bits))) ⟨m, fun _ => 0, g⟩ (fun r => (∀ c : Dev Cert.LinKernel.nD,
      r.2.mem ((c.tc : Thread Cert.LinKernel.nD Cert.LinKernel.τ).loc Cert.LinKernel.main_arg0) = m ((c.tc : Thread Cert.LinKernel.nD Cert.LinKernel.τ).loc Cert.LinKernel.main_arg0)
      ∧ r.2.mem ((c.tc : Thread Cert.LinKernel.nD Cert.LinKernel.τ).loc Cert.LinKernel.main_arg1) = m ((c.tc : Thread Cert.LinKernel.nD Cert.LinKernel.τ).loc Cert.LinKernel.main_arg1)
      ∧ r.2.mem ((c.tc : Thread Cert.LinKernel.nD Cert.LinKernel.τ).loc Cert.LinKernel.main_arg2) = m ((c.tc : Thread Cert.LinKernel.nD Cert.LinKernel.τ).loc Cert.LinKernel.main_arg2)
      ∧ r.2.mem ((c.tc : Thread Cert.LinKernel.nD Cert.LinKernel.τ).loc Cert.LinKernel.main_arg3) = m ((c.tc : Thread Cert.LinKernel.nD Cert.LinKernel.τ).loc Cert.LinKernel.main_arg3))
      ∧ r.2.sem = fun _ => 0)

def quiescent_LinKernelIdeal [hLinKernelIdeal : Cert.LinKernelIdeal.Facts] : Prop :=
  ∀ (m : (ℓ : Loc Cert.LinKernelIdeal.nD Cert.LinKernelIdeal.τ Cert.LinKernelIdeal.sig) → Buf (Elt Ideal) ℓ) (g : Dev Cert.LinKernelIdeal.nD → PrngReg), Pre_LinKernelIdeal m →
    θ_run (Cert.LinKernelIdeal.defs (F := Ideal)) (onTc (τ := Cert.LinKernelIdeal.τ) (Cert.LinKernelIdeal.main (F := Ideal))) ⟨m, fun _ => 0, g⟩ (fun r => (∀ c : Dev Cert.LinKernelIdeal.nD,
      r.2.mem ((c.tc : Thread Cert.LinKernelIdeal.nD Cert.LinKernelIdeal.τ).loc Cert.LinKernelIdeal.main_arg0) = m ((c.tc : Thread Cert.LinKernelIdeal.nD Cert.LinKernelIdeal.τ).loc Cert.LinKernelIdeal.main_arg0)
      ∧ r.2.mem ((c.tc : Thread Cert.LinKernelIdeal.nD Cert.LinKernelIdeal.τ).loc Cert.LinKernelIdeal.main_arg1) = m ((c.tc : Thread Cert.LinKernelIdeal.nD Cert.LinKernelIdeal.τ).loc Cert.LinKernelIdeal.main_arg1)
      ∧ r.2.mem ((c.tc : Thread Cert.LinKernelIdeal.nD Cert.LinKernelIdeal.τ).loc Cert.LinKernelIdeal.main_arg2) = m ((c.tc : Thread Cert.LinKernelIdeal.nD Cert.LinKernelIdeal.τ).loc Cert.LinKernelIdeal.main_arg2)
      ∧ r.2.mem ((c.tc : Thread Cert.LinKernelIdeal.nD Cert.LinKernelIdeal.τ).loc Cert.LinKernelIdeal.main_arg3) = m ((c.tc : Thread Cert.LinKernelIdeal.nD Cert.LinKernelIdeal.τ).loc Cert.LinKernelIdeal.main_arg3))
      ∧ r.2.sem = fun _ => 0)

def quiescent_LinReferenceIdeal [hLinReferenceIdeal : Cert.LinReferenceIdeal.Facts] : Prop :=
  ∀ (m : (ℓ : Loc Cert.LinReferenceIdeal.nD Cert.LinReferenceIdeal.τ Cert.LinReferenceIdeal.sig) → Buf (Elt Ideal) ℓ) (g : Dev Cert.LinReferenceIdeal.nD → PrngReg), Pre_LinReferenceIdeal m →
    θ_run (Cert.LinReferenceIdeal.defs (F := Ideal)) (onTc (τ := Cert.LinReferenceIdeal.τ) (Cert.LinReferenceIdeal.main (F := Ideal))) ⟨m, fun _ => 0, g⟩ (fun r => (∀ c : Dev Cert.LinReferenceIdeal.nD,
      r.2.mem ((c.tc : Thread Cert.LinReferenceIdeal.nD Cert.LinReferenceIdeal.τ).loc Cert.LinReferenceIdeal.main_arg0) = m ((c.tc : Thread Cert.LinReferenceIdeal.nD Cert.LinReferenceIdeal.τ).loc Cert.LinReferenceIdeal.main_arg0)
      ∧ r.2.mem ((c.tc : Thread Cert.LinReferenceIdeal.nD Cert.LinReferenceIdeal.τ).loc Cert.LinReferenceIdeal.main_arg1) = m ((c.tc : Thread Cert.LinReferenceIdeal.nD Cert.LinReferenceIdeal.τ).loc Cert.LinReferenceIdeal.main_arg1)
      ∧ r.2.mem ((c.tc : Thread Cert.LinReferenceIdeal.nD Cert.LinReferenceIdeal.τ).loc Cert.LinReferenceIdeal.main_arg2) = m ((c.tc : Thread Cert.LinReferenceIdeal.nD Cert.LinReferenceIdeal.τ).loc Cert.LinReferenceIdeal.main_arg2)
      ∧ r.2.mem ((c.tc : Thread Cert.LinReferenceIdeal.nD Cert.LinReferenceIdeal.τ).loc Cert.LinReferenceIdeal.main_arg3) = m ((c.tc : Thread Cert.LinReferenceIdeal.nD Cert.LinReferenceIdeal.τ).loc Cert.LinReferenceIdeal.main_arg3))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_OpsfKernel [hOpsfKernel : Cert.OpsfKernel.Facts] : Prop :=
  ∀ (m : (ℓ : Loc Cert.OpsfKernel.nD Cert.OpsfKernel.τ Cert.OpsfKernel.sig) → Buf (Elt Bits) ℓ) (g : Dev Cert.OpsfKernel.nD → PrngReg), Pre_OpsfKernel m →
    θ_run (Cert.OpsfKernel.defs (F := Bits)) (onTc (τ := Cert.OpsfKernel.τ) (Cert.OpsfKernel.main (F := Bits))) ⟨m, fun _ => 0, g⟩ (fun r => (∀ c : Dev Cert.OpsfKernel.nD,
      r.2.mem ((c.tc : Thread Cert.OpsfKernel.nD Cert.OpsfKernel.τ).loc Cert.OpsfKernel.main_arg0) = m ((c.tc : Thread Cert.OpsfKernel.nD Cert.OpsfKernel.τ).loc Cert.OpsfKernel.main_arg0)
      ∧ r.2.mem ((c.tc : Thread Cert.OpsfKernel.nD Cert.OpsfKernel.τ).loc Cert.OpsfKernel.main_arg1) = m ((c.tc : Thread Cert.OpsfKernel.nD Cert.OpsfKernel.τ).loc Cert.OpsfKernel.main_arg1)
      ∧ r.2.mem ((c.tc : Thread Cert.OpsfKernel.nD Cert.OpsfKernel.τ).loc Cert.OpsfKernel.main_arg2) = m ((c.tc : Thread Cert.OpsfKernel.nD Cert.OpsfKernel.τ).loc Cert.OpsfKernel.main_arg2)
      ∧ r.2.mem ((c.tc : Thread Cert.OpsfKernel.nD Cert.OpsfKernel.τ).loc Cert.OpsfKernel.main_arg3) = m ((c.tc : Thread Cert.OpsfKernel.nD Cert.OpsfKernel.τ).loc Cert.OpsfKernel.main_arg3)
      ∧ r.2.mem ((c.tc : Thread Cert.OpsfKernel.nD Cert.OpsfKernel.τ).loc Cert.OpsfKernel.main_arg4) = m ((c.tc : Thread Cert.OpsfKernel.nD Cert.OpsfKernel.τ).loc Cert.OpsfKernel.main_arg4))
      ∧ r.2.sem = fun _ => 0)

def quiescent_OpsfKernelIdeal [hOpsfKernelIdeal : Cert.OpsfKernelIdeal.Facts] : Prop :=
  ∀ (m : (ℓ : Loc Cert.OpsfKernelIdeal.nD Cert.OpsfKernelIdeal.τ Cert.OpsfKernelIdeal.sig) → Buf (Elt Ideal) ℓ) (g : Dev Cert.OpsfKernelIdeal.nD → PrngReg), Pre_OpsfKernelIdeal m →
    θ_run (Cert.OpsfKernelIdeal.defs (F := Ideal)) (onTc (τ := Cert.OpsfKernelIdeal.τ) (Cert.OpsfKernelIdeal.main (F := Ideal))) ⟨m, fun _ => 0, g⟩ (fun r => (∀ c : Dev Cert.OpsfKernelIdeal.nD,
      r.2.mem ((c.tc : Thread Cert.OpsfKernelIdeal.nD Cert.OpsfKernelIdeal.τ).loc Cert.OpsfKernelIdeal.main_arg0) = m ((c.tc : Thread Cert.OpsfKernelIdeal.nD Cert.OpsfKernelIdeal.τ).loc Cert.OpsfKernelIdeal.main_arg0)
      ∧ r.2.mem ((c.tc : Thread Cert.OpsfKernelIdeal.nD Cert.OpsfKernelIdeal.τ).loc Cert.OpsfKernelIdeal.main_arg1) = m ((c.tc : Thread Cert.OpsfKernelIdeal.nD Cert.OpsfKernelIdeal.τ).loc Cert.OpsfKernelIdeal.main_arg1)
      ∧ r.2.mem ((c.tc : Thread Cert.OpsfKernelIdeal.nD Cert.OpsfKernelIdeal.τ).loc Cert.OpsfKernelIdeal.main_arg2) = m ((c.tc : Thread Cert.OpsfKernelIdeal.nD Cert.OpsfKernelIdeal.τ).loc Cert.OpsfKernelIdeal.main_arg2)
      ∧ r.2.mem ((c.tc : Thread Cert.OpsfKernelIdeal.nD Cert.OpsfKernelIdeal.τ).loc Cert.OpsfKernelIdeal.main_arg3) = m ((c.tc : Thread Cert.OpsfKernelIdeal.nD Cert.OpsfKernelIdeal.τ).loc Cert.OpsfKernelIdeal.main_arg3)
      ∧ r.2.mem ((c.tc : Thread Cert.OpsfKernelIdeal.nD Cert.OpsfKernelIdeal.τ).loc Cert.OpsfKernelIdeal.main_arg4) = m ((c.tc : Thread Cert.OpsfKernelIdeal.nD Cert.OpsfKernelIdeal.τ).loc Cert.OpsfKernelIdeal.main_arg4))
      ∧ r.2.sem = fun _ => 0)

def quiescent_OpsfKernelIdeal_pre_finite_opsf [hOpsfKernelIdeal : Cert.OpsfKernelIdeal.Facts] [hPre_finite_opsf : Cert.Pre_finite_opsf.Facts] : Prop :=
  ∀ (m : (ℓ : Loc Cert.OpsfKernelIdeal.nD Cert.OpsfKernelIdeal.τ Cert.OpsfKernelIdeal.sig) → Buf (Elt Ideal) ℓ) (g : Dev Cert.OpsfKernelIdeal.nD → PrngReg), Pre_OpsfKernelIdeal_finite_opsf m →
    θ_run (Cert.OpsfKernelIdeal.defs (F := Ideal)) (onTc (τ := Cert.OpsfKernelIdeal.τ) (Cert.OpsfKernelIdeal.main (F := Ideal))) ⟨m, fun _ => 0, g⟩ (fun r => (∀ c : Dev Cert.OpsfKernelIdeal.nD,
      r.2.mem ((c.tc : Thread Cert.OpsfKernelIdeal.nD Cert.OpsfKernelIdeal.τ).loc Cert.OpsfKernelIdeal.main_arg0) = m ((c.tc : Thread Cert.OpsfKernelIdeal.nD Cert.OpsfKernelIdeal.τ).loc Cert.OpsfKernelIdeal.main_arg0)
      ∧ r.2.mem ((c.tc : Thread Cert.OpsfKernelIdeal.nD Cert.OpsfKernelIdeal.τ).loc Cert.OpsfKernelIdeal.main_arg1) = m ((c.tc : Thread Cert.OpsfKernelIdeal.nD Cert.OpsfKernelIdeal.τ).loc Cert.OpsfKernelIdeal.main_arg1)
      ∧ r.2.mem ((c.tc : Thread Cert.OpsfKernelIdeal.nD Cert.OpsfKernelIdeal.τ).loc Cert.OpsfKernelIdeal.main_arg2) = m ((c.tc : Thread Cert.OpsfKernelIdeal.nD Cert.OpsfKernelIdeal.τ).loc Cert.OpsfKernelIdeal.main_arg2)
      ∧ r.2.mem ((c.tc : Thread Cert.OpsfKernelIdeal.nD Cert.OpsfKernelIdeal.τ).loc Cert.OpsfKernelIdeal.main_arg3) = m ((c.tc : Thread Cert.OpsfKernelIdeal.nD Cert.OpsfKernelIdeal.τ).loc Cert.OpsfKernelIdeal.main_arg3)
      ∧ r.2.mem ((c.tc : Thread Cert.OpsfKernelIdeal.nD Cert.OpsfKernelIdeal.τ).loc Cert.OpsfKernelIdeal.main_arg4) = m ((c.tc : Thread Cert.OpsfKernelIdeal.nD Cert.OpsfKernelIdeal.τ).loc Cert.OpsfKernelIdeal.main_arg4))
      ∧ r.2.sem = fun _ => 0)

def quiescent_OpsfReferenceIdeal [hOpsfReferenceIdeal : Cert.OpsfReferenceIdeal.Facts] : Prop :=
  ∀ (m : (ℓ : Loc Cert.OpsfReferenceIdeal.nD Cert.OpsfReferenceIdeal.τ Cert.OpsfReferenceIdeal.sig) → Buf (Elt Ideal) ℓ) (g : Dev Cert.OpsfReferenceIdeal.nD → PrngReg), Pre_OpsfReferenceIdeal m →
    θ_run (Cert.OpsfReferenceIdeal.defs (F := Ideal)) (onTc (τ := Cert.OpsfReferenceIdeal.τ) (Cert.OpsfReferenceIdeal.main (F := Ideal))) ⟨m, fun _ => 0, g⟩ (fun r => (∀ c : Dev Cert.OpsfReferenceIdeal.nD,
      r.2.mem ((c.tc : Thread Cert.OpsfReferenceIdeal.nD Cert.OpsfReferenceIdeal.τ).loc Cert.OpsfReferenceIdeal.main_arg0) = m ((c.tc : Thread Cert.OpsfReferenceIdeal.nD Cert.OpsfReferenceIdeal.τ).loc Cert.OpsfReferenceIdeal.main_arg0)
      ∧ r.2.mem ((c.tc : Thread Cert.OpsfReferenceIdeal.nD Cert.OpsfReferenceIdeal.τ).loc Cert.OpsfReferenceIdeal.main_arg1) = m ((c.tc : Thread Cert.OpsfReferenceIdeal.nD Cert.OpsfReferenceIdeal.τ).loc Cert.OpsfReferenceIdeal.main_arg1)
      ∧ r.2.mem ((c.tc : Thread Cert.OpsfReferenceIdeal.nD Cert.OpsfReferenceIdeal.τ).loc Cert.OpsfReferenceIdeal.main_arg2) = m ((c.tc : Thread Cert.OpsfReferenceIdeal.nD Cert.OpsfReferenceIdeal.τ).loc Cert.OpsfReferenceIdeal.main_arg2)
      ∧ r.2.mem ((c.tc : Thread Cert.OpsfReferenceIdeal.nD Cert.OpsfReferenceIdeal.τ).loc Cert.OpsfReferenceIdeal.main_arg3) = m ((c.tc : Thread Cert.OpsfReferenceIdeal.nD Cert.OpsfReferenceIdeal.τ).loc Cert.OpsfReferenceIdeal.main_arg3)
      ∧ r.2.mem ((c.tc : Thread Cert.OpsfReferenceIdeal.nD Cert.OpsfReferenceIdeal.τ).loc Cert.OpsfReferenceIdeal.main_arg4) = m ((c.tc : Thread Cert.OpsfReferenceIdeal.nD Cert.OpsfReferenceIdeal.τ).loc Cert.OpsfReferenceIdeal.main_arg4))
      ∧ r.2.sem = fun _ => 0)

def quiescent_OpsfReferenceIdeal_pre_finite_opsf [hOpsfReferenceIdeal : Cert.OpsfReferenceIdeal.Facts] [hPre_finite_opsf : Cert.Pre_finite_opsf.Facts] : Prop :=
  ∀ (m : (ℓ : Loc Cert.OpsfReferenceIdeal.nD Cert.OpsfReferenceIdeal.τ Cert.OpsfReferenceIdeal.sig) → Buf (Elt Ideal) ℓ) (g : Dev Cert.OpsfReferenceIdeal.nD → PrngReg), Pre_OpsfReferenceIdeal_finite_opsf m →
    θ_run (Cert.OpsfReferenceIdeal.defs (F := Ideal)) (onTc (τ := Cert.OpsfReferenceIdeal.τ) (Cert.OpsfReferenceIdeal.main (F := Ideal))) ⟨m, fun _ => 0, g⟩ (fun r => (∀ c : Dev Cert.OpsfReferenceIdeal.nD,
      r.2.mem ((c.tc : Thread Cert.OpsfReferenceIdeal.nD Cert.OpsfReferenceIdeal.τ).loc Cert.OpsfReferenceIdeal.main_arg0) = m ((c.tc : Thread Cert.OpsfReferenceIdeal.nD Cert.OpsfReferenceIdeal.τ).loc Cert.OpsfReferenceIdeal.main_arg0)
      ∧ r.2.mem ((c.tc : Thread Cert.OpsfReferenceIdeal.nD Cert.OpsfReferenceIdeal.τ).loc Cert.OpsfReferenceIdeal.main_arg1) = m ((c.tc : Thread Cert.OpsfReferenceIdeal.nD Cert.OpsfReferenceIdeal.τ).loc Cert.OpsfReferenceIdeal.main_arg1)
      ∧ r.2.mem ((c.tc : Thread Cert.OpsfReferenceIdeal.nD Cert.OpsfReferenceIdeal.τ).loc Cert.OpsfReferenceIdeal.main_arg2) = m ((c.tc : Thread Cert.OpsfReferenceIdeal.nD Cert.OpsfReferenceIdeal.τ).loc Cert.OpsfReferenceIdeal.main_arg2)
      ∧ r.2.mem ((c.tc : Thread Cert.OpsfReferenceIdeal.nD Cert.OpsfReferenceIdeal.τ).loc Cert.OpsfReferenceIdeal.main_arg3) = m ((c.tc : Thread Cert.OpsfReferenceIdeal.nD Cert.OpsfReferenceIdeal.τ).loc Cert.OpsfReferenceIdeal.main_arg3)
      ∧ r.2.mem ((c.tc : Thread Cert.OpsfReferenceIdeal.nD Cert.OpsfReferenceIdeal.τ).loc Cert.OpsfReferenceIdeal.main_arg4) = m ((c.tc : Thread Cert.OpsfReferenceIdeal.nD Cert.OpsfReferenceIdeal.τ).loc Cert.OpsfReferenceIdeal.main_arg4))
      ∧ r.2.sem = fun _ => 0)

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v38) = v0 c
          ∧ r.2.mem ((c.tc : Thread Cert.NormReferenceIdeal.nD Cert.NormReferenceIdeal.τ).loc Cert.NormReferenceIdeal.main_v39) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_OpsKernel_OpsKernelIdeal : Prop :=
  True

def algebraic_OpsKernelIdeal_OpsReferenceIdeal_pre_finite_ops [hOpsKernelIdeal : Cert.OpsKernelIdeal.Facts] [hOpsReferenceIdeal : Cert.OpsReferenceIdeal.Facts] [hPre_finite_ops : Cert.Pre_finite_ops.Facts] : Prop :=
  ∀ (m : (ℓ : Loc Cert.OpsKernelIdeal.nD Cert.OpsKernelIdeal.τ Cert.OpsKernelIdeal.sig) → Buf (Elt Ideal) ℓ) (g : Dev Cert.OpsKernelIdeal.nD → PrngReg)
    (m' : (ℓ : Loc Cert.OpsReferenceIdeal.nD Cert.OpsReferenceIdeal.τ Cert.OpsReferenceIdeal.sig) → Buf (Elt Ideal) ℓ) (g' : Dev Cert.OpsReferenceIdeal.nD → PrngReg), Pre_OpsKernelIdeal_finite_ops m →
    (∀ c : Dev Cert.OpsKernelIdeal.nD,
      m' ((c.tc : Thread Cert.OpsReferenceIdeal.nD Cert.OpsReferenceIdeal.τ).loc Cert.OpsReferenceIdeal.main_arg0) = m ((c.tc : Thread Cert.OpsKernelIdeal.nD Cert.OpsKernelIdeal.τ).loc Cert.OpsKernelIdeal.main_arg0)
      ∧ m' ((c.tc : Thread Cert.OpsReferenceIdeal.nD Cert.OpsReferenceIdeal.τ).loc Cert.OpsReferenceIdeal.main_arg1) = m ((c.tc : Thread Cert.OpsKernelIdeal.nD Cert.OpsKernelIdeal.τ).loc Cert.OpsKernelIdeal.main_arg1)
      ∧ m' ((c.tc : Thread Cert.OpsReferenceIdeal.nD Cert.OpsReferenceIdeal.τ).loc Cert.OpsReferenceIdeal.main_arg2) = m ((c.tc : Thread Cert.OpsKernelIdeal.nD Cert.OpsKernelIdeal.τ).loc Cert.OpsKernelIdeal.main_arg2)
      ∧ m' ((c.tc : Thread Cert.OpsReferenceIdeal.nD Cert.OpsReferenceIdeal.τ).loc Cert.OpsReferenceIdeal.main_arg3) = m ((c.tc : Thread Cert.OpsKernelIdeal.nD Cert.OpsKernelIdeal.τ).loc Cert.OpsKernelIdeal.main_arg3)
      ∧ m' ((c.tc : Thread Cert.OpsReferenceIdeal.nD Cert.OpsReferenceIdeal.τ).loc Cert.OpsReferenceIdeal.main_arg4) = m ((c.tc : Thread Cert.OpsKernelIdeal.nD Cert.OpsKernelIdeal.τ).loc Cert.OpsKernelIdeal.main_arg4)
      ∧ m' ((c.tc : Thread Cert.OpsReferenceIdeal.nD Cert.OpsReferenceIdeal.τ).loc Cert.OpsReferenceIdeal.main_arg5) = m ((c.tc : Thread Cert.OpsKernelIdeal.nD Cert.OpsKernelIdeal.τ).loc Cert.OpsKernelIdeal.main_arg5)
      ∧ m' ((c.tc : Thread Cert.OpsReferenceIdeal.nD Cert.OpsReferenceIdeal.τ).loc Cert.OpsReferenceIdeal.main_arg6) = m ((c.tc : Thread Cert.OpsKernelIdeal.nD Cert.OpsKernelIdeal.τ).loc Cert.OpsKernelIdeal.main_arg6)
      ∧ m' ((c.tc : Thread Cert.OpsReferenceIdeal.nD Cert.OpsReferenceIdeal.τ).loc Cert.OpsReferenceIdeal.main_arg7) = m ((c.tc : Thread Cert.OpsKernelIdeal.nD Cert.OpsKernelIdeal.τ).loc Cert.OpsKernelIdeal.main_arg7)
      ∧ m' ((c.tc : Thread Cert.OpsReferenceIdeal.nD Cert.OpsReferenceIdeal.τ).loc Cert.OpsReferenceIdeal.main_arg8) = m ((c.tc : Thread Cert.OpsKernelIdeal.nD Cert.OpsKernelIdeal.τ).loc Cert.OpsKernelIdeal.main_arg8)
      ∧ m' ((c.tc : Thread Cert.OpsReferenceIdeal.nD Cert.OpsReferenceIdeal.τ).loc Cert.OpsReferenceIdeal.main_arg9) = m ((c.tc : Thread Cert.OpsKernelIdeal.nD Cert.OpsKernelIdeal.τ).loc Cert.OpsKernelIdeal.main_arg9)
      ∧ m' ((c.tc : Thread Cert.OpsReferenceIdeal.nD Cert.OpsReferenceIdeal.τ).loc Cert.OpsReferenceIdeal.main_arg10) = m ((c.tc : Thread Cert.OpsKernelIdeal.nD Cert.OpsKernelIdeal.τ).loc Cert.OpsKernelIdeal.main_arg10)) →
    ∃ (v0 : (c : Dev Cert.OpsKernelIdeal.nD) → Buf (Elt Ideal) ((c.tc : Thread Cert.OpsKernelIdeal.nD Cert.OpsKernelIdeal.τ).loc Cert.OpsKernelIdeal.main_v90)) (v1 : (c : Dev Cert.OpsKernelIdeal.nD) → Buf (Elt Ideal) ((c.tc : Thread Cert.OpsKernelIdeal.nD Cert.OpsKernelIdeal.τ).loc Cert.OpsKernelIdeal.main_v92)) (v2 : (c : Dev Cert.OpsKernelIdeal.nD) → Buf (Elt Ideal) ((c.tc : Thread Cert.OpsKernelIdeal.nD Cert.OpsKernelIdeal.τ).loc Cert.OpsKernelIdeal.main_v91)) (v3 : (c : Dev Cert.OpsKernelIdeal.nD) → Buf (Elt Ideal) ((c.tc : Thread Cert.OpsKernelIdeal.nD Cert.OpsKernelIdeal.τ).loc Cert.OpsKernelIdeal.main_v87)) (v4 : (c : Dev Cert.OpsKernelIdeal.nD) → Buf (Elt Ideal) ((c.tc : Thread Cert.OpsKernelIdeal.nD Cert.OpsKernelIdeal.τ).loc Cert.OpsKernelIdeal.main_v79)),
      θ_run (Cert.OpsKernelIdeal.defs (F := Ideal)) (onTc (τ := Cert.OpsKernelIdeal.τ) (Cert.OpsKernelIdeal.main (F := Ideal))) ⟨m, fun _ => 0, g⟩ (fun r => ∀ c : Dev Cert.OpsKernelIdeal.nD,
          r.2.mem ((c.tc : Thread Cert.OpsKernelIdeal.nD Cert.OpsKernelIdeal.τ).loc Cert.OpsKernelIdeal.main_v90) = v0 c
          ∧ r.2.mem ((c.tc : Thread Cert.OpsKernelIdeal.nD Cert.OpsKernelIdeal.τ).loc Cert.OpsKernelIdeal.main_v92) = v1 c
          ∧ r.2.mem ((c.tc : Thread Cert.OpsKernelIdeal.nD Cert.OpsKernelIdeal.τ).loc Cert.OpsKernelIdeal.main_v91) = v2 c
          ∧ r.2.mem ((c.tc : Thread Cert.OpsKernelIdeal.nD Cert.OpsKernelIdeal.τ).loc Cert.OpsKernelIdeal.main_v87) = v3 c
          ∧ r.2.mem ((c.tc : Thread Cert.OpsKernelIdeal.nD Cert.OpsKernelIdeal.τ).loc Cert.OpsKernelIdeal.main_v79) = v4 c
          ∧ r.2.mem ((c.tc : Thread Cert.OpsKernelIdeal.nD Cert.OpsKernelIdeal.τ).loc Cert.OpsKernelIdeal.main_arg0) = m ((c.tc : Thread Cert.OpsKernelIdeal.nD Cert.OpsKernelIdeal.τ).loc Cert.OpsKernelIdeal.main_arg0)
          ∧ r.2.mem ((c.tc : Thread Cert.OpsKernelIdeal.nD Cert.OpsKernelIdeal.τ).loc Cert.OpsKernelIdeal.main_arg1) = m ((c.tc : Thread Cert.OpsKernelIdeal.nD Cert.OpsKernelIdeal.τ).loc Cert.OpsKernelIdeal.main_arg1)
          ∧ r.2.mem ((c.tc : Thread Cert.OpsKernelIdeal.nD Cert.OpsKernelIdeal.τ).loc Cert.OpsKernelIdeal.main_arg2) = m ((c.tc : Thread Cert.OpsKernelIdeal.nD Cert.OpsKernelIdeal.τ).loc Cert.OpsKernelIdeal.main_arg2)
          ∧ r.2.mem ((c.tc : Thread Cert.OpsKernelIdeal.nD Cert.OpsKernelIdeal.τ).loc Cert.OpsKernelIdeal.main_arg3) = m ((c.tc : Thread Cert.OpsKernelIdeal.nD Cert.OpsKernelIdeal.τ).loc Cert.OpsKernelIdeal.main_arg3)
          ∧ r.2.mem ((c.tc : Thread Cert.OpsKernelIdeal.nD Cert.OpsKernelIdeal.τ).loc Cert.OpsKernelIdeal.main_arg4) = m ((c.tc : Thread Cert.OpsKernelIdeal.nD Cert.OpsKernelIdeal.τ).loc Cert.OpsKernelIdeal.main_arg4)
          ∧ r.2.mem ((c.tc : Thread Cert.OpsKernelIdeal.nD Cert.OpsKernelIdeal.τ).loc Cert.OpsKernelIdeal.main_arg5) = m ((c.tc : Thread Cert.OpsKernelIdeal.nD Cert.OpsKernelIdeal.τ).loc Cert.OpsKernelIdeal.main_arg5)
          ∧ r.2.mem ((c.tc : Thread Cert.OpsKernelIdeal.nD Cert.OpsKernelIdeal.τ).loc Cert.OpsKernelIdeal.main_arg6) = m ((c.tc : Thread Cert.OpsKernelIdeal.nD Cert.OpsKernelIdeal.τ).loc Cert.OpsKernelIdeal.main_arg6)
          ∧ r.2.mem ((c.tc : Thread Cert.OpsKernelIdeal.nD Cert.OpsKernelIdeal.τ).loc Cert.OpsKernelIdeal.main_arg7) = m ((c.tc : Thread Cert.OpsKernelIdeal.nD Cert.OpsKernelIdeal.τ).loc Cert.OpsKernelIdeal.main_arg7)
          ∧ r.2.mem ((c.tc : Thread Cert.OpsKernelIdeal.nD Cert.OpsKernelIdeal.τ).loc Cert.OpsKernelIdeal.main_arg8) = m ((c.tc : Thread Cert.OpsKernelIdeal.nD Cert.OpsKernelIdeal.τ).loc Cert.OpsKernelIdeal.main_arg8)
          ∧ r.2.mem ((c.tc : Thread Cert.OpsKernelIdeal.nD Cert.OpsKernelIdeal.τ).loc Cert.OpsKernelIdeal.main_arg9) = m ((c.tc : Thread Cert.OpsKernelIdeal.nD Cert.OpsKernelIdeal.τ).loc Cert.OpsKernelIdeal.main_arg9)
          ∧ r.2.mem ((c.tc : Thread Cert.OpsKernelIdeal.nD Cert.OpsKernelIdeal.τ).loc Cert.OpsKernelIdeal.main_arg10) = m ((c.tc : Thread Cert.OpsKernelIdeal.nD Cert.OpsKernelIdeal.τ).loc Cert.OpsKernelIdeal.main_arg10))
      ∧ θ_run (Cert.OpsReferenceIdeal.defs (F := Ideal)) (onTc (τ := Cert.OpsReferenceIdeal.τ) (Cert.OpsReferenceIdeal.main (F := Ideal))) ⟨m', fun _ => 0, g'⟩ (fun r => ∀ c : Dev Cert.OpsReferenceIdeal.nD,
          r.2.mem ((c.tc : Thread Cert.OpsReferenceIdeal.nD Cert.OpsReferenceIdeal.τ).loc Cert.OpsReferenceIdeal.main_v216) = v0 c
          ∧ r.2.mem ((c.tc : Thread Cert.OpsReferenceIdeal.nD Cert.OpsReferenceIdeal.τ).loc Cert.OpsReferenceIdeal.main_v214) = v1 c
          ∧ r.2.mem ((c.tc : Thread Cert.OpsReferenceIdeal.nD Cert.OpsReferenceIdeal.τ).loc Cert.OpsReferenceIdeal.main_v206) = v2 c
          ∧ r.2.mem ((c.tc : Thread Cert.OpsReferenceIdeal.nD Cert.OpsReferenceIdeal.τ).loc Cert.OpsReferenceIdeal.main_v145) = v3 c
          ∧ r.2.mem ((c.tc : Thread Cert.OpsReferenceIdeal.nD Cert.OpsReferenceIdeal.τ).loc Cert.OpsReferenceIdeal.main_v137) = v4 c
          ∧ r.2.mem ((c.tc : Thread Cert.OpsReferenceIdeal.nD Cert.OpsReferenceIdeal.τ).loc Cert.OpsReferenceIdeal.main_arg0) = m' ((c.tc : Thread Cert.OpsReferenceIdeal.nD Cert.OpsReferenceIdeal.τ).loc Cert.OpsReferenceIdeal.main_arg0)
          ∧ r.2.mem ((c.tc : Thread Cert.OpsReferenceIdeal.nD Cert.OpsReferenceIdeal.τ).loc Cert.OpsReferenceIdeal.main_arg1) = m' ((c.tc : Thread Cert.OpsReferenceIdeal.nD Cert.OpsReferenceIdeal.τ).loc Cert.OpsReferenceIdeal.main_arg1)
          ∧ r.2.mem ((c.tc : Thread Cert.OpsReferenceIdeal.nD Cert.OpsReferenceIdeal.τ).loc Cert.OpsReferenceIdeal.main_arg2) = m' ((c.tc : Thread Cert.OpsReferenceIdeal.nD Cert.OpsReferenceIdeal.τ).loc Cert.OpsReferenceIdeal.main_arg2)
          ∧ r.2.mem ((c.tc : Thread Cert.OpsReferenceIdeal.nD Cert.OpsReferenceIdeal.τ).loc Cert.OpsReferenceIdeal.main_arg3) = m' ((c.tc : Thread Cert.OpsReferenceIdeal.nD Cert.OpsReferenceIdeal.τ).loc Cert.OpsReferenceIdeal.main_arg3)
          ∧ r.2.mem ((c.tc : Thread Cert.OpsReferenceIdeal.nD Cert.OpsReferenceIdeal.τ).loc Cert.OpsReferenceIdeal.main_arg4) = m' ((c.tc : Thread Cert.OpsReferenceIdeal.nD Cert.OpsReferenceIdeal.τ).loc Cert.OpsReferenceIdeal.main_arg4)
          ∧ r.2.mem ((c.tc : Thread Cert.OpsReferenceIdeal.nD Cert.OpsReferenceIdeal.τ).loc Cert.OpsReferenceIdeal.main_arg5) = m' ((c.tc : Thread Cert.OpsReferenceIdeal.nD Cert.OpsReferenceIdeal.τ).loc Cert.OpsReferenceIdeal.main_arg5)
          ∧ r.2.mem ((c.tc : Thread Cert.OpsReferenceIdeal.nD Cert.OpsReferenceIdeal.τ).loc Cert.OpsReferenceIdeal.main_arg6) = m' ((c.tc : Thread Cert.OpsReferenceIdeal.nD Cert.OpsReferenceIdeal.τ).loc Cert.OpsReferenceIdeal.main_arg6)
          ∧ r.2.mem ((c.tc : Thread Cert.OpsReferenceIdeal.nD Cert.OpsReferenceIdeal.τ).loc Cert.OpsReferenceIdeal.main_arg7) = m' ((c.tc : Thread Cert.OpsReferenceIdeal.nD Cert.OpsReferenceIdeal.τ).loc Cert.OpsReferenceIdeal.main_arg7)
          ∧ r.2.mem ((c.tc : Thread Cert.OpsReferenceIdeal.nD Cert.OpsReferenceIdeal.τ).loc Cert.OpsReferenceIdeal.main_arg8) = m' ((c.tc : Thread Cert.OpsReferenceIdeal.nD Cert.OpsReferenceIdeal.τ).loc Cert.OpsReferenceIdeal.main_arg8)
          ∧ r.2.mem ((c.tc : Thread Cert.OpsReferenceIdeal.nD Cert.OpsReferenceIdeal.τ).loc Cert.OpsReferenceIdeal.main_arg9) = m' ((c.tc : Thread Cert.OpsReferenceIdeal.nD Cert.OpsReferenceIdeal.τ).loc Cert.OpsReferenceIdeal.main_arg9)
          ∧ r.2.mem ((c.tc : Thread Cert.OpsReferenceIdeal.nD Cert.OpsReferenceIdeal.τ).loc Cert.OpsReferenceIdeal.main_arg10) = m' ((c.tc : Thread Cert.OpsReferenceIdeal.nD Cert.OpsReferenceIdeal.τ).loc Cert.OpsReferenceIdeal.main_arg10))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)) →
    ∃ (v0 : (c : Dev Cert.GluKernelIdeal.nD) → Buf (Elt Ideal) ((c.tc : Thread Cert.GluKernelIdeal.nD Cert.GluKernelIdeal.τ).loc Cert.GluKernelIdeal.main_v2_0)) (v1 : (c : Dev Cert.GluKernelIdeal.nD) → Buf (Elt Ideal) ((c.tc : Thread Cert.GluKernelIdeal.nD Cert.GluKernelIdeal.τ).loc Cert.GluKernelIdeal.main_v2_1)) (v2 : (c : Dev Cert.GluKernelIdeal.nD) → Buf (Elt Ideal) ((c.tc : Thread Cert.GluKernelIdeal.nD Cert.GluKernelIdeal.τ).loc Cert.GluKernelIdeal.main_v2_2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2_0) = v0 c
          ∧ r.2.mem ((c.tc : Thread Cert.GluKernelIdeal.nD Cert.GluKernelIdeal.τ).loc Cert.GluKernelIdeal.main_v2_1) = v1 c
          ∧ r.2.mem ((c.tc : Thread Cert.GluKernelIdeal.nD Cert.GluKernelIdeal.τ).loc Cert.GluKernelIdeal.main_v2_2) = v2 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v57) = v0 c
          ∧ r.2.mem ((c.tc : Thread Cert.GluReferenceIdeal.nD Cert.GluReferenceIdeal.τ).loc Cert.GluReferenceIdeal.main_v43) = v1 c
          ∧ r.2.mem ((c.tc : Thread Cert.GluReferenceIdeal.nD Cert.GluReferenceIdeal.τ).loc Cert.GluReferenceIdeal.main_v58) = v2 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)) →
    ∃ (v0 : (c : Dev Cert.PleKernelIdeal.nD) → Buf (Elt Ideal) ((c.tc : Thread Cert.PleKernelIdeal.nD Cert.PleKernelIdeal.τ).loc Cert.PleKernelIdeal.main_v3_0)) (v1 : (c : Dev Cert.PleKernelIdeal.nD) → Buf (Elt Ideal) ((c.tc : Thread Cert.PleKernelIdeal.nD Cert.PleKernelIdeal.τ).loc Cert.PleKernelIdeal.main_v3_1)) (v2 : (c : Dev Cert.PleKernelIdeal.nD) → Buf (Elt Ideal) ((c.tc : Thread Cert.PleKernelIdeal.nD Cert.PleKernelIdeal.τ).loc Cert.PleKernelIdeal.main_v3_2)) (v3 : (c : Dev Cert.PleKernelIdeal.nD) → Buf (Elt Ideal) ((c.tc : Thread Cert.PleKernelIdeal.nD Cert.PleKernelIdeal.τ).loc Cert.PleKernelIdeal.main_v3_3)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v3_0) = v0 c
          ∧ r.2.mem ((c.tc : Thread Cert.PleKernelIdeal.nD Cert.PleKernelIdeal.τ).loc Cert.PleKernelIdeal.main_v3_1) = v1 c
          ∧ r.2.mem ((c.tc : Thread Cert.PleKernelIdeal.nD Cert.PleKernelIdeal.τ).loc Cert.PleKernelIdeal.main_v3_2) = v2 c
          ∧ r.2.mem ((c.tc : Thread Cert.PleKernelIdeal.nD Cert.PleKernelIdeal.τ).loc Cert.PleKernelIdeal.main_v3_3) = v3 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v58) = v0 c
          ∧ r.2.mem ((c.tc : Thread Cert.PleReferenceIdeal.nD Cert.PleReferenceIdeal.τ).loc Cert.PleReferenceIdeal.main_v59) = v1 c
          ∧ r.2.mem ((c.tc : Thread Cert.PleReferenceIdeal.nD Cert.PleReferenceIdeal.τ).loc Cert.PleReferenceIdeal.main_v36) = v2 c
          ∧ r.2.mem ((c.tc : Thread Cert.PleReferenceIdeal.nD Cert.PleReferenceIdeal.τ).loc Cert.PleReferenceIdeal.main_v33) = v3 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v7)) (v1 : (c : Dev Cert.FfnKernelIdeal.nD) → Buf (Elt Ideal) ((c.tc : Thread Cert.FfnKernelIdeal.nD Cert.FfnKernelIdeal.τ).loc Cert.FfnKernelIdeal.main_v5_1)) (v2 : (c : Dev Cert.FfnKernelIdeal.nD) → Buf (Elt Ideal) ((c.tc : Thread Cert.FfnKernelIdeal.nD Cert.FfnKernelIdeal.τ).loc Cert.FfnKernelIdeal.main_v5_2)) (v3 : (c : Dev Cert.FfnKernelIdeal.nD) → Buf (Elt Ideal) ((c.tc : Thread Cert.FfnKernelIdeal.nD Cert.FfnKernelIdeal.τ).loc Cert.FfnKernelIdeal.main_v5_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7) = v0 c
          ∧ r.2.mem ((c.tc : Thread Cert.FfnKernelIdeal.nD Cert.FfnKernelIdeal.τ).loc Cert.FfnKernelIdeal.main_v5_1) = v1 c
          ∧ r.2.mem ((c.tc : Thread Cert.FfnKernelIdeal.nD Cert.FfnKernelIdeal.τ).loc Cert.FfnKernelIdeal.main_v5_2) = v2 c
          ∧ r.2.mem ((c.tc : Thread Cert.FfnKernelIdeal.nD Cert.FfnKernelIdeal.τ).loc Cert.FfnKernelIdeal.main_v5_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_v20) = v1 c
          ∧ r.2.mem ((c.tc : Thread Cert.FfnReferenceIdeal.nD Cert.FfnReferenceIdeal.τ).loc Cert.FfnReferenceIdeal.main_v21) = v2 c
          ∧ r.2.mem ((c.tc : Thread Cert.FfnReferenceIdeal.nD Cert.FfnReferenceIdeal.τ).loc Cert.FfnReferenceIdeal.main_v11) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_MergeKernel_MergeKernelIdeal : Prop :=
  True

def algebraic_MergeKernelIdeal_MergeReferenceIdeal_pre_finite_merge [hMergeKernelIdeal : Cert.MergeKernelIdeal.Facts] [hMergeReferenceIdeal : Cert.MergeReferenceIdeal.Facts] [hPre_finite_merge : Cert.Pre_finite_merge.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_finite_merge m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)) →
    ∃ (v0 : (c : Dev Cert.MergeKernelIdeal.nD) → Buf (Elt Ideal) ((c.tc : Thread Cert.MergeKernelIdeal.nD Cert.MergeKernelIdeal.τ).loc Cert.MergeKernelIdeal.main_v2_0)) (v1 : (c : Dev Cert.MergeKernelIdeal.nD) → Buf (Elt Ideal) ((c.tc : Thread Cert.MergeKernelIdeal.nD Cert.MergeKernelIdeal.τ).loc Cert.MergeKernelIdeal.main_v2_1)) (v2 : (c : Dev Cert.MergeKernelIdeal.nD) → Buf (Elt Ideal) ((c.tc : Thread Cert.MergeKernelIdeal.nD Cert.MergeKernelIdeal.τ).loc Cert.MergeKernelIdeal.main_v2_2)) (v3 : (c : Dev Cert.MergeKernelIdeal.nD) → Buf (Elt Ideal) ((c.tc : Thread Cert.MergeKernelIdeal.nD Cert.MergeKernelIdeal.τ).loc Cert.MergeKernelIdeal.main_v2_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v2_0) = v0 c
          ∧ r.2.mem ((c.tc : Thread Cert.MergeKernelIdeal.nD Cert.MergeKernelIdeal.τ).loc Cert.MergeKernelIdeal.main_v2_1) = v1 c
          ∧ r.2.mem ((c.tc : Thread Cert.MergeKernelIdeal.nD Cert.MergeKernelIdeal.τ).loc Cert.MergeKernelIdeal.main_v2_2) = v2 c
          ∧ r.2.mem ((c.tc : Thread Cert.MergeKernelIdeal.nD Cert.MergeKernelIdeal.τ).loc Cert.MergeKernelIdeal.main_v2_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_v24) = v1 c
          ∧ r.2.mem ((c.tc : Thread Cert.MergeReferenceIdeal.nD Cert.MergeReferenceIdeal.τ).loc Cert.MergeReferenceIdeal.main_v29) = v2 c
          ∧ r.2.mem ((c.tc : Thread Cert.MergeReferenceIdeal.nD Cert.MergeReferenceIdeal.τ).loc Cert.MergeReferenceIdeal.main_v18) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_S5Kernel_S5KernelIdeal : Prop :=
  True

def algebraic_S5KernelIdeal_S5ReferenceIdeal_pre_finite_s5 [hS5KernelIdeal : Cert.S5KernelIdeal.Facts] [hS5ReferenceIdeal : Cert.S5ReferenceIdeal.Facts] [hPre_finite_s5 : Cert.Pre_finite_s5.Facts] : Prop :=
  ∀ (m : (ℓ : Loc Cert.S5KernelIdeal.nD Cert.S5KernelIdeal.τ Cert.S5KernelIdeal.sig) → Buf (Elt Ideal) ℓ) (g : Dev Cert.S5KernelIdeal.nD → PrngReg)
    (m' : (ℓ : Loc Cert.S5ReferenceIdeal.nD Cert.S5ReferenceIdeal.τ Cert.S5ReferenceIdeal.sig) → Buf (Elt Ideal) ℓ) (g' : Dev Cert.S5ReferenceIdeal.nD → PrngReg), Pre_S5KernelIdeal_finite_s5 m →
    (∀ c : Dev Cert.S5KernelIdeal.nD,
      m' ((c.tc : Thread Cert.S5ReferenceIdeal.nD Cert.S5ReferenceIdeal.τ).loc Cert.S5ReferenceIdeal.main_arg0) = m ((c.tc : Thread Cert.S5KernelIdeal.nD Cert.S5KernelIdeal.τ).loc Cert.S5KernelIdeal.main_arg0)
      ∧ m' ((c.tc : Thread Cert.S5ReferenceIdeal.nD Cert.S5ReferenceIdeal.τ).loc Cert.S5ReferenceIdeal.main_arg1) = m ((c.tc : Thread Cert.S5KernelIdeal.nD Cert.S5KernelIdeal.τ).loc Cert.S5KernelIdeal.main_arg1)
      ∧ m' ((c.tc : Thread Cert.S5ReferenceIdeal.nD Cert.S5ReferenceIdeal.τ).loc Cert.S5ReferenceIdeal.main_arg2) = m ((c.tc : Thread Cert.S5KernelIdeal.nD Cert.S5KernelIdeal.τ).loc Cert.S5KernelIdeal.main_arg2)
      ∧ m' ((c.tc : Thread Cert.S5ReferenceIdeal.nD Cert.S5ReferenceIdeal.τ).loc Cert.S5ReferenceIdeal.main_arg3) = m ((c.tc : Thread Cert.S5KernelIdeal.nD Cert.S5KernelIdeal.τ).loc Cert.S5KernelIdeal.main_arg3)
      ∧ m' ((c.tc : Thread Cert.S5ReferenceIdeal.nD Cert.S5ReferenceIdeal.τ).loc Cert.S5ReferenceIdeal.main_arg4) = m ((c.tc : Thread Cert.S5KernelIdeal.nD Cert.S5KernelIdeal.τ).loc Cert.S5KernelIdeal.main_arg4)
      ∧ m' ((c.tc : Thread Cert.S5ReferenceIdeal.nD Cert.S5ReferenceIdeal.τ).loc Cert.S5ReferenceIdeal.main_arg5) = m ((c.tc : Thread Cert.S5KernelIdeal.nD Cert.S5KernelIdeal.τ).loc Cert.S5KernelIdeal.main_arg5)
      ∧ m' ((c.tc : Thread Cert.S5ReferenceIdeal.nD Cert.S5ReferenceIdeal.τ).loc Cert.S5ReferenceIdeal.main_arg6) = m ((c.tc : Thread Cert.S5KernelIdeal.nD Cert.S5KernelIdeal.τ).loc Cert.S5KernelIdeal.main_arg6)
      ∧ m' ((c.tc : Thread Cert.S5ReferenceIdeal.nD Cert.S5ReferenceIdeal.τ).loc Cert.S5ReferenceIdeal.main_arg7) = m ((c.tc : Thread Cert.S5KernelIdeal.nD Cert.S5KernelIdeal.τ).loc Cert.S5KernelIdeal.main_arg7)
      ∧ m' ((c.tc : Thread Cert.S5ReferenceIdeal.nD Cert.S5ReferenceIdeal.τ).loc Cert.S5ReferenceIdeal.main_arg8) = m ((c.tc : Thread Cert.S5KernelIdeal.nD Cert.S5KernelIdeal.τ).loc Cert.S5KernelIdeal.main_arg8)
      ∧ m' ((c.tc : Thread Cert.S5ReferenceIdeal.nD Cert.S5ReferenceIdeal.τ).loc Cert.S5ReferenceIdeal.main_arg9) = m ((c.tc : Thread Cert.S5KernelIdeal.nD Cert.S5KernelIdeal.τ).loc Cert.S5KernelIdeal.main_arg9)) →
    ∃ (v0 : (c : Dev Cert.S5KernelIdeal.nD) → Buf (Elt Ideal) ((c.tc : Thread Cert.S5KernelIdeal.nD Cert.S5KernelIdeal.τ).loc Cert.S5KernelIdeal.main_v239)) (v1 : (c : Dev Cert.S5KernelIdeal.nD) → Buf (Elt Ideal) ((c.tc : Thread Cert.S5KernelIdeal.nD Cert.S5KernelIdeal.τ).loc Cert.S5KernelIdeal.main_v272)) (v2 : (c : Dev Cert.S5KernelIdeal.nD) → Buf (Elt Ideal) ((c.tc : Thread Cert.S5KernelIdeal.nD Cert.S5KernelIdeal.τ).loc Cert.S5KernelIdeal.main_v264)) (v3 : (c : Dev Cert.S5KernelIdeal.nD) → Buf (Elt Ideal) ((c.tc : Thread Cert.S5KernelIdeal.nD Cert.S5KernelIdeal.τ).loc Cert.S5KernelIdeal.main_v256)) (v4 : (c : Dev Cert.S5KernelIdeal.nD) → Buf (Elt Ideal) ((c.tc : Thread Cert.S5KernelIdeal.nD Cert.S5KernelIdeal.τ).loc Cert.S5KernelIdeal.main_v248)) (v5 : (c : Dev Cert.S5KernelIdeal.nD) → Buf (Elt Ideal) ((c.tc : Thread Cert.S5KernelIdeal.nD Cert.S5KernelIdeal.τ).loc Cert.S5KernelIdeal.main_v240)),
      θ_run (Cert.S5KernelIdeal.defs (F := Ideal)) (onTc (τ := Cert.S5KernelIdeal.τ) (Cert.S5KernelIdeal.main (F := Ideal))) ⟨m, fun _ => 0, g⟩ (fun r => ∀ c : Dev Cert.S5KernelIdeal.nD,
          r.2.mem ((c.tc : Thread Cert.S5KernelIdeal.nD Cert.S5KernelIdeal.τ).loc Cert.S5KernelIdeal.main_v239) = v0 c
          ∧ r.2.mem ((c.tc : Thread Cert.S5KernelIdeal.nD Cert.S5KernelIdeal.τ).loc Cert.S5KernelIdeal.main_v272) = v1 c
          ∧ r.2.mem ((c.tc : Thread Cert.S5KernelIdeal.nD Cert.S5KernelIdeal.τ).loc Cert.S5KernelIdeal.main_v264) = v2 c
          ∧ r.2.mem ((c.tc : Thread Cert.S5KernelIdeal.nD Cert.S5KernelIdeal.τ).loc Cert.S5KernelIdeal.main_v256) = v3 c
          ∧ r.2.mem ((c.tc : Thread Cert.S5KernelIdeal.nD Cert.S5KernelIdeal.τ).loc Cert.S5KernelIdeal.main_v248) = v4 c
          ∧ r.2.mem ((c.tc : Thread Cert.S5KernelIdeal.nD Cert.S5KernelIdeal.τ).loc Cert.S5KernelIdeal.main_v240) = v5 c
          ∧ r.2.mem ((c.tc : Thread Cert.S5KernelIdeal.nD Cert.S5KernelIdeal.τ).loc Cert.S5KernelIdeal.main_arg0) = m ((c.tc : Thread Cert.S5KernelIdeal.nD Cert.S5KernelIdeal.τ).loc Cert.S5KernelIdeal.main_arg0)
          ∧ r.2.mem ((c.tc : Thread Cert.S5KernelIdeal.nD Cert.S5KernelIdeal.τ).loc Cert.S5KernelIdeal.main_arg1) = m ((c.tc : Thread Cert.S5KernelIdeal.nD Cert.S5KernelIdeal.τ).loc Cert.S5KernelIdeal.main_arg1)
          ∧ r.2.mem ((c.tc : Thread Cert.S5KernelIdeal.nD Cert.S5KernelIdeal.τ).loc Cert.S5KernelIdeal.main_arg2) = m ((c.tc : Thread Cert.S5KernelIdeal.nD Cert.S5KernelIdeal.τ).loc Cert.S5KernelIdeal.main_arg2)
          ∧ r.2.mem ((c.tc : Thread Cert.S5KernelIdeal.nD Cert.S5KernelIdeal.τ).loc Cert.S5KernelIdeal.main_arg3) = m ((c.tc : Thread Cert.S5KernelIdeal.nD Cert.S5KernelIdeal.τ).loc Cert.S5KernelIdeal.main_arg3)
          ∧ r.2.mem ((c.tc : Thread Cert.S5KernelIdeal.nD Cert.S5KernelIdeal.τ).loc Cert.S5KernelIdeal.main_arg4) = m ((c.tc : Thread Cert.S5KernelIdeal.nD Cert.S5KernelIdeal.τ).loc Cert.S5KernelIdeal.main_arg4)
          ∧ r.2.mem ((c.tc : Thread Cert.S5KernelIdeal.nD Cert.S5KernelIdeal.τ).loc Cert.S5KernelIdeal.main_arg5) = m ((c.tc : Thread Cert.S5KernelIdeal.nD Cert.S5KernelIdeal.τ).loc Cert.S5KernelIdeal.main_arg5)
          ∧ r.2.mem ((c.tc : Thread Cert.S5KernelIdeal.nD Cert.S5KernelIdeal.τ).loc Cert.S5KernelIdeal.main_arg6) = m ((c.tc : Thread Cert.S5KernelIdeal.nD Cert.S5KernelIdeal.τ).loc Cert.S5KernelIdeal.main_arg6)
          ∧ r.2.mem ((c.tc : Thread Cert.S5KernelIdeal.nD Cert.S5KernelIdeal.τ).loc Cert.S5KernelIdeal.main_arg7) = m ((c.tc : Thread Cert.S5KernelIdeal.nD Cert.S5KernelIdeal.τ).loc Cert.S5KernelIdeal.main_arg7)
          ∧ r.2.mem ((c.tc : Thread Cert.S5KernelIdeal.nD Cert.S5KernelIdeal.τ).loc Cert.S5KernelIdeal.main_arg8) = m ((c.tc : Thread Cert.S5KernelIdeal.nD Cert.S5KernelIdeal.τ).loc Cert.S5KernelIdeal.main_arg8)
          ∧ r.2.mem ((c.tc : Thread Cert.S5KernelIdeal.nD Cert.S5KernelIdeal.τ).loc Cert.S5KernelIdeal.main_arg9) = m ((c.tc : Thread Cert.S5KernelIdeal.nD Cert.S5KernelIdeal.τ).loc Cert.S5KernelIdeal.main_arg9))
      ∧ θ_run (Cert.S5ReferenceIdeal.defs (F := Ideal)) (onTc (τ := Cert.S5ReferenceIdeal.τ) (Cert.S5ReferenceIdeal.main (F := Ideal))) ⟨m', fun _ => 0, g'⟩ (fun r => ∀ c : Dev Cert.S5ReferenceIdeal.nD,
          r.2.mem ((c.tc : Thread Cert.S5ReferenceIdeal.nD Cert.S5ReferenceIdeal.τ).loc Cert.S5ReferenceIdeal.main_v104) = v0 c
          ∧ r.2.mem ((c.tc : Thread Cert.S5ReferenceIdeal.nD Cert.S5ReferenceIdeal.τ).loc Cert.S5ReferenceIdeal.main_v103) = v1 c
          ∧ r.2.mem ((c.tc : Thread Cert.S5ReferenceIdeal.nD Cert.S5ReferenceIdeal.τ).loc Cert.S5ReferenceIdeal.main_v98) = v2 c
          ∧ r.2.mem ((c.tc : Thread Cert.S5ReferenceIdeal.nD Cert.S5ReferenceIdeal.τ).loc Cert.S5ReferenceIdeal.main_v78) = v3 c
          ∧ r.2.mem ((c.tc : Thread Cert.S5ReferenceIdeal.nD Cert.S5ReferenceIdeal.τ).loc Cert.S5ReferenceIdeal.main_v74) = v4 c
          ∧ r.2.mem ((c.tc : Thread Cert.S5ReferenceIdeal.nD Cert.S5ReferenceIdeal.τ).loc Cert.S5ReferenceIdeal.main_v69) = v5 c
          ∧ r.2.mem ((c.tc : Thread Cert.S5ReferenceIdeal.nD Cert.S5ReferenceIdeal.τ).loc Cert.S5ReferenceIdeal.main_arg0) = m' ((c.tc : Thread Cert.S5ReferenceIdeal.nD Cert.S5ReferenceIdeal.τ).loc Cert.S5ReferenceIdeal.main_arg0)
          ∧ r.2.mem ((c.tc : Thread Cert.S5ReferenceIdeal.nD Cert.S5ReferenceIdeal.τ).loc Cert.S5ReferenceIdeal.main_arg1) = m' ((c.tc : Thread Cert.S5ReferenceIdeal.nD Cert.S5ReferenceIdeal.τ).loc Cert.S5ReferenceIdeal.main_arg1)
          ∧ r.2.mem ((c.tc : Thread Cert.S5ReferenceIdeal.nD Cert.S5ReferenceIdeal.τ).loc Cert.S5ReferenceIdeal.main_arg2) = m' ((c.tc : Thread Cert.S5ReferenceIdeal.nD Cert.S5ReferenceIdeal.τ).loc Cert.S5ReferenceIdeal.main_arg2)
          ∧ r.2.mem ((c.tc : Thread Cert.S5ReferenceIdeal.nD Cert.S5ReferenceIdeal.τ).loc Cert.S5ReferenceIdeal.main_arg3) = m' ((c.tc : Thread Cert.S5ReferenceIdeal.nD Cert.S5ReferenceIdeal.τ).loc Cert.S5ReferenceIdeal.main_arg3)
          ∧ r.2.mem ((c.tc : Thread Cert.S5ReferenceIdeal.nD Cert.S5ReferenceIdeal.τ).loc Cert.S5ReferenceIdeal.main_arg4) = m' ((c.tc : Thread Cert.S5ReferenceIdeal.nD Cert.S5ReferenceIdeal.τ).loc Cert.S5ReferenceIdeal.main_arg4)
          ∧ r.2.mem ((c.tc : Thread Cert.S5ReferenceIdeal.nD Cert.S5ReferenceIdeal.τ).loc Cert.S5ReferenceIdeal.main_arg5) = m' ((c.tc : Thread Cert.S5ReferenceIdeal.nD Cert.S5ReferenceIdeal.τ).loc Cert.S5ReferenceIdeal.main_arg5)
          ∧ r.2.mem ((c.tc : Thread Cert.S5ReferenceIdeal.nD Cert.S5ReferenceIdeal.τ).loc Cert.S5ReferenceIdeal.main_arg6) = m' ((c.tc : Thread Cert.S5ReferenceIdeal.nD Cert.S5ReferenceIdeal.τ).loc Cert.S5ReferenceIdeal.main_arg6)
          ∧ r.2.mem ((c.tc : Thread Cert.S5ReferenceIdeal.nD Cert.S5ReferenceIdeal.τ).loc Cert.S5ReferenceIdeal.main_arg7) = m' ((c.tc : Thread Cert.S5ReferenceIdeal.nD Cert.S5ReferenceIdeal.τ).loc Cert.S5ReferenceIdeal.main_arg7)
          ∧ r.2.mem ((c.tc : Thread Cert.S5ReferenceIdeal.nD Cert.S5ReferenceIdeal.τ).loc Cert.S5ReferenceIdeal.main_arg8) = m' ((c.tc : Thread Cert.S5ReferenceIdeal.nD Cert.S5ReferenceIdeal.τ).loc Cert.S5ReferenceIdeal.main_arg8)
          ∧ r.2.mem ((c.tc : Thread Cert.S5ReferenceIdeal.nD Cert.S5ReferenceIdeal.τ).loc Cert.S5ReferenceIdeal.main_arg9) = m' ((c.tc : Thread Cert.S5ReferenceIdeal.nD Cert.S5ReferenceIdeal.τ).loc Cert.S5ReferenceIdeal.main_arg9))

def preserves_LruKernel_LruKernelIdeal : Prop :=
  True

def preserves_GlufKernel_GlufKernelIdeal : Prop :=
  True

def algebraic_GlufKernelIdeal_GlufReferenceIdeal [hGlufKernelIdeal : Cert.GlufKernelIdeal.Facts] [hGlufReferenceIdeal : Cert.GlufReferenceIdeal.Facts] : Prop :=
  ∀ (m : (ℓ : Loc Cert.GlufKernelIdeal.nD Cert.GlufKernelIdeal.τ Cert.GlufKernelIdeal.sig) → Buf (Elt Ideal) ℓ) (g : Dev Cert.GlufKernelIdeal.nD → PrngReg)
    (m' : (ℓ : Loc Cert.GlufReferenceIdeal.nD Cert.GlufReferenceIdeal.τ Cert.GlufReferenceIdeal.sig) → Buf (Elt Ideal) ℓ) (g' : Dev Cert.GlufReferenceIdeal.nD → PrngReg), Pre_GlufKernelIdeal m →
    (∀ c : Dev Cert.GlufKernelIdeal.nD,
      m' ((c.tc : Thread Cert.GlufReferenceIdeal.nD Cert.GlufReferenceIdeal.τ).loc Cert.GlufReferenceIdeal.main_arg0) = m ((c.tc : Thread Cert.GlufKernelIdeal.nD Cert.GlufKernelIdeal.τ).loc Cert.GlufKernelIdeal.main_arg0)
      ∧ m' ((c.tc : Thread Cert.GlufReferenceIdeal.nD Cert.GlufReferenceIdeal.τ).loc Cert.GlufReferenceIdeal.main_arg1) = m ((c.tc : Thread Cert.GlufKernelIdeal.nD Cert.GlufKernelIdeal.τ).loc Cert.GlufKernelIdeal.main_arg1)
      ∧ m' ((c.tc : Thread Cert.GlufReferenceIdeal.nD Cert.GlufReferenceIdeal.τ).loc Cert.GlufReferenceIdeal.main_arg2) = m ((c.tc : Thread Cert.GlufKernelIdeal.nD Cert.GlufKernelIdeal.τ).loc Cert.GlufKernelIdeal.main_arg2)) →
    ∃ (v0 : (c : Dev Cert.GlufKernelIdeal.nD) → Buf (Elt Ideal) ((c.tc : Thread Cert.GlufKernelIdeal.nD Cert.GlufKernelIdeal.τ).loc Cert.GlufKernelIdeal.main_v2)),
      θ_run (Cert.GlufKernelIdeal.defs (F := Ideal)) (onTc (τ := Cert.GlufKernelIdeal.τ) (Cert.GlufKernelIdeal.main (F := Ideal))) ⟨m, fun _ => 0, g⟩ (fun r => ∀ c : Dev Cert.GlufKernelIdeal.nD,
          r.2.mem ((c.tc : Thread Cert.GlufKernelIdeal.nD Cert.GlufKernelIdeal.τ).loc Cert.GlufKernelIdeal.main_v2) = v0 c
          ∧ r.2.mem ((c.tc : Thread Cert.GlufKernelIdeal.nD Cert.GlufKernelIdeal.τ).loc Cert.GlufKernelIdeal.main_arg0) = m ((c.tc : Thread Cert.GlufKernelIdeal.nD Cert.GlufKernelIdeal.τ).loc Cert.GlufKernelIdeal.main_arg0)
          ∧ r.2.mem ((c.tc : Thread Cert.GlufKernelIdeal.nD Cert.GlufKernelIdeal.τ).loc Cert.GlufKernelIdeal.main_arg1) = m ((c.tc : Thread Cert.GlufKernelIdeal.nD Cert.GlufKernelIdeal.τ).loc Cert.GlufKernelIdeal.main_arg1)
          ∧ r.2.mem ((c.tc : Thread Cert.GlufKernelIdeal.nD Cert.GlufKernelIdeal.τ).loc Cert.GlufKernelIdeal.main_arg2) = m ((c.tc : Thread Cert.GlufKernelIdeal.nD Cert.GlufKernelIdeal.τ).loc Cert.GlufKernelIdeal.main_arg2))
      ∧ θ_run (Cert.GlufReferenceIdeal.defs (F := Ideal)) (onTc (τ := Cert.GlufReferenceIdeal.τ) (Cert.GlufReferenceIdeal.main (F := Ideal))) ⟨m', fun _ => 0, g'⟩ (fun r => ∀ c : Dev Cert.GlufReferenceIdeal.nD,
          r.2.mem ((c.tc : Thread Cert.GlufReferenceIdeal.nD Cert.GlufReferenceIdeal.τ).loc Cert.GlufReferenceIdeal.main_v23) = v0 c
          ∧ r.2.mem ((c.tc : Thread Cert.GlufReferenceIdeal.nD Cert.GlufReferenceIdeal.τ).loc Cert.GlufReferenceIdeal.main_arg0) = m' ((c.tc : Thread Cert.GlufReferenceIdeal.nD Cert.GlufReferenceIdeal.τ).loc Cert.GlufReferenceIdeal.main_arg0)
          ∧ r.2.mem ((c.tc : Thread Cert.GlufReferenceIdeal.nD Cert.GlufReferenceIdeal.τ).loc Cert.GlufReferenceIdeal.main_arg1) = m' ((c.tc : Thread Cert.GlufReferenceIdeal.nD Cert.GlufReferenceIdeal.τ).loc Cert.GlufReferenceIdeal.main_arg1)
          ∧ r.2.mem ((c.tc : Thread Cert.GlufReferenceIdeal.nD Cert.GlufReferenceIdeal.τ).loc Cert.GlufReferenceIdeal.main_arg2) = m' ((c.tc : Thread Cert.GlufReferenceIdeal.nD Cert.GlufReferenceIdeal.τ).loc Cert.GlufReferenceIdeal.main_arg2))

def preserves_PlefKernel_PlefKernelIdeal : Prop :=
  True

def algebraic_PlefKernelIdeal_PlefReferenceIdeal [hPlefKernelIdeal : Cert.PlefKernelIdeal.Facts] [hPlefReferenceIdeal : Cert.PlefReferenceIdeal.Facts] : Prop :=
  ∀ (m : (ℓ : Loc Cert.PlefKernelIdeal.nD Cert.PlefKernelIdeal.τ Cert.PlefKernelIdeal.sig) → Buf (Elt Ideal) ℓ) (g : Dev Cert.PlefKernelIdeal.nD → PrngReg)
    (m' : (ℓ : Loc Cert.PlefReferenceIdeal.nD Cert.PlefReferenceIdeal.τ Cert.PlefReferenceIdeal.sig) → Buf (Elt Ideal) ℓ) (g' : Dev Cert.PlefReferenceIdeal.nD → PrngReg), Pre_PlefKernelIdeal m →
    (∀ c : Dev Cert.PlefKernelIdeal.nD,
      m' ((c.tc : Thread Cert.PlefReferenceIdeal.nD Cert.PlefReferenceIdeal.τ).loc Cert.PlefReferenceIdeal.main_arg0) = m ((c.tc : Thread Cert.PlefKernelIdeal.nD Cert.PlefKernelIdeal.τ).loc Cert.PlefKernelIdeal.main_arg0)
      ∧ m' ((c.tc : Thread Cert.PlefReferenceIdeal.nD Cert.PlefReferenceIdeal.τ).loc Cert.PlefReferenceIdeal.main_arg1) = m ((c.tc : Thread Cert.PlefKernelIdeal.nD Cert.PlefKernelIdeal.τ).loc Cert.PlefKernelIdeal.main_arg1)
      ∧ m' ((c.tc : Thread Cert.PlefReferenceIdeal.nD Cert.PlefReferenceIdeal.τ).loc Cert.PlefReferenceIdeal.main_arg2) = m ((c.tc : Thread Cert.PlefKernelIdeal.nD Cert.PlefKernelIdeal.τ).loc Cert.PlefKernelIdeal.main_arg2)
      ∧ m' ((c.tc : Thread Cert.PlefReferenceIdeal.nD Cert.PlefReferenceIdeal.τ).loc Cert.PlefReferenceIdeal.main_arg3) = m ((c.tc : Thread Cert.PlefKernelIdeal.nD Cert.PlefKernelIdeal.τ).loc Cert.PlefKernelIdeal.main_arg3)
      ∧ m' ((c.tc : Thread Cert.PlefReferenceIdeal.nD Cert.PlefReferenceIdeal.τ).loc Cert.PlefReferenceIdeal.main_arg4) = m ((c.tc : Thread Cert.PlefKernelIdeal.nD Cert.PlefKernelIdeal.τ).loc Cert.PlefKernelIdeal.main_arg4)) →
    ∃ (v0 : (c : Dev Cert.PlefKernelIdeal.nD) → Buf (Elt Ideal) ((c.tc : Thread Cert.PlefKernelIdeal.nD Cert.PlefKernelIdeal.τ).loc Cert.PlefKernelIdeal.main_v3)),
      θ_run (Cert.PlefKernelIdeal.defs (F := Ideal)) (onTc (τ := Cert.PlefKernelIdeal.τ) (Cert.PlefKernelIdeal.main (F := Ideal))) ⟨m, fun _ => 0, g⟩ (fun r => ∀ c : Dev Cert.PlefKernelIdeal.nD,
          r.2.mem ((c.tc : Thread Cert.PlefKernelIdeal.nD Cert.PlefKernelIdeal.τ).loc Cert.PlefKernelIdeal.main_v3) = v0 c
          ∧ r.2.mem ((c.tc : Thread Cert.PlefKernelIdeal.nD Cert.PlefKernelIdeal.τ).loc Cert.PlefKernelIdeal.main_arg0) = m ((c.tc : Thread Cert.PlefKernelIdeal.nD Cert.PlefKernelIdeal.τ).loc Cert.PlefKernelIdeal.main_arg0)
          ∧ r.2.mem ((c.tc : Thread Cert.PlefKernelIdeal.nD Cert.PlefKernelIdeal.τ).loc Cert.PlefKernelIdeal.main_arg1) = m ((c.tc : Thread Cert.PlefKernelIdeal.nD Cert.PlefKernelIdeal.τ).loc Cert.PlefKernelIdeal.main_arg1)
          ∧ r.2.mem ((c.tc : Thread Cert.PlefKernelIdeal.nD Cert.PlefKernelIdeal.τ).loc Cert.PlefKernelIdeal.main_arg2) = m ((c.tc : Thread Cert.PlefKernelIdeal.nD Cert.PlefKernelIdeal.τ).loc Cert.PlefKernelIdeal.main_arg2)
          ∧ r.2.mem ((c.tc : Thread Cert.PlefKernelIdeal.nD Cert.PlefKernelIdeal.τ).loc Cert.PlefKernelIdeal.main_arg3) = m ((c.tc : Thread Cert.PlefKernelIdeal.nD Cert.PlefKernelIdeal.τ).loc Cert.PlefKernelIdeal.main_arg3)
          ∧ r.2.mem ((c.tc : Thread Cert.PlefKernelIdeal.nD Cert.PlefKernelIdeal.τ).loc Cert.PlefKernelIdeal.main_arg4) = m ((c.tc : Thread Cert.PlefKernelIdeal.nD Cert.PlefKernelIdeal.τ).loc Cert.PlefKernelIdeal.main_arg4))
      ∧ θ_run (Cert.PlefReferenceIdeal.defs (F := Ideal)) (onTc (τ := Cert.PlefReferenceIdeal.τ) (Cert.PlefReferenceIdeal.main (F := Ideal))) ⟨m', fun _ => 0, g'⟩ (fun r => ∀ c : Dev Cert.PlefReferenceIdeal.nD,
          r.2.mem ((c.tc : Thread Cert.PlefReferenceIdeal.nD Cert.PlefReferenceIdeal.τ).loc Cert.PlefReferenceIdeal.main_v22) = v0 c
          ∧ r.2.mem ((c.tc : Thread Cert.PlefReferenceIdeal.nD Cert.PlefReferenceIdeal.τ).loc Cert.PlefReferenceIdeal.main_arg0) = m' ((c.tc : Thread Cert.PlefReferenceIdeal.nD Cert.PlefReferenceIdeal.τ).loc Cert.PlefReferenceIdeal.main_arg0)
          ∧ r.2.mem ((c.tc : Thread Cert.PlefReferenceIdeal.nD Cert.PlefReferenceIdeal.τ).loc Cert.PlefReferenceIdeal.main_arg1) = m' ((c.tc : Thread Cert.PlefReferenceIdeal.nD Cert.PlefReferenceIdeal.τ).loc Cert.PlefReferenceIdeal.main_arg1)
          ∧ r.2.mem ((c.tc : Thread Cert.PlefReferenceIdeal.nD Cert.PlefReferenceIdeal.τ).loc Cert.PlefReferenceIdeal.main_arg2) = m' ((c.tc : Thread Cert.PlefReferenceIdeal.nD Cert.PlefReferenceIdeal.τ).loc Cert.PlefReferenceIdeal.main_arg2)
          ∧ r.2.mem ((c.tc : Thread Cert.PlefReferenceIdeal.nD Cert.PlefReferenceIdeal.τ).loc Cert.PlefReferenceIdeal.main_arg3) = m' ((c.tc : Thread Cert.PlefReferenceIdeal.nD Cert.PlefReferenceIdeal.τ).loc Cert.PlefReferenceIdeal.main_arg3)
          ∧ r.2.mem ((c.tc : Thread Cert.PlefReferenceIdeal.nD Cert.PlefReferenceIdeal.τ).loc Cert.PlefReferenceIdeal.main_arg4) = m' ((c.tc : Thread Cert.PlefReferenceIdeal.nD Cert.PlefReferenceIdeal.τ).loc Cert.PlefReferenceIdeal.main_arg4))

def preserves_FfnfKernel_FfnfKernelIdeal : Prop :=
  True

def algebraic_FfnfKernelIdeal_FfnfReferenceIdeal [hFfnfKernelIdeal : Cert.FfnfKernelIdeal.Facts] [hFfnfReferenceIdeal : Cert.FfnfReferenceIdeal.Facts] : Prop :=
  ∀ (m : (ℓ : Loc Cert.FfnfKernelIdeal.nD Cert.FfnfKernelIdeal.τ Cert.FfnfKernelIdeal.sig) → Buf (Elt Ideal) ℓ) (g : Dev Cert.FfnfKernelIdeal.nD → PrngReg)
    (m' : (ℓ : Loc Cert.FfnfReferenceIdeal.nD Cert.FfnfReferenceIdeal.τ Cert.FfnfReferenceIdeal.sig) → Buf (Elt Ideal) ℓ) (g' : Dev Cert.FfnfReferenceIdeal.nD → PrngReg), Pre_FfnfKernelIdeal m →
    (∀ c : Dev Cert.FfnfKernelIdeal.nD,
      m' ((c.tc : Thread Cert.FfnfReferenceIdeal.nD Cert.FfnfReferenceIdeal.τ).loc Cert.FfnfReferenceIdeal.main_arg0) = m ((c.tc : Thread Cert.FfnfKernelIdeal.nD Cert.FfnfKernelIdeal.τ).loc Cert.FfnfKernelIdeal.main_arg0)
      ∧ m' ((c.tc : Thread Cert.FfnfReferenceIdeal.nD Cert.FfnfReferenceIdeal.τ).loc Cert.FfnfReferenceIdeal.main_arg1) = m ((c.tc : Thread Cert.FfnfKernelIdeal.nD Cert.FfnfKernelIdeal.τ).loc Cert.FfnfKernelIdeal.main_arg1)
      ∧ m' ((c.tc : Thread Cert.FfnfReferenceIdeal.nD Cert.FfnfReferenceIdeal.τ).loc Cert.FfnfReferenceIdeal.main_arg2) = m ((c.tc : Thread Cert.FfnfKernelIdeal.nD Cert.FfnfKernelIdeal.τ).loc Cert.FfnfKernelIdeal.main_arg2)
      ∧ m' ((c.tc : Thread Cert.FfnfReferenceIdeal.nD Cert.FfnfReferenceIdeal.τ).loc Cert.FfnfReferenceIdeal.main_arg3) = m ((c.tc : Thread Cert.FfnfKernelIdeal.nD Cert.FfnfKernelIdeal.τ).loc Cert.FfnfKernelIdeal.main_arg3)) →
    ∃ (v0 : (c : Dev Cert.FfnfKernelIdeal.nD) → Buf (Elt Ideal) ((c.tc : Thread Cert.FfnfKernelIdeal.nD Cert.FfnfKernelIdeal.τ).loc Cert.FfnfKernelIdeal.main_v5_0)) (v1 : (c : Dev Cert.FfnfKernelIdeal.nD) → Buf (Elt Ideal) ((c.tc : Thread Cert.FfnfKernelIdeal.nD Cert.FfnfKernelIdeal.τ).loc Cert.FfnfKernelIdeal.main_v5_1)),
      θ_run (Cert.FfnfKernelIdeal.defs (F := Ideal)) (onTc (τ := Cert.FfnfKernelIdeal.τ) (Cert.FfnfKernelIdeal.main (F := Ideal))) ⟨m, fun _ => 0, g⟩ (fun r => ∀ c : Dev Cert.FfnfKernelIdeal.nD,
          r.2.mem ((c.tc : Thread Cert.FfnfKernelIdeal.nD Cert.FfnfKernelIdeal.τ).loc Cert.FfnfKernelIdeal.main_v5_0) = v0 c
          ∧ r.2.mem ((c.tc : Thread Cert.FfnfKernelIdeal.nD Cert.FfnfKernelIdeal.τ).loc Cert.FfnfKernelIdeal.main_v5_1) = v1 c
          ∧ r.2.mem ((c.tc : Thread Cert.FfnfKernelIdeal.nD Cert.FfnfKernelIdeal.τ).loc Cert.FfnfKernelIdeal.main_arg0) = m ((c.tc : Thread Cert.FfnfKernelIdeal.nD Cert.FfnfKernelIdeal.τ).loc Cert.FfnfKernelIdeal.main_arg0)
          ∧ r.2.mem ((c.tc : Thread Cert.FfnfKernelIdeal.nD Cert.FfnfKernelIdeal.τ).loc Cert.FfnfKernelIdeal.main_arg1) = m ((c.tc : Thread Cert.FfnfKernelIdeal.nD Cert.FfnfKernelIdeal.τ).loc Cert.FfnfKernelIdeal.main_arg1)
          ∧ r.2.mem ((c.tc : Thread Cert.FfnfKernelIdeal.nD Cert.FfnfKernelIdeal.τ).loc Cert.FfnfKernelIdeal.main_arg2) = m ((c.tc : Thread Cert.FfnfKernelIdeal.nD Cert.FfnfKernelIdeal.τ).loc Cert.FfnfKernelIdeal.main_arg2)
          ∧ r.2.mem ((c.tc : Thread Cert.FfnfKernelIdeal.nD Cert.FfnfKernelIdeal.τ).loc Cert.FfnfKernelIdeal.main_arg3) = m ((c.tc : Thread Cert.FfnfKernelIdeal.nD Cert.FfnfKernelIdeal.τ).loc Cert.FfnfKernelIdeal.main_arg3))
      ∧ θ_run (Cert.FfnfReferenceIdeal.defs (F := Ideal)) (onTc (τ := Cert.FfnfReferenceIdeal.τ) (Cert.FfnfReferenceIdeal.main (F := Ideal))) ⟨m', fun _ => 0, g'⟩ (fun r => ∀ c : Dev Cert.FfnfReferenceIdeal.nD,
          r.2.mem ((c.tc : Thread Cert.FfnfReferenceIdeal.nD Cert.FfnfReferenceIdeal.τ).loc Cert.FfnfReferenceIdeal.main_v21) = v0 c
          ∧ r.2.mem ((c.tc : Thread Cert.FfnfReferenceIdeal.nD Cert.FfnfReferenceIdeal.τ).loc Cert.FfnfReferenceIdeal.main_v22) = v1 c
          ∧ r.2.mem ((c.tc : Thread Cert.FfnfReferenceIdeal.nD Cert.FfnfReferenceIdeal.τ).loc Cert.FfnfReferenceIdeal.main_arg0) = m' ((c.tc : Thread Cert.FfnfReferenceIdeal.nD Cert.FfnfReferenceIdeal.τ).loc Cert.FfnfReferenceIdeal.main_arg0)
          ∧ r.2.mem ((c.tc : Thread Cert.FfnfReferenceIdeal.nD Cert.FfnfReferenceIdeal.τ).loc Cert.FfnfReferenceIdeal.main_arg1) = m' ((c.tc : Thread Cert.FfnfReferenceIdeal.nD Cert.FfnfReferenceIdeal.τ).loc Cert.FfnfReferenceIdeal.main_arg1)
          ∧ r.2.mem ((c.tc : Thread Cert.FfnfReferenceIdeal.nD Cert.FfnfReferenceIdeal.τ).loc Cert.FfnfReferenceIdeal.main_arg2) = m' ((c.tc : Thread Cert.FfnfReferenceIdeal.nD Cert.FfnfReferenceIdeal.τ).loc Cert.FfnfReferenceIdeal.main_arg2)
          ∧ r.2.mem ((c.tc : Thread Cert.FfnfReferenceIdeal.nD Cert.FfnfReferenceIdeal.τ).loc Cert.FfnfReferenceIdeal.main_arg3) = m' ((c.tc : Thread Cert.FfnfReferenceIdeal.nD Cert.FfnfReferenceIdeal.τ).loc Cert.FfnfReferenceIdeal.main_arg3))

def preserves_MergefKernel_MergefKernelIdeal : Prop :=
  True

def algebraic_MergefKernelIdeal_MergefReferenceIdeal_pre_finite_mergef [hMergefKernelIdeal : Cert.MergefKernelIdeal.Facts] [hMergefReferenceIdeal : Cert.MergefReferenceIdeal.Facts] [hPre_finite_mergef : Cert.Pre_finite_mergef.Facts] : Prop :=
  ∀ (m : (ℓ : Loc Cert.MergefKernelIdeal.nD Cert.MergefKernelIdeal.τ Cert.MergefKernelIdeal.sig) → Buf (Elt Ideal) ℓ) (g : Dev Cert.MergefKernelIdeal.nD → PrngReg)
    (m' : (ℓ : Loc Cert.MergefReferenceIdeal.nD Cert.MergefReferenceIdeal.τ Cert.MergefReferenceIdeal.sig) → Buf (Elt Ideal) ℓ) (g' : Dev Cert.MergefReferenceIdeal.nD → PrngReg), Pre_MergefKernelIdeal_finite_mergef m →
    (∀ c : Dev Cert.MergefKernelIdeal.nD,
      m' ((c.tc : Thread Cert.MergefReferenceIdeal.nD Cert.MergefReferenceIdeal.τ).loc Cert.MergefReferenceIdeal.main_arg0) = m ((c.tc : Thread Cert.MergefKernelIdeal.nD Cert.MergefKernelIdeal.τ).loc Cert.MergefKernelIdeal.main_arg0)
      ∧ m' ((c.tc : Thread Cert.MergefReferenceIdeal.nD Cert.MergefReferenceIdeal.τ).loc Cert.MergefReferenceIdeal.main_arg1) = m ((c.tc : Thread Cert.MergefKernelIdeal.nD Cert.MergefKernelIdeal.τ).loc Cert.MergefKernelIdeal.main_arg1)
      ∧ m' ((c.tc : Thread Cert.MergefReferenceIdeal.nD Cert.MergefReferenceIdeal.τ).loc Cert.MergefReferenceIdeal.main_arg2) = m ((c.tc : Thread Cert.MergefKernelIdeal.nD Cert.MergefKernelIdeal.τ).loc Cert.MergefKernelIdeal.main_arg2)
      ∧ m' ((c.tc : Thread Cert.MergefReferenceIdeal.nD Cert.MergefReferenceIdeal.τ).loc Cert.MergefReferenceIdeal.main_arg3) = m ((c.tc : Thread Cert.MergefKernelIdeal.nD Cert.MergefKernelIdeal.τ).loc Cert.MergefKernelIdeal.main_arg3)
      ∧ m' ((c.tc : Thread Cert.MergefReferenceIdeal.nD Cert.MergefReferenceIdeal.τ).loc Cert.MergefReferenceIdeal.main_arg4) = m ((c.tc : Thread Cert.MergefKernelIdeal.nD Cert.MergefKernelIdeal.τ).loc Cert.MergefKernelIdeal.main_arg4)) →
    ∃ (v0 : (c : Dev Cert.MergefKernelIdeal.nD) → Buf (Elt Ideal) ((c.tc : Thread Cert.MergefKernelIdeal.nD Cert.MergefKernelIdeal.τ).loc Cert.MergefKernelIdeal.main_v2)),
      θ_run (Cert.MergefKernelIdeal.defs (F := Ideal)) (onTc (τ := Cert.MergefKernelIdeal.τ) (Cert.MergefKernelIdeal.main (F := Ideal))) ⟨m, fun _ => 0, g⟩ (fun r => ∀ c : Dev Cert.MergefKernelIdeal.nD,
          r.2.mem ((c.tc : Thread Cert.MergefKernelIdeal.nD Cert.MergefKernelIdeal.τ).loc Cert.MergefKernelIdeal.main_v2) = v0 c
          ∧ r.2.mem ((c.tc : Thread Cert.MergefKernelIdeal.nD Cert.MergefKernelIdeal.τ).loc Cert.MergefKernelIdeal.main_arg0) = m ((c.tc : Thread Cert.MergefKernelIdeal.nD Cert.MergefKernelIdeal.τ).loc Cert.MergefKernelIdeal.main_arg0)
          ∧ r.2.mem ((c.tc : Thread Cert.MergefKernelIdeal.nD Cert.MergefKernelIdeal.τ).loc Cert.MergefKernelIdeal.main_arg1) = m ((c.tc : Thread Cert.MergefKernelIdeal.nD Cert.MergefKernelIdeal.τ).loc Cert.MergefKernelIdeal.main_arg1)
          ∧ r.2.mem ((c.tc : Thread Cert.MergefKernelIdeal.nD Cert.MergefKernelIdeal.τ).loc Cert.MergefKernelIdeal.main_arg2) = m ((c.tc : Thread Cert.MergefKernelIdeal.nD Cert.MergefKernelIdeal.τ).loc Cert.MergefKernelIdeal.main_arg2)
          ∧ r.2.mem ((c.tc : Thread Cert.MergefKernelIdeal.nD Cert.MergefKernelIdeal.τ).loc Cert.MergefKernelIdeal.main_arg3) = m ((c.tc : Thread Cert.MergefKernelIdeal.nD Cert.MergefKernelIdeal.τ).loc Cert.MergefKernelIdeal.main_arg3)
          ∧ r.2.mem ((c.tc : Thread Cert.MergefKernelIdeal.nD Cert.MergefKernelIdeal.τ).loc Cert.MergefKernelIdeal.main_arg4) = m ((c.tc : Thread Cert.MergefKernelIdeal.nD Cert.MergefKernelIdeal.τ).loc Cert.MergefKernelIdeal.main_arg4))
      ∧ θ_run (Cert.MergefReferenceIdeal.defs (F := Ideal)) (onTc (τ := Cert.MergefReferenceIdeal.τ) (Cert.MergefReferenceIdeal.main (F := Ideal))) ⟨m', fun _ => 0, g'⟩ (fun r => ∀ c : Dev Cert.MergefReferenceIdeal.nD,
          r.2.mem ((c.tc : Thread Cert.MergefReferenceIdeal.nD Cert.MergefReferenceIdeal.τ).loc Cert.MergefReferenceIdeal.main_v13) = v0 c
          ∧ r.2.mem ((c.tc : Thread Cert.MergefReferenceIdeal.nD Cert.MergefReferenceIdeal.τ).loc Cert.MergefReferenceIdeal.main_arg0) = m' ((c.tc : Thread Cert.MergefReferenceIdeal.nD Cert.MergefReferenceIdeal.τ).loc Cert.MergefReferenceIdeal.main_arg0)
          ∧ r.2.mem ((c.tc : Thread Cert.MergefReferenceIdeal.nD Cert.MergefReferenceIdeal.τ).loc Cert.MergefReferenceIdeal.main_arg1) = m' ((c.tc : Thread Cert.MergefReferenceIdeal.nD Cert.MergefReferenceIdeal.τ).loc Cert.MergefReferenceIdeal.main_arg1)
          ∧ r.2.mem ((c.tc : Thread Cert.MergefReferenceIdeal.nD Cert.MergefReferenceIdeal.τ).loc Cert.MergefReferenceIdeal.main_arg2) = m' ((c.tc : Thread Cert.MergefReferenceIdeal.nD Cert.MergefReferenceIdeal.τ).loc Cert.MergefReferenceIdeal.main_arg2)
          ∧ r.2.mem ((c.tc : Thread Cert.MergefReferenceIdeal.nD Cert.MergefReferenceIdeal.τ).loc Cert.MergefReferenceIdeal.main_arg3) = m' ((c.tc : Thread Cert.MergefReferenceIdeal.nD Cert.MergefReferenceIdeal.τ).loc Cert.MergefReferenceIdeal.main_arg3)
          ∧ r.2.mem ((c.tc : Thread Cert.MergefReferenceIdeal.nD Cert.MergefReferenceIdeal.τ).loc Cert.MergefReferenceIdeal.main_arg4) = m' ((c.tc : Thread Cert.MergefReferenceIdeal.nD Cert.MergefReferenceIdeal.τ).loc Cert.MergefReferenceIdeal.main_arg4))

def preserves_S5fKernel_S5fKernelIdeal : Prop :=
  True

def algebraic_S5fKernelIdeal_S5fReferenceIdeal_pre_finite_s5f [hS5fKernelIdeal : Cert.S5fKernelIdeal.Facts] [hS5fReferenceIdeal : Cert.S5fReferenceIdeal.Facts] [hPre_finite_s5f : Cert.Pre_finite_s5f.Facts] : Prop :=
  ∀ (m : (ℓ : Loc Cert.S5fKernelIdeal.nD Cert.S5fKernelIdeal.τ Cert.S5fKernelIdeal.sig) → Buf (Elt Ideal) ℓ) (g : Dev Cert.S5fKernelIdeal.nD → PrngReg)
    (m' : (ℓ : Loc Cert.S5fReferenceIdeal.nD Cert.S5fReferenceIdeal.τ Cert.S5fReferenceIdeal.sig) → Buf (Elt Ideal) ℓ) (g' : Dev Cert.S5fReferenceIdeal.nD → PrngReg), Pre_S5fKernelIdeal_finite_s5f m →
    (∀ c : Dev Cert.S5fKernelIdeal.nD,
      m' ((c.tc : Thread Cert.S5fReferenceIdeal.nD Cert.S5fReferenceIdeal.τ).loc Cert.S5fReferenceIdeal.main_arg0) = m ((c.tc : Thread Cert.S5fKernelIdeal.nD Cert.S5fKernelIdeal.τ).loc Cert.S5fKernelIdeal.main_arg0)
      ∧ m' ((c.tc : Thread Cert.S5fReferenceIdeal.nD Cert.S5fReferenceIdeal.τ).loc Cert.S5fReferenceIdeal.main_arg1) = m ((c.tc : Thread Cert.S5fKernelIdeal.nD Cert.S5fKernelIdeal.τ).loc Cert.S5fKernelIdeal.main_arg1)
      ∧ m' ((c.tc : Thread Cert.S5fReferenceIdeal.nD Cert.S5fReferenceIdeal.τ).loc Cert.S5fReferenceIdeal.main_arg2) = m ((c.tc : Thread Cert.S5fKernelIdeal.nD Cert.S5fKernelIdeal.τ).loc Cert.S5fKernelIdeal.main_arg2)
      ∧ m' ((c.tc : Thread Cert.S5fReferenceIdeal.nD Cert.S5fReferenceIdeal.τ).loc Cert.S5fReferenceIdeal.main_arg3) = m ((c.tc : Thread Cert.S5fKernelIdeal.nD Cert.S5fKernelIdeal.τ).loc Cert.S5fKernelIdeal.main_arg3)
      ∧ m' ((c.tc : Thread Cert.S5fReferenceIdeal.nD Cert.S5fReferenceIdeal.τ).loc Cert.S5fReferenceIdeal.main_arg4) = m ((c.tc : Thread Cert.S5fKernelIdeal.nD Cert.S5fKernelIdeal.τ).loc Cert.S5fKernelIdeal.main_arg4)
      ∧ m' ((c.tc : Thread Cert.S5fReferenceIdeal.nD Cert.S5fReferenceIdeal.τ).loc Cert.S5fReferenceIdeal.main_arg5) = m ((c.tc : Thread Cert.S5fKernelIdeal.nD Cert.S5fKernelIdeal.τ).loc Cert.S5fKernelIdeal.main_arg5)
      ∧ m' ((c.tc : Thread Cert.S5fReferenceIdeal.nD Cert.S5fReferenceIdeal.τ).loc Cert.S5fReferenceIdeal.main_arg6) = m ((c.tc : Thread Cert.S5fKernelIdeal.nD Cert.S5fKernelIdeal.τ).loc Cert.S5fKernelIdeal.main_arg6)
      ∧ m' ((c.tc : Thread Cert.S5fReferenceIdeal.nD Cert.S5fReferenceIdeal.τ).loc Cert.S5fReferenceIdeal.main_arg7) = m ((c.tc : Thread Cert.S5fKernelIdeal.nD Cert.S5fKernelIdeal.τ).loc Cert.S5fKernelIdeal.main_arg7)
      ∧ m' ((c.tc : Thread Cert.S5fReferenceIdeal.nD Cert.S5fReferenceIdeal.τ).loc Cert.S5fReferenceIdeal.main_arg8) = m ((c.tc : Thread Cert.S5fKernelIdeal.nD Cert.S5fKernelIdeal.τ).loc Cert.S5fKernelIdeal.main_arg8)) →
    ∃ (v0 : (c : Dev Cert.S5fKernelIdeal.nD) → Buf (Elt Ideal) ((c.tc : Thread Cert.S5fKernelIdeal.nD Cert.S5fKernelIdeal.τ).loc Cert.S5fKernelIdeal.main_v101_0)) (v1 : (c : Dev Cert.S5fKernelIdeal.nD) → Buf (Elt Ideal) ((c.tc : Thread Cert.S5fKernelIdeal.nD Cert.S5fKernelIdeal.τ).loc Cert.S5fKernelIdeal.main_v101_1)) (v2 : (c : Dev Cert.S5fKernelIdeal.nD) → Buf (Elt Ideal) ((c.tc : Thread Cert.S5fKernelIdeal.nD Cert.S5fKernelIdeal.τ).loc Cert.S5fKernelIdeal.main_v101_2)),
      θ_run (Cert.S5fKernelIdeal.defs (F := Ideal)) (onTc (τ := Cert.S5fKernelIdeal.τ) (Cert.S5fKernelIdeal.main (F := Ideal))) ⟨m, fun _ => 0, g⟩ (fun r => ∀ c : Dev Cert.S5fKernelIdeal.nD,
          r.2.mem ((c.tc : Thread Cert.S5fKernelIdeal.nD Cert.S5fKernelIdeal.τ).loc Cert.S5fKernelIdeal.main_v101_0) = v0 c
          ∧ r.2.mem ((c.tc : Thread Cert.S5fKernelIdeal.nD Cert.S5fKernelIdeal.τ).loc Cert.S5fKernelIdeal.main_v101_1) = v1 c
          ∧ r.2.mem ((c.tc : Thread Cert.S5fKernelIdeal.nD Cert.S5fKernelIdeal.τ).loc Cert.S5fKernelIdeal.main_v101_2) = v2 c
          ∧ r.2.mem ((c.tc : Thread Cert.S5fKernelIdeal.nD Cert.S5fKernelIdeal.τ).loc Cert.S5fKernelIdeal.main_arg0) = m ((c.tc : Thread Cert.S5fKernelIdeal.nD Cert.S5fKernelIdeal.τ).loc Cert.S5fKernelIdeal.main_arg0)
          ∧ r.2.mem ((c.tc : Thread Cert.S5fKernelIdeal.nD Cert.S5fKernelIdeal.τ).loc Cert.S5fKernelIdeal.main_arg1) = m ((c.tc : Thread Cert.S5fKernelIdeal.nD Cert.S5fKernelIdeal.τ).loc Cert.S5fKernelIdeal.main_arg1)
          ∧ r.2.mem ((c.tc : Thread Cert.S5fKernelIdeal.nD Cert.S5fKernelIdeal.τ).loc Cert.S5fKernelIdeal.main_arg2) = m ((c.tc : Thread Cert.S5fKernelIdeal.nD Cert.S5fKernelIdeal.τ).loc Cert.S5fKernelIdeal.main_arg2)
          ∧ r.2.mem ((c.tc : Thread Cert.S5fKernelIdeal.nD Cert.S5fKernelIdeal.τ).loc Cert.S5fKernelIdeal.main_arg3) = m ((c.tc : Thread Cert.S5fKernelIdeal.nD Cert.S5fKernelIdeal.τ).loc Cert.S5fKernelIdeal.main_arg3)
          ∧ r.2.mem ((c.tc : Thread Cert.S5fKernelIdeal.nD Cert.S5fKernelIdeal.τ).loc Cert.S5fKernelIdeal.main_arg4) = m ((c.tc : Thread Cert.S5fKernelIdeal.nD Cert.S5fKernelIdeal.τ).loc Cert.S5fKernelIdeal.main_arg4)
          ∧ r.2.mem ((c.tc : Thread Cert.S5fKernelIdeal.nD Cert.S5fKernelIdeal.τ).loc Cert.S5fKernelIdeal.main_arg5) = m ((c.tc : Thread Cert.S5fKernelIdeal.nD Cert.S5fKernelIdeal.τ).loc Cert.S5fKernelIdeal.main_arg5)
          ∧ r.2.mem ((c.tc : Thread Cert.S5fKernelIdeal.nD Cert.S5fKernelIdeal.τ).loc Cert.S5fKernelIdeal.main_arg6) = m ((c.tc : Thread Cert.S5fKernelIdeal.nD Cert.S5fKernelIdeal.τ).loc Cert.S5fKernelIdeal.main_arg6)
          ∧ r.2.mem ((c.tc : Thread Cert.S5fKernelIdeal.nD Cert.S5fKernelIdeal.τ).loc Cert.S5fKernelIdeal.main_arg7) = m ((c.tc : Thread Cert.S5fKernelIdeal.nD Cert.S5fKernelIdeal.τ).loc Cert.S5fKernelIdeal.main_arg7)
          ∧ r.2.mem ((c.tc : Thread Cert.S5fKernelIdeal.nD Cert.S5fKernelIdeal.τ).loc Cert.S5fKernelIdeal.main_arg8) = m ((c.tc : Thread Cert.S5fKernelIdeal.nD Cert.S5fKernelIdeal.τ).loc Cert.S5fKernelIdeal.main_arg8))
      ∧ θ_run (Cert.S5fReferenceIdeal.defs (F := Ideal)) (onTc (τ := Cert.S5fReferenceIdeal.τ) (Cert.S5fReferenceIdeal.main (F := Ideal))) ⟨m', fun _ => 0, g'⟩ (fun r => ∀ c : Dev Cert.S5fReferenceIdeal.nD,
          r.2.mem ((c.tc : Thread Cert.S5fReferenceIdeal.nD Cert.S5fReferenceIdeal.τ).loc Cert.S5fReferenceIdeal.main_v62) = v0 c
          ∧ r.2.mem ((c.tc : Thread Cert.S5fReferenceIdeal.nD Cert.S5fReferenceIdeal.τ).loc Cert.S5fReferenceIdeal.main_v69) = v1 c
          ∧ r.2.mem ((c.tc : Thread Cert.S5fReferenceIdeal.nD Cert.S5fReferenceIdeal.τ).loc Cert.S5fReferenceIdeal.main_v76) = v2 c
          ∧ r.2.mem ((c.tc : Thread Cert.S5fReferenceIdeal.nD Cert.S5fReferenceIdeal.τ).loc Cert.S5fReferenceIdeal.main_arg0) = m' ((c.tc : Thread Cert.S5fReferenceIdeal.nD Cert.S5fReferenceIdeal.τ).loc Cert.S5fReferenceIdeal.main_arg0)
          ∧ r.2.mem ((c.tc : Thread Cert.S5fReferenceIdeal.nD Cert.S5fReferenceIdeal.τ).loc Cert.S5fReferenceIdeal.main_arg1) = m' ((c.tc : Thread Cert.S5fReferenceIdeal.nD Cert.S5fReferenceIdeal.τ).loc Cert.S5fReferenceIdeal.main_arg1)
          ∧ r.2.mem ((c.tc : Thread Cert.S5fReferenceIdeal.nD Cert.S5fReferenceIdeal.τ).loc Cert.S5fReferenceIdeal.main_arg2) = m' ((c.tc : Thread Cert.S5fReferenceIdeal.nD Cert.S5fReferenceIdeal.τ).loc Cert.S5fReferenceIdeal.main_arg2)
          ∧ r.2.mem ((c.tc : Thread Cert.S5fReferenceIdeal.nD Cert.S5fReferenceIdeal.τ).loc Cert.S5fReferenceIdeal.main_arg3) = m' ((c.tc : Thread Cert.S5fReferenceIdeal.nD Cert.S5fReferenceIdeal.τ).loc Cert.S5fReferenceIdeal.main_arg3)
          ∧ r.2.mem ((c.tc : Thread Cert.S5fReferenceIdeal.nD Cert.S5fReferenceIdeal.τ).loc Cert.S5fReferenceIdeal.main_arg4) = m' ((c.tc : Thread Cert.S5fReferenceIdeal.nD Cert.S5fReferenceIdeal.τ).loc Cert.S5fReferenceIdeal.main_arg4)
          ∧ r.2.mem ((c.tc : Thread Cert.S5fReferenceIdeal.nD Cert.S5fReferenceIdeal.τ).loc Cert.S5fReferenceIdeal.main_arg5) = m' ((c.tc : Thread Cert.S5fReferenceIdeal.nD Cert.S5fReferenceIdeal.τ).loc Cert.S5fReferenceIdeal.main_arg5)
          ∧ r.2.mem ((c.tc : Thread Cert.S5fReferenceIdeal.nD Cert.S5fReferenceIdeal.τ).loc Cert.S5fReferenceIdeal.main_arg6) = m' ((c.tc : Thread Cert.S5fReferenceIdeal.nD Cert.S5fReferenceIdeal.τ).loc Cert.S5fReferenceIdeal.main_arg6)
          ∧ r.2.mem ((c.tc : Thread Cert.S5fReferenceIdeal.nD Cert.S5fReferenceIdeal.τ).loc Cert.S5fReferenceIdeal.main_arg7) = m' ((c.tc : Thread Cert.S5fReferenceIdeal.nD Cert.S5fReferenceIdeal.τ).loc Cert.S5fReferenceIdeal.main_arg7)
          ∧ r.2.mem ((c.tc : Thread Cert.S5fReferenceIdeal.nD Cert.S5fReferenceIdeal.τ).loc Cert.S5fReferenceIdeal.main_arg8) = m' ((c.tc : Thread Cert.S5fReferenceIdeal.nD Cert.S5fReferenceIdeal.τ).loc Cert.S5fReferenceIdeal.main_arg8))

def preserves_NlfKernel_NlfKernelIdeal : Prop :=
  True

def algebraic_NlfKernelIdeal_NlfReferenceIdeal [hNlfKernelIdeal : Cert.NlfKernelIdeal.Facts] [hNlfReferenceIdeal : Cert.NlfReferenceIdeal.Facts] : Prop :=
  ∀ (m : (ℓ : Loc Cert.NlfKernelIdeal.nD Cert.NlfKernelIdeal.τ Cert.NlfKernelIdeal.sig) → Buf (Elt Ideal) ℓ) (g : Dev Cert.NlfKernelIdeal.nD → PrngReg)
    (m' : (ℓ : Loc Cert.NlfReferenceIdeal.nD Cert.NlfReferenceIdeal.τ Cert.NlfReferenceIdeal.sig) → Buf (Elt Ideal) ℓ) (g' : Dev Cert.NlfReferenceIdeal.nD → PrngReg), Pre_NlfKernelIdeal m →
    (∀ c : Dev Cert.NlfKernelIdeal.nD,
      m' ((c.tc : Thread Cert.NlfReferenceIdeal.nD Cert.NlfReferenceIdeal.τ).loc Cert.NlfReferenceIdeal.main_arg0) = m ((c.tc : Thread Cert.NlfKernelIdeal.nD Cert.NlfKernelIdeal.τ).loc Cert.NlfKernelIdeal.main_arg0)
      ∧ m' ((c.tc : Thread Cert.NlfReferenceIdeal.nD Cert.NlfReferenceIdeal.τ).loc Cert.NlfReferenceIdeal.main_arg1) = m ((c.tc : Thread Cert.NlfKernelIdeal.nD Cert.NlfKernelIdeal.τ).loc Cert.NlfKernelIdeal.main_arg1)
      ∧ m' ((c.tc : Thread Cert.NlfReferenceIdeal.nD Cert.NlfReferenceIdeal.τ).loc Cert.NlfReferenceIdeal.main_arg2) = m ((c.tc : Thread Cert.NlfKernelIdeal.nD Cert.NlfKernelIdeal.τ).loc Cert.NlfKernelIdeal.main_arg2)) →
    ∃ (v0 : (c : Dev Cert.NlfKernelIdeal.nD) → Buf (Elt Ideal) ((c.tc : Thread Cert.NlfKernelIdeal.nD Cert.NlfKernelIdeal.τ).loc Cert.NlfKernelIdeal.main_v16)) (v1 : (c : Dev Cert.NlfKernelIdeal.nD) → Buf (Elt Ideal) ((c.tc : Thread Cert.NlfKernelIdeal.nD Cert.NlfKernelIdeal.τ).loc Cert.NlfKernelIdeal.main_v10_1)),
      θ_run (Cert.NlfKernelIdeal.defs (F := Ideal)) (onTc (τ := Cert.NlfKernelIdeal.τ) (Cert.NlfKernelIdeal.main (F := Ideal))) ⟨m, fun _ => 0, g⟩ (fun r => ∀ c : Dev Cert.NlfKernelIdeal.nD,
          r.2.mem ((c.tc : Thread Cert.NlfKernelIdeal.nD Cert.NlfKernelIdeal.τ).loc Cert.NlfKernelIdeal.main_v16) = v0 c
          ∧ r.2.mem ((c.tc : Thread Cert.NlfKernelIdeal.nD Cert.NlfKernelIdeal.τ).loc Cert.NlfKernelIdeal.main_v10_1) = v1 c
          ∧ r.2.mem ((c.tc : Thread Cert.NlfKernelIdeal.nD Cert.NlfKernelIdeal.τ).loc Cert.NlfKernelIdeal.main_arg0) = m ((c.tc : Thread Cert.NlfKernelIdeal.nD Cert.NlfKernelIdeal.τ).loc Cert.NlfKernelIdeal.main_arg0)
          ∧ r.2.mem ((c.tc : Thread Cert.NlfKernelIdeal.nD Cert.NlfKernelIdeal.τ).loc Cert.NlfKernelIdeal.main_arg1) = m ((c.tc : Thread Cert.NlfKernelIdeal.nD Cert.NlfKernelIdeal.τ).loc Cert.NlfKernelIdeal.main_arg1)
          ∧ r.2.mem ((c.tc : Thread Cert.NlfKernelIdeal.nD Cert.NlfKernelIdeal.τ).loc Cert.NlfKernelIdeal.main_arg2) = m ((c.tc : Thread Cert.NlfKernelIdeal.nD Cert.NlfKernelIdeal.τ).loc Cert.NlfKernelIdeal.main_arg2))
      ∧ θ_run (Cert.NlfReferenceIdeal.defs (F := Ideal)) (onTc (τ := Cert.NlfReferenceIdeal.τ) (Cert.NlfReferenceIdeal.main (F := Ideal))) ⟨m', fun _ => 0, g'⟩ (fun r => ∀ c : Dev Cert.NlfReferenceIdeal.nD,
          r.2.mem ((c.tc : Thread Cert.NlfReferenceIdeal.nD Cert.NlfReferenceIdeal.τ).loc Cert.NlfReferenceIdeal.main_v13) = v0 c
          ∧ r.2.mem ((c.tc : Thread Cert.NlfReferenceIdeal.nD Cert.NlfReferenceIdeal.τ).loc Cert.NlfReferenceIdeal.main_v14) = v1 c
          ∧ r.2.mem ((c.tc : Thread Cert.NlfReferenceIdeal.nD Cert.NlfReferenceIdeal.τ).loc Cert.NlfReferenceIdeal.main_arg0) = m' ((c.tc : Thread Cert.NlfReferenceIdeal.nD Cert.NlfReferenceIdeal.τ).loc Cert.NlfReferenceIdeal.main_arg0)
          ∧ r.2.mem ((c.tc : Thread Cert.NlfReferenceIdeal.nD Cert.NlfReferenceIdeal.τ).loc Cert.NlfReferenceIdeal.main_arg1) = m' ((c.tc : Thread Cert.NlfReferenceIdeal.nD Cert.NlfReferenceIdeal.τ).loc Cert.NlfReferenceIdeal.main_arg1)
          ∧ r.2.mem ((c.tc : Thread Cert.NlfReferenceIdeal.nD Cert.NlfReferenceIdeal.τ).loc Cert.NlfReferenceIdeal.main_arg2) = m' ((c.tc : Thread Cert.NlfReferenceIdeal.nD Cert.NlfReferenceIdeal.τ).loc Cert.NlfReferenceIdeal.main_arg2))

def preserves_LinfKernel_LinfKernelIdeal : Prop :=
  True

def algebraic_LinfKernelIdeal_LinfReferenceIdeal [hLinfKernelIdeal : Cert.LinfKernelIdeal.Facts] [hLinfReferenceIdeal : Cert.LinfReferenceIdeal.Facts] : Prop :=
  ∀ (m : (ℓ : Loc Cert.LinfKernelIdeal.nD Cert.LinfKernelIdeal.τ Cert.LinfKernelIdeal.sig) → Buf (Elt Ideal) ℓ) (g : Dev Cert.LinfKernelIdeal.nD → PrngReg)
    (m' : (ℓ : Loc Cert.LinfReferenceIdeal.nD Cert.LinfReferenceIdeal.τ Cert.LinfReferenceIdeal.sig) → Buf (Elt Ideal) ℓ) (g' : Dev Cert.LinfReferenceIdeal.nD → PrngReg), Pre_LinfKernelIdeal m →
    (∀ c : Dev Cert.LinfKernelIdeal.nD,
      m' ((c.tc : Thread Cert.LinfReferenceIdeal.nD Cert.LinfReferenceIdeal.τ).loc Cert.LinfReferenceIdeal.main_arg0) = m ((c.tc : Thread Cert.LinfKernelIdeal.nD Cert.LinfKernelIdeal.τ).loc Cert.LinfKernelIdeal.main_arg0)
      ∧ m' ((c.tc : Thread Cert.LinfReferenceIdeal.nD Cert.LinfReferenceIdeal.τ).loc Cert.LinfReferenceIdeal.main_arg1) = m ((c.tc : Thread Cert.LinfKernelIdeal.nD Cert.LinfKernelIdeal.τ).loc Cert.LinfKernelIdeal.main_arg1)
      ∧ m' ((c.tc : Thread Cert.LinfReferenceIdeal.nD Cert.LinfReferenceIdeal.τ).loc Cert.LinfReferenceIdeal.main_arg2) = m ((c.tc : Thread Cert.LinfKernelIdeal.nD Cert.LinfKernelIdeal.τ).loc Cert.LinfKernelIdeal.main_arg2)) →
    ∃ (v0 : (c : Dev Cert.LinfKernelIdeal.nD) → Buf (Elt Ideal) ((c.tc : Thread Cert.LinfKernelIdeal.nD Cert.LinfKernelIdeal.τ).loc Cert.LinfKernelIdeal.main_v3)),
      θ_run (Cert.LinfKernelIdeal.defs (F := Ideal)) (onTc (τ := Cert.LinfKernelIdeal.τ) (Cert.LinfKernelIdeal.main (F := Ideal))) ⟨m, fun _ => 0, g⟩ (fun r => ∀ c : Dev Cert.LinfKernelIdeal.nD,
          r.2.mem ((c.tc : Thread Cert.LinfKernelIdeal.nD Cert.LinfKernelIdeal.τ).loc Cert.LinfKernelIdeal.main_v3) = v0 c
          ∧ r.2.mem ((c.tc : Thread Cert.LinfKernelIdeal.nD Cert.LinfKernelIdeal.τ).loc Cert.LinfKernelIdeal.main_arg0) = m ((c.tc : Thread Cert.LinfKernelIdeal.nD Cert.LinfKernelIdeal.τ).loc Cert.LinfKernelIdeal.main_arg0)
          ∧ r.2.mem ((c.tc : Thread Cert.LinfKernelIdeal.nD Cert.LinfKernelIdeal.τ).loc Cert.LinfKernelIdeal.main_arg1) = m ((c.tc : Thread Cert.LinfKernelIdeal.nD Cert.LinfKernelIdeal.τ).loc Cert.LinfKernelIdeal.main_arg1)
          ∧ r.2.mem ((c.tc : Thread Cert.LinfKernelIdeal.nD Cert.LinfKernelIdeal.τ).loc Cert.LinfKernelIdeal.main_arg2) = m ((c.tc : Thread Cert.LinfKernelIdeal.nD Cert.LinfKernelIdeal.τ).loc Cert.LinfKernelIdeal.main_arg2))
      ∧ θ_run (Cert.LinfReferenceIdeal.defs (F := Ideal)) (onTc (τ := Cert.LinfReferenceIdeal.τ) (Cert.LinfReferenceIdeal.main (F := Ideal))) ⟨m', fun _ => 0, g'⟩ (fun r => ∀ c : Dev Cert.LinfReferenceIdeal.nD,
          r.2.mem ((c.tc : Thread Cert.LinfReferenceIdeal.nD Cert.LinfReferenceIdeal.τ).loc Cert.LinfReferenceIdeal.main_v3) = v0 c
          ∧ r.2.mem ((c.tc : Thread Cert.LinfReferenceIdeal.nD Cert.LinfReferenceIdeal.τ).loc Cert.LinfReferenceIdeal.main_arg0) = m' ((c.tc : Thread Cert.LinfReferenceIdeal.nD Cert.LinfReferenceIdeal.τ).loc Cert.LinfReferenceIdeal.main_arg0)
          ∧ r.2.mem ((c.tc : Thread Cert.LinfReferenceIdeal.nD Cert.LinfReferenceIdeal.τ).loc Cert.LinfReferenceIdeal.main_arg1) = m' ((c.tc : Thread Cert.LinfReferenceIdeal.nD Cert.LinfReferenceIdeal.τ).loc Cert.LinfReferenceIdeal.main_arg1)
          ∧ r.2.mem ((c.tc : Thread Cert.LinfReferenceIdeal.nD Cert.LinfReferenceIdeal.τ).loc Cert.LinfReferenceIdeal.main_arg2) = m' ((c.tc : Thread Cert.LinfReferenceIdeal.nD Cert.LinfReferenceIdeal.τ).loc Cert.LinfReferenceIdeal.main_arg2))

def preserves_LinKernel_LinKernelIdeal : Prop :=
  True

def algebraic_LinKernelIdeal_LinReferenceIdeal [hLinKernelIdeal : Cert.LinKernelIdeal.Facts] [hLinReferenceIdeal : Cert.LinReferenceIdeal.Facts] : Prop :=
  ∀ (m : (ℓ : Loc Cert.LinKernelIdeal.nD Cert.LinKernelIdeal.τ Cert.LinKernelIdeal.sig) → Buf (Elt Ideal) ℓ) (g : Dev Cert.LinKernelIdeal.nD → PrngReg)
    (m' : (ℓ : Loc Cert.LinReferenceIdeal.nD Cert.LinReferenceIdeal.τ Cert.LinReferenceIdeal.sig) → Buf (Elt Ideal) ℓ) (g' : Dev Cert.LinReferenceIdeal.nD → PrngReg), Pre_LinKernelIdeal m →
    (∀ c : Dev Cert.LinKernelIdeal.nD,
      m' ((c.tc : Thread Cert.LinReferenceIdeal.nD Cert.LinReferenceIdeal.τ).loc Cert.LinReferenceIdeal.main_arg0) = m ((c.tc : Thread Cert.LinKernelIdeal.nD Cert.LinKernelIdeal.τ).loc Cert.LinKernelIdeal.main_arg0)
      ∧ m' ((c.tc : Thread Cert.LinReferenceIdeal.nD Cert.LinReferenceIdeal.τ).loc Cert.LinReferenceIdeal.main_arg1) = m ((c.tc : Thread Cert.LinKernelIdeal.nD Cert.LinKernelIdeal.τ).loc Cert.LinKernelIdeal.main_arg1)
      ∧ m' ((c.tc : Thread Cert.LinReferenceIdeal.nD Cert.LinReferenceIdeal.τ).loc Cert.LinReferenceIdeal.main_arg2) = m ((c.tc : Thread Cert.LinKernelIdeal.nD Cert.LinKernelIdeal.τ).loc Cert.LinKernelIdeal.main_arg2)
      ∧ m' ((c.tc : Thread Cert.LinReferenceIdeal.nD Cert.LinReferenceIdeal.τ).loc Cert.LinReferenceIdeal.main_arg3) = m ((c.tc : Thread Cert.LinKernelIdeal.nD Cert.LinKernelIdeal.τ).loc Cert.LinKernelIdeal.main_arg3)) →
    ∃ (v0 : (c : Dev Cert.LinKernelIdeal.nD) → Buf (Elt Ideal) ((c.tc : Thread Cert.LinKernelIdeal.nD Cert.LinKernelIdeal.τ).loc Cert.LinKernelIdeal.main_v5)) (v1 : (c : Dev Cert.LinKernelIdeal.nD) → Buf (Elt Ideal) ((c.tc : Thread Cert.LinKernelIdeal.nD Cert.LinKernelIdeal.τ).loc Cert.LinKernelIdeal.main_v3_1)) (v2 : (c : Dev Cert.LinKernelIdeal.nD) → Buf (Elt Ideal) ((c.tc : Thread Cert.LinKernelIdeal.nD Cert.LinKernelIdeal.τ).loc Cert.LinKernelIdeal.main_v3_2)),
      θ_run (Cert.LinKernelIdeal.defs (F := Ideal)) (onTc (τ := Cert.LinKernelIdeal.τ) (Cert.LinKernelIdeal.main (F := Ideal))) ⟨m, fun _ => 0, g⟩ (fun r => ∀ c : Dev Cert.LinKernelIdeal.nD,
          r.2.mem ((c.tc : Thread Cert.LinKernelIdeal.nD Cert.LinKernelIdeal.τ).loc Cert.LinKernelIdeal.main_v5) = v0 c
          ∧ r.2.mem ((c.tc : Thread Cert.LinKernelIdeal.nD Cert.LinKernelIdeal.τ).loc Cert.LinKernelIdeal.main_v3_1) = v1 c
          ∧ r.2.mem ((c.tc : Thread Cert.LinKernelIdeal.nD Cert.LinKernelIdeal.τ).loc Cert.LinKernelIdeal.main_v3_2) = v2 c
          ∧ r.2.mem ((c.tc : Thread Cert.LinKernelIdeal.nD Cert.LinKernelIdeal.τ).loc Cert.LinKernelIdeal.main_arg0) = m ((c.tc : Thread Cert.LinKernelIdeal.nD Cert.LinKernelIdeal.τ).loc Cert.LinKernelIdeal.main_arg0)
          ∧ r.2.mem ((c.tc : Thread Cert.LinKernelIdeal.nD Cert.LinKernelIdeal.τ).loc Cert.LinKernelIdeal.main_arg1) = m ((c.tc : Thread Cert.LinKernelIdeal.nD Cert.LinKernelIdeal.τ).loc Cert.LinKernelIdeal.main_arg1)
          ∧ r.2.mem ((c.tc : Thread Cert.LinKernelIdeal.nD Cert.LinKernelIdeal.τ).loc Cert.LinKernelIdeal.main_arg2) = m ((c.tc : Thread Cert.LinKernelIdeal.nD Cert.LinKernelIdeal.τ).loc Cert.LinKernelIdeal.main_arg2)
          ∧ r.2.mem ((c.tc : Thread Cert.LinKernelIdeal.nD Cert.LinKernelIdeal.τ).loc Cert.LinKernelIdeal.main_arg3) = m ((c.tc : Thread Cert.LinKernelIdeal.nD Cert.LinKernelIdeal.τ).loc Cert.LinKernelIdeal.main_arg3))
      ∧ θ_run (Cert.LinReferenceIdeal.defs (F := Ideal)) (onTc (τ := Cert.LinReferenceIdeal.τ) (Cert.LinReferenceIdeal.main (F := Ideal))) ⟨m', fun _ => 0, g'⟩ (fun r => ∀ c : Dev Cert.LinReferenceIdeal.nD,
          r.2.mem ((c.tc : Thread Cert.LinReferenceIdeal.nD Cert.LinReferenceIdeal.τ).loc Cert.LinReferenceIdeal.main_v10) = v0 c
          ∧ r.2.mem ((c.tc : Thread Cert.LinReferenceIdeal.nD Cert.LinReferenceIdeal.τ).loc Cert.LinReferenceIdeal.main_v9) = v1 c
          ∧ r.2.mem ((c.tc : Thread Cert.LinReferenceIdeal.nD Cert.LinReferenceIdeal.τ).loc Cert.LinReferenceIdeal.main_v11) = v2 c
          ∧ r.2.mem ((c.tc : Thread Cert.LinReferenceIdeal.nD Cert.LinReferenceIdeal.τ).loc Cert.LinReferenceIdeal.main_arg0) = m' ((c.tc : Thread Cert.LinReferenceIdeal.nD Cert.LinReferenceIdeal.τ).loc Cert.LinReferenceIdeal.main_arg0)
          ∧ r.2.mem ((c.tc : Thread Cert.LinReferenceIdeal.nD Cert.LinReferenceIdeal.τ).loc Cert.LinReferenceIdeal.main_arg1) = m' ((c.tc : Thread Cert.LinReferenceIdeal.nD Cert.LinReferenceIdeal.τ).loc Cert.LinReferenceIdeal.main_arg1)
          ∧ r.2.mem ((c.tc : Thread Cert.LinReferenceIdeal.nD Cert.LinReferenceIdeal.τ).loc Cert.LinReferenceIdeal.main_arg2) = m' ((c.tc : Thread Cert.LinReferenceIdeal.nD Cert.LinReferenceIdeal.τ).loc Cert.LinReferenceIdeal.main_arg2)
          ∧ r.2.mem ((c.tc : Thread Cert.LinReferenceIdeal.nD Cert.LinReferenceIdeal.τ).loc Cert.LinReferenceIdeal.main_arg3) = m' ((c.tc : Thread Cert.LinReferenceIdeal.nD Cert.LinReferenceIdeal.τ).loc Cert.LinReferenceIdeal.main_arg3))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_OpsfKernel_OpsfKernelIdeal : Prop :=
  True

def algebraic_OpsfKernelIdeal_OpsfReferenceIdeal_pre_finite_opsf [hOpsfKernelIdeal : Cert.OpsfKernelIdeal.Facts] [hOpsfReferenceIdeal : Cert.OpsfReferenceIdeal.Facts] [hPre_finite_opsf : Cert.Pre_finite_opsf.Facts] : Prop :=
  ∀ (m : (ℓ : Loc Cert.OpsfKernelIdeal.nD Cert.OpsfKernelIdeal.τ Cert.OpsfKernelIdeal.sig) → Buf (Elt Ideal) ℓ) (g : Dev Cert.OpsfKernelIdeal.nD → PrngReg)
    (m' : (ℓ : Loc Cert.OpsfReferenceIdeal.nD Cert.OpsfReferenceIdeal.τ Cert.OpsfReferenceIdeal.sig) → Buf (Elt Ideal) ℓ) (g' : Dev Cert.OpsfReferenceIdeal.nD → PrngReg), Pre_OpsfKernelIdeal_finite_opsf m →
    (∀ c : Dev Cert.OpsfKernelIdeal.nD,
      m' ((c.tc : Thread Cert.OpsfReferenceIdeal.nD Cert.OpsfReferenceIdeal.τ).loc Cert.OpsfReferenceIdeal.main_arg0) = m ((c.tc : Thread Cert.OpsfKernelIdeal.nD Cert.OpsfKernelIdeal.τ).loc Cert.OpsfKernelIdeal.main_arg0)
      ∧ m' ((c.tc : Thread Cert.OpsfReferenceIdeal.nD Cert.OpsfReferenceIdeal.τ).loc Cert.OpsfReferenceIdeal.main_arg1) = m ((c.tc : Thread Cert.OpsfKernelIdeal.nD Cert.OpsfKernelIdeal.τ).loc Cert.OpsfKernelIdeal.main_arg1)
      ∧ m' ((c.tc : Thread Cert.OpsfReferenceIdeal.nD Cert.OpsfReferenceIdeal.τ).loc Cert.OpsfReferenceIdeal.main_arg2) = m ((c.tc : Thread Cert.OpsfKernelIdeal.nD Cert.OpsfKernelIdeal.τ).loc Cert.OpsfKernelIdeal.main_arg2)
      ∧ m' ((c.tc : Thread Cert.OpsfReferenceIdeal.nD Cert.OpsfReferenceIdeal.τ).loc Cert.OpsfReferenceIdeal.main_arg3) = m ((c.tc : Thread Cert.OpsfKernelIdeal.nD Cert.OpsfKernelIdeal.τ).loc Cert.OpsfKernelIdeal.main_arg3)
      ∧ m' ((c.tc : Thread Cert.OpsfReferenceIdeal.nD Cert.OpsfReferenceIdeal.τ).loc Cert.OpsfReferenceIdeal.main_arg4) = m ((c.tc : Thread Cert.OpsfKernelIdeal.nD Cert.OpsfKernelIdeal.τ).loc Cert.OpsfKernelIdeal.main_arg4)) →
    ∃ (v0 : (c : Dev Cert.OpsfKernelIdeal.nD) → Buf (Elt Ideal) ((c.tc : Thread Cert.OpsfKernelIdeal.nD Cert.OpsfKernelIdeal.τ).loc Cert.OpsfKernelIdeal.main_v36)) (v1 : (c : Dev Cert.OpsfKernelIdeal.nD) → Buf (Elt Ideal) ((c.tc : Thread Cert.OpsfKernelIdeal.nD Cert.OpsfKernelIdeal.τ).loc Cert.OpsfKernelIdeal.main_v37)) (v2 : (c : Dev Cert.OpsfKernelIdeal.nD) → Buf (Elt Ideal) ((c.tc : Thread Cert.OpsfKernelIdeal.nD Cert.OpsfKernelIdeal.τ).loc Cert.OpsfKernelIdeal.main_v50)) (v3 : (c : Dev Cert.OpsfKernelIdeal.nD) → Buf (Elt Ideal) ((c.tc : Thread Cert.OpsfKernelIdeal.nD Cert.OpsfKernelIdeal.τ).loc Cert.OpsfKernelIdeal.main_v63)) (v4 : (c : Dev Cert.OpsfKernelIdeal.nD) → Buf (Elt Ideal) ((c.tc : Thread Cert.OpsfKernelIdeal.nD Cert.OpsfKernelIdeal.τ).loc Cert.OpsfKernelIdeal.main_v65)) (v5 : (c : Dev Cert.OpsfKernelIdeal.nD) → Buf (Elt Ideal) ((c.tc : Thread Cert.OpsfKernelIdeal.nD Cert.OpsfKernelIdeal.τ).loc Cert.OpsfKernelIdeal.main_v67)),
      θ_run (Cert.OpsfKernelIdeal.defs (F := Ideal)) (onTc (τ := Cert.OpsfKernelIdeal.τ) (Cert.OpsfKernelIdeal.main (F := Ideal))) ⟨m, fun _ => 0, g⟩ (fun r => ∀ c : Dev Cert.OpsfKernelIdeal.nD,
          r.2.mem ((c.tc : Thread Cert.OpsfKernelIdeal.nD Cert.OpsfKernelIdeal.τ).loc Cert.OpsfKernelIdeal.main_v36) = v0 c
          ∧ r.2.mem ((c.tc : Thread Cert.OpsfKernelIdeal.nD Cert.OpsfKernelIdeal.τ).loc Cert.OpsfKernelIdeal.main_v37) = v1 c
          ∧ r.2.mem ((c.tc : Thread Cert.OpsfKernelIdeal.nD Cert.OpsfKernelIdeal.τ).loc Cert.OpsfKernelIdeal.main_v50) = v2 c
          ∧ r.2.mem ((c.tc : Thread Cert.OpsfKernelIdeal.nD Cert.OpsfKernelIdeal.τ).loc Cert.OpsfKernelIdeal.main_v63) = v3 c
          ∧ r.2.mem ((c.tc : Thread Cert.OpsfKernelIdeal.nD Cert.OpsfKernelIdeal.τ).loc Cert.OpsfKernelIdeal.main_v65) = v4 c
          ∧ r.2.mem ((c.tc : Thread Cert.OpsfKernelIdeal.nD Cert.OpsfKernelIdeal.τ).loc Cert.OpsfKernelIdeal.main_v67) = v5 c
          ∧ r.2.mem ((c.tc : Thread Cert.OpsfKernelIdeal.nD Cert.OpsfKernelIdeal.τ).loc Cert.OpsfKernelIdeal.main_arg0) = m ((c.tc : Thread Cert.OpsfKernelIdeal.nD Cert.OpsfKernelIdeal.τ).loc Cert.OpsfKernelIdeal.main_arg0)
          ∧ r.2.mem ((c.tc : Thread Cert.OpsfKernelIdeal.nD Cert.OpsfKernelIdeal.τ).loc Cert.OpsfKernelIdeal.main_arg1) = m ((c.tc : Thread Cert.OpsfKernelIdeal.nD Cert.OpsfKernelIdeal.τ).loc Cert.OpsfKernelIdeal.main_arg1)
          ∧ r.2.mem ((c.tc : Thread Cert.OpsfKernelIdeal.nD Cert.OpsfKernelIdeal.τ).loc Cert.OpsfKernelIdeal.main_arg2) = m ((c.tc : Thread Cert.OpsfKernelIdeal.nD Cert.OpsfKernelIdeal.τ).loc Cert.OpsfKernelIdeal.main_arg2)
          ∧ r.2.mem ((c.tc : Thread Cert.OpsfKernelIdeal.nD Cert.OpsfKernelIdeal.τ).loc Cert.OpsfKernelIdeal.main_arg3) = m ((c.tc : Thread Cert.OpsfKernelIdeal.nD Cert.OpsfKernelIdeal.τ).loc Cert.OpsfKernelIdeal.main_arg3)
          ∧ r.2.mem ((c.tc : Thread Cert.OpsfKernelIdeal.nD Cert.OpsfKernelIdeal.τ).loc Cert.OpsfKernelIdeal.main_arg4) = m ((c.tc : Thread Cert.OpsfKernelIdeal.nD Cert.OpsfKernelIdeal.τ).loc Cert.OpsfKernelIdeal.main_arg4))
      ∧ θ_run (Cert.OpsfReferenceIdeal.defs (F := Ideal)) (onTc (τ := Cert.OpsfReferenceIdeal.τ) (Cert.OpsfReferenceIdeal.main (F := Ideal))) ⟨m', fun _ => 0, g'⟩ (fun r => ∀ c : Dev Cert.OpsfReferenceIdeal.nD,
          r.2.mem ((c.tc : Thread Cert.OpsfReferenceIdeal.nD Cert.OpsfReferenceIdeal.τ).loc Cert.OpsfReferenceIdeal.main_v8) = v0 c
          ∧ r.2.mem ((c.tc : Thread Cert.OpsfReferenceIdeal.nD Cert.OpsfReferenceIdeal.τ).loc Cert.OpsfReferenceIdeal.main_v12) = v1 c
          ∧ r.2.mem ((c.tc : Thread Cert.OpsfReferenceIdeal.nD Cert.OpsfReferenceIdeal.τ).loc Cert.OpsfReferenceIdeal.main_v32) = v2 c
          ∧ r.2.mem ((c.tc : Thread Cert.OpsfReferenceIdeal.nD Cert.OpsfReferenceIdeal.τ).loc Cert.OpsfReferenceIdeal.main_v39) = v3 c
          ∧ r.2.mem ((c.tc : Thread Cert.OpsfReferenceIdeal.nD Cert.OpsfReferenceIdeal.τ).loc Cert.OpsfReferenceIdeal.main_v58) = v4 c
          ∧ r.2.mem ((c.tc : Thread Cert.OpsfReferenceIdeal.nD Cert.OpsfReferenceIdeal.τ).loc Cert.OpsfReferenceIdeal.main_v66) = v5 c
          ∧ r.2.mem ((c.tc : Thread Cert.OpsfReferenceIdeal.nD Cert.OpsfReferenceIdeal.τ).loc Cert.OpsfReferenceIdeal.main_arg0) = m' ((c.tc : Thread Cert.OpsfReferenceIdeal.nD Cert.OpsfReferenceIdeal.τ).loc Cert.OpsfReferenceIdeal.main_arg0)
          ∧ r.2.mem ((c.tc : Thread Cert.OpsfReferenceIdeal.nD Cert.OpsfReferenceIdeal.τ).loc Cert.OpsfReferenceIdeal.main_arg1) = m' ((c.tc : Thread Cert.OpsfReferenceIdeal.nD Cert.OpsfReferenceIdeal.τ).loc Cert.OpsfReferenceIdeal.main_arg1)
          ∧ r.2.mem ((c.tc : Thread Cert.OpsfReferenceIdeal.nD Cert.OpsfReferenceIdeal.τ).loc Cert.OpsfReferenceIdeal.main_arg2) = m' ((c.tc : Thread Cert.OpsfReferenceIdeal.nD Cert.OpsfReferenceIdeal.τ).loc Cert.OpsfReferenceIdeal.main_arg2)
          ∧ r.2.mem ((c.tc : Thread Cert.OpsfReferenceIdeal.nD Cert.OpsfReferenceIdeal.τ).loc Cert.OpsfReferenceIdeal.main_arg3) = m' ((c.tc : Thread Cert.OpsfReferenceIdeal.nD Cert.OpsfReferenceIdeal.τ).loc Cert.OpsfReferenceIdeal.main_arg3)
          ∧ r.2.mem ((c.tc : Thread Cert.OpsfReferenceIdeal.nD Cert.OpsfReferenceIdeal.τ).loc Cert.OpsfReferenceIdeal.main_arg4) = m' ((c.tc : Thread Cert.OpsfReferenceIdeal.nD Cert.OpsfReferenceIdeal.τ).loc Cert.OpsfReferenceIdeal.main_arg4))

def Claim : Prop :=
  ∃ (hNormKernel : Cert.NormKernel.Facts) (hNormKernelIdeal : Cert.NormKernelIdeal.Facts) (hNormReferenceIdeal : Cert.NormReferenceIdeal.Facts) (hLossKernel : Cert.LossKernel.Facts) (hLossKernelIdeal : Cert.LossKernelIdeal.Facts) (hLossReferenceIdeal : Cert.LossReferenceIdeal.Facts) (hOpsKernel : Cert.OpsKernel.Facts) (hOpsKernelIdeal : Cert.OpsKernelIdeal.Facts) (hOpsReferenceIdeal : Cert.OpsReferenceIdeal.Facts) (hGluKernel : Cert.GluKernel.Facts) (hGluKernelIdeal : Cert.GluKernelIdeal.Facts) (hGluReferenceIdeal : Cert.GluReferenceIdeal.Facts) (hPleKernel : Cert.PleKernel.Facts) (hPleKernelIdeal : Cert.PleKernelIdeal.Facts) (hPleReferenceIdeal : Cert.PleReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hS5Kernel : Cert.S5Kernel.Facts) (hS5KernelIdeal : Cert.S5KernelIdeal.Facts) (hS5ReferenceIdeal : Cert.S5ReferenceIdeal.Facts) (hLruKernel : Cert.LruKernel.Facts) (hLruKernelIdeal : Cert.LruKernelIdeal.Facts) (hLruReferenceIdeal : Cert.LruReferenceIdeal.Facts) (hGlufKernel : Cert.GlufKernel.Facts) (hGlufKernelIdeal : Cert.GlufKernelIdeal.Facts) (hGlufReferenceIdeal : Cert.GlufReferenceIdeal.Facts) (hPlefKernel : Cert.PlefKernel.Facts) (hPlefKernelIdeal : Cert.PlefKernelIdeal.Facts) (hPlefReferenceIdeal : Cert.PlefReferenceIdeal.Facts) (hFfnfKernel : Cert.FfnfKernel.Facts) (hFfnfKernelIdeal : Cert.FfnfKernelIdeal.Facts) (hFfnfReferenceIdeal : Cert.FfnfReferenceIdeal.Facts) (hMergefKernel : Cert.MergefKernel.Facts) (hMergefKernelIdeal : Cert.MergefKernelIdeal.Facts) (hMergefReferenceIdeal : Cert.MergefReferenceIdeal.Facts) (hS5fKernel : Cert.S5fKernel.Facts) (hS5fKernelIdeal : Cert.S5fKernelIdeal.Facts) (hS5fReferenceIdeal : Cert.S5fReferenceIdeal.Facts) (hNlfKernel : Cert.NlfKernel.Facts) (hNlfKernelIdeal : Cert.NlfKernelIdeal.Facts) (hNlfReferenceIdeal : Cert.NlfReferenceIdeal.Facts) (hLinfKernel : Cert.LinfKernel.Facts) (hLinfKernelIdeal : Cert.LinfKernelIdeal.Facts) (hLinfReferenceIdeal : Cert.LinfReferenceIdeal.Facts) (hLinKernel : Cert.LinKernel.Facts) (hLinKernelIdeal : Cert.LinKernelIdeal.Facts) (hLinReferenceIdeal : Cert.LinReferenceIdeal.Facts) (hAdamKernel : Cert.AdamKernel.Facts) (hAdamKernelIdeal : Cert.AdamKernelIdeal.Facts) (hAdamReferenceIdeal : Cert.AdamReferenceIdeal.Facts) (hOpsfKernel : Cert.OpsfKernel.Facts) (hOpsfKernelIdeal : Cert.OpsfKernelIdeal.Facts) (hOpsfReferenceIdeal : Cert.OpsfReferenceIdeal.Facts) (hPre_finite_ops : Cert.Pre_finite_ops.Facts) (hPre_finite_merge : Cert.Pre_finite_merge.Facts) (hPre_finite_s5 : Cert.Pre_finite_s5.Facts) (hPre_finite_mergef : Cert.Pre_finite_mergef.Facts) (hPre_finite_s5f : Cert.Pre_finite_s5f.Facts) (hPre_finite_opsf : Cert.Pre_finite_opsf.Facts),
    quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_OpsKernel (hOpsKernel := hOpsKernel)
    ∧ quiescent_OpsKernelIdeal (hOpsKernelIdeal := hOpsKernelIdeal)
    ∧ quiescent_OpsKernelIdeal_pre_finite_ops (hOpsKernelIdeal := hOpsKernelIdeal) (hPre_finite_ops := hPre_finite_ops)
    ∧ quiescent_OpsReferenceIdeal (hOpsReferenceIdeal := hOpsReferenceIdeal)
    ∧ quiescent_OpsReferenceIdeal_pre_finite_ops (hOpsReferenceIdeal := hOpsReferenceIdeal) (hPre_finite_ops := hPre_finite_ops)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeKernelIdeal_pre_finite_merge (hMergeKernelIdeal := hMergeKernelIdeal) (hPre_finite_merge := hPre_finite_merge)
    ∧ quiescent_MergeReferenceIdeal (hMergeReferenceIdeal := hMergeReferenceIdeal)
    ∧ quiescent_MergeReferenceIdeal_pre_finite_merge (hMergeReferenceIdeal := hMergeReferenceIdeal) (hPre_finite_merge := hPre_finite_merge)
    ∧ quiescent_S5Kernel (hS5Kernel := hS5Kernel)
    ∧ quiescent_S5KernelIdeal (hS5KernelIdeal := hS5KernelIdeal)
    ∧ quiescent_S5KernelIdeal_pre_finite_s5 (hS5KernelIdeal := hS5KernelIdeal) (hPre_finite_s5 := hPre_finite_s5)
    ∧ quiescent_S5ReferenceIdeal (hS5ReferenceIdeal := hS5ReferenceIdeal)
    ∧ quiescent_S5ReferenceIdeal_pre_finite_s5 (hS5ReferenceIdeal := hS5ReferenceIdeal) (hPre_finite_s5 := hPre_finite_s5)
    ∧ quiescent_LruKernel (hLruKernel := hLruKernel)
    ∧ quiescent_LruKernelIdeal (hLruKernelIdeal := hLruKernelIdeal)
    ∧ quiescent_LruReferenceIdeal (hLruReferenceIdeal := hLruReferenceIdeal)
    ∧ quiescent_GlufKernel (hGlufKernel := hGlufKernel)
    ∧ quiescent_GlufKernelIdeal (hGlufKernelIdeal := hGlufKernelIdeal)
    ∧ quiescent_GlufReferenceIdeal (hGlufReferenceIdeal := hGlufReferenceIdeal)
    ∧ quiescent_PlefKernel (hPlefKernel := hPlefKernel)
    ∧ quiescent_PlefKernelIdeal (hPlefKernelIdeal := hPlefKernelIdeal)
    ∧ quiescent_PlefReferenceIdeal (hPlefReferenceIdeal := hPlefReferenceIdeal)
    ∧ quiescent_FfnfKernel (hFfnfKernel := hFfnfKernel)
    ∧ quiescent_FfnfKernelIdeal (hFfnfKernelIdeal := hFfnfKernelIdeal)
    ∧ quiescent_FfnfReferenceIdeal (hFfnfReferenceIdeal := hFfnfReferenceIdeal)
    ∧ quiescent_MergefKernel (hMergefKernel := hMergefKernel)
    ∧ quiescent_MergefKernelIdeal (hMergefKernelIdeal := hMergefKernelIdeal)
    ∧ quiescent_MergefKernelIdeal_pre_finite_mergef (hMergefKernelIdeal := hMergefKernelIdeal) (hPre_finite_mergef := hPre_finite_mergef)
    ∧ quiescent_MergefReferenceIdeal (hMergefReferenceIdeal := hMergefReferenceIdeal)
    ∧ quiescent_MergefReferenceIdeal_pre_finite_mergef (hMergefReferenceIdeal := hMergefReferenceIdeal) (hPre_finite_mergef := hPre_finite_mergef)
    ∧ quiescent_S5fKernel (hS5fKernel := hS5fKernel)
    ∧ quiescent_S5fKernelIdeal (hS5fKernelIdeal := hS5fKernelIdeal)
    ∧ quiescent_S5fKernelIdeal_pre_finite_s5f (hS5fKernelIdeal := hS5fKernelIdeal) (hPre_finite_s5f := hPre_finite_s5f)
    ∧ quiescent_S5fReferenceIdeal (hS5fReferenceIdeal := hS5fReferenceIdeal)
    ∧ quiescent_S5fReferenceIdeal_pre_finite_s5f (hS5fReferenceIdeal := hS5fReferenceIdeal) (hPre_finite_s5f := hPre_finite_s5f)
    ∧ quiescent_NlfKernel (hNlfKernel := hNlfKernel)
    ∧ quiescent_NlfKernelIdeal (hNlfKernelIdeal := hNlfKernelIdeal)
    ∧ quiescent_NlfReferenceIdeal (hNlfReferenceIdeal := hNlfReferenceIdeal)
    ∧ quiescent_LinfKernel (hLinfKernel := hLinfKernel)
    ∧ quiescent_LinfKernelIdeal (hLinfKernelIdeal := hLinfKernelIdeal)
    ∧ quiescent_LinfReferenceIdeal (hLinfReferenceIdeal := hLinfReferenceIdeal)
    ∧ quiescent_LinKernel (hLinKernel := hLinKernel)
    ∧ quiescent_LinKernelIdeal (hLinKernelIdeal := hLinKernelIdeal)
    ∧ quiescent_LinReferenceIdeal (hLinReferenceIdeal := hLinReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_OpsfKernel (hOpsfKernel := hOpsfKernel)
    ∧ quiescent_OpsfKernelIdeal (hOpsfKernelIdeal := hOpsfKernelIdeal)
    ∧ quiescent_OpsfKernelIdeal_pre_finite_opsf (hOpsfKernelIdeal := hOpsfKernelIdeal) (hPre_finite_opsf := hPre_finite_opsf)
    ∧ quiescent_OpsfReferenceIdeal (hOpsfReferenceIdeal := hOpsfReferenceIdeal)
    ∧ quiescent_OpsfReferenceIdeal_pre_finite_opsf (hOpsfReferenceIdeal := hOpsfReferenceIdeal) (hPre_finite_opsf := hPre_finite_opsf)
    ∧ preserves_NormKernel_NormKernelIdeal
    ∧ algebraic_NormKernelIdeal_NormReferenceIdeal (hNormKernelIdeal := hNormKernelIdeal) (hNormReferenceIdeal := hNormReferenceIdeal)
    ∧ preserves_LossKernel_LossKernelIdeal
    ∧ algebraic_LossKernelIdeal_LossReferenceIdeal (hLossKernelIdeal := hLossKernelIdeal) (hLossReferenceIdeal := hLossReferenceIdeal)
    ∧ preserves_OpsKernel_OpsKernelIdeal
    ∧ algebraic_OpsKernelIdeal_OpsReferenceIdeal_pre_finite_ops (hOpsKernelIdeal := hOpsKernelIdeal) (hOpsReferenceIdeal := hOpsReferenceIdeal) (hPre_finite_ops := hPre_finite_ops)
    ∧ preserves_GluKernel_GluKernelIdeal
    ∧ algebraic_GluKernelIdeal_GluReferenceIdeal (hGluKernelIdeal := hGluKernelIdeal) (hGluReferenceIdeal := hGluReferenceIdeal)
    ∧ preserves_PleKernel_PleKernelIdeal
    ∧ algebraic_PleKernelIdeal_PleReferenceIdeal (hPleKernelIdeal := hPleKernelIdeal) (hPleReferenceIdeal := hPleReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal_pre_finite_merge (hMergeKernelIdeal := hMergeKernelIdeal) (hMergeReferenceIdeal := hMergeReferenceIdeal) (hPre_finite_merge := hPre_finite_merge)
    ∧ preserves_S5Kernel_S5KernelIdeal
    ∧ algebraic_S5KernelIdeal_S5ReferenceIdeal_pre_finite_s5 (hS5KernelIdeal := hS5KernelIdeal) (hS5ReferenceIdeal := hS5ReferenceIdeal) (hPre_finite_s5 := hPre_finite_s5)
    ∧ preserves_LruKernel_LruKernelIdeal
    ∧ preserves_GlufKernel_GlufKernelIdeal
    ∧ algebraic_GlufKernelIdeal_GlufReferenceIdeal (hGlufKernelIdeal := hGlufKernelIdeal) (hGlufReferenceIdeal := hGlufReferenceIdeal)
    ∧ preserves_PlefKernel_PlefKernelIdeal
    ∧ algebraic_PlefKernelIdeal_PlefReferenceIdeal (hPlefKernelIdeal := hPlefKernelIdeal) (hPlefReferenceIdeal := hPlefReferenceIdeal)
    ∧ preserves_FfnfKernel_FfnfKernelIdeal
    ∧ algebraic_FfnfKernelIdeal_FfnfReferenceIdeal (hFfnfKernelIdeal := hFfnfKernelIdeal) (hFfnfReferenceIdeal := hFfnfReferenceIdeal)
    ∧ preserves_MergefKernel_MergefKernelIdeal
    ∧ algebraic_MergefKernelIdeal_MergefReferenceIdeal_pre_finite_mergef (hMergefKernelIdeal := hMergefKernelIdeal) (hMergefReferenceIdeal := hMergefReferenceIdeal) (hPre_finite_mergef := hPre_finite_mergef)
    ∧ preserves_S5fKernel_S5fKernelIdeal
    ∧ algebraic_S5fKernelIdeal_S5fReferenceIdeal_pre_finite_s5f (hS5fKernelIdeal := hS5fKernelIdeal) (hS5fReferenceIdeal := hS5fReferenceIdeal) (hPre_finite_s5f := hPre_finite_s5f)
    ∧ preserves_NlfKernel_NlfKernelIdeal
    ∧ algebraic_NlfKernelIdeal_NlfReferenceIdeal (hNlfKernelIdeal := hNlfKernelIdeal) (hNlfReferenceIdeal := hNlfReferenceIdeal)
    ∧ preserves_LinfKernel_LinfKernelIdeal
    ∧ algebraic_LinfKernelIdeal_LinfReferenceIdeal (hLinfKernelIdeal := hLinfKernelIdeal) (hLinfReferenceIdeal := hLinfReferenceIdeal)
    ∧ preserves_LinKernel_LinKernelIdeal
    ∧ algebraic_LinKernelIdeal_LinReferenceIdeal (hLinKernelIdeal := hLinKernelIdeal) (hLinReferenceIdeal := hLinReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_OpsfKernel_OpsfKernelIdeal
    ∧ algebraic_OpsfKernelIdeal_OpsfReferenceIdeal_pre_finite_opsf (hOpsfKernelIdeal := hOpsfKernelIdeal) (hOpsfReferenceIdeal := hOpsfReferenceIdeal) (hPre_finite_opsf := hPre_finite_opsf)
-- ==== Pre_finite_merge.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x512x1024 : S_.BroadcastsInDim S4x512x1024 (![] : Fin 0 → Fin S4x512x1024.rank)
  reducesTo_S4x512x1024_S_d0_1_2 : S4x512x1024.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S8192x2048 .f32) (main_arg2 : FVec F S8192x4096 .f32) (main_arg3 : FVec F S4x512x1024 .f32) (main_arg4 : FVec F S1024x1024 .f32) (main_arg5 : FVec F S8192x1024 .f32) : IVec S_ 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x512x1024 .f32 := Host.absf main_arg3
  let main_cst_0 : FVec F S_ .f32 := constant S_ .f32 0x7F800000#32
  let main_v5 : FVec F S4x512x1024 .f32 := broadcastInDim S4x512x1024 ![] bcast_S_S4x512x1024 main_cst_0
  let main_v6 : IVec S4x512x1024 1 := cmpf .olt main_v4 main_v5
  let main_c_1 : IVec S_ 1 := constantI S_ 1 1#1
  let main_v7 : IVec S_ 1 := (fun x v => Host.reduce IntOp.andi x v reducesTo_S4x512x1024_S_d0_1_2 h_S_) main_v6 main_c_1
  let main_v8 : IVec S_ 1 := andi main_v3 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_mergef.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x512x1024 : S_.BroadcastsInDim S4x512x1024 (![] : Fin 0 → Fin S4x512x1024.rank)
  reducesTo_S4x512x1024_S_d0_1_2 : S4x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S8192x2048 .f32) (main_arg2 : FVec F S8192x4096 .f32) (main_arg3 : FVec F S4x512x1024 .f32) (main_arg4 : FVec F S1024x1024 .f32) : IVec S_ 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x512x1024 .f32 := Host.absf main_arg3
  let main_cst_0 : FVec F S_ .f32 := constant S_ .f32 0x7F800000#32
  let main_v5 : FVec F S4x512x1024 .f32 := broadcastInDim S4x512x1024 ![] bcast_S_S4x512x1024 main_cst_0
  let main_v6 : IVec S4x512x1024 1 := cmpf .olt main_v4 main_v5
  let main_c_1 : IVec S_ 1 := constantI S_ 1 1#1
  let main_v7 : IVec S_ 1 := (fun x v => Host.reduce IntOp.andi x v reducesTo_S4x512x1024_S_d0_1_2 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ops.lean ====
abbrev S32 : Shape := ⟨1, ![32]⟩
abbrev S32x64 : Shape := ⟨2, ![32, 64]⟩
abbrev S32x64x16 : Shape := ⟨3, ![32, 64, 16]⟩
abbrev S256x32x64 : Shape := ⟨3, ![256, 32, 64]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S32x64 : S_.BroadcastsInDim S32x64 (![] : Fin 0 → Fin S32x64.rank)
  reducesTo_S32x64_S_d0_1 : S32x64.ReducesTo [0, 1] S_
  bcast_S_S256x32x64 : S_.BroadcastsInDim S256x32x64 (![] : Fin 0 → Fin S256x32x64.rank)
  reducesTo_S256x32x64_S_d0_1_2 : S256x32x64.ReducesTo [0, 1, 2] S_

variable [Facts]

def fn_part1 {F : FTy → Type} [FloatOps F] (main_arg10 : FVec F S256x32x64 .f32) (main_v13 : IVec S_ 1) (main_v16 : IVec S256x32x64 1) : IVec S_ 1 :=
  let main_c_5 : IVec S_ 1 := constantI S_ 1 1#1
  let main_v17 : IVec S_ 1 := (fun x v => Host.reduce IntOp.andi x v reducesTo_S256x32x64_S_d0_1_2 h_S_) main_v16 main_c_5
  let main_v18 : IVec S_ 1 := andi main_v13 main_v17
  let main_v19 : FVec F S256x32x64 .f32 := Host.absf main_arg10
  let main_cst_6 : FVec F S_ .f32 := constant S_ .f32 0x7F800000#32
  let main_v20 : FVec F S256x32x64 .f32 := broadcastInDim S256x32x64 ![] bcast_S_S256x32x64 main_cst_6
  let main_v21 : IVec S256x32x64 1 := cmpf .olt main_v19 main_v20
  let main_c_7 : IVec S_ 1 := constantI S_ 1 1#1
  let main_v22 : IVec S_ 1 := (fun x v => Host.reduce IntOp.andi x v reducesTo_S256x32x64_S_d0_1_2 h_S_) main_v21 main_c_7
  let main_v23 : IVec S_ 1 := andi main_v18 main_v22
  main_v23

def fn {F : FTy → Type} [FloatOps F] (main_arg0 : FVec F S32 .f32) (main_arg1 : FVec F S32x64 .f32) (main_arg2 : FVec F S32x64 .f32) (main_arg3 : FVec F S32x64x16 .f32) (main_arg4 : FVec F S32x64x16 .f32) (main_arg5 : FVec F S32x64 .f32) (main_arg6 : FVec F S32x64 .f32) (main_arg7 : FVec F S32x64x16 .f32) (main_arg8 : FVec F S32x64x16 .f32) (main_arg9 : FVec F S256x32x64 .f32) (main_arg10 : FVec F S256x32x64 .f32) : IVec S_ 1 :=
  let main_v0 : FVec F S32 .f32 := Host.absf main_arg0
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S256x32x64 .f32 := Host.absf main_arg9
  let main_cst_4 : FVec F S_ .f32 := constant S_ .f32 0x7F800000#32
  let main_v15 : FVec F S256x32x64 .f32 := broadcastInDim S256x32x64 ![] bcast_S_S256x32x64 main_cst_4
  let main_v16 : IVec S256x32x64 1 := cmpf .olt main_v14 main_v15
  fn_part1 (F := F) main_arg10 main_v13 main_v16
-- ==== Pre_finite_opsf.lean ====
abbrev S32 : Shape := ⟨1, ![32]⟩
abbrev S32x64 : Shape := ⟨2, ![32, 64]⟩
abbrev S32x64x16 : Shape := ⟨3, ![32, 64, 16]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn {F : FTy → Type} [FloatOps F] (main_arg0 : FVec F S32 .f32) (main_arg1 : FVec F S32x64 .f32) (main_arg2 : FVec F S32x64 .f32) (main_arg3 : FVec F S32x64x16 .f32) (main_arg4 : FVec F S32x64x16 .f32) : IVec S_ 1 :=
  let main_v0 : FVec F S32 .f32 := Host.absf main_arg0
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  main_v13
-- ==== Pre_finite_s5.lean ====
abbrev S8192x512 : Shape := ⟨2, ![8192, 512]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S32x64x16 : S_.BroadcastsInDim S32x64x16 (![] : Fin 0 → Fin S32x64x16.rank)
  reducesTo_S32x64x16_S_d0_1_2 : S32x64x16.ReducesTo [0, 1, 2] S_
  bcast_S_S32x16x64 : S_.BroadcastsInDim S32x16x64 (![] : Fin 0 → Fin S32x16x64.rank)
  reducesTo_S32x16x64_S_d0_1_2 : S32x16x64.ReducesTo [0, 1, 2] S_

variable [Facts]

def fn_part2 {F : FTy → Type} [FloatOps F] (main_arg7 : FVec F S32x16x64 .f32) (main_arg9 : FVec F S8192x512 .f32) (main_v33 : IVec S_ 1) : IVec S_ 1 :=
  let main_v34 : FVec F S32x16x64 .f32 := Host.absf main_arg7
  let main_cst_12 : FVec F S_ .f32 := constant S_ .f32 0x7F800000#32
  let main_v35 : FVec F S32x16x64 .f32 := broadcastInDim S32x16x64 ![] bcast_S_S32x16x64 main_cst_12
  let main_v36 : IVec S32x16x64 1 := cmpf .olt main_v34 main_v35
  let main_c_13 : IVec S_ 1 := constantI S_ 1 1#1
  let main_v37 : IVec S_ 1 := (fun x v => Host.reduce IntOp.andi x v reducesTo_S32x16x64_S_d0_1_2 h_S_) main_v36 main_c_13
  let main_v38 : IVec S_ 1 := andi main_v33 main_v37
  let main_v39 : FVec F S8192x512 .f32 := Host.absf main_arg9
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  main_v43

def fn_part1 {F : FTy → Type} [FloatOps F] (main_arg4 : FVec F S32x64x16 .f32) (main_arg5 : FVec F S32x64x16 .f32) (main_arg6 : FVec F S32x16x64 .f32) (main_arg7 : FVec F S32x16x64 .f32) (main_arg9 : FVec F S8192x512 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x64x16 .f32 := Host.absf main_arg4
  let main_cst_6 : FVec F S_ .f32 := constant S_ .f32 0x7F800000#32
  let main_v20 : FVec F S32x64x16 .f32 := broadcastInDim S32x64x16 ![] bcast_S_S32x64x16 main_cst_6
  let main_v21 : IVec S32x64x16 1 := cmpf .olt main_v19 main_v20
  let main_c_7 : IVec S_ 1 := constantI S_ 1 1#1
  let main_v22 : IVec S_ 1 := (fun x v => Host.reduce IntOp.andi x v reducesTo_S32x64x16_S_d0_1_2 h_S_) main_v21 main_c_7
  let main_v23 : IVec S_ 1 := andi main_v18 main_v22
  let main_v24 : FVec F S32x64x16 .f32 := Host.absf main_arg5
  let main_cst_8 : FVec F S_ .f32 := constant S_ .f32 0x7F800000#32
  let main_v25 : FVec F S32x64x16 .f32 := broadcastInDim S32x64x16 ![] bcast_S_S32x64x16 main_cst_8
  let main_v26 : IVec S32x64x16 1 := cmpf .olt main_v24 main_v25
  let main_c_9 : IVec S_ 1 := constantI S_ 1 1#1
  let main_v27 : IVec S_ 1 := (fun x v => Host.reduce IntOp.andi x v reducesTo_S32x64x16_S_d0_1_2 h_S_) main_v26 main_c_9
  let main_v28 : IVec S_ 1 := andi main_v23 main_v27
  let main_v29 : FVec F S32x16x64 .f32 := Host.absf main_arg6
  let main_cst_10 : FVec F S_ .f32 := constant S_ .f32 0x7F800000#32
  let main_v30 : FVec F S32x16x64 .f32 := broadcastInDim S32x16x64 ![] bcast_S_S32x16x64 main_cst_10
  let main_v31 : IVec S32x16x64 1 := cmpf .olt main_v29 main_v30
  let main_c_11 : IVec S_ 1 := constantI S_ 1 1#1
  let main_v32 : IVec S_ 1 := (fun x v => Host.reduce IntOp.andi x v reducesTo_S32x16x64_S_d0_1_2 h_S_) main_v31 main_c_11
  let main_v33 : IVec S_ 1 := andi main_v28 main_v32
  fn_part2 (F := F) main_arg7 main_arg9 main_v33

def fn {F : FTy → Type} [FloatOps F] (main_arg0 : FVec F S8192x512 .f32) (main_arg1 : FVec F S32 .f32) (main_arg2 : FVec F S32x64 .f32) (main_arg3 : FVec F S32x64 .f32) (main_arg4 : FVec F S32x64x16 .f32) (main_arg5 : FVec F S32x64x16 .f32) (main_arg6 : FVec F S32x16x64 .f32) (main_arg7 : FVec F S32x16x64 .f32) (main_arg8 : FVec F S32x16 .f32) (main_arg9 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg9 main_v13 main_v16
-- ==== Pre_finite_s5f.lean ====
abbrev S8192x512 : Shape := ⟨2, ![8192, 512]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S32x64x16 : S_.BroadcastsInDim S32x64x16 (![] : Fin 0 → Fin S32x64x16.rank)
  reducesTo_S32x64x16_S_d0_1_2 : S32x64x16.ReducesTo [0, 1, 2] S_
  bcast_S_S32x16x64 : S_.BroadcastsInDim S32x16x64 (![] : Fin 0 → Fin S32x16x64.rank)
  reducesTo_S32x16x64_S_d0_1_2 : S32x16x64.ReducesTo [0, 1, 2] S_

variable [Facts]

def fn_part2 {F : FTy → Type} [FloatOps F] (main_arg7 : FVec F S32x16x64 .f32) (main_v33 : IVec S_ 1) : IVec S_ 1 :=
  let main_v34 : FVec F S32x16x64 .f32 := Host.absf main_arg7
  let main_cst_12 : FVec F S_ .f32 := constant S_ .f32 0x7F800000#32
  let main_v35 : FVec F S32x16x64 .f32 := broadcastInDim S32x16x64 ![] bcast_S_S32x16x64 main_cst_12
  let main_v36 : IVec S32x16x64 1 := cmpf .olt main_v34 main_v35
  let main_c_13 : IVec S_ 1 := constantI S_ 1 1#1
  let main_v37 : IVec S_ 1 := (fun x v => Host.reduce IntOp.andi x v reducesTo_S32x16x64_S_d0_1_2 h_S_) main_v36 main_c_13
  let main_v38 : IVec S_ 1 := andi main_v33 main_v37
  main_v38

def fn_part1 {F : FTy → Type} [FloatOps F] (main_arg4 : FVec F S32x64x16 .f32) (main_arg5 : FVec F S32x64x16 .f32) (main_arg6 : FVec F S32x16x64 .f32) (main_arg7 : FVec F S32x16x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x64x16 .f32 := Host.absf main_arg4
  let main_cst_6 : FVec F S_ .f32 := constant S_ .f32 0x7F800000#32
  let main_v20 : FVec F S32x64x16 .f32 := broadcastInDim S32x64x16 ![] bcast_S_S32x64x16 main_cst_6
  let main_v21 : IVec S32x64x16 1 := cmpf .olt main_v19 main_v20
  let main_c_7 : IVec S_ 1 := constantI S_ 1 1#1
  let main_v22 : IVec S_ 1 := (fun x v => Host.reduce IntOp.andi x v reducesTo_S32x64x16_S_d0_1_2 h_S_) main_v21 main_c_7
  let main_v23 : IVec S_ 1 := andi main_v18 main_v22
  let main_v24 : FVec F S32x64x16 .f32 := Host.absf main_arg5
  let main_cst_8 : FVec F S_ .f32 := constant S_ .f32 0x7F800000#32
  let main_v25 : FVec F S32x64x16 .f32 := broadcastInDim S32x64x16 ![] bcast_S_S32x64x16 main_cst_8
  let main_v26 : IVec S32x64x16 1 := cmpf .olt main_v24 main_v25
  let main_c_9 : IVec S_ 1 := constantI S_ 1 1#1
  let main_v27 : IVec S_ 1 := (fun x v => Host.reduce IntOp.andi x v reducesTo_S32x64x16_S_d0_1_2 h_S_) main_v26 main_c_9
  let main_v28 : IVec S_ 1 := andi main_v23 main_v27
  let main_v29 : FVec F S32x16x64 .f32 := Host.absf main_arg6
  let main_cst_10 : FVec F S_ .f32 := constant S_ .f32 0x7F800000#32
  let main_v30 : FVec F S32x16x64 .f32 := broadcastInDim S32x16x64 ![] bcast_S_S32x16x64 main_cst_10
  let main_v31 : IVec S32x16x64 1 := cmpf .olt main_v29 main_v30
  let main_c_11 : IVec S_ 1 := constantI S_ 1 1#1
  let main_v32 : IVec S_ 1 := (fun x v => Host.reduce IntOp.andi x v reducesTo_S32x16x64_S_d0_1_2 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S32 .f32) (main_arg2 : FVec F S32x64 .f32) (main_arg3 : FVec F S32x64 .f32) (main_arg4 : FVec F S32x64x16 .f32) (main_arg5 : FVec F S32x64x16 .f32) (main_arg6 : FVec F S32x16x64 .f32) (main_arg7 : FVec F S32x16x64 .f32) (main_arg8 : FVec F S32x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_v13 main_v16
-- ==== NormKernel.lean ====
abbrev S8192x1024 : Shape := ⟨2, ![8192, 1024]⟩
abbrev S1024 : Shape := ⟨1, ![1024]⟩
abbrev S11x8192x1024 : Shape := ⟨3, ![11, 8192, 1024]⟩
abbrev S1x1024 : Shape := ⟨2, ![1, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 7
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S11x8192x1024, .bf16⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_47 : BitVec 32 := 0#32
  let v84 : BitVec 1 := Scalar.cmpi .ne v83 c0_i32_47
  v84

def k0_cond2 (i : grid0.Coords) : BitVec 1 :=
  let arg0 : BitVec 32 := BitVec.ofNat 32 (i 0).val
  let c0_i32 : BitVec 32 := 0#32
  let v82 : BitVec 1 := Scalar.cmpi .eq arg0 c0_i32
  let v_true : BitVec 1 := 1#1
  let v85 : BitVec 1 := Scalar.xori v82 v_true
  let v86 : BitVec 32 := Scalar.extui v85
  let c0_i32_48 : BitVec 32 := 0#32
  let v87 : BitVec 1 := Scalar.cmpi .ne v86 c0_i32_48
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_12 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_13 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  ![c10_i32.toNat, arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== NormReferenceIdeal.lean ====
abbrev S8192x1024 : Shape := ⟨2, ![8192, 1024]⟩
abbrev S1024 : Shape := ⟨1, ![1024]⟩
abbrev S11x8192x1024 : Shape := ⟨3, ![11, 8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S11x8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S11x8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== LossKernel.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_21 : BitVec 32 := 0#32
  let v69 : BitVec 1 := Scalar.cmpi .ne v68 c0_i32_21
  v69

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v70 : BitVec 1 := Scalar.xori v67 v_true
  let v71 : BitVec 32 := Scalar.extui v70
  let c0_i32_22 : BitVec 32 := 0#32
  let v72 : BitVec 1 := Scalar.cmpi .ne v71 c0_i32_22
  v72

def k0_cond3 (i : grid0.Coords) : BitVec 1 :=
  let arg0 : BitVec 32 := BitVec.ofNat 32 (i 0).val
  let c0_i32_25 : BitVec 32 := 0#32
  let v74 : BitVec 1 := Scalar.cmpi .eq arg0 c0_i32_25
  let v75 : BitVec 32 := Scalar.extui v74
  let c0_i32_26 : BitVec 32 := 0#32
  let v76 : BitVec 1 := Scalar.cmpi .ne v75 c0_i32_26
  v76

def k0_cond4 (i : grid0.Coords) : BitVec 1 :=
  let arg0 : BitVec 32 := BitVec.ofNat 32 (i 0).val
  let c0_i32_25 : BitVec 32 := 0#32
  let v74 : BitVec 1 := Scalar.cmpi .eq arg0 c0_i32_25
  let true_27 : BitVec 1 := 1#1
  let v77 : BitVec 1 := Scalar.xori v74 true_27
  let v78 : BitVec 32 := Scalar.extui v77
  let c0_i32_28 : BitVec 32 := 0#32
  let v79 : BitVec 1 := Scalar.cmpi .ne v78 c0_i32_28
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== OpsKernel.lean ====
abbrev S32 : Shape := ⟨1, ![32]⟩
abbrev S32x64 : Shape := ⟨2, ![32, 64]⟩
abbrev S32x64x16 : Shape := ⟨3, ![32, 64, 16]⟩
abbrev S256x32x64 : Shape := ⟨3, ![256, 32, 64]⟩
abbrev S4x1x512 : Shape := ⟨3, ![4, 1, 512]⟩
abbrev S2048 : Shape := ⟨1, ![2048]⟩
abbrev S32x16x64 : Shape := ⟨3, ![32, 16, 64]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S8x1x8x1 : Shape := ⟨4, ![8, 1, 8, 1]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S256x4x512 : Shape := ⟨3, ![256, 4, 512]⟩
abbrev S4x256x512 : Shape := ⟨3, ![4, 256, 512]⟩
abbrev S1x1x512 : Shape := ⟨3, ![1, 1, 512]⟩
abbrev S1x128x512 : Shape := ⟨3, ![1, 128, 512]⟩
abbrev S1x256x512 : Shape := ⟨3, ![1, 256, 512]⟩
abbrev S1x512 : Shape := ⟨2, ![1, 512]⟩
abbrev S128x512 : Shape := ⟨2, ![128, 512]⟩
abbrev S256x512 : Shape := ⟨2, ![256, 512]⟩
abbrev S512 : Shape := ⟨1, ![512]⟩

abbrev nBuf : Space → Nat
  | .hbm => 117
  | .vmem => 32
  | .smem => 0
  | _ => 0

abbrev bufTy : (tb : Table) → Fin (tcTables nBuf tb) → BufTy
  | .hbm, ⟨0, _⟩ => ⟨S32, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S256x32x64, .f32⟩
  | .hbm, ⟨10, _⟩ => ⟨S256x32x64, .f32⟩
  | .hbm, ⟨11, _⟩ => ⟨S4x1x512, .f32⟩
  | .hbm, ⟨12, _⟩ => ⟨S4x1x512, .f32⟩
  | .hbm, ⟨13, _⟩ => ⟨S32x64, .f32⟩
  | .hbm, ⟨14, _⟩ => ⟨S2048, .f32⟩
  | .hbm, ⟨15, _⟩ => ⟨S4x1x512, .f32⟩
  | .hbm, ⟨16, _⟩ => ⟨S32x16x64, .f32⟩
  | .hbm, ⟨17, _⟩ => ⟨S4x8x16x64, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S4x8x16x1x64, .f32⟩
  | .hbm, ⟨26, _⟩ => ⟨S8x1x8x1, .f32⟩
  | .hbm, ⟨27, _⟩ => ⟨S1x8x1x8x1, .f32⟩
  | .hbm, ⟨28, _⟩ => ⟨S4x8x16x8x64, .f32⟩
  | .hbm, ⟨29, _⟩ => ⟨S4x8x16x8x64, .f32⟩
  | .hbm, ⟨30, _⟩ => ⟨S4x8x16x8x64, .f32⟩
  | .hbm, ⟨31, _⟩ => ⟨S4x128x512, .f32⟩
  | .hbm, ⟨32, _⟩ => ⟨S32x16x64, .f32⟩
  | .hbm, ⟨33, _⟩ => ⟨S4x8x16x64, .f32⟩
  | .hbm, ⟨34, _⟩ => ⟨S8x8, .i32⟩
  | .hbm, ⟨35, _⟩ => ⟨S8x8, .i32⟩
  | .hbm, ⟨36, _⟩ => ⟨S_, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S8x8, .f32⟩
  | .hbm, ⟨41, _⟩ => ⟨S4x8x16x1x64, .f32⟩
  | .hbm, ⟨42, _⟩ => ⟨S8x1x8x1, .f32⟩
  | .hbm, ⟨43, _⟩ => ⟨S1x8x1x8x1, .f32⟩
  | .hbm, ⟨44, _⟩ => ⟨S4x8x16x8x64, .f32⟩
  | .hbm, ⟨45, _⟩ => ⟨S4x8x16x8x64, .f32⟩
  | .hbm, ⟨46, _⟩ => ⟨S4x8x16x8x64, .f32⟩
  | .hbm, ⟨47, _⟩ => ⟨S4x128x512, .f32⟩
  | .hbm, ⟨48, _⟩ => ⟨S4x1x512, .f32⟩
  | .hbm, ⟨49, _⟩ => ⟨S4x1x512, .f32⟩
  | .hbm, ⟨50, _⟩ => ⟨S32x16x64, .f32⟩
  | .hbm, ⟨51, _⟩ => ⟨S4x8x16x64, .f32⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S8x8, .f32⟩
  | .hbm, ⟨59, _⟩ => ⟨S4x8x16x1x64, .f32⟩
  | .hbm, ⟨60, _⟩ => ⟨S8x1x8x1, .f32⟩
  | .hbm, ⟨61, _⟩ => ⟨S1x8x1x8x1, .f32⟩
  | .hbm, ⟨62, _⟩ => ⟨S4x8x16x8x64, .f32⟩
  | .hbm, ⟨63, _⟩ => ⟨S4x8x16x8x64, .f32⟩
  | .hbm, ⟨64, _⟩ => ⟨S4x8x16x8x64, .f32⟩
  | .hbm, ⟨65, _⟩ => ⟨S4x128x512, .f32⟩
  | .hbm, ⟨66, _⟩ => ⟨S32x16x64, .f32⟩
  | .hbm, ⟨67, _⟩ => ⟨S4x8x16x64, .f32⟩
  | .hbm, ⟨68, _⟩ => ⟨S8x8, .i32⟩
  | .hbm, ⟨69, _⟩ => ⟨S8x8, .i32⟩
  | .hbm, ⟨70, _⟩ => ⟨S_, .i32⟩
  | .hbm, ⟨71, _⟩ => ⟨S8x8, .i32⟩
  | .hbm, ⟨72, _⟩ => ⟨S8x8, .i32⟩
  | .hbm, ⟨73, _⟩ => ⟨S8x8, .i1⟩
  | .hbm, ⟨74, _⟩ => ⟨S8x8, .f32⟩
  | .hbm, ⟨75, _⟩ => ⟨S4x8x16x1x64, .f32⟩
  | .hbm, ⟨76, _⟩ => ⟨S8x1x8x1, .f32⟩
  | .hbm, ⟨77, _⟩ => ⟨S1x8x1x8x1, .f32⟩
  | .hbm, ⟨78, _⟩ => ⟨S4x8x16x8x64, .f32⟩
  | .hbm, ⟨79, _⟩ => ⟨S4x8x16x8x64, .f32⟩
  | .hbm, ⟨80, _⟩ => ⟨S4x8x16x8x64, .f32⟩
  | .hbm, ⟨81, _⟩ => ⟨S4x128x512, .f32⟩
  | .hbm, ⟨82, _⟩ => ⟨S256x4x512, .f32⟩
  | .hbm, ⟨83, _⟩ => ⟨S4x256x512, .f32⟩
  | .hbm, ⟨84, _⟩ => ⟨S256x4x512, .f32⟩
  | .hbm, ⟨85, _⟩ => ⟨S4x256x512, .f32⟩
  | .hbm, ⟨86, _⟩ => ⟨S4x1x512, .f32⟩
  | .hbm, ⟨87, _⟩ => ⟨S4x1x512, .f32⟩
  | .hbm, ⟨88, _⟩ => ⟨S4x1x512, .f32⟩
  | .hbm, ⟨89, _⟩ => ⟨S4x128x512, .f32⟩
  | .hbm, ⟨90, _⟩ => ⟨S4x128x512, .f32⟩
  | .hbm, ⟨91, _⟩ => ⟨S4x8x16x8x64, .f32⟩
  | .hbm, ⟨92, _⟩ => ⟨S4x8x16x8x64, .f32⟩
  | .hbm, ⟨93, _⟩ => ⟨S4x8x16x8x64, .f32⟩
  | .hbm, ⟨94, _⟩ => ⟨S_, .f32⟩
  | .hbm, ⟨95, _⟩ => ⟨S4x8x16x64, .f32⟩
  | .hbm, ⟨96, _⟩ => ⟨S4x8x16x1x64, .f32⟩
  | .hbm, ⟨97, _⟩ => ⟨S_, .f32⟩
  | .hbm, ⟨98, _⟩ => ⟨S4x8x16x64, .f32⟩
  | .hbm, ⟨99, _⟩ => ⟨S32x16x64, .f32⟩
  | .hbm, ⟨100, _⟩ => ⟨S32x64x16, .f32⟩
  | .hbm, ⟨101, _⟩ => ⟨S4x8x16x8x64, .f32⟩
  | .hbm, ⟨102, _⟩ => ⟨S4x8x16x8x64, .f32⟩
  | .hbm, ⟨103, _⟩ => ⟨S4x8x16x8x64, .f32⟩
  | .hbm, ⟨104, _⟩ => ⟨S_, .f32⟩
  | .hbm, ⟨105, _⟩ => ⟨S4x8x16x64, .f32⟩
  | .hbm, ⟨106, _⟩ => ⟨S4x8x16x1x64, .f32⟩
  | .hbm, ⟨107, _⟩ => ⟨S_, .f32⟩
  | .hbm, ⟨108, _⟩ => ⟨S4x8x16x64, .f32⟩
  | .hbm, ⟨109, _⟩ => ⟨S32x16x64, .f32⟩
  | .hbm, ⟨110, _⟩ => ⟨S32x64x16, .f32⟩
  | .hbm, ⟨111, _⟩ => ⟨S2048, .f32⟩
  | .hbm, ⟨112, _⟩ => ⟨S32x64, .f32⟩
  | .hbm, ⟨113, _⟩ => ⟨S_, .f32⟩
  | .hbm, ⟨114, _⟩ => ⟨S32, .f32⟩
  | .hbm, ⟨115, _⟩ => ⟨S32x64, .f32⟩
  | .hbm, ⟨116, _⟩ => ⟨S32x64, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_1 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_2 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev main_v71_4 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst : Ref sig .tc := ⟨.hbm, 94, rfl⟩
abbrev main_v75 : Ref sig .tc := ⟨.hbm, 95, rfl⟩
abbrev main_v76 : Ref sig .tc := ⟨.hbm, 96, rfl⟩
abbrev main_cst_3 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_4 : Ref sig .tc := ⟨.hbm, 104, rfl⟩
abbrev main_v83 : Ref sig .tc := ⟨.hbm, 105, rfl⟩
abbrev main_v84 : Ref sig .tc := ⟨.hbm, 106, rfl⟩
abbrev main_cst_5 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_6 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OpsReferenceIdeal.lean ====
abbrev S32 : Shape := ⟨1, ![32]⟩
abbrev S32x64 : Shape := ⟨2, ![32, 64]⟩
abbrev S32x64x16 : Shape := ⟨3, ![32, 64, 16]⟩
abbrev S256x32x64 : Shape := ⟨3, ![256, 32, 64]⟩
abbrev S32x1 : Shape := ⟨2, ![32, 1]⟩
abbrev S_ : Shape := ⟨0, ![]⟩
abbrev S32x64x1 : Shape := ⟨3, ![32, 64, 1]⟩
abbrev S256 : Shape := ⟨1, ![256]⟩
abbrev S256x1x1 : Shape := ⟨3, ![256, 1, 1]⟩
abbrev S1x32x64 : Shape := ⟨3, ![1, 32, 64]⟩

abbrev nBuf : Space → Nat
  | .hbm => 253
  | .vmem => 0
  | .smem => 0
  | _ => 0

abbrev hbmTy0_0 (i : Nat) : BufTy := match i % 128 with
  | 0 => ⟨S32, .f32⟩
  | 1 => ⟨S32x64, .f32⟩
  | 2 => ⟨S32x64, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S256x32x64, .f32⟩
  | 10 => ⟨S256x32x64, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S_, .f32⟩
  | 46 => ⟨S32x64, .f32⟩
  | 47 => ⟨S32x64, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S32x64x1, .f32⟩
  | 56 => ⟨S32x64x16, .f32⟩
  | 57 => ⟨S32x64x16, .f32⟩
  | 58 => ⟨S32x64x1, .f32⟩
  | 59 => ⟨S32x64x16, .f32⟩
  | 60 => ⟨S32x64x16, .f32⟩
  | 61 => ⟨S32x64x16, .f32⟩
  | 62 => ⟨S256, .f32⟩
  | 63 => ⟨S_, .f32⟩
  | 64 => ⟨S256, .f32⟩
  | 65 => ⟨S256, .f32⟩
  | 66 => ⟨S256x1x1, .f32⟩
  | 67 => ⟨S32x64, .f32⟩
  | 68 => ⟨S32x64, .f32⟩
  | 69 => ⟨S1x32x64, .f32⟩
  | 70 => ⟨S256x32x64, .f32⟩
  | 71 => ⟨S256x32x64, .f32⟩
  | 72 => ⟨S256x32x64, .f32⟩
  | 73 => ⟨S256x32x64, .f32⟩
  | 74 => ⟨S32x64, .f32⟩
  | 75 => ⟨S32x64, .f32⟩
  | 76 => ⟨S1x32x64, .f32⟩
  | 77 => ⟨S256x32x64, .f32⟩
  | 78 => ⟨S256x32x64, .f32⟩
  | 79 => ⟨S256x32x64, .f32⟩
  | 80 => ⟨S256x32x64, .f32⟩
  | 81 => ⟨S256x32x64, .f32⟩
  | 82 => ⟨S256x32x64, .f32⟩
  | 83 => ⟨S32x64, .f32⟩
  | 84 => ⟨S32x64, .f32⟩
  | 85 => ⟨S1x32x64, .f32⟩
  | 86 => ⟨S256x32x64, .f32⟩
  | 87 => ⟨S256x32x64, .f32⟩
  | 88 => ⟨S256x32x64, .f32⟩
  | 89 => ⟨S256x32x64, .f32⟩
  | 90 => ⟨S256x32x64, .f32⟩
  | 91 => ⟨S256x32x64, .f32⟩
  | 92 => ⟨S256x32x64, .f32⟩
  | 93 => ⟨S256x32x64, .f32⟩
  | 94 => ⟨S256x32x64, .f32⟩
  | 95 => ⟨S256x32x64, .f32⟩
  | 96 => ⟨S256x32x64, .f32⟩
  | 97 => ⟨S_, .f32⟩
  | 98 => ⟨S32x64, .f32⟩
  | 99 => ⟨S1x32x64, .f32⟩
  | 100 => ⟨S_, .f32⟩
  | 101 => ⟨S32x64, .f32⟩
  | 102 => ⟨S32x64, .f32⟩
  | 103 => ⟨S_, .f32⟩
  | 104 => ⟨S32, .f32⟩
  | 105 => ⟨S32x1, .f32⟩
  | 106 => ⟨S32x64, .f32⟩
  | 107 => ⟨S32x64, .f32⟩
  | 108 => ⟨S256x32x64, .f32⟩
  | 109 => ⟨S256x32x64, .f32⟩
  | 110 => ⟨S256x32x64, .f32⟩
  | 111 => ⟨S256x32x64, .f32⟩
  | 112 => ⟨S256x32x64, .f32⟩
  | 113 => ⟨S256x32x64, .f32⟩
  | 114 => ⟨S256x32x64, .f32⟩
  | 115 => ⟨S_, .f32⟩
  | 116 => ⟨S32x64, .f32⟩
  | 117 => ⟨S1x32x64, .f32⟩
  | 118 => ⟨S_, .f32⟩
  | 119 => ⟨S32x64, .f32⟩
  | 120 => ⟨S32x64, .f32⟩
  | 121 => ⟨S_, .f32⟩
  | 122 => ⟨S32, .f32⟩
  | 123 => ⟨S32x1, .f32⟩
  | 124 => ⟨S32x1, .f32⟩
  | 125 => ⟨S32x64, .f32⟩
  | 126 => ⟨S32x64, .f32⟩
  | 127 => ⟨S32x64, .f32⟩
  | _ => ⟨S32, .f32⟩

abbrev hbmTy0_1 (i : Nat) : BufTy := match i % 128 with
  | 0 => ⟨S256x32x64, .f32⟩
  | 1 => ⟨S256x32x64, .f32⟩
  | 2 => ⟨S256x32x64, .f32⟩
  | 3 => ⟨S_, .f32⟩
  | 4 => ⟨S32x64, .f32⟩
  | 5 => ⟨S1x32x64, .f32⟩
  | 6 => ⟨S_, .f32⟩
  | 7 => ⟨S32x64, .f32⟩
  | 8 => ⟨S32x64, .f32⟩
  | 9 => ⟨S_, .f32⟩
  | 10 => ⟨S32, .f32⟩
  | 11 => ⟨S32x1, .f32⟩
  | 12 => ⟨S32x1, .f32⟩
  | 13 => ⟨S32x64, .f32⟩
  | 14 => ⟨S32x64, .f32⟩
  | 15 => ⟨S32x64x16, .f32⟩
  | 16 => ⟨S32x64x16, .f32⟩
  | 17 => ⟨S32x64x16, .f32⟩
  | 18 => ⟨S32x64x16, .f32⟩
  | 19 => ⟨S32x64x16, .f32⟩
  | 20 => ⟨S_, .f32⟩
  | 21 => ⟨S32x64, .f32⟩
  | 22 => ⟨S32x64x1, .f32⟩
  | 23 => ⟨S_, .f32⟩
  | 24 => ⟨S32x64, .f32⟩
  | 25 => ⟨S32x64x16, .f32⟩
  | 26 => ⟨S32x64x16, .f32⟩
  | 27 => ⟨S32x64x16, .f32⟩
  | 28 => ⟨S_, .f32⟩
  | 29 => ⟨S32x64, .f32⟩
  | 30 => ⟨S32x64x1, .f32⟩
  | 31 => ⟨S_, .f32⟩
  | 32 => ⟨S32x64, .f32⟩
  | 33 => ⟨S32x64x16, .f32⟩
  | 34 => ⟨S32x64x16, .f32⟩
  | 35 => ⟨S32x64x16, .f32⟩
  | 36 => ⟨S32x64x16, .f32⟩
  | 37 => ⟨S32x64x16, .f32⟩
  | 38 => ⟨S32x64x16, .f32⟩
  | 39 => ⟨S_, .f32⟩
  | 40 => ⟨S32x64, .f32⟩
  | 41 => ⟨S32x64x1, .f32⟩
  | 42 => ⟨S_, .f32⟩
  | 43 => ⟨S32x64, .f32⟩
  | 44 => ⟨S32x64, .f32⟩
  | 45 => ⟨S32x64x16, .f32⟩
  | 46 => ⟨S32x64x16, .f32⟩
  | 47 => ⟨S32x64x16, .f32⟩
  | 48 => ⟨S32x64x16, .f32⟩
  | 49 => ⟨S_, .f32⟩
  | 50 => ⟨S32x64, .f32⟩
  | 51 => ⟨S32x64x1, .f32⟩
  | 52 => ⟨S_, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S32x64, .f32⟩
  | 73 => ⟨S32x64, .f32⟩
  | 74 => ⟨S32x64, .f32⟩
  | 75 => ⟨S32x64, .f32⟩
  | 76 => ⟨S32x64, .f32⟩
  | 77 => ⟨S32x64, .f32⟩
  | 78 => ⟨S32x64, .f32⟩
  | 79 => ⟨S32x64, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S_, .f32⟩
  | 94 => ⟨S32, .f32⟩
  | 95 => ⟨S32x1, .f32⟩
  | 96 => ⟨S32x1, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S_, .f32⟩
  | 107 => ⟨S32, .f32⟩
  | 108 => ⟨S32x1, .f32⟩
  | 109 => ⟨S32x1, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S_, .f32⟩
  | 116 => ⟨S32, .f32⟩
  | 117 => ⟨S32x1, .f32⟩
  | 118 => ⟨S32x1, .f32⟩
  | 119 => ⟨S32x64, .f32⟩
  | 120 => ⟨S32x64, .f32⟩
  | 121 => ⟨S32x64, .f32⟩
  | 122 => ⟨S_, .f32⟩
  | 123 => ⟨S32, .f32⟩
  | 124 => ⟨S32, .f32⟩
  | _ => ⟨S32, .f32⟩

abbrev hbmTy (i : Nat) : BufTy := match i / 128 with
  | 0 => hbmTy0_0 i
  | 1 => hbmTy0_1 i
  | _ => ⟨S32, .f32⟩

abbrev bufTy : (tb : Table) → Fin (tcTables nBuf tb) → BufTy
  | .hbm, ⟨i, _⟩ => hbmTy i
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_3 : Ref sig .tc := ⟨.hbm, 97, rfl⟩
abbrev main_v82 : Ref sig .tc := ⟨.hbm, 98, rfl⟩
abbrev main_v83 : Ref sig .tc := ⟨.hbm, 99, rfl⟩
abbrev main_cst_4 : Ref sig .tc := ⟨.hbm, 100, rfl⟩
abbrev main_v84 : Ref sig .tc := ⟨.hbm, 101, rfl⟩
abbrev main_v85 : Ref sig .tc := ⟨.hbm, 102, rfl⟩
abbrev main_cst_5 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_6 : Ref sig .tc := ⟨.hbm, 115, rfl⟩
abbrev main_v97 : Ref sig .tc := ⟨.hbm, 116, rfl⟩
abbrev main_v98 : Ref sig .tc := ⟨.hbm, 117, rfl⟩
abbrev main_cst_7 : Ref sig .tc := ⟨.hbm, 118, rfl⟩
abbrev main_v99 : Ref sig .tc := ⟨.hbm, 119, rfl⟩
abbrev main_v100 : Ref sig .tc := ⟨.hbm, 120, rfl⟩
abbrev main_cst_8 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_9 : Ref sig .tc := ⟨.hbm, 131, rfl⟩
abbrev main_v110 : Ref sig .tc := ⟨.hbm, 132, rfl⟩
abbrev main_v111 : Ref sig .tc := ⟨.hbm, 133, rfl⟩
abbrev main_cst_10 : Ref sig .tc := ⟨.hbm, 134, rfl⟩
abbrev main_v112 : Ref sig .tc := ⟨.hbm, 135, rfl⟩
abbrev main_v113 : Ref sig .tc := ⟨.hbm, 136, rfl⟩
abbrev main_cst_11 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_12 : Ref sig .tc := ⟨.hbm, 148, rfl⟩
abbrev main_v124 : Ref sig .tc := ⟨.hbm, 149, rfl⟩
abbrev main_v125 : Ref sig .tc := ⟨.hbm, 150, rfl⟩
abbrev main_cst_13 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_14 : Ref sig .tc := ⟨.hbm, 156, rfl⟩
abbrev main_v130 : Ref sig .tc := ⟨.hbm, 157, rfl⟩
abbrev main_v131 : Ref sig .tc := ⟨.hbm, 158, rfl⟩
abbrev main_cst_15 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_16 : Ref sig .tc := ⟨.hbm, 167, rfl⟩
abbrev main_v139 : Ref sig .tc := ⟨.hbm, 168, rfl⟩
abbrev main_v140 : Ref sig .tc := ⟨.hbm, 169, rfl⟩
abbrev main_cst_17 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_18 : Ref sig .tc := ⟨.hbm, 177, rfl⟩
abbrev main_v147 : Ref sig .tc := ⟨.hbm, 178, rfl⟩
abbrev main_v148 : Ref sig .tc := ⟨.hbm, 179, rfl⟩
abbrev main_cst_19 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_cst_20 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_cst_21 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_cst_22 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_23 : Ref sig .tc := ⟨.hbm, 250, rfl⟩
abbrev main_v215 : Ref sig .tc := ⟨.hbm, 251, rfl⟩
abbrev main_v216 : Ref sig .tc := ⟨.hbm, 252, rfl⟩

abbrev nD : Nat := 1
abbrev τ : Topo := Topo.v7x

variable {F : FTy → Type} [FloatOps F]
-- ==== GluKernel.lean ====
abbrev S8192x512 : Shape := ⟨2, ![8192, 512]⟩
abbrev S512x512 : Shape := ⟨2, ![512, 512]⟩
abbrev S512 : Shape := ⟨1, ![512]⟩
abbrev S8192x2048 : Shape := ⟨2, ![8192, 2048]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S8192x2048, .f32⟩
  | .hbm, ⟨4, _⟩ => ⟨S512x512, .bf16⟩
  | .hbm, ⟨5, _⟩ => ⟨S1x512, .f32⟩
  | .hbm, ⟨6, _⟩ => ⟨S8192x512, .f32⟩
  | .hbm, ⟨7, _⟩ => ⟨S512x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_22 : BitVec 32 := 0#32
  let v66 : BitVec 1 := Scalar.cmpi .ne v65 c0_i32_22
  v66

def k0_cond2 (i : grid0.Coords) : BitVec 1 :=
  let arg0 : BitVec 32 := BitVec.ofNat 32 (i 0).val
  let c0_i32 : BitVec 32 := 0#32
  let v64 : BitVec 1 := Scalar.cmpi .eq arg0 c0_i32
  let v_true : BitVec 1 := 1#1
  let v67 : BitVec 1 := Scalar.xori v64 v_true
  let v68 : BitVec 32 := Scalar.extui v67
  let c0_i32_23 : BitVec 32 := 0#32
  let v69 : BitVec 1 := Scalar.cmpi .ne v68 c0_i32_23
  v69

def k0_cond3 (i : grid0.Coords) : BitVec 1 :=
  let arg0 : BitVec 32 := BitVec.ofNat 32 (i 0).val
  let c0_i32_24 : BitVec 32 := 0#32
  let v70 : BitVec 1 := Scalar.cmpi .eq arg0 c0_i32_24
  let v71 : BitVec 32 := Scalar.extui v70
  let c0_i32_25 : BitVec 32 := 0#32
  let v72 : BitVec 1 := Scalar.cmpi .ne v71 c0_i32_25
  v72

def k0_cond4 (i : grid0.Coords) : BitVec 1 :=
  let arg0 : BitVec 32 := BitVec.ofNat 32 (i 0).val
  let c0_i32_24 : BitVec 32 := 0#32
  let v70 : BitVec 1 := Scalar.cmpi .eq arg0 c0_i32_24
  let true_26 : BitVec 1 := 1#1
  let v73 : BitVec 1 := Scalar.xori v70 true_26
  let v74 : BitVec 32 := Scalar.extui v73
  let c0_i32_27 : BitVec 32 := 0#32
  let v75 : BitVec 1 := Scalar.cmpi .ne v74 c0_i32_27
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluReferenceIdeal.lean ====
abbrev S8192x512 : Shape := ⟨2, ![8192, 512]⟩
abbrev S512x512 : Shape := ⟨2, ![512, 512]⟩
abbrev S512 : Shape := ⟨1, ![512]⟩
abbrev S8192x2048 : Shape := ⟨2, ![8192, 2048]⟩
abbrev S_ : Shape := ⟨0, ![]⟩
abbrev S1x512 : Shape := ⟨2, ![1, 512]⟩

abbrev nBuf : Space → Nat
  | .hbm => 78
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S512, .f32⟩
  | .hbm, ⟨58, _⟩ => ⟨S512x512, .f32⟩
  | .hbm, ⟨59, _⟩ => ⟨S512x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== PleKernel.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S8192x1024, .f32⟩
  | .hbm, ⟨10, _⟩ => ⟨S1x1024, .f32⟩
  | .hbm, ⟨11, _⟩ => ⟨S1024x1024, .f32⟩
  | .hbm, ⟨12, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_26 : BitVec 32 := 0#32
  let v73 : BitVec 1 := Scalar.cmpi .ne v72 c0_i32_26
  v73

def k0_cond2 (i : grid0.Coords) : BitVec 1 :=
  let arg0 : BitVec 32 := BitVec.ofNat 32 (i 0).val
  let c0_i32 : BitVec 32 := 0#32
  let v71 : BitVec 1 := Scalar.cmpi .eq arg0 c0_i32
  let v_true : BitVec 1 := 1#1
  let v74 : BitVec 1 := Scalar.xori v71 v_true
  let v75 : BitVec 32 := Scalar.extui v74
  let c0_i32_27 : BitVec 32 := 0#32
  let v76 : BitVec 1 := Scalar.cmpi .ne v75 c0_i32_27
  v76

def k0_cond3 (i : grid0.Coords) : BitVec 1 :=
  let arg0 : BitVec 32 := BitVec.ofNat 32 (i 0).val
  let c0_i32_28 : BitVec 32 := 0#32
  let v77 : BitVec 1 := Scalar.cmpi .eq arg0 c0_i32_28
  let v78 : BitVec 32 := Scalar.extui v77
  let c0_i32_29 : BitVec 32 := 0#32
  let v79 : BitVec 1 := Scalar.cmpi .ne v78 c0_i32_29
  v79

def k0_cond4 (i : grid0.Coords) : BitVec 1 :=
  let arg0 : BitVec 32 := BitVec.ofNat 32 (i 0).val
  let c0_i32_28 : BitVec 32 := 0#32
  let v77 : BitVec 1 := Scalar.cmpi .eq arg0 c0_i32_28
  let true_30 : BitVec 1 := 1#1
  let v80 : BitVec 1 := Scalar.xori v77 true_30
  let v81 : BitVec 32 := Scalar.extui v80
  let c0_i32_31 : BitVec 32 := 0#32
  let v82 : BitVec 1 := Scalar.cmpi .ne v81 c0_i32_31
  v82

def k0_cond5 (i : grid0.Coords) : BitVec 1 :=
  let arg0 : BitVec 32 := BitVec.ofNat 32 (i 0).val
  let c0_i32_32 : BitVec 32 := 0#32
  let v83 : BitVec 1 := Scalar.cmpi .eq arg0 c0_i32_32
  let v84 : BitVec 32 := Scalar.extui v83
  let c0_i32_33 : BitVec 32 := 0#32
  let v85 : BitVec 1 := Scalar.cmpi .ne v84 c0_i32_33
  v85

def k0_cond6 (i : grid0.Coords) : BitVec 1 :=
  let arg0 : BitVec 32 := BitVec.ofNat 32 (i 0).val
  let c0_i32_32 : BitVec 32 := 0#32
  let v83 : BitVec 1 := Scalar.cmpi .eq arg0 c0_i32_32
  let true_34 : BitVec 1 := 1#1
  let v86 : BitVec 1 := Scalar.xori v83 true_34
  let v87 : BitVec 32 := Scalar.extui v86
  let c0_i32_35 : BitVec 32 := 0#32
  let v88 : BitVec 1 := Scalar.cmpi .ne v87 c0_i32_35
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleReferenceIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x256, .f32⟩
  | .hbm, ⟨46, _⟩ => ⟨S256x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== FfnKernel.lean ====
abbrev S8192x1024 : Shape := ⟨2, ![8192, 1024]⟩
abbrev S1024x5632 : Shape := ⟨2, ![1024, 5632]⟩
abbrev S2816x1024 : Shape := ⟨2, ![2816, 1024]⟩
abbrev S1024x2816 : Shape := ⟨2, ![1024, 2816]⟩
abbrev S11x8192x1024 : Shape := ⟨3, ![11, 8192, 1024]⟩
abbrev S1024x1024 : Shape := ⟨2, ![1024, 1024]⟩
abbrev S1024x256 : Shape := ⟨2, ![1024, 256]⟩
abbrev S256x1024 : Shape := ⟨2, ![256, 1024]⟩
abbrev S1x1024x1024 : Shape := ⟨3, ![1, 1024, 1024]⟩
abbrev S_ : Shape := ⟨0, ![]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S1024x5632, .bf16⟩
  | .hbm, ⟨5, _⟩ => ⟨S2816x1024, .bf16⟩
  | .hbm, ⟨6, _⟩ => ⟨S8192x1024, .bf16⟩
  | .hbm, ⟨7, _⟩ => ⟨S1024x2816, .bf16⟩
  | .hbm, ⟨8, _⟩ => ⟨S1024x2816, .bf16⟩
  | .hbm, ⟨9, _⟩ => ⟨S11x8192x1024, .bf16⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S11x8192x1024, .f32⟩
  | .hbm, ⟨14, _⟩ => ⟨S_, .f32⟩
  | .hbm, ⟨15, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S256x1024, .f32⟩
  | .local _ .vmem, ⟨17, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v56 : BitVec 1 := Scalar.cmpi .eq arg1 c0_i32
  let v57 : BitVec 32 := Scalar.extui v56
  let c0_i32_21 : BitVec 32 := 0#32
  let v58 : BitVec 1 := Scalar.cmpi .ne v57 c0_i32_21
  v58

def k0_cond2 (i : grid0.Coords) : BitVec 1 :=
  let arg1 : BitVec 32 := BitVec.ofNat 32 (i 1).val
  let c0_i32 : BitVec 32 := 0#32
  let v56 : BitVec 1 := Scalar.cmpi .eq arg1 c0_i32
  let v_true : BitVec 1 := 1#1
  let v59 : BitVec 1 := Scalar.xori v56 v_true
  let v60 : BitVec 32 := Scalar.extui v59
  let c0_i32_22 : BitVec 32 := 0#32
  let v61 : BitVec 1 := Scalar.cmpi .ne v60 c0_i32_22
  v61

def k0_cond3 (i : grid0.Coords) : BitVec 1 :=
  let arg1 : BitVec 32 := BitVec.ofNat 32 (i 1).val
  let c0_i32_23 : BitVec 32 := 0#32
  let v62 : BitVec 1 := Scalar.cmpi .eq arg1 c0_i32_23
  let v63 : BitVec 32 := Scalar.extui v62
  let c0_i32_24 : BitVec 32 := 0#32
  let v64 : BitVec 1 := Scalar.cmpi .ne v63 c0_i32_24
  v64

def k0_cond4 (i : grid0.Coords) : BitVec 1 :=
  let arg1 : BitVec 32 := BitVec.ofNat 32 (i 1).val
  let c0_i32_23 : BitVec 32 := 0#32
  let v62 : BitVec 1 := Scalar.cmpi .eq arg1 c0_i32_23
  let true_25 : BitVec 1 := 1#1
  let v65 : BitVec 1 := Scalar.xori v62 true_25
  let v66 : BitVec 32 := Scalar.extui v65
  let c0_i32_26 : BitVec 32 := 0#32
  let v67 : BitVec 1 := Scalar.cmpi .ne v66 c0_i32_26
  v67

def k0_cond5 (i : grid0.Coords) : BitVec 1 :=
  let arg1 : BitVec 32 := BitVec.ofNat 32 (i 1).val
  let c0_i32_27 : BitVec 32 := 0#32
  let v68 : BitVec 1 := Scalar.cmpi .eq arg1 c0_i32_27
  let v69 : BitVec 32 := Scalar.extui v68
  let c0_i32_28 : BitVec 32 := 0#32
  let v70 : BitVec 1 := Scalar.cmpi .ne v69 c0_i32_28
  v70

def k0_cond6 (i : grid0.Coords) : BitVec 1 :=
  let arg1 : BitVec 32 := BitVec.ofNat 32 (i 1).val
  let c0_i32_27 : BitVec 32 := 0#32
  let v68 : BitVec 1 := Scalar.cmpi .eq arg1 c0_i32_27
  let true_29 : BitVec 1 := 1#1
  let v71 : BitVec 1 := Scalar.xori v68 true_29
  let v72 : BitVec 32 := Scalar.extui v71
  let c0_i32_30 : BitVec 32 := 0#32
  let v73 : BitVec 1 := Scalar.cmpi .ne v72 c0_i32_30
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x5632, .f32⟩
  | .hbm, ⟨38, _⟩ => ⟨S5632x1024, .f32⟩
  | .hbm, ⟨39, _⟩ => ⟨S1024x5632, .f32⟩
  | .hbm, ⟨40, _⟩ => ⟨S8192x1024, .f32⟩
  | .hbm, ⟨41, _⟩ => ⟨S1024x2816, .f32⟩
  | .hbm, ⟨42, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== MergeKernel.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .f32⟩
  | .hbm, ⟨4, _⟩ => ⟨S1024x1024, .f32⟩
  | .hbm, ⟨5, _⟩ => ⟨S8192x1024, .f32⟩
  | .hbm, ⟨6, _⟩ => ⟨S4x512x1024, .bf16⟩
  | .hbm, ⟨7, _⟩ => ⟨S1024x1024, .bf16⟩
  | .hbm, ⟨8, _⟩ => ⟨S8192x2048, .f32⟩
  | .hbm, ⟨9, _⟩ => ⟨S8192x4096, .f32⟩
  | .hbm, ⟨10, _⟩ => ⟨S4x512x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x512, .f32⟩
  | .local _ .vmem, ⟨12, _⟩ => ⟨S512x512, .f32⟩
  | .local _ .vmem, ⟨13, _⟩ => ⟨S512x1024, .f32⟩
  | .local _ .vmem, ⟨14, _⟩ => ⟨S512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_19 : BitVec 32 := 0#32
  let v36 : BitVec 1 := Scalar.cmpi .ne v35 c0_i32_19
  v36

def k0_cond2 (i : grid0.Coords) : BitVec 1 :=
  let arg1 : BitVec 32 := BitVec.ofNat 32 (i 1).val
  let c0_i32 : BitVec 32 := 0#32
  let v34 : BitVec 1 := Scalar.cmpi .eq arg1 c0_i32
  let v_true : BitVec 1 := 1#1
  let v37 : BitVec 1 := Scalar.xori v34 v_true
  let v38 : BitVec 32 := Scalar.extui v37
  let c0_i32_20 : BitVec 32 := 0#32
  let v39 : BitVec 1 := Scalar.cmpi .ne v38 c0_i32_20
  v39

def k0_cond3 (i : grid0.Coords) : BitVec 1 :=
  let arg0 : BitVec 32 := BitVec.ofNat 32 (i 0).val
  let c0_i32_21 : BitVec 32 := 0#32
  let v40 : BitVec 1 := Scalar.cmpi .eq arg0 c0_i32_21
  let arg1 : BitVec 32 := BitVec.ofNat 32 (i 1).val
  let c0_i32_22 : BitVec 32 := 0#32
  let v41 : BitVec 1 := Scalar.cmpi .eq arg1 c0_i32_22
  let v42 : BitVec 1 := Scalar.andi v40 v41
  let v43 : BitVec 32 := Scalar.extui v42
  let c0_i32_23 : BitVec 32 := 0#32
  let v44 : BitVec 1 := Scalar.cmpi .ne v43 c0_i32_23
  v44

def k0_cond4 (i : grid0.Coords) : BitVec 1 :=
  let arg0 : BitVec 32 := BitVec.ofNat 32 (i 0).val
  let c0_i32_21 : BitVec 32 := 0#32
  let v40 : BitVec 1 := Scalar.cmpi .eq arg0 c0_i32_21
  let arg1 : BitVec 32 := BitVec.ofNat 32 (i 1).val
  let c0_i32_22 : BitVec 32 := 0#32
  let v41 : BitVec 1 := Scalar.cmpi .eq arg1 c0_i32_22
  let v42 : BitVec 1 := Scalar.andi v40 v41
  let true_24 : BitVec 1 := 1#1
  let v45 : BitVec 1 := Scalar.xori v42 true_24
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MergeReferenceIdeal.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S8192x4x512 : Shape := ⟨3, ![8192, 4, 512]⟩
abbrev S4x1024x8192 : Shape := ⟨3, ![4, 1024, 8192]⟩
abbrev S8192x4x1024 : Shape := ⟨3, ![8192, 4, 1024]⟩
abbrev S_ : Shape := ⟨0, ![]⟩
abbrev S4x8192x512 : Shape := ⟨3, ![4, 8192, 512]⟩
abbrev S4x1024x512 : Shape := ⟨3, ![4, 1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .f32⟩
  | .hbm, ⟨4, _⟩ => ⟨S1024x1024, .f32⟩
  | .hbm, ⟨5, _⟩ => ⟨S8192x1024, .f32⟩
  | .hbm, ⟨6, _⟩ => ⟨S8192x4x512, .f32⟩
  | .hbm, ⟨7, _⟩ => ⟨S4x1024x8192, .f32⟩
  | .hbm, ⟨8, _⟩ => ⟨S8192x4x1024, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4x1024, .f32⟩
  | .hbm, ⟨22, _⟩ => ⟨S8192x4x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S1024x1024, .f32⟩
  | .hbm, ⟨29, _⟩ => ⟨S8192x1024, .f32⟩
  | .hbm, ⟨30, _⟩ => ⟨S8192x4x1024, .f32⟩
  | .hbm, ⟨31, _⟩ => ⟨S8192x4x1024, .f32⟩
  | .hbm, ⟨32, _⟩ => ⟨S8192x4x1024, .f32⟩
  | .hbm, ⟨33, _⟩ => ⟨S8192x4096, .f32⟩
  | .hbm, ⟨34, _⟩ => ⟨S8192x4096, .f32⟩
  | .hbm, ⟨35, _⟩ => ⟨S4x1024x8192, .f32⟩
  | .hbm, ⟨36, _⟩ => ⟨S4x8192x512, .f32⟩
  | .hbm, ⟨37, _⟩ => ⟨S8192x4x512, .f32⟩
  | .hbm, ⟨38, _⟩ => ⟨S4x1024x512, .f32⟩
  | .hbm, ⟨39, _⟩ => ⟨S4x512x1024, .f32⟩
  | .hbm, ⟨40, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== S5Kernel.lean ====
abbrev S8192x512 : Shape := ⟨2, ![8192, 512]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S8x1x8x1 : Shape := ⟨4, ![8, 1, 8, 1]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x512 : Shape := ⟨2, ![1, 512]⟩
abbrev S2048 : Shape := ⟨1, ![2048]⟩
abbrev S4x1x512 : Shape := ⟨3, ![4, 1, 512]⟩
abbrev S4x1x512x1 : Shape := ⟨4, ![4, 1, 512, 1]⟩
abbrev S4x1x512x2 : Shape := ⟨4, ![4, 1, 512, 2]⟩
abbrev S4x512x2 : Shape := ⟨3, ![4, 512, 2]⟩
abbrev S4x512 : Shape := ⟨2, ![4, 512]⟩
abbrev S4x512x1 : Shape := ⟨3, ![4, 512, 1]⟩
abbrev S4x512x1x2 : Shape := ⟨4, ![4, 512, 1, 2]⟩
abbrev S4x512x2x2 : Shape := ⟨4, ![4, 512, 2, 2]⟩
abbrev S4x256x512x2 : Shape := ⟨4, ![4, 256, 512, 2]⟩
abbrev S4x255x512x2 : Shape := ⟨4, ![4, 255, 512, 2]⟩
abbrev S4x512x2x256 : Shape := ⟨4, ![4, 512, 2, 256]⟩
abbrev S4x254x512x2 : Shape := ⟨4, ![4, 254, 512, 2]⟩
abbrev S4x252x512x2 : Shape := ⟨4, ![4, 252, 512, 2]⟩
abbrev S4x248x512x2 : Shape := ⟨4, ![4, 248, 512, 2]⟩
abbrev S4x240x512x2 : Shape := ⟨4, ![4, 240, 512, 2]⟩
abbrev S4x224x512x2 : Shape := ⟨4, ![4, 224, 512, 2]⟩
abbrev S4x192x512x2 : Shape := ⟨4, ![4, 192, 512, 2]⟩
abbrev S4x128x512x2 : Shape := ⟨4, ![4, 128, 512, 2]⟩
abbrev S8192x4x128 : Shape := ⟨3, ![8192, 4, 128]⟩
abbrev S4x8192x512 : Shape := ⟨3, ![4, 8192, 512]⟩
abbrev S4x8192x512x1 : Shape := ⟨4, ![4, 8192, 512, 1]⟩
abbrev S4x8192x512x2 : Shape := ⟨4, ![4, 8192, 512, 2]⟩
abbrev S4x8191x512x2 : Shape := ⟨4, ![4, 8191, 512, 2]⟩
abbrev S4x512x2x8192 : Shape := ⟨4, ![4, 512, 2, 8192]⟩
abbrev S4x8190x512x2 : Shape := ⟨4, ![4, 8190, 512, 2]⟩
abbrev S4x8188x512x2 : Shape := ⟨4, ![4, 8188, 512, 2]⟩
abbrev S4x8184x512x2 : Shape := ⟨4, ![4, 8184, 512, 2]⟩
abbrev S4x8176x512x2 : Shape := ⟨4, ![4, 8176, 512, 2]⟩
abbrev S4x8160x512x2 : Shape := ⟨4, ![4, 8160, 512, 2]⟩
abbrev S4x8128x512x2 : Shape := ⟨4, ![4, 8128, 512, 2]⟩
abbrev S4x8064x512x2 : Shape := ⟨4, ![4, 8064, 512, 2]⟩
abbrev S4x7936x512x2 : Shape := ⟨4, ![4, 7936, 512, 2]⟩
abbrev S4x7680x512x2 : Shape := ⟨4, ![4, 7680, 512, 2]⟩
abbrev S4x7168x512x2 : Shape := ⟨4, ![4, 7168, 512, 2]⟩
abbrev S4x6144x512x2 : Shape := ⟨4, ![4, 6144, 512, 2]⟩
abbrev S4x4096x512x2 : Shape := ⟨4, ![4, 4096, 512, 2]⟩
abbrev S4x32x256x512x2 : Shape := ⟨5, ![4, 32, 256, 512, 2]⟩
abbrev S4x31x1x512x2 : Shape := ⟨5, ![4, 31, 1, 512, 2]⟩
abbrev S4x31x512x2 : Shape := ⟨4, ![4, 31, 512, 2]⟩
abbrev S4x32x512x2 : Shape := ⟨4, ![4, 32, 512, 2]⟩
abbrev S4x32x1x512x2 : Shape := ⟨5, ![4, 32, 1, 512, 2]⟩
abbrev S8192x5376 : Shape := ⟨2, ![8192, 5376]⟩
abbrev S4x256x512x1 : Shape := ⟨4, ![4, 256, 512, 1]⟩
abbrev S4x256x512 : Shape := ⟨3, ![4, 256, 512]⟩
abbrev S4x32x1x512x1 : Shape := ⟨5, ![4, 32, 1, 512, 1]⟩
abbrev S4x32x1x512 : Shape := ⟨4, ![4, 32, 1, 512]⟩
abbrev S256x128 : Shape := ⟨2, ![256, 128]⟩
abbrev S1x1x512 : Shape := ⟨3, ![1, 1, 512]⟩
abbrev S1x128x512 : Shape := ⟨3, ![1, 128, 512]⟩
abbrev S1x256x512 : Shape := ⟨3, ![1, 256, 512]⟩
abbrev S1x512x128 : Shape := ⟨3, ![1, 512, 128]⟩
abbrev S1x128 : Shape := ⟨2, ![1, 128]⟩
abbrev S1x1x1x512 : Shape := ⟨4, ![1, 1, 1, 512]⟩
abbrev S128x512 : Shape := ⟨2, ![128, 512]⟩
abbrev S256x512 : Shape := ⟨2, ![256, 512]⟩
abbrev S512x128 : Shape := ⟨2, ![512, 128]⟩
abbrev S512 : Shape := ⟨1, ![512]⟩
abbrev S128 : Shape := ⟨1, ![128]⟩

abbrev nBuf : Space → Nat
  | .hbm => 328
  | .vmem => 40
  | .smem => 0
  | _ => 0

abbrev hbmTy0_0 (i : Nat) : BufTy := match i % 128 with
  | 0 => ⟨S8192x512, .f32⟩
  | 1 => ⟨S32, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S8192x512, .f32⟩
  | 10 => ⟨S32x16x64, .f32⟩
  | 11 => ⟨S4x8x16x64, .f32⟩
  | 12 => ⟨S8x8, .i32⟩
  | 13 => ⟨S8x8, .i32⟩
  | 14 => ⟨S_, .i32⟩
  | 15 => ⟨S8x8, .i32⟩
  | 16 => ⟨S8x8, .i32⟩
  | 17 => ⟨S8x8, .i1⟩
  | 18 => ⟨S8x8, .f32⟩
  | 19 => ⟨S4x8x16x1x64, .f32⟩
  | 20 => ⟨S8x1x8x1, .f32⟩
  | 21 => ⟨S1x8x1x8x1, .f32⟩
  | 22 => ⟨S4x8x16x8x64, .f32⟩
  | 23 => ⟨S4x8x16x8x64, .f32⟩
  | 24 => ⟨S4x8x16x8x64, .f32⟩
  | 25 => ⟨S4x128x512, .f32⟩
  | 26 => ⟨S32x16x64, .f32⟩
  | 27 => ⟨S4x8x16x64, .f32⟩
  | 28 => ⟨S8x8, .i32⟩
  | 29 => ⟨S8x8, .i32⟩
  | 30 => ⟨S_, .i32⟩
  | 31 => ⟨S8x8, .i32⟩
  | 32 => ⟨S8x8, .i32⟩
  | 33 => ⟨S8x8, .i1⟩
  | 34 => ⟨S8x8, .f32⟩
  | 35 => ⟨S4x8x16x1x64, .f32⟩
  | 36 => ⟨S8x1x8x1, .f32⟩
  | 37 => ⟨S1x8x1x8x1, .f32⟩
  | 38 => ⟨S4x8x16x8x64, .f32⟩
  | 39 => ⟨S4x8x16x8x64, .f32⟩
  | 40 => ⟨S4x8x16x8x64, .f32⟩
  | 41 => ⟨S4x128x512, .f32⟩
  | 42 => ⟨S32x64x16, .f32⟩
  | 43 => ⟨S4x8x64x16, .f32⟩
  | 44 => ⟨S8x8, .i32⟩
  | 45 => ⟨S8x8, .i32⟩
  | 46 => ⟨S_, .i32⟩
  | 47 => ⟨S8x8, .i32⟩
  | 48 => ⟨S8x8, .i32⟩
  | 49 => ⟨S8x8, .i1⟩
  | 50 => ⟨S8x8, .f32⟩
  | 51 => ⟨S4x8x64x1x16, .f32⟩
  | 52 => ⟨S8x1x8x1, .f32⟩
  | 53 => ⟨S1x8x1x8x1, .f32⟩
  | 54 => ⟨S4x8x64x8x16, .f32⟩
  | 55 => ⟨S4x8x64x8x16, .f32⟩
  | 56 => ⟨S4x8x64x8x16, .f32⟩
  | 57 => ⟨S4x512x128, .f32⟩
  | 58 => ⟨S32x64x16, .f32⟩
  | 59 => ⟨S4x8x64x16, .f32⟩
  | 60 => ⟨S8x8, .i32⟩
  | 61 => ⟨S8x8, .i32⟩
  | 62 => ⟨S_, .i32⟩
  | 63 => ⟨S8x8, .i32⟩
  | 64 => ⟨S8x8, .i32⟩
  | 65 => ⟨S8x8, .i1⟩
  | 66 => ⟨S8x8, .f32⟩
  | 67 => ⟨S4x8x64x1x16, .f32⟩
  | 68 => ⟨S8x1x8x1, .f32⟩
  | 69 => ⟨S1x8x1x8x1, .f32⟩
  | 70 => ⟨S4x8x64x8x16, .f32⟩
  | 71 => ⟨S4x8x64x8x16, .f32⟩
  | 72 => ⟨S4x8x64x8x16, .f32⟩
  | 73 => ⟨S4x512x128, .f32⟩
  | 74 => ⟨S1x512, .f32⟩
  | 75 => ⟨S32x64, .f32⟩
  | 76 => ⟨S2048, .f32⟩
  | 77 => ⟨S4x1x512, .f32⟩
  | 78 => ⟨S4x1x512, .f32⟩
  | 79 => ⟨S4x1x512, .f32⟩
  | 80 => ⟨S4x1x512, .f32⟩
  | 81 => ⟨S4x1x512, .f32⟩
  | 82 => ⟨S4x1x512, .f32⟩
  | 83 => ⟨S4x1x512, .f32⟩
  | 84 => ⟨S4x1x512, .f32⟩
  | 85 => ⟨S4x1x512, .f32⟩
  | 86 => ⟨S4x1x512, .f32⟩
  | 87 => ⟨S4x1x512, .f32⟩
  | 88 => ⟨S4x1x512, .f32⟩
  | 89 => ⟨S4x1x512, .f32⟩
  | 90 => ⟨S4x1x512x1, .f32⟩
  | 91 => ⟨S4x1x512x1, .f32⟩
  | 92 => ⟨S4x1x512x2, .f32⟩
  | 93 => ⟨S4x512x2, .f32⟩
  | 94 => ⟨S4x512, .f32⟩
  | 95 => ⟨S4x512, .f32⟩
  | 96 => ⟨S4x512, .f32⟩
  | 97 => ⟨S4x512x1, .f32⟩
  | 98 => ⟨S4x512x1, .f32⟩
  | 99 => ⟨S4x512x2, .f32⟩
  | 100 => ⟨S4x512x1x2, .f32⟩
  | 101 => ⟨S4x512x1x2, .f32⟩
  | 102 => ⟨S4x512x2x2, .f32⟩
  | 103 => ⟨S_, .i32⟩
  | 104 => ⟨S_, .f32⟩
  | 105 => ⟨S4x256x512x2, .f32⟩
  | 106 => ⟨S4x255x512x2, .f32⟩
  | 107 => ⟨S_, .f32⟩
  | 108 => ⟨S4x256x512x2, .f32⟩
  | 109 => ⟨S4x512x2x256, .f32⟩
  | 110 => ⟨S4x256x512x2, .f32⟩
  | 111 => ⟨S4x256x512x2, .f32⟩
  | 112 => ⟨S4x512x2x2, .f32⟩
  | 113 => ⟨S4x254x512x2, .f32⟩
  | 114 => ⟨S_, .f32⟩
  | 115 => ⟨S4x256x512x2, .f32⟩
  | 116 => ⟨S4x512x2x256, .f32⟩
  | 117 => ⟨S4x256x512x2, .f32⟩
  | 118 => ⟨S4x256x512x2, .f32⟩
  | 119 => ⟨S4x512x2x2, .f32⟩
  | 120 => ⟨S4x252x512x2, .f32⟩
  | 121 => ⟨S_, .f32⟩
  | 122 => ⟨S4x256x512x2, .f32⟩
  | 123 => ⟨S4x512x2x256, .f32⟩
  | 124 => ⟨S4x256x512x2, .f32⟩
  | 125 => ⟨S4x256x512x2, .f32⟩
  | 126 => ⟨S4x512x2x2, .f32⟩
  | 127 => ⟨S4x248x512x2, .f32⟩
  | _ => ⟨S8192x512, .f32⟩

abbrev hbmTy0_1 (i : Nat) : BufTy := match i % 128 with
  | 0 => ⟨S_, .f32⟩
  | 1 => ⟨S4x256x512x2, .f32⟩
  | 2 => ⟨S4x512x2x256, .f32⟩
  | 3 => ⟨S4x256x512x2, .f32⟩
  | 4 => ⟨S4x256x512x2, .f32⟩
  | 5 => ⟨S4x512x2x2, .f32⟩
  | 6 => ⟨S4x240x512x2, .f32⟩
  | 7 => ⟨S_, .f32⟩
  | 8 => ⟨S4x256x512x2, .f32⟩
  | 9 => ⟨S4x512x2x256, .f32⟩
  | 10 => ⟨S4x256x512x2, .f32⟩
  | 11 => ⟨S4x256x512x2, .f32⟩
  | 12 => ⟨S4x512x2x2, .f32⟩
  | 13 => ⟨S4x224x512x2, .f32⟩
  | 14 => ⟨S_, .f32⟩
  | 15 => ⟨S4x256x512x2, .f32⟩
  | 16 => ⟨S4x512x2x256, .f32⟩
  | 17 => ⟨S4x256x512x2, .f32⟩
  | 18 => ⟨S4x256x512x2, .f32⟩
  | 19 => ⟨S4x512x2x2, .f32⟩
  | 20 => ⟨S4x192x512x2, .f32⟩
  | 21 => ⟨S_, .f32⟩
  | 22 => ⟨S4x256x512x2, .f32⟩
  | 23 => ⟨S4x512x2x256, .f32⟩
  | 24 => ⟨S4x256x512x2, .f32⟩
  | 25 => ⟨S4x256x512x2, .f32⟩
  | 26 => ⟨S4x512x2x2, .f32⟩
  | 27 => ⟨S4x128x512x2, .f32⟩
  | 28 => ⟨S_, .f32⟩
  | 29 => ⟨S4x256x512x2, .f32⟩
  | 30 => ⟨S4x512x2x256, .f32⟩
  | 31 => ⟨S4x256x512x2, .f32⟩
  | 32 => ⟨S4x256x512x2, .f32⟩
  | 33 => ⟨S4x512x2x2, .f32⟩
  | 34 => ⟨S8192x4x128, .f32⟩
  | 35 => ⟨S4x8192x512, .f32⟩
  | 36 => ⟨S8192x4x128, .f32⟩
  | 37 => ⟨S4x8192x512, .f32⟩
  | 38 => ⟨S4x8192x512x1, .f32⟩
  | 39 => ⟨S4x8192x512x1, .f32⟩
  | 40 => ⟨S4x8192x512x2, .f32⟩
  | 41 => ⟨S4x8191x512x2, .f32⟩
  | 42 => ⟨S_, .f32⟩
  | 43 => ⟨S4x8192x512x2, .f32⟩
  | 44 => ⟨S4x512x2x8192, .f32⟩
  | 45 => ⟨S4x8192x512x2, .f32⟩
  | 46 => ⟨S4x8192x512x2, .f32⟩
  | 47 => ⟨S4x512x2x2, .f32⟩
  | 48 => ⟨S4x8190x512x2, .f32⟩
  | 49 => ⟨S_, .f32⟩
  | 50 => ⟨S4x8192x512x2, .f32⟩
  | 51 => ⟨S4x512x2x8192, .f32⟩
  | 52 => ⟨S4x8192x512x2, .f32⟩
  | 53 => ⟨S4x8192x512x2, .f32⟩
  | 54 => ⟨S4x512x2x2, .f32⟩
  | 55 => ⟨S4x8188x512x2, .f32⟩
  | 56 => ⟨S_, .f32⟩
  | 57 => ⟨S4x8192x512x2, .f32⟩
  | 58 => ⟨S4x512x2x8192, .f32⟩
  | 59 => ⟨S4x8192x512x2, .f32⟩
  | 60 => ⟨S4x8192x512x2, .f32⟩
  | 61 => ⟨S4x512x2x2, .f32⟩
  | 62 => ⟨S4x8184x512x2, .f32⟩
  | 63 => ⟨S_, .f32⟩
  | 64 => ⟨S4x8192x512x2, .f32⟩
  | 65 => ⟨S4x512x2x8192, .f32⟩
  | 66 => ⟨S4x8192x512x2, .f32⟩
  | 67 => ⟨S4x8192x512x2, .f32⟩
  | 68 => ⟨S4x512x2x2, .f32⟩
  | 69 => ⟨S4x8176x512x2, .f32⟩
  | 70 => ⟨S_, .f32⟩
  | 71 => ⟨S4x8192x512x2, .f32⟩
  | 72 => ⟨S4x512x2x8192, .f32⟩
  | 73 => ⟨S4x8192x512x2, .f32⟩
  | 74 => ⟨S4x8192x512x2, .f32⟩
  | 75 => ⟨S4x512x2x2, .f32⟩
  | 76 => ⟨S4x8160x512x2, .f32⟩
  | 77 => ⟨S_, .f32⟩
  | 78 => ⟨S4x8192x512x2, .f32⟩
  | 79 => ⟨S4x512x2x8192, .f32⟩
  | 80 => ⟨S4x8192x512x2, .f32⟩
  | 81 => ⟨S4x8192x512x2, .f32⟩
  | 82 => ⟨S4x512x2x2, .f32⟩
  | 83 => ⟨S4x8128x512x2, .f32⟩
  | 84 => ⟨S_, .f32⟩
  | 85 => ⟨S4x8192x512x2, .f32⟩
  | 86 => ⟨S4x512x2x8192, .f32⟩
  | 87 => ⟨S4x8192x512x2, .f32⟩
  | 88 => ⟨S4x8192x512x2, .f32⟩
  | 89 => ⟨S4x512x2x2, .f32⟩
  | 90 => ⟨S4x8064x512x2, .f32⟩
  | 91 => ⟨S_, .f32⟩
  | 92 => ⟨S4x8192x512x2, .f32⟩
  | 93 => ⟨S4x512x2x8192, .f32⟩
  | 94 => ⟨S4x8192x512x2, .f32⟩
  | 95 => ⟨S4x8192x512x2, .f32⟩
  | 96 => ⟨S4x512x2x2, .f32⟩
  | 97 => ⟨S4x7936x512x2, .f32⟩
  | 98 => ⟨S_, .f32⟩
  | 99 => ⟨S4x8192x512x2, .f32⟩
  | 100 => ⟨S4x512x2x8192, .f32⟩
  | 101 => ⟨S4x8192x512x2, .f32⟩
  | 102 => ⟨S4x8192x512x2, .f32⟩
  | 103 => ⟨S4x512x2x2, .f32⟩
  | 104 => ⟨S4x7680x512x2, .f32⟩
  | 105 => ⟨S_, .f32⟩
  | 106 => ⟨S4x8192x512x2, .f32⟩
  | 107 => ⟨S4x512x2x8192, .f32⟩
  | 108 => ⟨S4x8192x512x2, .f32⟩
  | 109 => ⟨S4x8192x512x2, .f32⟩
  | 110 => ⟨S4x512x2x2, .f32⟩
  | 111 => ⟨S4x7168x512x2, .f32⟩
  | 112 => ⟨S_, .f32⟩
  | 113 => ⟨S4x8192x512x2, .f32⟩
  | 114 => ⟨S4x512x2x8192, .f32⟩
  | 115 => ⟨S4x8192x512x2, .f32⟩
  | 116 => ⟨S4x8192x512x2, .f32⟩
  | 117 => ⟨S4x512x2x2, .f32⟩
  | 118 => ⟨S4x6144x512x2, .f32⟩
  | 119 => ⟨S_, .f32⟩
  | 120 => ⟨S4x8192x512x2, .f32⟩
  | 121 => ⟨S4x512x2x8192, .f32⟩
  | 122 => ⟨S4x8192x512x2, .f32⟩
  | 123 => ⟨S4x8192x512x2, .f32⟩
  | 124 => ⟨S4x512x2x2, .f32⟩
  | 125 => ⟨S4x4096x512x2, .f32⟩
  | 126 => ⟨S_, .f32⟩
  | 127 => ⟨S4x8192x512x2, .f32⟩
  | _ => ⟨S8192x512, .f32⟩

abbrev hbmTy0_2 (i : Nat) : BufTy := match i % 128 with
  | 0 => ⟨S4x512x2x8192, .f32⟩
  | 1 => ⟨S4x8192x512x2, .f32⟩
  | 2 => ⟨S4x8192x512x2, .f32⟩
  | 3 => ⟨S4x512x2x2, .f32⟩
  | 4 => ⟨S4x32x256x512x2, .f32⟩
  | 5 => ⟨S4x31x1x512x2, .f32⟩
  | 6 => ⟨S4x31x512x2, .f32⟩
  | 7 => ⟨S_, .i32⟩
  | 8 => ⟨S_, .f32⟩
  | 9 => ⟨S4x32x512x2, .f32⟩
  | 10 => ⟨S4x32x1x512x2, .f32⟩
  | 11 => ⟨S_, .i32⟩
  | 12 => ⟨S_, .f32⟩
  | 13 => ⟨S8192x5376, .f32⟩
  | 14 => ⟨S4x256x512x1, .f32⟩
  | 15 => ⟨S4x256x512, .f32⟩
  | 16 => ⟨S4x256x512x1, .f32⟩
  | 17 => ⟨S4x256x512, .f32⟩
  | 18 => ⟨S4x32x1x512x1, .f32⟩
  | 19 => ⟨S4x32x1x512, .f32⟩
  | 20 => ⟨S4x32x1x512x1, .f32⟩
  | 21 => ⟨S4x32x1x512, .f32⟩
  | 22 => ⟨S_, .f32⟩
  | 23 => ⟨S8192x5376, .f32⟩
  | 24 => ⟨S8192x5376, .f32⟩
  | 25 => ⟨S4x128x512, .f32⟩
  | 26 => ⟨S4x128x512, .f32⟩
  | 27 => ⟨S4x512x128, .f32⟩
  | 28 => ⟨S4x512x128, .f32⟩
  | 29 => ⟨S1x512, .f32⟩
  | 30 => ⟨S8192x512, .f32⟩
  | 31 => ⟨S32x16, .f32⟩
  | 32 => ⟨S4x8x64x8x16, .f32⟩
  | 33 => ⟨S4x8x64x8x16, .f32⟩
  | 34 => ⟨S4x8x64x8x16, .f32⟩
  | 35 => ⟨S_, .f32⟩
  | 36 => ⟨S4x8x64x16, .f32⟩
  | 37 => ⟨S4x8x64x1x16, .f32⟩
  | 38 => ⟨S_, .f32⟩
  | 39 => ⟨S4x8x64x16, .f32⟩
  | 40 => ⟨S32x64x16, .f32⟩
  | 41 => ⟨S32x16x64, .f32⟩
  | 42 => ⟨S4x8x64x8x16, .f32⟩
  | 43 => ⟨S4x8x64x8x16, .f32⟩
  | 44 => ⟨S4x8x64x8x16, .f32⟩
  | 45 => ⟨S_, .f32⟩
  | 46 => ⟨S4x8x64x16, .f32⟩
  | 47 => ⟨S4x8x64x1x16, .f32⟩
  | 48 => ⟨S_, .f32⟩
  | 49 => ⟨S4x8x64x16, .f32⟩
  | 50 => ⟨S32x64x16, .f32⟩
  | 51 => ⟨S32x16x64, .f32⟩
  | 52 => ⟨S4x8x16x8x64, .f32⟩
  | 53 => ⟨S4x8x16x8x64, .f32⟩
  | 54 => ⟨S4x8x16x8x64, .f32⟩
  | 55 => ⟨S_, .f32⟩
  | 56 => ⟨S4x8x16x64, .f32⟩
  | 57 => ⟨S4x8x16x1x64, .f32⟩
  | 58 => ⟨S_, .f32⟩
  | 59 => ⟨S4x8x16x64, .f32⟩
  | 60 => ⟨S32x16x64, .f32⟩
  | 61 => ⟨S32x64x16, .f32⟩
  | 62 => ⟨S4x8x16x8x64, .f32⟩
  | 63 => ⟨S4x8x16x8x64, .f32⟩
  | 64 => ⟨S4x8x16x8x64, .f32⟩
  | 65 => ⟨S_, .f32⟩
  | 66 => ⟨S4x8x16x64, .f32⟩
  | 67 => ⟨S4x8x16x1x64, .f32⟩
  | 68 => ⟨S_, .f32⟩
  | 69 => ⟨S4x8x16x64, .f32⟩
  | 70 => ⟨S32x16x64, .f32⟩
  | 71 => ⟨S32x64x16, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x128, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | .local _ .vmem, ⟨22, _⟩ => ⟨S1x1x1x512, .f32⟩
  | .local _ .vmem, ⟨23, _⟩ => ⟨S1x1x1x512, .f32⟩
  | .local _ .vmem, ⟨24, _⟩ => ⟨S1x1x1x512, .f32⟩
  | .local _ .vmem, ⟨25, _⟩ => ⟨S1x1x1x512, .f32⟩
  | .local _ .vmem, ⟨26, _⟩ => ⟨S256x128, .f32⟩
  | .local _ .vmem, ⟨27, _⟩ => ⟨S256x128, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x512x128, .f32⟩
  | .local _ .vmem, ⟨33, _⟩ => ⟨S1x512x128, .f32⟩
  | .local _ .vmem, ⟨34, _⟩ => ⟨S1x512x128, .f32⟩
  | .local _ .vmem, ⟨35, _⟩ => ⟨S1x512x128, .f32⟩
  | .local _ .vmem, ⟨36, _⟩ => ⟨S1x128, .f32⟩
  | .local _ .vmem, ⟨37, _⟩ => ⟨S1x128, .f32⟩
  | .local _ .vmem, ⟨38, _⟩ => ⟨S1x512, .f32⟩
  | .local _ .vmem, ⟨39, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_c_3 : Ref sig .tc := ⟨.hbm, 103, rfl⟩
abbrev main_call0_v0 : Ref sig .tc := ⟨.hbm, 104, rfl⟩
abbrev main_v89 : Ref sig .tc := ⟨.hbm, 105, rfl⟩
abbrev main_v90 : Ref sig .tc := ⟨.hbm, 106, rfl⟩
abbrev main_cst : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_4 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_5 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_6 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_7 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_8 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_9 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_10 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_11 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_12 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_13 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_14 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_cst_15 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_cst_16 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_cst_17 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_cst_18 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_cst_19 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_cst_20 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_cst_21 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_cst_22 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_23 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_c_24 : Ref sig .tc := ⟨.hbm, 263, rfl⟩
abbrev main_call1_v0 : Ref sig .tc := ⟨.hbm, 264, rfl⟩
abbrev main_v226 : Ref sig .tc := ⟨.hbm, 265, rfl⟩
abbrev main_v227 : Ref sig .tc := ⟨.hbm, 266, rfl⟩
abbrev main_c_25 : Ref sig .tc := ⟨.hbm, 267, rfl⟩
abbrev main_call2_v0 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_cst_26 : Ref sig .tc := ⟨.hbm, 278, rfl⟩
abbrev main_v237 : Ref sig .tc := ⟨.hbm, 279, rfl⟩
abbrev main_v238_0 : Ref sig .tc := ⟨.hbm, 280, rfl⟩
abbrev main_v238_1 : Ref sig .tc := ⟨.hbm, 281, rfl⟩
abbrev main_v238_2 : Ref sig .tc := ⟨.hbm, 282, rfl⟩
abbrev main_v238_3 : Ref sig .tc := ⟨.hbm, 283, rfl⟩
abbrev main_v238_4 : Ref sig .tc := ⟨.hbm, 284, rfl⟩
abbrev main_v238_5 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_cst_27 : Ref sig .tc := ⟨.hbm, 291, rfl⟩
abbrev main_v244 : Ref sig .tc := ⟨.hbm, 292, rfl⟩
abbrev main_v245 : Ref sig .tc := ⟨.hbm, 293, rfl⟩
abbrev main_cst_28 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_cst_29 : Ref sig .tc := ⟨.hbm, 301, rfl⟩
abbrev main_v252 : Ref sig .tc := ⟨.hbm, 302, rfl⟩
abbrev main_v253 : Ref sig .tc := ⟨.hbm, 303, rfl⟩
abbrev main_cst_30 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_cst_31 : Ref sig .tc := ⟨.hbm, 311, rfl⟩
abbrev main_v260 : Ref sig .tc := ⟨.hbm, 312, rfl⟩
abbrev main_v261 : Ref sig .tc := ⟨.hbm, 313, rfl⟩
abbrev main_cst_32 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_cst_33 : Ref sig .tc := ⟨.hbm, 321, rfl⟩
abbrev main_v268 : Ref sig .tc := ⟨.hbm, 322, rfl⟩
abbrev main_v269 : Ref sig .tc := ⟨.hbm, 323, rfl⟩
abbrev main_cst_34 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c0_i32_152 : BitVec 32 := 0#32
  let v594 : BitVec 1 := Scalar.cmpi .eq arg1 c0_i32_152
  let v595 : BitVec 32 := Scalar.extui v594
  let c0_i32_153 : BitVec 32 := 0#32
  let v596 : BitVec 1 := Scalar.cmpi .ne v595 c0_i32_153
  v596

def k0_cond3 (i : grid0.Coords) : BitVec 1 :=
  let arg1 : BitVec 32 := BitVec.ofNat 32 (i 1).val
  let c0_i32_152 : BitVec 32 := 0#32
  let v594 : BitVec 1 := Scalar.cmpi .eq arg1 c0_i32_152
  let v_true : BitVec 1 := 1#1
  let v597 : BitVec 1 := Scalar.xori v594 v_true
  let v598 : BitVec 32 := Scalar.extui v597
  let c0_i32_154 : BitVec 32 := 0#32
  let v599 : BitVec 1 := Scalar.cmpi .ne v598 c0_i32_154
  v599

def k0_cond4 (i : grid0.Coords) : BitVec 1 :=
  let arg1 : BitVec 32 := BitVec.ofNat 32 (i 1).val
  let c0_i32_155 : BitVec 32 := 0#32
  let v600 : BitVec 1 := Scalar.cmpi .eq arg1 c0_i32_155
  let v601 : BitVec 32 := Scalar.extui v600
  let c0_i32_156 : BitVec 32 := 0#32
  let v602 : BitVec 1 := Scalar.cmpi .ne v601 c0_i32_156
  v602

def k0_cond5 (i : grid0.Coords) : BitVec 1 :=
  let arg1 : BitVec 32 := BitVec.ofNat 32 (i 1).val
  let c0_i32_155 : BitVec 32 := 0#32
  let v600 : BitVec 1 := Scalar.cmpi .eq arg1 c0_i32_155
  let true_157 : BitVec 1 := 1#1
  let v603 : BitVec 1 := Scalar.xori v600 true_157
  let v604 : BitVec 32 := Scalar.extui v603
  let c0_i32_158 : BitVec 32 := 0#32
  let v605 : BitVec 1 := Scalar.cmpi .ne v604 c0_i32_158
  v605

def k0_cond6 (i : grid0.Coords) : BitVec 1 :=
  let arg1 : BitVec 32 := BitVec.ofNat 32 (i 1).val
  let c0_i32_159 : BitVec 32 := 0#32
  let v606 : BitVec 1 := Scalar.cmpi .eq arg1 c0_i32_159
  let v607 : BitVec 32 := Scalar.extui v606
  let c0_i32_160 : BitVec 32 := 0#32
  let v608 : BitVec 1 := Scalar.cmpi .ne v607 c0_i32_160
  v608

def k0_cond7 (i : grid0.Coords) : BitVec 1 :=
  let arg1 : BitVec 32 := BitVec.ofNat 32 (i 1).val
  let c0_i32_159 : BitVec 32 := 0#32
  let v606 : BitVec 1 := Scalar.cmpi .eq arg1 c0_i32_159
  let true_161 : BitVec 1 := 1#1
  let v609 : BitVec 1 := Scalar.xori v606 true_161
  let v610 : BitVec 32 := Scalar.extui v609
  let c0_i32_162 : BitVec 32 := 0#32
  let v611 : BitVec 1 := Scalar.cmpi .ne v610 c0_i32_162
  v611

def k0_cond8 (i : grid0.Coords) : BitVec 1 :=
  let arg1 : BitVec 32 := BitVec.ofNat 32 (i 1).val
  let c0_i32_163 : BitVec 32 := 0#32
  let v612 : BitVec 1 := Scalar.cmpi .eq arg1 c0_i32_163
  let v613 : BitVec 32 := Scalar.extui v612
  let c0_i32_164 : BitVec 32 := 0#32
  let v614 : BitVec 1 := Scalar.cmpi .ne v613 c0_i32_164
  v614

def k0_cond9 (i : grid0.Coords) : BitVec 1 :=
  let arg1 : BitVec 32 := BitVec.ofNat 32 (i 1).val
  let c0_i32_163 : BitVec 32 := 0#32
  let v612 : BitVec 1 := Scalar.cmpi .eq arg1 c0_i32_163
  let true_165 : BitVec 1 := 1#1
  let v615 : BitVec 1 := Scalar.xori v612 true_165
  let v616 : BitVec 32 := Scalar.extui v615
  let c0_i32_166 : BitVec 32 := 0#32
  let v617 : BitVec 1 := Scalar.cmpi .ne v616 c0_i32_166
  v617

def k0_cond10 (i : grid0.Coords) : BitVec 1 :=
  let arg1 : BitVec 32 := BitVec.ofNat 32 (i 1).val
  let c0_i32_167 : BitVec 32 := 0#32
  let v618 : BitVec 1 := Scalar.cmpi .eq arg1 c0_i32_167
  let v619 : BitVec 32 := Scalar.extui v618
  let c0_i32_168 : BitVec 32 := 0#32
  let v620 : BitVec 1 := Scalar.cmpi .ne v619 c0_i32_168
  v620

def k0_cond11 (i : grid0.Coords) : BitVec 1 :=
  let arg1 : BitVec 32 := BitVec.ofNat 32 (i 1).val
  let c0_i32_167 : BitVec 32 := 0#32
  let v618 : BitVec 1 := Scalar.cmpi .eq arg1 c0_i32_167
  let true_169 : BitVec 1 := 1#1
  let v621 : BitVec 1 := Scalar.xori v618 true_169
  let v622 : BitVec 32 := Scalar.extui v621
  let c0_i32_170 : BitVec 32 := 0#32
  let v623 : BitVec 1 := Scalar.cmpi .ne v622 c0_i32_170
  v623

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c36_i32 : BitVec 32 := 36#32
  let v1 : BitVec 32 := Scalar.addi c36_i32 arg0
  let c0_i32 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c36_i32 : BitVec 32 := 36#32
  let v1 : BitVec 32 := Scalar.addi c36_i32 arg0
  let c0_i32 : BitVec 32 := 0#32
  ![v0.toNat, v1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== S5ReferenceIdeal.lean ====
abbrev S8192x512 : Shape := ⟨2, ![8192, 512]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S8192x32x16 : Shape := ⟨3, ![8192, 32, 16]⟩
abbrev S32x1 : Shape := ⟨2, ![32, 1]⟩
abbrev S32x64x8192 : Shape := ⟨3, ![32, 64, 8192]⟩
abbrev S8192x32x64 : Shape := ⟨3, ![8192, 32, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1x1 : Shape := ⟨4, ![8192, 8192, 1, 1]⟩
abbrev S1x1x32x64 : Shape := ⟨4, ![1, 1, 32, 64]⟩
abbrev S8192x8192x32x64 : Shape := ⟨4, ![8192, 8192, 32, 64]⟩
abbrev S_ : Shape := ⟨0, ![]⟩
abbrev S32x16x8192 : Shape := ⟨3, ![32, 16, 8192]⟩
abbrev S1x32x16 : Shape := ⟨3, ![1, 32, 16]⟩
abbrev S32x8192x64 : Shape := ⟨3, ![32, 8192, 64]⟩
abbrev S32x8192x16 : Shape := ⟨3, ![32, 8192, 16]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S32, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x16, .f32⟩
  | .hbm, ⟨9, _⟩ => ⟨S8192x512, .f32⟩
  | .hbm, ⟨10, _⟩ => ⟨S8192x32x16, .f32⟩
  | .hbm, ⟨11, _⟩ => ⟨S32, .f32⟩
  | .hbm, ⟨12, _⟩ => ⟨S32x1, .f32⟩
  | .hbm, ⟨13, _⟩ => ⟨S32x64x8192, .f32⟩
  | .hbm, ⟨14, _⟩ => ⟨S8192x32x64, .f32⟩
  | .hbm, ⟨15, _⟩ => ⟨S32x64x8192, .f32⟩
  | .hbm, ⟨16, _⟩ => ⟨S8192x32x64, .f32⟩
  | .hbm, ⟨17, _⟩ => ⟨S8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192x1x1, .f32⟩
  | .hbm, ⟨24, _⟩ => ⟨S32x64, .f32⟩
  | .hbm, ⟨25, _⟩ => ⟨S32x64, .f32⟩
  | .hbm, ⟨26, _⟩ => ⟨S1x1x32x64, .f32⟩
  | .hbm, ⟨27, _⟩ => ⟨S8192x8192x32x64, .f32⟩
  | .hbm, ⟨28, _⟩ => ⟨S8192x8192x32x64, .f32⟩
  | .hbm, ⟨29, _⟩ => ⟨S8192x8192x32x64, .f32⟩
  | .hbm, ⟨30, _⟩ => ⟨S8192x8192x32x64, .f32⟩
  | .hbm, ⟨31, _⟩ => ⟨S_, .f32⟩
  | .hbm, ⟨32, _⟩ => ⟨S8192x8192x1x1, .f32⟩
  | .hbm, ⟨33, _⟩ => ⟨S8192x8192x1x1, .i1⟩
  | .hbm, ⟨34, _⟩ => ⟨S32x64, .f32⟩
  | .hbm, ⟨35, _⟩ => ⟨S32x64, .f32⟩
  | .hbm, ⟨36, _⟩ => ⟨S1x1x32x64, .f32⟩
  | .hbm, ⟨37, _⟩ => ⟨S8192x8192x32x64, .f32⟩
  | .hbm, ⟨38, _⟩ => ⟨S8192x8192x32x64, .f32⟩
  | .hbm, ⟨39, _⟩ => ⟨S8192x8192x32x64, .f32⟩
  | .hbm, ⟨40, _⟩ => ⟨S8192x8192x32x64, .f32⟩
  | .hbm, ⟨41, _⟩ => ⟨S8192x8192x32x64, .f32⟩
  | .hbm, ⟨42, _⟩ => ⟨S_, .f32⟩
  | .hbm, ⟨43, _⟩ => ⟨S_, .f32⟩
  | .hbm, ⟨44, _⟩ => ⟨S8192x8192x32x64, .i1⟩
  | .hbm, ⟨45, _⟩ => ⟨S8192x8192x32x64, .f32⟩
  | .hbm, ⟨46, _⟩ => ⟨S8192x8192x32x64, .f32⟩
  | .hbm, ⟨47, _⟩ => ⟨S_, .f32⟩
  | .hbm, ⟨48, _⟩ => ⟨S8192x8192x1x1, .f32⟩
  | .hbm, ⟨49, _⟩ => ⟨S8192x8192x1x1, .i1⟩
  | .hbm, ⟨50, _⟩ => ⟨S32x64, .f32⟩
  | .hbm, ⟨51, _⟩ => ⟨S32x64, .f32⟩
  | .hbm, ⟨52, _⟩ => ⟨S1x1x32x64, .f32⟩
  | .hbm, ⟨53, _⟩ => ⟨S8192x8192x32x64, .f32⟩
  | .hbm, ⟨54, _⟩ => ⟨S8192x8192x32x64, .f32⟩
  | .hbm, ⟨55, _⟩ => ⟨S8192x8192x32x64, .f32⟩
  | .hbm, ⟨56, _⟩ => ⟨S8192x8192x32x64, .f32⟩
  | .hbm, ⟨57, _⟩ => ⟨S8192x8192x32x64, .f32⟩
  | .hbm, ⟨58, _⟩ => ⟨S_, .f32⟩
  | .hbm, ⟨59, _⟩ => ⟨S_, .f32⟩
  | .hbm, ⟨60, _⟩ => ⟨S8192x8192x32x64, .i1⟩
  | .hbm, ⟨61, _⟩ => ⟨S8192x8192x32x64, .f32⟩
  | .hbm, ⟨62, _⟩ => ⟨S8192x8192x32x64, .f32⟩
  | .hbm, ⟨63, _⟩ => ⟨S32x64x8192, .f32⟩
  | .hbm, ⟨64, _⟩ => ⟨S8192x32x64, .f32⟩
  | .hbm, ⟨65, _⟩ => ⟨S32x64x8192, .f32⟩
  | .hbm, ⟨66, _⟩ => ⟨S8192x32x64, .f32⟩
  | .hbm, ⟨67, _⟩ => ⟨S8192x32x64, .f32⟩
  | .hbm, ⟨68, _⟩ => ⟨S32x64x8192, .f32⟩
  | .hbm, ⟨69, _⟩ => ⟨S8192x32x64, .f32⟩
  | .hbm, ⟨70, _⟩ => ⟨S32x64x8192, .f32⟩
  | .hbm, ⟨71, _⟩ => ⟨S8192x32x64, .f32⟩
  | .hbm, ⟨72, _⟩ => ⟨S8192x32x64, .f32⟩
  | .hbm, ⟨73, _⟩ => ⟨S32x16x8192, .f32⟩
  | .hbm, ⟨74, _⟩ => ⟨S8192x32x16, .f32⟩
  | .hbm, ⟨75, _⟩ => ⟨S32x16x8192, .f32⟩
  | .hbm, ⟨76, _⟩ => ⟨S8192x32x16, .f32⟩
  | .hbm, ⟨77, _⟩ => ⟨S8192x32x16, .f32⟩
  | .hbm, ⟨78, _⟩ => ⟨S1x32x16, .f32⟩
  | .hbm, ⟨79, _⟩ => ⟨S8192x32x16, .f32⟩
  | .hbm, ⟨80, _⟩ => ⟨S8192x32x16, .f32⟩
  | .hbm, ⟨81, _⟩ => ⟨S8192x32x16, .f32⟩
  | .hbm, ⟨82, _⟩ => ⟨S8192x512, .f32⟩
  | .hbm, ⟨83, _⟩ => ⟨S8192x32x16, .f32⟩
  | .hbm, ⟨84, _⟩ => ⟨S8192x32x16, .f32⟩
  | .hbm, ⟨85, _⟩ => ⟨S8192x32x16, .f32⟩
  | .hbm, ⟨86, _⟩ => ⟨S8192x32x16, .f32⟩
  | .hbm, ⟨87, _⟩ => ⟨S_, .f32⟩
  | .hbm, ⟨88, _⟩ => ⟨S32x16, .f32⟩
  | .hbm, ⟨89, _⟩ => ⟨S1x32x16, .f32⟩
  | .hbm, ⟨90, _⟩ => ⟨S_, .f32⟩
  | .hbm, ⟨91, _⟩ => ⟨S32x16, .f32⟩
  | .hbm, ⟨92, _⟩ => ⟨S8192x32x16, .f32⟩
  | .hbm, ⟨93, _⟩ => ⟨S32x16x8192, .f32⟩
  | .hbm, ⟨94, _⟩ => ⟨S32x8192x64, .f32⟩
  | .hbm, ⟨95, _⟩ => ⟨S8192x32x64, .f32⟩
  | .hbm, ⟨96, _⟩ => ⟨S32x16x64, .f32⟩
  | .hbm, ⟨97, _⟩ => ⟨S32x16x8192, .f32⟩
  | .hbm, ⟨98, _⟩ => ⟨S32x8192x64, .f32⟩
  | .hbm, ⟨99, _⟩ => ⟨S8192x32x64, .f32⟩
  | .hbm, ⟨100, _⟩ => ⟨S32x16x64, .f32⟩
  | .hbm, ⟨101, _⟩ => ⟨S32x64x8192, .f32⟩
  | .hbm, ⟨102, _⟩ => ⟨S32x64x8192, .f32⟩
  | .hbm, ⟨103, _⟩ => ⟨S8192x32x64, .f32⟩
  | .hbm, ⟨104, _⟩ => ⟨S32x64x8192, .f32⟩
  | .hbm, ⟨105, _⟩ => ⟨S32x64x8192, .f32⟩
  | .hbm, ⟨106, _⟩ => ⟨S8192x32x64, .f32⟩
  | .hbm, ⟨107, _⟩ => ⟨S8192x32x64, .f32⟩
  | .hbm, ⟨108, _⟩ => ⟨S32x64x8192, .f32⟩
  | .hbm, ⟨109, _⟩ => ⟨S32x64x8192, .f32⟩
  | .hbm, ⟨110, _⟩ => ⟨S8192x32x64, .f32⟩
  | .hbm, ⟨111, _⟩ => ⟨S8192x32x64, .f32⟩
  | .hbm, ⟨112, _⟩ => ⟨S32x64x8192, .f32⟩
  | .hbm, ⟨113, _⟩ => ⟨S32x64x8192, .f32⟩
  | .hbm, ⟨114, _⟩ => ⟨S8192x32x64, .f32⟩
  | .hbm, ⟨115, _⟩ => ⟨S8192x32x64, .f32⟩
  | .hbm, ⟨116, _⟩ => ⟨S32x64x8192, .f32⟩
  | .hbm, ⟨117, _⟩ => ⟨S32x8192x16, .f32⟩
  | .hbm, ⟨118, _⟩ => ⟨S8192x32x16, .f32⟩
  | .hbm, ⟨119, _⟩ => ⟨S8192x32x16, .f32⟩
  | .hbm, ⟨120, _⟩ => ⟨S32x64x16, .f32⟩
  | .hbm, ⟨121, _⟩ => ⟨S32x64x8192, .f32⟩
  | .hbm, ⟨122, _⟩ => ⟨S32x8192x16, .f32⟩
  | .hbm, ⟨123, _⟩ => ⟨S8192x32x16, .f32⟩
  | .hbm, ⟨124, _⟩ => ⟨S8192x32x16, .f32⟩
  | .hbm, ⟨125, _⟩ => ⟨S32x64x16, .f32⟩
  | .hbm, ⟨126, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_3 : Ref sig .tc := ⟨.hbm, 87, rfl⟩
abbrev main_v67 : Ref sig .tc := ⟨.hbm, 88, rfl⟩
abbrev main_v68 : Ref sig .tc := ⟨.hbm, 89, rfl⟩
abbrev main_cst_4 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩

abbrev nD : Nat := 1
abbrev τ : Topo := Topo.v7x

variable {F : FTy → Type} [FloatOps F]
-- ==== LruKernel.lean ====
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S8191x512 : Shape := ⟨2, ![8191, 512]⟩
abbrev S2x512 : Shape := ⟨2, ![2, 512]⟩
abbrev S8190x512 : Shape := ⟨2, ![8190, 512]⟩
abbrev S3x512 : Shape := ⟨2, ![3, 512]⟩
abbrev S8189x512 : Shape := ⟨2, ![8189, 512]⟩
abbrev S8192x8x64 : Shape := ⟨3, ![8192, 8, 64]⟩
abbrev S8x64x8192 : Shape := ⟨3, ![8, 64, 8192]⟩
abbrev S8188x512 : Shape := ⟨2, ![8188, 512]⟩
abbrev S8x512 : Shape := ⟨2, ![8, 512]⟩
abbrev S8184x512 : Shape := ⟨2, ![8184, 512]⟩
abbrev S16x512 : Shape := ⟨2, ![16, 512]⟩
abbrev S8176x512 : Shape := ⟨2, ![8176, 512]⟩
abbrev S32x512 : Shape := ⟨2, ![32, 512]⟩
abbrev S8160x512 : Shape := ⟨2, ![8160, 512]⟩
abbrev S64x512 : Shape := ⟨2, ![64, 512]⟩
abbrev S8128x512 : Shape := ⟨2, ![8128, 512]⟩
abbrev S128x512 : Shape := ⟨2, ![128, 512]⟩
abbrev S8064x512 : Shape := ⟨2, ![8064, 512]⟩
abbrev S256x512 : Shape := ⟨2, ![256, 512]⟩
abbrev S7936x512 : Shape := ⟨2, ![7936, 512]⟩
abbrev S7680x512 : Shape := ⟨2, ![7680, 512]⟩
abbrev S1024x512 : Shape := ⟨2, ![1024, 512]⟩
abbrev S7168x512 : Shape := ⟨2, ![7168, 512]⟩
abbrev S2048x512 : Shape := ⟨2, ![2048, 512]⟩
abbrev S6144x512 : Shape := ⟨2, ![6144, 512]⟩
abbrev S4096x512 : Shape := ⟨2, ![4096, 512]⟩
abbrev S32x256x512 : Shape := ⟨3, ![32, 256, 512]⟩
abbrev S31x1x512 : Shape := ⟨3, ![31, 1, 512]⟩
abbrev S31x512 : Shape := ⟨2, ![31, 512]⟩
abbrev S32x1x512 : Shape := ⟨3, ![32, 1, 512]⟩
abbrev S8192x1024 : Shape := ⟨2, ![8192, 1024]⟩
abbrev S8192x5376 : Shape := ⟨2, ![8192, 5376]⟩
abbrev S31x8x512 : Shape := ⟨3, ![31, 8, 512]⟩
abbrev S1x8x512 : Shape := ⟨3, ![1, 8, 512]⟩
abbrev S32x8x512 : Shape := ⟨3, ![32, 8, 512]⟩
abbrev S8192x2048 : Shape := ⟨2, ![8192, 2048]⟩
abbrev S1x1x512 : Shape := ⟨3, ![1, 1, 512]⟩
abbrev S256x1024 : Shape := ⟨2, ![256, 1024]⟩
abbrev S248x512 : Shape := ⟨2, ![248, 512]⟩

abbrev nBuf : Space → Nat
  | .hbm => 334
  | .vmem => 28
  | .smem => 0
  | _ => 0

abbrev hbmTy0_0 (i : Nat) : BufTy := match i % 128 with
  | 0 => ⟨S8192x512, .f32⟩
  | 1 => ⟨S8192x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S8192x512, .f32⟩
  | 10 => ⟨S1x512, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S8x64x1x64, .f32⟩
  | 19 => ⟨S8x1x8x1, .f32⟩
  | 20 => ⟨S8x64x8x64, .f32⟩
  | 21 => ⟨S8x64x8x64, .f32⟩
  | 22 => ⟨S8x64x8x64, .f32⟩
  | 23 => ⟨S512x512, .f32⟩
  | 24 => ⟨S1x512, .f32⟩
  | 25 => ⟨S8x8, .i32⟩
  | 26 => ⟨S8x8, .i32⟩
  | 27 => ⟨S_, .i32⟩
  | 28 => ⟨S8x8, .i32⟩
  | 29 => ⟨S8x8, .i32⟩
  | 30 => ⟨S8x8, .i1⟩
  | 31 => ⟨S8x8, .f32⟩
  | 32 => ⟨S8x64x1x64, .f32⟩
  | 33 => ⟨S8x1x8x1, .f32⟩
  | 34 => ⟨S8x64x8x64, .f32⟩
  | 35 => ⟨S8x64x8x64, .f32⟩
  | 36 => ⟨S8x64x8x64, .f32⟩
  | 37 => ⟨S512x512, .f32⟩
  | 38 => ⟨S1x512, .f32⟩
  | 39 => ⟨S1x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S1x512, .f32⟩
  | 49 => ⟨S512, .f32⟩
  | 50 => ⟨S_, .f32⟩
  | 51 => ⟨S1x512, .f32⟩
  | 52 => ⟨S8191x512, .f32⟩
  | 53 => ⟨S8192x512, .f32⟩
  | 54 => ⟨S1x512, .f32⟩
  | 55 => ⟨S8192x512, .f32⟩
  | 56 => ⟨S8192x512, .f32⟩
  | 57 => ⟨S8192x512, .f32⟩
  | 58 => ⟨S1x512, .f32⟩
  | 59 => ⟨S512, .f32⟩
  | 60 => ⟨S_, .f32⟩
  | 61 => ⟨S2x512, .f32⟩
  | 62 => ⟨S8190x512, .f32⟩
  | 63 => ⟨S8192x512, .f32⟩
  | 64 => ⟨S1x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S_, .f32⟩
  | 71 => ⟨S3x512, .f32⟩
  | 72 => ⟨S8189x512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S8192x512, .f32⟩
  | 80 => ⟨S8192x512, .f32⟩
  | 81 => ⟨S8192x8x64, .f32⟩
  | 82 => ⟨S8x64x8192, .f32⟩
  | 83 => ⟨S8192x8x64, .f32⟩
  | 84 => ⟨S8192x512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8x64x8192, .f32⟩
  | 97 => ⟨S8192x8x64, .f32⟩
  | 98 => ⟨S8192x512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S512, .f32⟩
  | 114 => ⟨S_, .f32⟩
  | 115 => ⟨S512, .f32⟩
  | 116 => ⟨S512, .f32⟩
  | 117 => ⟨S512, .f32⟩
  | 118 => ⟨S512, .f32⟩
  | 119 => ⟨S512, .i1⟩
  | 120 => ⟨S512, .f32⟩
  | 121 => ⟨S512, .f32⟩
  | 122 => ⟨S512, .f32⟩
  | 123 => ⟨S512, .f32⟩
  | 124 => ⟨S512, .f32⟩
  | 125 => ⟨S512, .f32⟩
  | 126 => ⟨S512, .f32⟩
  | 127 => ⟨S512, .f32⟩
  | _ => ⟨S8192x512, .f32⟩

abbrev hbmTy0_1 (i : Nat) : BufTy := match i % 128 with
  | 0 => ⟨S1x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S1x512, .f32⟩
  | 14 => ⟨S8191x512, .f32⟩
  | 15 => ⟨S8192x512, .f32⟩
  | 16 => ⟨S8192x512, .f32⟩
  | 17 => ⟨S8192x512, .f32⟩
  | 18 => ⟨S_, .f32⟩
  | 19 => ⟨S1x512, .f32⟩
  | 20 => ⟨S8191x512, .f32⟩
  | 21 => ⟨S8192x512, .f32⟩
  | 22 => ⟨S8192x512, .f32⟩
  | 23 => ⟨S_, .f32⟩
  | 24 => ⟨S2x512, .f32⟩
  | 25 => ⟨S8190x512, .f32⟩
  | 26 => ⟨S8192x512, .f32⟩
  | 27 => ⟨S8192x512, .f32⟩
  | 28 => ⟨S8192x512, .f32⟩
  | 29 => ⟨S_, .f32⟩
  | 30 => ⟨S2x512, .f32⟩
  | 31 => ⟨S8190x512, .f32⟩
  | 32 => ⟨S8192x512, .f32⟩
  | 33 => ⟨S8192x512, .f32⟩
  | 34 => ⟨S_, .f32⟩
  | 35 => ⟨S4x512, .f32⟩
  | 36 => ⟨S8188x512, .f32⟩
  | 37 => ⟨S8192x512, .f32⟩
  | 38 => ⟨S8192x512, .f32⟩
  | 39 => ⟨S8192x512, .f32⟩
  | 40 => ⟨S_, .f32⟩
  | 41 => ⟨S4x512, .f32⟩
  | 42 => ⟨S8188x512, .f32⟩
  | 43 => ⟨S8192x512, .f32⟩
  | 44 => ⟨S8192x512, .f32⟩
  | 45 => ⟨S_, .f32⟩
  | 46 => ⟨S8x512, .f32⟩
  | 47 => ⟨S8184x512, .f32⟩
  | 48 => ⟨S8192x512, .f32⟩
  | 49 => ⟨S8192x512, .f32⟩
  | 50 => ⟨S8192x512, .f32⟩
  | 51 => ⟨S_, .f32⟩
  | 52 => ⟨S8x512, .f32⟩
  | 53 => ⟨S8184x512, .f32⟩
  | 54 => ⟨S8192x512, .f32⟩
  | 55 => ⟨S8192x512, .f32⟩
  | 56 => ⟨S_, .f32⟩
  | 57 => ⟨S16x512, .f32⟩
  | 58 => ⟨S8176x512, .f32⟩
  | 59 => ⟨S8192x512, .f32⟩
  | 60 => ⟨S8192x512, .f32⟩
  | 61 => ⟨S8192x512, .f32⟩
  | 62 => ⟨S_, .f32⟩
  | 63 => ⟨S16x512, .f32⟩
  | 64 => ⟨S8176x512, .f32⟩
  | 65 => ⟨S8192x512, .f32⟩
  | 66 => ⟨S8192x512, .f32⟩
  | 67 => ⟨S_, .f32⟩
  | 68 => ⟨S32x512, .f32⟩
  | 69 => ⟨S8160x512, .f32⟩
  | 70 => ⟨S8192x512, .f32⟩
  | 71 => ⟨S8192x512, .f32⟩
  | 72 => ⟨S8192x512, .f32⟩
  | 73 => ⟨S_, .f32⟩
  | 74 => ⟨S32x512, .f32⟩
  | 75 => ⟨S8160x512, .f32⟩
  | 76 => ⟨S8192x512, .f32⟩
  | 77 => ⟨S8192x512, .f32⟩
  | 78 => ⟨S_, .f32⟩
  | 79 => ⟨S64x512, .f32⟩
  | 80 => ⟨S8128x512, .f32⟩
  | 81 => ⟨S8192x512, .f32⟩
  | 82 => ⟨S8192x512, .f32⟩
  | 83 => ⟨S8192x512, .f32⟩
  | 84 => ⟨S_, .f32⟩
  | 85 => ⟨S64x512, .f32⟩
  | 86 => ⟨S8128x512, .f32⟩
  | 87 => ⟨S8192x512, .f32⟩
  | 88 => ⟨S8192x512, .f32⟩
  | 89 => ⟨S_, .f32⟩
  | 90 => ⟨S128x512, .f32⟩
  | 91 => ⟨S8064x512, .f32⟩
  | 92 => ⟨S8192x512, .f32⟩
  | 93 => ⟨S8192x512, .f32⟩
  | 94 => ⟨S8192x512, .f32⟩
  | 95 => ⟨S_, .f32⟩
  | 96 => ⟨S128x512, .f32⟩
  | 97 => ⟨S8064x512, .f32⟩
  | 98 => ⟨S8192x512, .f32⟩
  | 99 => ⟨S8192x512, .f32⟩
  | 100 => ⟨S_, .f32⟩
  | 101 => ⟨S256x512, .f32⟩
  | 102 => ⟨S7936x512, .f32⟩
  | 103 => ⟨S8192x512, .f32⟩
  | 104 => ⟨S8192x512, .f32⟩
  | 105 => ⟨S8192x512, .f32⟩
  | 106 => ⟨S_, .f32⟩
  | 107 => ⟨S256x512, .f32⟩
  | 108 => ⟨S7936x512, .f32⟩
  | 109 => ⟨S8192x512, .f32⟩
  | 110 => ⟨S8192x512, .f32⟩
  | 111 => ⟨S_, .f32⟩
  | 112 => ⟨S512x512, .f32⟩
  | 113 => ⟨S7680x512, .f32⟩
  | 114 => ⟨S8192x512, .f32⟩
  | 115 => ⟨S8192x512, .f32⟩
  | 116 => ⟨S8192x512, .f32⟩
  | 117 => ⟨S_, .f32⟩
  | 118 => ⟨S512x512, .f32⟩
  | 119 => ⟨S7680x512, .f32⟩
  | 120 => ⟨S8192x512, .f32⟩
  | 121 => ⟨S8192x512, .f32⟩
  | 122 => ⟨S_, .f32⟩
  | 123 => ⟨S1024x512, .f32⟩
  | 124 => ⟨S7168x512, .f32⟩
  | 125 => ⟨S8192x512, .f32⟩
  | 126 => ⟨S8192x512, .f32⟩
  | 127 => ⟨S8192x512, .f32⟩
  | _ => ⟨S8192x512, .f32⟩

abbrev hbmTy0_2 (i : Nat) : BufTy := match i % 128 with
  | 0 => ⟨S_, .f32⟩
  | 1 => ⟨S1024x512, .f32⟩
  | 2 => ⟨S7168x512, .f32⟩
  | 3 => ⟨S8192x512, .f32⟩
  | 4 => ⟨S8192x512, .f32⟩
  | 5 => ⟨S_, .f32⟩
  | 6 => ⟨S2048x512, .f32⟩
  | 7 => ⟨S6144x512, .f32⟩
  | 8 => ⟨S8192x512, .f32⟩
  | 9 => ⟨S8192x512, .f32⟩
  | 10 => ⟨S8192x512, .f32⟩
  | 11 => ⟨S_, .f32⟩
  | 12 => ⟨S2048x512, .f32⟩
  | 13 => ⟨S6144x512, .f32⟩
  | 14 => ⟨S8192x512, .f32⟩
  | 15 => ⟨S8192x512, .f32⟩
  | 16 => ⟨S_, .f32⟩
  | 17 => ⟨S4096x512, .f32⟩
  | 18 => ⟨S4096x512, .f32⟩
  | 19 => ⟨S8192x512, .f32⟩
  | 20 => ⟨S8192x512, .f32⟩
  | 21 => ⟨S8192x512, .f32⟩
  | 22 => ⟨S_, .f32⟩
  | 23 => ⟨S4096x512, .f32⟩
  | 24 => ⟨S4096x512, .f32⟩
  | 25 => ⟨S8192x512, .f32⟩
  | 26 => ⟨S8192x512, .f32⟩
  | 27 => ⟨S32x256x512, .f32⟩
  | 28 => ⟨S31x1x512, .f32⟩
  | 29 => ⟨S31x512, .f32⟩
  | 30 => ⟨S_, .f32⟩
  | 31 => ⟨S1x512, .f32⟩
  | 32 => ⟨S32x512, .f32⟩
  | 33 => ⟨S32x1x512, .f32⟩
  | 34 => ⟨S8192x1024, .f32⟩
  | 35 => ⟨S_, .i32⟩
  | 36 => ⟨S_, .f32⟩
  | 37 => ⟨S8192x5376, .f32⟩
  | 38 => ⟨S32x256x512, .f32⟩
  | 39 => ⟨S31x8x512, .f32⟩
  | 40 => ⟨S_, .f32⟩
  | 41 => ⟨S1x8x512, .f32⟩
  | 42 => ⟨S32x8x512, .f32⟩
  | 43 => ⟨S_, .i32⟩
  | 44 => ⟨S_, .f32⟩
  | 45 => ⟨S8192x2048, .f32⟩
  | 46 => ⟨S_, .f32⟩
  | 47 => ⟨S8192x5376, .f32⟩
  | 48 => ⟨S8192x5376, .f32⟩
  | 49 => ⟨S4x512, .f32⟩
  | 50 => ⟨S1x512, .f32⟩
  | 51 => ⟨S512x512, .f32⟩
  | 52 => ⟨S1x512, .f32⟩
  | 53 => ⟨S512x512, .f32⟩
  | 54 => ⟨S1x512, .f32⟩
  | 55 => ⟨S1x512, .f32⟩
  | 56 => ⟨S8192x512, .f32⟩
  | 57 => ⟨S8192x512, .f32⟩
  | 58 => ⟨S512, .f32⟩
  | 59 => ⟨S512, .f32⟩
  | 60 => ⟨S8x64x8x64, .f32⟩
  | 61 => ⟨S8x64x8x64, .f32⟩
  | 62 => ⟨S8x64x8x64, .f32⟩
  | 63 => ⟨S_, .f32⟩
  | 64 => ⟨S8x64x64, .f32⟩
  | 65 => ⟨S8x64x1x64, .f32⟩
  | 66 => ⟨S_, .f32⟩
  | 67 => ⟨S8x64x64, .f32⟩
  | 68 => ⟨S512, .f32⟩
  | 69 => ⟨S8x64x8x64, .f32⟩
  | 70 => ⟨S8x64x8x64, .f32⟩
  | 71 => ⟨S8x64x8x64, .f32⟩
  | 72 => ⟨S_, .f32⟩
  | 73 => ⟨S8x64x64, .f32⟩
  | 74 => ⟨S8x64x1x64, .f32⟩
  | 75 => ⟨S_, .f32⟩
  | 76 => ⟨S8x64x64, .f32⟩
  | 77 => ⟨S512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S4x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S1x1x512, .f32⟩
  | .local _ .vmem, ⟨14, _⟩ => ⟨S1x1x512, .f32⟩
  | .local _ .vmem, ⟨15, _⟩ => ⟨S1x8x512, .f32⟩
  | .local _ .vmem, ⟨16, _⟩ => ⟨S1x8x512, .f32⟩
  | .local _ .vmem, ⟨17, _⟩ => ⟨S256x1024, .f32⟩
  | .local _ .vmem, ⟨18, _⟩ => ⟨S256x1024, .f32⟩
  | .local _ .vmem, ⟨19, _⟩ => ⟨S4x512, .f32⟩
  | .local _ .vmem, ⟨20, _⟩ => ⟨S1x512, .f32⟩
  | .local _ .vmem, ⟨21, _⟩ => ⟨S512x512, .f32⟩
  | .local _ .vmem, ⟨22, _⟩ => ⟨S1x512, .f32⟩
  | .local _ .vmem, ⟨23, _⟩ => ⟨S512x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_4 : Ref sig .tc := ⟨.hbm, 90, rfl⟩
abbrev main_v74 : Ref sig .tc := ⟨.hbm, 91, rfl⟩
abbrev main_v75 : Ref sig .tc := ⟨.hbm, 92, rfl⟩
abbrev main_cst_5 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_6 : Ref sig .tc := ⟨.hbm, 104, rfl⟩
abbrev main_v86 : Ref sig .tc := ⟨.hbm, 105, rfl⟩
abbrev main_v87 : Ref sig .tc := ⟨.hbm, 106, rfl⟩
abbrev main_cst_7 : Ref sig .tc := ⟨.hbm, 107, rfl⟩
abbrev main_v88 : Ref sig .tc := ⟨.hbm, 108, rfl⟩
abbrev main_v89 : Ref sig .tc := ⟨.hbm, 109, rfl⟩
abbrev main_cst_8 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_call0_cst : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_v5 : Ref sig .tc := ⟨.hbm, 120, rfl⟩
abbrev main_call0_v6 : Ref sig .tc := ⟨.hbm, 121, rfl⟩
abbrev main_call0_v7 : Ref sig .tc := ⟨.hbm, 122, rfl⟩
abbrev main_call0_v8 : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_9 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_10 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_11 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_12 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_13 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_14 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_15 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_16 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_17 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_18 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_19 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_20 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_21 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_22 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_23 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_24 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_25 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_26 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_27 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_28 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_cst_29 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_30 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_cst_31 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_32 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_33 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_cst_34 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_cst_35 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_cst_36 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_c_37 : Ref sig .tc := ⟨.hbm, 291, rfl⟩
abbrev main_call1_v0 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_cst_38 : Ref sig .tc := ⟨.hbm, 296, rfl⟩
abbrev main_v232 : Ref sig .tc := ⟨.hbm, 297, rfl⟩
abbrev main_v233 : Ref sig .tc := ⟨.hbm, 298, rfl⟩
abbrev main_c_39 : Ref sig .tc := ⟨.hbm, 299, rfl⟩
abbrev main_call2_v0 : Ref sig .tc := ⟨.hbm, 300, rfl⟩
abbrev main_v234 : Ref sig .tc := ⟨.hbm, 301, rfl⟩
abbrev main_cst_40 : Ref sig .tc := ⟨.hbm, 302, rfl⟩
abbrev main_v235 : Ref sig .tc := ⟨.hbm, 303, rfl⟩
abbrev main_v236_0 : Ref sig .tc := ⟨.hbm, 304, rfl⟩
abbrev main_v236_1 : Ref sig .tc := ⟨.hbm, 305, rfl⟩
abbrev main_v236_2 : Ref sig .tc := ⟨.hbm, 306, rfl⟩
abbrev main_v236_3 : Ref sig .tc := ⟨.hbm, 307, rfl⟩
abbrev main_v236_4 : Ref sig .tc := ⟨.hbm, 308, rfl⟩
abbrev main_v236_5 : Ref sig .tc := ⟨.hbm, 309, rfl⟩
abbrev main_v236_6 : Ref sig .tc := ⟨.hbm, 310, rfl⟩
abbrev main_v236_7 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_cst_41 : Ref sig .tc := ⟨.hbm, 319, rfl⟩
abbrev main_v244 : Ref sig .tc := ⟨.hbm, 320, rfl⟩
abbrev main_v245 : Ref sig .tc := ⟨.hbm, 321, rfl⟩
abbrev main_cst_42 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_cst_43 : Ref sig .tc := ⟨.hbm, 328, rfl⟩
abbrev main_v251 : Ref sig .tc := ⟨.hbm, 329, rfl⟩
abbrev main_v252 : Ref sig .tc := ⟨.hbm, 330, rfl⟩
abbrev main_cst_44 : Ref sig .tc := ⟨.hbm, 331, rfl⟩
abbrev main_v253 : Ref sig .tc := ⟨.hbm, 332, rfl⟩
abbrev main_v254 : Ref sig .tc := ⟨.hbm, 333, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_220 : BitVec 32 := 0#32
  let v680 : BitVec 1 := Scalar.cmpi .eq arg0 c0_i32_220
  let v681 : BitVec 32 := Scalar.extui v680
  let c0_i32_221 : BitVec 32 := 0#32
  let v682 : BitVec 1 := Scalar.cmpi .ne v681 c0_i32_221
  v682

def k0_cond3 (i : grid0.Coords) : BitVec 1 :=
  let arg0 : BitVec 32 := BitVec.ofNat 32 (i 0).val
  let c0_i32_220 : BitVec 32 := 0#32
  let v680 : BitVec 1 := Scalar.cmpi .eq arg0 c0_i32_220
  let v_true : BitVec 1 := 1#1
  let v683 : BitVec 1 := Scalar.xori v680 v_true
  let v684 : BitVec 32 := Scalar.extui v683
  let c0_i32_222 : BitVec 32 := 0#32
  let v685 : BitVec 1 := Scalar.cmpi .ne v684 c0_i32_222
  v685

def k0_cond4 (i : grid0.Coords) : BitVec 1 :=
  let arg0 : BitVec 32 := BitVec.ofNat 32 (i 0).val
  let c0_i32_223 : BitVec 32 := 0#32
  let v686 : BitVec 1 := Scalar.cmpi .eq arg0 c0_i32_223
  let v687 : BitVec 32 := Scalar.extui v686
  let c0_i32_224 : BitVec 32 := 0#32
  let v688 : BitVec 1 := Scalar.cmpi .ne v687 c0_i32_224
  v688

def k0_cond5 (i : grid0.Coords) : BitVec 1 :=
  let arg0 : BitVec 32 := BitVec.ofNat 32 (i 0).val
  let c0_i32_223 : BitVec 32 := 0#32
  let v686 : BitVec 1 := Scalar.cmpi .eq arg0 c0_i32_223
  let true_225 : BitVec 1 := 1#1
  let v689 : BitVec 1 := Scalar.xori v686 true_225
  let v690 : BitVec 32 := Scalar.extui v689
  let c0_i32_226 : BitVec 32 := 0#32
  let v691 : BitVec 1 := Scalar.cmpi .ne v690 c0_i32_226
  v691

def k0_cond6 (i : grid0.Coords) : BitVec 1 :=
  let arg0 : BitVec 32 := BitVec.ofNat 32 (i 0).val
  let c0_i32_227 : BitVec 32 := 0#32
  let v692 : BitVec 1 := Scalar.cmpi .eq arg0 c0_i32_227
  let v693 : BitVec 32 := Scalar.extui v692
  let c0_i32_228 : BitVec 32 := 0#32
  let v694 : BitVec 1 := Scalar.cmpi .ne v693 c0_i32_228
  v694

def k0_cond7 (i : grid0.Coords) : BitVec 1 :=
  let arg0 : BitVec 32 := BitVec.ofNat 32 (i 0).val
  let c0_i32_227 : BitVec 32 := 0#32
  let v692 : BitVec 1 := Scalar.cmpi .eq arg0 c0_i32_227
  let true_229 : BitVec 1 := 1#1
  let v695 : BitVec 1 := Scalar.xori v692 true_229
  let v696 : BitVec 32 := Scalar.extui v695
  let c0_i32_230 : BitVec 32 := 0#32
  let v697 : BitVec 1 := Scalar.cmpi .ne v696 c0_i32_230
  v697

def k0_cond8 (i : grid0.Coords) : BitVec 1 :=
  let arg0 : BitVec 32 := BitVec.ofNat 32 (i 0).val
  let c0_i32_231 : BitVec 32 := 0#32
  let v698 : BitVec 1 := Scalar.cmpi .eq arg0 c0_i32_231
  let v699 : BitVec 32 := Scalar.extui v698
  let c0_i32_232 : BitVec 32 := 0#32
  let v700 : BitVec 1 := Scalar.cmpi .ne v699 c0_i32_232
  v700

def k0_cond9 (i : grid0.Coords) : BitVec 1 :=
  let arg0 : BitVec 32 := BitVec.ofNat 32 (i 0).val
  let c0_i32_231 : BitVec 32 := 0#32
  let v698 : BitVec 1 := Scalar.cmpi .eq arg0 c0_i32_231
  let true_233 : BitVec 1 := 1#1
  let v701 : BitVec 1 := Scalar.xori v698 true_233
  let v702 : BitVec 32 := Scalar.extui v701
  let c0_i32_234 : BitVec 32 := 0#32
  let v703 : BitVec 1 := Scalar.cmpi .ne v702 c0_i32_234
  v703

def k0_cond10 (i : grid0.Coords) : BitVec 1 :=
  let arg0 : BitVec 32 := BitVec.ofNat 32 (i 0).val
  let c0_i32_235 : BitVec 32 := 0#32
  let v704 : BitVec 1 := Scalar.cmpi .eq arg0 c0_i32_235
  let v705 : BitVec 32 := Scalar.extui v704
  let c0_i32_236 : BitVec 32 := 0#32
  let v706 : BitVec 1 := Scalar.cmpi .ne v705 c0_i32_236
  v706

def k0_cond11 (i : grid0.Coords) : BitVec 1 :=
  let arg0 : BitVec 32 := BitVec.ofNat 32 (i 0).val
  let c0_i32_235 : BitVec 32 := 0#32
  let v704 : BitVec 1 := Scalar.cmpi .eq arg0 c0_i32_235
  let true_237 : BitVec 1 := 1#1
  let v707 : BitVec 1 := Scalar.xori v704 true_237
  let v708 : BitVec 32 := Scalar.extui v707
  let c0_i32_238 : BitVec 32 := 0#32
  let v709 : BitVec 1 := Scalar.cmpi .ne v708 c0_i32_238
  v709

def k0_cond12 (i : grid0.Coords) : BitVec 1 :=
  let arg0 : BitVec 32 := BitVec.ofNat 32 (i 0).val
  let c0_i32_239 : BitVec 32 := 0#32
  let v710 : BitVec 1 := Scalar.cmpi .eq arg0 c0_i32_239
  let v711 : BitVec 32 := Scalar.extui v710
  let c0_i32_240 : BitVec 32 := 0#32
  let v712 : BitVec 1 := Scalar.cmpi .ne v711 c0_i32_240
  v712

def k0_cond13 (i : grid0.Coords) : BitVec 1 :=
  let arg0 : BitVec 32 := BitVec.ofNat 32 (i 0).val
  let c0_i32_239 : BitVec 32 := 0#32
  let v710 : BitVec 1 := Scalar.cmpi .eq arg0 c0_i32_239
  let true_241 : BitVec 1 := 1#1
  let v713 : BitVec 1 := Scalar.xori v710 true_241
  let v714 : BitVec 32 := Scalar.extui v713
  let c0_i32_242 : BitVec 32 := 0#32
  let v715 : BitVec 1 := Scalar.cmpi .ne v714 c0_i32_242
  v715

def k0_cond14 (i : grid0.Coords) : BitVec 1 :=
  let arg0 : BitVec 32 := BitVec.ofNat 32 (i 0).val
  let c0_i32_243 : BitVec 32 := 0#32
  let v716 : BitVec 1 := Scalar.cmpi .eq arg0 c0_i32_243
  let v717 : BitVec 32 := Scalar.extui v716
  let c0_i32_244 : BitVec 32 := 0#32
  let v718 : BitVec 1 := Scalar.cmpi .ne v717 c0_i32_244
  v718

def k0_cond15 (i : grid0.Coords) : BitVec 1 :=
  let arg0 : BitVec 32 := BitVec.ofNat 32 (i 0).val
  let c0_i32_243 : BitVec 32 := 0#32
  let v716 : BitVec 1 := Scalar.cmpi .eq arg0 c0_i32_243
  let true_245 : BitVec 1 := 1#1
  let v719 : BitVec 1 := Scalar.xori v716 true_245
  let v720 : BitVec 32 := Scalar.extui v719
  let c0_i32_246 : BitVec 32 := 0#32
  let v721 : BitVec 1 := Scalar.cmpi .ne v720 c0_i32_246
  v721

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== LruReferenceIdeal.lean ====
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S_ : Shape := ⟨0, ![]⟩
abbrev S8191x512 : Shape := ⟨2, ![8191, 512]⟩
abbrev S2x512 : Shape := ⟨2, ![2, 512]⟩
abbrev S8190x512 : Shape := ⟨2, ![8190, 512]⟩
abbrev S3x512 : Shape := ⟨2, ![3, 512]⟩
abbrev S8189x512 : Shape := ⟨2, ![8189, 512]⟩
abbrev S8192x8x64 : Shape := ⟨3, ![8192, 8, 64]⟩
abbrev S8x64x8192 : Shape := ⟨3, ![8, 64, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S1x8192x512 : Shape := ⟨3, ![1, 8192, 512]⟩
abbrev S8192x8192x512 : Shape := ⟨3, ![8192, 8192, 512]⟩
abbrev S8192x1x512 : Shape := ⟨3, ![8192, 1, 512]⟩
abbrev S8x8192x64 : Shape := ⟨3, ![8, 8192, 64]⟩

abbrev nBuf : Space → Nat
  | .hbm => 403
  | .vmem => 0
  | .smem => 0
  | _ => 0

abbrev hbmTy0_0 (i : Nat) : BufTy := match i % 128 with
  | 0 => ⟨S8192x512, .f32⟩
  | 1 => ⟨S8192x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S1x512, .f32⟩
  | 19 => ⟨S512, .f32⟩
  | 20 => ⟨S_, .f32⟩
  | 21 => ⟨S1x512, .f32⟩
  | 22 => ⟨S8191x512, .f32⟩
  | 23 => ⟨S8192x512, .f32⟩
  | 24 => ⟨S_, .f32⟩
  | 25 => ⟨S1x512, .f32⟩
  | 26 => ⟨S1x512, .f32⟩
  | 27 => ⟨S8192x512, .f32⟩
  | 28 => ⟨S8192x512, .f32⟩
  | 29 => ⟨S8192x512, .f32⟩
  | 30 => ⟨S1x512, .f32⟩
  | 31 => ⟨S512, .f32⟩
  | 32 => ⟨S_, .f32⟩
  | 33 => ⟨S2x512, .f32⟩
  | 34 => ⟨S8190x512, .f32⟩
  | 35 => ⟨S8192x512, .f32⟩
  | 36 => ⟨S_, .f32⟩
  | 37 => ⟨S2x512, .f32⟩
  | 38 => ⟨S1x512, .f32⟩
  | 39 => ⟨S8192x512, .f32⟩
  | 40 => ⟨S8192x512, .f32⟩
  | 41 => ⟨S8192x512, .f32⟩
  | 42 => ⟨S1x512, .f32⟩
  | 43 => ⟨S512, .f32⟩
  | 44 => ⟨S_, .f32⟩
  | 45 => ⟨S3x512, .f32⟩
  | 46 => ⟨S8189x512, .f32⟩
  | 47 => ⟨S8192x512, .f32⟩
  | 48 => ⟨S_, .f32⟩
  | 49 => ⟨S3x512, .f32⟩
  | 50 => ⟨S1x512, .f32⟩
  | 51 => ⟨S8192x512, .f32⟩
  | 52 => ⟨S8192x512, .f32⟩
  | 53 => ⟨S8192x512, .f32⟩
  | 54 => ⟨S1x512, .f32⟩
  | 55 => ⟨S8192x512, .f32⟩
  | 56 => ⟨S8192x512, .f32⟩
  | 57 => ⟨S8192x8x64, .f32⟩
  | 58 => ⟨S8x64x8192, .f32⟩
  | 59 => ⟨S8192x8x64, .f32⟩
  | 60 => ⟨S8192x512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S8192x512, .f32⟩
  | 76 => ⟨S8x64x8192, .f32⟩
  | 77 => ⟨S8192x8x64, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S512, .f32⟩
  | 98 => ⟨S_, .f32⟩
  | 99 => ⟨S512, .f32⟩
  | 100 => ⟨S512, .f32⟩
  | 101 => ⟨S512, .f32⟩
  | 102 => ⟨S512, .f32⟩
  | 103 => ⟨S512, .i1⟩
  | 104 => ⟨S512, .f32⟩
  | 105 => ⟨S512, .f32⟩
  | 106 => ⟨S512, .f32⟩
  | 107 => ⟨S512, .f32⟩
  | 108 => ⟨S512, .f32⟩
  | 109 => ⟨S512, .f32⟩
  | 110 => ⟨S512, .f32⟩
  | 111 => ⟨S512, .f32⟩
  | 112 => ⟨S_, .f32⟩
  | 113 => ⟨S512, .f32⟩
  | 114 => ⟨S512, .i1⟩
  | 115 => ⟨S_, .f32⟩
  | 116 => ⟨S512, .f32⟩
  | 117 => ⟨S512, .f32⟩
  | 118 => ⟨S_, .f32⟩
  | 119 => ⟨S512, .f32⟩
  | 120 => ⟨S512, .i1⟩
  | 121 => ⟨S_, .f32⟩
  | 122 => ⟨S512, .f32⟩
  | 123 => ⟨S512, .f32⟩
  | 124 => ⟨S512, .f32⟩
  | 125 => ⟨S512, .f32⟩
  | 126 => ⟨S_, .f32⟩
  | 127 => ⟨S_, .f32⟩
  | _ => ⟨S8192x512, .f32⟩

abbrev hbmTy0_1 (i : Nat) : BufTy := match i % 128 with
  | 0 => ⟨S_, .i1⟩
  | 1 => ⟨S_, .f32⟩
  | 2 => ⟨S_, .f32⟩
  | 3 => ⟨S_, .f32⟩
  | 4 => ⟨S_, .f32⟩
  | 5 => ⟨S512, .f32⟩
  | 6 => ⟨S512, .i1⟩
  | 7 => ⟨S_, .f32⟩
  | 8 => ⟨S512, .f32⟩
  | 9 => ⟨S512, .f32⟩
  | 10 => ⟨S512, .f32⟩
  | 11 => ⟨S512, .f32⟩
  | 12 => ⟨S512, .f32⟩
  | 13 => ⟨S_, .f32⟩
  | 14 => ⟨S512, .f32⟩
  | 15 => ⟨S512, .f32⟩
  | 16 => ⟨S1x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S8192, .i32⟩
  | 32 => ⟨S8192x1, .i32⟩
  | 33 => ⟨S1x8192, .i32⟩
  | 34 => ⟨S8192x8192, .i32⟩
  | 35 => ⟨S8192x8192, .i32⟩
  | 36 => ⟨S8192x8192, .i1⟩
  | 37 => ⟨S8192x8192x1, .i1⟩
  | 38 => ⟨S1x8192x512, .f32⟩
  | 39 => ⟨S_, .f32⟩
  | 40 => ⟨S_, .f32⟩
  | 41 => ⟨S8192x8192x512, .i1⟩
  | 42 => ⟨S8192x8192x512, .f32⟩
  | 43 => ⟨S8192x8192x512, .f32⟩
  | 44 => ⟨S8192x8192x512, .f32⟩
  | 45 => ⟨S_, .f32⟩
  | 46 => ⟨S8192x8192x512, .f32⟩
  | 47 => ⟨S_, .f32⟩
  | 48 => ⟨S8192x512, .f32⟩
  | 49 => ⟨S8192x1x512, .f32⟩
  | 50 => ⟨S1x8192x512, .f32⟩
  | 51 => ⟨S8192x8192x512, .f32⟩
  | 52 => ⟨S8192x8192x512, .f32⟩
  | 53 => ⟨S8192x8192x512, .f32⟩
  | 54 => ⟨S_, .f32⟩
  | 55 => ⟨S_, .f32⟩
  | 56 => ⟨S8192x8192x512, .i1⟩
  | 57 => ⟨S8192x8192x512, .f32⟩
  | 58 => ⟨S8192x8192x512, .f32⟩
  | 59 => ⟨S_, .f32⟩
  | 60 => ⟨S8192x8192x512, .f32⟩
  | 61 => ⟨S8192x8192x512, .f32⟩
  | 62 => ⟨S_, .f32⟩
  | 63 => ⟨S_, .f32⟩
  | 64 => ⟨S8192x8192x512, .i1⟩
  | 65 => ⟨S8192x8192x512, .f32⟩
  | 66 => ⟨S8192x8192x512, .f32⟩
  | 67 => ⟨S_, .f32⟩
  | 68 => ⟨S8192x8192x512, .f32⟩
  | 69 => ⟨S1x8192x512, .f32⟩
  | 70 => ⟨S8192x8192x512, .f32⟩
  | 71 => ⟨S8192x8192x512, .f32⟩
  | 72 => ⟨S_, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S_, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S8192x512, .f32⟩
  | 115 => ⟨S_, .f32⟩
  | 116 => ⟨S8192x512, .f32⟩
  | 117 => ⟨S8192x512, .f32⟩
  | 118 => ⟨S8192x512, .f32⟩
  | 119 => ⟨S8192x512, .f32⟩
  | 120 => ⟨S8192x8192x512, .f32⟩
  | 121 => ⟨S8192x8192x512, .f32⟩
  | 122 => ⟨S_, .f32⟩
  | 123 => ⟨S8192x512, .f32⟩
  | 124 => ⟨S1x8192x512, .f32⟩
  | 125 => ⟨S8192x8192x512, .f32⟩
  | 126 => ⟨S8192x8192x512, .f32⟩
  | 127 => ⟨S_, .f32⟩
  | _ => ⟨S8192x512, .f32⟩

abbrev hbmTy0_2 (i : Nat) : BufTy := match i % 128 with
  | 0 => ⟨S8192x512, .f32⟩
  | 1 => ⟨S_, .f32⟩
  | 2 => ⟨S8192x8192x512, .f32⟩
  | 3 => ⟨S8192x8192x512, .f32⟩
  | 4 => ⟨S8192x8192x512, .f32⟩
  | 5 => ⟨S_, .f32⟩
  | 6 => ⟨S8192x8192x512, .f32⟩
  | 7 => ⟨S8192x8192x512, .f32⟩
  | 8 => ⟨S_, .f32⟩
  | 9 => ⟨S8192x512, .f32⟩
  | 10 => ⟨S8192x1x512, .f32⟩
  | 11 => ⟨S8192x8192x512, .f32⟩
  | 12 => ⟨S_, .f32⟩
  | 13 => ⟨S8192x512, .f32⟩
  | 14 => ⟨S1x8192x512, .f32⟩
  | 15 => ⟨S_, .f32⟩
  | 16 => ⟨S8192x512, .f32⟩
  | 17 => ⟨S_, .f32⟩
  | 18 => ⟨S8192x512, .f32⟩
  | 19 => ⟨S8192x512, .f32⟩
  | 20 => ⟨S8192x8192x512, .f32⟩
  | 21 => ⟨S_, .f32⟩
  | 22 => ⟨S8192x8192x512, .f32⟩
  | 23 => ⟨S8192x8192x512, .f32⟩
  | 24 => ⟨S_, .f32⟩
  | 25 => ⟨S8192x512, .f32⟩
  | 26 => ⟨S1x8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S8192x512, .f32⟩
  | 41 => ⟨S_, .f32⟩
  | 42 => ⟨S512, .f32⟩
  | 43 => ⟨S1x512, .f32⟩
  | 44 => ⟨S8192x512, .f32⟩
  | 45 => ⟨S8192x512, .f32⟩
  | 46 => ⟨S_, .f32⟩
  | 47 => ⟨S512, .f32⟩
  | 48 => ⟨S512, .f32⟩
  | 49 => ⟨S512, .f32⟩
  | 50 => ⟨S_, .f32⟩
  | 51 => ⟨S8192x512, .f32⟩
  | 52 => ⟨S8192x512, .f32⟩
  | 53 => ⟨S8192x512, .f32⟩
  | 54 => ⟨S_, .f32⟩
  | 55 => ⟨S512, .f32⟩
  | 56 => ⟨S1x512, .f32⟩
  | 57 => ⟨S_, .f32⟩
  | 58 => ⟨S512, .f32⟩
  | 59 => ⟨S8192x8x64, .f32⟩
  | 60 => ⟨S8x64x8192, .f32⟩
  | 61 => ⟨S8x8192x64, .f32⟩
  | 62 => ⟨S8192x8x64, .f32⟩
  | 63 => ⟨S8x64x64, .f32⟩
  | 64 => ⟨S8x64x64, .f32⟩
  | 65 => ⟨S8192x512, .f32⟩
  | 66 => ⟨S_, .f32⟩
  | 67 => ⟨S512, .f32⟩
  | 68 => ⟨S1x512, .f32⟩
  | 69 => ⟨S_, .f32⟩
  | 70 => ⟨S512, .f32⟩
  | 71 => ⟨S8192x8x64, .f32⟩
  | 72 => ⟨S8x64x8192, .f32⟩
  | 73 => ⟨S8x8192x64, .f32⟩
  | 74 => ⟨S8192x8x64, .f32⟩
  | 75 => ⟨S8192x8x64, .f32⟩
  | 76 => ⟨S8x64x64, .f32⟩
  | 77 => ⟨S8x64x64, .f32⟩
  | 78 => ⟨S8192x512, .f32⟩
  | 79 => ⟨S8192x512, .f32⟩
  | 80 => ⟨S_, .f32⟩
  | 81 => ⟨S512, .f32⟩
  | 82 => ⟨S1x512, .f32⟩
  | 83 => ⟨S_, .f32⟩
  | 84 => ⟨S512, .f32⟩
  | 85 => ⟨S8192x512, .f32⟩
  | 86 => ⟨S8192x512, .f32⟩
  | 87 => ⟨S8192x512, .f32⟩
  | 88 => ⟨S_, .f32⟩
  | 89 => ⟨S512, .f32⟩
  | 90 => ⟨S1x512, .f32⟩
  | 91 => ⟨S_, .f32⟩
  | 92 => ⟨S512, .f32⟩
  | 93 => ⟨S3x512, .f32⟩
  | 94 => ⟨S8189x512, .f32⟩
  | 95 => ⟨S_, .f32⟩
  | 96 => ⟨S8192x512, .f32⟩
  | 97 => ⟨S1x512, .f32⟩
  | 98 => ⟨S_, .f32⟩
  | 99 => ⟨S4x512, .f32⟩
  | 100 => ⟨S8192x512, .f32⟩
  | 101 => ⟨S8192x512, .f32⟩
  | 102 => ⟨S8192x512, .f32⟩
  | 103 => ⟨S_, .f32⟩
  | 104 => ⟨S512, .f32⟩
  | 105 => ⟨S1x512, .f32⟩
  | 106 => ⟨S_, .f32⟩
  | 107 => ⟨S512, .f32⟩
  | 108 => ⟨S2x512, .f32⟩
  | 109 => ⟨S8190x512, .f32⟩
  | 110 => ⟨S_, .f32⟩
  | 111 => ⟨S8192x512, .f32⟩
  | 112 => ⟨S8192x512, .f32⟩
  | 113 => ⟨S1x512, .f32⟩
  | 114 => ⟨S_, .f32⟩
  | 115 => ⟨S4x512, .f32⟩
  | 116 => ⟨S4x512, .f32⟩
  | 117 => ⟨S8192x512, .f32⟩
  | 118 => ⟨S8192x512, .f32⟩
  | 119 => ⟨S8192x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S8191x512, .f32⟩
  | 127 => ⟨S_, .f32⟩
  | _ => ⟨S8192x512, .f32⟩

abbrev hbmTy0_3 (i : Nat) : BufTy := match i % 128 with
  | 0 => ⟨S8192x512, .f32⟩
  | 1 => ⟨S8192x512, .f32⟩
  | 2 => ⟨S1x512, .f32⟩
  | 3 => ⟨S_, .f32⟩
  | 4 => ⟨S4x512, .f32⟩
  | 5 => ⟨S4x512, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S512, .f32⟩
  | 12 => ⟨S1x512, .f32⟩
  | 13 => ⟨S_, .f32⟩
  | 14 => ⟨S512, .f32⟩
  | 15 => ⟨S1x512, .f32⟩
  | 16 => ⟨S_, .f32⟩
  | 17 => ⟨S4x512, .f32⟩
  | 18 => ⟨S4x512, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_v74_0 : Ref sig .tc := ⟨.hbm, 111, rfl⟩
abbrev main_call0_cst_0 : Ref sig .tc := ⟨.hbm, 112, rfl⟩
abbrev main_call0_v13 : Ref sig .tc := ⟨.hbm, 113, rfl⟩
abbrev main_call0_v14 : Ref sig .tc := ⟨.hbm, 114, rfl⟩
abbrev main_call0_cst_1 : Ref sig .tc := ⟨.hbm, 115, rfl⟩
abbrev main_call0_v15 : Ref sig .tc := ⟨.hbm, 116, rfl⟩
abbrev main_call0_v16 : Ref sig .tc := ⟨.hbm, 117, rfl⟩
abbrev main_call0_cst_2 : Ref sig .tc := ⟨.hbm, 118, rfl⟩
abbrev main_call0_v17 : Ref sig .tc := ⟨.hbm, 119, rfl⟩
abbrev main_call0_v18 : Ref sig .tc := ⟨.hbm, 120, rfl⟩
abbrev main_call0_cst_3 : Ref sig .tc := ⟨.hbm, 121, rfl⟩
abbrev main_call0_v19 : Ref sig .tc := ⟨.hbm, 122, rfl⟩
abbrev main_call0_v20 : Ref sig .tc := ⟨.hbm, 123, rfl⟩
abbrev main_call0_v21 : Ref sig .tc := ⟨.hbm, 124, rfl⟩
abbrev main_v74_1 : Ref sig .tc := ⟨.hbm, 125, rfl⟩
abbrev main_call0_cst_4 : Ref sig .tc := ⟨.hbm, 126, rfl⟩
abbrev main_call0_cst_5 : Ref sig .tc := ⟨.hbm, 127, rfl⟩
abbrev main_call0_v23 : Ref sig .tc := ⟨.hbm, 128, rfl⟩
abbrev main_call0_cst_6 : Ref sig .tc := ⟨.hbm, 129, rfl⟩
abbrev main_call0_cst_7 : Ref sig .tc := ⟨.hbm, 130, rfl⟩
abbrev main_call0_v24 : Ref sig .tc := ⟨.hbm, 131, rfl⟩
abbrev main_call0_cst_8 : Ref sig .tc := ⟨.hbm, 132, rfl⟩
abbrev main_call0_v25 : Ref sig .tc := ⟨.hbm, 133, rfl⟩
abbrev main_call0_v26 : Ref sig .tc := ⟨.hbm, 134, rfl⟩
abbrev main_call0_cst_9 : Ref sig .tc := ⟨.hbm, 135, rfl⟩
abbrev main_call0_v27 : Ref sig .tc := ⟨.hbm, 136, rfl⟩
abbrev main_call0_v28 : Ref sig .tc := ⟨.hbm, 137, rfl⟩
abbrev main_call0_v29 : Ref sig .tc := ⟨.hbm, 138, rfl⟩
abbrev main_call0_v30 : Ref sig .tc := ⟨.hbm, 139, rfl⟩
abbrev main_call0_v31 : Ref sig .tc := ⟨.hbm, 140, rfl⟩
abbrev main_call0_cst_10 : Ref sig .tc := ⟨.hbm, 141, rfl⟩
abbrev main_call0_v32 : Ref sig .tc := ⟨.hbm, 142, rfl⟩
abbrev main_v74_2 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_cst_13 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_14 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_cst_15 : Ref sig .tc := ⟨.hbm, 167, rfl⟩
abbrev main_call1_v0 : Ref sig .tc := ⟨.hbm, 168, rfl⟩
abbrev main_v96_1 : Ref sig .tc := ⟨.hbm, 169, rfl⟩
abbrev main_call1_v2 : Ref sig .tc := ⟨.hbm, 170, rfl⟩
abbrev main_call1_v3 : Ref sig .tc := ⟨.hbm, 171, rfl⟩
abbrev main_v96_0 : Ref sig .tc := ⟨.hbm, 172, rfl⟩
abbrev main_call1_cst : Ref sig .tc := ⟨.hbm, 173, rfl⟩
abbrev main_v96_2 : Ref sig .tc := ⟨.hbm, 174, rfl⟩
abbrev main_cst_16 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_cst_17 : Ref sig .tc := ⟨.hbm, 182, rfl⟩
abbrev main_call2_v0 : Ref sig .tc := ⟨.hbm, 183, rfl⟩
abbrev main_v103_1 : Ref sig .tc := ⟨.hbm, 184, rfl⟩
abbrev main_call2_v2 : Ref sig .tc := ⟨.hbm, 185, rfl⟩
abbrev main_v103_0 : Ref sig .tc := ⟨.hbm, 186, rfl⟩
abbrev main_call2_cst : Ref sig .tc := ⟨.hbm, 187, rfl⟩
abbrev main_v103_2 : Ref sig .tc := ⟨.hbm, 188, rfl⟩
abbrev main_v104 : Ref sig .tc := ⟨.hbm, 189, rfl⟩
abbrev main_cst_18 : Ref sig .tc := ⟨.hbm, 190, rfl⟩
abbrev main_call3_v0 : Ref sig .tc := ⟨.hbm, 191, rfl⟩
abbrev main_v105_1 : Ref sig .tc := ⟨.hbm, 192, rfl⟩
abbrev main_call3_v2 : Ref sig .tc := ⟨.hbm, 193, rfl⟩
abbrev main_v105_0 : Ref sig .tc := ⟨.hbm, 194, rfl⟩
abbrev main_call3_cst : Ref sig .tc := ⟨.hbm, 195, rfl⟩
abbrev main_v105_2 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_19 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_cst_20 : Ref sig .tc := ⟨.hbm, 205, rfl⟩
abbrev main_v113 : Ref sig .tc := ⟨.hbm, 206, rfl⟩
abbrev main_v114 : Ref sig .tc := ⟨.hbm, 207, rfl⟩
abbrev main_cst_21 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_cst_22 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_cst_23 : Ref sig .tc := ⟨.hbm, 216, rfl⟩
abbrev main_v121 : Ref sig .tc := ⟨.hbm, 217, rfl⟩
abbrev main_v122 : Ref sig .tc := ⟨.hbm, 218, rfl⟩
abbrev main_cst_24 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_cst_25 : Ref sig .tc := ⟨.hbm, 223, rfl⟩
abbrev main_v126 : Ref sig .tc := ⟨.hbm, 224, rfl⟩
abbrev main_v127 : Ref sig .tc := ⟨.hbm, 225, rfl⟩
abbrev main_cst_26 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_27 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_28 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_29 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_cst_30 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_cst_31 : Ref sig .tc := ⟨.hbm, 255, rfl⟩
abbrev main_v152 : Ref sig .tc := ⟨.hbm, 256, rfl⟩
abbrev main_call4_cst : Ref sig .tc := ⟨.hbm, 257, rfl⟩
abbrev main_call4_v0 : Ref sig .tc := ⟨.hbm, 258, rfl⟩
abbrev main_v153 : Ref sig .tc := ⟨.hbm, 259, rfl⟩
abbrev main_v154 : Ref sig .tc := ⟨.hbm, 260, rfl⟩
abbrev main_call5_cst : Ref sig .tc := ⟨.hbm, 261, rfl⟩
abbrev main_call5_v0 : Ref sig .tc := ⟨.hbm, 262, rfl⟩
abbrev main_v155 : Ref sig .tc := ⟨.hbm, 263, rfl⟩
abbrev main_cst_32 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_cst_33 : Ref sig .tc := ⟨.hbm, 268, rfl⟩
abbrev main_v159 : Ref sig .tc := ⟨.hbm, 269, rfl⟩
abbrev main_v160 : Ref sig .tc := ⟨.hbm, 270, rfl⟩
abbrev main_cst_34 : Ref sig .tc := ⟨.hbm, 271, rfl⟩
abbrev main_v161 : Ref sig .tc := ⟨.hbm, 272, rfl⟩
abbrev main_cst_35 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_call6_cst : Ref sig .tc := ⟨.hbm, 277, rfl⟩
abbrev main_call6_v0 : Ref sig .tc := ⟨.hbm, 278, rfl⟩
abbrev main_call6_v1 : Ref sig .tc := ⟨.hbm, 279, rfl⟩
abbrev main_call6_cst_0 : Ref sig .tc := ⟨.hbm, 280, rfl⟩
abbrev main_call6_v2 : Ref sig .tc := ⟨.hbm, 281, rfl⟩
abbrev main_v165 : Ref sig .tc := ⟨.hbm, 282, rfl⟩
abbrev main_cst_36 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_cst_37 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_cst_38 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_cst_39 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_cst_40 : Ref sig .tc := ⟨.hbm, 306, rfl⟩
abbrev main_v185 : Ref sig .tc := ⟨.hbm, 307, rfl⟩
abbrev main_v186 : Ref sig .tc := ⟨.hbm, 308, rfl⟩
abbrev main_v187 : Ref sig .tc := ⟨.hbm, 309, rfl⟩
abbrev main_cst_41 : Ref sig .tc := ⟨.hbm, 310, rfl⟩
abbrev main_v188 : Ref sig .tc := ⟨.hbm, 311, rfl⟩
abbrev main_v189 : Ref sig .tc := ⟨.hbm, 312, rfl⟩
abbrev main_cst_42 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_v193 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_cst_43 : Ref sig .tc := ⟨.hbm, 322, rfl⟩
abbrev main_v198 : Ref sig .tc := ⟨.hbm, 323, rfl⟩
abbrev main_v199 : Ref sig .tc := ⟨.hbm, 324, rfl⟩
abbrev main_cst_44 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_cst_45 : Ref sig .tc := ⟨.hbm, 336, rfl⟩
abbrev main_v210 : Ref sig .tc := ⟨.hbm, 337, rfl⟩
abbrev main_v211 : Ref sig .tc := ⟨.hbm, 338, rfl⟩
abbrev main_cst_46 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_v215 : Ref sig .tc := ⟨.hbm, 343, rfl⟩
abbrev main_cst_47 : Ref sig .tc := ⟨.hbm, 344, rfl⟩
abbrev main_v216 : Ref sig .tc := ⟨.hbm, 345, rfl⟩
abbrev main_v217 : Ref sig .tc := ⟨.hbm, 346, rfl⟩
abbrev main_cst_48 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_cst_49 : Ref sig .tc := ⟨.hbm, 351, rfl⟩
abbrev main_v221 : Ref sig .tc := ⟨.hbm, 352, rfl⟩
abbrev main_v222 : Ref sig .tc := ⟨.hbm, 353, rfl⟩
abbrev main_cst_50 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_cst_51 : Ref sig .tc := ⟨.hbm, 359, rfl⟩
abbrev main_v227 : Ref sig .tc := ⟨.hbm, 360, rfl⟩
abbrev main_v228 : Ref sig .tc := ⟨.hbm, 361, rfl⟩
abbrev main_cst_52 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_cst_53 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_cst_54 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_cst_55 : Ref sig .tc := ⟨.hbm, 376, rfl⟩
abbrev main_v240 : Ref sig .tc := ⟨.hbm, 377, rfl⟩
abbrev main_v241 : Ref sig .tc := ⟨.hbm, 378, rfl⟩
abbrev main_cst_56 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_cst_57 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_cst_58 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_cst_59 : Ref sig .tc := ⟨.hbm, 394, rfl⟩
abbrev main_v254 : Ref sig .tc := ⟨.hbm, 395, rfl⟩
abbrev main_v255 : Ref sig .tc := ⟨.hbm, 396, rfl⟩
abbrev main_cst_60 : Ref sig .tc := ⟨.hbm, 397, rfl⟩
abbrev main_v256 : Ref sig .tc := ⟨.hbm, 398, rfl⟩
abbrev main_v257 : Ref sig .tc := ⟨.hbm, 399, rfl⟩
abbrev main_cst_61 : Ref sig .tc := ⟨.hbm, 400, rfl⟩
abbrev main_v258 : Ref sig .tc := ⟨.hbm, 401, rfl⟩
abbrev main_v259 : Ref sig .tc := ⟨.hbm, 402, rfl⟩

abbrev nD : Nat := 1
abbrev τ : Topo := Topo.v7x

variable {F : FTy → Type} [FloatOps F]
-- ==== GlufKernel.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GlufReferenceIdeal.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== PlefKernel.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlefReferenceIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== FfnfKernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S8192x1024, .f32⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32_15 : BitVec 32 := 0#32
  let v38 : BitVec 1 := Scalar.cmpi .eq arg1 c0_i32_15
  let v39 : BitVec 32 := Scalar.extui v38
  let c0_i32_16 : BitVec 32 := 0#32
  let v40 : BitVec 1 := Scalar.cmpi .ne v39 c0_i32_16
  v40

def k0_cond2 (i : grid0.Coords) : BitVec 1 :=
  let arg1 : BitVec 32 := BitVec.ofNat 32 (i 1).val
  let c0_i32_15 : BitVec 32 := 0#32
  let v38 : BitVec 1 := Scalar.cmpi .eq arg1 c0_i32_15
  let v_true : BitVec 1 := 1#1
  let v41 : BitVec 1 := Scalar.xori v38 v_true
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnfReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== MergefKernel.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .f32⟩
  | .hbm, ⟨4, _⟩ => ⟨S1024x1024, .f32⟩
  | .hbm, ⟨5, _⟩ => ⟨S4x512x1024, .bf16⟩
  | .hbm, ⟨6, _⟩ => ⟨S1024x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_cond2 (i : grid0.Coords) : BitVec 1 :=
  let arg1 : BitVec 32 := BitVec.ofNat 32 (i 1).val
  let c0_i32_11 : BitVec 32 := 0#32
  let v19 : BitVec 1 := Scalar.cmpi .eq arg1 c0_i32_11
  let v_true : BitVec 1 := 1#1
  let v22 : BitVec 1 := Scalar.xori v19 v_true
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MergefReferenceIdeal.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S8192x4x512 : Shape := ⟨3, ![8192, 4, 512]⟩
abbrev S4x1024x8192 : Shape := ⟨3, ![4, 1024, 8192]⟩
abbrev S8192x4x1024 : Shape := ⟨3, ![8192, 4, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .f32⟩
  | .hbm, ⟨4, _⟩ => ⟨S1024x1024, .f32⟩
  | .hbm, ⟨5, _⟩ => ⟨S8192x4x512, .f32⟩
  | .hbm, ⟨6, _⟩ => ⟨S4x1024x8192, .f32⟩
  | .hbm, ⟨7, _⟩ => ⟨S8192x4x1024, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4x1024, .f32⟩
  | .hbm, ⟨17, _⟩ => ⟨S8192x4x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== S5fKernel.lean ====
abbrev S8192x512 : Shape := ⟨2, ![8192, 512]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S2048 : Shape := ⟨1, ![2048]⟩
abbrev S4x1x512 : Shape := ⟨3, ![4, 1, 512]⟩
abbrev S256 : Shape := ⟨1, ![256]⟩
abbrev S_ : Shape := ⟨0, ![]⟩
abbrev S1x256x1 : Shape := ⟨3, ![1, 256, 1]⟩
abbrev S4x256x512 : Shape := ⟨3, ![4, 256, 512]⟩
abbrev S8192x5376 : Shape := ⟨2, ![8192, 5376]⟩
abbrev S4x8x16x64 : Shape := ⟨4, ![4, 8, 16, 64]⟩
abbrev S8x8 : Shape := ⟨2, ![8, 8]⟩
abbrev S4x8x16x1x64 : Shape := ⟨5, ![4, 8, 16, 1, 64]⟩
abbrev S8x1x8x1 : Shape := ⟨4, ![8, 1, 8, 1]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x512 : Shape := ⟨2, ![1, 512]⟩
abbrev S4x32x1x512 : Shape := ⟨4, ![4, 32, 1, 512]⟩
abbrev S256x128 : Shape := ⟨2, ![256, 128]⟩
abbrev S1x1x512 : Shape := ⟨3, ![1, 1, 512]⟩
abbrev S1x128x512 : Shape := ⟨3, ![1, 128, 512]⟩
abbrev S1x256x512 : Shape := ⟨3, ![1, 256, 512]⟩
abbrev S1x512x128 : Shape := ⟨3, ![1, 512, 128]⟩
abbrev S1x128 : Shape := ⟨2, ![1, 128]⟩
abbrev S1x1x1x512 : Shape := ⟨4, ![1, 1, 1, 512]⟩
abbrev S128x512 : Shape := ⟨2, ![128, 512]⟩
abbrev S256x512 : Shape := ⟨2, ![256, 512]⟩
abbrev S512x128 : Shape := ⟨2, ![512, 128]⟩
abbrev S512 : Shape := ⟨1, ![512]⟩

abbrev nBuf : Space → Nat
  | .hbm => 120
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S32, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x16, .f32⟩
  | .hbm, ⟨9, _⟩ => ⟨S32x64, .f32⟩
  | .hbm, ⟨10, _⟩ => ⟨S2048, .f32⟩
  | .hbm, ⟨11, _⟩ => ⟨S4x1x512, .f32⟩
  | .hbm, ⟨12, _⟩ => ⟨S4x1x512, .f32⟩
  | .hbm, ⟨13, _⟩ => ⟨S4x1x512, .f32⟩
  | .hbm, ⟨14, _⟩ => ⟨S4x1x512, .f32⟩
  | .hbm, ⟨15, _⟩ => ⟨S4x1x512, .f32⟩
  | .hbm, ⟨16, _⟩ => ⟨S4x1x512, .f32⟩
  | .hbm, ⟨17, _⟩ => ⟨S4x1x512, .f32⟩
  | .hbm, ⟨18, _⟩ => ⟨S4x1x512, .f32⟩
  | .hbm, ⟨19, _⟩ => ⟨S4x1x512, .f32⟩
  | .hbm, ⟨20, _⟩ => ⟨S4x1x512, .f32⟩
  | .hbm, ⟨21, _⟩ => ⟨S4x1x512, .f32⟩
  | .hbm, ⟨22, _⟩ => ⟨S4x1x512, .f32⟩
  | .hbm, ⟨23, _⟩ => ⟨S4x1x512, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S1x256x1, .f32⟩
  | .hbm, ⟨29, _⟩ => ⟨S4x1x512, .f32⟩
  | .hbm, ⟨30, _⟩ => ⟨S4x1x512, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S4x256x512, .f32⟩
  | .hbm, ⟨35, _⟩ => ⟨S4x1x512, .f32⟩
  | .hbm, ⟨36, _⟩ => ⟨S4x1x512, .f32⟩
  | .hbm, ⟨37, _⟩ => ⟨S4x256x512, .f32⟩
  | .hbm, ⟨38, _⟩ => ⟨S4x256x512, .f32⟩
  | .hbm, ⟨39, _⟩ => ⟨S4x256x512, .f32⟩
  | .hbm, ⟨40, _⟩ => ⟨S4x256x512, .f32⟩
  | .hbm, ⟨41, _⟩ => ⟨S4x256x512, .f32⟩
  | .hbm, ⟨42, _⟩ => ⟨S4x1x512, .f32⟩
  | .hbm, ⟨43, _⟩ => ⟨S4x1x512, .f32⟩
  | .hbm, ⟨44, _⟩ => ⟨S4x256x512, .f32⟩
  | .hbm, ⟨45, _⟩ => ⟨S4x256x512, .f32⟩
  | .hbm, ⟨46, _⟩ => ⟨S4x256x512, .f32⟩
  | .hbm, ⟨47, _⟩ => ⟨S4x256x512, .f32⟩
  | .hbm, ⟨48, _⟩ => ⟨S4x256x512, .f32⟩
  | .hbm, ⟨49, _⟩ => ⟨S_, .i32⟩
  | .hbm, ⟨50, _⟩ => ⟨S_, .f32⟩
  | .hbm, ⟨51, _⟩ => ⟨S8192x5376, .f32⟩
  | .hbm, ⟨52, _⟩ => ⟨S32x16x64, .f32⟩
  | .hbm, ⟨53, _⟩ => ⟨S4x8x16x64, .f32⟩
  | .hbm, ⟨54, _⟩ => ⟨S8x8, .i32⟩
  | .hbm, ⟨55, _⟩ => ⟨S8x8, .i32⟩
  | .hbm, ⟨56, _⟩ => ⟨S_, .i32⟩
  | .hbm, ⟨57, _⟩ => ⟨S8x8, .i32⟩
  | .hbm, ⟨58, _⟩ => ⟨S8x8, .i32⟩
  | .hbm, ⟨59, _⟩ => ⟨S8x8, .i1⟩
  | .hbm, ⟨60, _⟩ => ⟨S8x8, .f32⟩
  | .hbm, ⟨61, _⟩ => ⟨S4x8x16x1x64, .f32⟩
  | .hbm, ⟨62, _⟩ => ⟨S8x1x8x1, .f32⟩
  | .hbm, ⟨63, _⟩ => ⟨S1x8x1x8x1, .f32⟩
  | .hbm, ⟨64, _⟩ => ⟨S4x8x16x8x64, .f32⟩
  | .hbm, ⟨65, _⟩ => ⟨S4x8x16x8x64, .f32⟩
  | .hbm, ⟨66, _⟩ => ⟨S4x8x16x8x64, .f32⟩
  | .hbm, ⟨67, _⟩ => ⟨S4x128x512, .f32⟩
  | .hbm, ⟨68, _⟩ => ⟨S32x16x64, .f32⟩
  | .hbm, ⟨69, _⟩ => ⟨S4x8x16x64, .f32⟩
  | .hbm, ⟨70, _⟩ => ⟨S8x8, .i32⟩
  | .hbm, ⟨71, _⟩ => ⟨S8x8, .i32⟩
  | .hbm, ⟨72, _⟩ => ⟨S_, .i32⟩
  | .hbm, ⟨73, _⟩ => ⟨S8x8, .i32⟩
  | .hbm, ⟨74, _⟩ => ⟨S8x8, .i32⟩
  | .hbm, ⟨75, _⟩ => ⟨S8x8, .i1⟩
  | .hbm, ⟨76, _⟩ => ⟨S8x8, .f32⟩
  | .hbm, ⟨77, _⟩ => ⟨S4x8x16x1x64, .f32⟩
  | .hbm, ⟨78, _⟩ => ⟨S8x1x8x1, .f32⟩
  | .hbm, ⟨79, _⟩ => ⟨S1x8x1x8x1, .f32⟩
  | .hbm, ⟨80, _⟩ => ⟨S4x8x16x8x64, .f32⟩
  | .hbm, ⟨81, _⟩ => ⟨S4x8x16x8x64, .f32⟩
  | .hbm, ⟨82, _⟩ => ⟨S4x8x16x8x64, .f32⟩
  | .hbm, ⟨83, _⟩ => ⟨S4x128x512, .f32⟩
  | .hbm, ⟨84, _⟩ => ⟨S32x64x16, .f32⟩
  | .hbm, ⟨85, _⟩ => ⟨S4x8x64x16, .f32⟩
  | .hbm, ⟨86, _⟩ => ⟨S8x8, .i32⟩
  | .hbm, ⟨87, _⟩ => ⟨S8x8, .i32⟩
  | .hbm, ⟨88, _⟩ => ⟨S_, .i32⟩
  | .hbm, ⟨89, _⟩ => ⟨S8x8, .i32⟩
  | .hbm, ⟨90, _⟩ => ⟨S8x8, .i32⟩
  | .hbm, ⟨91, _⟩ => ⟨S8x8, .i1⟩
  | .hbm, ⟨92, _⟩ => ⟨S8x8, .f32⟩
  | .hbm, ⟨93, _⟩ => ⟨S4x8x64x1x16, .f32⟩
  | .hbm, ⟨94, _⟩ => ⟨S8x1x8x1, .f32⟩
  | .hbm, ⟨95, _⟩ => ⟨S1x8x1x8x1, .f32⟩
  | .hbm, ⟨96, _⟩ => ⟨S4x8x64x8x16, .f32⟩
  | .hbm, ⟨97, _⟩ => ⟨S4x8x64x8x16, .f32⟩
  | .hbm, ⟨98, _⟩ => ⟨S4x8x64x8x16, .f32⟩
  | .hbm, ⟨99, _⟩ => ⟨S4x512x128, .f32⟩
  | .hbm, ⟨100, _⟩ => ⟨S32x64x16, .f32⟩
  | .hbm, ⟨101, _⟩ => ⟨S4x8x64x16, .f32⟩
  | .hbm, ⟨102, _⟩ => ⟨S8x8, .i32⟩
  | .hbm, ⟨103, _⟩ => ⟨S8x8, .i32⟩
  | .hbm, ⟨104, _⟩ => ⟨S_, .i32⟩
  | .hbm, ⟨105, _⟩ => ⟨S8x8, .i32⟩
  | .hbm, ⟨106, _⟩ => ⟨S8x8, .i32⟩
  | .hbm, ⟨107, _⟩ => ⟨S8x8, .i1⟩
  | .hbm, ⟨108, _⟩ => ⟨S8x8, .f32⟩
  | .hbm, ⟨109, _⟩ => ⟨S4x8x64x1x16, .f32⟩
  | .hbm, ⟨110, _⟩ => ⟨S8x1x8x1, .f32⟩
  | .hbm, ⟨111, _⟩ => ⟨S1x8x1x8x1, .f32⟩
  | .hbm, ⟨112, _⟩ => ⟨S4x8x64x8x16, .f32⟩
  | .hbm, ⟨113, _⟩ => ⟨S4x8x64x8x16, .f32⟩
  | .hbm, ⟨114, _⟩ => ⟨S4x8x64x8x16, .f32⟩
  | .hbm, ⟨115, _⟩ => ⟨S4x512x128, .f32⟩
  | .hbm, ⟨116, _⟩ => ⟨S1x512, .f32⟩
  | .hbm, ⟨117, _⟩ => ⟨S8192x512, .f32⟩
  | .hbm, ⟨118, _⟩ => ⟨S4x32x1x512, .f32⟩
  | .hbm, ⟨119, _⟩ => ⟨S4x32x1x512, .f32⟩
  | .local _ .vmem, ⟨0, _⟩ => ⟨S256x128, .f32⟩
  | .local _ .vmem, ⟨1, _⟩ => ⟨S256x128, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x128, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | .local _ .vmem, ⟨22, _⟩ => ⟨S1x1x1x512, .f32⟩
  | .local _ .vmem, ⟨23, _⟩ => ⟨S1x1x1x512, .f32⟩
  | .local _ .vmem, ⟨24, _⟩ => ⟨S1x1x1x512, .f32⟩
  | .local _ .vmem, ⟨25, _⟩ => ⟨S1x1x1x512, .f32⟩
  | .local _ .vmem, ⟨26, _⟩ => ⟨S1x512, .f32⟩
  | .local _ .vmem, ⟨27, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_call0_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_1 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_c_2 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_c_3 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101_0 : Ref sig .tc := ⟨.hbm, 117, rfl⟩
abbrev main_v101_1 : Ref sig .tc := ⟨.hbm, 118, rfl⟩
abbrev main_v101_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== S5fReferenceIdeal.lean ====
abbrev S8192x512 : Shape := ⟨2, ![8192, 512]⟩
abbrev S32 : Shape := ⟨1, ![32]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S8192x32x16 : Shape := ⟨3, ![8192, 32, 16]⟩
abbrev S32x1 : Shape := ⟨2, ![32, 1]⟩
abbrev S32x64x8192 : Shape := ⟨3, ![32, 64, 8192]⟩
abbrev S8192x32x64 : Shape := ⟨3, ![8192, 32, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1x1 : Shape := ⟨4, ![8192, 8192, 1, 1]⟩
abbrev S1x1x32x64 : Shape := ⟨4, ![1, 1, 32, 64]⟩
abbrev S8192x8192x32x64 : Shape := ⟨4, ![8192, 8192, 32, 64]⟩
abbrev S_ : Shape := ⟨0, ![]⟩
abbrev S32x16x8192 : Shape := ⟨3, ![32, 16, 8192]⟩
abbrev S1x32x16 : Shape := ⟨3, ![1, 32, 16]⟩
abbrev S1x4x512 : Shape := ⟨3, ![1, 4, 512]⟩
abbrev S32x256x4x512 : Shape := ⟨4, ![32, 256, 4, 512]⟩
abbrev S31x1x4x512 : Shape := ⟨4, ![31, 1, 4, 512]⟩
abbrev S31x4x512 : Shape := ⟨3, ![31, 4, 512]⟩
abbrev S32x4x512 : Shape := ⟨3, ![32, 4, 512]⟩
abbrev S4x32x512 : Shape := ⟨3, ![4, 32, 512]⟩
abbrev S4x32x1x512 : Shape := ⟨4, ![4, 32, 1, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S32, .f32⟩
  | .hbm, ⟨2, _⟩ => ⟨S32x64, .f32⟩
  | .hbm, ⟨3, _⟩ => ⟨S32x64, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x16, .f32⟩
  | .hbm, ⟨9, _⟩ => ⟨S8192x32x16, .f32⟩
  | .hbm, ⟨10, _⟩ => ⟨S32, .f32⟩
  | .hbm, ⟨11, _⟩ => ⟨S32x1, .f32⟩
  | .hbm, ⟨12, _⟩ => ⟨S32x64x8192, .f32⟩
  | .hbm, ⟨13, _⟩ => ⟨S8192x32x64, .f32⟩
  | .hbm, ⟨14, _⟩ => ⟨S32x64x8192, .f32⟩
  | .hbm, ⟨15, _⟩ => ⟨S8192x32x64, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192x1x1, .f32⟩
  | .hbm, ⟨23, _⟩ => ⟨S32x64, .f32⟩
  | .hbm, ⟨24, _⟩ => ⟨S32x64, .f32⟩
  | .hbm, ⟨25, _⟩ => ⟨S1x1x32x64, .f32⟩
  | .hbm, ⟨26, _⟩ => ⟨S8192x8192x32x64, .f32⟩
  | .hbm, ⟨27, _⟩ => ⟨S8192x8192x32x64, .f32⟩
  | .hbm, ⟨28, _⟩ => ⟨S8192x8192x32x64, .f32⟩
  | .hbm, ⟨29, _⟩ => ⟨S8192x8192x32x64, .f32⟩
  | .hbm, ⟨30, _⟩ => ⟨S_, .f32⟩
  | .hbm, ⟨31, _⟩ => ⟨S8192x8192x1x1, .f32⟩
  | .hbm, ⟨32, _⟩ => ⟨S8192x8192x1x1, .i1⟩
  | .hbm, ⟨33, _⟩ => ⟨S32x64, .f32⟩
  | .hbm, ⟨34, _⟩ => ⟨S32x64, .f32⟩
  | .hbm, ⟨35, _⟩ => ⟨S1x1x32x64, .f32⟩
  | .hbm, ⟨36, _⟩ => ⟨S8192x8192x32x64, .f32⟩
  | .hbm, ⟨37, _⟩ => ⟨S8192x8192x32x64, .f32⟩
  | .hbm, ⟨38, _⟩ => ⟨S8192x8192x32x64, .f32⟩
  | .hbm, ⟨39, _⟩ => ⟨S8192x8192x32x64, .f32⟩
  | .hbm, ⟨40, _⟩ => ⟨S8192x8192x32x64, .f32⟩
  | .hbm, ⟨41, _⟩ => ⟨S_, .f32⟩
  | .hbm, ⟨42, _⟩ => ⟨S_, .f32⟩
  | .hbm, ⟨43, _⟩ => ⟨S8192x8192x32x64, .i1⟩
  | .hbm, ⟨44, _⟩ => ⟨S8192x8192x32x64, .f32⟩
  | .hbm, ⟨45, _⟩ => ⟨S8192x8192x32x64, .f32⟩
  | .hbm, ⟨46, _⟩ => ⟨S_, .f32⟩
  | .hbm, ⟨47, _⟩ => ⟨S8192x8192x1x1, .f32⟩
  | .hbm, ⟨48, _⟩ => ⟨S8192x8192x1x1, .i1⟩
  | .hbm, ⟨49, _⟩ => ⟨S32x64, .f32⟩
  | .hbm, ⟨50, _⟩ => ⟨S32x64, .f32⟩
  | .hbm, ⟨51, _⟩ => ⟨S1x1x32x64, .f32⟩
  | .hbm, ⟨52, _⟩ => ⟨S8192x8192x32x64, .f32⟩
  | .hbm, ⟨53, _⟩ => ⟨S8192x8192x32x64, .f32⟩
  | .hbm, ⟨54, _⟩ => ⟨S8192x8192x32x64, .f32⟩
  | .hbm, ⟨55, _⟩ => ⟨S8192x8192x32x64, .f32⟩
  | .hbm, ⟨56, _⟩ => ⟨S8192x8192x32x64, .f32⟩
  | .hbm, ⟨57, _⟩ => ⟨S_, .f32⟩
  | .hbm, ⟨58, _⟩ => ⟨S_, .f32⟩
  | .hbm, ⟨59, _⟩ => ⟨S8192x8192x32x64, .i1⟩
  | .hbm, ⟨60, _⟩ => ⟨S8192x8192x32x64, .f32⟩
  | .hbm, ⟨61, _⟩ => ⟨S8192x8192x32x64, .f32⟩
  | .hbm, ⟨62, _⟩ => ⟨S32x64x8192, .f32⟩
  | .hbm, ⟨63, _⟩ => ⟨S8192x32x64, .f32⟩
  | .hbm, ⟨64, _⟩ => ⟨S32x64x8192, .f32⟩
  | .hbm, ⟨65, _⟩ => ⟨S8192x32x64, .f32⟩
  | .hbm, ⟨66, _⟩ => ⟨S8192x32x64, .f32⟩
  | .hbm, ⟨67, _⟩ => ⟨S32x64x8192, .f32⟩
  | .hbm, ⟨68, _⟩ => ⟨S8192x32x64, .f32⟩
  | .hbm, ⟨69, _⟩ => ⟨S32x64x8192, .f32⟩
  | .hbm, ⟨70, _⟩ => ⟨S8192x32x64, .f32⟩
  | .hbm, ⟨71, _⟩ => ⟨S8192x32x64, .f32⟩
  | .hbm, ⟨72, _⟩ => ⟨S32x16x8192, .f32⟩
  | .hbm, ⟨73, _⟩ => ⟨S8192x32x16, .f32⟩
  | .hbm, ⟨74, _⟩ => ⟨S32x16x8192, .f32⟩
  | .hbm, ⟨75, _⟩ => ⟨S8192x32x16, .f32⟩
  | .hbm, ⟨76, _⟩ => ⟨S8192x32x16, .f32⟩
  | .hbm, ⟨77, _⟩ => ⟨S1x32x16, .f32⟩
  | .hbm, ⟨78, _⟩ => ⟨S8192x32x16, .f32⟩
  | .hbm, ⟨79, _⟩ => ⟨S8192x32x16, .f32⟩
  | .hbm, ⟨80, _⟩ => ⟨S8192x32x16, .f32⟩
  | .hbm, ⟨81, _⟩ => ⟨S8192x512, .f32⟩
  | .hbm, ⟨82, _⟩ => ⟨S_, .f32⟩
  | .hbm, ⟨83, _⟩ => ⟨S1x4x512, .f32⟩
  | .hbm, ⟨84, _⟩ => ⟨S32x256x4x512, .f32⟩
  | .hbm, ⟨85, _⟩ => ⟨S31x1x4x512, .f32⟩
  | .hbm, ⟨86, _⟩ => ⟨S31x4x512, .f32⟩
  | .hbm, ⟨87, _⟩ => ⟨S32x4x512, .f32⟩
  | .hbm, ⟨88, _⟩ => ⟨S4x32x512, .f32⟩
  | .hbm, ⟨89, _⟩ => ⟨S4x32x1x512, .f32⟩
  | .hbm, ⟨90, _⟩ => ⟨S_, .f32⟩
  | .hbm, ⟨91, _⟩ => ⟨S1x4x512, .f32⟩
  | .hbm, ⟨92, _⟩ => ⟨S32x256x4x512, .f32⟩
  | .hbm, ⟨93, _⟩ => ⟨S31x1x4x512, .f32⟩
  | .hbm, ⟨94, _⟩ => ⟨S31x4x512, .f32⟩
  | .hbm, ⟨95, _⟩ => ⟨S32x4x512, .f32⟩
  | .hbm, ⟨96, _⟩ => ⟨S4x32x512, .f32⟩
  | .hbm, ⟨97, _⟩ => ⟨S4x32x1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_4 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== NlfKernel.lean ====
abbrev S8192x1024 : Shape := ⟨2, ![8192, 1024]⟩
abbrev S1024 : Shape := ⟨1, ![1024]⟩
abbrev S1024x5136 : Shape := ⟨2, ![1024, 5136]⟩
abbrev S1x1024 : Shape := ⟨2, ![1, 1024]⟩
abbrev S_ : Shape := ⟨0, ![]⟩
abbrev S1024x240 : Shape := ⟨2, ![1024, 240]⟩
abbrev S1024x2048 : Shape := ⟨2, ![1024, 2048]⟩
abbrev S1024x2560 : Shape := ⟨2, ![1024, 2560]⟩
abbrev S1024x512 : Shape := ⟨2, ![1024, 512]⟩
abbrev S1024x8 : Shape := ⟨2, ![1024, 8]⟩
abbrev S1024x5376 : Shape := ⟨2, ![1024, 5376]⟩
abbrev S1x5376 : Shape := ⟨2, ![1, 5376]⟩
abbrev S8192x5376 : Shape := ⟨2, ![8192, 5376]⟩
abbrev S1024x1024 : Shape := ⟨2, ![1024, 1024]⟩
abbrev S1024x896 : Shape := ⟨2, ![1024, 896]⟩
abbrev S1x896 : Shape := ⟨2, ![1, 896]⟩
abbrev S1024x1 : Shape := ⟨2, ![1024, 1]⟩
abbrev S8192x512 : Shape := ⟨2, ![8192, 512]⟩
abbrev S8192x2560 : Shape := ⟨2, ![8192, 2560]⟩
abbrev S8192x8 : Shape := ⟨2, ![8192, 8]⟩
abbrev S8192x2048 : Shape := ⟨2, ![8192, 2048]⟩
abbrev S8192x5136 : Shape := ⟨2, ![8192, 5136]⟩

abbrev nBuf : Space → Nat
  | .hbm => 23
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5136, .f32⟩
  | .hbm, ⟨3, _⟩ => ⟨S1x1024, .f32⟩
  | .hbm, ⟨4, _⟩ => ⟨S1024x5136, .bf16⟩
  | .hbm, ⟨5, _⟩ => ⟨S_, .bf16⟩
  | .hbm, ⟨6, _⟩ => ⟨S1024x240, .bf16⟩
  | .hbm, ⟨7, _⟩ => ⟨S1024x2048, .bf16⟩
  | .hbm, ⟨8, _⟩ => ⟨S1024x2560, .bf16⟩
  | .hbm, ⟨9, _⟩ => ⟨S1024x512, .bf16⟩
  | .hbm, ⟨10, _⟩ => ⟨S1024x8, .bf16⟩
  | .hbm, ⟨11, _⟩ => ⟨S1024x8, .bf16⟩
  | .hbm, ⟨12, _⟩ => ⟨S1024x5376, .bf16⟩
  | .hbm, ⟨13, _⟩ => ⟨S_, .f32⟩
  | .hbm, ⟨14, _⟩ => ⟨S1x5376, .f32⟩
  | .hbm, ⟨15, _⟩ => ⟨S8192x5376, .f32⟩
  | .hbm, ⟨16, _⟩ => ⟨S8192x1024, .bf16⟩
  | .hbm, ⟨17, _⟩ => ⟨S8192x512, .f32⟩
  | .hbm, ⟨18, _⟩ => ⟨S8192x2560, .f32⟩
  | .hbm, ⟨19, _⟩ => ⟨S8192x8, .f32⟩
  | .hbm, ⟨20, _⟩ => ⟨S8192x2048, .f32⟩
  | .hbm, ⟨21, _⟩ => ⟨S8192x8, .f32⟩
  | .hbm, ⟨22, _⟩ => ⟨S8192x5136, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1x896, .f32⟩
  | .local _ .vmem, ⟨6, _⟩ => ⟨S1x896, .f32⟩
  | .local _ .vmem, ⟨7, _⟩ => ⟨S1024x896, .f32⟩
  | .local _ .vmem, ⟨8, _⟩ => ⟨S1024x896, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== NlfReferenceIdeal.lean ====
abbrev S8192x1024 : Shape := ⟨2, ![8192, 1024]⟩
abbrev S1024 : Shape := ⟨1, ![1024]⟩
abbrev S1024x5136 : Shape := ⟨2, ![1024, 5136]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5136 : Shape := ⟨2, ![8192, 5136]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5136, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5136, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== LinfKernel.lean ====
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x1024, .bf16⟩
  | .hbm, ⟨4, _⟩ => ⟨S1024x4096, .bf16⟩
  | .hbm, ⟨5, _⟩ => ⟨S1x4096, .f32⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinfReferenceIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinKernel.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S4x8192x1024 : Shape := ⟨3, ![4, 8192, 1024]⟩
abbrev S1024x1024 : Shape := ⟨2, ![1024, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x4096, .f32⟩
  | .hbm, ⟨4, _⟩ => ⟨S8192x1024, .bf16⟩
  | .hbm, ⟨5, _⟩ => ⟨S1024x4096, .bf16⟩
  | .hbm, ⟨6, _⟩ => ⟨S1x4096, .f32⟩
  | .hbm, ⟨7, _⟩ => ⟨S4x8192x1024, .bf16⟩
  | .hbm, ⟨8, _⟩ => ⟨S1024x4096, .f32⟩
  | .hbm, ⟨9, _⟩ => ⟨S1x4096, .f32⟩
  | .hbm, ⟨10, _⟩ => ⟨S4x8192x1024, .f32⟩
  | .hbm, ⟨11, _⟩ => ⟨S_, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_10 : BitVec 32 := 0#32
  let v22 : BitVec 1 := Scalar.cmpi .ne v21 c0_i32_10
  v22

def k0_cond2 (i : grid0.Coords) : BitVec 1 :=
  let arg1 : BitVec 32 := BitVec.ofNat 32 (i 1).val
  let c0_i32 : BitVec 32 := 0#32
  let v20 : BitVec 1 := Scalar.cmpi .eq arg1 c0_i32
  let v_true : BitVec 1 := 1#1
  let v23 : BitVec 1 := Scalar.xori v20 v_true
  let v24 : BitVec 32 := Scalar.extui v23
  let c0_i32_11 : BitVec 32 := 0#32
  let v25 : BitVec 1 := Scalar.cmpi .ne v24 c0_i32_11
  v25

def k0_cond3 (i : grid0.Coords) : BitVec 1 :=
  let arg1 : BitVec 32 := BitVec.ofNat 32 (i 1).val
  let c0_i32_12 : BitVec 32 := 0#32
  let v26 : BitVec 1 := Scalar.cmpi .eq arg1 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg1 : BitVec 32 := BitVec.ofNat 32 (i 1).val
  let c0_i32_12 : BitVec 32 := 0#32
  let v26 : BitVec 1 := Scalar.cmpi .eq arg1 c0_i32_12
  let true_14 : BitVec 1 := 1#1
  let v29 : BitVec 1 := Scalar.xori v26 true_14
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LinReferenceIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S4096x1024 : Shape := ⟨2, ![4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S_, .f32⟩
  | .hbm, ⟨13, _⟩ => ⟨S4096, .f32⟩
  | .hbm, ⟨14, _⟩ => ⟨S4096x1024, .f32⟩
  | .hbm, ⟨15, _⟩ => ⟨S1024x4096, .f32⟩
  | .hbm, ⟨16, _⟩ => ⟨S8192x1024, .f32⟩
  | .hbm, ⟨17, _⟩ => ⟨S1x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== AdamKernel.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OpsfKernel.lean ====
abbrev S32 : Shape := ⟨1, ![32]⟩
abbrev S32x64 : Shape := ⟨2, ![32, 64]⟩
abbrev S32x64x16 : Shape := ⟨3, ![32, 64, 16]⟩
abbrev S4x1x512 : Shape := ⟨3, ![4, 1, 512]⟩
abbrev S2048 : Shape := ⟨1, ![2048]⟩
abbrev S32x16x64 : Shape := ⟨3, ![32, 16, 64]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S8x1x8x1 : Shape := ⟨4, ![8, 1, 8, 1]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x256x512 : Shape := ⟨3, ![4, 256, 512]⟩
abbrev S1x1x512 : Shape := ⟨3, ![1, 1, 512]⟩
abbrev S1x128x512 : Shape := ⟨3, ![1, 128, 512]⟩
abbrev S1x256x512 : Shape := ⟨3, ![1, 256, 512]⟩
abbrev S1x512 : Shape := ⟨2, ![1, 512]⟩
abbrev S128x512 : Shape := ⟨2, ![128, 512]⟩
abbrev S256x512 : Shape := ⟨2, ![256, 512]⟩
abbrev S256x4x512 : Shape := ⟨3, ![256, 4, 512]⟩
abbrev S256x32x64 : Shape := ⟨3, ![256, 32, 64]⟩

abbrev nBuf : Space → Nat
  | .hbm => 84
  | .vmem => 22
  | .smem => 0
  | _ => 0

abbrev bufTy : (tb : Table) → Fin (tcTables nBuf tb) → BufTy
  | .hbm, ⟨0, _⟩ => ⟨S32, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S4x1x512, .f32⟩
  | .hbm, ⟨6, _⟩ => ⟨S4x1x512, .f32⟩
  | .hbm, ⟨7, _⟩ => ⟨S32x64, .f32⟩
  | .hbm, ⟨8, _⟩ => ⟨S2048, .f32⟩
  | .hbm, ⟨9, _⟩ => ⟨S4x1x512, .f32⟩
  | .hbm, ⟨10, _⟩ => ⟨S32x16x64, .f32⟩
  | .hbm, ⟨11, _⟩ => ⟨S4x8x16x64, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S4x8x16x1x64, .f32⟩
  | .hbm, ⟨20, _⟩ => ⟨S8x1x8x1, .f32⟩
  | .hbm, ⟨21, _⟩ => ⟨S1x8x1x8x1, .f32⟩
  | .hbm, ⟨22, _⟩ => ⟨S4x8x16x8x64, .f32⟩
  | .hbm, ⟨23, _⟩ => ⟨S4x8x16x8x64, .f32⟩
  | .hbm, ⟨24, _⟩ => ⟨S4x8x16x8x64, .f32⟩
  | .hbm, ⟨25, _⟩ => ⟨S4x128x512, .f32⟩
  | .hbm, ⟨26, _⟩ => ⟨S32x16x64, .f32⟩
  | .hbm, ⟨27, _⟩ => ⟨S4x8x16x64, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S4x8x16x1x64, .f32⟩
  | .hbm, ⟨36, _⟩ => ⟨S8x1x8x1, .f32⟩
  | .hbm, ⟨37, _⟩ => ⟨S1x8x1x8x1, .f32⟩
  | .hbm, ⟨38, _⟩ => ⟨S4x8x16x8x64, .f32⟩
  | .hbm, ⟨39, _⟩ => ⟨S4x8x16x8x64, .f32⟩
  | .hbm, ⟨40, _⟩ => ⟨S4x8x16x8x64, .f32⟩
  | .hbm, ⟨41, _⟩ => ⟨S4x128x512, .f32⟩
  | .hbm, ⟨42, _⟩ => ⟨S4x1x512, .f32⟩
  | .hbm, ⟨43, _⟩ => ⟨S4x1x512, .f32⟩
  | .hbm, ⟨44, _⟩ => ⟨S4x128x512, .f32⟩
  | .hbm, ⟨45, _⟩ => ⟨S4x128x512, .f32⟩
  | .hbm, ⟨46, _⟩ => ⟨S4x256x512, .f32⟩
  | .hbm, ⟨47, _⟩ => ⟨S4x256x512, .f32⟩
  | .hbm, ⟨48, _⟩ => ⟨S32x64, .f32⟩
  | .hbm, ⟨49, _⟩ => ⟨S32x64, .f32⟩
  | .hbm, ⟨50, _⟩ => ⟨S4x8x16x8x64, .f32⟩
  | .hbm, ⟨51, _⟩ => ⟨S8x8, .i32⟩
  | .hbm, ⟨52, _⟩ => ⟨S8x8, .i32⟩
  | .hbm, ⟨53, _⟩ => ⟨S_, .i32⟩
  | .hbm, ⟨54, _⟩ => ⟨S8x8, .i32⟩
  | .hbm, ⟨55, _⟩ => ⟨S8x8, .i32⟩
  | .hbm, ⟨56, _⟩ => ⟨S8x8, .i1⟩
  | .hbm, ⟨57, _⟩ => ⟨S8x8, .f32⟩
  | .hbm, ⟨58, _⟩ => ⟨S1x8x1x8x1, .f32⟩
  | .hbm, ⟨59, _⟩ => ⟨S4x8x16x8x64, .f32⟩
  | .hbm, ⟨60, _⟩ => ⟨S4x8x16x8x64, .f32⟩
  | .hbm, ⟨61, _⟩ => ⟨S_, .f32⟩
  | .hbm, ⟨62, _⟩ => ⟨S4x8x16x64, .f32⟩
  | .hbm, ⟨63, _⟩ => ⟨S32x16x64, .f32⟩
  | .hbm, ⟨64, _⟩ => ⟨S32x64x16, .f32⟩
  | .hbm, ⟨65, _⟩ => ⟨S4x8x16x8x64, .f32⟩
  | .hbm, ⟨66, _⟩ => ⟨S8x8, .i32⟩
  | .hbm, ⟨67, _⟩ => ⟨S8x8, .i32⟩
  | .hbm, ⟨68, _⟩ => ⟨S_, .i32⟩
  | .hbm, ⟨69, _⟩ => ⟨S8x8, .i32⟩
  | .hbm, ⟨70, _⟩ => ⟨S8x8, .i32⟩
  | .hbm, ⟨71, _⟩ => ⟨S8x8, .i1⟩
  | .hbm, ⟨72, _⟩ => ⟨S8x8, .f32⟩
  | .hbm, ⟨73, _⟩ => ⟨S1x8x1x8x1, .f32⟩
  | .hbm, ⟨74, _⟩ => ⟨S4x8x16x8x64, .f32⟩
  | .hbm, ⟨75, _⟩ => ⟨S4x8x16x8x64, .f32⟩
  | .hbm, ⟨76, _⟩ => ⟨S_, .f32⟩
  | .hbm, ⟨77, _⟩ => ⟨S4x8x16x64, .f32⟩
  | .hbm, ⟨78, _⟩ => ⟨S32x16x64, .f32⟩
  | .hbm, ⟨79, _⟩ => ⟨S32x64x16, .f32⟩
  | .hbm, ⟨80, _⟩ => ⟨S256x4x512, .f32⟩
  | .hbm, ⟨81, _⟩ => ⟨S256x32x64, .f32⟩
  | .hbm, ⟨82, _⟩ => ⟨S256x4x512, .f32⟩
  | .hbm, ⟨83, _⟩ => ⟨S256x32x64, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OpsfReferenceIdeal.lean ====
abbrev S32 : Shape := ⟨1, ![32]⟩
abbrev S32x64 : Shape := ⟨2, ![32, 64]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S256 : Shape := ⟨1, ![256]⟩
abbrev S256x1x1 : Shape := ⟨3, ![256, 1, 1]⟩
abbrev S1x32x64 : Shape := ⟨3, ![1, 32, 64]⟩
abbrev S256x32x64 : Shape := ⟨3, ![256, 32, 64]⟩

abbrev nBuf : Space → Nat
  | .hbm => 74
  | .vmem => 0
  | .smem => 0
  | _ => 0

abbrev bufTy : (tb : Table) → Fin (tcTables nBuf tb) → BufTy
  | .hbm, ⟨0, _⟩ => ⟨S32, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64x1, .f32⟩
  | .hbm, ⟨33, _⟩ => ⟨S32x64x16, .f32⟩
  | .hbm, ⟨34, _⟩ => ⟨S32x64x16, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256x1x1, .f32⟩
  | .hbm, ⟨51, _⟩ => ⟨S32x64, .f32⟩
  | .hbm, ⟨52, _⟩ => ⟨S32x64, .f32⟩
  | .hbm, ⟨53, _⟩ => ⟨S1x32x64, .f32⟩
  | .hbm, ⟨54, _⟩ => ⟨S256x32x64, .f32⟩
  | .hbm, ⟨55, _⟩ => ⟨S256x32x64, .f32⟩
  | .hbm, ⟨56, _⟩ => ⟨S256x32x64, .f32⟩
  | .hbm, ⟨57, _⟩ => ⟨S256x32x64, .f32⟩
  | .hbm, ⟨58, _⟩ => ⟨S32x64, .f32⟩
  | .hbm, ⟨59, _⟩ => ⟨S32x64, .f32⟩
  | .hbm, ⟨60, _⟩ => ⟨S1x32x64, .f32⟩
  | .hbm, ⟨61, _⟩ => ⟨S256x32x64, .f32⟩
  | .hbm, ⟨62, _⟩ => ⟨S256x32x64, .f32⟩
  | .hbm, ⟨63, _⟩ => ⟨S256x32x64, .f32⟩
  | .hbm, ⟨64, _⟩ => ⟨S256x32x64, .f32⟩
  | .hbm, ⟨65, _⟩ => ⟨S256x32x64, .f32⟩
  | .hbm, ⟨66, _⟩ => ⟨S32x64, .f32⟩
  | .hbm, ⟨67, _⟩ => ⟨S32x64, .f32⟩
  | .hbm, ⟨68, _⟩ => ⟨S1x32x64, .f32⟩
  | .hbm, ⟨69, _⟩ => ⟨S256x32x64, .f32⟩
  | .hbm, ⟨70, _⟩ => ⟨S256x32x64, .f32⟩
  | .hbm, ⟨71, _⟩ => ⟨S256x32x64, .f32⟩
  | .hbm, ⟨72, _⟩ => ⟨S256x32x64, .f32⟩
  | .hbm, ⟨73, _⟩ => ⟨S256x32x64, .f32⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_0 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩

abbrev nD : Nat := 1
abbrev τ : Topo := Topo.v7x

variable {F : FTy → Type} [FloatOps F]
-- ==== Proof.Rows.lean ====
module
public import Idealize.ShloMosaic.Lib.Pipeline.ValueKit
@[expose] public section
set_option maxRecDepth 16384
noncomputable section
open Idealize.ShloMosaic
/-! The root mean square norm of a row of 1024 numbers and its derivative, over the extended reals. -/
namespace Cert.Rows
/-- The row length 1024, as the constant the programs divide by. -/
abbrev len : EReal := Ideal.ofBits .f32 0x44800000#32
/-- One half. -/
abbrev half : EReal := Ideal.ofBits .f32 0x3F000000#32
/-- The mean square of a row plus the small constant under the root. -/
def msq (x : Fin 1024 → EReal) : EReal :=
  Ideal.div (∑ k, x k * x k) len + Ideal.ofBits .f32 0x358637BD#32
/-- The reciprocal root of `msq`. -/
def rinv (x : Fin 1024 → EReal) : EReal := Ideal.rsqrt (msq x)
/-- The derivative of the reciprocal root at `msq`. -/
def dinv (x : Fin 1024 → EReal) : EReal :=
  Ideal.ofBits .f32 0xBF000000#32 * Ideal.div (rinv x) (msq x)
/-- The normalised row times the gain. -/
def rms (x g : Fin 1024 → EReal) (k : Fin 1024) : EReal := x k * rinv x * g k
/-- What the mean square hands back to each entry, for a cotangent `e` of the normalised row. -/
def pull (x e : Fin 1024 → EReal) : EReal := Ideal.div ((∑ k, x k * e k) * dinv x) len
/-- The derivative with respect to the row, for a cotangent `e` of the normalised row. -/
def dRow (x e : Fin 1024 → EReal) (k : Fin 1024) : EReal :=
  e k * rinv x + x k * pull x e + pull x e * x k
/-- One row's share of the derivative with respect to the gain. -/
def dGain (x d : Fin 1024 → EReal) (k : Fin 1024) : EReal := x k * rinv x * d k
theorem half_eq : half = ((1 / 2 : ℝ) : EReal) := by
  simp [half, Ideal.ofBits, Ideal.ieee, -EReal.coe_mul]; norm_num
theorem two_eq : Ideal.ofBits .f32 0x40000000#32 = ((2 : ℝ) : EReal) := by
  simp [Ideal.ofBits, Ideal.ieee, -EReal.coe_mul]; norm_num
/-- A nonnegative finite factor goes through a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h, ← ih]
    exact EReal.left_distrib_of_nonneg_of_ne_top (by exact_mod_cast hc) (EReal.coe_ne_top c) _ _
/-- Twice a number is its sum with itself. -/
theorem two_mul_eq (x : EReal) : ((2 : ℝ) : EReal) * x = x + x := by
  have : ((2 : ℝ) : EReal) = 1 + 1 := by norm_cast
  rw [this, EReal.right_distrib_of_nonneg (by norm_num) (by norm_num), one_mul]
end Cert.Rows
-- ==== Proof.Norm.lean ====
module
public import proofs.«01_k».proof.Defs
public import proofs.«01_k».proof.Proof.Rows
public import proofs.«01_k».proof.Proof.Gen.NormKernelIdeal.Value
public import proofs.«01_k».proof.Proof.Gen.NormReferenceIdeal.Read
@[expose] public section
set_option maxRecDepth 16384
noncomputable section
open Idealize.ShloMosaic Idealize.ShloMosaic.TcCoe Idealize.SL.Sem
open Cert.Rows
/-! The gradient of a norm whose cotangent is the sum of eleven parts, added to the residual stream's. -/
namespace Cert.Norm
/-- A sum of eleven terms, from left to right. -/
theorem sum11 (f : Fin 11 → EReal) : ∑ p, f p = f 0 + f 1 + f 2 + f 3 + f 4 + f 5 + f 6 + f 7 + f 8 + f 9 + f 10 := by
  simp only [Fin.sum_univ_castSucc, Fin.sum_univ_zero, zero_add]
  rfl
/-- The gradient of the rows of `x`, added to `b`. -/
def rowsV (x b : FVec Ideal ⟨2, ![8192, 1024]⟩ .f32) (g : FVec Ideal ⟨1, ![1024]⟩ .f32) (p : FVec Ideal ⟨3, ![11, 8192, 1024]⟩ .bf16) :
    FVec Ideal ⟨2, ![8192, 1024]⟩ .f32 :=
  fun i => b (ix2 (i 0) (i 1)) + dRow (fun k => x (ix2 (i 0) k)) (fun k => (∑ j : Fin 11, p (ix3 j (i 0) k)) * g (ix1 k)) (i 1)
/-- The gradient of the gain. -/
def gainV (x : FVec Ideal ⟨2, ![8192, 1024]⟩ .f32) (p : FVec Ideal ⟨3, ![11, 8192, 1024]⟩ .bf16) :
    FVec Ideal ⟨2, ![1, 1024]⟩ .f32 :=
  fun i => ∑ a : Fin 8192, dGain (fun k => x (ix2 a k)) (fun k => ∑ j : Fin 11, p (ix3 j a k)) (i 1)
section
open Cert.NormReferenceIdeal Cert.NormReferenceIdeal.Read
variable (x0 x2 : FVec Ideal S8192x1024 .f32) (x1 : FVec Ideal S1024 .f32) (x3 : FVec Ideal S11x8192x1024 .bf16)
theorem ref_msq (a : Fin 8192) : val_main_v6 (F := Ideal) x0 (ix2 a 0) = msq fun k => x0 (ix2 a k) := by
  pointwise [val_main_v6, val_main_v5, val_main_v4, val_main_v3, val_main_v2, val_main_v1, val_main_v0, val_main_cst, val_main_cst_0, val_main_cst_1, msq]
theorem ref_rinv (a : Fin 8192) : val_main_v7 (F := Ideal) x0 (ix2 a 0) = rinv fun k => x0 (ix2 a k) := by
  pointwise [val_main_v7, ref_msq, rinv]
theorem ref_dinv (a : Fin 8192) : val_main_v10 (F := Ideal) x0 (ix2 a 0) = dinv fun k => x0 (ix2 a k) := by
  pointwise [val_main_v10, val_main_v9, val_main_v8, val_main_cst_2, ref_rinv, ref_msq, dinv]
theorem ref_unit (a : Fin 8192) (k : Fin 1024) : val_main_v12 (F := Ideal) x0 (ix2 a k) = x0 (ix2 a k) * rinv fun k => x0 (ix2 a k) := by
  pointwise [val_main_v12, val_main_v11, ref_rinv]
theorem ref_ct (a : Fin 8192) (k : Fin 1024) : val_main_v17 (F := Ideal) x3 (ix2 a k) = ∑ j : Fin 11, x3 (ix3 j a k) := by
  pointwise [val_main_v17, val_main_v16, val_main_cst_3]
/-- The reference's gradient of the rows. -/
theorem ref_dh (a : Fin 8192) (k : Fin 1024) : val_main_v38 (F := Ideal) x0 x1 x2 x3 (ix2 a k) = rowsV x0 x2 x1 x3 (ix2 a k) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, ref_rinv, ref_ct, val_main_cst_6, val_main_cst_7, val_main_cst_8, rowsV, dRow, pull]
  simp only [Fin.sum_univ_one]
  rw [ref_dinv]
  ac_rfl
/-- The reference's gradient of the gain. -/
theorem ref_gain (k : Fin 1024) : val_main_v39 (F := Ideal) x0 x3 (ix2 0 k) = gainV x0 x3 (ix2 0 k) := by
  pointwise [val_main_v39, val_main_v23, val_main_v20, val_main_v19, val_main_v18, ref_unit, ref_ct, val_main_cst_4, val_main_cst_5, gainV, dGain]
  simp only [Fin.sum_univ_one]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v38) = rowsV (m (c.tc.loc main_arg0)) (m (c.tc.loc main_arg2)) (m (c.tc.loc main_arg1)) (m (c.tc.loc main_arg3))
 ∧ r.2.mem (c.tc.loc main_v39) = gainV (m (c.tc.loc main_arg0)) (m (c.tc.loc main_arg3))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3) :=
  (θ_run defs _ _).mono (fun _ h c => by
    obtain ⟨h1, h2, h3⟩ := h c
    refine ⟨(h1.trans (val_main_v38_eq m c)).trans (funext fun j => ?_), (h2.trans (val_main_v39_eq _ _)).trans (funext fun j => ?_), h3⟩
    · idx_vars j
      exact ref_dh _ _ _ _ j0 j1
    · idx_vars j
      obtain rfl : j0 = 0 := Subsingleton.elim _ _
      exact ref_gain _ _ j1) (Cert.NormReferenceIdeal.Value.run m ρ)
end
section
open Cert.NormKernelIdeal Cert.NormKernelIdeal.Gen
variable (x0 x2 : FVec Ideal S512x1024 .f32) (x1 : FVec Ideal S1x1024 .f32) (p0 p1 p2 p3 p4 p5 p6 p7 p8 p9 p10 : FVec Ideal S1x512x1024 .bf16)
theorem ker_msq (a : Fin 512) : k0_pay14 (F := Ideal) x0 (ix2 a 0) = msq fun k => x0 (ix2 a k) := by
  pointwise [k0_pay14, msq]
theorem ker_rinv (a : Fin 512) : k0_pay15 (F := Ideal) x0 (ix2 a 0) = rinv fun k => x0 (ix2 a k) := by
  pointwise [k0_pay15, ker_msq, rinv]
/-- The cotangent: the parts, from left to right. -/
def cot (a : Fin 512) (k : Fin 1024) : EReal :=
  p0 (ix3 0 a k) + p1 (ix3 0 a k) + p2 (ix3 0 a k) + p3 (ix3 0 a k) + p4 (ix3 0 a k) + p5 (ix3 0 a k) + p6 (ix3 0 a k) + p7 (ix3 0 a k) + p8 (ix3 0 a k) + p9 (ix3 0 a k) + p10 (ix3 0 a k)
theorem ker_ct (a : Fin 512) (k : Fin 1024) : k0_pay13 (F := Ideal) (k0_pay4 p0) (k0_pay5 p1) (k0_pay6 p2) (k0_pay7 p3) (k0_pay8 p4) (k0_pay9 p5) (k0_pay10 p6) (k0_pay11 p7) (k0_pay12 p8) p9 p10 (ix2 a k) = cot p0 p1 p2 p3 p4 p5 p6 p7 p8 p9 p10 a k := by
  pointwise [k0_pay13, k0_pay4, k0_pay5, k0_pay6, k0_pay7, k0_pay8, k0_pay9, k0_pay10, k0_pay11, k0_pay12, cot]
theorem ker_up (a : Fin 512) (k : Fin 1024) : k0_pay17 (F := Ideal) (k0_pay3 x1) (k0_pay4 p0) (k0_pay5 p1) (k0_pay6 p2) (k0_pay7 p3) (k0_pay8 p4) (k0_pay9 p5) (k0_pay10 p6) (k0_pay11 p7) (k0_pay12 p8) p9 p10 (ix2 a k) = cot p0 p1 p2 p3 p4 p5 p6 p7 p8 p9 p10 a k * x1 (ix2 0 k) := by
  pointwise [k0_pay17, k0_pay3, ker_ct]
theorem ker_dh (a : Fin 512) (k : Fin 1024) : k0_pay1 (F := Ideal) x0 x2 (k0_pay18 x0 (k0_pay3 x1) (k0_pay4 p0) (k0_pay5 p1) (k0_pay6 p2) (k0_pay7 p3) (k0_pay8 p4) (k0_pay9 p5) (k0_pay10 p6) (k0_pay11 p7) (k0_pay12 p8) p9 p10)
    (k0_pay19 x0 (k0_pay3 x1) (k0_pay4 p0) (k0_pay5 p1) (k0_pay6 p2) (k0_pay7 p3) (k0_pay8 p4) (k0_pay9 p5) (k0_pay10 p6) (k0_pay11 p7) (k0_pay12 p8) p9 p10) (ix2 a k) =
    x2 (ix2 a k) + dRow (fun k => x0 (ix2 a k)) (fun k => cot p0 p1 p2 p3 p4 p5 p6 p7 p8 p9 p10 a k * x1 (ix2 0 k)) k := by
  pointwise [k0_pay1, k0_pay18, k0_pay19, ker_up, ker_rinv, ker_msq, dRow, pull, dinv]
  simp only [Fin.sum_univ_one]
  rw [ker_rinv, ker_msq]
theorem ker_gain (k : Fin 1024) : k0_pay16 (F := Ideal) x0 (k0_pay4 p0) (k0_pay5 p1) (k0_pay6 p2) (k0_pay7 p3) (k0_pay8 p4) (k0_pay9 p5) (k0_pay10 p6) (k0_pay11 p7) (k0_pay12 p8) p9 p10 (ix2 0 k) =
    ∑ a : Fin 512, dGain (fun k => x0 (ix2 a k)) (cot p0 p1 p2 p3 p4 p5 p6 p7 p8 p9 p10 a) k := by
  pointwise [k0_pay16, ker_rinv, ker_ct, dGain]
variable (m : (ℓ : Loc nD τ sig) → Buf (Elt Ideal) ℓ)
/-- Where the windows stand at a grid point. -/
theorem idx : ∀ t : Fin cfg0.N, win0_0.index t = ![t.val, 0] ∧ win0_1.index t = ![0, 0] ∧ win0_2.index t = ![t.val, 0] ∧
    win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![8, t.val, 0] ∧ win0_12.index t = ![9, t.val, 0] ∧ win0_13.index t = ![10, t.val, 0] ∧
    win0_14.index t = ![t.val, 0] ∧ win0_15.index t = ![0, 0] :=
  (by decide +kernel : ∀ t : Fin grid0.N, _)
/-- The stream, the gain, the residual gradient and the parts of the cotangent. -/
abbrev X (c : Dev nD) : FVec Ideal S8192x1024 .f32 := m ((c : Thread nD τ).loc main_arg0)
abbrev G (c : Dev nD) : FVec Ideal S1024 .f32 := m ((c : Thread nD τ).loc main_arg1)
abbrev B (c : Dev nD) : FVec Ideal S8192x1024 .f32 := m ((c : Thread nD τ).loc main_arg2)
abbrev P (c : Dev nD) : FVec Ideal S11x8192x1024 .bf16 := m ((c : Thread nD τ).loc main_arg3)
theorem lt16 (t : Fin cfg0.N) : t.val < 16 := by have := t.isLt; have : cfg0.N = 16 := N_0; omega
/-- Row `a` of tile `t`. -/
abbrev row (t : Fin cfg0.N) (a : Fin 512) : Fin 8192 := ⟨512 * t.val + a.val, by have := lt16 t; omega⟩
/-- The last grid point. -/
abbrev last : Fin cfg0.N := ⟨15, by decide⟩
/-- The tiles of the arguments. -/
theorem tile_x (c : Dev nD) (t : Fin cfg0.N) (a : Fin 512) (k : Fin 1024) : iblk m c 0 t (ix2 a k) = X m c (ix2 (row t a) k) := by
  blk_point [iblk, V, idx t]
theorem tile_b (c : Dev nD) (t : Fin cfg0.N) (a : Fin 512) (k : Fin 1024) : iblk m c 2 t (ix2 a k) = B m c (ix2 (row t a) k) := by
  blk_point [iblk, V, idx t]
theorem tile_g (c : Dev nD) (t : Fin cfg0.N) (k : Fin 1024) : iblk m c 1 t (ix2 0 k) = G m c (ix1 k) := by
  have e : ((View.whole main_v0).slice (win0_1.rect t)).emb (ix2 0 k) = (ix2 0 k : S1x1024.Idx) := by
    blk_ext [idx t]
  blk_simp [iblk, V, idx t]
  entry_read
  refine (congrArg _ e).trans ?_
  pointwise
theorem tile_p (c : Dev nD) (t : Fin cfg0.N) (a : Fin 512) (k : Fin 1024) :
    cot (iblk m c 3 t) (iblk m c 4 t) (iblk m c 5 t) (iblk m c 6 t) (iblk m c 7 t) (iblk m c 8 t) (iblk m c 9 t) (iblk m c 10 t) (iblk m c 11 t) (iblk m c 12 t) (iblk m c 13 t) a k = ∑ j : Fin 11, P m c (ix3 j (row t a) k) := by
  rw [sum11, cot]
  blk_point [iblk, V, idx t]
/-- The gradient of the rows. -/
theorem final_dh (c : Dev nD) : (dats m 0 c).arrAt 14 cfg0.N = rowsV (X m c) (B m c) (G m c) (P m c) := by
  refine (dats m 0 c).arrAt_eq_of_covers 14 _ (by decide +kernel) fun t hf y => ?_
  idx_vars y
  have e0 : (win0_14.blk t).view.emb (ix2 y0 y1) = ix2 (row t y0) y1 := by
    blk_ext [idx t]
  blk_simp
  rw [after0_14, e0]
  have := lt16 t
  by_cases h : t.val % 16 = 0
  on_goal 1 => rw [outsAt0_A m c t h (by omega)]
  on_goal 2 => rw [outsAt0_B m c t h (by omega)]
  all_goals
    frame_out
    refine (ker_dh _ _ _ _ _ _ _ _ _ _ _ _ _ _ y0 y1).trans ?_
    simp only [tile_x, tile_g, tile_b, tile_p]
    rfl
/-- A sum over the tiles is the sum over the rows. -/
theorem sum_rows (f : Fin 8192 → EReal) : ∑ t : Fin cfg0.N, ∑ a : Fin 512, f (row t a) = ∑ a : Fin 8192, f a := by
  refine Eq.trans ?_ (Fin.sum_univ_tiles 16 512 rfl f).symm
  exact Finset.sum_congr rfl fun t _ => Finset.sum_congr rfl fun a _ => congrArg f (Fin.ext (by
    show 512 * t.val + a.val = t.val * 512 + a.val; omega))
/-- The gradient of the gain. -/
theorem final_gain (c : Dev nD) : (dats m 0 c).arrAt 15 cfg0.N = gainV (X m c) (P m c) := by
  refine (dats m 0 c).arrAt_eq_of_after_last 15 last (by decide +kernel) _ fun j => ?_
  idx_vars j
  obtain rfl : j0 = 0 := Subsingleton.elim _ _
  blk_simp
  have e := Pipeline.eq_sum_fin_of_reset_step_apply_last (M := EReal) (fun n h => (outsAt0 m c n h).2) 16 (fun _ => (0 : EReal))
    (fun t i => ∑ a : Fin 512, dGain (fun k => X m c (ix2 (row t a) k)) (fun k => ∑ j : Fin 11, P m c (ix3 j (row t a) k)) (i 1))
    (fun t h i => by
      have := lt16 t
      idx_vars i
      obtain rfl : i0 = 0 := Subsingleton.elim _ _
      rw [outsAt0_A m c t h (by omega)]
      frame_out
      refine (ker_gain _ _ _ _ _ _ _ _ _ _ _ _ _).trans ?_
      simp only [tile_x, tile_p, zero_add, dGain])
    (fun t h i => by
      have := lt16 t
      idx_vars i
      obtain rfl : i0 = 0 := Subsingleton.elim _ _
      rw [outsAt0_B m c t h (by omega)]
      frame_out
      pointwise [k0_pay2]
      refine congrArg _ ((ker_gain _ _ _ _ _ _ _ _ _ _ _ _ _).trans ?_)
      simp only [tile_x, tile_p, dGain])
    (le_of_eq N_0) last rfl (ix2 0 j1)
  rw [after0_15]
  refine e.trans ?_
  rw [zero_add]
  exact (sum_rows fun a => dGain (fun k => X m c (ix2 a k)) (fun k => ∑ j : Fin 11, P m c (ix3 j a k)) j1)
end
/-- The kernel's gradients of the norm are the reference's. -/
theorem algebraic : Cert.algebraic_NormKernelIdeal_NormReferenceIdeal := by
  pair_intro
  · run_from Cert.NormKernelIdeal.Value.run_blocks m g
  · run_from ref_run m' g'
    · exact (final_dh m c).symm
    · exact (final_gain m c).symm
end Cert.Norm
-- ==== Proof.Loss.lean ====
module
public import proofs.«01_k».proof.Defs
public import proofs.«01_k».proof.Proof.Rows
public import proofs.«01_k».proof.Proof.Gen.LossKernelIdeal.Value
public import proofs.«01_k».proof.Proof.Gen.LossReferenceIdeal.Read
@[expose] public section
set_option maxRecDepth 16384
noncomputable section
open Idealize.ShloMosaic Idealize.ShloMosaic.TcCoe Idealize.SL.Sem
open Cert.Rows
/-! The loss with its two gradients: the kernel's tiles against the whole rows of the reference. -/
namespace Cert.Loss
/-- The error of a row `x` under gain `g` against target `t`. -/
def err (x g t : Fin 1024 → EReal) (k : Fin 1024) : EReal := rms x g k - t k
/-- A row's mean squared error. -/
def cost (x g t : Fin 1024 → EReal) : EReal := Ideal.div (∑ k, err x g t k * err x g t k) len
/-- The loss's derivative with respect to an entry of the error. -/
def ct (x g t : Fin 1024 → EReal) (k : Fin 1024) : EReal :=
  err x g t k * Ideal.div half len + Ideal.div half len * err x g t k
/-- The loss of the rows of `x` under gain `g` against the rows of `t`. -/
def lossV (x t : FVec Ideal ⟨2, ![8192, 1024]⟩ .f32) (g : FVec Ideal ⟨1, ![1024]⟩ .f32) : FVec Ideal ⟨2, ![1, 1]⟩ .f32 :=
  fun _ => half * ∑ a : Fin 8192, cost (fun k => x (ix2 a k)) (fun k => g (ix1 k)) (fun k => t (ix2 a k))
/-- Its gradient with respect to the rows. -/
def rowsV (x t : FVec Ideal ⟨2, ![8192, 1024]⟩ .f32) (g : FVec Ideal ⟨1, ![1024]⟩ .f32) : FVec Ideal ⟨2, ![8192, 1024]⟩ .f32 :=
  fun i => dRow (fun k => x (ix2 (i 0) k))
    (fun k => ct (fun k => x (ix2 (i 0) k)) (fun k => g (ix1 k)) (fun k => t (ix2 (i 0) k)) k * g (ix1 k)) (i 1)
/-- Its gradient with respect to the gain. -/
def gainV (x t : FVec Ideal ⟨2, ![8192, 1024]⟩ .f32) (g : FVec Ideal ⟨1, ![1024]⟩ .f32) : FVec Ideal ⟨2, ![1, 1024]⟩ .f32 :=
  fun i => ∑ a : Fin 8192, dGain (fun k => x (ix2 a k))
    (ct (fun k => x (ix2 a k)) (fun k => g (ix1 k)) (fun k => t (ix2 a k))) (i 1)
section
open Cert.LossReferenceIdeal Cert.LossReferenceIdeal.Read
variable (x0 x2 : FVec Ideal S8192x1024 .f32) (x1 : FVec Ideal S1024 .f32)
theorem ref_msq (a : Fin 8192) : val_main_v6 (F := Ideal) x0 (ix2 a 0) = msq fun k => x0 (ix2 a k) := by
  pointwise [val_main_v6, val_main_v5, val_main_v4, val_main_v3, val_main_v2, val_main_v1, val_main_v0, val_main_cst, val_main_cst_0, val_main_cst_1, msq]
theorem ref_rinv (a : Fin 8192) : val_main_v7 (F := Ideal) x0 (ix2 a 0) = rinv fun k => x0 (ix2 a k) := by
  pointwise [val_main_v7, ref_msq, rinv]
theorem ref_dinv (a : Fin 8192) : val_main_v10 (F := Ideal) x0 (ix2 a 0) = dinv fun k => x0 (ix2 a k) := by
  pointwise [val_main_v10, val_main_v9, val_main_v8, val_main_cst_2, ref_rinv, ref_msq, dinv]
theorem ref_unit (a : Fin 8192) (k : Fin 1024) : val_main_v12 (F := Ideal) x0 (ix2 a k) = x0 (ix2 a k) * rinv fun k => x0 (ix2 a k) := by
  pointwise [val_main_v12, val_main_v11, ref_rinv]
theorem ref_err (a : Fin 8192) (k : Fin 1024) : val_main_v16 (F := Ideal) x0 x1 x2 (ix2 a k) =
    err (fun k => x0 (ix2 a k)) (fun k => x1 (ix1 k)) (fun k => x2 (ix2 a k)) k := by
  pointwise [val_main_v16, val_main_v15, val_main_v14, val_main_v13, ref_unit, err, rms]
/-- The reference's cotangent of the error, `c * (2 * err)`, is the kernel's sum of two products. -/
theorem ref_ct (a : Fin 8192) (k : Fin 1024) : val_main_v30 (F := Ideal) x0 x1 x2 (ix2 a k) =
    ct (fun k => x0 (ix2 a k)) (fun k => x1 (ix1 k)) (fun k => x2 (ix2 a k)) k := by
  pointwise [val_main_v30, val_main_v29, val_main_v28, val_main_v27, val_main_v26, val_main_v25, val_main_v19, val_main_v18, ref_err, val_main_cst_8, val_main_cst_9, val_main_cst_10, val_main_cst_3, ct]
  rw [two_eq, mul_left_comm, two_mul_eq, mul_comm (err _ _ _ _)]
/-- The reference's loss: half the sum of the rows' mean squared errors. -/
theorem ref_loss (j : S_.Idx) : val_main_v24 (F := Ideal) x0 x1 x2 j =
    half * ∑ a : Fin 8192, cost (fun k => x0 (ix2 a k)) (fun k => x1 (ix1 k)) (fun k => x2 (ix2 a k)) := by
  pointwise [val_main_v24, val_main_v23, val_main_v22, val_main_v20, val_main_v21, val_main_v17, ref_err, val_main_cst_4,val_main_cst_5, val_main_cst_6,val_main_cst_7, cost]
/-- The reference's gradient of the rows. -/
theorem ref_dh (a : Fin 8192) (k : Fin 1024) : val_main_v50 (F := Ideal) x0 x1 x2 (ix2 a k) =
    dRow (fun k => x0 (ix2 a k)) (fun k => ct (fun k => x0 (ix2 a k)) (fun k => x1 (ix1 k)) (fun k => x2 (ix2 a k)) k * x1 (ix1 k)) k := by
  pointwise [val_main_v50, val_main_v49,val_main_v48,val_main_v47,val_main_v46,val_main_v45,val_main_v44,val_main_v43,val_main_v42,val_main_v41,val_main_v40,val_main_v39,val_main_v38,val_main_v37,val_main_v35,val_main_v34, ref_rinv, ref_dinv, val_main_v13, val_main_cst_13, val_main_cst_14, val_main_cst_15, ref_ct, dRow, pull]
  simp only [Fin.sum_univ_one]
  rw [ref_dinv]
/-- The reference's gradient of the gain: the sum of the rows' shares. -/
theorem ref_gain (k : Fin 1024) : val_main_v52 (F := Ideal) x0 x1 x2 (ix2 0 k) =
    ∑ a : Fin 8192, dGain (fun k => x0 (ix2 a k)) (ct (fun k => x0 (ix2 a k)) (fun k => x1 (ix1 k)) (fun k => x2 (ix2 a k))) k := by
  pointwise [val_main_v52, val_main_v36, val_main_v33, val_main_v32, val_main_v31, ref_unit, ref_ct, val_main_cst_11, val_main_cst_12, dGain]
  simp only [Fin.sum_univ_one]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v51) = lossV (m (c.tc.loc main_arg0)) (m (c.tc.loc main_arg2)) (m (c.tc.loc main_arg1))
 ∧ r.2.mem (c.tc.loc main_v50) = rowsV (m (c.tc.loc main_arg0)) (m (c.tc.loc main_arg2)) (m (c.tc.loc main_arg1))
 ∧ r.2.mem (c.tc.loc main_v52) = gainV (m (c.tc.loc main_arg0)) (m (c.tc.loc main_arg2)) (m (c.tc.loc main_arg1))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2) :=
  (θ_run defs _ _).mono (fun _ h c => by
    obtain ⟨h1, h2, h3, h4⟩ := h c
    refine ⟨(h1.trans (val_main_v51_eq _ _ _)).trans (funext fun j => ?_), (h2.trans (val_main_v50_eq m c)).trans (funext fun j => ?_),
      (h3.trans (val_main_v52_eq _ _ _)).trans (funext fun j => ?_), h4⟩
    · idx_vars j
      pointwise [val_main_v51, ref_loss]
      rfl
    · idx_vars j
      exact ref_dh _ _ _ j0 j1
    · idx_vars j
      obtain rfl : j0 = 0 := Subsingleton.elim _ _
      exact ref_gain _ _ _ j1) (Cert.LossReferenceIdeal.Value.run m ρ)
end
section
open Cert.LossKernelIdeal Cert.LossKernelIdeal.Gen
variable (x0 x2 : FVec Ideal S512x1024 .f32) (x1 : FVec Ideal S1x1024 .f32)
theorem ker_msq (a : Fin 512) : k0_pay2 (F := Ideal) x0 (ix2 a 0) = msq fun k => x0 (ix2 a k) := by
  pointwise [k0_pay2, msq]
theorem ker_rinv (a : Fin 512) : k0_pay3 (F := Ideal) x0 (ix2 a 0) = rinv fun k => x0 (ix2 a k) := by
  pointwise [k0_pay3, ker_msq, rinv]
theorem ker_dinv (a : Fin 512) : k0_pay4 (F := Ideal) x0 (ix2 a 0) = dinv fun k => x0 (ix2 a k) := by
  pointwise [k0_pay4, ker_msq, ker_rinv, dinv]
theorem ker_unit (a : Fin 512) (k : Fin 1024) : k0_pay5 (F := Ideal) x0 (ix2 a k) = x0 (ix2 a k) * rinv fun k => x0 (ix2 a k) := by
  pointwise [k0_pay5, ker_rinv]
theorem ker_err (a : Fin 512) (k : Fin 1024) : k0_pay6 (F := Ideal) x0 x1 x2 (ix2 a k) =
    err (fun k => x0 (ix2 a k)) (fun k => x1 (ix2 0 k)) (fun k => x2 (ix2 a k)) k := by
  pointwise [k0_pay6, ker_unit, k0_pay1, err, rms]
theorem ker_ct (a : Fin 512) (k : Fin 1024) : k0_pay9 (F := Ideal) (k0_pay6 x0 x1 x2) k0_pay8 (ix2 a k) =
    ct (fun k => x0 (ix2 a k)) (fun k => x1 (ix2 0 k)) (fun k => x2 (ix2 a k)) k := by
  pointwise [k0_pay9, k0_pay8, ker_err, ct]
  simp only [Fin.sum_univ_one]
theorem ker_loss (a b : Fin 1) : k0_pay7 (F := Ideal) x0 x1 x2 (ix2 a b) =
    half * ∑ a : Fin 512, cost (fun k => x0 (ix2 a k)) (fun k => x1 (ix2 0 k)) (fun k => x2 (ix2 a k)) := by
  pointwise [k0_pay7, ker_err, cost]
theorem ker_dh (a : Fin 512) (k : Fin 1024) : k0_pay11 (F := Ideal) x0 (k0_pay1 x1) (k0_pay3 x0) (k0_pay4 x0) (k0_pay6 x0 x1 x2) k0_pay8 (ix2 a k) =
    dRow (fun k => x0 (ix2 a k)) (fun k => ct (fun k => x0 (ix2 a k)) (fun k => x1 (ix2 0 k)) (fun k => x2 (ix2 a k)) k * x1 (ix2 0 k)) k := by
  pointwise [k0_pay11, k0_pay1, ker_rinv, ker_dinv, ker_ct, dRow, pull]
  simp only [Fin.sum_univ_one]
  rw [ker_dinv]
theorem ker_gain (k : Fin 1024) : k0_pay10 (F := Ideal) (k0_pay5 x0) (k0_pay6 x0 x1 x2) k0_pay8 (ix2 0 k) =
    ∑ a : Fin 512, dGain (fun k => x0 (ix2 a k)) (ct (fun k => x0 (ix2 a k)) (fun k => x1 (ix2 0 k)) (fun k => x2 (ix2 a k))) k := by
  pointwise [k0_pay10, ker_unit, ker_ct, dGain]
end
section
open Cert.LossKernelIdeal Cert.LossKernelIdeal.Gen
variable (m : (ℓ : Loc nD τ sig) → Buf (Elt Ideal) ℓ)
/-- Where the windows stand at a grid point. -/
theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![0, 0] :=
  (by decide +kernel : ∀ t : Fin grid0.N, _)
/-- The stream, the gain and the target. -/
abbrev X (c : Dev nD) : FVec Ideal S8192x1024 .f32 := m ((c : Thread nD τ).loc main_arg0)
abbrev G (c : Dev nD) : FVec Ideal S1024 .f32 := m ((c : Thread nD τ).loc main_arg1)
abbrev T (c : Dev nD) : FVec Ideal S8192x1024 .f32 := m ((c : Thread nD τ).loc main_arg2)
/-- Row `a` of the stream. -/
abbrev xs (c : Dev nD) (a : Fin 8192) (k : Fin 1024) : EReal := X m c (ix2 a k)
/-- The gain. -/
abbrev gs (c : Dev nD) (k : Fin 1024) : EReal := G m c (ix1 k)
/-- Row `a` of the target. -/
abbrev ts (c : Dev nD) (a : Fin 8192) (k : Fin 1024) : EReal := T m c (ix2 a k)
theorem lt16 (t : Fin cfg0.N) : t.val < 16 := by have := t.isLt; have : cfg0.N = 16 := N_0; omega
/-- Row `a` of tile `t`. -/
abbrev row (t : Fin cfg0.N) (a : Fin 512) : Fin 8192 := ⟨512 * t.val + a.val, by have := lt16 t; omega⟩
/-- The last grid point. -/
abbrev last : Fin cfg0.N := ⟨15, by decide⟩
/-- A tile of the stream. -/
theorem tile_x (c : Dev nD) (t : Fin cfg0.N) (a : Fin 512) (k : Fin 1024) :
    iblk m c 0 t (ix2 a k) = xs m c (row t a) k := by
  blk_point [iblk, V, idx t]
/-- A tile of the target. -/
theorem tile_t (c : Dev nD) (t : Fin cfg0.N) (a : Fin 512) (k : Fin 1024) :
    iblk m c 2 t (ix2 a k) = ts m c (row t a) k := by
  blk_point [iblk, V, idx t]
/-- The gain, the same at every grid point. -/
theorem tile_g (c : Dev nD) (t : Fin cfg0.N) (k : Fin 1024) : iblk m c 1 t (ix2 0 k) = gs m c k := by
  have e : ((View.whole main_v0).slice (win0_1.rect t)).emb (ix2 0 k) = (ix2 0 k : S1x1024.Idx) := by
    blk_ext [idx t]
  blk_simp [iblk, V, idx t]
  entry_read
  refine (congrArg _ e).trans ?_
  pointwise
/-- What a grid point writes of the gradient of the rows. -/
theorem tile_dh (c : Dev nD) (t : Fin cfg0.N) (a : Fin 512) (k : Fin 1024) :
    (outsAt0 m c t.val t.isLt).2.1 (ix2 a k) =
      dRow (fun k => iblk m c 0 t (ix2 a k)) (fun k => ct (fun k => iblk m c 0 t (ix2 a k)) (fun k => iblk m c 1 t (ix2 0 k)) (fun k => iblk m c 2 t (ix2 a k)) k * (show EReal from iblk m c 1 t (ix2 0 k))) k := by
  have := lt16 t
  by_cases h : t.val % 16 = 0
  · rw [outsAt0_A m c t h (by omega) h (by omega)]
    frame_out
    exact ker_dh _ _ _ a k
  · rw [outsAt0_B m c t h (by omega) h (by omega)]
    frame_out
    exact ker_dh _ _ _ a k
/-- The gradient of the rows. -/
theorem final_dh (c : Dev nD) : (dats m 0 c).arrAt 4 cfg0.N = rowsV (X m c) (T m c) (G m c) := by
  refine (dats m 0 c).arrAt_eq_of_covers 4 _ (by decide +kernel) fun t hf y => ?_
  idx_vars y
  have e0 : (win0_4.blk t).view.emb (ix2 y0 y1) = ix2 (row t y0) y1 := by
    blk_ext [idx t]
  blk_simp
  rw [after0_4, e0]
  refine (tile_dh m c t y0 y1).trans ?_
  simp only [tile_x, tile_g, tile_t]
  rfl
/-- A sum over the tiles is the sum over the rows. -/
theorem sum_rows (f : Fin 8192 → EReal) : ∑ t : Fin cfg0.N, ∑ a : Fin 512, f (row t a) = ∑ a : Fin 8192, f a := by
  refine Eq.trans ?_ (Fin.sum_univ_tiles 16 512 rfl f).symm
  exact Finset.sum_congr rfl fun t _ => Finset.sum_congr rfl fun a _ => congrArg f (Fin.ext (by
    show 512 * t.val + a.val = t.val * 512 + a.val; omega))
/-- The loss. -/
theorem final_loss (c : Dev nD) : (dats m 0 c).arrAt 3 cfg0.N = lossV (X m c) (T m c) (G m c) := by
  refine (dats m 0 c).arrAt_eq_of_after_last 3 last (by decide +kernel) _ fun j => ?_
  idx_vars j
  blk_simp
  have e := Pipeline.eq_sum_fin_of_reset_step_apply_last (M := EReal) (fun n h => (outsAt0 m c n h).1) 16 (fun _ => (0 : EReal))
    (fun t _ => half * ∑ a : Fin 512, cost (xs m c (row t a)) (gs m c) (ts m c (row t a)))
    (fun t h i => by
      have := lt16 t
      idx_vars i
      rw [outsAt0_A m c t h (by omega) h (by omega)]
      frame_out
      refine (ker_loss _ _ _ _ _).trans ?_
      simp only [tile_x, tile_g, tile_t, zero_add])
    (fun t h i => by
      have := lt16 t
      idx_vars i
      rw [outsAt0_B m c t h (by omega) h (by omega)]
      frame_out
      pointwise [k0_pay12]
      refine congrArg _ ((ker_loss _ _ _ _ _).trans ?_)
      simp only [tile_x, tile_g, tile_t])
    (le_of_eq N_0) last rfl (ix2 j0 j1)
  rw [after0_3]
  refine e.trans ?_
  rw [zero_add]
  show _ = half * ∑ a : Fin 8192, cost (xs m c a) (gs m c) (ts m c a)
  rw [← sum_rows, half_eq, coe_mul_sum _ _ (by norm_num)]
/-- The gradient of the gain. -/
theorem final_gain (c : Dev nD) : (dats m 0 c).arrAt 5 cfg0.N = gainV (X m c) (T m c) (G m c) := by
  refine (dats m 0 c).arrAt_eq_of_after_last 5 last (by decide +kernel) _ fun j => ?_
  idx_vars j
  obtain rfl : j0 = 0 := Subsingleton.elim _ _
  blk_simp
  have e := Pipeline.eq_sum_fin_of_reset_step_apply_last (M := EReal) (fun n h => (outsAt0 m c n h).2.2) 16 (fun _ => (0 : EReal))
    (fun t i => ∑ a : Fin 512, dGain (xs m c (row t a)) (ct (xs m c (row t a)) (gs m c) (ts m c (row t a))) (i 1))
    (fun t h i => by
      have := lt16 t
      idx_vars i
      obtain rfl : i0 = 0 := Subsingleton.elim _ _
      rw [outsAt0_A m c t h (by omega) h (by omega)]
      frame_out
      refine (ker_gain _ _ _ _).trans ?_
      simp only [tile_x, tile_g, tile_t, zero_add])
    (fun t h i => by
      have := lt16 t
      idx_vars i
      obtain rfl : i0 = 0 := Subsingleton.elim _ _
      rw [outsAt0_B m c t h (by omega) h (by omega)]
      frame_out
      pointwise [k0_pay13]
      refine congrArg _ ((ker_gain _ _ _ _).trans ?_)
      simp only [tile_x, tile_g, tile_t])
    (le_of_eq N_0) last rfl (ix2 0 j1)
  rw [after0_5]
  refine e.trans ?_
  rw [zero_add]
  exact (sum_rows fun a => dGain (xs m c a) (ct (xs m c a) (gs m c) (ts m c a)) j1)
end
/-- The kernel's loss and gradients are the reference's. -/
theorem algebraic : Cert.algebraic_LossKernelIdeal_LossReferenceIdeal := by
  pair_intro
  · run_from Cert.LossKernelIdeal.Value.run_blocks m g
  · run_from ref_run m' g'
    · exact (final_loss m c).symm
    · exact (final_dh m c).symm
    · exact (final_gain m c).symm
end Cert.Loss
-- ==== Proof.Powers.lean ====
module
public import Idealize.ShloMosaic.Lib.Pipeline.ValueKit
public import Mathlib.Analysis.Complex.Trigonometric
@[expose] public section
set_option maxRecDepth 16384
noncomputable section
open ComplexConjugate
/-! The first 256 powers of a complex number by doubling, and the derivative of that doubling. -/
namespace Cert.Powers
/-- A column of 256 complex numbers. -/
abbrev Col := Fin 256 → ℂ
/-- The column moved down by `k`, ones filled in. -/
def sh (k : ℕ) (p : Col) : Col := fun t => if k ≤ t.val then p ⟨t.val - k, by omega⟩ else 1
/-- The column moved up by `k`, zeros filled in. -/
def up (k : ℕ) (p : Col) : Col := fun t => if h : t.val + k < 256 then p ⟨t.val + k, h⟩ else 0
/-- One doubling: the column times itself moved down. -/
def sq (k : ℕ) (p : Col) : Col := fun t => p t * sh k p t
/-- The derivative of one doubling at `p`, for a cotangent `γ`. -/
def back (k : ℕ) (p γ : Col) : Col := fun t => γ t * conj (sh k p t) + up k (fun t => conj (p t) * γ t) t
/-- The powers of `a` up to the `n`-th, the last one repeated. -/
def pw (a : ℂ) (n : ℕ) : Col := fun t => a ^ min (t.val + 1) n
theorem sq_pw (a : ℂ) (n : ℕ) : sq n (pw a n) = pw a (2 * n) := by
  funext t
  unfold sq sh pw
  split_ifs with h
  · rw [← pow_add]; congr 1
    show min (t.val + 1) n + min (t.val - n + 1) n = _
    omega
  · rw [mul_one]; congr 1; omega
/-- Moving a column up against another is moving the other down against it. -/
theorem sum_up (k : ℕ) (f g : Col) : ∑ t, up k f t * g t = ∑ t : Fin 256, f t * (if k ≤ t.val then g ⟨t.val - k, by omega⟩ else 0) := by
  have h1 (t : Fin 256) : up k f t * g t = ∑ u : Fin 256, if u.val = t.val + k then f u * g t else 0 := by
    unfold up
    split_ifs with h
    · rw [Finset.sum_eq_single ⟨t.val + k, h⟩ (fun u _ hu => if_neg fun e => hu (Fin.ext e)) (fun e => absurd (Finset.mem_univ _) e)]
      simp
    · rw [zero_mul, Finset.sum_eq_zero]
      exact fun u _ => if_neg (by omega)
  have h2 (u : Fin 256) : f u * (if k ≤ u.val then g ⟨u.val - k, by omega⟩ else 0) = ∑ t : Fin 256, if u.val = t.val + k then f u * g t else 0 := by
    split_ifs with h
    · rw [Finset.sum_eq_single ⟨u.val - k, by omega⟩ (fun t _ ht => if_neg fun e => ht (Fin.ext (by show t.val = u.val - k; omega))) (fun e => absurd (Finset.mem_univ _) e)]
      exact (if_pos (by show u.val = u.val - k + k; omega)).symm
    · rw [mul_zero, Finset.sum_eq_zero]
      exact fun t _ => if_neg (by omega)
  simp only [h1, h2]
  exact Finset.sum_comm
/-- Undoing one doubling keeps the sum of cotangents against the powers with their exponents. -/
theorem sum_back (a : ℂ) (n : ℕ) (γ : Col) :
    ∑ t : Fin 256, back n (pw a n) γ t * (((min (t.val + 1) n : ℕ) : ℂ) * conj (pw a n t)) =
      ∑ t : Fin 256, γ t * (((min (t.val + 1) (2 * n) : ℕ) : ℂ) * conj (pw a (2 * n) t)) := by
  simp only [back, add_mul, Finset.sum_add_distrib]
  rw [sum_up, ← Finset.sum_add_distrib]
  refine Finset.sum_congr rfl fun t _ => ?_
  rw [← sq_pw]
  unfold sq sh
  split_ifs with h
  · have e : min (t.val + 1) (2 * n) = min (t.val + 1) n + min (t.val - n + 1) n := by omega
    simp only [e, Nat.cast_add, map_mul]
    ring
  · have e : min (t.val + 1) (2 * n) = min (t.val + 1) n := by omega
    simp only [e, map_mul, map_one]
    ring
/-- The derivatives of the eight doublings that make 256 powers, from the last to the first. -/
def chain (a : ℂ) (γ : Col) : Col :=
  back 1 (pw a 1) (back 2 (pw a 2) (back 4 (pw a 4) (back 8 (pw a 8) (back 16 (pw a 16) (back 32 (pw a 32)
    (back 64 (pw a 64) (back 128 (pw a 128) γ)))))))
theorem chain_eq (a : ℂ) (γ : Col) :
    (∑ t, chain a γ t) * conj a = ∑ t : Fin 256, γ t * (((t.val + 1 : ℕ) : ℂ) * conj (a ^ (t.val + 1))) := by
  have h := sum_back a 1 (back 2 (pw a 2) (back 4 (pw a 4) (back 8 (pw a 8) (back 16 (pw a 16) (back 32 (pw a 32)
    (back 64 (pw a 64) (back 128 (pw a 128) γ)))))))
  rw [sum_back a 2, sum_back a 4, sum_back a 8, sum_back a 16, sum_back a 32, sum_back a 64, sum_back a 128] at h
  rw [Finset.sum_mul]
  refine Eq.trans (Finset.sum_congr rfl fun t _ => ?_) (h.trans (Finset.sum_congr rfl fun t _ => ?_))
  · have e : min (t.val + 1) 1 = 1 := by omega
    simp only [pw, e, chain, pow_one, Nat.cast_one, one_mul]
  · have e : min (t.val + 1) (2 * 128) = t.val + 1 := by omega
    simp only [pw, e]
theorem polar_pow (x y : ℝ) (n : ℕ) : (⟨Real.exp x * Real.cos y, Real.exp x * Real.sin y⟩ : ℂ) ^ n =
    ⟨Real.exp (n * x) * Real.cos (n * y), Real.exp (n * x) * Real.sin (n * y)⟩ := by
  have h (x y : ℝ) : (⟨Real.exp x * Real.cos y, Real.exp x * Real.sin y⟩ : ℂ) = Complex.exp ⟨x, y⟩ := by
    apply Complex.ext <;> simp [Complex.exp_re, Complex.exp_im]
  rw [h, h, ← Complex.exp_nat_mul]
  congr 1
  apply Complex.ext <;> simp
/-- The derivative with respect to the logarithm of the modulus and to the angle, of the powers in polar form: the
    doublings' derivative, turned. -/
theorem chain_polar (x y : ℝ) (gr gi : Fin 256 → ℝ) :
    let C := ∑ t, chain ⟨Real.exp x * Real.cos y, Real.exp x * Real.sin y⟩ (fun t => ⟨gr t, gi t⟩) t
    Real.exp x * (C.re * Real.cos y + C.im * Real.sin y) =
      ∑ t : Fin 256, ((t.val + 1 : ℕ) : ℝ) * (Real.exp ((t.val + 1 : ℕ) * x) * (gr t * Real.cos ((t.val + 1 : ℕ) * y) + gi t * Real.sin ((t.val + 1 : ℕ) * y))) ∧
    Real.exp x * (C.im * Real.cos y - C.re * Real.sin y) =
      ∑ t : Fin 256, ((t.val + 1 : ℕ) : ℝ) * (Real.exp ((t.val + 1 : ℕ) * x) * (gi t * Real.cos ((t.val + 1 : ℕ) * y) - gr t * Real.sin ((t.val + 1 : ℕ) * y))) := by
  intro C
  have h := chain_eq ⟨Real.exp x * Real.cos y, Real.exp x * Real.sin y⟩ (fun t => ⟨gr t, gi t⟩)
  simp only [polar_pow] at h
  constructor
  · have hr := congrArg Complex.re h
    rw [Complex.re_sum] at hr
    simp only [Complex.mul_re, Complex.mul_im, Complex.conj_re, Complex.conj_im, Complex.natCast_re, Complex.natCast_im] at hr
    refine Eq.trans ?_ (hr.trans (Finset.sum_congr rfl fun t _ => ?_))
    · show _ = C.re * _ - C.im * _; ring
    · ring
  · have hr := congrArg Complex.im h
    rw [Complex.im_sum] at hr
    simp only [Complex.mul_re, Complex.mul_im, Complex.conj_re, Complex.conj_im, Complex.natCast_re, Complex.natCast_im] at hr
    refine Eq.trans ?_ (hr.trans (Finset.sum_congr rfl fun t _ => ?_))
    · show _ = C.re * _ + C.im * _; ring
    · ring
end Cert.Powers
-- ==== Proof.OpsRef.lean ====
module
public import proofs.«01_k».proof.Defs
public import Idealize.ShloMosaic.Lib.KernelVsHost
public import proofs.«01_k».proof.Proof.Rows
public import proofs.«01_k».proof.Proof.Gen.OpsReferenceIdeal.Read
@[expose] public section
set_option maxRecDepth 16384
noncomputable section
open Idealize.ShloMosaic Idealize.ShloMosaic.TcCoe Idealize.SL.Sem
open Cert.Rows
/-! The gradient of the discretised step: the derivative of the lines that build it, and the reference. -/
namespace Cert.Ops
/-! The derivative of one state's discretisation. `s` is the logarithm of its step, `r` and `i` its continuous pole, `cr` and
`ci` the cotangent of its decay, `fr'` and `fi'` that of its input factor, `gr` and `gi` that of its decay's powers. -/
section
abbrev one : EReal := Ideal.ofBits .f32 0x3F800000#32
/-- The step. -/
def stp (s : EReal) : EReal := Ideal.exp s
/-- The decay: its modulus, the cosine and sine of its angle, its two parts. -/
def mag (s r : EReal) : EReal := Ideal.exp (r * stp s)
def cs (s i : EReal) : EReal := Ideal.cos (i * stp s)
def sn (s i : EReal) : EReal := Ideal.sin (i * stp s)
def abr (s r i : EReal) : EReal := mag s r * cs s i
def abi (s r i : EReal) : EReal := mag s r * sn s i
/-- The pole's square, the input factor's numerators, the input factor. -/
def den (r i : EReal) : EReal := r * r + i * i
def numr (s r i : EReal) : EReal := (abr s r i - one) * r + abi s r i * i
def numi (s r i : EReal) : EReal := abi s r i * r - (abr s r i - one) * i
def fr (s r i : EReal) : EReal := Ideal.div (numr s r i) (den r i)
def fi (s r i : EReal) : EReal := Ideal.div (numi s r i) (den r i)
def inv (r i : EReal) : EReal := Ideal.div one (den r i * den r i)
/-- The cotangent of the pole's square. -/
def dden (s r i fr' fi' : EReal) : EReal := -(fi' * inv r i * numi s r i) + -(fr' * inv r i * numr s r i)
/-- The cotangent of a numerator. -/
def e (r i f' : EReal) : EReal := Ideal.div f' (den r i)
/-- The cotangent of the decay's two parts, without the powers. -/
def dabr (r i cr fr' fi' : EReal) : EReal := cr + -(e r i fi') * i + e r i fr' * r
def dabi (r i ci fr' fi' : EReal) : EReal := ci + e r i fi' * r + e r i fr' * i
/-- The cotangent of the decay's angle, in two terms, and of its modulus' logarithm. -/
def ang1 (s r i b : EReal) : EReal := mag s r * b * cs s i
def ang2 (s r i a : EReal) : EReal := -(mag s r * a) * sn s i
def lmod (s r i a b : EReal) : EReal := (b * sn s i + a * cs s i) * mag s r
/-- The exponent of the `t`-th power. -/
def nn (t : Fin 256) : EReal := one + FloatOps.sitofp (F := Ideal) FTy.f32 (BitVec.ofNat 32 t.val)
/-- The same cotangents, from the powers. -/
def s1 (s r i : EReal) (gi : Fin 256 → EReal) : EReal :=
  ∑ t, nn t * (Ideal.exp (nn t * (r * stp s)) * gi t * Ideal.cos (nn t * (i * stp s)))
def s2 (s r i : EReal) (gr : Fin 256 → EReal) : EReal :=
  ∑ t, nn t * (-(Ideal.exp (nn t * (r * stp s)) * gr t) * Ideal.sin (nn t * (i * stp s)))
def s3 (s r i : EReal) (gr gi : Fin 256 → EReal) : EReal :=
  ∑ t, nn t * ((gi t * Ideal.sin (nn t * (i * stp s)) + gr t * Ideal.cos (nn t * (i * stp s))) * Ideal.exp (nn t * (r * stp s)))
end
open Cert.OpsReferenceIdeal in
/-- The cotangent of the input factor: the products with the input matrix of head `h`, summed over its inputs. -/
def dfi (x3 x4 x7 x8 : FVec Ideal S32x64x16 .f32) (h : Fin 32) (k : Fin 64) : EReal :=
  ∑ c : Fin 16, x8 (ix3 h k c) * x3 (ix3 h k c) + ∑ c : Fin 16, -x7 (ix3 h k c) * x4 (ix3 h k c)
open Cert.OpsReferenceIdeal in
def dfr (x3 x4 x7 x8 : FVec Ideal S32x64x16 .f32) (h : Fin 32) (k : Fin 64) : EReal :=
  ∑ c : Fin 16, x8 (ix3 h k c) * x4 (ix3 h k c) + ∑ c : Fin 16, x7 (ix3 h k c) * x3 (ix3 h k c)
/-! The five gradients of the discretisation: by the pole's two parts, the logarithm of the step, the input matrix's two parts. -/
section
open Cert.OpsReferenceIdeal
variable (x0 : FVec Ideal S32 .f32) (x1 x2 x5 x6 : FVec Ideal S32x64 .f32) (x3 x4 x7 x8 : FVec Ideal S32x64x16 .f32)
  (x9 x10 : FVec Ideal S256x32x64 .f32)
/-- The cotangents of the decay at head `h`, state `k`. -/
def cb (h : Fin 32) (k : Fin 64) : EReal := dabi (x1 (ix2 h k)) (x2 (ix2 h k)) (x6 (ix2 h k)) (dfr x3 x4 x7 x8 h k) (dfi x3 x4 x7 x8 h k)
def ca (h : Fin 32) (k : Fin 64) : EReal := dabr (x1 (ix2 h k)) (x2 (ix2 h k)) (x5 (ix2 h k)) (dfr x3 x4 x7 x8 h k) (dfi x3 x4 x7 x8 h k)
def t1 (h : Fin 32) (k : Fin 64) : EReal := ang1 (x0 (ix1 h)) (x1 (ix2 h k)) (x2 (ix2 h k)) (cb x1 x2 x6 x3 x4 x7 x8 h k)
def t2 (h : Fin 32) (k : Fin 64) : EReal := ang2 (x0 (ix1 h)) (x1 (ix2 h k)) (x2 (ix2 h k)) (ca x1 x2 x5 x3 x4 x7 x8 h k)
def t3 (h : Fin 32) (k : Fin 64) : EReal :=
  lmod (x0 (ix1 h)) (x1 (ix2 h k)) (x2 (ix2 h k)) (ca x1 x2 x5 x3 x4 x7 x8 h k) (cb x1 x2 x6 x3 x4 x7 x8 h k)
/-- The powers' terms. -/
def u1 (h : Fin 32) (k : Fin 64) : EReal := s1 (x0 (ix1 h)) (x1 (ix2 h k)) (x2 (ix2 h k)) fun t => x10 (ix3 t h k)
def u2 (h : Fin 32) (k : Fin 64) : EReal := s2 (x0 (ix1 h)) (x1 (ix2 h k)) (x2 (ix2 h k)) fun t => x9 (ix3 t h k)
def u3 (h : Fin 32) (k : Fin 64) : EReal :=
  s3 (x0 (ix1 h)) (x1 (ix2 h k)) (x2 (ix2 h k)) (fun t => x9 (ix3 t h k)) fun t => x10 (ix3 t h k)
/-- What reaches the pole beside the angle's and the modulus' terms. -/
def restr (h : Fin 32) (k : Fin 64) : EReal :=
  abi (x0 (ix1 h)) (x1 (ix2 h k)) (x2 (ix2 h k)) * e (x1 (ix2 h k)) (x2 (ix2 h k)) (dfi x3 x4 x7 x8 h k)
    + (abr (x0 (ix1 h)) (x1 (ix2 h k)) (x2 (ix2 h k)) - one) * e (x1 (ix2 h k)) (x2 (ix2 h k)) (dfr x3 x4 x7 x8 h k)
    + x1 (ix2 h k) * dden (x0 (ix1 h)) (x1 (ix2 h k)) (x2 (ix2 h k)) (dfr x3 x4 x7 x8 h k) (dfi x3 x4 x7 x8 h k)
    + dden (x0 (ix1 h)) (x1 (ix2 h k)) (x2 (ix2 h k)) (dfr x3 x4 x7 x8 h k) (dfi x3 x4 x7 x8 h k) * x1 (ix2 h k)
def resti (h : Fin 32) (k : Fin 64) : EReal :=
  (abr (x0 (ix1 h)) (x1 (ix2 h k)) (x2 (ix2 h k)) - one) * -e (x1 (ix2 h k)) (x2 (ix2 h k)) (dfi x3 x4 x7 x8 h k)
    + abi (x0 (ix1 h)) (x1 (ix2 h k)) (x2 (ix2 h k)) * e (x1 (ix2 h k)) (x2 (ix2 h k)) (dfr x3 x4 x7 x8 h k)
    + x2 (ix2 h k) * dden (x0 (ix1 h)) (x1 (ix2 h k)) (x2 (ix2 h k)) (dfr x3 x4 x7 x8 h k) (dfi x3 x4 x7 x8 h k)
    + dden (x0 (ix1 h)) (x1 (ix2 h k)) (x2 (ix2 h k)) (dfr x3 x4 x7 x8 h k) (dfi x3 x4 x7 x8 h k) * x2 (ix2 h k)
def dAre (h : Fin 32) (k : Fin 64) : EReal :=
  restr x0 x1 x2 x3 x4 x7 x8 h k + (t3 x0 x1 x2 x5 x6 x3 x4 x7 x8 h k * stp (x0 (ix1 h)) + u3 x0 x1 x2 x9 x10 h k * stp (x0 (ix1 h)))
def dAim (h : Fin 32) (k : Fin 64) : EReal :=
  resti x0 x1 x2 x3 x4 x7 x8 h k + (t1 x0 x1 x2 x6 x3 x4 x7 x8 h k * stp (x0 (ix1 h)) + t2 x0 x1 x2 x5 x3 x4 x7 x8 h k * stp (x0 (ix1 h))
    + (u1 x0 x1 x2 x10 h k * stp (x0 (ix1 h)) + u2 x0 x1 x2 x9 h k * stp (x0 (ix1 h))))
def dStep (h : Fin 32) : EReal :=
  (∑ k, x2 (ix2 h k) * t1 x0 x1 x2 x6 x3 x4 x7 x8 h k + ∑ k, x2 (ix2 h k) * t2 x0 x1 x2 x5 x3 x4 x7 x8 h k
    + ∑ k, x1 (ix2 h k) * t3 x0 x1 x2 x5 x6 x3 x4 x7 x8 h k
    + (∑ k, x2 (ix2 h k) * u1 x0 x1 x2 x10 h k + ∑ k, x2 (ix2 h k) * u2 x0 x1 x2 x9 h k + ∑ k, x1 (ix2 h k) * u3 x0 x1 x2 x9 x10 h k))
    * stp (x0 (ix1 h))
def dBre (h : Fin 32) (k : Fin 64) (c : Fin 16) : EReal :=
  fr (x0 (ix1 h)) (x1 (ix2 h k)) (x2 (ix2 h k)) * x7 (ix3 h k c) + fi (x0 (ix1 h)) (x1 (ix2 h k)) (x2 (ix2 h k)) * x8 (ix3 h k c)
def dBim (h : Fin 32) (k : Fin 64) (c : Fin 16) : EReal :=
  fr (x0 (ix1 h)) (x1 (ix2 h k)) (x2 (ix2 h k)) * x8 (ix3 h k c) + fi (x0 (ix1 h)) (x1 (ix2 h k)) (x2 (ix2 h k)) * -x7 (ix3 h k c)
/-- The five arrays. -/
def dStepV : FVec Ideal S32 .f32 := fun j => dStep x0 x1 x2 x5 x6 x3 x4 x7 x8 x9 x10 (j 0)
def dAreV : FVec Ideal S32x64 .f32 := fun j => dAre x0 x1 x2 x5 x6 x3 x4 x7 x8 x9 x10 (j 0) (j 1)
def dAimV : FVec Ideal S32x64 .f32 := fun j => dAim x0 x1 x2 x5 x6 x3 x4 x7 x8 x9 x10 (j 0) (j 1)
def dBreV : FVec Ideal S32x64x16 .f32 := fun j => dBre x0 x1 x2 x7 x8 (j 0) (j 1) (j 2)
def dBimV : FVec Ideal S32x64x16 .f32 := fun j => dBim x0 x1 x2 x7 x8 (j 0) (j 1) (j 2)
end
section
open Cert.OpsReferenceIdeal Cert.OpsReferenceIdeal.Read
variable (x0 : FVec Ideal S32 .f32) (x1 x2 x5 x6 : FVec Ideal S32x64 .f32) (x3 x4 x7 x8 : FVec Ideal S32x64x16 .f32)
  (x9 x10 : FVec Ideal S256x32x64 .f32) (h : Fin 32) (k : Fin 64) (c : Fin 16)
theorem r4 : val_main_v4 (F := Ideal) x0 x1 (ix2 h k) = mag (x0 (ix1 h)) (x1 (ix2 h k)) := by
  pointwise [val_main_v4, val_main_v3, val_main_v2, val_main_v1, val_main_v0, mag, stp]
theorem r7 : val_main_v7 (F := Ideal) x0 x2 (ix2 h k) = cs (x0 (ix1 h)) (x2 (ix2 h k)) := by
  pointwise [val_main_v7, val_main_v6, val_main_v5, val_main_v1, val_main_v0, cs, stp]
theorem r8 : val_main_v8 (F := Ideal) x0 x2 (ix2 h k) = sn (x0 (ix1 h)) (x2 (ix2 h k)) := by
  pointwise [val_main_v8, val_main_v6, val_main_v5, val_main_v1, val_main_v0, sn, stp]
theorem r9 : val_main_v9 (F := Ideal) x0 x1 x2 (ix2 h k) = abr (x0 (ix1 h)) (x1 (ix2 h k)) (x2 (ix2 h k)) := by
  pointwise [val_main_v9, r4, r7, abr]
theorem r14 : val_main_v14 (F := Ideal) x0 x1 x2 (ix2 h k) = abi (x0 (ix1 h)) (x1 (ix2 h k)) (x2 (ix2 h k)) := by
  pointwise [val_main_v14, val_main_v12, val_main_v11, val_main_v10, val_main_v1, val_main_v0, r4, abi, sn, stp]
theorem r17 : val_main_v17 (F := Ideal) x1 x2 (ix2 h k) = den (x1 (ix2 h k)) (x2 (ix2 h k)) := by
  pointwise [val_main_v17, val_main_v15, val_main_v16, den]
theorem r19 : val_main_v19 (F := Ideal) x0 x1 x2 (ix2 h k) = abr (x0 (ix1 h)) (x1 (ix2 h k)) (x2 (ix2 h k)) - one := by
  pointwise [val_main_v19, val_main_v18, val_main_cst, r9]
theorem r22 : val_main_v22 (F := Ideal) x0 x1 x2 (ix2 h k) = numr (x0 (ix1 h)) (x1 (ix2 h k)) (x2 (ix2 h k)) := by
  pointwise [val_main_v22, val_main_v20, val_main_v21, r14, r19, numr]
theorem r29 : val_main_v29 (F := Ideal) x0 x1 x2 (ix2 h k) = numi (x0 (ix1 h)) (x1 (ix2 h k)) (x2 (ix2 h k)) := by
  pointwise [val_main_v29, val_main_v27, val_main_v28, r14, r19, numi]
theorem r23 : val_main_v23 (F := Ideal) x0 x1 x2 (ix2 h k) = fr (x0 (ix1 h)) (x1 (ix2 h k)) (x2 (ix2 h k)) := by
  pointwise [val_main_v23, r17, r22, fr]
theorem r30 : val_main_v30 (F := Ideal) x0 x1 x2 (ix2 h k) = fi (x0 (ix1 h)) (x1 (ix2 h k)) (x2 (ix2 h k)) := by
  pointwise [val_main_v30, r17, r29, fi]
theorem r26 : val_main_v26 (F := Ideal) x1 x2 (ix2 h k) = inv (x1 (ix2 h k)) (x2 (ix2 h k)) := by
  pointwise [val_main_v26, val_main_v25, val_main_cst_0, val_main_v24, r17, inv]
theorem r33 : val_main_v33 (F := Ideal) x1 x2 (ix2 h k) = inv (x1 (ix2 h k)) (x2 (ix2 h k)) := by
  pointwise [val_main_v33, val_main_v32, val_main_cst_1, val_main_v31, r17, inv]
theorem r84 : val_main_v84 (F := Ideal) x0 x1 x2 x10 (ix2 h k) = s1 (x0 (ix1 h)) (x1 (ix2 h k)) (x2 (ix2 h k)) fun t => x10 (ix3 t h k) := by
  pointwise [val_main_v84, val_main_v83, val_main_v82, val_main_v81, val_main_v80, val_main_v51, val_main_v50, val_main_v49, val_main_cst_2, val_main_v48, val_main_v79, val_main_v77, val_main_v58, val_main_v57, val_main_v55, val_main_v56, val_main_v54, val_main_v53, val_main_v52, val_main_v1, val_main_v0, val_main_v75, val_main_v73, val_main_v71, val_main_v72, val_main_v70, val_main_v69, val_main_v68, val_main_cst_3, val_main_cst_4, s1, nn, stp, Fin.sum_univ_one]
theorem r99 : val_main_v99 (F := Ideal) x0 x1 x2 x9 (ix2 h k) = s2 (x0 (ix1 h)) (x1 (ix2 h k)) (x2 (ix2 h k)) fun t => x9 (ix3 t h k) := by
  pointwise [val_main_v99, val_main_v98, val_main_v97, val_main_v96, val_main_v95, val_main_v51, val_main_v50, val_main_v49, val_main_cst_2, val_main_v48, val_main_v94, val_main_v93, val_main_v90, val_main_v58, val_main_v57, val_main_v55, val_main_v56, val_main_v54, val_main_v53, val_main_v52, val_main_v1, val_main_v0, val_main_v66, val_main_v64, val_main_v62, val_main_v63, val_main_v61, val_main_v60, val_main_v59, val_main_cst_6, val_main_cst_7, s2, nn, stp, Fin.sum_univ_one]
theorem r112 : val_main_v112 (F := Ideal) x0 x1 x2 x9 x10 (ix2 h k) = s3 (x0 (ix1 h)) (x1 (ix2 h k)) (x2 (ix2 h k)) (fun t => x9 (ix3 t h k)) fun t => x10 (ix3 t h k) := by
  pointwise [val_main_v112, val_main_v111, val_main_v110, val_main_v109, val_main_v108, val_main_v51, val_main_v50, val_main_v49, val_main_cst_2, val_main_v48, val_main_v107, val_main_v92, val_main_v78, val_main_v74, val_main_v73, val_main_v71, val_main_v72, val_main_v70, val_main_v69, val_main_v68, val_main_v1, val_main_v0, val_main_v91, val_main_v65, val_main_v64, val_main_v62, val_main_v63, val_main_v61, val_main_v60, val_main_v59, val_main_v58, val_main_v57, val_main_v55, val_main_v56, val_main_v54, val_main_v53, val_main_v52, val_main_cst_9, val_main_cst_10, s3, nn, stp, Fin.sum_univ_one]
theorem r142 : val_main_v142 (F := Ideal) x3 x4 x7 x8 (ix2 h k) = dfi x3 x4 x7 x8 h k := by
  pointwise [val_main_v142, val_main_v126, val_main_v125, val_main_v124, val_main_v123, val_main_v120, val_main_cst_12, val_main_cst_13, val_main_v141, val_main_v140, val_main_v139, val_main_v138, val_main_v134, val_main_cst_16, val_main_cst_17, dfi, Fin.sum_univ_one]
theorem r150 : val_main_v150 (F := Ideal) x3 x4 x7 x8 (ix2 h k) = dfr x3 x4 x7 x8 h k := by
  pointwise [val_main_v150, val_main_v132, val_main_v131, val_main_v130, val_main_v129, val_main_v119, val_main_cst_14, val_main_cst_15, val_main_v149, val_main_v148, val_main_v147, val_main_v146, val_main_v133, val_main_cst_18, val_main_cst_19, dfr, Fin.sum_univ_one]
theorem r167 : val_main_v167 (F := Ideal) x0 x1 x2 x3 x4 x7 x8 (ix2 h k) = dden (x0 (ix1 h)) (x1 (ix2 h k)) (x2 (ix2 h k)) (dfr x3 x4 x7 x8 h k) (dfi x3 x4 x7 x8 h k) := by
  pointwise [val_main_v167, val_main_v153, val_main_v152, val_main_v151, val_main_v166, val_main_v165, val_main_v164, r22, r29, r26, r33, r142, r150, dden]
theorem r154 : val_main_v154 (F := Ideal) x1 x2 x3 x4 x7 x8 (ix2 h k) = e (x1 (ix2 h k)) (x2 (ix2 h k)) (dfi x3 x4 x7 x8 h k) := by
  pointwise [val_main_v154, r17, r142, e]
theorem r168 : val_main_v168 (F := Ideal) x1 x2 x3 x4 x7 x8 (ix2 h k) = e (x1 (ix2 h k)) (x2 (ix2 h k)) (dfr x3 x4 x7 x8 h k) := by
  pointwise [val_main_v168, r17, r150, e]
theorem r176 : val_main_v176 (F := Ideal) x1 x2 x3 x4 x5 x7 x8 (ix2 h k) = dabr (x1 (ix2 h k)) (x2 (ix2 h k)) (x5 (ix2 h k)) (dfr x3 x4 x7 x8 h k) (dfi x3 x4 x7 x8 h k) := by
  pointwise [val_main_v176, val_main_v159, val_main_v158, val_main_v155, val_main_v175, r154, r168, dabr]
theorem r172 : val_main_v172 (F := Ideal) x1 x2 x3 x4 x6 x7 x8 (ix2 h k) = dabi (x1 (ix2 h k)) (x2 (ix2 h k)) (x6 (ix2 h k)) (dfr x3 x4 x7 x8 h k) (dfi x3 x4 x7 x8 h k) := by
  pointwise [val_main_v172, val_main_v163, val_main_v162, val_main_v171, r154, r168, dabi]
theorem r187 : val_main_v187 (F := Ideal) x0 x1 x2 x3 x4 x6 x7 x8 (ix2 h k) = t1 x0 x1 x2 x6 x3 x4 x7 x8 h k := by
  pointwise [val_main_v187, val_main_v185, val_main_v13, val_main_v11, val_main_v10, val_main_v1, val_main_v0, r4, r172, t1, ang1, cb, cs, sn, stp]
theorem r199 : val_main_v199 (F := Ideal) x0 x1 x2 x3 x4 x5 x7 x8 (ix2 h k) = t2 x0 x1 x2 x5 x3 x4 x7 x8 h k := by
  pointwise [val_main_v199, val_main_v198, val_main_v195, r4, r8, r176, t2, ang2, ca, cs, sn, stp]
theorem r207 : val_main_v207 (F := Ideal) x0 x1 x2 x3 x4 x5 x6 x7 x8 (ix2 h k) = t3 x0 x1 x2 x5 x6 x3 x4 x7 x8 h k := by
  pointwise [val_main_v207, val_main_v197, val_main_v186, val_main_v12, val_main_v11, val_main_v10, val_main_v1, val_main_v0, val_main_v196, r4, r7, r176, r172, t3, lmod, ca, cb, cs, sn, stp]
theorem r214 : val_main_v214 (F := Ideal) x0 x1 x2 x3 x4 x5 x6 x7 x8 x9 x10 (ix2 h k) = dAre x0 x1 x2 x5 x6 x3 x4 x7 x8 x9 x10 h k := by
  pointwise [val_main_v214, val_main_v184, val_main_v182, val_main_v174, val_main_v161, val_main_v118, val_main_v117, val_main_v1, val_main_v0, val_main_v160, val_main_v173, val_main_v181, val_main_v183, val_main_v213, val_main_v212, r14, r19, r112, r167, r154, r168, r207, dAre, restr, u3, stp]
  simp only [mul_comm (dden _ _ _ _ _)]
  generalize x1 (ix2 h k) * dden (x0 (ix1 h)) (x1 (ix2 h k)) (x2 (ix2 h k)) (dfr x3 x4 x7 x8 h k) (dfi x3 x4 x7 x8 h k) = D
  ac_rfl
theorem r206 : val_main_v206 (F := Ideal) x0 x1 x2 x3 x4 x5 x6 x7 x8 x9 x10 (ix2 h k) = dAim x0 x1 x2 x5 x6 x3 x4 x7 x8 x9 x10 h k := by
  pointwise [val_main_v206, val_main_v194, val_main_v180, val_main_v178, val_main_v170, val_main_v157, val_main_v106, val_main_v89, val_main_v88, val_main_v1, val_main_v0, val_main_v105, val_main_v104, val_main_v156, val_main_v155, val_main_v169, val_main_v177, val_main_v179, val_main_v193, val_main_v192, val_main_v205, val_main_v204, r14, r19, r84, r99, r167, r154, r168, r187, r199, dAim, resti, u1, u2, stp]
  simp only [mul_comm (dden _ _ _ _ _)]
  generalize x2 (ix2 h k) * dden (x0 (ix1 h)) (x1 (ix2 h k)) (x2 (ix2 h k)) (dfr x3 x4 x7 x8 h k) (dfi x3 x4 x7 x8 h k) = D
  ac_rfl
theorem r216 : val_main_v216 (F := Ideal) x0 x1 x2 x3 x4 x5 x6 x7 x8 x9 x10 (ix1 h) = dStep x0 x1 x2 x5 x6 x3 x4 x7 x8 x9 x10 h := by
  pointwise [val_main_v216, val_main_v215, val_main_v211, val_main_v203, val_main_v191, val_main_v116, val_main_v103, val_main_v87, val_main_v86, val_main_v85, val_main_cst_5, val_main_v102, val_main_v101, val_main_v100, val_main_cst_8, val_main_v115, val_main_v114, val_main_v113, val_main_cst_11, val_main_v190, val_main_v189, val_main_v188, val_main_cst_20, val_main_v202, val_main_v201, val_main_v200, val_main_cst_21, val_main_v210, val_main_v209, val_main_v208, val_main_cst_22, val_main_cst_23, val_main_v0, r84, r99, r112, r187, r199, r207, dStep, u1, u2, u3, stp, Fin.sum_univ_one]
  congr 1
  ac_rfl
theorem r145 : val_main_v145 (F := Ideal) x0 x1 x2 x7 x8 (ix3 h k c) = dBre x0 x1 x2 x7 x8 h k c := by
  pointwise [val_main_v145, val_main_v122, val_main_v121, val_main_v44, val_main_v120, val_main_v144, val_main_v143, val_main_v34, val_main_v133, r23, r30, dBre]
  exact add_comm _ _
theorem r137 : val_main_v137 (F := Ideal) x0 x1 x2 x7 x8 (ix3 h k c) = dBim x0 x1 x2 x7 x8 h k c := by
  pointwise [val_main_v137, val_main_v128, val_main_v127, val_main_v41, val_main_v119, val_main_v136, val_main_v135, val_main_v37, val_main_v134, r23, r30, dBim]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v216) = dStepV (m (c.tc.loc main_arg0)) (m (c.tc.loc main_arg1)) (m (c.tc.loc main_arg2)) (m (c.tc.loc main_arg5)) (m (c.tc.loc main_arg6)) (m (c.tc.loc main_arg3)) (m (c.tc.loc main_arg4)) (m (c.tc.loc main_arg7)) (m (c.tc.loc main_arg8)) (m (c.tc.loc main_arg9)) (m (c.tc.loc main_arg10))
 ∧ r.2.mem (c.tc.loc main_v214) = dAreV (m (c.tc.loc main_arg0)) (m (c.tc.loc main_arg1)) (m (c.tc.loc main_arg2)) (m (c.tc.loc main_arg5)) (m (c.tc.loc main_arg6)) (m (c.tc.loc main_arg3)) (m (c.tc.loc main_arg4)) (m (c.tc.loc main_arg7)) (m (c.tc.loc main_arg8)) (m (c.tc.loc main_arg9)) (m (c.tc.loc main_arg10))
 ∧ r.2.mem (c.tc.loc main_v206) = dAimV (m (c.tc.loc main_arg0)) (m (c.tc.loc main_arg1)) (m (c.tc.loc main_arg2)) (m (c.tc.loc main_arg5)) (m (c.tc.loc main_arg6)) (m (c.tc.loc main_arg3)) (m (c.tc.loc main_arg4)) (m (c.tc.loc main_arg7)) (m (c.tc.loc main_arg8)) (m (c.tc.loc main_arg9)) (m (c.tc.loc main_arg10))
 ∧ r.2.mem (c.tc.loc main_v145) = dBreV (m (c.tc.loc main_arg0)) (m (c.tc.loc main_arg1)) (m (c.tc.loc main_arg2)) (m (c.tc.loc main_arg7)) (m (c.tc.loc main_arg8))
 ∧ r.2.mem (c.tc.loc main_v137) = dBimV (m (c.tc.loc main_arg0)) (m (c.tc.loc main_arg1)) (m (c.tc.loc main_arg2)) (m (c.tc.loc main_arg7)) (m (c.tc.loc main_arg8))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4)
 ∧ r.2.mem (c.tc.loc main_arg5) = m (c.tc.loc main_arg5)
 ∧ r.2.mem (c.tc.loc main_arg6) = m (c.tc.loc main_arg6)
 ∧ r.2.mem (c.tc.loc main_arg7) = m (c.tc.loc main_arg7)
 ∧ r.2.mem (c.tc.loc main_arg8) = m (c.tc.loc main_arg8)
 ∧ r.2.mem (c.tc.loc main_arg9) = m (c.tc.loc main_arg9)
 ∧ r.2.mem (c.tc.loc main_arg10) = m (c.tc.loc main_arg10) :=
  (θ_run defs _ _).mono (fun _ h c => by
    obtain ⟨h1, h2, h3, h4, h5, h6⟩ := h c
    refine ⟨(h1.trans (val_main_v216_eq _)).trans (funext fun j => ?_), (h2.trans (val_main_v214_eq _)).trans (funext fun j => ?_),
      (h3.trans (val_main_v206_eq _)).trans (funext fun j => ?_), (h4.trans (val_main_v145_eq _)).trans (funext fun j => ?_),
      (h5.trans (val_main_v137_eq _)).trans (funext fun j => ?_), h6⟩
    · idx_vars j
      exact r216 _ _ _ _ _ _ _ _ _ _ _ j0
    · idx_vars j
      exact r214 _ _ _ _ _ _ _ _ _ _ _ j0 j1
    · idx_vars j
      exact r206 _ _ _ _ _ _ _ _ _ _ _ j0 j1
    · idx_vars j
      exact r145 _ _ _ _ _ j0 j1 j2
    · idx_vars j
      exact r137 _ _ _ _ _ j0 j1 j2) (Cert.OpsReferenceIdeal.Value.run m ρ)
end
end Cert.Ops
-- ==== Proof.Ops.lean ====
module
public import proofs.«01_k».proof.Proof.Powers
public import proofs.«01_k».proof.Proof.Gen.OpsKernelIdeal.Frame
public import proofs.«01_k».proof.Proof.OpsRef
@[expose] public section
set_option maxRecDepth 16384
noncomputable section
open Idealize.ShloMosaic Idealize.ShloMosaic.TcCoe Idealize.SL.Sem
open Cert.Rows Cert.Powers
open ComplexConjugate
/-! The gradient of the discretised step: the powers by doubling against the powers in polar form. -/
namespace Cert.Ops
section
open Cert.OpsKernelIdeal Cert.OpsKernelIdeal.Gen
/-- The real parts of 512 columns. -/
def re (p : Fin 512 → Col) : FVec Ideal S256x512 .f32 := fun i => ((p (i 1) (i 0)).re : EReal)
/-- The imaginary parts of 512 columns. -/
def im (p : Fin 512 → Col) : FVec Ideal S256x512 .f32 := fun i => ((p (i 1) (i 0)).im : EReal)
/-- The row number of every entry. -/
abbrev rowNo : IVec S256x512 32 := iota .tc S256x512 32 [0] iota_S256x512_d0_w32
theorem one_bits : Ideal.ofBits .f32 0x3F800000#32 = ((1 : ℝ) : EReal) := by
  simp [Ideal.ofBits, Ideal.ieee, -EReal.coe_mul]; try norm_num
theorem zero_bits : Ideal.ofBits .f32 0x00000000#32 = ((0 : ℝ) : EReal) := by
  simp [Ideal.ofBits, Ideal.ieee, -EReal.coe_mul]; try norm_num
/-- A rotation of the rows by `k`. -/
theorem rotate_row (k : ℕ) (hk : k < 256) (x : FVec Ideal S256x512 .f32) (t : Fin 256) (a : Fin 512) :
    dynamicRotate 0 (BitVec.ofNat 32 k) none x rotates_S256x512_d0 (ix2 t a) = x (ix2 ⟨(t.val + 256 - k) % 256, Nat.mod_lt _ (by norm_num)⟩ a) := by
  refine dynamicRotate_apply 0 _ x _ _ _ fun b => ?_
  have e : (BitVec.ofNat 32 k).toNat = k := by simp; omega
  fin_cases b
  · show _ = (t.val + 256 - (BitVec.ofNat 32 k).toNat % 256) % 256
    rw [e, Nat.mod_eq_of_lt hk]; rfl
  · rfl
theorem toInt_small (n : ℕ) (h : n < 256) : (BitVec.ofNat 32 n).toInt = n := by
  rw [BitVec.toInt_eq_toNat_of_lt (by rw [BitVec.toNat_ofNat]; omega), BitVec.toNat_ofNat]; omega
theorem sge_row (k : ℕ) (hk : k < 256) (t : Fin 256) (a : Fin 512) :
    cmpi .sge rowNo (broadcast S256x512 (BitVec.ofNat 32 k)) (ix2 t a) = if k ≤ t.val then 1#1 else 0#1 := by
  pointwise
  have := t.isLt
  simp only [IntOp.cmpi, BitVec.sle, toInt_small _ hk, toInt_small _ t.isLt]
  split_ifs with h
  · rw [decide_eq_true (by omega)]; rfl
  · rw [decide_eq_false (by omega)]; rfl
theorem slt_row (k : ℕ) (hk : k < 256) (t : Fin 256) (a : Fin 512) :
    cmpi .slt rowNo (broadcast S256x512 (BitVec.ofNat 32 k)) (ix2 t a) = if t.val < k then 1#1 else 0#1 := by
  pointwise
  simp only [IntOp.cmpi, BitVec.slt, toInt_small _ hk, toInt_small _ t.isLt]
  split_ifs with h
  · rw [decide_eq_true (by omega)]; rfl
  · rw [decide_eq_false (by omega)]; rfl
/-- The zero vector. -/
abbrev zeros : FVec Ideal S256x512 .f32 := broadcast S256x512 (Scalar.ofBits .f32 0x00000000#32)
/-- The kernel's shift down, ones filled into the real part … -/
theorem sh_re (k : ℕ) (hk : k < 256) (p : Fin 512 → Col) :
    select (cmpi .sge rowNo (broadcast S256x512 (BitVec.ofNat 32 k))) (dynamicRotate 0 (BitVec.ofNat 32 k) none (re p) rotates_S256x512_d0)
      (broadcast S256x512 (Scalar.ofBits (F := Ideal) .f32 0x3F800000#32)) = re fun a => sh k (p a) := by
  funext i
  idx_vars i
  show (if cmpi .sge rowNo (broadcast S256x512 (BitVec.ofNat 32 k)) (ix2 i0 i1) = 1#1 then dynamicRotate 0 (BitVec.ofNat 32 k) none (re p) rotates_S256x512_d0 (ix2 i0 i1) else Ideal.ofBits .f32 0x3F800000#32) = ((sh k (p i1) i0).re : EReal)
  rw [sge_row k hk, rotate_row k hk, one_bits]
  have := i0.isLt
  unfold sh
  by_cases h : k ≤ i0.val
  · rw [if_pos (if_pos h), if_pos h]
    show ((p i1 _).re : EReal) = _
    congr 3
    apply Fin.ext
    show (i0.val + 256 - k) % 256 = i0.val - k
    omega
  · rw [if_neg (by rw [if_neg h]; decide), if_neg h]; simp
/-- … and zeros into the imaginary part. -/
theorem sh_im (k : ℕ) (hk : k < 256) (p : Fin 512 → Col) :
    select (cmpi .sge rowNo (broadcast S256x512 (BitVec.ofNat 32 k))) (dynamicRotate 0 (BitVec.ofNat 32 k) none (im p) rotates_S256x512_d0)
      zeros = im fun a => sh k (p a) := by
  funext i
  idx_vars i
  show (if cmpi .sge rowNo (broadcast S256x512 (BitVec.ofNat 32 k)) (ix2 i0 i1) = 1#1 then dynamicRotate 0 (BitVec.ofNat 32 k) none (im p) rotates_S256x512_d0 (ix2 i0 i1) else Ideal.ofBits .f32 0x00000000#32) = ((sh k (p i1) i0).im : EReal)
  rw [sge_row k hk, rotate_row k hk, zero_bits]
  have := i0.isLt
  unfold sh
  by_cases h : k ≤ i0.val
  · rw [if_pos (if_pos h), if_pos h]
    show ((p i1 _).im : EReal) = _
    congr 3
    apply Fin.ext
    show (i0.val + 256 - k) % 256 = i0.val - k
    omega
  · rw [if_neg (by rw [if_neg h]; decide), if_neg h]; simp
/-- One doubling, real part … -/
theorem sq_re (k : ℕ) (p : Fin 512 → Col) :
    subf (mulf (re p) (re fun a => sh k (p a))) (mulf (im p) (im fun a => sh k (p a))) = re fun a => sq k (p a) := by
  funext i
  idx_vars i
  show ((_ : ℝ) : EReal) * ((_ : ℝ) : EReal) - ((_ : ℝ) : EReal) * ((_ : ℝ) : EReal) = ((p i1 i0 * sh k (p i1) i0).re : EReal)
  rw [Complex.mul_re]; push_cast; rfl
/-- … and imaginary part. -/
theorem sq_im (k : ℕ) (p : Fin 512 → Col) :
    addf (mulf (re p) (im fun a => sh k (p a))) (mulf (im p) (re fun a => sh k (p a))) = im fun a => sq k (p a) := by
  funext i
  idx_vars i
  show ((_ : ℝ) : EReal) * ((_ : ℝ) : EReal) + ((_ : ℝ) : EReal) * ((_ : ℝ) : EReal) = ((p i1 i0 * sh k (p i1) i0).im : EReal)
  rw [Complex.mul_im]; push_cast; rfl
/-- The kernel's shift up of a vector of numbers, zeros filled in. -/
theorem up_apply (k n : ℕ) (hk : k < 256) (hn : n + k = 256) (hk0 : 0 < k) (x : FVec Ideal S256x512 .f32) (t : Fin 256) (a : Fin 512) :
    select (cmpi .slt rowNo (broadcast S256x512 (BitVec.ofNat 32 n))) (dynamicRotate 0 (BitVec.ofNat 32 n) none x rotates_S256x512_d0) zeros (ix2 t a) =
      if h : t.val + k < 256 then x (ix2 ⟨t.val + k, h⟩ a) else (0 : EReal) := by
  show (if cmpi .slt rowNo (broadcast S256x512 (BitVec.ofNat 32 n)) (ix2 t a) = 1#1 then dynamicRotate 0 (BitVec.ofNat 32 n) none x rotates_S256x512_d0 (ix2 t a) else Ideal.ofBits .f32 0x00000000#32) = _
  rw [slt_row n (by omega), rotate_row n (by omega), zero_bits]
  have := t.isLt
  by_cases h : t.val + k < 256
  · rw [if_pos (if_pos (by omega)), dif_pos h]
    congr 2
    apply Fin.ext
    show (t.val + 256 - n) % 256 = t.val + k
    omega
  · rw [if_neg (by rw [if_neg (by omega)]; decide), dif_neg h]; rfl
theorem addf_at (x y : FVec Ideal S256x512 .f32) (i : S256x512.Idx) (z : EReal) (h : y i = z) : addf x y i = (x i : EReal) + z := h ▸ rfl
/-- The derivative of one doubling, imaginary part … -/
theorem back_im (k n : ℕ) (hk : k < 256) (hn : n + k = 256) (hk0 : 0 < k) (p γ : Fin 512 → Col) :
    addf (addf (mulf (im γ) (re fun a => sh k (p a))) (mulf (subf zeros (re γ)) (im fun a => sh k (p a))))
      (select (cmpi .slt rowNo (broadcast S256x512 (BitVec.ofNat 32 n))) (dynamicRotate 0 (BitVec.ofNat 32 n) none
        (addf (mulf (re p) (im γ)) (mulf (im p) (subf zeros (re γ)))) rotates_S256x512_d0) zeros) = im fun a => back k (p a) (γ a) := by
  funext i
  idx_vars i
  refine (addf_at _ _ _ _ (up_apply k n hk hn hk0 _ _ _)).trans ?_
  show (((γ i1 i0).im : EReal) * ((sh k (p i1) i0).re : EReal) + (Ideal.ofBits .f32 0x00000000#32 - ((γ i1 i0).re : EReal)) * ((sh k (p i1) i0).im : EReal)) +
    (if h : i0.val + k < 256 then (((p i1 ⟨i0.val + k, h⟩).re : EReal) * ((γ i1 ⟨i0.val + k, h⟩).im : EReal) + ((p i1 ⟨i0.val + k, h⟩).im : EReal) * (Ideal.ofBits .f32 0x00000000#32 - ((γ i1 ⟨i0.val + k, h⟩).re : EReal))) else 0) = ((back k (p i1) (γ i1) i0).im : EReal)
  rw [zero_bits]
  unfold back up
  split_ifs with h
  · norm_cast
    simp only [Complex.add_im, Complex.mul_im, Complex.conj_re, Complex.conj_im]
    congr 1 <;> ring
  · norm_cast
    simp only [Complex.add_im, Complex.mul_im, Complex.conj_re, Complex.conj_im, Complex.zero_im]
    congr 1 <;> ring
/-- … and real part. -/
theorem back_re (k n : ℕ) (hk : k < 256) (hn : n + k = 256) (hk0 : 0 < k) (p γ : Fin 512 → Col) :
    addf (addf (mulf (im γ) (im fun a => sh k (p a))) (mulf (re γ) (re fun a => sh k (p a))))
      (select (cmpi .slt rowNo (broadcast S256x512 (BitVec.ofNat 32 n))) (dynamicRotate 0 (BitVec.ofNat 32 n) none
        (addf (mulf (im p) (im γ)) (mulf (re p) (re γ))) rotates_S256x512_d0) zeros) = re fun a => back k (p a) (γ a) := by
  funext i
  idx_vars i
  refine (addf_at _ _ _ _ (up_apply k n hk hn hk0 _ _ _)).trans ?_
  show (((γ i1 i0).im : EReal) * ((sh k (p i1) i0).im : EReal) + ((γ i1 i0).re : EReal) * ((sh k (p i1) i0).re : EReal)) +
    (if h : i0.val + k < 256 then (((p i1 ⟨i0.val + k, h⟩).im : EReal) * ((γ i1 ⟨i0.val + k, h⟩).im : EReal) + ((p i1 ⟨i0.val + k, h⟩).re : EReal) * ((γ i1 ⟨i0.val + k, h⟩).re : EReal)) else 0) = ((back k (p i1) (γ i1) i0).re : EReal)
  unfold back up
  split_ifs with h
  · norm_cast
    simp only [Complex.add_re, Complex.mul_re, Complex.conj_re, Complex.conj_im]
    congr 1 <;> ring
  · norm_cast
    simp only [Complex.add_re, Complex.mul_re, Complex.conj_re, Complex.conj_im, Complex.zero_re]
    congr 1 <;> ring
variable (a : Fin 512 → ℂ) (γ : Fin 512 → Col)
/-- The powers of every column's base up to the `n`-th. -/
abbrev P (n : ℕ) : Fin 512 → Col := fun l => pw (a l) n
/-- These moved down by `n`. -/
abbrev S (n : ℕ) : Fin 512 → Col := fun l => sh n (pw (a l) n)
/-- The derivative of the doubling from `n` to `2 n`. -/
abbrev B (n : ℕ) : Fin 512 → Col := fun l => back n (pw (a l) n) (γ l)
/-- What the unshifted factor's share of it is, imaginary and real part, … -/
abbrev mainI (n : ℕ) : FVec Ideal S256x512 .f32 := addf (mulf (im γ) (re (S a n))) (mulf (subf zeros (re γ)) (im (S a n)))
abbrev mainR (n : ℕ) : FVec Ideal S256x512 .f32 := addf (mulf (im γ) (im (S a n))) (mulf (re γ) (re (S a n)))
/-- … and the shifted factor's share, before it is moved up. -/
abbrev upI (n : ℕ) : FVec Ideal S256x512 .f32 := addf (mulf (re (P a n)) (im γ)) (mulf (im (P a n)) (subf zeros (re γ)))
abbrev upR (n : ℕ) : FVec Ideal S256x512 .f32 := addf (mulf (im (P a n)) (im γ)) (mulf (re (P a n)) (re γ))
theorem dblR (n m : ℕ) (h : 2 * n = m) : subf (mulf (re (P a n)) (re (S a n))) (mulf (im (P a n)) (im (S a n))) = re (P a m) := by
  subst h; rw [sq_re n (P a n)]; simp only [sq_pw]
theorem dblI (n m : ℕ) (h : 2 * n = m) : addf (mulf (re (P a n)) (im (S a n))) (mulf (im (P a n)) (re (S a n))) = im (P a m) := by
  subst h; rw [sq_im n (P a n)]; simp only [sq_pw]
/-! The doublings, from the powers up to the first. -/
section
variable {v3 v22 v24 v25 : FVec Ideal S1x512 .f32} (hr : k0_pay34 v24 v25 = re (P a 1)) (hi : k0_pay35 v3 v22 v24 = im (P a 1))
include hr hi
theorem p36 : k0_pay36 v24 v25 = re (S a 1) := by simp only [k0_pay36, hr]; exact sh_re 1 (by norm_num) _
theorem p37 : k0_pay37 v3 v22 v24 = im (S a 1) := by simp only [k0_pay37, hi]; exact sh_im 1 (by norm_num) _
theorem p38 : k0_pay38 v3 v22 v24 v25 = re (P a 2) := by simp only [k0_pay38, hr, hi, p36 a hr hi, p37 a hr hi]; exact dblR a 1 2 rfl
theorem p39 : k0_pay39 v3 v22 v24 v25 = im (P a 2) := by simp only [k0_pay39, hr, hi, p36 a hr hi, p37 a hr hi]; exact dblI a 1 2 rfl
end
theorem p41 : k0_pay41 (re (P a 2)) rowNo k0_pay40 = re (S a 2) := sh_re 2 (by norm_num) _
theorem p42 : k0_pay42 (im (P a 2)) = im (S a 2) := sh_im 2 (by norm_num) _
theorem p43 : k0_pay43 (re (P a 2)) (im (P a 2)) rowNo k0_pay40 = re (P a 4) := by simp only [k0_pay43, p41, p42]; exact dblR a 2 4 rfl
theorem p44 : k0_pay44 (re (P a 2)) (im (P a 2)) rowNo k0_pay40 = im (P a 4) := by simp only [k0_pay44, p41, p42]; exact dblI a 2 4 rfl
theorem p45 : k0_pay45 (re (P a 2)) (im (P a 2)) rowNo k0_pay40 = re (S a 4) := by simp only [k0_pay45, p43]; exact sh_re 4 (by norm_num) _
theorem p46 : k0_pay46 (re (P a 2)) (im (P a 2)) rowNo k0_pay40 = im (S a 4) := by simp only [k0_pay46, p44]; exact sh_im 4 (by norm_num) _
theorem p47 : k0_pay47 (re (P a 2)) (im (P a 2)) rowNo k0_pay40 = re (P a 8) := by simp only [k0_pay47, p43, p44, p45, p46]; exact dblR a 4 8 rfl
theorem p48 : k0_pay48 (re (P a 2)) (im (P a 2)) rowNo k0_pay40 = im (P a 8) := by simp only [k0_pay48, p43, p44, p45, p46]; exact dblI a 4 8 rfl
theorem p49 : k0_pay49 (re (P a 2)) (im (P a 2)) rowNo k0_pay40 = re (S a 8) := by simp only [k0_pay49, p47]; exact sh_re 8 (by norm_num) _
/-- The powers up to the eighth, their imaginary parts rotated. -/
abbrev R8 : FVec Ideal S256x512 .f32 := dynamicRotate 0 8#32 none (im (P a 8)) rotates_S256x512_d0
theorem p51 : k0_pay51 (re (P a 2)) (im (P a 2)) rowNo k0_pay40 = R8 a := by simp only [k0_pay51, p48]
theorem p52 : k0_pay52 k0_pay50 (R8 a) = im (S a 8) := sh_im 8 (by norm_num) _
theorem p53 : k0_pay53 (re (P a 8)) (im (P a 8)) (re (S a 8)) k0_pay50 (R8 a) = re (P a 16) := by simp only [k0_pay53, p52]; exact dblR a 8 16 rfl
theorem p54 : k0_pay54 (re (P a 8)) (im (P a 8)) (re (S a 8)) k0_pay50 (R8 a) = im (P a 16) := by simp only [k0_pay54, p52]; exact dblI a 8 16 rfl
theorem p55 : k0_pay55 (re (P a 8)) (im (P a 8)) (re (S a 8)) k0_pay50 (R8 a) = re (S a 16) := by simp only [k0_pay55, p53]; exact sh_re 16 (by norm_num) _
theorem p56 : k0_pay56 (re (P a 8)) (im (P a 8)) (re (S a 8)) k0_pay50 (R8 a) = im (S a 16) := by simp only [k0_pay56, p54]; exact sh_im 16 (by norm_num) _
theorem p57 : k0_pay57 (re (P a 8)) (im (P a 8)) (re (S a 8)) k0_pay50 (R8 a) = re (P a 32) := by simp only [k0_pay57, p53, p54, p55, p56]; exact dblR a 16 32 rfl
theorem p58 : k0_pay58 (re (P a 8)) (im (P a 8)) (re (S a 8)) k0_pay50 (R8 a) = im (P a 32) := by simp only [k0_pay58, p53, p54, p55, p56]; exact dblI a 16 32 rfl
theorem p59 : k0_pay59 (re (P a 8)) (im (P a 8)) (re (S a 8)) k0_pay50 (R8 a) = re (S a 32) := by simp only [k0_pay59, p57]; exact sh_re 32 (by norm_num) _
theorem p60 : k0_pay60 (re (P a 8)) (im (P a 8)) (re (S a 8)) k0_pay50 (R8 a) = im (S a 32) := by simp only [k0_pay60, p58]; exact sh_im 32 (by norm_num) _
theorem p61 : k0_pay61 (re (P a 8)) (im (P a 8)) (re (S a 8)) k0_pay50 (R8 a) = re (P a 64) := by simp only [k0_pay61, p57, p58, p59, p60]; exact dblR a 32 64 rfl
theorem p62 : k0_pay62 (re (P a 8)) (im (P a 8)) (re (S a 8)) k0_pay50 (R8 a) = im (P a 64) := by simp only [k0_pay62, p57, p58, p59, p60]; exact dblI a 32 64 rfl
theorem p64 : k0_pay64 (re (P a 64)) rowNo k0_pay63 = re (S a 64) := sh_re 64 (by norm_num) _
theorem p65 : k0_pay65 (im (P a 64)) = im (S a 64) := sh_im 64 (by norm_num) _
theorem p66 : k0_pay66 (re (P a 64)) (im (P a 64)) rowNo k0_pay63 = re (P a 128) := by simp only [k0_pay66, p64, p65]; exact dblR a 64 128 rfl
theorem p67 : k0_pay67 (re (P a 64)) (im (P a 64)) rowNo k0_pay63 = im (P a 128) := by simp only [k0_pay67, p64, p65]; exact dblI a 64 128 rfl
theorem p68 : k0_pay68 (re (P a 64)) (im (P a 64)) rowNo k0_pay63 = re (S a 128) := by simp only [k0_pay68, p66]; exact sh_re 128 (by norm_num) _
theorem p69 : k0_pay69 (re (P a 64)) (im (P a 64)) rowNo k0_pay63 = im (S a 128) := by simp only [k0_pay69, p67]; exact sh_im 128 (by norm_num) _
/-! The derivatives of the doublings, from the last to the first. -/
theorem p71 : k0_pay71 (re γ) (im γ) (re (P a 64)) (im (P a 64)) rowNo k0_pay63 = mainI a γ 128 := by simp only [k0_pay71, k0_pay70, p68, p69]
theorem p72 : k0_pay72 (re γ) (im γ) (re (P a 64)) (im (P a 64)) rowNo k0_pay63 = upR a γ 128 := by simp only [k0_pay72, p66, p67]
theorem p73 : k0_pay73 (re γ) (im γ) (re (P a 64)) (im (P a 64)) rowNo k0_pay63 = mainR a γ 128 := by simp only [k0_pay73, p68, p69]
/-- The shifted factor's share at the last doubling, rotated. -/
abbrev rotI : FVec Ideal S256x512 .f32 := dynamicRotate 0 128#32 none (upI a γ 128) rotates_S256x512_d0
theorem p75 : k0_pay75 (re γ) (im γ) (re (P a 64)) (im (P a 64)) rowNo k0_pay63 = rotI a γ := by simp only [k0_pay75, k0_pay70, p66, p67]
theorem p76 : k0_pay76 (mainI a γ 128) k0_pay74 (rotI a γ) = im (B a γ 128) := back_im 128 128 (by norm_num) rfl (by norm_num) _ _
theorem p77 : k0_pay77 (upR a γ 128) (mainR a γ 128) = re (B a γ 128) := back_re 128 128 (by norm_num) rfl (by norm_num) _ _
/-- The cotangent of the powers up to the 64-th. -/
abbrev B64 : Fin 512 → Col := B a (B a γ 128) 64
theorem p78 : k0_pay78 (re (P a 64)) (im (P a 64)) (re (S a 64)) (im (S a 64)) (mainI a γ 128) (upR a γ 128) (mainR a γ 128) k0_pay74 (rotI a γ) = im (B64 a γ) := by
  simp only [k0_pay78, p76, p77]; exact back_im 64 192 (by norm_num) rfl (by norm_num) _ _
theorem p79 : k0_pay79 (re (P a 64)) (im (P a 64)) (re (S a 64)) (im (S a 64)) (mainI a γ 128) (upR a γ 128) (mainR a γ 128) k0_pay74 (rotI a γ) = re (B64 a γ) := by
  simp only [k0_pay79, p76, p77]; exact back_re 64 192 (by norm_num) rfl (by norm_num) _ _
theorem p80 : k0_pay80 (im (P a 32)) (re (P a 64)) (im (P a 64)) (re (S a 64)) (im (S a 64)) (mainI a γ 128) (upR a γ 128) (mainR a γ 128) k0_pay74 (rotI a γ) = mulf (im (P a 32)) (im (B64 a γ)) := by
  simp only [k0_pay80, p78]
theorem p81 : k0_pay81 (im (S a 32)) (re (P a 64)) (im (P a 64)) (re (S a 64)) (im (S a 64)) (mainI a γ 128) (upR a γ 128) (mainR a γ 128) k0_pay74 (rotI a γ) = mulf (im (B64 a γ)) (im (S a 32)) := by
  simp only [k0_pay81, p78]
theorem p83 : k0_pay83 (re (P a 32)) (im (P a 32)) (re (P a 64)) (im (P a 64)) (re (S a 64)) (im (S a 64)) (mainI a γ 128) (upR a γ 128) (mainR a γ 128) k0_pay74 (rotI a γ) = upI a (B64 a γ) 32 := by
  simp only [k0_pay83, k0_pay82, p78, p79]
theorem p84 : k0_pay84 (re (S a 32)) (im (S a 32)) (re (P a 64)) (im (P a 64)) (re (S a 64)) (im (S a 64)) (mainI a γ 128) (upR a γ 128) (mainR a γ 128) k0_pay74 (rotI a γ) = mainI a (B64 a γ) 32 := by
  simp only [k0_pay84, k0_pay82, p78, p79]
theorem p85 : k0_pay85 (upI a γ 32) (mainI a γ 32) = im (B a γ 32) := back_im 32 224 (by norm_num) rfl (by norm_num) _ _
theorem p86 : k0_pay86 (re (P a 32)) (re (S a 32)) (re γ) (mulf (im (P a 32)) (im γ)) (mulf (im γ) (im (S a 32))) = re (B a γ 32) :=
  back_re 32 224 (by norm_num) rfl (by norm_num) _ _
/-- The cotangent of the powers up to the 16-th, from that of the powers up to the 64-th. -/
abbrev B16 : Fin 512 → Col := B a (B a γ 32) 16
theorem p87 : k0_pay87 (re (P a 16)) (im (P a 16)) (re (S a 16)) (im (S a 16)) (re (P a 32)) (re (S a 32)) (re γ) (mulf (im (P a 32)) (im γ)) (mulf (im γ) (im (S a 32))) (upI a γ 32) (mainI a γ 32) = im (B16 a γ) := by
  simp only [k0_pay87, p85, p86]; exact back_im 16 240 (by norm_num) rfl (by norm_num) _ _
theorem p88 : k0_pay88 (re (P a 16)) (im (P a 16)) (re (S a 16)) (im (S a 16)) (re (P a 32)) (re (S a 32)) (re γ) (mulf (im (P a 32)) (im γ)) (mulf (im γ) (im (S a 32))) (upI a γ 32) (mainI a γ 32) = re (B16 a γ) := by
  simp only [k0_pay88, p85, p86]; exact back_re 16 240 (by norm_num) rfl (by norm_num) _ _
theorem p89 : k0_pay89 (im (P a 8)) (re (P a 16)) (im (P a 16)) (re (S a 16)) (im (S a 16)) (re (P a 32)) (re (S a 32)) (re γ) (mulf (im (P a 32)) (im γ)) (mulf (im γ) (im (S a 32))) (upI a γ 32) (mainI a γ 32) = mulf (im (P a 8)) (im (B16 a γ)) := by
  simp only [k0_pay89, p87]
theorem p90 : k0_pay90 (re (P a 8)) (im (P a 8)) (re (S a 8)) (im (S a 8)) (im γ) (re γ) = im (B a γ 8) := back_im 8 248 (by norm_num) rfl (by norm_num) _ _
theorem p91 : k0_pay91 (re (P a 8)) (re (S a 8)) (im (S a 8)) (im γ) (re γ) (mulf (im (P a 8)) (im γ)) = re (B a γ 8) := back_re 8 248 (by norm_num) rfl (by norm_num) _ _
theorem p92 : k0_pay92 (re (P a 4)) (im (P a 4)) (re (P a 8)) (im (P a 8)) (re (S a 8)) (im (S a 8)) (im γ) (re γ) (mulf (im (P a 8)) (im γ)) = upR a (B a γ 8) 4 := by
  simp only [k0_pay92, p90, p91]
theorem p93 : k0_pay93 (re (S a 4)) (im (S a 4)) (re (P a 8)) (im (P a 8)) (re (S a 8)) (im (S a 8)) (im γ) (re γ) (mulf (im (P a 8)) (im γ)) = mainR a (B a γ 8) 4 := by
  simp only [k0_pay93, p90, p91]
theorem p94 : k0_pay94 (re (P a 4)) (im (P a 4)) (re (S a 4)) (im (S a 4)) (re (P a 8)) (im (P a 8)) (re (S a 8)) (im (S a 8)) (im γ) (re γ) (mulf (im (P a 8)) (im γ)) = im (B a (B a γ 8) 4) := by
  simp only [k0_pay94, p90, p91]; exact back_im 4 252 (by norm_num) rfl (by norm_num) _ _
theorem p95 : k0_pay95 (upR a γ 4) (mainR a γ 4) rowNo = re (B a γ 4) := back_re 4 252 (by norm_num) rfl (by norm_num) _ _
/-- The cotangent of the powers up to the second, from that of the powers up to the eighth. -/
abbrev B2 : Fin 512 → Col := B a (B a γ 4) 2
theorem p96 : k0_pay96 (re (P a 2)) (im (P a 2)) (re (S a 2)) (im (S a 2)) (upR a γ 4) (mainR a γ 4) (im (B a γ 4)) rowNo = im (B2 a γ) := by
  simp only [k0_pay96, p95]; exact back_im 2 254 (by norm_num) rfl (by norm_num) _ _
theorem p97 : k0_pay97 (re (P a 2)) (im (P a 2)) (re (S a 2)) (im (S a 2)) (upR a γ 4) (mainR a γ 4) (im (B a γ 4)) rowNo = re (B2 a γ) := by
  simp only [k0_pay97, p95]; exact back_re 2 254 (by norm_num) rfl (by norm_num) _ _
theorem p99 : k0_pay99 (re (P a 1)) (im (P a 1)) (re (P a 2)) (im (P a 2)) (re (S a 2)) (im (S a 2)) (upR a γ 4) (mainR a γ 4) (im (B a γ 4)) rowNo = upI a (B2 a γ) 1 := by
  simp only [k0_pay99, k0_pay98, p96, p97]
theorem p100 : k0_pay100 (re (S a 1)) (im (S a 1)) (re (P a 2)) (im (P a 2)) (re (S a 2)) (im (S a 2)) (upR a γ 4) (mainR a γ 4) (im (B a γ 4)) rowNo = mainI a (B2 a γ) 1 := by
  simp only [k0_pay100, k0_pay98, p96, p97]
theorem p101 : k0_pay101 (re (P a 1)) (im (P a 1)) (re (P a 2)) (im (P a 2)) (re (S a 2)) (im (S a 2)) (upR a γ 4) (mainR a γ 4) (im (B a γ 4)) rowNo = upR a (B2 a γ) 1 := by
  simp only [k0_pay101, p96, p97]
theorem p102 : k0_pay102 (re (S a 1)) (im (S a 1)) (re (P a 2)) (im (P a 2)) (re (S a 2)) (im (S a 2)) (upR a γ 4) (mainR a γ 4) (im (B a γ 4)) rowNo = mainR a (B2 a γ) 1 := by
  simp only [k0_pay102, p96, p97]
/-- The cotangent of the base's imaginary part, all columns … -/
theorem p103 (v13 : FVec Ideal S1x512 .f32) (l : Fin 512) : k0_pay103 v13 (upI a γ 1) (mainI a γ 1) rowNo (ix2 0 l) = v13 (ix2 0 l) + ∑ t : Fin 256, ((B a γ 1 l t).im : EReal) := by
  have e := back_im 1 255 (by norm_num) rfl (by norm_num) (P a 1) γ
  simp only [k0_pay103]
  rw [show (addf (mainI a γ 1) _ : FVec Ideal S256x512 .f32) = _ from e]
  pointwise
  rfl
/-- … and of its real part. -/
theorem p104 (v11 : FVec Ideal S1x512 .f32) (l : Fin 512) : k0_pay104 v11 (upR a γ 1) (mainR a γ 1) (ix2 0 l) = v11 (ix2 0 l) + ∑ t : Fin 256, ((B a γ 1 l t).re : EReal) := by
  have e := back_re 1 255 (by norm_num) rfl (by norm_num) (P a 1) γ
  simp only [k0_pay104]
  rw [show (addf (mainR a γ 1) _ : FVec Ideal S256x512 .f32) = _ from e]
  pointwise
  rfl
end
end Cert.Ops
-- ==== Proof.OpsTile.lean ====
module
public import proofs.«01_k».proof.Proof.Ops
@[expose] public section
set_option maxRecDepth 16384
noncomputable section
open Idealize.ShloMosaic Idealize.ShloMosaic.TcCoe Idealize.SL.Sem
open Cert.Rows Cert.Powers
open ComplexConjugate
/-! What one grid point of the kernel writes: the derivative of the discretisation at its 512 columns. -/
namespace Cert.Ops
section
open Cert.OpsKernelIdeal Cert.OpsKernelIdeal.Gen
variable (x0 x1 x2 x5 x6 : FVec Ideal S1x1x512 .f32) (x3 x4 x7 x8 : FVec Ideal S1x128x512 .f32) (x9 x10 : FVec Ideal S1x256x512 .f32) (l : Fin 512)
/-! The stages of one column, as the derivative names them. -/
theorem q123 : k0_pay123 (F := Ideal) x0 x1 x2 x3 x4 x5 x6 x7 x8 x9 x10 (ix2 0 l) = x0 (ix3 0 0 l) := by pointwise [k0_pay123, k0_pay6]
theorem q124 : k0_pay124 (F := Ideal) x0 x1 x2 x3 x4 x5 x6 x7 x8 x9 x10 (ix2 0 l) = x1 (ix3 0 0 l) := by pointwise [k0_pay124, k0_pay7]
theorem q125 (r : Fin 128) : k0_pay125 (F := Ideal) x0 x1 x2 x3 x4 x5 x6 x7 x8 x9 x10 (ix2 r l) = x3 (ix3 0 r l) := by pointwise [k0_pay125, k0_pay8]
theorem q126 (r : Fin 128) : k0_pay126 (F := Ideal) x0 x1 x2 x3 x4 x5 x6 x7 x8 x9 x10 (ix2 r l) = x4 (ix3 0 r l) := by pointwise [k0_pay126, k0_pay9]
theorem q127 (r : Fin 128) : k0_pay127 (F := Ideal) x0 x1 x2 x3 x4 x5 x6 x7 x8 x9 x10 (ix2 r l) = x7 (ix3 0 r l) := by pointwise [k0_pay127, k0_pay12]
theorem q128 (r : Fin 128) : k0_pay128 (F := Ideal) x0 x1 x2 x3 x4 x5 x6 x7 x8 x9 x10 (ix2 r l) = x8 (ix3 0 r l) := by pointwise [k0_pay128, k0_pay13]
theorem q129 (t : Fin 256) : k0_pay129 (F := Ideal) x0 x1 x2 x3 x4 x5 x6 x7 x8 x9 x10 (ix2 t l) = x9 (ix3 0 t l) := by pointwise [k0_pay129, k0_pay14]
theorem q130 (t : Fin 256) : k0_pay130 (F := Ideal) x0 x1 x2 x3 x4 x5 x6 x7 x8 x9 x10 (ix2 t l) = x10 (ix3 0 t l) := by pointwise [k0_pay130, k0_pay15]
theorem q131 : k0_pay131 (F := Ideal) x0 x1 x2 x3 x4 x5 x6 x7 x8 x9 x10 (ix2 0 l) = stp (x2 (ix3 0 0 l)) := by pointwise [k0_pay131, k0_pay16, stp]
theorem q132 : k0_pay132 (F := Ideal) x0 x1 x2 x3 x4 x5 x6 x7 x8 x9 x10 (ix2 0 l) = mag (x2 (ix3 0 0 l)) (x0 (ix3 0 0 l)) := by
  pointwise [k0_pay132, k0_pay17, k0_pay16, k0_pay6, mag, stp]
theorem q133 : k0_pay133 (F := Ideal) x0 x1 x2 x3 x4 x5 x6 x7 x8 x9 x10 (ix2 0 l) = x1 (ix3 0 0 l) * stp (x2 (ix3 0 0 l)) := by
  pointwise [k0_pay133, k0_pay18, k0_pay16, k0_pay7, stp]
theorem q135 : k0_pay135 (F := Ideal) x0 x1 x2 x3 x4 x5 x6 x7 x8 x9 x10 (ix2 0 l) = cs (x2 (ix3 0 0 l)) (x1 (ix3 0 0 l)) := by pointwise [k0_pay135, k0_pay19, q133, cs]
theorem q136 : k0_pay136 (F := Ideal) x0 x1 x2 x3 x4 x5 x6 x7 x8 x9 x10 (ix2 0 l) = sn (x2 (ix3 0 0 l)) (x1 (ix3 0 0 l)) := by pointwise [k0_pay136, k0_pay20, q133, sn]
theorem q137 : k0_pay137 (F := Ideal) x0 x1 x2 x3 x4 x5 x6 x7 x8 x9 x10 (ix2 0 l) = sn (x2 (ix3 0 0 l)) (x1 (ix3 0 0 l)) := by pointwise [k0_pay137, k0_pay23, k0_pay22, q124, q131, sn]
theorem q138 : k0_pay138 (F := Ideal) x0 x1 x2 x3 x4 x5 x6 x7 x8 x9 x10 (ix2 0 l) = cs (x2 (ix3 0 0 l)) (x1 (ix3 0 0 l)) := by pointwise [k0_pay138, k0_pay24, k0_pay22, q124, q131, cs]
theorem q139 : k0_pay139 (F := Ideal) x0 x1 x2 x3 x4 x5 x6 x7 x8 x9 x10 (ix2 0 l) = abi (x2 (ix3 0 0 l)) (x0 (ix3 0 0 l)) (x1 (ix3 0 0 l)) := by
  pointwise [k0_pay139, k0_pay25, k0_pay23, k0_pay22, q124, q131, q132, abi, sn]
theorem q140 : k0_pay140 (F := Ideal) x0 x1 x2 x3 x4 x5 x6 x7 x8 x9 x10 (ix2 0 l) = den (x0 (ix3 0 0 l)) (x1 (ix3 0 0 l)) := by pointwise [k0_pay140, k0_pay26, q123, q124, den]
theorem q141 : k0_pay141 (F := Ideal) x0 x1 x2 x3 x4 x5 x6 x7 x8 x9 x10 (ix2 0 l) = abr (x2 (ix3 0 0 l)) (x0 (ix3 0 0 l)) (x1 (ix3 0 0 l)) - one := by
  pointwise [k0_pay141, k0_pay27, k0_pay21, k0_pay19, q132, q133, abr, cs]
theorem q142 : k0_pay142 (F := Ideal) x0 x1 x2 x3 x4 x5 x6 x7 x8 x9 x10 (ix2 0 l) = numr (x2 (ix3 0 0 l)) (x0 (ix3 0 0 l)) (x1 (ix3 0 0 l)) := by
  pointwise [k0_pay142, k0_pay28, k0_pay27, k0_pay25, k0_pay23, k0_pay22, k0_pay21, k0_pay19, q123, q124, q131, q132, q133, numr, abr, abi, cs, sn]
theorem q143 : k0_pay143 (F := Ideal) x0 x1 x2 x3 x4 x5 x6 x7 x8 x9 x10 (ix2 0 l) = fr (x2 (ix3 0 0 l)) (x0 (ix3 0 0 l)) (x1 (ix3 0 0 l)) := by
  pointwise [k0_pay143, k0_pay29, k0_pay28, k0_pay27, k0_pay26, k0_pay25, k0_pay23, k0_pay22, k0_pay21, k0_pay19, q123, q124, q131, q132, q133, fr, den, numr, abr, abi, cs, sn]
theorem q144 : k0_pay144 (F := Ideal) x0 x1 x2 x3 x4 x5 x6 x7 x8 x9 x10 (ix2 0 l) = inv (x0 (ix3 0 0 l)) (x1 (ix3 0 0 l)) := by
  pointwise [k0_pay144, k0_pay30, k0_pay26, q123, q124, inv, den]
theorem q145 : k0_pay145 (F := Ideal) x0 x1 x2 x3 x4 x5 x6 x7 x8 x9 x10 (ix2 0 l) = fi (x2 (ix3 0 0 l)) (x0 (ix3 0 0 l)) (x1 (ix3 0 0 l)) := by
  pointwise [k0_pay145, k0_pay32, k0_pay31, k0_pay27, k0_pay26, k0_pay25, k0_pay23, k0_pay22, k0_pay21, k0_pay19, q123, q124, q131, q132, q133, fi, den, numi, abr, abi, cs, sn]
/-- The cotangent of the input factor, over the 128 rows of a column. -/
def ti : EReal := ∑ r : Fin 128, x8 (ix3 0 r l) * x3 (ix3 0 r l) + ∑ r : Fin 128, -x7 (ix3 0 r l) * x4 (ix3 0 r l)
def tr : EReal := ∑ r : Fin 128, x8 (ix3 0 r l) * x4 (ix3 0 r l) + ∑ r : Fin 128, x7 (ix3 0 r l) * x3 (ix3 0 r l)
theorem q198 : k0_pay198 (F := Ideal) x0 x1 x2 x3 x4 x5 x6 x7 x8 x9 x10 (ix2 0 l) = ti x3 x4 x7 x8 l := by
  pointwise [k0_pay198, k0_pay107, k0_pay105, q125, q126, q127, q128, ti, zero_sub]
theorem q199 : k0_pay199 (F := Ideal) x0 x1 x2 x3 x4 x5 x6 x7 x8 x9 x10 (ix2 0 l) = tr x3 x4 x7 x8 l := by
  pointwise [k0_pay199, k0_pay109, q125, q126, q127, q128, tr]
theorem q200 : k0_pay200 (F := Ideal) x0 x1 x2 x3 x4 x5 x6 x7 x8 x9 x10 (ix2 0 l) = ti x3 x4 x7 x8 l * inv (x0 (ix3 0 0 l)) (x1 (ix3 0 0 l)) * numi (x2 (ix3 0 0 l)) (x0 (ix3 0 0 l)) (x1 (ix3 0 0 l)) := by
  pointwise [k0_pay200, k0_pay110, k0_pay107, k0_pay105, q125, q126, q127, q128, ti, zero_sub, k0_pay33, k0_pay32, k0_pay31, k0_pay27, k0_pay26, k0_pay25, k0_pay23, k0_pay22, k0_pay21, k0_pay19, q123, q124, q131, q132, q133, inv, den, numi, abr, abi, cs, sn]
/-! What the point writes, its cotangents of the decay given. -/
section
variable (ci cr : EReal) (hi : k0_pay196 (F := Ideal) x0 x1 x2 x3 x4 x5 x6 x7 x8 x9 x10 (ix2 0 l) = ci) (hr : k0_pay197 (F := Ideal) x0 x1 x2 x3 x4 x5 x6 x7 x8 x9 x10 (ix2 0 l) = cr)
include hi hr
theorem o11 : out0_11 (F := Ideal) x0 x1 x2 x3 x4 x5 x6 x7 x8 x9 x10 (ix3 0 0 l) =
    abi (x2 (ix3 0 0 l)) (x0 (ix3 0 0 l)) (x1 (ix3 0 0 l)) * e (x0 (ix3 0 0 l)) (x1 (ix3 0 0 l)) (ti x3 x4 x7 x8 l)
    + (abr (x2 (ix3 0 0 l)) (x0 (ix3 0 0 l)) (x1 (ix3 0 0 l)) - one) * e (x0 (ix3 0 0 l)) (x1 (ix3 0 0 l)) (tr x3 x4 x7 x8 l)
    + x0 (ix3 0 0 l) * dden (x2 (ix3 0 0 l)) (x0 (ix3 0 0 l)) (x1 (ix3 0 0 l)) (tr x3 x4 x7 x8 l) (ti x3 x4 x7 x8 l)
    + dden (x2 (ix3 0 0 l)) (x0 (ix3 0 0 l)) (x1 (ix3 0 0 l)) (tr x3 x4 x7 x8 l) (ti x3 x4 x7 x8 l) * x0 (ix3 0 0 l)
    + lmod (x2 (ix3 0 0 l)) (x0 (ix3 0 0 l)) (x1 (ix3 0 0 l)) (dabr (x0 (ix3 0 0 l)) (x1 (ix3 0 0 l)) cr (tr x3 x4 x7 x8 l) (ti x3 x4 x7 x8 l))
      (dabi (x0 (ix3 0 0 l)) (x1 (ix3 0 0 l)) ci (tr x3 x4 x7 x8 l) (ti x3 x4 x7 x8 l)) * stp (x2 (ix3 0 0 l)) := by
  unfold out0_11
  frame_out
  pointwise [k0_pay1, k0_pay121, k0_pay120, k0_pay116, k0_pay115, k0_pay114, k0_pay113, k0_pay112, k0_pay111, q123, q124, q131, q132, q135, q137, q139, q140, q141, q142, q144, q198, q199, q200, hi, hr, zero_sub, lmod, dabr, dabi, dden, e]
theorem o12 : out0_12 (F := Ideal) x0 x1 x2 x3 x4 x5 x6 x7 x8 x9 x10 (ix3 0 0 l) =
    (abr (x2 (ix3 0 0 l)) (x0 (ix3 0 0 l)) (x1 (ix3 0 0 l)) - one) * -e (x0 (ix3 0 0 l)) (x1 (ix3 0 0 l)) (ti x3 x4 x7 x8 l)
    + abi (x2 (ix3 0 0 l)) (x0 (ix3 0 0 l)) (x1 (ix3 0 0 l)) * e (x0 (ix3 0 0 l)) (x1 (ix3 0 0 l)) (tr x3 x4 x7 x8 l)
    + x1 (ix3 0 0 l) * dden (x2 (ix3 0 0 l)) (x0 (ix3 0 0 l)) (x1 (ix3 0 0 l)) (tr x3 x4 x7 x8 l) (ti x3 x4 x7 x8 l)
    + dden (x2 (ix3 0 0 l)) (x0 (ix3 0 0 l)) (x1 (ix3 0 0 l)) (tr x3 x4 x7 x8 l) (ti x3 x4 x7 x8 l) * x1 (ix3 0 0 l)
    + ang1 (x2 (ix3 0 0 l)) (x0 (ix3 0 0 l)) (x1 (ix3 0 0 l)) (dabi (x0 (ix3 0 0 l)) (x1 (ix3 0 0 l)) ci (tr x3 x4 x7 x8 l) (ti x3 x4 x7 x8 l)) * stp (x2 (ix3 0 0 l))
    + ang2 (x2 (ix3 0 0 l)) (x0 (ix3 0 0 l)) (x1 (ix3 0 0 l)) (dabr (x0 (ix3 0 0 l)) (x1 (ix3 0 0 l)) cr (tr x3 x4 x7 x8 l) (ti x3 x4 x7 x8 l)) * stp (x2 (ix3 0 0 l)) := by
  unfold out0_12
  frame_out
  pointwise [k0_pay2, k0_pay119, k0_pay118, k0_pay117, k0_pay116, k0_pay115, k0_pay114, k0_pay113, k0_pay112, k0_pay111, q123, q124, q131, q132, q136, q138, q139, q140, q141, q142, q144, q198, q199, q200, hi, hr, zero_sub, ang1, ang2, dabr, dabi, dden, e]
theorem o13 : out0_13 (F := Ideal) x0 x1 x2 x3 x4 x5 x6 x7 x8 x9 x10 (ix3 0 0 l) =
    (x1 (ix3 0 0 l) * ang1 (x2 (ix3 0 0 l)) (x0 (ix3 0 0 l)) (x1 (ix3 0 0 l)) (dabi (x0 (ix3 0 0 l)) (x1 (ix3 0 0 l)) ci (tr x3 x4 x7 x8 l) (ti x3 x4 x7 x8 l))
    + x1 (ix3 0 0 l) * ang2 (x2 (ix3 0 0 l)) (x0 (ix3 0 0 l)) (x1 (ix3 0 0 l)) (dabr (x0 (ix3 0 0 l)) (x1 (ix3 0 0 l)) cr (tr x3 x4 x7 x8 l) (ti x3 x4 x7 x8 l))
    + x0 (ix3 0 0 l) * lmod (x2 (ix3 0 0 l)) (x0 (ix3 0 0 l)) (x1 (ix3 0 0 l)) (dabr (x0 (ix3 0 0 l)) (x1 (ix3 0 0 l)) cr (tr x3 x4 x7 x8 l) (ti x3 x4 x7 x8 l))
      (dabi (x0 (ix3 0 0 l)) (x1 (ix3 0 0 l)) ci (tr x3 x4 x7 x8 l) (ti x3 x4 x7 x8 l))) * stp (x2 (ix3 0 0 l)) := by
  unfold out0_13
  frame_out
  pointwise [k0_pay3, k0_pay122, k0_pay120, k0_pay118, k0_pay117, k0_pay116, k0_pay115, k0_pay114, k0_pay113, k0_pay112, k0_pay111, q123, q124, q131, q132, q135, q136, q137, q138, q139, q140, q141, q142, q144, q198, q199, q200, hi, hr, zero_sub, lmod, ang1, ang2, dabr, dabi, dden, e]
end
theorem o14 (r : Fin 128) : out0_14 (F := Ideal) x0 x1 x2 x3 x4 x5 x6 x7 x8 x9 x10 (ix3 0 r l) =
    fi (x2 (ix3 0 0 l)) (x0 (ix3 0 0 l)) (x1 (ix3 0 0 l)) * x8 (ix3 0 r l) + fr (x2 (ix3 0 0 l)) (x0 (ix3 0 0 l)) (x1 (ix3 0 0 l)) * x7 (ix3 0 r l) := by
  unfold out0_14
  frame_out
  pointwise [k0_pay4, k0_pay108, q127, q128, q143, q145]
theorem o15 (r : Fin 128) : out0_15 (F := Ideal) x0 x1 x2 x3 x4 x5 x6 x7 x8 x9 x10 (ix3 0 r l) =
    fr (x2 (ix3 0 0 l)) (x0 (ix3 0 0 l)) (x1 (ix3 0 0 l)) * x8 (ix3 0 r l) + fi (x2 (ix3 0 0 l)) (x0 (ix3 0 0 l)) (x1 (ix3 0 0 l)) * -x7 (ix3 0 r l) := by
  unfold out0_15
  frame_out
  pointwise [k0_pay5, k0_pay106, k0_pay105, q127, q128, q143, q145, zero_sub]
theorem pw_one (a : ℂ) (t : Fin 256) : pw a 1 t = a := by simp [pw]
/-! The cotangents of the decay, from the powers' cotangents run backwards through the doubling. -/
section
variable (s r i : Fin 512 → ℝ) (gr gi : Fin 512 → Fin 256 → ℝ)
  (h0 : ∀ l, x0 (ix3 0 0 l) = (r l : EReal)) (h1 : ∀ l, x1 (ix3 0 0 l) = (i l : EReal)) (h2 : ∀ l, x2 (ix3 0 0 l) = (s l : EReal))
  (h9 : ∀ l t, x9 (ix3 0 t l) = (gr l t : EReal)) (h10 : ∀ l t, x10 (ix3 0 t l) = (gi l t : EReal))
/-- A column's decay. -/
abbrev dec : Fin 512 → ℂ := fun l => ⟨Real.exp (r l * Real.exp (s l)) * Real.cos (i l * Real.exp (s l)), Real.exp (r l * Real.exp (s l)) * Real.sin (i l * Real.exp (s l))⟩
/-- A column's cotangents. -/
abbrev cot : Fin 512 → Col := fun l t => ⟨gr l t, gi l t⟩
include h0 h1 h2
theorem base_re : k0_pay34 (k0_pay132 (F := Ideal) x0 x1 x2 x3 x4 x5 x6 x7 x8 x9 x10) (k0_pay133 (F := Ideal) x0 x1 x2 x3 x4 x5 x6 x7 x8 x9 x10) = re (P (dec s r i) 1) := by
  funext j
  idx_vars j
  pointwise [k0_pay34, k0_pay21, k0_pay19, q132, q133, mag, stp, h0, h1, h2, re]
  simp only [Ideal.exp_coe, Ideal.cos_coe, Ideal.sin_coe, ← EReal.coe_mul, pw_one]
theorem base_im : k0_pay35 (k0_pay124 (F := Ideal) x0 x1 x2 x3 x4 x5 x6 x7 x8 x9 x10) (k0_pay131 (F := Ideal) x0 x1 x2 x3 x4 x5 x6 x7 x8 x9 x10) (k0_pay132 (F := Ideal) x0 x1 x2 x3 x4 x5 x6 x7 x8 x9 x10) = im (P (dec s r i) 1) := by
  funext j
  idx_vars j
  pointwise [k0_pay35, k0_pay25, k0_pay23, k0_pay22, q124, q131, q132, mag, stp, h0, h1, h2, im]
  simp only [Ideal.exp_coe, Ideal.cos_coe, Ideal.sin_coe, ← EReal.coe_mul, pw_one]
include h9
theorem cot_re : k0_pay129 (F := Ideal) x0 x1 x2 x3 x4 x5 x6 x7 x8 x9 x10 = re (cot gr gi) := by
  funext j
  idx_vars j
  exact (q129 _ _ _ _ _ _ _ _ _ _ _ _ _).trans (h9 _ _)
omit h9
include h10
theorem cot_im : k0_pay130 (F := Ideal) x0 x1 x2 x3 x4 x5 x6 x7 x8 x9 x10 = im (cot gr gi) := by
  funext j
  idx_vars j
  exact (q130 _ _ _ _ _ _ _ _ _ _ _ _ _).trans (h10 _ _)
omit h0 h1 h2 h10 in
/-- The whole chain of doublings, backwards. -/
theorem chain_vals (a : Fin 512 → ℂ) (γ : Fin 512 → Col)
    (hr : k0_pay34 (k0_pay132 (F := Ideal) x0 x1 x2 x3 x4 x5 x6 x7 x8 x9 x10) (k0_pay133 (F := Ideal) x0 x1 x2 x3 x4 x5 x6 x7 x8 x9 x10) = re (P a 1))
    (hi : k0_pay35 (k0_pay124 (F := Ideal) x0 x1 x2 x3 x4 x5 x6 x7 x8 x9 x10) (k0_pay131 (F := Ideal) x0 x1 x2 x3 x4 x5 x6 x7 x8 x9 x10) (k0_pay132 (F := Ideal) x0 x1 x2 x3 x4 x5 x6 x7 x8 x9 x10) = im (P a 1))
    (cr : k0_pay129 (F := Ideal) x0 x1 x2 x3 x4 x5 x6 x7 x8 x9 x10 = re γ) (ci : k0_pay130 (F := Ideal) x0 x1 x2 x3 x4 x5 x6 x7 x8 x9 x10 = im γ) :
    k0_pay196 (F := Ideal) x0 x1 x2 x3 x4 x5 x6 x7 x8 x9 x10 (ix2 0 l) = x6 (ix3 0 0 l) + ∑ t, ((chain (a l) (γ l) t).im : EReal)
 ∧ k0_pay197 (F := Ideal) x0 x1 x2 x3 x4 x5 x6 x7 x8 x9 x10 (ix2 0 l) = x5 (ix3 0 0 l) + ∑ t, ((chain (a l) (γ l) t).re : EReal) := by
  have e6 : k0_pay11 (View.ld x6 r0_0) (ix2 0 l) = x6 (ix3 0 0 l) := by pointwise [k0_pay11]
  have e5 : k0_pay10 (View.ld x5 r0_0) (ix2 0 l) = x5 (ix3 0 0 l) := by pointwise [k0_pay10]
  constructor <;> simp only [k0_pay196, k0_pay197, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay146, k0_pay147, k0_pay134, hr, hi, cr, ci, p36 a hr hi, p37 a hr hi, p38 a hr hi, p39 a hr hi, p41 a, p42 a, p43 a, p44 a, p45 a, p46 a, p47 a, p48 a, p49 a, p51 a, p52 a, p53 a, p54 a, p55 a, p56 a, p57 a, p58 a, p59 a, p60 a, p61 a, p62 a, p64 a, p65 a, p66 a, p67 a, p68 a, p69 a, p71 a γ, p72 a γ, p73 a γ, p75 a γ, p79 a γ, p80 a γ, p81 a γ, p83 a γ, p84 a γ, p87 a (B64 a γ), p88 a (B64 a γ), p89 a (B64 a γ), p92 a (B16 a (B64 a γ)), p93 a (B16 a (B64 a γ)), p94 a (B16 a (B64 a γ)), p99 a (B a (B16 a (B64 a γ)) 8), p100 a (B a (B16 a (B64 a γ)) 8), p101 a (B a (B16 a (B64 a γ)) 8), p102 a (B a (B16 a (B64 a γ)) 8)]
  · refine (p103 a (B2 a (B a (B16 a (B64 a γ)) 8)) _ l).trans ?_
    rw [e6]
    rfl
  · refine (p104 a (B2 a (B a (B16 a (B64 a γ)) 8)) _ l).trans ?_
    rw [e5]
    rfl
end
end
end Cert.Ops
-- ==== Proof.OpsMath.lean ====
module
public import proofs.«01_k».proof.Proof.OpsRef
public import proofs.«01_k».proof.Proof.Powers
@[expose] public section
set_option maxRecDepth 16384
noncomputable section
open Idealize.ShloMosaic
open Cert.Rows Cert.Powers
/-! One column: the decay's cotangents with the powers' part inside, against the powers' terms apart. -/
namespace Cert.Ops
theorem coe_sum' {ι : Type} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]
/-- A real factor goes over a sum with a real. -/
theorem real_mul_add (x : ℝ) (y : EReal) (z : ℝ) : (x : EReal) * (y + z) = x * y + ((x * z : ℝ) : EReal) := by
  induction y using EReal.rec with
  | bot =>
    rcases lt_trichotomy x 0 with h | h | h
    · rw [EReal.bot_add, EReal.coe_mul_bot_of_neg h, EReal.top_add_coe]
    · subst h; simp
    · simp [EReal.coe_mul_bot_of_pos h]
  | coe y => rw [← EReal.coe_add, ← EReal.coe_mul, ← EReal.coe_mul, ← EReal.coe_add, mul_add]
  | top =>
    rcases lt_trichotomy x 0 with h | h | h
    · simp [EReal.coe_mul_top_of_neg h]
    · subst h; simp
    · rw [EReal.top_add_coe, EReal.coe_mul_top_of_pos h, EReal.top_add_coe]
theorem real_add_mul (x : ℝ) (y : EReal) (z : ℝ) : (y + z) * (x : EReal) = y * x + ((z * x : ℝ) : EReal) := by
  rw [mul_comm, real_mul_add, mul_comm, mul_comm z]
theorem neg_add_real (y : EReal) (z : ℝ) : -(y + (z : EReal)) = -y + ((-z : ℝ) : EReal) := by
  rw [EReal.neg_add (Or.inr (EReal.coe_ne_top z)) (Or.inr (EReal.coe_ne_bot z)), sub_eq_add_neg, EReal.coe_neg]
theorem one_eq : one = ((1 : ℝ) : EReal) := by
  unfold one
  simp [Ideal.ofBits, Ideal.ieee, -EReal.coe_mul]
  norm_num
theorem nn_eq (t : Fin 256) : nn t = (((t.val + 1 : ℕ) : ℝ) : EReal) := by
  unfold nn
  rw [one_eq]
  show ((1 : ℝ) : EReal) + (((BitVec.ofNat 32 t.val).toInt : ℝ) : EReal) = _
  rw [← EReal.coe_add]
  congr 1
  have : (BitVec.ofNat 32 t.val).toInt = (t.val : ℤ) := by
    rw [BitVec.toInt_eq_toNat_of_lt (by rw [BitVec.toNat_ofNat]; omega), BitVec.toNat_ofNat]
    omega
  rw [this]
  push_cast
  ring
section
variable (s r i : ℝ) (gr gi : Fin 256 → ℝ)
/-- The sum of the doublings' cotangents of a column. -/
def total : ℂ := ∑ t, chain ⟨Real.exp (r * Real.exp s) * Real.cos (i * Real.exp s), Real.exp (r * Real.exp s) * Real.sin (i * Real.exp s)⟩ (fun t => ⟨gr t, gi t⟩) t
theorem stp_coe : stp (s : EReal) = ((Real.exp s : ℝ) : EReal) := by simp only [stp, Ideal.exp_coe]
theorem mag_coe : mag (s : EReal) (r : EReal) = ((Real.exp (r * Real.exp s) : ℝ) : EReal) := by
  simp only [mag, stp_coe, ← EReal.coe_mul, Ideal.exp_coe]
theorem cs_coe : cs (s : EReal) (i : EReal) = ((Real.cos (i * Real.exp s) : ℝ) : EReal) := by
  simp only [cs, stp_coe, ← EReal.coe_mul, Ideal.cos_coe]
theorem sn_coe : sn (s : EReal) (i : EReal) = ((Real.sin (i * Real.exp s) : ℝ) : EReal) := by
  simp only [sn, stp_coe, ← EReal.coe_mul, Ideal.sin_coe]
/-- The powers' part taken out of the three cotangents, and what it is. -/
theorem split : ∃ c1 c2 S1 S2 S3 : ℝ, c1 + c2 = S1 + S2
 ∧ (∀ x f f', ang1 (s : EReal) (r : EReal) (i : EReal) (dabi (r : EReal) (i : EReal) (x + ((total s r i gr gi).im : EReal)) f f')
        = ang1 (s : EReal) (r : EReal) (i : EReal) (dabi (r : EReal) (i : EReal) x f f') + (c1 : EReal))
 ∧ (∀ x f f', ang2 (s : EReal) (r : EReal) (i : EReal) (dabr (r : EReal) (i : EReal) (x + ((total s r i gr gi).re : EReal)) f f')
        = ang2 (s : EReal) (r : EReal) (i : EReal) (dabr (r : EReal) (i : EReal) x f f') + (c2 : EReal))
 ∧ (∀ x y f f', lmod (s : EReal) (r : EReal) (i : EReal) (dabr (r : EReal) (i : EReal) (x + ((total s r i gr gi).re : EReal)) f f')
          (dabi (r : EReal) (i : EReal) (y + ((total s r i gr gi).im : EReal)) f f')
        = lmod (s : EReal) (r : EReal) (i : EReal) (dabr (r : EReal) (i : EReal) x f f') (dabi (r : EReal) (i : EReal) y f f') + (S3 : EReal))
 ∧ s1 (s : EReal) (r : EReal) (i : EReal) (fun t => (gi t : EReal)) = (S1 : EReal)
 ∧ s2 (s : EReal) (r : EReal) (i : EReal) (fun t => (gr t : EReal)) = (S2 : EReal)
 ∧ s3 (s : EReal) (r : EReal) (i : EReal) (fun t => (gr t : EReal)) (fun t => (gi t : EReal)) = (S3 : EReal) := by
  have hi : ∀ (x : EReal) (c : ℝ) f f', dabi (r : EReal) (i : EReal) (x + (c : EReal)) f f' = dabi (r : EReal) (i : EReal) x f f' + (c : EReal) := by
    intro x c f f'; unfold dabi; ac_rfl
  have hr : ∀ (x : EReal) (c : ℝ) f f', dabr (r : EReal) (i : EReal) (x + (c : EReal)) f f' = dabr (r : EReal) (i : EReal) x f f' + (c : EReal) := by
    intro x c f f'; unfold dabr; ac_rfl
  obtain ⟨e3, e12⟩ := chain_polar (r * Real.exp s) (i * Real.exp s) gr gi
  refine ⟨Real.exp (r * Real.exp s) * (total s r i gr gi).im * Real.cos (i * Real.exp s),
    -(Real.exp (r * Real.exp s) * (total s r i gr gi).re) * Real.sin (i * Real.exp s),
    ∑ t : Fin 256, ((t.val + 1 : ℕ) : ℝ) * (Real.exp ((t.val + 1 : ℕ) * (r * Real.exp s)) * gi t * Real.cos ((t.val + 1 : ℕ) * (i * Real.exp s))),
    ∑ t : Fin 256, ((t.val + 1 : ℕ) : ℝ) * (-(Real.exp ((t.val + 1 : ℕ) * (r * Real.exp s)) * gr t) * Real.sin ((t.val + 1 : ℕ) * (i * Real.exp s))),
    ((total s r i gr gi).im * Real.sin (i * Real.exp s) + (total s r i gr gi).re * Real.cos (i * Real.exp s)) * Real.exp (r * Real.exp s), ?_, ?_, ?_, ?_, ?_, ?_, ?_⟩
  · rw [← Finset.sum_add_distrib]
    refine Eq.trans ?_ (e12.trans (Finset.sum_congr rfl fun t _ => by ring))
    unfold total
    ring
  · intro x f f'
    rw [hi]
    unfold ang1
    rw [mag_coe, cs_coe, real_mul_add, real_add_mul]
  · intro x f f'
    rw [hr]
    unfold ang2
    rw [mag_coe, sn_coe, real_mul_add, neg_add_real, real_add_mul]
  · intro x y f f'
    rw [hi, hr]
    unfold lmod
    rw [mag_coe, cs_coe, sn_coe, real_add_mul, real_add_mul, add_add_add_comm, ← EReal.coe_add, real_add_mul]
  · unfold s1
    rw [coe_sum']
    refine Finset.sum_congr rfl fun t _ => ?_
    simp only [nn_eq, stp_coe, ← EReal.coe_mul, Ideal.exp_coe, Ideal.cos_coe]
  · unfold s2
    rw [coe_sum']
    refine Finset.sum_congr rfl fun t _ => ?_
    simp only [nn_eq, stp_coe, ← EReal.coe_mul, Ideal.exp_coe, Ideal.sin_coe, ← EReal.coe_neg]
  · unfold s3
    rw [show ((total s r i gr gi).im * Real.sin (i * Real.exp s) + (total s r i gr gi).re * Real.cos (i * Real.exp s)) * Real.exp (r * Real.exp s)
      = ∑ t : Fin 256, ((t.val + 1 : ℕ) : ℝ) * ((gi t * Real.sin ((t.val + 1 : ℕ) * (i * Real.exp s)) + gr t * Real.cos ((t.val + 1 : ℕ) * (i * Real.exp s))) * Real.exp ((t.val + 1 : ℕ) * (r * Real.exp s))) from by
        refine Eq.trans ?_ (e3.trans (Finset.sum_congr rfl fun t _ => by ring))
        unfold total
        ring, coe_sum']
    refine Finset.sum_congr rfl fun t _ => ?_
    simp only [nn_eq, stp_coe, ← EReal.coe_mul, ← EReal.coe_add, Ideal.exp_coe, Ideal.cos_coe, Ideal.sin_coe]
end
end Cert.Ops
-- ==== Proof.OpsfTile.lean ====
module
public import proofs.«01_k».proof.Proof.OpsTile
public import proofs.«01_k».proof.Proof.OpsMath
public import proofs.«01_k».proof.Proof.Gen.OpsfKernelIdeal.Frame
@[expose] public section
set_option maxRecDepth 16384
noncomputable section
open Idealize.ShloMosaic Idealize.ShloMosaic.TcCoe Idealize.SL.Sem
open Cert.Rows Cert.Powers
open Cert.Ops (re im P S sh_re sh_im dblR dblI pw_one dec stp mag cs sn abr abi den numr numi fr fi one nn)
/-! The discretised step itself: what one grid point of the kernel writes at its 512 columns. -/
namespace Cert.Opsf
section
open Cert.OpsfKernelIdeal Cert.OpsfKernelIdeal.Gen
variable (a : Fin 512 → ℂ)
/-- The real and the imaginary parts of 512 numbers, as a row. -/
def rowRe : FVec Ideal S1x512 .f32 := fun i => ((a (i 1)).re : EReal)
def rowIm : FVec Ideal S1x512 .f32 := fun i => ((a (i 1)).im : EReal)
/-! The doublings, from the powers up to the first. -/
theorem p16 : k0_pay16 (rowRe a) = re (P a 1) := by
  funext i
  idx_vars i
  pointwise [k0_pay16, re, rowRe, pw_one]
theorem p17 : k0_pay17 (rowIm a) = im (P a 1) := by
  funext i
  idx_vars i
  pointwise [k0_pay17, im, rowIm, pw_one]
theorem p18 : k0_pay18 (rowRe a) = re (S a 1) := by simp only [k0_pay18, p16]; exact sh_re 1 (by norm_num) _
theorem p19 : k0_pay19 (rowIm a) = im (S a 1) := by simp only [k0_pay19, p17]; exact sh_im 1 (by norm_num) _
theorem p20 : k0_pay20 (rowIm a) (rowRe a) = re (P a 2) := by simp only [k0_pay20, p16, p17, p18, p19]; exact dblR a 1 2 rfl
theorem p21 : k0_pay21 (rowIm a) (rowRe a) = im (P a 2) := by simp only [k0_pay21, p16, p17, p18, p19]; exact dblI a 1 2 rfl
theorem p22 : k0_pay22 (rowIm a) (rowRe a) = re (S a 2) := by simp only [k0_pay22, p20]; exact sh_re 2 (by norm_num) _
theorem p23 : k0_pay23 (rowIm a) (rowRe a) = im (S a 2) := by simp only [k0_pay23, p21]; exact sh_im 2 (by norm_num) _
theorem p24 : k0_pay24 (rowIm a) (rowRe a) = re (P a 4) := by simp only [k0_pay24, p20, p21, p22, p23]; exact dblR a 2 4 rfl
theorem p25 : k0_pay25 (rowIm a) (rowRe a) = im (P a 4) := by simp only [k0_pay25, p20, p21, p22, p23]; exact dblI a 2 4 rfl
theorem p26 : k0_pay26 (rowIm a) (rowRe a) = re (S a 4) := by simp only [k0_pay26, p24]; exact sh_re 4 (by norm_num) _
theorem p27 : k0_pay27 (im (P a 4)) = im (S a 4) := sh_im 4 (by norm_num) _
theorem p28 : k0_pay28 (re (P a 4)) (im (P a 4)) (re (S a 4)) = re (P a 8) := by simp only [k0_pay28, p27]; exact dblR a 4 8 rfl
theorem p29 : k0_pay29 (re (P a 4)) (im (P a 4)) (re (S a 4)) = im (P a 8) := by simp only [k0_pay29, p27]; exact dblI a 4 8 rfl
theorem p30 : k0_pay30 (re (P a 4)) (im (P a 4)) (re (S a 4)) = re (S a 8) := by simp only [k0_pay30, p28]; exact sh_re 8 (by norm_num) _
theorem p31 : k0_pay31 (re (P a 4)) (im (P a 4)) (re (S a 4)) = im (S a 8) := by simp only [k0_pay31, p29]; exact sh_im 8 (by norm_num) _
theorem p32 : k0_pay32 (re (P a 4)) (im (P a 4)) (re (S a 4)) = re (P a 16) := by simp only [k0_pay32, p28, p29, p30, p31]; exact dblR a 8 16 rfl
theorem p33 : k0_pay33 (re (P a 4)) (im (P a 4)) (re (S a 4)) = im (P a 16) := by simp only [k0_pay33, p28, p29, p30, p31]; exact dblI a 8 16 rfl
theorem p34 : k0_pay34 (re (P a 4)) (im (P a 4)) (re (S a 4)) = re (S a 16) := by simp only [k0_pay34, p32]; exact sh_re 16 (by norm_num) _
theorem p35 : k0_pay35 (re (P a 4)) (im (P a 4)) (re (S a 4)) = im (S a 16) := by simp only [k0_pay35, p33]; exact sh_im 16 (by norm_num) _
theorem p36 : k0_pay36 (re (P a 4)) (im (P a 4)) (re (S a 4)) = re (P a 32) := by simp only [k0_pay36, p32, p33, p34, p35]; exact dblR a 16 32 rfl
theorem p37 : k0_pay37 (re (P a 16)) (im (P a 16)) (re (S a 16)) (im (S a 16)) = im (P a 32) := dblI a 16 32 rfl
theorem p38 : k0_pay38 (re (P a 32)) = re (S a 32) := sh_re 32 (by norm_num) _
theorem p39 : k0_pay39 (re (P a 16)) (im (P a 16)) (re (S a 16)) (im (S a 16)) = im (S a 32) := by simp only [k0_pay39, p37]; exact sh_im 32 (by norm_num) _
theorem p40 : k0_pay40 (re (P a 16)) (im (P a 16)) (re (S a 16)) (im (S a 16)) (re (P a 32)) = re (P a 64) := by simp only [k0_pay40, p37, p38, p39]; exact dblR a 32 64 rfl
theorem p41 : k0_pay41 (re (P a 16)) (im (P a 16)) (re (S a 16)) (im (S a 16)) (re (P a 32)) = im (P a 64) := by simp only [k0_pay41, p37, p38, p39]; exact dblI a 32 64 rfl
theorem p42 : k0_pay42 (re (P a 16)) (im (P a 16)) (re (S a 16)) (im (S a 16)) (re (P a 32)) = re (S a 64) := by simp only [k0_pay42, p40]; exact sh_re 64 (by norm_num) _
theorem p43 : k0_pay43 (re (P a 16)) (im (P a 16)) (re (S a 16)) (im (S a 16)) (re (P a 32)) = im (S a 64) := by simp only [k0_pay43, p41]; exact sh_im 64 (by norm_num) _
theorem p44 : k0_pay44 (re (P a 16)) (im (P a 16)) (re (S a 16)) (im (S a 16)) (re (P a 32)) = re (P a 128) := by simp only [k0_pay44, p40, p41, p42, p43]; exact dblR a 64 128 rfl
theorem p45 : k0_pay45 (re (P a 16)) (im (P a 16)) (re (S a 16)) (im (S a 16)) (re (P a 32)) = im (P a 128) := by simp only [k0_pay45, p40, p41, p42, p43]; exact dblI a 64 128 rfl
theorem p46 : k0_pay46 (re (P a 16)) (im (P a 16)) (re (S a 16)) (im (S a 16)) (re (P a 32)) = re (S a 128) := by simp only [k0_pay46, p44]; exact sh_re 128 (by norm_num) _
theorem p47 : k0_pay47 (im (P a 128)) = im (S a 128) := sh_im 128 (by norm_num) _
theorem p52 (t : Fin 256) (l : Fin 512) : k0_pay52 (re (P a 128)) (im (P a 128)) (re (S a 128)) (ix3 0 t l) = (((a l) ^ (t.val + 1)).re : EReal) := by
  have e : k0_pay52 (re (P a 128)) (im (P a 128)) (re (S a 128)) = shapeCast S1x256x512 (re (P a 256)) shapeCasts_S256x512_S1x256x512 := by
    simp only [k0_pay52, p47]
    exact congrArg (fun x => shapeCast S1x256x512 x shapeCasts_S256x512_S1x256x512) (dblR a 128 256 rfl)
  have h : min (t.val + 1) 256 = t.val + 1 := by omega
  rw [e]
  pointwise [re]
  simp only [pw, h]
theorem p53 (t : Fin 256) (l : Fin 512) : k0_pay53 (re (P a 128)) (im (P a 128)) (re (S a 128)) (ix3 0 t l) = (((a l) ^ (t.val + 1)).im : EReal) := by
  have e : k0_pay53 (re (P a 128)) (im (P a 128)) (re (S a 128)) = shapeCast S1x256x512 (im (P a 256)) shapeCasts_S256x512_S1x256x512 := by
    simp only [k0_pay53, p47]
    exact congrArg (fun x => shapeCast S1x256x512 x shapeCasts_S256x512_S1x256x512) (dblI a 128 256 rfl)
  have h : min (t.val + 1) 256 = t.val + 1 := by omega
  rw [e]
  pointwise [im]
  simp only [pw, h]
/-! What the grid point writes. -/
variable (x0 x1 x2 : FVec Ideal S1x1x512 .f32) (x3 x4 : FVec Ideal S1x128x512 .f32) (l : Fin 512)
theorem o5 : out0_5 (F := Ideal) x0 x1 x2 x3 x4 (ix3 0 0 l) = abr (x2 (ix3 0 0 l)) (x0 (ix3 0 0 l)) (x1 (ix3 0 0 l)) := by
  unfold out0_5
  frame_out
  pointwise [k0_pay48, k0_pay7, k0_pay6, k0_pay5, k0_pay2, k0_pay1, abr, mag, cs, stp]
theorem o6 : out0_6 (F := Ideal) x0 x1 x2 x3 x4 (ix3 0 0 l) = abi (x2 (ix3 0 0 l)) (x0 (ix3 0 0 l)) (x1 (ix3 0 0 l)) := by
  unfold out0_6
  frame_out
  pointwise [k0_pay49, k0_pay54, k0_pay8, k0_pay6, k0_pay5, k0_pay2, k0_pay1, abi, mag, sn, stp]
theorem q11 : k0_pay11 (F := Ideal) x0 x1 x2 (ix2 0 l) = fr (x2 (ix3 0 0 l)) (x0 (ix3 0 0 l)) (x1 (ix3 0 0 l)) := by
  pointwise [k0_pay11, k0_pay10, k0_pay9, k0_pay8, k0_pay7, k0_pay6, k0_pay5, k0_pay2, k0_pay1, fr, numr, den, abr, abi, mag, cs, sn, stp, one]
theorem q12 : k0_pay12 (F := Ideal) x0 x1 x2 (ix2 0 l) = fi (x2 (ix3 0 0 l)) (x0 (ix3 0 0 l)) (x1 (ix3 0 0 l)) := by
  pointwise [k0_pay12, k0_pay10, k0_pay9, k0_pay8, k0_pay7, k0_pay6, k0_pay5, k0_pay2, k0_pay1, fi, numi, den, abr, abi, mag, cs, sn, stp, one]
theorem o7 (r : Fin 128) : out0_7 (F := Ideal) x0 x1 x2 x3 x4 (ix3 0 r l) = fr (x2 (ix3 0 0 l)) (x0 (ix3 0 0 l)) (x1 (ix3 0 0 l)) * x3 (ix3 0 r l) - fi (x2 (ix3 0 0 l)) (x0 (ix3 0 0 l)) (x1 (ix3 0 0 l)) * x4 (ix3 0 r l) := by
  unfold out0_7
  frame_out
  pointwise [k0_pay50, k0_pay13, k0_pay4, k0_pay3, q11, q12]
theorem o8 (r : Fin 128) : out0_8 (F := Ideal) x0 x1 x2 x3 x4 (ix3 0 r l) = fr (x2 (ix3 0 0 l)) (x0 (ix3 0 0 l)) (x1 (ix3 0 0 l)) * x4 (ix3 0 r l) + fi (x2 (ix3 0 0 l)) (x0 (ix3 0 0 l)) (x1 (ix3 0 0 l)) * x3 (ix3 0 r l) := by
  unfold out0_8
  frame_out
  pointwise [k0_pay51, k0_pay14, k0_pay4, k0_pay3, q11, q12]
section
variable (s r i : Fin 512 → ℝ) (h0 : ∀ l, x0 (ix3 0 0 l) = (r l : EReal)) (h1 : ∀ l, x1 (ix3 0 0 l) = (i l : EReal)) (h2 : ∀ l, x2 (ix3 0 0 l) = (s l : EReal))
include h0 h1 h2
theorem base_im : k0_pay54 (F := Ideal) x0 x1 x2 x3 x4 = rowIm (dec s r i) := by
  funext j
  idx_vars j
  obtain rfl : j0 = 0 := Subsingleton.elim _ _
  pointwise [k0_pay54, k0_pay8, k0_pay6, k0_pay5, k0_pay2, k0_pay1, h0, h1, h2, rowIm]
  simp only [Ideal.exp_coe, Ideal.cos_coe, Ideal.sin_coe, ← EReal.coe_mul]
theorem base_re : k0_pay55 (F := Ideal) x0 x1 x2 x3 x4 = rowRe (dec s r i) := by
  funext j
  idx_vars j
  obtain rfl : j0 = 0 := Subsingleton.elim _ _
  pointwise [k0_pay55, k0_pay15, k0_pay7, k0_pay6, k0_pay5, k0_pay2, k0_pay1, h0, h1, h2, rowRe]
  simp only [Ideal.exp_coe, Ideal.cos_coe, Ideal.sin_coe, ← EReal.coe_mul]
omit h0 h1 h2 in
/-- The powers up to the 128-th, and those moved down, from the base. -/
theorem doubled (a : Fin 512 → ℂ) (hr : k0_pay55 (F := Ideal) x0 x1 x2 x3 x4 = rowRe a) (hi : k0_pay54 (F := Ideal) x0 x1 x2 x3 x4 = rowIm a) :
    k0_pay64 (F := Ideal) x0 x1 x2 x3 x4 = re (P a 128) ∧ k0_pay65 (F := Ideal) x0 x1 x2 x3 x4 = im (P a 128) ∧ k0_pay66 (F := Ideal) x0 x1 x2 x3 x4 = re (S a 128) := by
  have e56 : k0_pay56 (F := Ideal) x0 x1 x2 x3 x4 = re (P a 4) := by simp only [k0_pay56, hr, hi, p24]
  have e57 : k0_pay57 (F := Ideal) x0 x1 x2 x3 x4 = im (P a 4) := by simp only [k0_pay57, hr, hi, p25]
  have e58 : k0_pay58 (F := Ideal) x0 x1 x2 x3 x4 = re (S a 4) := by simp only [k0_pay58, hr, hi, p26]
  have e59 : k0_pay59 (F := Ideal) x0 x1 x2 x3 x4 = re (P a 16) := by simp only [k0_pay59, e56, e57, e58, p32]
  have e60 : k0_pay60 (F := Ideal) x0 x1 x2 x3 x4 = im (P a 16) := by simp only [k0_pay60, e56, e57, e58, p33]
  have e61 : k0_pay61 (F := Ideal) x0 x1 x2 x3 x4 = re (S a 16) := by simp only [k0_pay61, e56, e57, e58, p34]
  have e62 : k0_pay62 (F := Ideal) x0 x1 x2 x3 x4 = im (S a 16) := by simp only [k0_pay62, e56, e57, e58, p35]
  have e63 : k0_pay63 (F := Ideal) x0 x1 x2 x3 x4 = re (P a 32) := by simp only [k0_pay63, e56, e57, e58, p36]
  refine ⟨?_, ?_, ?_⟩
  · simp only [k0_pay64, e59, e60, e61, e62, e63, p44]
  · simp only [k0_pay65, e59, e60, e61, e62, e63, p45]
  · simp only [k0_pay66, e59, e60, e61, e62, e63, p46]
theorem o9 (t : Fin 256) : out0_9 (F := Ideal) x0 x1 x2 x3 x4 (ix3 0 t l) = (((dec s r i l) ^ (t.val + 1)).re : EReal) := by
  obtain ⟨e1, e2, e3⟩ := doubled x0 x1 x2 x3 x4 _ (base_re x0 x1 x2 x3 x4 s r i h0 h1 h2) (base_im x0 x1 x2 x3 x4 s r i h0 h1 h2)
  unfold out0_9
  frame_out
  rw [e1, e2, e3]
  exact p52 _ t l
theorem o10 (t : Fin 256) : out0_10 (F := Ideal) x0 x1 x2 x3 x4 (ix3 0 t l) = (((dec s r i l) ^ (t.val + 1)).im : EReal) := by
  obtain ⟨e1, e2, e3⟩ := doubled x0 x1 x2 x3 x4 _ (base_re x0 x1 x2 x3 x4 s r i h0 h1 h2) (base_im x0 x1 x2 x3 x4 s r i h0 h1 h2)
  unfold out0_10
  frame_out
  rw [e1, e2, e3]
  exact p53 _ t l
end
end
end Cert.Opsf
-- ==== Proof.OpsHost.lean ====
module
public import proofs.«01_k».proof.Proof.OpsTile
public import proofs.«01_k».proof.Proof.OpsMath
@[expose] public section
set_option maxRecDepth 16384
noncomputable section
open Idealize.ShloMosaic Idealize.ShloMosaic.TcCoe Idealize.SL.Sem
open Cert.Rows Cert.Powers
namespace Cert.Ops
open Cert.OpsKernelIdeal Cert.OpsKernelIdeal.Gen
/-! What the host hands the kernel: the arrays of the step in the kernel's order of columns. -/
/-- One value for each state, in four rows of eight heads. -/
def rows (x : FVec Ideal S32x64 .f32) : FVec Ideal S4x1x512 .f32 := shapeCast S4x1x512 x shapeCasts_S32x64_S4x1x512
/-- One value for each head, repeated over its states. -/
def rep (x : FVec Ideal S32 .f32) : FVec Ideal S4x1x512 .f32 :=
  shapeCast S4x1x512 (shapeCast S2048 (broadcastInDim S32x64 ![0] bcast_S32_S32x64_0 x) shapeCasts_S32x64_S2048) shapeCasts_S2048_S4x1x512
/-- One where two heads agree, zero elsewhere. -/
def same : FVec Ideal S1x8x1x8x1 .f32 :=
  broadcastInDim S1x8x1x8x1 ![1, 2, 3, 4] bcast_S8x1x8x1_S1x8x1x8x1_1_2_3_4 (broadcastInDim S8x1x8x1 ![0, 2] bcast_S8x8_S8x1x8x1_0_2
    (uitofp .f32 (cmpi .eq (addi (iotaInDim S8x8 32 0) (broadcastInDim S8x8 ![] bcast_S_S8x8 (constantI S_ 32 0#32))) (iotaInDim S8x8 32 1))))
/-- Blocks on the diagonal. -/
def diag (x : FVec Ideal S32x64x16 .f32) : FVec Ideal S4x128x512 .f32 :=
  shapeCast S4x128x512 (mulf (broadcastInDim S4x8x16x8x64 ![0, 1, 2, 3, 4] bcast_S4x8x16x1x64_S4x8x16x8x64_0_1_2_3_4
    (broadcastInDim S4x8x16x1x64 ![0, 1, 2, 4] bcast_S4x8x16x64_S4x8x16x1x64_0_1_2_4
      (shapeCast S4x8x16x64 (transpose S32x16x64 [0, 2, 1] x transposes_S32x64x16_S32x16x64_0_2_1) shapeCasts_S32x16x64_S4x8x16x64)))
    (broadcastInDim S4x8x16x8x64 ![0, 1, 2, 3, 4] bcast_S1x8x1x8x1_S4x8x16x8x64_0_1_2_3_4 same)) shapeCasts_S4x8x16x8x64_S4x128x512
/-- A row of values for each time. -/
def times (x : FVec Ideal S256x32x64 .f32) : FVec Ideal S4x256x512 .f32 :=
  transpose S4x256x512 [1, 0, 2] (shapeCast S256x4x512 x shapeCasts_S256x32x64_S256x4x512) transposes_S256x4x512_S4x256x512_1_0_2
section
variable (W : Valuation τ sig (Elt Ideal))
set_option maxHeartbeats 4000000 in
theorem head_0 : StableHlo.after hostOps0 W (Proc.devRef .tc main_v0) = rows (W (Proc.devRef .tc main_arg1)) := by
  unfold hostOps0
  after_region_results
  rfl
set_option maxHeartbeats 4000000 in
theorem head_1 : StableHlo.after hostOps0 W (Proc.devRef .tc main_v1) = rows (W (Proc.devRef .tc main_arg2)) := by
  unfold hostOps0
  after_region_results
  rfl
set_option maxHeartbeats 4000000 in
theorem head_4 : StableHlo.after hostOps0 W (Proc.devRef .tc main_v4) = rep (W (Proc.devRef .tc main_arg0)) := by
  unfold hostOps0
  after_region_results
  rfl
set_option maxHeartbeats 4000000 in
theorem head_19 : StableHlo.after hostOps0 W (Proc.devRef .tc main_v19) = diag (W (Proc.devRef .tc main_arg3)) := by
  unfold hostOps0
  after_region_results
  rfl
set_option maxHeartbeats 4000000 in
theorem head_34 : StableHlo.after hostOps0 W (Proc.devRef .tc main_v34) = diag (W (Proc.devRef .tc main_arg4)) := by
  unfold hostOps0
  after_region_results
  rfl
set_option maxHeartbeats 4000000 in
theorem head_35 : StableHlo.after hostOps0 W (Proc.devRef .tc main_v35) = rows (W (Proc.devRef .tc main_arg5)) := by
  unfold hostOps0
  after_region_results
  rfl
set_option maxHeartbeats 4000000 in
theorem head_36 : StableHlo.after hostOps0 W (Proc.devRef .tc main_v36) = rows (W (Proc.devRef .tc main_arg6)) := by
  unfold hostOps0
  after_region_results
  rfl
set_option maxHeartbeats 4000000 in
theorem head_51 : StableHlo.after hostOps0 W (Proc.devRef .tc main_v51) = diag (W (Proc.devRef .tc main_arg7)) := by
  unfold hostOps0
  after_region_results
  rfl
set_option maxHeartbeats 4000000 in
theorem head_66 : StableHlo.after hostOps0 W (Proc.devRef .tc main_v66) = diag (W (Proc.devRef .tc main_arg8)) := by
  unfold hostOps0
  after_region_results
  rfl
set_option maxHeartbeats 4000000 in
theorem head_68 : StableHlo.after hostOps0 W (Proc.devRef .tc main_v68) = times (W (Proc.devRef .tc main_arg9)) := by
  unfold hostOps0
  after_region_results
  rfl
set_option maxHeartbeats 4000000 in
theorem head_70 : StableHlo.after hostOps0 W (Proc.devRef .tc main_v70) = times (W (Proc.devRef .tc main_arg10)) := by
  unfold hostOps0
  after_region_results
  rfl
set_option maxHeartbeats 4000000 in
theorem head_15 : StableHlo.after hostOps0 W (Proc.devRef .tc main_v15) = same := by
  unfold hostOps0
  after_region_results
  rfl
set_option maxHeartbeats 4000000 in
theorem head_30 : StableHlo.after hostOps0 W (Proc.devRef .tc main_v30) = same := by
  unfold hostOps0
  after_region_results
  rfl
end
section
theorem same_at (g g' : Fin 8) : same (ix5 0 g 0 g' 0) = if g = g' then (1 : EReal) else 0 := by
  have e : IntOp.cmpi .eq (IntOp.addi (BitVec.ofNat 32 g.val) 0#32) (BitVec.ofNat 32 g'.val) = if g = g' then 1#1 else 0#1 := by
    revert g g'; decide
  pointwise [same]
  rw [e]
  split <;> simp [FloatOps.uitofp]
theorem diag_at (x : FVec Ideal S32x64x16 .f32) (b : Fin 4) (r : Fin 128) (l : Fin 512) : diag x (ix3 b r l) =
   x (ix3 ⟨b.val * 8 + r.val / 16, by omega⟩ ⟨l.val % 64, by omega⟩ ⟨r.val % 16, by omega⟩) * same (ix5 0 ⟨r.val / 16, by omega⟩ 0 ⟨l.val / 64, by omega⟩ 0) := by
  pointwise [diag]
theorem rows_at (x : FVec Ideal S32x64 .f32) (b : Fin 4) (l : Fin 512) : rows x (ix3 b 0 l) = x (ix2 ⟨b.val * 8 + l.val / 64, by omega⟩ ⟨l.val % 64, by omega⟩) := by
  pointwise [rows]
theorem rep_at (x : FVec Ideal S32 .f32) (b : Fin 4) (l : Fin 512) : rep x (ix3 b 0 l) = x (ix1 ⟨b.val * 8 + l.val / 64, by omega⟩) := by
  pointwise [rep]
theorem times_at (x : FVec Ideal S256x32x64 .f32) (b : Fin 4) (r : Fin 256) (l : Fin 512) : times x (ix3 b r l) =
   x (ix3 r ⟨b.val * 8 + l.val / 64, by omega⟩ ⟨l.val % 64, by omega⟩) := by
  pointwise [times]
end
end Cert.Ops
-- ==== Proof.OpsCols.lean ====
module
public import proofs.«01_k».proof.Proof.OpsHost
@[expose] public section
set_option maxRecDepth 16384
noncomputable section
open Idealize.ShloMosaic Idealize.ShloMosaic.TcCoe Idealize.SL.Sem
open Cert.Rows Cert.Powers
namespace Cert.Ops
/-! Columns of the kernel's blocks as heads and states. -/
section
open Cert.OpsKernelIdeal Cert.OpsKernelIdeal.Gen
/-- The head and the state of column `l` of row `b`. -/
def hd (b : Fin 4) (l : Fin 512) : Fin 32 := ⟨b.val * 8 + l.val / 64, by omega⟩
def st (l : Fin 512) : Fin 64 := ⟨l.val % 64, by omega⟩
theorem diag_gc (x : FVec Ideal S32x64x16 .f32) (b : Fin 4) (g : Fin 8) (c : Fin 16) (l : Fin 512) (r : Fin 128) (hr : r.val = c.val + 16 * g.val) :
    diag x (ix3 b r l) = x (ix3 ⟨b.val * 8 + g.val, by omega⟩ (st l) c) * if g.val = l.val / 64 then (1 : EReal) else 0 := by
  rw [diag_at, same_at]
  have e1 : r.val / 16 = g.val := by omega
  have e2 : r.val % 16 = c.val := by omega
  simp only [e1, e2, Fin.mk.injEq, st]
/-- A product of two block-diagonal arrays, summed over a column: the head's own block. -/
theorem diag_dot (σ : EReal → EReal) (h0 : σ 0 = 0) (x y : FVec Ideal S32x64x16 .f32) (b : Fin 4) (l : Fin 512) :
    ∑ r : Fin 128, σ (diag x (ix3 b r l)) * diag y (ix3 b r l) = ∑ c : Fin 16, σ (x (ix3 (hd b l) (st l) c)) * y (ix3 (hd b l) (st l) c) := by
  rw [← (finProdFinEquiv (m := 8) (n := 16)).sum_comp, Fintype.sum_prod_type, Finset.sum_eq_single (⟨l.val / 64, by omega⟩ : Fin 8)]
  · refine Finset.sum_congr rfl fun c _ => ?_
    rw [diag_gc x b ⟨l.val / 64, by omega⟩ c l _ rfl, diag_gc y b ⟨l.val / 64, by omega⟩ c l _ rfl]
    simp only [if_true, mul_one]
    rfl
  · intro g _ hg
    refine Finset.sum_eq_zero fun c _ => ?_
    have : ¬ g.val = l.val / 64 := fun h => hg (Fin.ext h)
    rw [diag_gc x b g c l _ rfl, diag_gc y b g c l _ rfl, if_neg this, mul_zero, mul_zero, mul_zero]
  · intro h; exact absurd (Finset.mem_univ _) h
section
variable (A0 : FVec Ideal S32 .f32) (A1 A2 A5 A6 : FVec Ideal S32x64 .f32) (A3 A4 A7 A8 : FVec Ideal S32x64x16 .f32) (A9 A10 : FVec Ideal S256x32x64 .f32)
  (X0 X1 X2 X5 X6 : FVec Ideal S1x1x512 .f32) (X3 X4 X7 X8 : FVec Ideal S1x128x512 .f32) (X9 X10 : FVec Ideal S1x256x512 .f32) (b : Fin 4)
/-- The blocks one grid point reads, from the arrays. -/
structure Blocks : Prop where
  h0 : ∀ l, X0 (ix3 0 0 l) = A1 (ix2 (hd b l) (st l))
  h1 : ∀ l, X1 (ix3 0 0 l) = A2 (ix2 (hd b l) (st l))
  h2 : ∀ l, X2 (ix3 0 0 l) = A0 (ix1 (hd b l))
  h3 : ∀ r l, X3 (ix3 0 r l) = diag A3 (ix3 b r l)
  h4 : ∀ r l, X4 (ix3 0 r l) = diag A4 (ix3 b r l)
  h5 : ∀ l, X5 (ix3 0 0 l) = A5 (ix2 (hd b l) (st l))
  h6 : ∀ l, X6 (ix3 0 0 l) = A6 (ix2 (hd b l) (st l))
  h7 : ∀ r l, X7 (ix3 0 r l) = diag A7 (ix3 b r l)
  h8 : ∀ r l, X8 (ix3 0 r l) = diag A8 (ix3 b r l)
  h9 : ∀ t l, X9 (ix3 0 t l) = A9 (ix3 t (hd b l) (st l))
  h10 : ∀ t l, X10 (ix3 0 t l) = A10 (ix3 t (hd b l) (st l))
/-- The five arrays are finite. -/
structure Real (s : Fin 32 → ℝ) (r i : Fin 32 → Fin 64 → ℝ) (gr gi : Fin 256 → Fin 32 → Fin 64 → ℝ) : Prop where
  h0 : ∀ h, A0 (ix1 h) = (s h : EReal)
  h1 : ∀ h k, A1 (ix2 h k) = (r h k : EReal)
  h2 : ∀ h k, A2 (ix2 h k) = (i h k : EReal)
  h9 : ∀ t h k, A9 (ix3 t h k) = (gr t h k : EReal)
  h10 : ∀ t h k, A10 (ix3 t h k) = (gi t h k : EReal)
variable {A0 A1 A2 A5 A6 A3 A4 A7 A8 A9 A10 X0 X1 X2 X5 X6 X3 X4 X7 X8 X9 X10 b}
  (B : Blocks A0 A1 A2 A5 A6 A3 A4 A7 A8 A9 A10 X0 X1 X2 X5 X6 X3 X4 X7 X8 X9 X10 b)
include B
theorem ti_eq (l : Fin 512) : ti X3 X4 X7 X8 l = dfi A3 A4 A7 A8 (hd b l) (st l) := by
  unfold ti dfi
  simp only [B.h3, B.h4, B.h7, B.h8]
  exact congrArg₂ (· + ·) (diag_dot id rfl A8 A3 b l) (diag_dot (fun x => -x) neg_zero A7 A4 b l)
theorem tr_eq (l : Fin 512) : tr X3 X4 X7 X8 l = dfr A3 A4 A7 A8 (hd b l) (st l) := by
  unfold tr dfr
  simp only [B.h3, B.h4, B.h7, B.h8]
  exact congrArg₂ (· + ·) (diag_dot id rfl A8 A4 b l) (diag_dot id rfl A7 A3 b l)
variable {s : Fin 32 → ℝ} {r i : Fin 32 → Fin 64 → ℝ} {gr gi : Fin 256 → Fin 32 → Fin 64 → ℝ} (R : Real A0 A1 A2 A9 A10 s r i gr gi)
include R
/-- The decay's cotangents of a column: what the arrays hold and what comes through the powers. -/
theorem decay_vals (l : Fin 512) :
    k0_pay196 (F := Ideal) X0 X1 X2 X3 X4 X5 X6 X7 X8 X9 X10 (ix2 0 l) = A6 (ix2 (hd b l) (st l))
      + ((total (s (hd b l)) (r (hd b l) (st l)) (i (hd b l) (st l)) (fun t => gr t (hd b l) (st l)) (fun t => gi t (hd b l) (st l))).im : EReal)
 ∧ k0_pay197 (F := Ideal) X0 X1 X2 X3 X4 X5 X6 X7 X8 X9 X10 (ix2 0 l) = A5 (ix2 (hd b l) (st l))
      + ((total (s (hd b l)) (r (hd b l) (st l)) (i (hd b l) (st l)) (fun t => gr t (hd b l) (st l)) (fun t => gi t (hd b l) (st l))).re : EReal) := by
  have H0 : ∀ l, X0 (ix3 0 0 l) = (r (hd b l) (st l) : EReal) := fun l => (B.h0 l).trans (R.h1 _ _)
  have H1 : ∀ l, X1 (ix3 0 0 l) = (i (hd b l) (st l) : EReal) := fun l => (B.h1 l).trans (R.h2 _ _)
  have H2 : ∀ l, X2 (ix3 0 0 l) = (s (hd b l) : EReal) := fun l => (B.h2 l).trans (R.h0 _)
  have H9 : ∀ l t, X9 (ix3 0 t l) = (gr t (hd b l) (st l) : EReal) := fun l t => (B.h9 t l).trans (R.h9 _ _ _)
  have H10 : ∀ l t, X10 (ix3 0 t l) = (gi t (hd b l) (st l) : EReal) := fun l t => (B.h10 t l).trans (R.h10 _ _ _)
  obtain ⟨e1, e2⟩ := chain_vals X0 X1 X2 X5 X6 X3 X4 X7 X8 X9 X10 l _ _
    (base_re X0 X1 X2 X5 X6 X3 X4 X7 X8 X9 X10 (fun l => s (hd b l)) (fun l => r (hd b l) (st l)) (fun l => i (hd b l) (st l)) H0 H1 H2)
    (base_im X0 X1 X2 X5 X6 X3 X4 X7 X8 X9 X10 (fun l => s (hd b l)) (fun l => r (hd b l) (st l)) (fun l => i (hd b l) (st l)) H0 H1 H2)
    (cot_re X0 X1 X2 X5 X6 X3 X4 X7 X8 X9 X10 (fun l => s (hd b l)) (fun l => r (hd b l) (st l)) (fun l => i (hd b l) (st l)) (fun l t => gr t (hd b l) (st l)) (fun l t => gi t (hd b l) (st l)) H0 H1 H2 H9)
    (cot_im X0 X1 X2 X5 X6 X3 X4 X7 X8 X9 X10 (fun l => s (hd b l)) (fun l => r (hd b l) (st l)) (fun l => i (hd b l) (st l)) (fun l t => gr t (hd b l) (st l)) (fun l t => gi t (hd b l) (st l)) H0 H1 H2 H10)
  refine ⟨e1.trans ?_, e2.trans ?_⟩
  · rw [B.h6, total, Complex.im_sum, coe_sum']
  · rw [B.h5, total, Complex.re_sum, coe_sum']
/-- What a grid point writes. -/
theorem w11 (l : Fin 512) : out0_11 (F := Ideal) X0 X1 X2 X3 X4 X5 X6 X7 X8 X9 X10 (ix3 0 0 l) = dAre A0 A1 A2 A5 A6 A3 A4 A7 A8 A9 A10 (hd b l) (st l) := by
  obtain ⟨e1, e2⟩ := decay_vals B R l
  obtain ⟨c1, c2, S1, S2, S3, h12, -, -, h3, -, -, g3⟩ := split (s (hd b l)) (r (hd b l) (st l)) (i (hd b l) (st l)) (fun t => gr t (hd b l) (st l)) (fun t => gi t (hd b l) (st l))
  rw [o11 (hi := e1) (hr := e2), B.h0, B.h1, B.h2, ti_eq B, tr_eq B]
  unfold dAre restr t3 u3 ca cb
  simp only [R.h0, R.h1, R.h2, R.h9, R.h10, h3, g3, stp_coe, real_add_mul, EReal.coe_mul, add_assoc]
theorem w12 (l : Fin 512) : out0_12 (F := Ideal) X0 X1 X2 X3 X4 X5 X6 X7 X8 X9 X10 (ix3 0 0 l) = dAim A0 A1 A2 A5 A6 A3 A4 A7 A8 A9 A10 (hd b l) (st l) := by
  obtain ⟨e1, e2⟩ := decay_vals B R l
  obtain ⟨c1, c2, S1, S2, S3, h12, h1, h2, -, g1, g2, -⟩ := split (s (hd b l)) (r (hd b l) (st l)) (i (hd b l) (st l)) (fun t => gr t (hd b l) (st l)) (fun t => gi t (hd b l) (st l))
  rw [o12 (hi := e1) (hr := e2), B.h0, B.h1, B.h2, ti_eq B, tr_eq B]
  unfold dAim resti t1 t2 u1 u2 ca cb
  simp only [R.h0, R.h1, R.h2, R.h9, R.h10, h1, h2, g1, g2, stp_coe, real_add_mul, ← EReal.coe_mul]
  have key : c1 * Real.exp (s (hd b l)) + c2 * Real.exp (s (hd b l)) = S1 * Real.exp (s (hd b l)) + S2 * Real.exp (s (hd b l)) := by
    rw [← add_mul, ← add_mul, h12]
  have key' := congrArg (fun x : ℝ => (x : EReal)) key
  simp only [EReal.coe_add] at key'
  rw [← key']
  ac_rfl
end
section
variable (A0 : FVec Ideal S32 .f32) (A1 A2 A5 A6 : FVec Ideal S32x64 .f32) (A3 A4 A7 A8 : FVec Ideal S32x64x16 .f32) (A9 A10 : FVec Ideal S256x32x64 .f32)
/-- The step's share of one state. -/
def share (h : Fin 32) (k : Fin 64) : EReal := A2 (ix2 h k) * t1 A0 A1 A2 A6 A3 A4 A7 A8 h k + A2 (ix2 h k) * t2 A0 A1 A2 A5 A3 A4 A7 A8 h k
  + A1 (ix2 h k) * t3 A0 A1 A2 A5 A6 A3 A4 A7 A8 h k
  + (A2 (ix2 h k) * u1 A0 A1 A2 A10 h k + A2 (ix2 h k) * u2 A0 A1 A2 A9 h k + A1 (ix2 h k) * u3 A0 A1 A2 A9 A10 h k)
end
end
section
open Cert.OpsKernelIdeal Cert.OpsKernelIdeal.Gen
variable {A0 : FVec Ideal S32 .f32} {A1 A2 A5 A6 : FVec Ideal S32x64 .f32} {A3 A4 A7 A8 : FVec Ideal S32x64x16 .f32} {A9 A10 : FVec Ideal S256x32x64 .f32}
  {X0 X1 X2 X5 X6 : FVec Ideal S1x1x512 .f32} {X3 X4 X7 X8 : FVec Ideal S1x128x512 .f32} {X9 X10 : FVec Ideal S1x256x512 .f32} {b : Fin 4}
  (B : Blocks A0 A1 A2 A5 A6 A3 A4 A7 A8 A9 A10 X0 X1 X2 X5 X6 X3 X4 X7 X8 X9 X10 b)
  {s : Fin 32 → ℝ} {r i : Fin 32 → Fin 64 → ℝ} {gr gi : Fin 256 → Fin 32 → Fin 64 → ℝ} (R : Real A0 A1 A2 A9 A10 s r i gr gi)
include B R in
theorem w13 (l : Fin 512) : out0_13 (F := Ideal) X0 X1 X2 X3 X4 X5 X6 X7 X8 X9 X10 (ix3 0 0 l)
    = share A0 A1 A2 A5 A6 A3 A4 A7 A8 A9 A10 (hd b l) (st l) * stp (A0 (ix1 (hd b l))) := by
  obtain ⟨e1, e2⟩ := decay_vals B R l
  obtain ⟨c1, c2, S1, S2, S3, h12, h1, h2, h3, g1, g2, g3⟩ := split (s (hd b l)) (r (hd b l) (st l)) (i (hd b l) (st l)) (fun t => gr t (hd b l) (st l)) (fun t => gi t (hd b l) (st l))
  rw [o13 (hi := e1) (hr := e2), B.h0, B.h1, B.h2, ti_eq B, tr_eq B]
  unfold share t1 t2 t3 u1 u2 u3 ca cb
  simp only [R.h0, R.h1, R.h2, R.h9, R.h10, h1, h2, h3, g1, g2, g3, stp_coe, real_mul_add, ← EReal.coe_mul]
  congr 1
  have key : i (hd b l) (st l) * c1 + i (hd b l) (st l) * c2 = i (hd b l) (st l) * S1 + i (hd b l) (st l) * S2 := by
    rw [← mul_add, ← mul_add, h12]
  have key' := congrArg (fun x : ℝ => (x : EReal)) key
  simp only [EReal.coe_add] at key'
  rw [← key']
  ac_rfl
include R in
theorem step_sum (h : Fin 32) : ∑ k : Fin 64, share A0 A1 A2 A5 A6 A3 A4 A7 A8 A9 A10 h k * stp (A0 (ix1 h)) = dStep A0 A1 A2 A5 A6 A3 A4 A7 A8 A9 A10 h := by
  unfold dStep
  rw [R.h0, stp_coe]
  simp only [← Finset.sum_add_distrib]
  rw [mul_comm, coe_mul_sum _ _ (Real.exp_pos _).le]
  refine Finset.sum_congr rfl fun k _ => ?_
  rw [mul_comm]
  rfl
include B in
theorem w14 (q : Fin 128) (l : Fin 512) : out0_14 (F := Ideal) X0 X1 X2 X3 X4 X5 X6 X7 X8 X9 X10 (ix3 0 q l) =
    fi (A0 (ix1 (hd b l))) (A1 (ix2 (hd b l) (st l))) (A2 (ix2 (hd b l) (st l))) * diag A8 (ix3 b q l)
    + fr (A0 (ix1 (hd b l))) (A1 (ix2 (hd b l) (st l))) (A2 (ix2 (hd b l) (st l))) * diag A7 (ix3 b q l) := by
  rw [o14, B.h0, B.h1, B.h2, B.h7, B.h8]
include B in
theorem w15 (q : Fin 128) (l : Fin 512) : out0_15 (F := Ideal) X0 X1 X2 X3 X4 X5 X6 X7 X8 X9 X10 (ix3 0 q l) =
    fr (A0 (ix1 (hd b l))) (A1 (ix2 (hd b l) (st l))) (A2 (ix2 (hd b l) (st l))) * diag A8 (ix3 b q l)
    + fi (A0 (ix1 (hd b l))) (A1 (ix2 (hd b l) (st l))) (A2 (ix2 (hd b l) (st l))) * -diag A7 (ix3 b q l) := by
  rw [o15, B.h0, B.h1, B.h2, B.h7, B.h8]
end
end Cert.Ops
-- ==== Proof.OpsPair.lean ====
module
public import proofs.«01_k».proof.Proof.OpsCols
@[expose] public section
set_option maxRecDepth 16384
noncomputable section
open Idealize.ShloMosaic Idealize.ShloMosaic.TcCoe Idealize.SL.Sem
open Cert.Rows Cert.Powers
namespace Cert.Ops
section
open Cert.OpsKernelIdeal Cert.OpsKernelIdeal.Gen
/-! What the host makes of the five written arrays. -/
def sumStates (x : FVec Ideal S4x1x512 .f32) : FVec Ideal S32 .f32 :=
  Host.reduceAdd (shapeCast S32x64 (shapeCast S2048 x shapeCasts_S4x1x512_S2048) shapeCasts_S2048_S32x64) (constant S_ .f32 0x00000000#32) reducesTo_S32x64_S32_d1 h_S_
def heads (x : FVec Ideal S4x1x512 .f32) : FVec Ideal S32x64 .f32 := shapeCast S32x64 x shapeCasts_S4x1x512_S32x64
/-- The diagonal blocks: everything times the mask, summed over the column's head. -/
def blocks (x : FVec Ideal S4x128x512 .f32) (d : FVec Ideal S1x8x1x8x1 .f32) : FVec Ideal S32x64x16 .f32 :=
  transpose S32x64x16 [0, 2, 1] (shapeCast S32x16x64 (Host.reduceAdd (shapeCast S4x8x16x1x64 (Host.reduceAdd (mulf (shapeCast S4x8x16x8x64 x shapeCasts_S4x128x512_S4x8x16x8x64)
    (broadcastInDim S4x8x16x8x64 ![0, 1, 2, 3, 4] bcast_S1x8x1x8x1_S4x8x16x8x64_0_1_2_3_4 d)) (constant S_ .f32 0x00000000#32) reducesTo_S4x8x16x8x64_S4x8x16x64_d3 h_S_)
    shapeCasts_S4x8x16x64_S4x8x16x1x64) (constant S_ .f32 0x00000000#32) reducesTo_S4x8x16x1x64_S4x8x16x64_d3 h_S_) shapeCasts_S4x8x16x64_S32x16x64) transposes_S32x16x64_S32x64x16_0_2_1
section
variable (W : Valuation τ sig (Elt Ideal))
theorem tail_90 : StableHlo.after hostOps1 W (Proc.devRef .tc main_v90) = sumStates (W (Proc.devRef .tc main_v71_2)) := by
  unfold hostOps1
  after_region_results
  rfl
theorem tail_91 : StableHlo.after hostOps1 W (Proc.devRef .tc main_v91) = heads (W (Proc.devRef .tc main_v71_1)) := by
  unfold hostOps1
  after_region_results
  rfl
theorem tail_92 : StableHlo.after hostOps1 W (Proc.devRef .tc main_v92) = heads (W (Proc.devRef .tc main_v71_0)) := by
  unfold hostOps1
  after_region_results
  rfl
set_option maxHeartbeats 1000000 in
theorem tail_87 : StableHlo.after hostOps1 W (Proc.devRef .tc main_v87) = blocks (W (Proc.devRef .tc main_v71_3)) (W (Proc.devRef .tc main_v15)) := by
  unfold hostOps1
  after_region_results
  rfl
set_option maxHeartbeats 1000000 in
theorem tail_79 : StableHlo.after hostOps1 W (Proc.devRef .tc main_v79) = blocks (W (Proc.devRef .tc main_v71_4)) (W (Proc.devRef .tc main_v30)) := by
  unfold hostOps1
  after_region_results
  rfl
end
section
variable (m : (ℓ : Loc nD τ sig) → Buf (Elt Ideal) ℓ) (ρ : Dev nD → PrngReg)
theorem end_of (w : Fin cfg0.W) (c : Dev nD) : Pipeline.withArrays (cfgs 0).spec c (V0 m c) (fun w => (dats m 0 c).arrAt w (cfgs 0).N) (Proc.devRef .tc (Pipeline.arrRef spec0 w)) =
    (dats m 0 c).arrAt w cfg0.N := Pipeline.withArrays_arr _ launch0.win.arr_inj c _ _ w
theorem ker_run :
 θ_run defs (onTc (τ := τ) (main (F := Ideal))) ⟨m, fun _ => 0, ρ⟩ fun r => ∀ c : Dev nD,
      r.2.mem (c.tc.loc main_v90) = sumStates ((dats m 0 c).arrAt 13 cfg0.N)
 ∧ r.2.mem (c.tc.loc main_v92) = heads ((dats m 0 c).arrAt 11 cfg0.N)
 ∧ r.2.mem (c.tc.loc main_v91) = heads ((dats m 0 c).arrAt 12 cfg0.N)
 ∧ r.2.mem (c.tc.loc main_v87) = blocks ((dats m 0 c).arrAt 14 cfg0.N) (V m c main_v15)
 ∧ r.2.mem (c.tc.loc main_v79) = blocks ((dats m 0 c).arrAt 15 cfg0.N) (V m c main_v30) := by
  refine (θ_run defs _ _).mono (fun r h c => ?_) (run_main m ρ)
  have e := (h c).2
  refine ⟨(e main_v90 (by decide)).trans ?_, (e main_v92 (by decide)).trans ?_, (e main_v91 (by decide)).trans ?_, (e main_v87 (by decide)).trans ?_, (e main_v79 (by decide)).trans ?_⟩
  · unfold Pipeline.afterTail₀
    refine (tail_90 _).trans (congrArg sumStates ?_)
    exact end_of m 13 c
  · unfold Pipeline.afterTail₀
    refine (tail_92 _).trans (congrArg heads ?_)
    exact end_of m 11 c
  · unfold Pipeline.afterTail₀
    refine (tail_91 _).trans (congrArg heads ?_)
    exact end_of m 12 c
  · unfold Pipeline.afterTail₀
    refine (tail_87 _).trans (congrArg₂ blocks ?_ ?_)
    · exact end_of m 14 c
    · exact Pipeline.withArrays_of_ne _ c (V0 m c) _ main_v15 (by exact (by decide : ∀ w, Pipeline.arrRef spec0 w ≠ main_v15))
  · unfold Pipeline.afterTail₀
    refine (tail_79 _).trans (congrArg₂ blocks ?_ ?_)
    · exact end_of m 15 c
    · exact Pipeline.withArrays_of_ne _ c (V0 m c) _ main_v30 (by exact (by decide : ∀ w, Pipeline.arrRef spec0 w ≠ main_v30))
end
section
variable (x : FVec Ideal S4x1x512 .f32) (y : FVec Ideal S4x128x512 .f32) (d : FVec Ideal S1x8x1x8x1 .f32)
theorem heads_at (h : Fin 32) (k : Fin 64) : heads x (ix2 h k) = x (ix3 ⟨h.val / 8, by omega⟩ 0 ⟨h.val % 8 * 64 + k.val, by omega⟩) := by
  pointwise [heads]
theorem sumStates_at (h : Fin 32) : sumStates x (ix1 h) = ∑ k : Fin 64, x (ix3 ⟨h.val / 8, by omega⟩ 0 ⟨h.val % 8 * 64 + k.val, by omega⟩) := by
  pointwise [sumStates]
theorem blocks_at (h : Fin 32) (k : Fin 64) (c : Fin 16) : blocks y d (ix3 h k c) =
    ∑ g : Fin 8, y (ix3 ⟨h.val / 8, by omega⟩ ⟨h.val % 8 * 16 + c.val, by omega⟩ ⟨g.val * 64 + k.val, by omega⟩) * d (ix5 0 ⟨h.val % 8, by omega⟩ 0 g 0) := by
  pointwise [blocks, Fin.sum_univ_one]
end
end
section
open Cert.OpsKernelIdeal Cert.OpsKernelIdeal.Gen
theorem idx : ∀ t : Fin cfg0.N, win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧ win0_6.index t = ![t.val, 0, 0] ∧
    win0_7.index t = ![t.val, 0, 0] ∧ win0_8.index t = ![t.val, 0, 0] ∧ win0_9.index t = ![t.val, 0, 0] ∧ win0_10.index t = ![t.val, 0, 0] ∧
    win0_11.index t = ![t.val, 0, 0] ∧ win0_12.index t = ![t.val, 0, 0] ∧ win0_13.index t = ![t.val, 0, 0] ∧ win0_14.index t = ![t.val, 0, 0] ∧
    win0_15.index t = ![t.val, 0, 0] :=
  (by decide +kernel : ∀ t : Fin grid0.N, _)
/-- A grid point's row. -/
def tb (t : Fin cfg0.N) : Fin 4 := ⟨t.val, lt_of_lt_of_eq t.isLt (by decide +kernel : cfg0.N = 4)⟩
variable (m : (ℓ : Loc nD τ sig) → Buf (Elt Ideal) ℓ) (c : Dev nD) (t : Fin cfg0.N)
/-! The arguments. -/
abbrev a0 : FVec Ideal S32 .f32 := m (c.tc.loc main_arg0)
abbrev a1 : FVec Ideal S32x64 .f32 := m (c.tc.loc main_arg1)
abbrev a2 : FVec Ideal S32x64 .f32 := m (c.tc.loc main_arg2)
abbrev a3 : FVec Ideal S32x64x16 .f32 := m (c.tc.loc main_arg3)
abbrev a4 : FVec Ideal S32x64x16 .f32 := m (c.tc.loc main_arg4)
abbrev a5 : FVec Ideal S32x64 .f32 := m (c.tc.loc main_arg5)
abbrev a6 : FVec Ideal S32x64 .f32 := m (c.tc.loc main_arg6)
abbrev a7 : FVec Ideal S32x64x16 .f32 := m (c.tc.loc main_arg7)
abbrev a8 : FVec Ideal S32x64x16 .f32 := m (c.tc.loc main_arg8)
abbrev a9 : FVec Ideal S256x32x64 .f32 := m (c.tc.loc main_arg9)
abbrev a10 : FVec Ideal S256x32x64 .f32 := m (c.tc.loc main_arg10)
/-! The blocks a grid point reads. -/
theorem b0 (l : Fin 512) : iblk m c 0 t (ix3 0 0 l) = rows (a1 m c) (ix3 (tb t) 0 l) := by
  have e : ((View.whole main_v0).slice (win0_0.rect t)).emb (ix3 0 0 l) = ix3 (tb t) 0 l := by blk_ext [idx t, tb]
  blk_simp [iblk, idx t]
  exact (congrFun (head_0 _) _).trans (congrArg _ e)
theorem b1 (l : Fin 512) : iblk m c 1 t (ix3 0 0 l) = rows (a2 m c) (ix3 (tb t) 0 l) := by
  have e : ((View.whole main_v1).slice (win0_1.rect t)).emb (ix3 0 0 l) = ix3 (tb t) 0 l := by blk_ext [idx t, tb]
  blk_simp [iblk, idx t]
  exact (congrFun (head_1 _) _).trans (congrArg _ e)
theorem b2 (l : Fin 512) : iblk m c 2 t (ix3 0 0 l) = rep (a0 m c) (ix3 (tb t) 0 l) := by
  have e : ((View.whole main_v4).slice (win0_2.rect t)).emb (ix3 0 0 l) = ix3 (tb t) 0 l := by blk_ext [idx t, tb]
  blk_simp [iblk, idx t]
  exact (congrFun (head_4 _) _).trans (congrArg _ e)
theorem b3 (r : Fin 128) (l : Fin 512) : iblk m c 3 t (ix3 0 r l) = diag (a3 m c) (ix3 (tb t) r l) := by
  have e : ((View.whole main_v19).slice (win0_3.rect t)).emb (ix3 0 r l) = ix3 (tb t) r l := by blk_ext [idx t, tb]
  blk_simp [iblk, idx t]
  exact (congrFun (head_19 _) _).trans (congrArg _ e)
theorem b4 (r : Fin 128) (l : Fin 512) : iblk m c 4 t (ix3 0 r l) = diag (a4 m c) (ix3 (tb t) r l) := by
  have e : ((View.whole main_v34).slice (win0_4.rect t)).emb (ix3 0 r l) = ix3 (tb t) r l := by blk_ext [idx t, tb]
  blk_simp [iblk, idx t]
  exact (congrFun (head_34 _) _).trans (congrArg _ e)
theorem b5 (l : Fin 512) : iblk m c 5 t (ix3 0 0 l) = rows (a5 m c) (ix3 (tb t) 0 l) := by
  have e : ((View.whole main_v35).slice (win0_5.rect t)).emb (ix3 0 0 l) = ix3 (tb t) 0 l := by blk_ext [idx t, tb]
  blk_simp [iblk, idx t]
  exact (congrFun (head_35 _) _).trans (congrArg _ e)
theorem b6 (l : Fin 512) : iblk m c 6 t (ix3 0 0 l) = rows (a6 m c) (ix3 (tb t) 0 l) := by
  have e : ((View.whole main_v36).slice (win0_6.rect t)).emb (ix3 0 0 l) = ix3 (tb t) 0 l := by blk_ext [idx t, tb]
  blk_simp [iblk, idx t]
  exact (congrFun (head_36 _) _).trans (congrArg _ e)
theorem b7 (r : Fin 128) (l : Fin 512) : iblk m c 7 t (ix3 0 r l) = diag (a7 m c) (ix3 (tb t) r l) := by
  have e : ((View.whole main_v51).slice (win0_7.rect t)).emb (ix3 0 r l) = ix3 (tb t) r l := by blk_ext [idx t, tb]
  blk_simp [iblk, idx t]
  exact (congrFun (head_51 _) _).trans (congrArg _ e)
theorem b8 (r : Fin 128) (l : Fin 512) : iblk m c 8 t (ix3 0 r l) = diag (a8 m c) (ix3 (tb t) r l) := by
  have e : ((View.whole main_v66).slice (win0_8.rect t)).emb (ix3 0 r l) = ix3 (tb t) r l := by blk_ext [idx t, tb]
  blk_simp [iblk, idx t]
  exact (congrFun (head_66 _) _).trans (congrArg _ e)
theorem b9 (r : Fin 256) (l : Fin 512) : iblk m c 9 t (ix3 0 r l) = times (a9 m c) (ix3 (tb t) r l) := by
  have e : ((View.whole main_v68).slice (win0_9.rect t)).emb (ix3 0 r l) = ix3 (tb t) r l := by blk_ext [idx t, tb]
  blk_simp [iblk, idx t]
  exact (congrFun (head_68 _) _).trans (congrArg _ e)
theorem b10 (r : Fin 256) (l : Fin 512) : iblk m c 10 t (ix3 0 r l) = times (a10 m c) (ix3 (tb t) r l) := by
  have e : ((View.whole main_v70).slice (win0_10.rect t)).emb (ix3 0 r l) = ix3 (tb t) r l := by blk_ext [idx t, tb]
  blk_simp [iblk, idx t]
  exact (congrFun (head_70 _) _).trans (congrArg _ e)
theorem blocks_of : Blocks (a0 m c) (a1 m c) (a2 m c) (a5 m c) (a6 m c) (a3 m c) (a4 m c) (a7 m c) (a8 m c) (a9 m c) (a10 m c) (iblk m c 0 t) (iblk m c 1 t) (iblk m c 2 t) (iblk m c 5 t) (iblk m c 6 t) (iblk m c 3 t) (iblk m c 4 t) (iblk m c 7 t) (iblk m c 8 t) (iblk m c 9 t) (iblk m c 10 t) (tb t) where
  h0 l := (b0 m c t l).trans (rows_at _ _ _)
  h1 l := (b1 m c t l).trans (rows_at _ _ _)
  h2 l := (b2 m c t l).trans (rep_at _ _ _)
  h3 r l := b3 m c t r l
  h4 r l := b4 m c t r l
  h5 l := (b5 m c t l).trans (rows_at _ _ _)
  h6 l := (b6 m c t l).trans (rows_at _ _ _)
  h7 r l := b7 m c t r l
  h8 r l := b8 m c t r l
  h9 r l := (b9 m c t r l).trans (times_at _ _ _ _)
  h10 r l := (b10 m c t r l).trans (times_at _ _ _ _)
/-! The five written arrays. -/
def at11 (b : Fin 4) (l : Fin 512) : EReal := dAre (a0 m c) (a1 m c) (a2 m c) (a5 m c) (a6 m c) (a3 m c) (a4 m c) (a7 m c) (a8 m c) (a9 m c) (a10 m c) (hd b l) (st l)
def full11 : FVec Ideal S4x1x512 .f32 := fun j => at11 m c (j 0) (j 2)
theorem full11_at (b : Fin 4) (q : Fin 1) (l : Fin 512) : full11 m c (ix3 b q l) = at11 m c b l := rfl
theorem final_11 {s : Fin 32 → ℝ} {r i : Fin 32 → Fin 64 → ℝ} {gr gi : Fin 256 → Fin 32 → Fin 64 → ℝ} (R : Real (a0 m c) (a1 m c) (a2 m c) (a9 m c) (a10 m c) s r i gr gi) : (dats m 0 c).arrAt 11 cfg0.N = full11 m c := by
  refine (dats m 0 c).arrAt_eq_of_covers 11 _ (by decide +kernel) fun t hf y => ?_
  idx_vars y
  have e0 : (win0_11.blk t).view.emb (ix3 y0 y1 y2) = ix3 (tb t) y1 y2 := by
    blk_ext [idx t, tb]
  blk_simp
  rw [after0_11, e0]
  obtain rfl : y0 = 0 := Subsingleton.elim _ _
  obtain rfl : y1 = 0 := Subsingleton.elim _ _
  exact w11 (blocks_of m c t) R y2
def at12 (b : Fin 4) (l : Fin 512) : EReal := dAim (a0 m c) (a1 m c) (a2 m c) (a5 m c) (a6 m c) (a3 m c) (a4 m c) (a7 m c) (a8 m c) (a9 m c) (a10 m c) (hd b l) (st l)
def full12 : FVec Ideal S4x1x512 .f32 := fun j => at12 m c (j 0) (j 2)
theorem full12_at (b : Fin 4) (q : Fin 1) (l : Fin 512) : full12 m c (ix3 b q l) = at12 m c b l := rfl
theorem final_12 {s : Fin 32 → ℝ} {r i : Fin 32 → Fin 64 → ℝ} {gr gi : Fin 256 → Fin 32 → Fin 64 → ℝ} (R : Real (a0 m c) (a1 m c) (a2 m c) (a9 m c) (a10 m c) s r i gr gi) : (dats m 0 c).arrAt 12 cfg0.N = full12 m c := by
  refine (dats m 0 c).arrAt_eq_of_covers 12 _ (by decide +kernel) fun t hf y => ?_
  idx_vars y
  have e0 : (win0_12.blk t).view.emb (ix3 y0 y1 y2) = ix3 (tb t) y1 y2 := by
    blk_ext [idx t, tb]
  blk_simp
  rw [after0_12, e0]
  obtain rfl : y0 = 0 := Subsingleton.elim _ _
  obtain rfl : y1 = 0 := Subsingleton.elim _ _
  exact w12 (blocks_of m c t) R y2
def at13 (b : Fin 4) (l : Fin 512) : EReal := share (a0 m c) (a1 m c) (a2 m c) (a5 m c) (a6 m c) (a3 m c) (a4 m c) (a7 m c) (a8 m c) (a9 m c) (a10 m c) (hd b l) (st l) * stp (a0 m c (ix1 (hd b l)))
def full13 : FVec Ideal S4x1x512 .f32 := fun j => at13 m c (j 0) (j 2)
theorem full13_at (b : Fin 4) (q : Fin 1) (l : Fin 512) : full13 m c (ix3 b q l) = at13 m c b l := rfl
theorem final_13 {s : Fin 32 → ℝ} {r i : Fin 32 → Fin 64 → ℝ} {gr gi : Fin 256 → Fin 32 → Fin 64 → ℝ} (R : Real (a0 m c) (a1 m c) (a2 m c) (a9 m c) (a10 m c) s r i gr gi) : (dats m 0 c).arrAt 13 cfg0.N = full13 m c := by
  refine (dats m 0 c).arrAt_eq_of_covers 13 _ (by decide +kernel) fun t hf y => ?_
  idx_vars y
  have e0 : (win0_13.blk t).view.emb (ix3 y0 y1 y2) = ix3 (tb t) y1 y2 := by
    blk_ext [idx t, tb]
  blk_simp
  rw [after0_13, e0]
  obtain rfl : y0 = 0 := Subsingleton.elim _ _
  obtain rfl : y1 = 0 := Subsingleton.elim _ _
  exact w13 (blocks_of m c t) R y2
def at14 (b : Fin 4) (q : Fin 128) (l : Fin 512) : EReal := fi (a0 m c (ix1 (hd b l))) (a1 m c (ix2 (hd b l) (st l))) (a2 m c (ix2 (hd b l) (st l))) * diag (a8 m c) (ix3 b q l) + fr (a0 m c (ix1 (hd b l))) (a1 m c (ix2 (hd b l) (st l))) (a2 m c (ix2 (hd b l) (st l))) * diag (a7 m c) (ix3 b q l)
def full14 : FVec Ideal S4x128x512 .f32 := fun j => at14 m c (j 0) (j 1) (j 2)
theorem full14_at (b : Fin 4) (q : Fin 128) (l : Fin 512) : full14 m c (ix3 b q l) = at14 m c b q l := rfl
theorem final_14 : (dats m 0 c).arrAt 14 cfg0.N = full14 m c := by
  refine (dats m 0 c).arrAt_eq_of_covers 14 _ (by decide +kernel) fun t hf y => ?_
  idx_vars y
  have e0 : (win0_14.blk t).view.emb (ix3 y0 y1 y2) = ix3 (tb t) y1 y2 := by
    blk_ext [idx t, tb]
  blk_simp
  rw [after0_14, e0]
  obtain rfl : y0 = 0 := Subsingleton.elim _ _
  exact w14 (blocks_of m c t) y1 y2
def at15 (b : Fin 4) (q : Fin 128) (l : Fin 512) : EReal := fr (a0 m c (ix1 (hd b l))) (a1 m c (ix2 (hd b l) (st l))) (a2 m c (ix2 (hd b l) (st l))) * diag (a8 m c) (ix3 b q l) + fi (a0 m c (ix1 (hd b l))) (a1 m c (ix2 (hd b l) (st l))) (a2 m c (ix2 (hd b l) (st l))) * -diag (a7 m c) (ix3 b q l)
def full15 : FVec Ideal S4x128x512 .f32 := fun j => at15 m c (j 0) (j 1) (j 2)
theorem full15_at (b : Fin 4) (q : Fin 128) (l : Fin 512) : full15 m c (ix3 b q l) = at15 m c b q l := rfl
theorem final_15 : (dats m 0 c).arrAt 15 cfg0.N = full15 m c := by
  refine (dats m 0 c).arrAt_eq_of_covers 15 _ (by decide +kernel) fun t hf y => ?_
  idx_vars y
  have e0 : (win0_15.blk t).view.emb (ix3 y0 y1 y2) = ix3 (tb t) y1 y2 := by
    blk_ext [idx t, tb]
  blk_simp
  rw [after0_15, e0]
  obtain rfl : y0 = 0 := Subsingleton.elim _ _
  exact w15 (blocks_of m c t) y1 y2
/-! The five results. -/
theorem hd_st (h : Fin 32) (k : Fin 64) : hd ⟨h.val / 8, by omega⟩ ⟨h.val % 8 * 64 + k.val, by omega⟩ = h ∧ st ⟨h.val % 8 * 64 + k.val, by omega⟩ = k := by
  constructor <;> (apply Fin.ext; simp only [hd, st]; omega)
theorem res_are {s : Fin 32 → ℝ} {r i : Fin 32 → Fin 64 → ℝ} {gr gi : Fin 256 → Fin 32 → Fin 64 → ℝ} (R : Real (a0 m c) (a1 m c) (a2 m c) (a9 m c) (a10 m c) s r i gr gi) : heads ((dats m 0 c).arrAt 11 cfg0.N) = dAreV (a0 m c) (a1 m c) (a2 m c) (a5 m c) (a6 m c) (a3 m c) (a4 m c) (a7 m c) (a8 m c) (a9 m c) (a10 m c) := by
  rw [final_11 m c R]
  funext j
  idx_vars j
  rw [heads_at, full11_at, at11, (hd_st j0 j1).1, (hd_st j0 j1).2]
  rfl
theorem res_aim {s : Fin 32 → ℝ} {r i : Fin 32 → Fin 64 → ℝ} {gr gi : Fin 256 → Fin 32 → Fin 64 → ℝ} (R : Real (a0 m c) (a1 m c) (a2 m c) (a9 m c) (a10 m c) s r i gr gi) : heads ((dats m 0 c).arrAt 12 cfg0.N) = dAimV (a0 m c) (a1 m c) (a2 m c) (a5 m c) (a6 m c) (a3 m c) (a4 m c) (a7 m c) (a8 m c) (a9 m c) (a10 m c) := by
  rw [final_12 m c R]
  funext j
  idx_vars j
  rw [heads_at, full12_at, at12, (hd_st j0 j1).1, (hd_st j0 j1).2]
  rfl
theorem res_step {s : Fin 32 → ℝ} {r i : Fin 32 → Fin 64 → ℝ} {gr gi : Fin 256 → Fin 32 → Fin 64 → ℝ} (R : Real (a0 m c) (a1 m c) (a2 m c) (a9 m c) (a10 m c) s r i gr gi) : sumStates ((dats m 0 c).arrAt 13 cfg0.N) = dStepV (a0 m c) (a1 m c) (a2 m c) (a5 m c) (a6 m c) (a3 m c) (a4 m c) (a7 m c) (a8 m c) (a9 m c) (a10 m c) := by
  rw [final_13 m c R]
  funext j
  idx_vars j
  rw [sumStates_at]
  refine Eq.trans (Finset.sum_congr rfl fun k _ => ?_) (step_sum R j0)
  rw [full13_at, at13, (hd_st j0 k).1, (hd_st j0 k).2]
theorem block_pick (F : Fin 8 → EReal) (g : Fin 8) : ∑ g' : Fin 8, F g' * same (ix5 0 g 0 g' 0) = F g := by
  rw [Finset.sum_eq_single g (fun g' _ h => by rw [same_at, if_neg (Ne.symm h), mul_zero]) (fun h => absurd (Finset.mem_univ _) h), same_at, if_pos rfl, mul_one]
theorem diag_own (x : FVec Ideal S32x64x16 .f32) (h : Fin 32) (k : Fin 64) (q : Fin 16) :
    diag x (ix3 ⟨h.val / 8, by omega⟩ ⟨h.val % 8 * 16 + q.val, by omega⟩ ⟨h.val % 8 * 64 + k.val, by omega⟩) = x (ix3 h k q) := by
  rw [diag_gc x _ ⟨h.val % 8, by omega⟩ q _ _ (show h.val % 8 * 16 + q.val = q.val + 16 * (h.val % 8) by omega), if_pos (show h.val % 8 = (h.val % 8 * 64 + k.val) / 64 by omega), mul_one]
  congr 1
  refine congrArg₂ (fun a b => ix3 a b q) ?_ ?_ <;> (apply Fin.ext; simp only [st]; omega)
theorem res_bre : blocks ((dats m 0 c).arrAt 14 cfg0.N) (V m c main_v15) = dBreV (a0 m c) (a1 m c) (a2 m c) (a7 m c) (a8 m c) := by
  have e : V m c main_v15 = same := head_15 _
  rw [final_14 m c, e]
  funext j
  idx_vars j
  rw [blocks_at]
  refine (block_pick (fun g : Fin 8 => full14 m c (ix3 ⟨j0.val / 8, by omega⟩ ⟨j0.val % 8 * 16 + j2.val, by omega⟩ ⟨g.val * 64 + j1.val, by omega⟩)) ⟨j0.val % 8, by omega⟩).trans ?_
  rw [full14_at, at14, (hd_st j0 j1).1, (hd_st j0 j1).2, diag_own, diag_own, add_comm]
  rfl
theorem res_bim : blocks ((dats m 0 c).arrAt 15 cfg0.N) (V m c main_v30) = dBimV (a0 m c) (a1 m c) (a2 m c) (a7 m c) (a8 m c) := by
  have e : V m c main_v30 = same := head_30 _
  rw [final_15 m c, e]
  funext j
  idx_vars j
  rw [blocks_at]
  refine (block_pick (fun g : Fin 8 => full15 m c (ix3 ⟨j0.val / 8, by omega⟩ ⟨j0.val % 8 * 16 + j2.val, by omega⟩ ⟨g.val * 64 + j1.val, by omega⟩)) ⟨j0.val % 8, by omega⟩).trans ?_
  rw [full15_at, at15, (hd_st j0 j1).1, (hd_st j0 j1).2, diag_own, diag_own]
  rfl
end
end Cert.Ops
-- ==== Proof.OpsClaim.lean ====
module
public import proofs.«01_k».proof.Proof.OpsPair
public import Idealize.ShloMosaic.Lib.ReduceAll
@[expose] public section
set_option maxRecDepth 16384
noncomputable section
open Idealize.ShloMosaic Idealize.ShloMosaic.TcCoe Idealize.SL.Sem
namespace Cert.Ops
/-! The finite arguments, and the claim. -/
theorem pre_facts : Cert.Pre_finite_ops.Facts where
  bcast_S_S32 := by decide
  reducesTo_S32_S_d0 := by decide
  h_S_ := by decide
  bcast_S_S32x64 := by decide
  reducesTo_S32x64_S_d0_1 := by decide
  bcast_S_S256x32x64 := by decide
  reducesTo_S256x32x64_S_d0_1_2 := by decide
/-- A value whose absolute value is below infinity is real. -/
theorem real_of_bit (x : EReal) (h : FloatOps.cmpf (F := Ideal) (φ := .f32) .olt (FloatOps.hostAbsf (F := Ideal) (φ := .f32) x) (FloatOps.ofBits (F := Ideal) .f32 0x7F800000#32) = 1#1) : x = (x.toReal : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine (EReal.coe_toReal hlt.1.ne ?_).symm
  rintro rfl
  simp at hlt
section
open Cert.Pre_finite_ops
attribute [local instance] pre_facts
theorem real_all {s : Shape} {axes : List (Fin s.rank)} (hb : S_.BroadcastsInDim s (![] : Fin 0 → Fin s.rank)) (hr : s.ReducesTo axes S_) (hu : 0 < S_.numel)
    (x : FVec Ideal s .f32) (i : S_.Idx)
    (h : Host.reduce IntOp.andi (cmpf .olt (Host.absf x) (broadcastInDim s ![] hb (constant S_ .f32 0x7F800000#32))) (constantI S_ 1 1#1) hr hu i = 1#1) (j : s.Idx) :
    x j = ((x j).toReal : EReal) := by
  haveI : Subsingleton S_.Idx := ⟨fun a b => funext fun k => k.elim0⟩
  exact real_of_bit _ (Host.reduce_andi_all _ _ hr hu i h j)
theorem reals (x0 : FVec Ideal S32 .f32) (x1 x2 : FVec Ideal S32x64 .f32) (x3 x4 : FVec Ideal S32x64x16 .f32) (x5 x6 : FVec Ideal S32x64 .f32)
    (x7 x8 : FVec Ideal S32x64x16 .f32) (x9 x10 : FVec Ideal S256x32x64 .f32) (h : Cert.Pre_finite_ops.fn (F := Ideal) x0 x1 x2 x3 x4 x5 x6 x7 x8 x9 x10 = fun _ => 1#1) :
    Real x0 x1 x2 x9 x10 (fun h => (x0 (ix1 h)).toReal) (fun h k => (x1 (ix2 h k)).toReal) (fun h k => (x2 (ix2 h k)).toReal)
      (fun t h k => (x9 (ix3 t h k)).toReal) (fun t h k => (x10 (ix3 t h k)).toReal) := by
  have h := congrFun h (fun k => k.elim0)
  unfold Cert.Pre_finite_ops.fn Cert.Pre_finite_ops.fn_part1 at h
  dsimp only at h
  obtain ⟨h, h10⟩ := IntOp.andi_eq_one.1 h
  obtain ⟨h, h9⟩ := IntOp.andi_eq_one.1 h
  obtain ⟨h, h2⟩ := IntOp.andi_eq_one.1 h
  obtain ⟨h0, h1⟩ := IntOp.andi_eq_one.1 h
  exact ⟨fun h => real_all _ _ _ _ _ h0 _, fun h k => real_all _ _ _ _ _ h1 _, fun h k => real_all _ _ _ _ _ h2 _,
    fun t h k => real_all _ _ _ _ _ h9 _, fun t h k => real_all _ _ _ _ _ h10 _⟩
end
theorem algebraic : Cert.algebraic_OpsKernelIdeal_OpsReferenceIdeal_pre_finite_ops (hOpsKernelIdeal := Cert.OpsKernelIdeal.Gen.facts) (hOpsReferenceIdeal := Cert.OpsReferenceIdeal.Gen.facts)
    (hPre_finite_ops := pre_facts) := by
  pair_intro
  · run_from ker_run m g & Cert.OpsKernelIdeal.Gen.frame m g
  · run_from ref_run m' g'
    · exact (res_step m c (reals _ _ _ _ _ _ _ _ _ _ _ (hpre c))).symm
    · exact (res_are m c (reals _ _ _ _ _ _ _ _ _ _ _ (hpre c))).symm
    · exact (res_aim m c (reals _ _ _ _ _ _ _ _ _ _ _ (hpre c))).symm
    · exact (res_bre m c).symm
    · exact (res_bim m c).symm
end Cert.Ops
-- ==== Proof.Opsf.lean ====
module
public import proofs.«01_k».proof.Proof.OpsfTile
public import proofs.«01_k».proof.Proof.OpsClaim
public import proofs.«01_k».proof.Proof.Gen.OpsfReferenceIdeal.Read
@[expose] public section
set_option maxRecDepth 16384
noncomputable section
open Idealize.ShloMosaic Idealize.ShloMosaic.TcCoe Idealize.SL.Sem
open Cert.Rows Cert.Powers
open Cert.Ops (re im P S sh_re sh_im dblR dblI pw_one dec stp mag cs sn abr abi den numr numi fr fi one nn rows rep diag same rows_at rep_at diag_at same_at hd st diag_own hd_st block_pick heads heads_at nn_eq stp_coe real_all)
/-! The discretised step itself: the decay, the input matrix and the powers. -/
namespace Cert.Opsf
/-- The six results as arrays. -/
def abrV (A0 : FVec Ideal ⟨1, ![32]⟩ .f32) (A1 A2 : FVec Ideal ⟨2, ![32, 64]⟩ .f32) (A3 A4 : FVec Ideal ⟨3, ![32, 64, 16]⟩ .f32) : FVec Ideal ⟨2, ![32, 64]⟩ .f32 :=
  fun j => abr (A0 (ix1 (j 0))) (A1 (ix2 (j 0) (j 1))) (A2 (ix2 (j 0) (j 1)))
def abiV (A0 : FVec Ideal ⟨1, ![32]⟩ .f32) (A1 A2 : FVec Ideal ⟨2, ![32, 64]⟩ .f32) (A3 A4 : FVec Ideal ⟨3, ![32, 64, 16]⟩ .f32) : FVec Ideal ⟨2, ![32, 64]⟩ .f32 :=
  fun j => abi (A0 (ix1 (j 0))) (A1 (ix2 (j 0) (j 1))) (A2 (ix2 (j 0) (j 1)))
def bbrV (A0 : FVec Ideal ⟨1, ![32]⟩ .f32) (A1 A2 : FVec Ideal ⟨2, ![32, 64]⟩ .f32) (A3 A4 : FVec Ideal ⟨3, ![32, 64, 16]⟩ .f32) : FVec Ideal ⟨3, ![32, 64, 16]⟩ .f32 :=
  fun j => fr (A0 (ix1 (j 0))) (A1 (ix2 (j 0) (j 1))) (A2 (ix2 (j 0) (j 1))) * A3 (ix3 (j 0) (j 1) (j 2)) - fi (A0 (ix1 (j 0))) (A1 (ix2 (j 0) (j 1))) (A2 (ix2 (j 0) (j 1))) * A4 (ix3 (j 0) (j 1) (j 2))
def bbiV (A0 : FVec Ideal ⟨1, ![32]⟩ .f32) (A1 A2 : FVec Ideal ⟨2, ![32, 64]⟩ .f32) (A3 A4 : FVec Ideal ⟨3, ![32, 64, 16]⟩ .f32) : FVec Ideal ⟨3, ![32, 64, 16]⟩ .f32 :=
  fun j => fr (A0 (ix1 (j 0))) (A1 (ix2 (j 0) (j 1))) (A2 (ix2 (j 0) (j 1))) * A4 (ix3 (j 0) (j 1) (j 2)) + fi (A0 (ix1 (j 0))) (A1 (ix2 (j 0) (j 1))) (A2 (ix2 (j 0) (j 1))) * A3 (ix3 (j 0) (j 1) (j 2))
/-- A power in polar form. -/
def pre (t : Fin 256) (s r i : EReal) : EReal := Ideal.exp (nn t * (r * stp s)) * Ideal.cos (nn t * (i * stp s))
def pim (t : Fin 256) (s r i : EReal) : EReal := Ideal.exp (nn t * (r * stp s)) * Ideal.sin (nn t * (i * stp s))
def preV (A0 : FVec Ideal ⟨1, ![32]⟩ .f32) (A1 A2 : FVec Ideal ⟨2, ![32, 64]⟩ .f32) (A3 A4 : FVec Ideal ⟨3, ![32, 64, 16]⟩ .f32) : FVec Ideal ⟨3, ![256, 32, 64]⟩ .f32 :=
  fun j => pre (j 0) (A0 (ix1 (j 1))) (A1 (ix2 (j 1) (j 2))) (A2 (ix2 (j 1) (j 2)))
def pimV (A0 : FVec Ideal ⟨1, ![32]⟩ .f32) (A1 A2 : FVec Ideal ⟨2, ![32, 64]⟩ .f32) (A3 A4 : FVec Ideal ⟨3, ![32, 64, 16]⟩ .f32) : FVec Ideal ⟨3, ![256, 32, 64]⟩ .f32 :=
  fun j => pim (j 0) (A0 (ix1 (j 1))) (A1 (ix2 (j 1) (j 2))) (A2 (ix2 (j 1) (j 2)))
/-- The doubled power of a finite base is the power in polar form. -/
theorem pow_re (t : Fin 256) (s r i : ℝ) : (((⟨Real.exp (r * Real.exp s) * Real.cos (i * Real.exp s), Real.exp (r * Real.exp s) * Real.sin (i * Real.exp s)⟩ : ℂ) ^ (t.val + 1)).re : EReal) = pre t s r i := by
  rw [polar_pow]
  simp only [pre, nn_eq, stp_coe, ← EReal.coe_mul, Ideal.exp_coe, Ideal.cos_coe]
theorem pow_im (t : Fin 256) (s r i : ℝ) : (((⟨Real.exp (r * Real.exp s) * Real.cos (i * Real.exp s), Real.exp (r * Real.exp s) * Real.sin (i * Real.exp s)⟩ : ℂ) ^ (t.val + 1)).im : EReal) = pim t s r i := by
  rw [polar_pow]
  simp only [pim, nn_eq, stp_coe, ← EReal.coe_mul, Ideal.exp_coe, Ideal.sin_coe]
section
open Cert.OpsfReferenceIdeal Cert.OpsfReferenceIdeal.Read
variable (x0 : FVec Ideal S32 .f32) (x1 x2 : FVec Ideal S32x64 .f32) (x3 x4 : FVec Ideal S32x64x16 .f32) (h : Fin 32) (k : Fin 64)
theorem ref_abr : val_main_v8 (F := Ideal) x0 x1 x2 (ix2 h k) = abr (x0 (ix1 h)) (x1 (ix2 h k)) (x2 (ix2 h k)) := by
  pointwise [val_main_v8, val_main_v7, val_main_v6, val_main_v5, val_main_v4, val_main_v3, val_main_v2, val_main_v1, val_main_v0, abr, mag, cs, stp]
theorem ref_abi : val_main_v12 (F := Ideal) x0 x1 x2 (ix2 h k) = abi (x0 (ix1 h)) (x1 (ix2 h k)) (x2 (ix2 h k)) := by
  pointwise [val_main_v12, val_main_v11, val_main_v10, val_main_v9, val_main_v4, val_main_v3, val_main_v2, val_main_v1, val_main_v0, abi, mag, sn, stp]
theorem ref_fr : val_main_v21 (F := Ideal) x0 x1 x2 (ix2 h k) = fr (x0 (ix1 h)) (x1 (ix2 h k)) (x2 (ix2 h k)) := by
  pointwise [val_main_v21, val_main_v20, val_main_v19, val_main_v18, val_main_v17, val_main_v16, val_main_cst, val_main_v15, val_main_v14, val_main_v13, ref_abr, ref_abi, fr, numr, den, one]
theorem ref_fi : val_main_v25 (F := Ideal) x0 x1 x2 (ix2 h k) = fi (x0 (ix1 h)) (x1 (ix2 h k)) (x2 (ix2 h k)) := by
  pointwise [val_main_v25, val_main_v24, val_main_v23, val_main_v22, val_main_v17, val_main_v16, val_main_cst, val_main_v15, val_main_v14, val_main_v13, ref_abr, ref_abi, fi, numi, den, one]
theorem ref_bbr (q : Fin 16) : val_main_v32 (F := Ideal) x0 x1 x2 x3 x4 (ix3 h k q) = fr (x0 (ix1 h)) (x1 (ix2 h k)) (x2 (ix2 h k)) * x3 (ix3 h k q) - fi (x0 (ix1 h)) (x1 (ix2 h k)) (x2 (ix2 h k)) * x4 (ix3 h k q) := by
  pointwise [val_main_v32, val_main_v31, val_main_v30, val_main_v29, val_main_v28, val_main_v27, val_main_v26, ref_fr, ref_fi]
theorem ref_bbi (q : Fin 16) : val_main_v39 (F := Ideal) x0 x1 x2 x3 x4 (ix3 h k q) = fr (x0 (ix1 h)) (x1 (ix2 h k)) (x2 (ix2 h k)) * x4 (ix3 h k q) + fi (x0 (ix1 h)) (x1 (ix2 h k)) (x2 (ix2 h k)) * x3 (ix3 h k q) := by
  pointwise [val_main_v39, val_main_v38, val_main_v37, val_main_v36, val_main_v35, val_main_v34, val_main_v33, ref_fr, ref_fi]
theorem ref_pre (t : Fin 256) : val_main_v58 (F := Ideal) x0 x1 x2 (ix3 t h k) = pre t (x0 (ix1 h)) (x1 (ix2 h k)) (x2 (ix2 h k)) := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst_0, val_main_v1, val_main_v0, pre, nn, stp, one]
theorem ref_pim (t : Fin 256) : val_main_v66 (F := Ideal) x0 x1 x2 (ix3 t h k) = pim t (x0 (ix1 h)) (x1 (ix2 h k)) (x2 (ix2 h k)) := by
  pointwise [val_main_v66, val_main_v65, val_main_v64, val_main_v63, val_main_v62, val_main_v61, val_main_v60, val_main_v59, val_main_v50, val_main_v49, val_main_v48, val_main_v47, val_main_v46, val_main_v45, val_main_v44, val_main_v43, val_main_v42, val_main_v41, val_main_v40, val_main_cst_0, val_main_v1, val_main_v0, pim, nn, stp, one]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v8) = abrV (m (c.tc.loc main_arg0)) (m (c.tc.loc main_arg1)) (m (c.tc.loc main_arg2)) (m (c.tc.loc main_arg3)) (m (c.tc.loc main_arg4))
 ∧ r.2.mem (c.tc.loc main_v12) = abiV (m (c.tc.loc main_arg0)) (m (c.tc.loc main_arg1)) (m (c.tc.loc main_arg2)) (m (c.tc.loc main_arg3)) (m (c.tc.loc main_arg4))
 ∧ r.2.mem (c.tc.loc main_v32) = bbrV (m (c.tc.loc main_arg0)) (m (c.tc.loc main_arg1)) (m (c.tc.loc main_arg2)) (m (c.tc.loc main_arg3)) (m (c.tc.loc main_arg4))
 ∧ r.2.mem (c.tc.loc main_v39) = bbiV (m (c.tc.loc main_arg0)) (m (c.tc.loc main_arg1)) (m (c.tc.loc main_arg2)) (m (c.tc.loc main_arg3)) (m (c.tc.loc main_arg4))
 ∧ r.2.mem (c.tc.loc main_v58) = preV (m (c.tc.loc main_arg0)) (m (c.tc.loc main_arg1)) (m (c.tc.loc main_arg2)) (m (c.tc.loc main_arg3)) (m (c.tc.loc main_arg4))
 ∧ r.2.mem (c.tc.loc main_v66) = pimV (m (c.tc.loc main_arg0)) (m (c.tc.loc main_arg1)) (m (c.tc.loc main_arg2)) (m (c.tc.loc main_arg3)) (m (c.tc.loc main_arg4))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4) :=
  (θ_run defs _ _).mono (fun _ h c => by
    obtain ⟨h0, h1, h2, h3, h4, h5, h6⟩ := h c
    refine ⟨(h0.trans (val_main_v8_eq ..)).trans (funext fun j => ?_), (h1.trans (val_main_v12_eq ..)).trans (funext fun j => ?_), (h2.trans (val_main_v32_eq ..)).trans (funext fun j => ?_), (h3.trans (val_main_v39_eq ..)).trans (funext fun j => ?_), (h4.trans (val_main_v58_eq ..)).trans (funext fun j => ?_), (h5.trans (val_main_v66_eq ..)).trans (funext fun j => ?_), h6⟩
    · idx_vars j
      exact ref_abr _ _ _ j0 j1
    · idx_vars j
      exact ref_abi _ _ _ j0 j1
    · idx_vars j
      exact ref_bbr _ _ _ _ _ j0 j1 j2
    · idx_vars j
      exact ref_bbi _ _ _ _ _ j0 j1 j2
    · idx_vars j
      exact ref_pre _ _ _ j1 j2 j0
    · idx_vars j
      exact ref_pim _ _ _ j1 j2 j0) (Cert.OpsfReferenceIdeal.Value.run m ρ)
end
section
open Cert.OpsfKernelIdeal Cert.OpsfKernelIdeal.Gen
/-! What the host makes of the six written arrays. -/
/-- One where two heads agree, zero elsewhere. -/
def mask : FVec Ideal S1x8x1x8x1 .f32 :=
  broadcastInDim S1x8x1x8x1 ![1, 3] bcast_S8x8_S1x8x1x8x1_1_3
    (uitofp .f32 (cmpi .eq (addi (iotaInDim S8x8 32 0) (broadcastInDim S8x8 ![] bcast_S_S8x8 (constantI S_ 32 0#32))) (iotaInDim S8x8 32 1)))
/-- The diagonal blocks: everything times the mask, summed over the column's head. -/
def own (x : FVec Ideal S4x128x512 .f32) : FVec Ideal S32x64x16 .f32 :=
  transpose S32x64x16 [0, 2, 1] (shapeCast S32x16x64 (Host.reduceAdd (mulf (shapeCast S4x8x16x8x64 x shapeCasts_S4x128x512_S4x8x16x8x64)
    (broadcastInDim S4x8x16x8x64 ![0, 1, 2, 3, 4] bcast_S1x8x1x8x1_S4x8x16x8x64_0_1_2_3_4 mask)) (constant S_ .f32 0x00000000#32) reducesTo_S4x8x16x8x64_S4x8x16x64_d3 h_S_)
    shapeCasts_S4x8x16x64_S32x16x64) transposes_S32x16x64_S32x64x16_0_2_1
/-- The powers, time first. -/
def byTime (x : FVec Ideal S4x256x512 .f32) : FVec Ideal S256x32x64 .f32 :=
  shapeCast S256x32x64 (transpose S256x4x512 [1, 0, 2] x transposes_S4x256x512_S256x4x512_1_0_2) shapeCasts_S256x4x512_S256x32x64
section
variable (W : Valuation τ sig (Elt Ideal))
theorem head_0 : StableHlo.after hostOps0 W (Proc.devRef .tc main_v0) = rows (W (Proc.devRef .tc main_arg1)) := by
  unfold hostOps0
  after_region_results
  rfl
theorem head_1 : StableHlo.after hostOps0 W (Proc.devRef .tc main_v1) = rows (W (Proc.devRef .tc main_arg2)) := by
  unfold hostOps0
  after_region_results
  rfl
theorem head_4 : StableHlo.after hostOps0 W (Proc.devRef .tc main_v4) = rep (W (Proc.devRef .tc main_arg0)) := by
  unfold hostOps0
  after_region_results
  rfl
set_option maxHeartbeats 4000000 in
theorem head_19 : StableHlo.after hostOps0 W (Proc.devRef .tc main_v19) = diag (W (Proc.devRef .tc main_arg3)) := by
  unfold hostOps0
  after_region_results
  rfl
set_option maxHeartbeats 4000000 in
theorem head_34 : StableHlo.after hostOps0 W (Proc.devRef .tc main_v34) = diag (W (Proc.devRef .tc main_arg4)) := by
  unfold hostOps0
  after_region_results
  rfl
theorem tail_36 : StableHlo.after hostOps1 W (Proc.devRef .tc main_v36) = heads (W (Proc.devRef .tc main_v35_0)) := by
  unfold hostOps1
  after_region_results
  rfl
theorem tail_37 : StableHlo.after hostOps1 W (Proc.devRef .tc main_v37) = heads (W (Proc.devRef .tc main_v35_1)) := by
  unfold hostOps1
  after_region_results
  rfl
set_option maxHeartbeats 4000000 in
theorem tail_50 : StableHlo.after hostOps1 W (Proc.devRef .tc main_v50) = own (W (Proc.devRef .tc main_v35_2)) := by
  unfold hostOps1
  after_region_results
  rfl
set_option maxHeartbeats 4000000 in
theorem tail_63 : StableHlo.after hostOps1 W (Proc.devRef .tc main_v63) = own (W (Proc.devRef .tc main_v35_3)) := by
  unfold hostOps1
  after_region_results
  rfl
theorem tail_65 : StableHlo.after hostOps1 W (Proc.devRef .tc main_v65) = byTime (W (Proc.devRef .tc main_v35_4)) := by
  unfold hostOps1
  after_region_results
  rfl
theorem tail_67 : StableHlo.after hostOps1 W (Proc.devRef .tc main_v67) = byTime (W (Proc.devRef .tc main_v35_5)) := by
  unfold hostOps1
  after_region_results
  rfl
end
theorem mask_at (g g' : Fin 8) : mask (ix5 0 g 0 g' 0) = same (ix5 0 g 0 g' 0) := by
  have e : IntOp.cmpi .eq (IntOp.addi (BitVec.ofNat 32 g.val) 0#32) (BitVec.ofNat 32 g'.val) = if g = g' then 1#1 else 0#1 := by
    revert g g'; decide
  rw [same_at]
  pointwise [mask]
  rw [e]
  split <;> simp [FloatOps.uitofp]
theorem own_at (y : FVec Ideal S4x128x512 .f32) (h : Fin 32) (k : Fin 64) (c : Fin 16) : own y (ix3 h k c) =
    ∑ g : Fin 8, y (ix3 ⟨h.val / 8, by omega⟩ ⟨h.val % 8 * 16 + c.val, by omega⟩ ⟨g.val * 64 + k.val, by omega⟩) * same (ix5 0 ⟨h.val % 8, by omega⟩ 0 g 0) := by
  simp only [← mask_at]
  pointwise [own]
theorem byTime_at (y : FVec Ideal S4x256x512 .f32) (t : Fin 256) (h : Fin 32) (k : Fin 64) : byTime y (ix3 t h k) = y (ix3 ⟨h.val / 8, by omega⟩ t ⟨h.val % 8 * 64 + k.val, by omega⟩) := by
  pointwise [byTime]
variable (m : (ℓ : Loc nD τ sig) → Buf (Elt Ideal) ℓ)
theorem end_of (w : Fin cfg0.W) (c : Dev nD) : Pipeline.withArrays (cfgs 0).spec c (V0 m c) (fun w => (dats m 0 c).arrAt w (cfgs 0).N) (Proc.devRef .tc (Pipeline.arrRef spec0 w)) =
    (dats m 0 c).arrAt w cfg0.N := Pipeline.withArrays_arr _ launch0.win.arr_inj c _ _ w
/-- The kernel's run, its results named. -/
theorem ker_run (ρ : Dev nD → PrngReg) :
 θ_run defs (onTc (τ := τ) (main (F := Ideal))) ⟨m, fun _ => 0, ρ⟩ fun r => ∀ c : Dev nD,
      r.2.mem (c.tc.loc main_v36) = heads ((dats m 0 c).arrAt 5 cfg0.N)
 ∧ r.2.mem (c.tc.loc main_v37) = heads ((dats m 0 c).arrAt 6 cfg0.N)
 ∧ r.2.mem (c.tc.loc main_v50) = own ((dats m 0 c).arrAt 7 cfg0.N)
 ∧ r.2.mem (c.tc.loc main_v63) = own ((dats m 0 c).arrAt 8 cfg0.N)
 ∧ r.2.mem (c.tc.loc main_v65) = byTime ((dats m 0 c).arrAt 9 cfg0.N)
 ∧ r.2.mem (c.tc.loc main_v67) = byTime ((dats m 0 c).arrAt 10 cfg0.N) := by
  refine (θ_run defs _ _).mono (fun r h c => ?_) (run_main m ρ)
  have e := (h c).2
  refine ⟨(e main_v36 (by decide)).trans ?_, (e main_v37 (by decide)).trans ?_, (e main_v50 (by decide)).trans ?_, (e main_v63 (by decide)).trans ?_, (e main_v65 (by decide)).trans ?_, (e main_v67 (by decide)).trans ?_⟩
  · unfold Pipeline.afterTail₀
    refine (tail_36 _).trans (congrArg heads ?_)
    exact end_of m 5 c
  · unfold Pipeline.afterTail₀
    refine (tail_37 _).trans (congrArg heads ?_)
    exact end_of m 6 c
  · unfold Pipeline.afterTail₀
    refine (tail_50 _).trans (congrArg own ?_)
    exact end_of m 7 c
  · unfold Pipeline.afterTail₀
    refine (tail_63 _).trans (congrArg own ?_)
    exact end_of m 8 c
  · unfold Pipeline.afterTail₀
    refine (tail_65 _).trans (congrArg byTime ?_)
    exact end_of m 9 c
  · unfold Pipeline.afterTail₀
    refine (tail_67 _).trans (congrArg byTime ?_)
    exact end_of m 10 c
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] ∧ win0_9.index t = ![t.val, 0, 0] ∧ win0_10.index t = ![t.val, 0, 0] :=
  (by decide +kernel : ∀ t : Fin grid0.N, _)
/-- A grid point's row. -/
def tb (t : Fin cfg0.N) : Fin 4 := ⟨t.val, lt_of_lt_of_eq t.isLt (by decide +kernel : cfg0.N = 4)⟩
variable (c : Dev nD) (t : Fin cfg0.N)
/-! The arguments. -/
abbrev a0 : FVec Ideal S32 .f32 := m (c.tc.loc main_arg0)
abbrev a1 : FVec Ideal S32x64 .f32 := m (c.tc.loc main_arg1)
abbrev a2 : FVec Ideal S32x64 .f32 := m (c.tc.loc main_arg2)
abbrev a3 : FVec Ideal S32x64x16 .f32 := m (c.tc.loc main_arg3)
abbrev a4 : FVec Ideal S32x64x16 .f32 := m (c.tc.loc main_arg4)
/-! The blocks a grid point reads. -/
theorem b0 (l : Fin 512) : iblk m c 0 t (ix3 0 0 l) = a1 m c (ix2 (hd (tb t) l) (st l)) := by
  have e : ((View.whole main_v0).slice (win0_0.rect t)).emb (ix3 0 0 l) = (ix3 (tb t) 0 l : S4x1x512.Idx) := by blk_ext [idx t, tb]
  blk_simp [iblk, idx t]
  exact (congrFun (head_0 _) _).trans ((congrArg _ e).trans (rows_at _ _ _))
theorem b1 (l : Fin 512) : iblk m c 1 t (ix3 0 0 l) = a2 m c (ix2 (hd (tb t) l) (st l)) := by
  have e : ((View.whole main_v1).slice (win0_1.rect t)).emb (ix3 0 0 l) = (ix3 (tb t) 0 l : S4x1x512.Idx) := by blk_ext [idx t, tb]
  blk_simp [iblk, idx t]
  exact (congrFun (head_1 _) _).trans ((congrArg _ e).trans (rows_at _ _ _))
theorem b2 (l : Fin 512) : iblk m c 2 t (ix3 0 0 l) = a0 m c (ix1 (hd (tb t) l)) := by
  have e : ((View.whole main_v4).slice (win0_2.rect t)).emb (ix3 0 0 l) = (ix3 (tb t) 0 l : S4x1x512.Idx) := by blk_ext [idx t, tb]
  blk_simp [iblk, idx t]
  exact (congrFun (head_4 _) _).trans ((congrArg _ e).trans (rep_at _ _ _))
theorem b3 (r : Fin 128) (l : Fin 512) : iblk m c 3 t (ix3 0 r l) = diag (a3 m c) (ix3 (tb t) r l) := by
  have e : ((View.whole main_v19).slice (win0_3.rect t)).emb (ix3 0 r l) = (ix3 (tb t) r l : S4x128x512.Idx) := by blk_ext [idx t, tb]
  blk_simp [iblk, idx t]
  exact (congrFun (head_19 _) _).trans (congrArg _ e)
theorem b4 (r : Fin 128) (l : Fin 512) : iblk m c 4 t (ix3 0 r l) = diag (a4 m c) (ix3 (tb t) r l) := by
  have e : ((View.whole main_v34).slice (win0_4.rect t)).emb (ix3 0 r l) = (ix3 (tb t) r l : S4x128x512.Idx) := by blk_ext [idx t, tb]
  blk_simp [iblk, idx t]
  exact (congrFun (head_34 _) _).trans (congrArg _ e)
/-! The six written arrays. -/
def at5 (b : Fin 4) (l : Fin 512) : EReal := abr (a0 m c (ix1 (hd b l))) (a1 m c (ix2 (hd b l) (st l))) (a2 m c (ix2 (hd b l) (st l)))
def full5 : FVec Ideal S4x1x512 .f32 := fun j => at5 m c (j 0) (j 2)
theorem full5_at (b : Fin 4) (q : Fin 1) (l : Fin 512) : full5 m c (ix3 b q l) = at5 m c b l := rfl
theorem final_5 : (dats m 0 c).arrAt 5 cfg0.N = full5 m c := by
  refine (dats m 0 c).arrAt_eq_of_covers 5 _ (by decide +kernel) fun t hf y => ?_
  idx_vars y
  have e0 : (win0_5.blk t).view.emb (ix3 y0 y1 y2) = ix3 (tb t) y1 y2 := by
    blk_ext [idx t, tb]
  blk_simp
  rw [after0_5, e0]
  obtain rfl : y0 = 0 := Subsingleton.elim _ _
  obtain rfl : y1 = 0 := Subsingleton.elim _ _
  refine (o5 _ _ _ _ _ y2).trans ?_
  rw [b0, b1, b2]
  rfl
def at6 (b : Fin 4) (l : Fin 512) : EReal := abi (a0 m c (ix1 (hd b l))) (a1 m c (ix2 (hd b l) (st l))) (a2 m c (ix2 (hd b l) (st l)))
def full6 : FVec Ideal S4x1x512 .f32 := fun j => at6 m c (j 0) (j 2)
theorem full6_at (b : Fin 4) (q : Fin 1) (l : Fin 512) : full6 m c (ix3 b q l) = at6 m c b l := rfl
theorem final_6 : (dats m 0 c).arrAt 6 cfg0.N = full6 m c := by
  refine (dats m 0 c).arrAt_eq_of_covers 6 _ (by decide +kernel) fun t hf y => ?_
  idx_vars y
  have e0 : (win0_6.blk t).view.emb (ix3 y0 y1 y2) = ix3 (tb t) y1 y2 := by
    blk_ext [idx t, tb]
  blk_simp
  rw [after0_6, e0]
  obtain rfl : y0 = 0 := Subsingleton.elim _ _
  obtain rfl : y1 = 0 := Subsingleton.elim _ _
  refine (o6 _ _ _ _ _ y2).trans ?_
  rw [b0, b1, b2]
  rfl
def at7 (b : Fin 4) (q : Fin 128) (l : Fin 512) : EReal := fr (a0 m c (ix1 (hd b l))) (a1 m c (ix2 (hd b l) (st l))) (a2 m c (ix2 (hd b l) (st l))) * diag (a3 m c) (ix3 b q l) - fi (a0 m c (ix1 (hd b l))) (a1 m c (ix2 (hd b l) (st l))) (a2 m c (ix2 (hd b l) (st l))) * diag (a4 m c) (ix3 b q l)
def full7 : FVec Ideal S4x128x512 .f32 := fun j => at7 m c (j 0) (j 1) (j 2)
theorem full7_at (b : Fin 4) (q : Fin 128) (l : Fin 512) : full7 m c (ix3 b q l) = at7 m c b q l := rfl
theorem final_7 : (dats m 0 c).arrAt 7 cfg0.N = full7 m c := by
  refine (dats m 0 c).arrAt_eq_of_covers 7 _ (by decide +kernel) fun t hf y => ?_
  idx_vars y
  have e0 : (win0_7.blk t).view.emb (ix3 y0 y1 y2) = ix3 (tb t) y1 y2 := by
    blk_ext [idx t, tb]
  blk_simp
  rw [after0_7, e0]
  obtain rfl : y0 = 0 := Subsingleton.elim _ _
  refine (o7 _ _ _ _ _ y2 y1).trans ?_
  rw [b0, b1, b2, b3, b4]
  rfl
def at8 (b : Fin 4) (q : Fin 128) (l : Fin 512) : EReal := fr (a0 m c (ix1 (hd b l))) (a1 m c (ix2 (hd b l) (st l))) (a2 m c (ix2 (hd b l) (st l))) * diag (a4 m c) (ix3 b q l) + fi (a0 m c (ix1 (hd b l))) (a1 m c (ix2 (hd b l) (st l))) (a2 m c (ix2 (hd b l) (st l))) * diag (a3 m c) (ix3 b q l)
def full8 : FVec Ideal S4x128x512 .f32 := fun j => at8 m c (j 0) (j 1) (j 2)
theorem full8_at (b : Fin 4) (q : Fin 128) (l : Fin 512) : full8 m c (ix3 b q l) = at8 m c b q l := rfl
theorem final_8 : (dats m 0 c).arrAt 8 cfg0.N = full8 m c := by
  refine (dats m 0 c).arrAt_eq_of_covers 8 _ (by decide +kernel) fun t hf y => ?_
  idx_vars y
  have e0 : (win0_8.blk t).view.emb (ix3 y0 y1 y2) = ix3 (tb t) y1 y2 := by
    blk_ext [idx t, tb]
  blk_simp
  rw [after0_8, e0]
  obtain rfl : y0 = 0 := Subsingleton.elim _ _
  refine (o8 _ _ _ _ _ y2 y1).trans ?_
  rw [b0, b1, b2, b3, b4]
  rfl
/-- The step and the poles are finite. -/
structure IsReal (s : Fin 32 → ℝ) (r i : Fin 32 → Fin 64 → ℝ) : Prop where
  h0 : ∀ h, a0 m c (ix1 h) = (s h : EReal)
  h1 : ∀ h k, a1 m c (ix2 h k) = (r h k : EReal)
  h2 : ∀ h k, a2 m c (ix2 h k) = (i h k : EReal)
variable {m c}
variable {s : Fin 32 → ℝ} {r i : Fin 32 → Fin 64 → ℝ} (R : IsReal m c s r i)
variable (m c) in
def at9 (b : Fin 4) (q : Fin 256) (l : Fin 512) : EReal := pre q (a0 m c (ix1 (hd b l))) (a1 m c (ix2 (hd b l) (st l))) (a2 m c (ix2 (hd b l) (st l)))
variable (m c) in
def full9 : FVec Ideal S4x256x512 .f32 := fun j => at9 m c (j 0) (j 1) (j 2)
theorem full9_at (b : Fin 4) (q : Fin 256) (l : Fin 512) : full9 m c (ix3 b q l) = at9 m c b q l := rfl
include R in
theorem final_9 : (dats m 0 c).arrAt 9 cfg0.N = full9 m c := by
  refine (dats m 0 c).arrAt_eq_of_covers 9 _ (by decide +kernel) fun t hf y => ?_
  idx_vars y
  have e0 : (win0_9.blk t).view.emb (ix3 y0 y1 y2) = ix3 (tb t) y1 y2 := by
    blk_ext [idx t, tb]
  blk_simp
  rw [after0_9, e0]
  obtain rfl : y0 = 0 := Subsingleton.elim _ _
  refine (o9 _ _ _ _ _ y2 (fun l => s (hd (tb t) l)) (fun l => r (hd (tb t) l) (st l)) (fun l => i (hd (tb t) l) (st l))
    (fun l => (b0 m c t l).trans (R.h1 _ _)) (fun l => (b1 m c t l).trans (R.h2 _ _)) (fun l => (b2 m c t l).trans (R.h0 _)) y1).trans ?_
  refine (pow_re _ _ _ _).trans ?_
  rw [full9_at, at9, R.h0, R.h1, R.h2]
variable (m c) in
def at10 (b : Fin 4) (q : Fin 256) (l : Fin 512) : EReal := pim q (a0 m c (ix1 (hd b l))) (a1 m c (ix2 (hd b l) (st l))) (a2 m c (ix2 (hd b l) (st l)))
variable (m c) in
def full10 : FVec Ideal S4x256x512 .f32 := fun j => at10 m c (j 0) (j 1) (j 2)
theorem full10_at (b : Fin 4) (q : Fin 256) (l : Fin 512) : full10 m c (ix3 b q l) = at10 m c b q l := rfl
include R in
theorem final_10 : (dats m 0 c).arrAt 10 cfg0.N = full10 m c := by
  refine (dats m 0 c).arrAt_eq_of_covers 10 _ (by decide +kernel) fun t hf y => ?_
  idx_vars y
  have e0 : (win0_10.blk t).view.emb (ix3 y0 y1 y2) = ix3 (tb t) y1 y2 := by
    blk_ext [idx t, tb]
  blk_simp
  rw [after0_10, e0]
  obtain rfl : y0 = 0 := Subsingleton.elim _ _
  refine (o10 _ _ _ _ _ y2 (fun l => s (hd (tb t) l)) (fun l => r (hd (tb t) l) (st l)) (fun l => i (hd (tb t) l) (st l))
    (fun l => (b0 m c t l).trans (R.h1 _ _)) (fun l => (b1 m c t l).trans (R.h2 _ _)) (fun l => (b2 m c t l).trans (R.h0 _)) y1).trans ?_
  refine (pow_im _ _ _ _).trans ?_
  rw [full10_at, at10, R.h0, R.h1, R.h2]
/-! The six results. -/
variable (m c)
theorem res_5 : heads ((dats m 0 c).arrAt 5 cfg0.N) = abrV (a0 m c) (a1 m c) (a2 m c) (a3 m c) (a4 m c) := by
  rw [final_5 m c]
  funext j
  idx_vars j
  refine (heads_at _ j0 j1).trans ?_
  refine (full5_at m c _ _ _).trans ?_
  rw [at5, (hd_st j0 j1).1, (hd_st j0 j1).2]
  rfl
theorem res_6 : heads ((dats m 0 c).arrAt 6 cfg0.N) = abiV (a0 m c) (a1 m c) (a2 m c) (a3 m c) (a4 m c) := by
  rw [final_6 m c]
  funext j
  idx_vars j
  refine (heads_at _ j0 j1).trans ?_
  refine (full6_at m c _ _ _).trans ?_
  rw [at6, (hd_st j0 j1).1, (hd_st j0 j1).2]
  rfl
theorem res_7 : own ((dats m 0 c).arrAt 7 cfg0.N) = bbrV (a0 m c) (a1 m c) (a2 m c) (a3 m c) (a4 m c) := by
  rw [final_7 m c]
  funext j
  idx_vars j
  rw [own_at]
  refine (block_pick (fun g : Fin 8 => full7 m c (ix3 ⟨j0.val / 8, by omega⟩ ⟨j0.val % 8 * 16 + j2.val, by omega⟩ ⟨g.val * 64 + j1.val, by omega⟩)) ⟨j0.val % 8, by omega⟩).trans ?_
  rw [full7_at, at7, (hd_st j0 j1).1, (hd_st j0 j1).2, diag_own, diag_own]
  rfl
theorem res_8 : own ((dats m 0 c).arrAt 8 cfg0.N) = bbiV (a0 m c) (a1 m c) (a2 m c) (a3 m c) (a4 m c) := by
  rw [final_8 m c]
  funext j
  idx_vars j
  rw [own_at]
  refine (block_pick (fun g : Fin 8 => full8 m c (ix3 ⟨j0.val / 8, by omega⟩ ⟨j0.val % 8 * 16 + j2.val, by omega⟩ ⟨g.val * 64 + j1.val, by omega⟩)) ⟨j0.val % 8, by omega⟩).trans ?_
  rw [full8_at, at8, (hd_st j0 j1).1, (hd_st j0 j1).2, diag_own, diag_own]
  rfl
include R
theorem res_9 : byTime ((dats m 0 c).arrAt 9 cfg0.N) = preV (a0 m c) (a1 m c) (a2 m c) (a3 m c) (a4 m c) := by
  rw [final_9 R]
  funext j
  idx_vars j
  rw [byTime_at, full9_at, at9, (hd_st j1 j2).1, (hd_st j1 j2).2]
  rfl
theorem res_10 : byTime ((dats m 0 c).arrAt 10 cfg0.N) = pimV (a0 m c) (a1 m c) (a2 m c) (a3 m c) (a4 m c) := by
  rw [final_10 R]
  funext j
  idx_vars j
  rw [byTime_at, full10_at, at10, (hd_st j1 j2).1, (hd_st j1 j2).2]
  rfl
end
/-! The finite arguments, and the claim. -/
theorem pre_facts : Cert.Pre_finite_opsf.Facts where
  bcast_S_S32 := by decide
  reducesTo_S32_S_d0 := by decide
  h_S_ := by decide
  bcast_S_S32x64 := by decide
  reducesTo_S32x64_S_d0_1 := by decide
section
open Cert.Pre_finite_opsf
attribute [local instance] pre_facts
theorem reals (m : (ℓ : Loc Cert.OpsfKernelIdeal.nD Cert.OpsfKernelIdeal.τ Cert.OpsfKernelIdeal.sig) → Buf (Elt Ideal) ℓ) (c : Dev Cert.OpsfKernelIdeal.nD)
    (h : Cert.Pre_finite_opsf.fn (F := Ideal) (a0 m c) (a1 m c) (a2 m c) (a3 m c) (a4 m c) = fun _ => 1#1) :
    IsReal m c (fun h => (a0 m c (ix1 h)).toReal) (fun h k => (a1 m c (ix2 h k)).toReal) (fun h k => (a2 m c (ix2 h k)).toReal) := by
  have h := congrFun h (fun k => k.elim0)
  unfold Cert.Pre_finite_opsf.fn at h
  dsimp only at h
  obtain ⟨h, h2⟩ := IntOp.andi_eq_one.1 h
  obtain ⟨h0, h1⟩ := IntOp.andi_eq_one.1 h
  exact ⟨fun h => real_all _ _ _ _ _ h0 _, fun h k => real_all _ _ _ _ _ h1 _, fun h k => real_all _ _ _ _ _ h2 _⟩
end
/-- The kernel's discretised step is the reference's. -/
theorem algebraic : Cert.algebraic_OpsfKernelIdeal_OpsfReferenceIdeal_pre_finite_opsf (hOpsfKernelIdeal := Cert.OpsfKernelIdeal.Gen.facts) (hOpsfReferenceIdeal := Cert.OpsfReferenceIdeal.Gen.facts)
    (hPre_finite_opsf := pre_facts) := by
  pair_intro
  · run_from ker_run m g & Cert.OpsfKernelIdeal.Gen.frame m g
  · run_from ref_run m' g'
    · exact (res_5 m c).symm
    · exact (res_6 m c).symm
    · exact (res_7 m c).symm
    · exact (res_8 m c).symm
    · exact (res_9 m c (reals m c (hpre c))).symm
    · exact (res_10 m c (reals m c (hpre c))).symm
end Cert.Opsf
-- ==== Proof.Adam.lean ====
module
public import proofs.«01_k».proof.Defs
public import proofs.«01_k».proof.Proof.Rows
public import proofs.«01_k».proof.Proof.Gen.AdamKernelIdeal.Value
public import proofs.«01_k».proof.Proof.Gen.AdamReferenceIdeal.Read
@[expose] public section
set_option maxRecDepth 16384
noncomputable section
open Idealize.ShloMosaic Idealize.ShloMosaic.TcCoe Idealize.SL.Sem
open Cert.Rows
/-! The optimiser's step: a decaying mean of the gradient, one of its square, and the change of the weight. -/
namespace Cert.Adam
/-- The new mean of the gradient. -/
def mean (g a : EReal) : EReal := Ideal.ofBits .f32 0x3F666666#32 * a + Ideal.ofBits .f32 0x3DCCCCCD#32 * g
/-- The new mean of its square. -/
def square (g a : EReal) : EReal := Ideal.ofBits .f32 0x3F7FBE77#32 * a + Ideal.ofBits .f32 0x3A83126F#32 * (g * g)
/-- The change of the weight. -/
def change (w g a b : EReal) : EReal :=
  Ideal.ofBits .f32 0xBA83126F#32 * (Ideal.div (Ideal.div (mean g a) (Ideal.ofBits .f32 0x3F26BD02#32))
    (Ideal.sqrt (Ideal.div (square g b) (Ideal.ofBits .f32 0x3C231ACC#32)) + Ideal.ofBits .f32 0x322BCC77#32) + Ideal.ofBits .f32 0x3C23D70A#32 * w)
/-- The three results as arrays, of the weight, the gradient and the two means. -/
def changeV (w g a b : FVec Ideal ⟨2, ![512, 1024]⟩ .f32) : FVec Ideal ⟨2, ![512, 1024]⟩ .f32 :=
  fun i => change (w (ix2 (i 0) (i 1))) (g (ix2 (i 0) (i 1))) (a (ix2 (i 0) (i 1))) (b (ix2 (i 0) (i 1)))
def meanV (w g a b : FVec Ideal ⟨2, ![512, 1024]⟩ .f32) : FVec Ideal ⟨2, ![512, 1024]⟩ .f32 := fun i => mean (g (ix2 (i 0) (i 1))) (a (ix2 (i 0) (i 1)))
def squareV (w g a b : FVec Ideal ⟨2, ![512, 1024]⟩ .f32) : FVec Ideal ⟨2, ![512, 1024]⟩ .f32 := fun i => square (g (ix2 (i 0) (i 1))) (b (ix2 (i 0) (i 1)))
section
open Cert.AdamReferenceIdeal Cert.AdamReferenceIdeal.Read
variable (x0 x1 x2 x3 : FVec Ideal S512x1024 .f32)
theorem ref_mean (a : Fin 512) (k : Fin 1024) : val_main_v4 (F := Ideal) x1 x2 (ix2 a k) = mean (x1 (ix2 a k)) (x2 (ix2 a k)) := by
  pointwise [val_main_v4, val_main_v3, val_main_v2, val_main_cst_0, val_main_v1, val_main_v0, val_main_cst, mean]
theorem ref_square (a : Fin 512) (k : Fin 1024) : val_main_v10 (F := Ideal) x1 x3 (ix2 a k) = square (x1 (ix2 a k)) (x3 (ix2 a k)) := by
  pointwise [val_main_v10, val_main_v9, val_main_v8, val_main_cst_2, val_main_v7, val_main_v6, val_main_v5, val_main_cst_1, square]
theorem ref_change (a : Fin 512) (k : Fin 1024) : val_main_v23 (F := Ideal) x0 x1 x2 x3 (ix2 a k) = change (x0 (ix2 a k)) (x1 (ix2 a k)) (x2 (ix2 a k)) (x3 (ix2 a k)) := by
  pointwise [val_main_v23, val_main_v22, val_main_cst_7, val_main_v21, val_main_v20, val_main_v19, val_main_cst_6, val_main_v18, val_main_v17, val_main_v16, val_main_cst_5, val_main_v15, val_main_v14,
    val_main_v13, val_main_cst_4, val_main_v12, val_main_v11, val_main_cst_3, ref_mean, ref_square, change]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v23) = changeV (m (c.tc.loc main_arg0)) (m (c.tc.loc main_arg1)) (m (c.tc.loc main_arg2)) (m (c.tc.loc main_arg3))
 ∧ r.2.mem (c.tc.loc main_v4) = meanV (m (c.tc.loc main_arg0)) (m (c.tc.loc main_arg1)) (m (c.tc.loc main_arg2)) (m (c.tc.loc main_arg3))
 ∧ r.2.mem (c.tc.loc main_v10) = squareV (m (c.tc.loc main_arg0)) (m (c.tc.loc main_arg1)) (m (c.tc.loc main_arg2)) (m (c.tc.loc main_arg3))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3) :=
  (θ_run defs _ _).mono (fun _ h c => by
    obtain ⟨h0, h1, h2, h3⟩ := h c
    refine ⟨(h0.trans (val_main_v23_eq ..)).trans (funext fun j => ?_), (h1.trans (val_main_v4_eq ..)).trans (funext fun j => ?_), (h2.trans (val_main_v10_eq ..)).trans (funext fun j => ?_), h3⟩
    · idx_vars j
      exact ref_change _ _ _ _ j0 j1
    · idx_vars j
      exact ref_mean _ _ j0 j1
    · idx_vars j
      exact ref_square _ _ j0 j1) (Cert.AdamReferenceIdeal.Value.run m ρ)
end
section
open Cert.AdamKernelIdeal Cert.AdamKernelIdeal.Gen
variable (x0 x1 x2 x3 : FVec Ideal S256x1024 .f32)
/-- One entry of a tile of each result. -/
theorem ker_mean (a : Fin 256) (k : Fin 1024) : k0_pay1 (F := Ideal) x1 x2 (ix2 a k) = mean (x1 (ix2 a k)) (x2 (ix2 a k)) := by
  pointwise [k0_pay1, mean]
theorem ker_square (a : Fin 256) (k : Fin 1024) : k0_pay2 (F := Ideal) x1 x3 (ix2 a k) = square (x1 (ix2 a k)) (x3 (ix2 a k)) := by
  pointwise [k0_pay2, square]
theorem ker_change (a : Fin 256) (k : Fin 1024) : k0_pay3 (F := Ideal) x0 x1 x2 x3 (ix2 a k) = change (x0 (ix2 a k)) (x1 (ix2 a k)) (x2 (ix2 a k)) (x3 (ix2 a k)) := by
  pointwise [k0_pay3, ker_mean, ker_square, change]
variable (m : (ℓ : Loc nD τ sig) → Buf (Elt Ideal) ℓ)
/-- Where the windows stand at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
/-- The weight, the gradient and the two means. -/
abbrev W (c : Dev nD) : FVec Ideal S512x1024 .f32 := m ((c : Thread nD τ).loc main_arg0)
abbrev G (c : Dev nD) : FVec Ideal S512x1024 .f32 := m ((c : Thread nD τ).loc main_arg1)
abbrev A (c : Dev nD) : FVec Ideal S512x1024 .f32 := m ((c : Thread nD τ).loc main_arg2)
abbrev B (c : Dev nD) : FVec Ideal S512x1024 .f32 := m ((c : Thread nD τ).loc main_arg3)
theorem ltN (t : Fin cfg0.N) : t.val < 2 := by have := t.isLt; have : cfg0.N = 2 := N_0; omega
/-- Row `a` of tile `t`. -/
abbrev row (t : Fin cfg0.N) (a : Fin 256) : Fin 512 := ⟨256 * t.val + a.val, by have := ltN t; omega⟩
/-- The tiles of the arguments. -/
theorem tile_w (c : Dev nD) (t : Fin cfg0.N) (a : Fin 256) (k : Fin 1024) : iblk m c 0 t (ix2 a k) = W m c (ix2 (row t a) k) := by
  blk_point [iblk, V, idx t]
theorem tile_g (c : Dev nD) (t : Fin cfg0.N) (a : Fin 256) (k : Fin 1024) : iblk m c 1 t (ix2 a k) = G m c (ix2 (row t a) k) := by
  blk_point [iblk, V, idx t]
theorem tile_a (c : Dev nD) (t : Fin cfg0.N) (a : Fin 256) (k : Fin 1024) : iblk m c 2 t (ix2 a k) = A m c (ix2 (row t a) k) := by
  blk_point [iblk, V, idx t]
theorem tile_b (c : Dev nD) (t : Fin cfg0.N) (a : Fin 256) (k : Fin 1024) : iblk m c 3 t (ix2 a k) = B m c (ix2 (row t a) k) := by
  blk_point [iblk, V, idx t]
/-- The change of the weight. -/
theorem final_change (c : Dev nD) : (dats m 0 c).arrAt 4 cfg0.N = changeV (W m c) (G m c) (A m c) (B m c) := by
  refine (dats m 0 c).arrAt_eq_of_covers 4 _ (by decide +kernel) fun t hf y => ?_
  idx_vars y
  have e0 : (win0_4.blk t).view.emb (ix2 y0 y1) = ix2 (row t y0) y1 := by
    blk_ext [idx t]
  blk_simp
  rw [after0_4, e0]
  unfold out0_4
  frame_out
  refine (ker_change _ _ _ _ y0 y1).trans ?_
  simp only [tile_w, tile_g, tile_a, tile_b]
  rfl
/-- The mean of the gradient. -/
theorem final_mean (c : Dev nD) : (dats m 0 c).arrAt 5 cfg0.N = meanV (W m c) (G m c) (A m c) (B m c) := by
  refine (dats m 0 c).arrAt_eq_of_covers 5 _ (by decide +kernel) fun t hf y => ?_
  idx_vars y
  have e0 : (win0_5.blk t).view.emb (ix2 y0 y1) = ix2 (row t y0) y1 := by
    blk_ext [idx t]
  blk_simp
  rw [after0_5, e0]
  unfold out0_5
  frame_out
  refine (ker_mean _ _ y0 y1).trans ?_
  simp only [tile_w, tile_g, tile_a, tile_b]
  rfl
/-- The mean of its square. -/
theorem final_square (c : Dev nD) : (dats m 0 c).arrAt 6 cfg0.N = squareV (W m c) (G m c) (A m c) (B m c) := by
  refine (dats m 0 c).arrAt_eq_of_covers 6 _ (by decide +kernel) fun t hf y => ?_
  idx_vars y
  have e0 : (win0_6.blk t).view.emb (ix2 y0 y1) = ix2 (row t y0) y1 := by
    blk_ext [idx t]
  blk_simp
  rw [after0_6, e0]
  unfold out0_6
  frame_out
  refine (ker_square _ _ y0 y1).trans ?_
  simp only [tile_w, tile_g, tile_a, tile_b]
  rfl
end
/-- The kernel's step is the reference's. -/
theorem algebraic : Cert.algebraic_AdamKernelIdeal_AdamReferenceIdeal := by
  pair_intro
  · run_from Cert.AdamKernelIdeal.Value.run_blocks m g
  · run_from ref_run m' g'
    · exact (final_change m c).symm
    · exact (final_mean m c).symm
    · exact (final_square m c).symm
end Cert.Adam
-- ==== Proof.Lin.lean ====
module
public import proofs.«01_k».proof.Defs
public import proofs.«01_k».proof.Proof.Rows
public import proofs.«01_k».proof.Proof.Gen.LinKernelIdeal.Frame
public import proofs.«01_k».proof.Proof.Gen.LinReferenceIdeal.Read
@[expose] public section
set_option maxRecDepth 16384
noncomputable section
open Idealize.ShloMosaic Idealize.ShloMosaic.TcCoe Idealize.SL.Sem
open Cert.Rows
/-! The gradients of the gates' product `u w + b` with respect to its argument, its weight and its bias. -/
namespace Cert.Lin
/-- Column `k` of column tile `t`. -/
abbrev tcol (t : Fin 4) (k : Fin 1024) : Fin 4096 := ⟨t.val * 1024 + k.val, by omega⟩
/-- The three gradients as arrays. -/
def duV (u : FVec Ideal ⟨2, ![8192, 1024]⟩ .f32) (w : FVec Ideal ⟨2, ![1024, 4096]⟩ .f32) (b : FVec Ideal ⟨1, ![4096]⟩ .f32) (g : FVec Ideal ⟨2, ![8192, 4096]⟩ .f32) : FVec Ideal ⟨2, ![8192, 1024]⟩ .f32 :=
  fun i => ∑ k : Fin 4096, g (ix2 (i 0) k) * w (ix2 (i 1) k)
def dwV (u : FVec Ideal ⟨2, ![8192, 1024]⟩ .f32) (w : FVec Ideal ⟨2, ![1024, 4096]⟩ .f32) (b : FVec Ideal ⟨1, ![4096]⟩ .f32) (g : FVec Ideal ⟨2, ![8192, 4096]⟩ .f32) : FVec Ideal ⟨2, ![1024, 4096]⟩ .f32 :=
  fun i => ∑ a : Fin 8192, u (ix2 a (i 0)) * g (ix2 a (i 1))
def dbV (u : FVec Ideal ⟨2, ![8192, 1024]⟩ .f32) (w : FVec Ideal ⟨2, ![1024, 4096]⟩ .f32) (b : FVec Ideal ⟨1, ![4096]⟩ .f32) (g : FVec Ideal ⟨2, ![8192, 4096]⟩ .f32) : FVec Ideal ⟨2, ![1, 4096]⟩ .f32 :=
  fun i => ∑ a : Fin 8192, g (ix2 a (i 1))
/-- The gradient of the argument, the part of each column tile apart. -/
def partV (w : FVec Ideal ⟨2, ![1024, 4096]⟩ .f32) (g : FVec Ideal ⟨2, ![8192, 4096]⟩ .f32) : FVec Ideal ⟨3, ![4, 8192, 1024]⟩ .bf16 :=
  fun i => ∑ k : Fin 1024, g (ix2 (i 1) (tcol (i 0) k)) * w (ix2 (i 2) (tcol (i 0) k))
section
open Cert.LinReferenceIdeal Cert.LinReferenceIdeal.Read
variable (x1 : FVec Ideal S1024x4096 .f32) (x0 : FVec Ideal S8192x1024 .f32) (x3 : FVec Ideal S8192x4096 .f32)
theorem ref_dw (j : Fin 1024) (k : Fin 4096) : val_main_v9 (F := Ideal) x0 x3 (ix2 j k) = ∑ a : Fin 8192, x0 (ix2 a j) * x3 (ix2 a k) := by
  pointwise [val_main_v9, val_main_v8, val_main_v4]
  exact Finset.sum_congr rfl fun a _ => mul_comm _ _
theorem ref_du (a : Fin 8192) (j : Fin 1024) : val_main_v10 (F := Ideal) x1 x3 (ix2 a j) = ∑ k : Fin 4096, x3 (ix2 a k) * x1 (ix2 j k) := by
  pointwise [val_main_v10, val_main_v4]
theorem ref_db (k : Fin 4096) : val_main_v11 (F := Ideal) x3 (ix2 0 k) = ∑ a : Fin 8192, x3 (ix2 a k) := by
  pointwise [val_main_v11, val_main_v7, val_main_v6, val_main_v5, val_main_cst, val_main_cst_0, Fin.sum_univ_one]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v10) = duV (m (c.tc.loc main_arg0)) (m (c.tc.loc main_arg1)) (m (c.tc.loc main_arg2)) (m (c.tc.loc main_arg3))
 ∧ r.2.mem (c.tc.loc main_v9) = dwV (m (c.tc.loc main_arg0)) (m (c.tc.loc main_arg1)) (m (c.tc.loc main_arg2)) (m (c.tc.loc main_arg3))
 ∧ r.2.mem (c.tc.loc main_v11) = dbV (m (c.tc.loc main_arg0)) (m (c.tc.loc main_arg1)) (m (c.tc.loc main_arg2)) (m (c.tc.loc main_arg3))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3) :=
  (θ_run defs _ _).mono (fun _ h c => by
    obtain ⟨h0, h1, h2, h3⟩ := h c
    refine ⟨(h0.trans (val_main_v10_eq ..)).trans (funext fun j => ?_), (h1.trans (val_main_v9_eq ..)).trans (funext fun j => ?_), (h2.trans (val_main_v11_eq ..)).trans (funext fun j => ?_), h3⟩
    · idx_vars j
      exact ref_du _ _ j0 j1
    · idx_vars j
      exact ref_dw _ _ j0 j1
    · idx_vars j
      obtain rfl : j0 = 0 := Subsingleton.elim _ _
      exact ref_db _ j1) (Cert.LinReferenceIdeal.Value.run m ρ)
end
section
open Cert.LinKernelIdeal Cert.LinKernelIdeal.Gen
section
variable (W : Valuation τ sig (Elt Ideal))
/-- What the host makes of the arguments, and of the tiles' parts. -/
def castX (x : FVec Ideal S8192x1024 .f32) : FVec Ideal S8192x1024 .bf16 := truncf .bf16 x bitsLt_bf16_f32
def castW (x : FVec Ideal S1024x4096 .f32) : FVec Ideal S1024x4096 .bf16 := truncf .bf16 x bitsLt_bf16_f32
def sumParts (x : FVec Ideal S4x8192x1024 .bf16) : FVec Ideal S8192x1024 .f32 :=
  Host.reduceAdd (extf .f32 x bitsLt_bf16_f32) (constant S_ .f32 0x00000000#32) reducesTo_S4x8192x1024_S8192x1024_d0 h_S_
theorem head_0 : StableHlo.after hostOps0 W (Proc.devRef .tc main_v0) = castX (W (Proc.devRef .tc main_arg0)) := by
  unfold hostOps0
  after_region_results
  rfl
theorem head_1 : StableHlo.after hostOps0 W (Proc.devRef .tc main_v1) = castW (W (Proc.devRef .tc main_arg1)) := by
  unfold hostOps0
  after_region_results
  rfl
theorem tail_5 : StableHlo.after hostOps1 W (Proc.devRef .tc main_v5) = sumParts (W (Proc.devRef .tc main_v3_0)) := by
  unfold hostOps1
  after_region_results
  rfl
end
theorem sumParts_at (x : FVec Ideal S4x8192x1024 .bf16) (a : Fin 8192) (j : Fin 1024) : sumParts x (ix2 a j) = ∑ t : Fin 4, x (ix3 t a j) := by
  pointwise [sumParts]
variable (x0 : FVec Ideal S1024x1024 .bf16) (x3 : FVec Ideal S1024x1024 .f32)
/-- What one row tile adds to an entry of each gradient. -/
theorem ker_dw (j k : Fin 1024) : k0_pay3 (F := Ideal) x0 x3 (ix2 j k) = ∑ a : Fin 1024, (x0 (ix2 a j) : EReal) * x3 (ix2 a k) := by
  pointwise [k0_pay3, k0_pay1]
theorem ker_du (a j : Fin 1024) : k0_pay4 (F := Ideal) x0 x3 (ix3 0 a j) = ∑ k : Fin 1024, (x3 (ix2 a k) : EReal) * x0 (ix2 j k) := by
  pointwise [k0_pay4, k0_pay1]
theorem ker_db (k : Fin 1024) : k0_pay2 (F := Ideal) x3 (ix2 0 k) = ∑ a : Fin 1024, (x3 (ix2 a k) : EReal) := by
  pointwise [k0_pay2]
variable (m : (ℓ : Loc nD τ sig) → Buf (Elt Ideal) ℓ)
/-- Where the windows stand at a grid point. -/
theorem idx : ∀ t : Fin cfg0.N, win0_0.index t = ![t.val % 8, 0] ∧ win0_1.index t = ![0, t.val / 8] ∧ win0_3.index t = ![t.val % 8, t.val / 8] ∧ win0_4.index t = ![t.val / 8, t.val % 8, 0] ∧ win0_5.index t = ![0, t.val / 8] ∧ win0_6.index t = ![0, t.val / 8] :=
  (by decide +kernel : ∀ t : Fin grid0.N, _)
/-- The rows, the weight, the bias and the cotangent. -/
abbrev X (c : Dev nD) : FVec Ideal S8192x1024 .f32 := m ((c : Thread nD τ).loc main_arg0)
abbrev W (c : Dev nD) : FVec Ideal S1024x4096 .f32 := m ((c : Thread nD τ).loc main_arg1)
abbrev B (c : Dev nD) : FVec Ideal S4096 .f32 := m ((c : Thread nD τ).loc main_arg2)
abbrev G (c : Dev nD) : FVec Ideal S8192x4096 .f32 := m ((c : Thread nD τ).loc main_arg3)
theorem ltN (t : Fin cfg0.N) : t.val < 32 := by have := t.isLt; have : cfg0.N = 32 := N_0; omega
/-- Row `a` of the row tile, and column `k` of the column tile, at grid point `t`. -/
abbrev row (t : Fin cfg0.N) (a : Fin 1024) : Fin 8192 := ⟨1024 * (t.val % 8) + a.val, by omega⟩
abbrev col (t : Fin cfg0.N) (k : Fin 1024) : Fin 4096 := ⟨1024 * (t.val / 8) + k.val, by have := ltN t; omega⟩
/-- The tiles of the rows and of the cotangent. -/
theorem tile_x (c : Dev nD) (t : Fin cfg0.N) (a k : Fin 1024) : iblk m c 0 t (ix2 a k) = X m c (ix2 (row t a) k) := by
  have e : ((View.whole main_v0).slice (win0_0.rect t)).emb (ix2 a k) = (ix2 (row t a) k : S8192x1024.Idx) := by
    blk_ext [idx t]
  blk_simp [iblk, idx t]
  exact (congrFun (head_0 _) _).trans (congrArg (X m c) e)
theorem tile_w (c : Dev nD) (t : Fin cfg0.N) (a k : Fin 1024) : iblk m c 1 t (ix2 a k) = W m c (ix2 a (col t k)) := by
  have e : ((View.whole main_v1).slice (win0_1.rect t)).emb (ix2 a k) = (ix2 a (col t k) : S1024x4096.Idx) := by
    blk_ext [idx t]
  blk_simp [iblk, idx t]
  exact (congrFun (head_1 _) _).trans (congrArg (W m c) e)
theorem tile_g (c : Dev nD) (t : Fin cfg0.N) (a k : Fin 1024) : iblk m c 3 t (ix2 a k) = G m c (ix2 (row t a) (col t k)) := by
  blk_point [iblk, V, idx t]
/-- The sum over a column tile's eight row tiles is the sum over the rows. -/
theorem sum_rows (f : Fin 8192 → EReal) : ∑ s : Fin 8, ∑ a : Fin 1024, f ⟨1024 * s.val + a.val, by omega⟩ = ∑ a : Fin 8192, f a := by
  refine Eq.trans ?_ (Fin.sum_univ_tiles 8 1024 rfl f).symm
  exact Finset.sum_congr rfl fun t _ => Finset.sum_congr rfl fun a _ => congrArg f (Fin.ext (by
    show 1024 * t.val + a.val = t.val * 1024 + a.val; omega))
/-- The row and the column at the `s`-th point of a column tile. -/
theorem row_at (t : Fin cfg0.N) (s : Fin 8) (h : 8 * (t.val / 8) + s.val < cfg0.N) (a : Fin 1024) : row ⟨8 * (t.val / 8) + s.val, h⟩ a = ⟨1024 * s.val + a.val, by omega⟩ :=
  Fin.ext (by show 1024 * ((8 * (t.val / 8) + s.val) % 8) + a.val = 1024 * s.val + a.val; omega)
theorem col_at (t : Fin cfg0.N) (s : Fin 8) (h : 8 * (t.val / 8) + s.val < cfg0.N) (k : Fin 1024) : col ⟨8 * (t.val / 8) + s.val, h⟩ k = col t k :=
  Fin.ext (by show 1024 * ((8 * (t.val / 8) + s.val) / 8) + k.val = 1024 * (t.val / 8) + k.val; omega)
/-- The column tiles' parts of the gradient of the argument. -/
theorem final_parts (c : Dev nD) : (dats m 0 c).arrAt 4 cfg0.N = partV (W m c) (G m c) := by
  refine (dats m 0 c).arrAt_eq_of_covers 4 _ (by decide +kernel) fun t hf y => ?_
  idx_vars y
  obtain rfl : y0 = 0 := Subsingleton.elim _ _
  have := ltN t
  have e0 : (win0_4.blk t).view.emb (ix3 0 y1 y2) = ix3 ⟨t.val / 8, by omega⟩ (row t y1) y2 := by
    blk_ext [idx t]
  blk_simp
  rw [after0_4, e0]
  have hc (k : Fin 1024) : col t k = tcol ⟨t.val / 8, by omega⟩ k := Fin.ext (by show 1024 * (t.val / 8) + k.val = t.val / 8 * 1024 + k.val; omega)
  rcases Nat.eq_zero_or_pos (t.val % 8) with h | h
  on_goal 1 => rw [outsAt0_A m c t (by omega) (by omega) (by omega) (by omega)]
  on_goal 2 => rw [outsAt0_B m c t (by omega) (by omega) (by omega) (by omega)]
  all_goals
    frame_out
    refine (ker_du _ _ y1 y2).trans ?_
    simp only [tile_w, tile_g, hc]
    rfl
/-- The gradient of the weight. -/
theorem final_dw (c : Dev nD) : (dats m 0 c).arrAt 5 cfg0.N = dwV (X m c) (W m c) (B m c) (G m c) := by
  refine (dats m 0 c).arrAt_eq_of_covers 5 _ (by decide +kernel) fun t hf y => ?_
  idx_vars y
  have e0 : (win0_5.blk t).view.emb (ix2 y0 y1) = ix2 y0 (col t y1) := by
    blk_ext [idx t]
  blk_simp
  have e := Pipeline.eq_sum_fin_of_reset_step_apply_of_flush (M := EReal) (fun n h => (outsAt0 m c n h).2.1) 8 (fun _ => (0 : EReal))
    (fun t i => ∑ a : Fin 1024, X m c (ix2 (row t a) (i 0)) * G m c (ix2 (row t a) (col t (i 1))))
    (fun t h i => by
      idx_vars i
      rw [outsAt0_A m c t h (by omega) h (by omega)]
      frame_out
      refine (ker_dw _ _ _ _).trans ?_
      simp only [tile_x, tile_g, zero_add])
    (fun t h i => by
      idx_vars i
      rw [outsAt0_B m c t h (by omega) h (by omega)]
      frame_out
      pointwise [k0_pay5]
      refine congrArg _ ((ker_dw _ _ _ _).trans ?_)
      simp only [tile_x, tile_g])
    t ((flush0_5 t).mp hf) (ix2 y0 y1)
  rw [after0_5, e0]
  refine e.trans ?_
  rw [zero_add]
  refine Eq.trans ?_ (sum_rows fun a => X m c (ix2 a y0) * G m c (ix2 a (col t y1)))
  refine Finset.sum_congr rfl fun s _ => Finset.sum_congr rfl fun a _ => ?_
  show X m c (ix2 (row _ a) y0) * G m c (ix2 (row _ a) (col _ y1)) = _
  rw [row_at, col_at]
/-- The gradient of the bias. -/
theorem final_db (c : Dev nD) : (dats m 0 c).arrAt 6 cfg0.N = dbV (X m c) (W m c) (B m c) (G m c) := by
  refine (dats m 0 c).arrAt_eq_of_covers 6 _ (by decide +kernel) fun t hf y => ?_
  idx_vars y
  obtain rfl : y0 = 0 := Subsingleton.elim _ _
  have e0 : (win0_6.blk t).view.emb (ix2 0 y1) = ix2 0 (col t y1) := by
    blk_ext [idx t]
  blk_simp
  have e := Pipeline.eq_sum_fin_of_reset_step_apply_of_flush (M := EReal) (fun n h => (outsAt0 m c n h).2.2) 8 (fun _ => (0 : EReal))
    (fun t i => ∑ a : Fin 1024, G m c (ix2 (row t a) (col t (i 1))))
    (fun t h i => by
      idx_vars i
      obtain rfl : i0 = 0 := Subsingleton.elim _ _
      rw [outsAt0_A m c t h (by omega) h (by omega)]
      frame_out
      refine (ker_db _ _).trans ?_
      simp only [tile_x, tile_g, zero_add])
    (fun t h i => by
      idx_vars i
      obtain rfl : i0 = 0 := Subsingleton.elim _ _
      rw [outsAt0_B m c t h (by omega) h (by omega)]
      frame_out
      pointwise [k0_pay6]
      refine congrArg _ ((ker_db _ _).trans ?_)
      simp only [tile_x, tile_g])
    t ((flush0_6 t).mp hf) (ix2 0 y1)
  rw [after0_6, e0]
  refine e.trans ?_
  rw [zero_add]
  refine Eq.trans ?_ (sum_rows fun a => G m c (ix2 a (col t y1)))
  refine Finset.sum_congr rfl fun s _ => Finset.sum_congr rfl fun a _ => ?_
  show G m c (ix2 (row _ a) (col _ y1)) = _
  rw [row_at, col_at]
theorem end_of (w : Fin cfg0.W) (c : Dev nD) : Pipeline.withArrays (cfgs 0).spec c (V0 m c) (fun w => (dats m 0 c).arrAt w (cfgs 0).N) (Proc.devRef .tc (Pipeline.arrRef spec0 w)) =
    (dats m 0 c).arrAt w cfg0.N := Pipeline.withArrays_arr _ launch0.win.arr_inj c _ _ w
/-- The kernel's run, its results named. -/
theorem ker_run (ρ : Dev nD → PrngReg) :
 θ_run defs (onTc (τ := τ) (main (F := Ideal))) ⟨m, fun _ => 0, ρ⟩ fun r => ∀ c : Dev nD,
      r.2.mem (c.tc.loc main_v5) = sumParts ((dats m 0 c).arrAt 4 cfg0.N)
 ∧ r.2.mem (c.tc.loc main_v3_1) = (dats m 0 c).arrAt 5 cfg0.N
 ∧ r.2.mem (c.tc.loc main_v3_2) = (dats m 0 c).arrAt 6 cfg0.N := by
  refine (θ_run defs _ _).mono (fun r h c => ?_) (run_main m ρ)
  have e := (h c).2
  refine ⟨(e main_v5 (by decide)).trans ?_, (h c).1 5, (h c).1 6⟩
  unfold Pipeline.afterTail₀
  refine (tail_5 _).trans (congrArg sumParts ?_)
  exact end_of m 4 c
/-- The gradient of the argument. -/
theorem final_du (c : Dev nD) : sumParts ((dats m 0 c).arrAt 4 cfg0.N) = duV (X m c) (W m c) (B m c) (G m c) := by
  funext i
  idx_vars i
  rw [sumParts_at, final_parts]
  exact (Fin.sum_univ_tiles 4 1024 rfl fun k : Fin 4096 => G m c (ix2 i0 k) * W m c (ix2 i1 k)).symm
end
/-- The kernel's gradients are the reference's. -/
theorem algebraic : Cert.algebraic_LinKernelIdeal_LinReferenceIdeal := by
  pair_intro
  · run_from ker_run m g & Cert.LinKernelIdeal.Gen.frame m g
  · run_from ref_run m' g'
    · exact (final_du m c).symm
    · exact (final_dw m c).symm
    · exact (final_db m c).symm
end Cert.Lin
-- ==== Proof.Linf.lean ====
module
public import proofs.«01_k».proof.Defs
public import proofs.«01_k».proof.Proof.Rows
public import proofs.«01_k».proof.Proof.Gen.LinfKernelIdeal.Value
public import proofs.«01_k».proof.Proof.Gen.LinfReferenceIdeal.Read
@[expose] public section
set_option maxRecDepth 16384
noncomputable section
open Idealize.ShloMosaic Idealize.ShloMosaic.TcCoe Idealize.SL.Sem
open Cert.Rows
/-! The plain product of the gates, `u w + b`. -/
namespace Cert.Linf
/-- The product as an array. -/
def outV (u : FVec Ideal ⟨2, ![8192, 1024]⟩ .f32) (w : FVec Ideal ⟨2, ![1024, 4096]⟩ .f32) (b : FVec Ideal ⟨1, ![4096]⟩ .f32) : FVec Ideal ⟨2, ![8192, 4096]⟩ .f32 :=
  fun i => (∑ j, u (ix2 (i 0) j) * w (ix2 j (i 1))) + b (ix1 (i 1))
section
open Cert.LinfReferenceIdeal Cert.LinfReferenceIdeal.Read
variable (x0 : FVec Ideal S8192x1024 .f32) (x1 : FVec Ideal S1024x4096 .f32) (x2 : FVec Ideal S4096 .f32)
theorem ref_out (a : Fin 8192) (k : Fin 4096) : val_main_v3 (F := Ideal) x0 x1 x2 (ix2 a k) = (∑ j, x0 (ix2 a j) * x1 (ix2 j k)) + x2 (ix1 k) := by
  pointwise [val_main_v3, val_main_v2, val_main_v1, val_main_v0]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v3) = outV (m (c.tc.loc main_arg0)) (m (c.tc.loc main_arg1)) (m (c.tc.loc main_arg2))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2) :=
  (θ_run defs _ _).mono (fun _ h c => by
    obtain ⟨h0, h1⟩ := h c
    refine ⟨(h0.trans (val_main_v3_eq ..)).trans (funext fun j => ?_), h1⟩
    · idx_vars j
      exact ref_out _ _ _ j0 j1) (Cert.LinfReferenceIdeal.Value.run m ρ)
end
section
open Cert.LinfKernelIdeal Cert.LinfKernelIdeal.Gen
variable (x0 x1 : FVec Ideal S1024x1024 .bf16) (x2 : FVec Ideal S1x1024 .f32)
/-- One entry of a tile. -/
theorem ker_out (a k : Fin 1024) : k0_pay1 (F := Ideal) x0 x1 x2 (ix2 a k) = (∑ j, (x0 (ix2 a j) : EReal) * x1 (ix2 j k)) + x2 (ix2 0 k) := by
  pointwise [k0_pay1]
variable (m : (ℓ : Loc nD τ sig) → Buf (Elt Ideal) ℓ)
/-- Where the windows stand at a grid point. -/
theorem idx : ∀ t : Fin cfg0.N, win0_0.index t = ![t.val / 4, 0] ∧ win0_1.index t = ![0, t.val % 4] ∧ win0_2.index t = ![0, t.val % 4] ∧ win0_3.index t = ![t.val / 4, t.val % 4] :=
  (by decide +kernel : ∀ t : Fin grid0.N, _)
/-- The rows, the weight and the bias. -/
abbrev X (c : Dev nD) : FVec Ideal S8192x1024 .f32 := m ((c : Thread nD τ).loc main_arg0)
abbrev W (c : Dev nD) : FVec Ideal S1024x4096 .f32 := m ((c : Thread nD τ).loc main_arg1)
abbrev B (c : Dev nD) : FVec Ideal S4096 .f32 := m ((c : Thread nD τ).loc main_arg2)
theorem ltN (t : Fin cfg0.N) : t.val < 32 := by have := t.isLt; have : cfg0.N = 32 := N_0; omega
/-- Row `a` of the row tile, and column `k` of the column tile, at grid point `t`. -/
abbrev row (t : Fin cfg0.N) (a : Fin 1024) : Fin 8192 := ⟨1024 * (t.val / 4) + a.val, by have := ltN t; omega⟩
abbrev col (t : Fin cfg0.N) (k : Fin 1024) : Fin 4096 := ⟨1024 * (t.val % 4) + k.val, by omega⟩
/-- The tiles of the arguments. -/
theorem tile_x (c : Dev nD) (t : Fin cfg0.N) (a k : Fin 1024) : iblk m c 0 t (ix2 a k) = X m c (ix2 (row t a) k) := by
  have e : ((View.whole main_v0).slice (win0_0.rect t)).emb (ix2 a k) = (ix2 (row t a) k : S8192x1024.Idx) := by
    blk_ext [idx t]
  blk_simp [iblk, V, idx t]
  entry_read
  refine (congrArg _ e).trans ?_
  pointwise
theorem tile_w (c : Dev nD) (t : Fin cfg0.N) (j k : Fin 1024) : iblk m c 1 t (ix2 j k) = W m c (ix2 j (col t k)) := by
  have e : ((View.whole main_v1).slice (win0_1.rect t)).emb (ix2 j k) = (ix2 j (col t k) : S1024x4096.Idx) := by
    blk_ext [idx t]
  blk_simp [iblk, V, idx t]
  entry_read
  refine (congrArg _ e).trans ?_
  pointwise
theorem tile_b (c : Dev nD) (t : Fin cfg0.N) (k : Fin 1024) : iblk m c 2 t (ix2 0 k) = B m c (ix1 (col t k)) := by
  have e : ((View.whole main_v2).slice (win0_2.rect t)).emb (ix2 0 k) = (ix2 0 (col t k) : S1x4096.Idx) := by
    blk_ext [idx t]
  blk_simp [iblk, V, idx t]
  entry_read
  refine (congrArg _ e).trans ?_
  pointwise
/-- The product. -/
theorem final_out (c : Dev nD) : (dats m 0 c).arrAt 3 cfg0.N = outV (X m c) (W m c) (B m c) := by
  refine (dats m 0 c).arrAt_eq_of_covers 3 _ (by decide +kernel) fun t hf y => ?_
  idx_vars y
  have e0 : (win0_3.blk t).view.emb (ix2 y0 y1) = ix2 (row t y0) (col t y1) := by
    blk_ext [idx t]
  blk_simp
  rw [after0_3, e0]
  unfold out0_3
  frame_out
  refine (ker_out _ _ _ y0 y1).trans ?_
  simp only [tile_x, tile_w, tile_b]
  rfl
end
/-- The kernel's product is the reference's. -/
theorem algebraic : Cert.algebraic_LinfKernelIdeal_LinfReferenceIdeal := by
  pair_intro
  · run_from Cert.LinfKernelIdeal.Value.run_blocks m g
  · run_from ref_run m' g'
    · exact (final_out m c).symm
end Cert.Linf
-- ==== Proof.Nlf.lean ====
module
public import proofs.«01_k».proof.Defs
public import proofs.«01_k».proof.Proof.Rows
public import proofs.«01_k».proof.Proof.Gen.NlfKernelIdeal.Frame
public import proofs.«01_k».proof.Proof.Gen.NlfReferenceIdeal.Read
@[expose] public section
set_option maxRecDepth 16384
noncomputable section
open Idealize.ShloMosaic Idealize.ShloMosaic.TcCoe Idealize.SL.Sem
open Cert.Rows
/-! The normalised rows, written beside the projection of them. -/
namespace Cert.Nlf
/-- The normalised rows as an array. -/
def outV (h : FVec Ideal ⟨2, ![8192, 1024]⟩ .f32) (g : FVec Ideal ⟨1, ![1024]⟩ .f32) (w : FVec Ideal ⟨2, ![1024, 5136]⟩ .f32) : FVec Ideal ⟨2, ![8192, 1024]⟩ .bf16 :=
  fun i => rms (fun j => h (ix2 (i 0) j)) (fun j => g (ix1 j)) (i 1)
/-- Their projection as an array. -/
def projV (h : FVec Ideal ⟨2, ![8192, 1024]⟩ .f32) (g : FVec Ideal ⟨1, ![1024]⟩ .f32) (w : FVec Ideal ⟨2, ![1024, 5136]⟩ .f32) : FVec Ideal ⟨2, ![8192, 5136]⟩ .f32 :=
  fun i => ∑ j : Fin 1024, rms (fun j => h (ix2 (i 0) j)) (fun j => g (ix1 j)) j * w (ix2 j (i 1))
section
open Cert.NlfReferenceIdeal Cert.NlfReferenceIdeal.Read
variable (x0 : FVec Ideal S8192x1024 .f32) (x1 : FVec Ideal S1024 .f32)
theorem ref_msq (a : Fin 8192) : val_main_v6 (F := Ideal) x0 (ix2 a 0) = msq (fun j => x0 (ix2 a j)) := by
  pointwise [val_main_v6, val_main_v4, val_main_v2, val_main_v1, val_main_v0, val_main_cst, val_main_v3, val_main_cst_0, val_main_v5, val_main_cst_1, msq]
theorem ref_row (a : Fin 8192) (k : Fin 1024) : val_main_v12 (F := Ideal) x0 x1 (ix2 a k) = rms (fun j => x0 (ix2 a j)) (fun j => x1 (ix1 j)) k := by
  pointwise [val_main_v12, val_main_v9, val_main_v8, val_main_v7, val_main_v11, val_main_v10, ref_msq, rms, rinv]
theorem ref_out (a : Fin 8192) (k : Fin 1024) : val_main_v14 (F := Ideal) x0 x1 (ix2 a k) = rms (fun j => x0 (ix2 a j)) (fun j => x1 (ix1 j)) k := by
  pointwise [val_main_v14, ref_row]
theorem ref_proj (x2 : FVec Ideal S1024x5136 .f32) (a : Fin 8192) (k : Fin 5136) : val_main_v13 (F := Ideal) x0 x1 x2 (ix2 a k) = ∑ j : Fin 1024, rms (fun j => x0 (ix2 a j)) (fun j => x1 (ix1 j)) j * x2 (ix2 j k) := by
  pointwise [val_main_v13, ref_row]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v13) = projV (m (c.tc.loc main_arg0)) (m (c.tc.loc main_arg1)) (m (c.tc.loc main_arg2))
 ∧ r.2.mem (c.tc.loc main_v14) = outV (m (c.tc.loc main_arg0)) (m (c.tc.loc main_arg1)) (m (c.tc.loc main_arg2))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2) :=
  (θ_run defs _ _).mono (fun _ h c => by
    obtain ⟨h0, h1, h2⟩ := h c
    refine ⟨(h0.trans (val_main_v13_eq ..)).trans (funext fun j => ?_), (h1.trans (val_main_v14_eq ..)).trans (funext fun j => ?_), h2⟩
    · idx_vars j
      exact ref_proj _ _ _ j0 j1
    · idx_vars j
      exact ref_out _ _ j0 j1) (Cert.NlfReferenceIdeal.Value.run m ρ)
end
section
open Cert.NlfKernelIdeal Cert.NlfKernelIdeal.Gen
section
variable (W : Valuation τ sig (Elt Ideal))
/-- What the host makes of the arguments: the gain as a row, the weight's columns in the kernel's order, a bias of zeros; and the columns put back. -/
def rowG (x : FVec Ideal S1024 .f32) : FVec Ideal S1x1024 .f32 := shapeCast S1x1024 x shapeCasts_S1024_S1x1024
def ordW (x : FVec Ideal S1024x5136 .f32) : FVec Ideal S1024x5376 .bf16 :=
  concatenate S1024x5376 1 [⟨S1024x2048, extractStridedSlice S1024x2048 ![0, 3080] (truncf .bf16 x bitsLt_bf16_f32) slices_S1024x5136_S1024x2048_0_3080⟩,
    ⟨S1024x2560, extractStridedSlice S1024x2560 ![0, 512] (truncf .bf16 x bitsLt_bf16_f32) slices_S1024x5136_S1024x2560_0_512⟩,
    ⟨S1024x512, extractStridedSlice S1024x512 ![0, 0] (truncf .bf16 x bitsLt_bf16_f32) slices_S1024x5136_S1024x512_0_0⟩,
    ⟨S1024x8, extractStridedSlice S1024x8 ![0, 3072] (truncf .bf16 x bitsLt_bf16_f32) slices_S1024x5136_S1024x8_0_3072⟩,
    ⟨S1024x8, extractStridedSlice S1024x8 ![0, 5128] (truncf .bf16 x bitsLt_bf16_f32) slices_S1024x5136_S1024x8_0_5128⟩,
    ⟨S1024x240, broadcastInDim S1024x240 ![] bcast_S_S1024x240 (constant (F := Ideal) S_ .bf16 0x0000#16)⟩]
    concatenates_S1024x2048_S1024x2560_S1024x512_S1024x8_S1024x8_S1024x240_S1024x5376_d1
def zeroB : FVec Ideal S1x5376 .f32 := broadcastInDim S1x5376 ![] bcast_S_S1x5376 (constant (F := Ideal) S_ .f32 0x00000000#32)
def backP (x : FVec Ideal S8192x5376 .f32) : FVec Ideal S8192x5136 .f32 :=
  concatenate S8192x5136 1 [⟨S8192x512, extractStridedSlice S8192x512 ![0, 4608] x slices_S8192x5376_S8192x512_0_4608⟩,
    ⟨S8192x2560, extractStridedSlice S8192x2560 ![0, 2048] x slices_S8192x5376_S8192x2560_0_2048⟩,
    ⟨S8192x8, extractStridedSlice S8192x8 ![0, 5120] x slices_S8192x5376_S8192x8_0_5120⟩,
    ⟨S8192x2048, extractStridedSlice S8192x2048 ![0, 0] x slices_S8192x5376_S8192x2048_0_0⟩,
    ⟨S8192x8, extractStridedSlice S8192x8 ![0, 5128] x slices_S8192x5376_S8192x8_0_5128⟩]
    concatenates_S8192x512_S8192x2560_S8192x8_S8192x2048_S8192x8_S8192x5136_d1
theorem head_0 : StableHlo.after hostOps0 W (Proc.devRef .tc main_v0) = rowG (W (Proc.devRef .tc main_arg1)) := by
  unfold hostOps0
  after_region_results
  rfl
theorem head_8 : StableHlo.after hostOps0 W (Proc.devRef .tc main_v8) = ordW (W (Proc.devRef .tc main_arg2)) := by
  unfold hostOps0
  after_region_results
  rfl
theorem head_9 : StableHlo.after hostOps0 W (Proc.devRef .tc main_v9) = zeroB := by
  unfold hostOps0
  after_region_results
  rfl
theorem tail_16 : StableHlo.after hostOps1 W (Proc.devRef .tc main_v16) = backP (W (Proc.devRef .tc main_v10_0)) := by
  unfold hostOps1
  after_region_results
  rfl
end
/-- The column at which the kernel keeps column `j` of the projection. -/
def pos (j : Fin 5136) : Fin 5376 :=
  ⟨if j.val < 512 then 4608 + j.val else if j.val < 3072 then j.val + 1536 else if j.val < 3080 then j.val + 2048 else if j.val < 5128 then j.val - 3080 else j.val, by
    split_ifs <;> omega⟩
theorem ordW_pos (x : FVec Ideal S1024x5136 .f32) (k : Fin 1024) (p : Fin 5376) (j : Fin 5136)
    (h : (p.val < 2048 ∧ j.val = p.val + 3080) ∨ (2048 ≤ p.val ∧ p.val < 4608 ∧ j.val + 1536 = p.val) ∨ (4608 ≤ p.val ∧ p.val < 5120 ∧ j.val + 4608 = p.val) ∨
      (5120 ≤ p.val ∧ p.val < 5128 ∧ j.val + 2048 = p.val) ∨ (5128 ≤ p.val ∧ p.val < 5136 ∧ j.val = p.val)) : ordW x (ix2 k p) = x (ix2 k j) := by
  unfold ordW
  pointwise
  split_ifs <;> first | (exfalso; omega) | (refine congrArg x (congrArg (ix2 k) (Fin.ext ?_)); dsimp only; omega)
theorem backP_pos (x : FVec Ideal S8192x5376 .f32) (a : Fin 8192) (p : Fin 5376) (j : Fin 5136)
    (h : (j.val < 512 ∧ p.val = 4608 + j.val) ∨ (512 ≤ j.val ∧ j.val < 3072 ∧ p.val = j.val + 1536) ∨ (3072 ≤ j.val ∧ j.val < 3080 ∧ p.val = j.val + 2048) ∨
      (3080 ≤ j.val ∧ j.val < 5128 ∧ p.val + 3080 = j.val) ∨ (5128 ≤ j.val ∧ p.val = j.val)) : backP x (ix2 a j) = x (ix2 a p) := by
  unfold backP
  pointwise
  split_ifs <;> first | (exfalso; omega) | (refine congrArg x (congrArg (ix2 a) (Fin.ext ?_)); dsimp only; omega)
theorem pos_val (j : Fin 5136) : (pos j).val = if j.val < 512 then 4608 + j.val else if j.val < 3072 then j.val + 1536 else if j.val < 3080 then j.val + 2048 else if j.val < 5128 then j.val - 3080 else j.val := rfl
/-- The weight's columns stand where they are put back from. -/
theorem ordW_at (x : FVec Ideal S1024x5136 .f32) (k : Fin 1024) (j : Fin 5136) : ordW x (ix2 k (pos j)) = x (ix2 k j) :=
  ordW_pos x k _ j (by
    have h := pos_val j
    split_ifs at h <;> omega)
theorem backP_at (x : FVec Ideal S8192x5376 .f32) (a : Fin 8192) (j : Fin 5136) : backP x (ix2 a j) = x (ix2 a (pos j)) :=
  backP_pos x a _ j (by
    have h := pos_val j
    split_ifs at h <;> omega)
theorem zeroB_at (j : Fin 5376) : zeroB (ix2 0 j) = 0 := by
  pointwise [zeroB]
variable (x0 : FVec Ideal S1024x1024 .f32) (x1 : FVec Ideal S1x1024 .f32)
/-- One entry of a tile. -/
theorem ker_out (a k : Fin 1024) : k0_pay3 (F := Ideal) x0 x1 (ix2 a k) = rms (fun j => x0 (ix2 a j)) (fun j => x1 (ix2 0 j)) k := by
  pointwise [k0_pay3, k0_pay1, rms, rinv, msq]
theorem ker_proj (x2 : FVec Ideal S1024x896 .bf16) (x3 : FVec Ideal S1x896 .f32) (a : Fin 1024) (k : Fin 896) : k0_pay2 (F := Ideal) x0 x1 x2 x3 (ix2 a k) =
    (∑ j : Fin 1024, rms (fun j => x0 (ix2 a j)) (fun j => x1 (ix2 0 j)) j * x2 (ix2 j k)) + x3 (ix2 0 k) := by
  pointwise [k0_pay2, k0_pay1, rms, rinv, msq]
variable (m : (ℓ : Loc nD τ sig) → Buf (Elt Ideal) ℓ)
/-- Where the windows stand at a grid point. -/
theorem idx : ∀ t : Fin cfg0.N, win0_0.index t = ![t.val / 6, 0] ∧ win0_1.index t = ![0, 0] ∧ win0_2.index t = ![0, t.val % 6] ∧ win0_3.index t = ![0, t.val % 6] ∧ win0_4.index t = ![t.val / 6, t.val % 6] ∧ win0_5.index t = ![t.val / 6, 0] :=
  (by decide +kernel : ∀ t : Fin grid0.N, _)
/-- The rows, the gain and the weight. -/
abbrev X (c : Dev nD) : FVec Ideal S8192x1024 .f32 := m ((c : Thread nD τ).loc main_arg0)
abbrev G (c : Dev nD) : FVec Ideal S1024 .f32 := m ((c : Thread nD τ).loc main_arg1)
abbrev W (c : Dev nD) : FVec Ideal S1024x5136 .f32 := m ((c : Thread nD τ).loc main_arg2)
theorem ltN (t : Fin cfg0.N) : t.val < 48 := by have := t.isLt; have : cfg0.N = 48 := N_0; omega
/-- Row `a` of the row tile at grid point `t`. -/
abbrev row (t : Fin cfg0.N) (a : Fin 1024) : Fin 8192 := ⟨1024 * (t.val / 6) + a.val, by have := ltN t; omega⟩
/-- Column `k` of the column tile at grid point `t`. -/
abbrev col (t : Fin cfg0.N) (k : Fin 896) : Fin 5376 := ⟨896 * (t.val % 6) + k.val, by omega⟩
/-- The tiles of the arguments. -/
theorem tile_x (c : Dev nD) (t : Fin cfg0.N) (a k : Fin 1024) : iblk m c 0 t (ix2 a k) = X m c (ix2 (row t a) k) := by
  blk_point [iblk, V, idx t]
theorem tile_g (c : Dev nD) (t : Fin cfg0.N) (k : Fin 1024) : iblk m c 1 t (ix2 0 k) = G m c (ix1 k) := by
  have e : ((View.whole main_v0).slice (win0_1.rect t)).emb (ix2 0 k) = (ix2 0 k : S1x1024.Idx) := by
    blk_ext [idx t]
  blk_simp [iblk, idx t]
  refine (congrFun (head_0 _) _).trans ((congrArg _ e).trans ?_)
  pointwise [rowG]
theorem tile_w (c : Dev nD) (t : Fin cfg0.N) (j : Fin 1024) (k : Fin 896) : iblk m c 2 t (ix2 j k) = ordW (W m c) (ix2 j (col t k)) := by
  have e : ((View.whole main_v8).slice (win0_2.rect t)).emb (ix2 j k) = (ix2 j (col t k) : S1024x5376.Idx) := by
    blk_ext [idx t]
  blk_simp [iblk, idx t]
  exact (congrFun (head_8 _) _).trans (congrArg _ e)
theorem tile_b (c : Dev nD) (t : Fin cfg0.N) (k : Fin 896) : iblk m c 3 t (ix2 0 k) = (0 : EReal) := by
  have e : ((View.whole main_v9).slice (win0_3.rect t)).emb (ix2 0 k) = (ix2 0 (col t k) : S1x5376.Idx) := by
    blk_ext [idx t]
  blk_simp [iblk, idx t]
  exact (congrFun (head_9 _) _).trans ((congrArg _ e).trans (zeroB_at _))
/-- The projection, its columns in the kernel's order. -/
def laidV (h : FVec Ideal S8192x1024 .f32) (g : FVec Ideal S1024 .f32) (w : FVec Ideal S1024x5376 .bf16) : FVec Ideal S8192x5376 .f32 :=
  fun i => ∑ j : Fin 1024, rms (fun j => h (ix2 (i 0) j)) (fun j => g (ix1 j)) j * w (ix2 j (i 1))
theorem final_laid (c : Dev nD) : (dats m 0 c).arrAt 4 cfg0.N = laidV (X m c) (G m c) (ordW (W m c)) := by
  refine (dats m 0 c).arrAt_eq_of_covers 4 _ (by decide +kernel) fun t hf y => ?_
  idx_vars y
  have e0 : (win0_4.blk t).view.emb (ix2 y0 y1) = ix2 (row t y0) (col t y1) := by
    blk_ext [idx t]
  blk_simp
  rw [after0_4, e0]
  unfold out0_4
  frame_out
  refine (ker_proj _ _ _ _ y0 y1).trans ?_
  simp only [tile_x, tile_g, tile_w, tile_b, add_zero]
  rfl
/-- The normalised rows. -/
theorem final_out (c : Dev nD) : (dats m 0 c).arrAt 5 cfg0.N = outV (X m c) (G m c) (W m c) := by
  refine (dats m 0 c).arrAt_eq_of_covers 5 _ (by decide +kernel) fun t hf y => ?_
  idx_vars y
  have e0 : (win0_5.blk t).view.emb (ix2 y0 y1) = ix2 (row t y0) y1 := by
    blk_ext [idx t]
  blk_simp
  rw [after0_5, e0]
  unfold out0_5
  frame_out
  refine (ker_out _ _ y0 y1).trans ?_
  simp only [tile_x, tile_g]
  rfl
theorem end_of (w : Fin cfg0.W) (c : Dev nD) : Pipeline.withArrays (cfgs 0).spec c (V0 m c) (fun w => (dats m 0 c).arrAt w (cfgs 0).N) (Proc.devRef .tc (Pipeline.arrRef spec0 w)) =
    (dats m 0 c).arrAt w cfg0.N := Pipeline.withArrays_arr _ launch0.win.arr_inj c _ _ w
/-- The kernel's run, its results named. -/
theorem ker_run (ρ : Dev nD → PrngReg) :
 θ_run defs (onTc (τ := τ) (main (F := Ideal))) ⟨m, fun _ => 0, ρ⟩ fun r => ∀ c : Dev nD,
      r.2.mem (c.tc.loc main_v16) = backP ((dats m 0 c).arrAt 4 cfg0.N)
 ∧ r.2.mem (c.tc.loc main_v10_1) = (dats m 0 c).arrAt 5 cfg0.N := by
  refine (θ_run defs _ _).mono (fun r h c => ?_) (run_main m ρ)
  have e := (h c).2
  refine ⟨(e main_v16 (by decide)).trans ?_, (h c).1 5⟩
  unfold Pipeline.afterTail₀
  refine (tail_16 _).trans (congrArg backP ?_)
  exact end_of m 4 c
/-- The projection. -/
theorem final_proj (c : Dev nD) : backP ((dats m 0 c).arrAt 4 cfg0.N) = projV (X m c) (G m c) (W m c) := by
  funext i
  idx_vars i
  rw [backP_at, final_laid]
  refine Finset.sum_congr rfl fun j _ => congrArg (rms _ _ j * ·) ?_
  exact ordW_at (W m c) j i1
end
/-- The kernel's projection and normalised rows are the reference's. -/
theorem algebraic : Cert.algebraic_NlfKernelIdeal_NlfReferenceIdeal := by
  pair_intro
  · run_from ker_run m g & Cert.NlfKernelIdeal.Gen.frame m g
  · run_from ref_run m' g'
    · exact (final_proj m c).symm
    · exact (final_out m c).symm
end Cert.Nlf
-- ==== Proof.S5Math.lean ====
module
public import proofs.«01_k».proof.Proof.Powers
@[expose] public section
noncomputable section
open ComplexConjugate
/-! A diagonal linear recurrence and its adjoint: sums over the whole past or future, over windows, and chunk by chunk. -/
namespace Cert.S5
/-- The state: everything driven in up to time `t`, decayed. -/
def hst (a : ℂ) (f : ℕ → ℂ) (t : ℕ) : ℂ := ∑ i ∈ Finset.range (t + 1), a ^ i * f (t - i)
/-- The part of the state driven in during the last `n` steps. -/
def win (a : ℂ) (f : ℕ → ℂ) (n t : ℕ) : ℂ := ∑ i ∈ Finset.range n, if i ≤ t then a ^ i * f (t - i) else 0
/-- The adjoint: everything asked for from time `t` up to `N`, decayed. -/
def mst (b : ℂ) (e : ℕ → ℂ) (N t : ℕ) : ℂ := ∑ i ∈ Finset.range (N - t), b ^ i * e (t + i)
/-- The part of the adjoint asked for during the next `n` steps. -/
def rwin (b : ℂ) (e : ℕ → ℂ) (N n t : ℕ) : ℂ := ∑ i ∈ Finset.range n, if t + i < N then b ^ i * e (t + i) else 0
theorem win_one (a : ℂ) (f : ℕ → ℂ) (t : ℕ) : win a f 1 t = f t := by simp [win]
/-- One doubling of the window. -/
theorem win_double (a : ℂ) (f : ℕ → ℂ) (n t : ℕ) :
    win a f n t + a ^ n * (if n ≤ t then win a f n (t - n) else 0) = win a f (n + n) t := by
  unfold win
  rw [Finset.sum_range_add]
  congr 1
  split_ifs with h
  · rw [Finset.mul_sum]
    refine Finset.sum_congr rfl fun i _ => ?_
    by_cases h' : i ≤ t - n
    · rw [if_pos h', if_pos (by omega), pow_add, show t - (n + i) = t - n - i by omega]; ring
    · rw [if_neg h', if_neg (by omega), mul_zero]
  · rw [mul_zero]
    exact (Finset.sum_eq_zero fun i _ => if_neg (by omega)).symm
theorem win_full (a : ℂ) (f : ℕ → ℂ) {n t : ℕ} (h : t < n) : win a f n t = hst a f t := by
  unfold win hst
  rw [← Finset.sum_filter]
  refine Finset.sum_congr ?_ fun _ _ => rfl
  ext i
  simp only [Finset.mem_filter, Finset.mem_range]
  omega
theorem rwin_one (b : ℂ) (e : ℕ → ℂ) {N t : ℕ} (h : t < N) : rwin b e N 1 t = e t := by simp [rwin, h]
/-- One doubling of the window ahead. -/
theorem rwin_double (b : ℂ) (e : ℕ → ℂ) (N n t : ℕ) :
    rwin b e N n t + b ^ n * (if t + n < N then rwin b e N n (t + n) else 0) = rwin b e N (n + n) t := by
  unfold rwin
  rw [Finset.sum_range_add]
  congr 1
  split_ifs with h
  · rw [Finset.mul_sum]
    refine Finset.sum_congr rfl fun i _ => ?_
    rw [show t + (n + i) = t + n + i by omega]
    by_cases h' : t + n + i < N
    · rw [if_pos h', if_pos h', pow_add]; ring
    · rw [if_neg h', if_neg h', mul_zero]
  · rw [mul_zero]
    exact (Finset.sum_eq_zero fun i _ => if_neg (by omega)).symm
theorem rwin_full (b : ℂ) (e : ℕ → ℂ) {N n t : ℕ} (h : N ≤ t + n) : rwin b e N n t = mst b e N t := by
  unfold rwin mst
  rw [← Finset.sum_filter]
  refine Finset.sum_congr ?_ fun _ _ => rfl
  ext i
  simp only [Finset.mem_filter, Finset.mem_range]
  omega
/-- The state as a sum over all times. -/
theorem hst_sum (a : ℂ) (f : ℕ → ℂ) {N t : ℕ} (ht : t < N) :
    ∑ s : Fin N, (if s.val ≤ t then a ^ (t - s.val) else 0) * f s.val = hst a f t := by
  rw [Fin.sum_univ_eq_sum_range (fun s => (if s ≤ t then a ^ (t - s) else 0) * f s) N]
  have e : ∑ s ∈ Finset.range N, (if s ≤ t then a ^ (t - s) else 0) * f s = ∑ s ∈ Finset.range (t + 1), a ^ (t - s) * f s := by
    symm
    rw [Finset.sum_subset (Finset.range_subset_range.mpr (show t + 1 ≤ N by omega)) (f := fun s => (if s ≤ t then a ^ (t - s) else 0) * f s) ?_ |>.symm]
    · refine Finset.sum_congr rfl fun s hs => ?_
      rw [if_pos (by have := Finset.mem_range.mp hs; omega)]
    · intro s _ hs
      rw [if_neg (by have := Finset.mem_range.not.mp hs; omega), zero_mul]
  rw [e, ← Finset.sum_range_reflect]
  refine Finset.sum_congr rfl fun i hi => ?_
  have := Finset.mem_range.mp hi
  rw [show t + 1 - 1 - i = t - i by omega, show t - (t - i) = i by omega]
/-- The adjoint as a sum over all times. -/
theorem mst_sum (b : ℂ) (e : ℕ → ℂ) {N s : ℕ} :
    ∑ t : Fin N, (if s ≤ t.val then b ^ (t.val - s) else 0) * e t.val = mst b e N s := by
  rw [Fin.sum_univ_eq_sum_range (fun t => (if s ≤ t then b ^ (t - s) else 0) * e t) N]
  unfold mst
  have h : ∑ i ∈ Finset.range (N - s), b ^ i * e (s + i) = ∑ i ∈ Finset.Ico s N, b ^ (i - s) * e i := by
    rw [Finset.sum_Ico_eq_sum_range]
    exact Finset.sum_congr rfl fun i _ => by rw [Nat.add_sub_cancel_left]
  rw [h]
  symm
  rw [Finset.sum_subset (show Finset.Ico s N ⊆ Finset.range N from fun i hi => by simp at hi ⊢; omega) (f := fun t => (if s ≤ t then b ^ (t - s) else 0) * e t) ?_ |>.symm]
  · refine Finset.sum_congr rfl fun t ht => ?_
    rw [if_pos (by simp at ht; omega)]
  · intro t h1 h2
    rw [if_neg (by simp at h1 h2; omega), zero_mul]
/-- The state inside a chunk that starts at `n`: what the chunk drove in, and the state before it. -/
theorem hst_split (a : ℂ) (f : ℕ → ℂ) (n r : ℕ) :
    hst a f (n + r) = hst a (fun i => f (n + i)) r + a ^ (r + 1) * (if n = 0 then 0 else hst a f (n - 1)) := by
  unfold hst
  rw [show n + r + 1 = (r + 1) + n by omega, Finset.sum_range_add]
  congr 1
  · refine Finset.sum_congr rfl fun i hi => ?_
    have := Finset.mem_range.mp hi
    rw [show n + r - i = n + (r - i) by omega]
  · split_ifs with h
    · subst h; simp
    · rw [Finset.mul_sum, show n - 1 + 1 = n by omega]
      refine Finset.sum_congr rfl fun i hi => ?_
      have := Finset.mem_range.mp hi
      rw [pow_add, show n + r - (r + 1 + i) = n - 1 - i by omega, mul_assoc]
/-- The adjoint inside a chunk of `L` steps that starts at `n`: what comes from behind the chunk is asked for at its last step. -/
theorem mst_split (b : ℂ) (e : ℕ → ℂ) (N L n r : ℕ) (hr : r < L) (hn : n + L ≤ N) :
    mst b (fun i => e (n + i) + if i = L - 1 then b * mst b e N (n + L) else 0) L r = mst b e N (n + r) := by
  unfold mst
  rw [show N - (n + r) = (L - r) + (N - (n + L)) by omega, Finset.sum_range_add]
  simp only [mul_add, Finset.sum_add_distrib]
  congr 1
  · exact Finset.sum_congr rfl fun i _ => by rw [Nat.add_assoc]
  · rw [Finset.sum_eq_single (L - 1 - r)]
    · rw [if_pos (by omega), Finset.mul_sum, Finset.mul_sum]
      refine Finset.sum_congr rfl fun i _ => ?_
      rw [show L - r + i = (L - 1 - r) + 1 + i by omega, pow_add, pow_add, show n + r + (L - 1 - r + 1 + i) = n + L + i by omega]
      ring
    · intro i _ hi
      rw [if_neg (by omega), mul_zero]
    · intro h
      exact absurd (Finset.mem_range.mpr (by omega)) h
/-- What a chunk asks of the state before it. -/
theorem carry_out (b : ℂ) (g : ℕ → ℂ) (L : ℕ) : ∑ r : Fin L, b ^ (r.val + 1) * g r.val = b * mst b g L 0 := by
  rw [Fin.sum_univ_eq_sum_range (fun r => b ^ (r + 1) * g r) L]
  unfold mst
  rw [Finset.mul_sum, Nat.sub_zero]
  exact Finset.sum_congr rfl fun i _ => by rw [Nat.zero_add, pow_succ]; ring
/-- A sum whose terms vanish outside one block is the sum over that block. -/
theorem sum_block {M : Type} [AddCommMonoid M] (m n : ℕ) (j : Fin m) (f : Fin (m * n) → M) (h : ∀ k, k.val / n ≠ j.val → f k = 0) :
    ∑ k, f k = ∑ c : Fin n, f ⟨n * j.val + c.val, by have := j.isLt; have := c.isLt; nlinarith⟩ := by
  have hn : ∀ c : Fin n, 0 < n := fun c => by have := c.isLt; omega
  rw [← Equiv.sum_comp finProdFinEquiv, Fintype.sum_prod_type, Finset.sum_eq_single j]
  · refine Finset.sum_congr rfl fun c _ => congrArg f (Fin.ext ?_)
    show c.val + n * j.val = n * j.val + c.val
    omega
  · intro i _ hi
    refine Finset.sum_eq_zero fun c _ => h _ ?_
    show (c.val + n * i.val) / n ≠ j.val
    rw [Nat.add_mul_div_left _ _ (hn c), Nat.div_eq_of_lt c.isLt]
    intro e
    exact hi (Fin.ext (by omega))
  · intro h; exact absurd (Finset.mem_univ _) h
/-- The real numbers a layer is given. -/
structure Data where
  /-- the input, -/
  u : Fin 8192 → Fin 512 → ℝ
  /-- the logarithm of the step, -/
  st : Fin 32 → ℝ
  /-- the rates of decay -/
  ar : Fin 32 → Fin 64 → ℝ
  /-- and turning, -/
  ai : Fin 32 → Fin 64 → ℝ
  /-- the factors of the input -/
  br : Fin 32 → Fin 64 → Fin 16 → ℝ
  /-- (their imaginary parts), -/
  bi : Fin 32 → Fin 64 → Fin 16 → ℝ
  /-- the factors of the output -/
  cr : Fin 32 → Fin 16 → Fin 64 → ℝ
  /-- (their imaginary parts), -/
  ci : Fin 32 → Fin 16 → Fin 64 → ℝ
  /-- and the cotangent of the output. -/
  gy : Fin 8192 → Fin 512 → ℝ
/-- Channel `c` of group `g`. -/
abbrev ch (g : Fin 32) (c : Fin 16) : Fin 512 := ⟨g.val * 16 + c.val, by omega⟩
/-- The group of a channel … -/
abbrev gOf (k : Fin 512) : Fin 32 := ⟨k.val / 16, by omega⟩
/-- … and its number in the group. -/
abbrev cOf (k : Fin 512) : Fin 16 := ⟨k.val % 16, by omega⟩
variable (D : Data)
/-- One step's factor of a state. -/
def Data.rate (g : Fin 32) (p : Fin 64) : ℂ :=
  ⟨Real.exp (D.ar g p * Real.exp (D.st g)) * Real.cos (D.ai g p * Real.exp (D.st g)),
    Real.exp (D.ar g p * Real.exp (D.st g)) * Real.sin (D.ai g p * Real.exp (D.st g))⟩
/-- What is driven into a state at time `t`. -/
def Data.drive (g : Fin 32) (p : Fin 64) (t : ℕ) : ℂ :=
  if h : t < 8192 then ⟨∑ c, D.u ⟨t, h⟩ (ch g c) * D.br g p c, ∑ c, D.u ⟨t, h⟩ (ch g c) * D.bi g p c⟩ else 0
/-- What the output asks of a state at time `t`. -/
def Data.ask (g : Fin 32) (p : Fin 64) (t : ℕ) : ℂ :=
  if h : t < 8192 then ⟨∑ c, D.gy ⟨t, h⟩ (ch g c) * D.cr g c p, ∑ c, -D.gy ⟨t, h⟩ (ch g c) * D.ci g c p⟩ else 0
/-- The states. -/
def Data.state (g : Fin 32) (p : Fin 64) (t : ℕ) : ℂ := hst (D.rate g p) (D.drive g p) t
/-- Their adjoints. -/
def Data.adj (g : Fin 32) (p : Fin 64) (t : ℕ) : ℂ := mst (conj (D.rate g p)) (D.ask g p) 8192 t
/-- The gradient of the factors of the input. -/
def Data.dB (g : Fin 32) (p : Fin 64) (c : Fin 16) : ℂ :=
  ⟨∑ t : Fin 8192, (D.adj g p t.val).re * D.u t (ch g c), ∑ t : Fin 8192, (D.adj g p t.val).im * D.u t (ch g c)⟩
/-- The gradient of the factors of the output. -/
def Data.dC (g : Fin 32) (c : Fin 16) (p : Fin 64) : ℂ :=
  ⟨∑ t : Fin 8192, D.gy t (ch g c) * (D.state g p t.val).re, ∑ t : Fin 8192, -D.gy t (ch g c) * (D.state g p t.val).im⟩
/-- The gradient of the factor of the direct path. -/
def Data.dD (g : Fin 32) (c : Fin 16) : ℝ := ∑ t : Fin 8192, D.gy t (ch g c) * D.u t (ch g c)
/-- What comes back to the input through the imaginary parts … -/
def Data.duI (t : Fin 8192) (g : Fin 32) (c : Fin 16) : ℝ := ∑ p : Fin 64, (D.adj g p t.val).im * D.bi g p c
/-- … and through the real parts. -/
def Data.duR (t : Fin 8192) (g : Fin 32) (c : Fin 16) : ℝ := ∑ p : Fin 64, (D.adj g p t.val).re * D.br g p c
end Cert.S5
-- ==== Proof.S5Ref.lean ====
module
public import proofs.«01_k».proof.Proof.S5Math
public import proofs.«01_k».proof.Proof.OpsMath
public import proofs.«01_k».proof.Proof.Gen.S5ReferenceIdeal.Read
@[expose] public section
set_option maxRecDepth 16384
noncomputable section
open Idealize.ShloMosaic Idealize.ShloMosaic.TcCoe Idealize.SL.Sem
open ComplexConjugate
/-! The recurrence's gradient as the reference writes it. -/
namespace Cert.S5
open Cert.S5ReferenceIdeal Cert.S5ReferenceIdeal.Read
variable (D : Data) (d : FVec Ideal S32x16 .f32)
/-- The arguments, as vectors. -/
def Data.x0 : FVec Ideal S8192x512 .f32 := fun i => (D.u (i 0) (i 1) : EReal)
def Data.x1 : FVec Ideal S32 .f32 := fun i => (D.st (i 0) : EReal)
def Data.x2 : FVec Ideal S32x64 .f32 := fun i => (D.ar (i 0) (i 1) : EReal)
def Data.x3 : FVec Ideal S32x64 .f32 := fun i => (D.ai (i 0) (i 1) : EReal)
def Data.x4 : FVec Ideal S32x64x16 .f32 := fun i => (D.br (i 0) (i 1) (i 2) : EReal)
def Data.x5 : FVec Ideal S32x64x16 .f32 := fun i => (D.bi (i 0) (i 1) (i 2) : EReal)
def Data.x6 : FVec Ideal S32x16x64 .f32 := fun i => (D.cr (i 0) (i 1) (i 2) : EReal)
def Data.x7 : FVec Ideal S32x16x64 .f32 := fun i => (D.ci (i 0) (i 1) (i 2) : EReal)
def Data.x9 : FVec Ideal S8192x512 .f32 := fun i => (D.gy (i 0) (i 1) : EReal)
/-- The weight of time `s` in the state at time `t`. -/
def Data.w (g : Fin 32) (p : Fin 64) (t s : Fin 8192) : ℂ := if s.val ≤ t.val then D.rate g p ^ (t.val - s.val) else 0
/-- How long ago a time is. -/
def lag (t s : Fin 8192) : EReal :=
  FloatOps.sitofp (F := Ideal) FTy.f32 (BitVec.ofNat 32 t.val) - FloatOps.sitofp (F := Ideal) FTy.f32 (BitVec.ofNat 32 s.val)
theorem lag_eq (t s : Fin 8192) : lag t s = (((t.val : ℝ) - (s.val : ℝ) : ℝ) : EReal) := by
  have h : ∀ t : Fin 8192, (BitVec.ofNat 32 t.val).toInt = t.val := fun t => by
    rw [BitVec.toInt_eq_toNat_of_lt (by rw [BitVec.toNat_ofNat]; omega), BitVec.toNat_ofNat]; omega
  show (((BitVec.ofNat 32 t.val).toInt : ℝ) : EReal) - (((BitVec.ofNat 32 s.val).toInt : ℝ) : EReal) = _
  rw [h, h, ← EReal.coe_sub]; rfl
theorem drive_re (t : Fin 8192) (g : Fin 32) (p : Fin 64) : (((D.drive g p t.val).re : ℝ) : EReal) = ∑ c, (D.u t (ch g c) : EReal) * (D.br g p c : EReal) := by
  rw [Data.drive, dif_pos t.isLt]; simp only [Ops.coe_sum', EReal.coe_mul]
theorem drive_im (t : Fin 8192) (g : Fin 32) (p : Fin 64) : (((D.drive g p t.val).im : ℝ) : EReal) = ∑ c, (D.u t (ch g c) : EReal) * (D.bi g p c : EReal) := by
  rw [Data.drive, dif_pos t.isLt]; simp only [Ops.coe_sum', EReal.coe_mul]
theorem ask_re (t : Fin 8192) (g : Fin 32) (p : Fin 64) : (((D.ask g p t.val).re : ℝ) : EReal) = ∑ c, (D.gy t (ch g c) : EReal) * (D.cr g c p : EReal) := by
  rw [Data.ask, dif_pos t.isLt]; simp only [Ops.coe_sum', EReal.coe_mul]
theorem ask_im (t : Fin 8192) (g : Fin 32) (p : Fin 64) : (((D.ask g p t.val).im : ℝ) : EReal) = ∑ c, -(D.gy t (ch g c) : EReal) * (D.ci g c p : EReal) := by
  rw [Data.ask, dif_pos t.isLt]; simp only [Ops.coe_sum', EReal.coe_mul, EReal.coe_neg]
/-- The weight in polar form. -/
theorem w_polar (g : Fin 32) (p : Fin 64) (t s : Fin 8192) (h : s.val ≤ t.val) :
    D.w g p t s = ⟨Real.exp (((t.val : ℝ) - s.val) * (D.ar g p * Real.exp (D.st g))) * Real.cos (((t.val : ℝ) - s.val) * (D.ai g p * Real.exp (D.st g))),
      Real.exp (((t.val : ℝ) - s.val) * (D.ar g p * Real.exp (D.st g))) * Real.sin (((t.val : ℝ) - s.val) * (D.ai g p * Real.exp (D.st g)))⟩ := by
  rw [Data.w, if_pos h, Data.rate, Powers.polar_pow, Nat.cast_sub h]
theorem state_sum (g : Fin 32) (p : Fin 64) (t : Fin 8192) : D.state g p t.val = ∑ s : Fin 8192, D.w g p t s * D.drive g p s.val :=
  (hst_sum (D.rate g p) (D.drive g p) t.isLt).symm
theorem adj_sum (g : Fin 32) (p : Fin 64) (s : Fin 8192) : D.adj g p s.val = ∑ t : Fin 8192, conj (D.w g p t s) * D.ask g p t.val := by
  refine (mst_sum (conj (D.rate g p)) (D.ask g p) (N := 8192) (s := s.val)).symm.trans (Finset.sum_congr rfl fun t _ => ?_)
  rw [Data.w]
  split_ifs
  · rw [map_pow]
  · rw [map_zero]
theorem re_sum {n : ℕ} (f : Fin n → ℂ) : (∑ i, f i).re = ∑ i, (f i).re := map_sum Complex.reLm f _
theorem im_sum {n : ℕ} (f : Fin n → ℂ) : (∑ i, f i).im = ∑ i, (f i).im := map_sum Complex.imLm f _
theorem state_re (g : Fin 32) (p : Fin 64) (t : Fin 8192) : (((D.state g p t.val).re : ℝ) : EReal) =
    (∑ s : Fin 8192, ((D.drive g p s.val).re : EReal) * ((D.w g p t s).re : EReal)) - ∑ s : Fin 8192, ((D.drive g p s.val).im : EReal) * ((D.w g p t s).im : EReal) := by
  simp only [← EReal.coe_mul, ← Ops.coe_sum', ← EReal.coe_sub]
  rw [state_sum, re_sum, ← Finset.sum_sub_distrib]
  exact congrArg _ (Finset.sum_congr rfl fun s _ => by rw [Complex.mul_re]; ring)
theorem state_im (g : Fin 32) (p : Fin 64) (t : Fin 8192) : (((D.state g p t.val).im : ℝ) : EReal) =
    (∑ s : Fin 8192, ((D.drive g p s.val).im : EReal) * ((D.w g p t s).re : EReal)) + ∑ s : Fin 8192, ((D.drive g p s.val).re : EReal) * ((D.w g p t s).im : EReal) := by
  simp only [← EReal.coe_mul, ← Ops.coe_sum', ← EReal.coe_add]
  rw [state_sum, im_sum, ← Finset.sum_add_distrib]
  exact congrArg _ (Finset.sum_congr rfl fun s _ => by rw [Complex.mul_im]; ring)
theorem adj_re (g : Fin 32) (p : Fin 64) (s : Fin 8192) : (((D.adj g p s.val).re : ℝ) : EReal) =
    (∑ t : Fin 8192, ((D.ask g p t.val).im : EReal) * ((D.w g p t s).im : EReal)) + ∑ t : Fin 8192, ((D.ask g p t.val).re : EReal) * ((D.w g p t s).re : EReal) := by
  simp only [← EReal.coe_mul, ← Ops.coe_sum', ← EReal.coe_add]
  rw [adj_sum, re_sum, ← Finset.sum_add_distrib]
  exact congrArg _ (Finset.sum_congr rfl fun s _ => by rw [Complex.mul_re, Complex.conj_re, Complex.conj_im]; ring)
theorem adj_im (g : Fin 32) (p : Fin 64) (s : Fin 8192) : (((D.adj g p s.val).im : ℝ) : EReal) =
    (∑ t : Fin 8192, ((D.ask g p t.val).im : EReal) * ((D.w g p t s).re : EReal)) + ∑ t : Fin 8192, -((D.ask g p t.val).re : EReal) * ((D.w g p t s).im : EReal) := by
  simp only [← EReal.coe_mul, ← Ops.coe_sum', ← EReal.coe_add, ← EReal.coe_neg]
  rw [adj_sum, im_sum, ← Finset.sum_add_distrib]
  exact congrArg _ (Finset.sum_congr rfl fun s _ => by rw [Complex.mul_im, Complex.conj_re, Complex.conj_im]; ring)
/-- The gradient of the input. -/
def Data.duV : FVec Ideal S8192x512 .f32 := fun i =>
  d (ix2 (gOf (i 1)) (cOf (i 1))) * (D.gy (i 0) (i 1) : EReal) + (D.duI (i 0) (gOf (i 1)) (cOf (i 1)) : EReal) + (D.duR (i 0) (gOf (i 1)) (cOf (i 1)) : EReal)
/-- The gradients of the factors. -/
def Data.dBreV : FVec Ideal S32x64x16 .f32 := fun i => ((D.dB (i 0) (i 1) (i 2)).re : EReal)
def Data.dBimV : FVec Ideal S32x64x16 .f32 := fun i => ((D.dB (i 0) (i 1) (i 2)).im : EReal)
def Data.dCreV : FVec Ideal S32x16x64 .f32 := fun i => ((D.dC (i 0) (i 1) (i 2)).re : EReal)
def Data.dCimV : FVec Ideal S32x16x64 .f32 := fun i => ((D.dC (i 0) (i 1) (i 2)).im : EReal)
def Data.dDV : FVec Ideal S32x16 .f32 := fun i => (D.dD (i 0) (i 1) : EReal)
theorem zero_bits : Ideal.ofBits .f32 0x00000000#32 = ((0 : ℝ) : EReal) := by
  simp [Ideal.ofBits, Ideal.ieee, -EReal.coe_mul]; try norm_num
/-- The weights as the reference writes them, real part … -/
theorem weight_re (g : Fin 32) (p : Fin 64) (t s : Fin 8192) :
    (if 0 ≤ lag t s then Ideal.exp (lag t s * ↑(D.ar g p * Real.exp (D.st g))) * Ideal.cos (lag t s * ↑(D.ai g p * Real.exp (D.st g))) else Ideal.ofBits .f32 0x00000000#32) =
      ((D.w g p t s).re : EReal) := by
  rw [lag_eq, zero_bits]
  have e : (0 : EReal) ≤ (((t.val : ℝ) - s.val : ℝ) : EReal) ↔ s.val ≤ t.val := by
    rw [EReal.coe_nonneg, sub_nonneg, Nat.cast_le]
  by_cases h : s.val ≤ t.val
  · rw [if_pos (e.mpr h), w_polar D g p t s h]
    simp only [← EReal.coe_mul, Ideal.exp_coe, Ideal.cos_coe]
  · rw [if_neg (fun h' => h (e.mp h')), Data.w, if_neg h]; rfl
/-- … and imaginary part. -/
theorem weight_im (g : Fin 32) (p : Fin 64) (t s : Fin 8192) :
    (if 0 ≤ lag t s then Ideal.exp (lag t s * ↑(D.ar g p * Real.exp (D.st g))) * Ideal.sin (lag t s * ↑(D.ai g p * Real.exp (D.st g))) else Ideal.ofBits .f32 0x00000000#32) =
      ((D.w g p t s).im : EReal) := by
  rw [lag_eq, zero_bits]
  have e : (0 : EReal) ≤ (((t.val : ℝ) - s.val : ℝ) : EReal) ↔ s.val ≤ t.val := by
    rw [EReal.coe_nonneg, sub_nonneg, Nat.cast_le]
  by_cases h : s.val ≤ t.val
  · rw [if_pos (e.mpr h), w_polar D g p t s h]
    simp only [← EReal.coe_mul, Ideal.exp_coe, Ideal.sin_coe]
  · rw [if_neg (fun h' => h (e.mp h')), Data.w, if_neg h]; rfl
/-! The stages of the reference. -/
theorem r0 (t : Fin 8192) (g : Fin 32) (c : Fin 16) : val_main_v0 (F := Ideal) D.x0 (ix3 t g c) = (D.u t (ch g c) : EReal) := by
  pointwise [val_main_v0, Data.x0]
theorem r63 (t : Fin 8192) (g : Fin 32) (c : Fin 16) : val_main_v63 (F := Ideal) D.x9 (ix3 t g c) = (D.gy t (ch g c) : EReal) := by
  pointwise [val_main_v63, Data.x9]
theorem r4 (t : Fin 8192) (g : Fin 32) (p : Fin 64) : val_main_v4 (F := Ideal) D.x0 D.x4 (ix3 t g p) = ((D.drive g p t.val).re : EReal) := by
  pointwise [val_main_v4, val_main_v3, r0, Data.x4]
  rw [drive_re]
  exact Finset.sum_congr rfl fun _ _ => mul_comm _ _
theorem r6 (t : Fin 8192) (g : Fin 32) (p : Fin 64) : val_main_v6 (F := Ideal) D.x0 D.x5 (ix3 t g p) = ((D.drive g p t.val).im : EReal) := by
  pointwise [val_main_v6, val_main_v5, r0, Data.x5]
  rw [drive_im]
  exact Finset.sum_congr rfl fun _ _ => mul_comm _ _
theorem r13 (t s : Fin 8192) : val_main_v13 (F := Ideal)  (ix4 t s 0 0) = lag t s := by
  pointwise [val_main_v13, val_main_v12, val_main_v10, val_main_v8, val_main_v7, val_main_v11, val_main_v9, lag]
theorem r15 (g : Fin 32) (p : Fin 64) : val_main_v15 (F := Ideal) D.x1 D.x2 (ix2 g p) = ((D.ar g p * Real.exp (D.st g) : ℝ) : EReal) := by
  pointwise [val_main_v15, val_main_v14, val_main_v2, val_main_v1, Data.x1, Data.x2]
  simp only [Ideal.exp_coe, ← EReal.coe_mul]
theorem r24 (g : Fin 32) (p : Fin 64) : val_main_v24 (F := Ideal) D.x1 D.x3 (ix2 g p) = ((D.ai g p * Real.exp (D.st g) : ℝ) : EReal) := by
  pointwise [val_main_v24, val_main_v23, val_main_v2, val_main_v1, Data.x1, Data.x3]
  simp only [Ideal.exp_coe, ← EReal.coe_mul]
theorem r35 (g : Fin 32) (p : Fin 64) : val_main_v35 (F := Ideal) D.x1 D.x3 (ix2 g p) = ((D.ai g p * Real.exp (D.st g) : ℝ) : EReal) := by
  pointwise [val_main_v35, val_main_v34, val_main_v2, val_main_v1, Data.x1, Data.x3]
  simp only [Ideal.exp_coe, ← EReal.coe_mul]
theorem r31 (t s : Fin 8192) (g : Fin 32) (p : Fin 64) : val_main_v31 (F := Ideal) D.x1 D.x2 D.x3 (ix4 t s g p) = ((D.w g p t s).re : EReal) := by
  pointwise [val_main_v31, val_main_call0_v1, val_main_v22, val_main_v21, val_main_cst, val_main_v30, val_main_v20, val_main_v19, val_main_v17, val_main_v18, val_main_v16, val_main_v29, val_main_v28, val_main_v26, val_main_v27, val_main_v25, val_main_call0_v2, val_main_call0_v0, val_main_cst_0, r13, r15, r24]
  exact weight_re D g p t s
theorem r42 (t s : Fin 8192) (g : Fin 32) (p : Fin 64) : val_main_v42 (F := Ideal) D.x1 D.x2 D.x3 (ix4 t s g p) = ((D.w g p t s).im : EReal) := by
  pointwise [val_main_v42, val_main_call1_v1, val_main_v33, val_main_v32, val_main_cst_1, val_main_v41, val_main_v20, val_main_v19, val_main_v17, val_main_v18, val_main_v16, val_main_v40, val_main_v39, val_main_v37, val_main_v38, val_main_v36, val_main_call1_v2, val_main_call1_v0, val_main_cst_2, r13, r15, r35]
  exact weight_im D g p t s
theorem r47 (t : Fin 8192) (g : Fin 32) (p : Fin 64) : val_main_v47 (F := Ideal) D.x0 D.x1 D.x2 D.x3 D.x4 D.x5 (ix3 t g p) = ((D.state g p t.val).re : EReal) := by
  pointwise [val_main_v47, val_main_v44, val_main_v43, val_main_v46, val_main_v45, r4, r31, r6, r42]
  exact (state_re D g p t).symm
theorem r52 (t : Fin 8192) (g : Fin 32) (p : Fin 64) : val_main_v52 (F := Ideal) D.x0 D.x1 D.x2 D.x3 D.x4 D.x5 (ix3 t g p) = ((D.state g p t.val).im : EReal) := by
  pointwise [val_main_v52, val_main_v49, val_main_v48, val_main_v51, val_main_v50, r6, r31, r4, r42]
  exact (state_im D g p t).symm
theorem r69 (g : Fin 32) (c : Fin 16) : val_main_v69 (F := Ideal) D.x0 D.x9 (ix2 g c) = ((D.dD g c : ℝ) : EReal) := by
  pointwise [val_main_v69, val_main_v68, val_main_v67, val_main_v66, val_main_cst_3, val_main_cst_4, r63, r0]
  rw [Data.dD, Ops.coe_sum']
  simp only [EReal.coe_mul, Fin.sum_univ_one]
theorem r73 (t : Fin 8192) (g : Fin 32) (p : Fin 64) : val_main_v73 (F := Ideal) D.x7 D.x9 (ix3 t g p) = ((D.ask g p t.val).im : EReal) := by
  pointwise [val_main_v73, val_main_v72, val_main_v71, val_main_v70, r63, Data.x7]
  rw [ask_im]
theorem r77 (t : Fin 8192) (g : Fin 32) (p : Fin 64) : val_main_v77 (F := Ideal) D.x6 D.x9 (ix3 t g p) = ((D.ask g p t.val).re : EReal) := by
  pointwise [val_main_v77, val_main_v76, val_main_v75, r63, Data.x6]
  rw [ask_re]
theorem r74 (g : Fin 32) (c : Fin 16) (p : Fin 64) : val_main_v74 (F := Ideal) D.x0 D.x1 D.x2 D.x3 D.x4 D.x5 D.x9 (ix3 g c p) = ((D.dC g c p).im : EReal) := by
  pointwise [val_main_v74, val_main_v71, val_main_v70, r63, r52]
  rw [Data.dC]
  simp only [Ops.coe_sum', EReal.coe_mul, EReal.coe_neg]
theorem r78 (g : Fin 32) (c : Fin 16) (p : Fin 64) : val_main_v78 (F := Ideal) D.x0 D.x1 D.x2 D.x3 D.x4 D.x5 D.x9 (ix3 g c p) = ((D.dC g c p).re : EReal) := by
  pointwise [val_main_v78, val_main_v75, r63, r47]
  rw [Data.dC]
  simp only [Ops.coe_sum', EReal.coe_mul, EReal.coe_neg]
theorem r89 (t : Fin 8192) (g : Fin 32) (p : Fin 64) : val_main_v89 (F := Ideal) D.x1 D.x2 D.x3 D.x6 D.x7 D.x9 (ix3 t g p) = ((D.adj g p t.val).im : EReal) := by
  pointwise [val_main_v89, val_main_v84, val_main_v83, val_main_v82, val_main_v88, val_main_v87, val_main_v86, val_main_v85, r73, r31, r77, r42]
  exact (adj_im D g p t).symm
theorem r93 (t : Fin 8192) (g : Fin 32) (p : Fin 64) : val_main_v93 (F := Ideal) D.x1 D.x2 D.x3 D.x6 D.x7 D.x9 (ix3 t g p) = ((D.adj g p t.val).re : EReal) := by
  pointwise [val_main_v93, val_main_v81, val_main_v80, val_main_v79, val_main_v92, val_main_v91, val_main_v90, r73, r42, r77, r31]
  exact (adj_re D g p t).symm
theorem r98 (g : Fin 32) (p : Fin 64) (c : Fin 16) : val_main_v98 (F := Ideal) D.x0 D.x1 D.x2 D.x3 D.x6 D.x7 D.x9 (ix3 g p c) = ((D.dB g p c).im : EReal) := by
  pointwise [val_main_v98, val_main_v94, r89, r0]
  rw [Data.dB]
  simp only [Ops.coe_sum', EReal.coe_mul, EReal.coe_neg]
theorem r103 (g : Fin 32) (p : Fin 64) (c : Fin 16) : val_main_v103 (F := Ideal) D.x0 D.x1 D.x2 D.x3 D.x6 D.x7 D.x9 (ix3 g p c) = ((D.dB g p c).re : EReal) := by
  pointwise [val_main_v103, val_main_v99, r93, r0]
  rw [Data.dB]
  simp only [Ops.coe_sum', EReal.coe_mul, EReal.coe_neg]
theorem r104 (t : Fin 8192) (k : Fin 512) : val_main_v104 (F := Ideal) D.x1 D.x2 D.x3 D.x4 D.x5 D.x6 D.x7 d D.x9 (ix2 t k) = D.duV d (ix2 t k) := by
  pointwise [val_main_v104, val_main_v102, val_main_v97, val_main_v65, val_main_v64, val_main_v58, val_main_v96, val_main_v95, val_main_v94, val_main_v101, val_main_v100, val_main_v99, r63, r89, r93, Data.duV, Data.x4, Data.x5]
  simp only [Data.duI, Data.duR, Ops.coe_sum', EReal.coe_mul]
  rw [show ch (gOf k) (cOf k) = k from Fin.ext (Nat.div_add_mod' k.val 16)]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v104) = val_main_v104 (F := Ideal) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
 ∧ r.2.mem (c.tc.loc main_v103) = val_main_v103 (F := Ideal) (m (c.tc.loc main_arg0)) (m (c.tc.loc main_arg1)) (m (c.tc.loc main_arg2)) (m (c.tc.loc main_arg3)) (m (c.tc.loc main_arg6)) (m (c.tc.loc main_arg7)) (m (c.tc.loc main_arg9))
 ∧ r.2.mem (c.tc.loc main_v98) = val_main_v98 (F := Ideal) (m (c.tc.loc main_arg0)) (m (c.tc.loc main_arg1)) (m (c.tc.loc main_arg2)) (m (c.tc.loc main_arg3)) (m (c.tc.loc main_arg6)) (m (c.tc.loc main_arg7)) (m (c.tc.loc main_arg9))
 ∧ r.2.mem (c.tc.loc main_v78) = val_main_v78 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg9))
 ∧ r.2.mem (c.tc.loc main_v74) = val_main_v74 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg9))
 ∧ r.2.mem (c.tc.loc main_v69) = val_main_v69 (F := Ideal) (m (c.tc.loc main_arg0)) (m (c.tc.loc main_arg9))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4)
 ∧ r.2.mem (c.tc.loc main_arg5) = m (c.tc.loc main_arg5)
 ∧ r.2.mem (c.tc.loc main_arg6) = m (c.tc.loc main_arg6)
 ∧ r.2.mem (c.tc.loc main_arg7) = m (c.tc.loc main_arg7)
 ∧ r.2.mem (c.tc.loc main_arg8) = m (c.tc.loc main_arg8)
 ∧ r.2.mem (c.tc.loc main_arg9) = m (c.tc.loc main_arg9) :=
  (θ_run defs _ _).mono (fun _ h c => by
    obtain ⟨h0, h1, h2, h3, h4, h5, h6⟩ := h c
    exact ⟨h0.trans (val_main_v104_eq ..), h1.trans (val_main_v103_eq ..), h2.trans (val_main_v98_eq ..), h3.trans (val_main_v78_eq ..), h4.trans (val_main_v74_eq ..), h5.trans (val_main_v69_eq ..), h6⟩) (Cert.S5ReferenceIdeal.Value.run m ρ)
end Cert.S5
-- ==== Proof.S5Host.lean ====
module
public import Idealize.ShloMosaic.Lib.StableHlo.RunRead
public import proofs.«01_k».proof.Proof.S5Ref
public import proofs.«01_k».proof.Proof.Gen.S5KernelIdeal.Launch
@[expose] public section
set_option maxRecDepth 16384
noncomputable section
open Idealize.ShloMosaic Idealize.ShloMosaic.TcCoe Idealize.SL.Sem
open ComplexConjugate
/-! What the host hands to the kernel: the rates and their powers, the factors packed by eights, and the state before every chunk. -/
namespace Cert.S5
open Cert.S5KernelIdeal Cert.S5KernelIdeal.Gen
/-- The group of a lane of block `q` … -/
abbrev gl (q : Fin 4) (l : Fin 512) : Fin 32 := ⟨q.val * 8 + l.val / 64, by omega⟩
/-- … and the state's number in the group. -/
abbrev pl (l : Fin 512) : Fin 64 := ⟨l.val % 64, by omega⟩
/-- The group of a channel of block `q`. -/
abbrev gk (q : Fin 4) (k : Fin 128) : Fin 32 := ⟨q.val * 8 + k.val / 16, by omega⟩
/-- The part of a complex number by its number. -/
def pr (j : Fin 2) (z : ℂ) : ℝ := if j.val = 0 then z.re else z.im
theorem pr_zero (j : Fin 2) : pr j 0 = 0 := by unfold pr; split <;> rfl
theorem pr_add (j : Fin 2) (x y : ℂ) : pr j (x + y) = pr j x + pr j y := by unfold pr; split <;> simp
/-- Numbers for every block, state and step, as the host lays them out. -/
def lay (N : ℕ) (X : Fin 4 → Fin 512 → ℕ → ℂ) : FVec Ideal ⟨4, ![4, N, 512, 2]⟩ .f32 := fun i => (pr (i 3) (X (i 0) (i 2) (i 1).val) : EReal)
/-- Multiplication by a number for every block and state, as a matrix. -/
def rot (a : Fin 4 → Fin 512 → ℂ) : FVec Ideal S4x512x2x2 .f32 := fun i => (pr (i 3) (a (i 0) (i 1) * if (i 2).val = 0 then 1 else Complex.I) : EReal)
/-- A shift by `k` steps. -/
def dl (k : ℕ) (X : Fin 4 → Fin 512 → ℕ → ℂ) : Fin 4 → Fin 512 → ℕ → ℂ := fun q l t => if k ≤ t then X q l (t - k) else 0
theorem dl_pos {k t : ℕ} (h : k ≤ t) (X : Fin 4 → Fin 512 → ℕ → ℂ) (q : Fin 4) (l : Fin 512) : dl k X q l t = X q l (t - k) := if_pos h
theorem dl_neg {k t : ℕ} (h : ¬ k ≤ t) (X : Fin 4 → Fin 512 → ℕ → ℂ) (q : Fin 4) (l : Fin 512) : dl k X q l t = 0 := if_neg h
theorem shift_lay {N m k : ℕ} (e : m + k = N) (X : Fin 4 → Fin 512 → ℕ → ℂ)
    (h : (⟨4, ![4, N, 512, 2]⟩ : Shape).Slices ![0, 0, 0, 0] ⟨4, ![4, m, 512, 2]⟩)
    (h' : (⟨4, ![4, m, 512, 2]⟩ : Shape).Pads ![0, k, 0, 0] ![0, 0, 0, 0] ![0, 0, 0, 0] ⟨4, ![4, N, 512, 2]⟩) (hu : 0 < S_.numel) :
    pad ⟨4, ![4, N, 512, 2]⟩ ![0, k, 0, 0] ![0, 0, 0, 0] ![0, 0, 0, 0] (extractStridedSlice ⟨4, ![4, m, 512, 2]⟩ ![0, 0, 0, 0] (lay N X) h) (constant (F := Ideal) S_ .f32 0x00000000#32) h' hu = lay N (dl k X) := by
  funext i
  by_cases hk : k ≤ (i 1).val
  · have hi : (i 1).val < N := (i 1).isLt
    refine (pad_apply_of_inside _ _ _ _ _ h' hu i (ix4 (i 0) ⟨(i 1).val - k, by omega⟩ (i 2) (i 3)) fun a => ?_).trans
      ((extractStridedSlice_apply _ _ _ _ (ix4 (i 0) ⟨(i 1).val - k, by omega⟩ (i 2) (i 3)) fun a => ?_).trans ?_)
    · fin_cases a
      · show (i 0).val = 0 + (i 0).val * 1; omega
      · show (i 1).val = k + ((i 1).val - k) * 1; omega
      · show (i 2).val = 0 + (i 2).val * 1; omega
      · show (i 3).val = 0 + (i 3).val * 1; omega
    · fin_cases a
      · show (i 0).val = 0 + (i 0).val; omega
      · show (i 1).val - k = 0 + ((i 1).val - k); omega
      · show (i 2).val = 0 + (i 2).val; omega
      · show (i 3).val = 0 + (i 3).val; omega
    · show ((pr (i 3) (X (i 0) (i 2) ((i 1).val - k)) : ℝ) : EReal) = ((pr (i 3) (dl k X (i 0) (i 2) (i 1).val) : ℝ) : EReal)
      exact congrArg (fun z => ((pr (i 3) z : ℝ) : EReal)) (dl_pos hk X (i 0) (i 2)).symm
  · refine (pad_apply_of_not_inside _ _ _ _ _ h' hu i 1 (fun hh => hk hh.1)).trans ?_
    show Ideal.ofBits .f32 0x00000000#32 = ((pr (i 3) (dl k X (i 0) (i 2) (i 1).val) : ℝ) : EReal)
    exact zero_bits.trans ((congrArg (fun z : ℝ => (z : EReal)) (pr_zero (i 3)).symm).trans (congrArg (fun z => ((pr (i 3) z : ℝ) : EReal)) (dl_neg hk X (i 0) (i 2)).symm))
theorem add_lay {N : ℕ} (X Y : Fin 4 → Fin 512 → ℕ → ℂ) : addf (lay N X) (lay N Y) = lay N fun q l t => X q l t + Y q l t := by
  funext i
  exact (EReal.coe_add _ _).symm.trans (congrArg _ (pr_add (i 3) (X (i 0) (i 2) (i 1).val) (Y (i 0) (i 2) (i 1).val)).symm)
theorem rot_row (a z : ℂ) (j : Fin 2) : ∑ i : Fin 2, pr j (a * if i.val = 0 then 1 else Complex.I) * pr i z = pr j (a * z) := by
  rw [Fin.sum_univ_two]
  fin_cases j <;> simp [pr] <;> ring
theorem turn_256 (a : Fin 4 → Fin 512 → ℂ) (Y : Fin 4 → Fin 512 → ℕ → ℂ) :
    transpose S4x256x512x2 [0, 3, 1, 2] (Host.dotGeneral dot_S4x512x2x2_S4x256x512x2_S4x512x2x256_2_3_3_1_01_02 none (rot a) (lay 256 Y) : FVec Ideal S4x512x2x256 .f32) transposes_S4x512x2x256_S4x256x512x2_0_3_1_2 = lay 256 fun q l t => a q l * Y q l t := by
  funext i
  idx_vars i
  pointwise [rot, lay]
  simp only [← EReal.coe_mul]
  rw [← Ops.coe_sum', ← rot_row]
  rfl
theorem turn_8192 (a : Fin 4 → Fin 512 → ℂ) (Y : Fin 4 → Fin 512 → ℕ → ℂ) :
    transpose S4x8192x512x2 [0, 3, 1, 2] (Host.dotGeneral dot_S4x512x2x2_S4x8192x512x2_S4x512x2x8192_2_3_3_1_01_02 none (rot a) (lay 8192 Y) : FVec Ideal S4x512x2x8192 .f32) transposes_S4x512x2x8192_S4x8192x512x2_0_3_1_2 = lay 8192 fun q l t => a q l * Y q l t := by
  funext i
  idx_vars i
  pointwise [rot, lay]
  simp only [← EReal.coe_mul]
  rw [← Ops.coe_sum', ← rot_row]
  rfl
theorem turn_turn (a : Fin 4 → Fin 512 → ℂ) :
    (Host.dotGeneral dot_S4x512x2x2_S4x512x2x2_S4x512x2x2_3_2_2_3_01_01 none (rot a) (rot a) : FVec Ideal S4x512x2x2 .f32) = rot fun q l => a q l * a q l := by
  funext i
  idx_vars i
  pointwise [rot]
  simp only [← EReal.coe_mul]
  rw [← Ops.coe_sum', mul_assoc, ← rot_row]
  exact congrArg _ (Finset.sum_congr rfl fun k _ => mul_comm _ _)
/-- Whether two numbers of groups agree, as the host writes it. -/
theorem same_group (a b : ℕ) (ha : a < 8) (hb : b < 8) :
    FloatOps.uitofp (F := Ideal) FTy.f32 (IntOp.cmpi .eq (IntOp.addi (BitVec.ofNat 32 a) 0#32) (BitVec.ofNat 32 b)) = (((if a = b then 1 else 0 : ℝ)) : EReal) := by
  have h : ∀ a b : Fin 8, (IntOp.cmpi .eq (IntOp.addi (BitVec.ofNat 32 a.val) 0#32) (BitVec.ofNat 32 b.val)).toNat = if a.val = b.val then 1 else 0 := by decide
  show ((((IntOp.cmpi .eq (IntOp.addi (BitVec.ofNat 32 a) 0#32) (BitVec.ofNat 32 b)).toNat : ℝ)) : EReal) = _
  rw [h ⟨a, ha⟩ ⟨b, hb⟩]
  split_ifs <;> simp
theorem times_mask (a b : ℕ) (ha : a < 8) (hb : b < 8) (x : ℝ) :
    (x : EReal) * FloatOps.uitofp (F := Ideal) FTy.f32 (IntOp.cmpi .eq (IntOp.addi (BitVec.ofNat 32 a) 0#32) (BitVec.ofNat 32 b)) = ((if a = b then x else 0 : ℝ) : EReal) := by
  rw [same_group a b ha hb]; split_ifs <;> simp
theorem cat_congr {s t : Shape} {k : Fin t.rank} {a a' b b' : FVec Ideal s .f32} (ha : a = a') (hb : b = b') (h) :
    concatenate t k [⟨s, a⟩, ⟨s, b⟩] h = concatenate t k [⟨s, a'⟩, ⟨s, b'⟩] h := by subst ha hb; rfl
variable (D : Data) (d : FVec Ideal S32x16 .f32)
/-- The factors of a block: channel `k` acts on lane `l` only where both are of one group. -/
def Data.brk (q : Fin 4) (k : Fin 128) (l : Fin 512) : ℝ := if k.val / 16 = l.val / 64 then D.br (gk q k) (pl l) ⟨k.val % 16, by omega⟩ else 0
def Data.bik (q : Fin 4) (k : Fin 128) (l : Fin 512) : ℝ := if k.val / 16 = l.val / 64 then D.bi (gk q k) (pl l) ⟨k.val % 16, by omega⟩ else 0
def Data.crk (q : Fin 4) (l : Fin 512) (k : Fin 128) : ℝ := if l.val / 64 = k.val / 16 then D.cr (gl q l) ⟨k.val % 16, by omega⟩ (pl l) else 0
def Data.cik (q : Fin 4) (l : Fin 512) (k : Fin 128) : ℝ := if l.val / 64 = k.val / 16 then D.ci (gl q l) ⟨k.val % 16, by omega⟩ (pl l) else 0
/-- The rate of a lane. -/
def Data.ra (q : Fin 4) (l : Fin 512) : ℂ := D.rate (gl q l) (pl l)
/-- A valuation whose arguments are the data. -/
structure Holds (W : Valuation τ sig (Elt Ideal)) : Prop where
  x0 : W (Proc.devRef .tc main_arg0) = D.x0
  x1 : W (Proc.devRef .tc main_arg1) = D.x1
  x2 : W (Proc.devRef .tc main_arg2) = D.x2
  x3 : W (Proc.devRef .tc main_arg3) = D.x3
  x4 : W (Proc.devRef .tc main_arg4) = D.x4
  x5 : W (Proc.devRef .tc main_arg5) = D.x5
  x6 : W (Proc.devRef .tc main_arg6) = D.x6
  x7 : W (Proc.devRef .tc main_arg7) = D.x7
  x8 : W (Proc.devRef .tc main_arg8) = d
  x9 : W (Proc.devRef .tc main_arg9) = D.x9
variable {D d} {W : Valuation τ sig (Elt Ideal)} (H : Holds D d W)
include H
theorem head_14 : StableHlo.after hostOps0 W (Proc.devRef .tc main_v14) = (fun i => ((D.brk (i 0) (i 1) (i 2) : ℝ) : EReal) : FVec Ideal S4x128x512 .f32) := by
  after_reads_simp
  rw [H.x4]
  funext i
  idx_vars i
  pointwise [Data.x4, Data.brk]
  exact times_mask (i1.val / 16) (i2.val / 64) (by omega) (by omega) _
theorem head_29 : StableHlo.after hostOps0 W (Proc.devRef .tc main_v29) = (fun i => ((D.bik (i 0) (i 1) (i 2) : ℝ) : EReal) : FVec Ideal S4x128x512 .f32) := by
  after_reads_simp
  rw [H.x5]
  funext i
  idx_vars i
  pointwise [Data.x5, Data.bik]
  exact times_mask (i1.val / 16) (i2.val / 64) (by omega) (by omega) _
theorem head_44 : StableHlo.after hostOps0 W (Proc.devRef .tc main_v44) = (fun i => ((D.crk (i 0) (i 1) (i 2) : ℝ) : EReal) : FVec Ideal S4x512x128 .f32) := by
  after_reads_simp
  rw [H.x6]
  funext i
  idx_vars i
  pointwise [Data.x6, Data.crk]
  exact times_mask (i1.val / 64) (i2.val / 16) (by omega) (by omega) _
theorem head_59 : StableHlo.after hostOps0 W (Proc.devRef .tc main_v59) = (fun i => ((D.cik (i 0) (i 1) (i 2) : ℝ) : EReal) : FVec Ideal S4x512x128 .f32) := by
  after_reads_simp
  rw [H.x7]
  funext i
  idx_vars i
  pointwise [Data.x7, Data.cik]
  exact times_mask (i1.val / 64) (i2.val / 16) (by omega) (by omega) _
theorem head_71 : StableHlo.after hostOps0 W (Proc.devRef .tc main_v71) = (fun i => ((D.ra (i 0) (i 2)).re : EReal) : FVec Ideal S4x1x512 .f32) := by
  after_reads_simp
  rw [H.x1, H.x2, H.x3]
  funext i
  idx_vars i
  pointwise [Data.x1, Data.x2, Data.x3, Data.ra, Data.rate]
  simp only [← EReal.coe_mul, Ideal.exp_coe, Ideal.cos_coe, Ideal.sin_coe]
theorem head_75 : StableHlo.after hostOps0 W (Proc.devRef .tc main_v75) = (fun i => ((D.ra (i 0) (i 2)).im : EReal) : FVec Ideal S4x1x512 .f32) := by
  after_reads_simp
  rw [H.x1, H.x2, H.x3]
  funext i
  idx_vars i
  pointwise [Data.x1, Data.x2, Data.x3, Data.ra, Data.rate]
  simp only [← EReal.coe_mul, Ideal.exp_coe, Ideal.cos_coe, Ideal.sin_coe]
theorem head_60 : StableHlo.after hostOps0 W (Proc.devRef .tc main_v60) = (fun i => d (ix2 (gOf (i 1)) (cOf (i 1))) : FVec Ideal S1x512 .f32) := by
  after_reads_simp
  rw [H.x8]
  funext i
  idx_vars i
  pointwise
  done
theorem read_76 : StableHlo.upto hostOps0 W 82 (Proc.devRef .tc main_v76) = (fun i => (((D.ra (i 0) (i 2)).re) : EReal) : FVec Ideal S4x1x512x1 .f32) := by
  after_reads_simp
  rw [H.x1, H.x2, H.x3]
  funext i
  idx_vars i
  pointwise [Data.x1, Data.x2, Data.x3, Data.ra, Data.rate]
  simp only [← EReal.coe_mul, Ideal.exp_coe, Ideal.cos_coe, Ideal.sin_coe]
theorem read_77 : StableHlo.upto hostOps0 W 82 (Proc.devRef .tc main_v77) = (fun i => (((D.ra (i 0) (i 2)).im) : EReal) : FVec Ideal S4x1x512x1 .f32) := by
  after_reads_simp
  rw [H.x1, H.x2, H.x3]
  funext i
  idx_vars i
  pointwise [Data.x1, Data.x2, Data.x3, Data.ra, Data.rate]
  simp only [← EReal.coe_mul, Ideal.exp_coe, Ideal.cos_coe, Ideal.sin_coe]
theorem head_78 : StableHlo.after hostOps0 W (Proc.devRef .tc main_v78) = (fun i => ((pr (i 3) (D.ra (i 0) (i 2)) : ℝ) : EReal) : FVec Ideal S4x1x512x2 .f32) := by
  after_reads_simp
  rw [cat_congr (s := S4x1x512x1) (read_76 H) (read_77 H) _]
  funext i
  idx_vars i
  pointwise [pr]
  fin_cases i3 <;> simp
theorem read_86 : StableHlo.upto hostOps0 W 92 (Proc.devRef .tc main_v86) = (fun i => ((pr (i 3) (D.ra (i 0) (i 1)) : ℝ) : EReal) : FVec Ideal S4x512x1x2 .f32) := by
  after_reads_simp
  rw [cat_congr (s := S4x1x512x1) (read_76 H) (read_77 H) _]
  funext i
  idx_vars i
  pointwise [pr]
  fin_cases i3 <;> simp
theorem read_83 : StableHlo.upto hostOps0 W 89 (Proc.devRef .tc main_v83) = (fun i => ((((-(D.ra (i 0) (i 1)).im : ℝ) : EReal)) : EReal) : FVec Ideal S4x512x1 .f32) := by
  after_reads_simp
  rw [H.x1, H.x2, H.x3]
  funext i
  idx_vars i
  pointwise [Data.x1, Data.x2, Data.x3, Data.ra, Data.rate]
  simp only [← EReal.coe_mul, ← EReal.coe_neg, Ideal.exp_coe, Ideal.cos_coe, Ideal.sin_coe]
theorem read_84 : StableHlo.upto hostOps0 W 89 (Proc.devRef .tc main_v84) = (fun i => (((D.ra (i 0) (i 1)).re) : EReal) : FVec Ideal S4x512x1 .f32) := by
  after_reads_simp
  rw [H.x1, H.x2, H.x3]
  funext i
  idx_vars i
  pointwise [Data.x1, Data.x2, Data.x3, Data.ra, Data.rate]
  simp only [← EReal.coe_mul, ← EReal.coe_neg, Ideal.exp_coe, Ideal.cos_coe, Ideal.sin_coe]
theorem read_87 : StableHlo.upto hostOps0 W 92 (Proc.devRef .tc main_v87) = (fun i => ((pr (i 3) (D.ra (i 0) (i 1) * Complex.I) : ℝ) : EReal) : FVec Ideal S4x512x1x2 .f32) := by
  after_reads_simp
  rw [cat_congr (s := S4x512x1) (read_83 H) (read_84 H) _]
  funext i
  idx_vars i
  pointwise [pr]
  fin_cases i3 <;> simp
theorem head_88 : StableHlo.after hostOps0 W (Proc.devRef .tc main_v88) = rot D.ra := by
  after_reads_simp
  rw [cat_congr (s := S4x512x1x2) (read_86 H) (read_87 H) _]
  funext i
  idx_vars i
  pointwise [rot]
  fin_cases i2 <;> simp
end Cert.S5
-- ==== Proof.S5Chain.lean ====
module
public import proofs.«01_k».proof.Proof.S5Host
@[expose] public section
set_option maxRecDepth 16384
noncomputable section
open Idealize.ShloMosaic Idealize.ShloMosaic.TcCoe Idealize.SL.Sem
open ComplexConjugate
/-! What the host hands to the kernel, continued: the powers of the rates and the states, each by doubling. -/
namespace Cert.S5
open Cert.S5KernelIdeal Cert.S5KernelIdeal.Gen
/-- A window's sum for every block and state. -/
def wn (a : Fin 4 → Fin 512 → ℂ) (f : Fin 4 → Fin 512 → ℕ → ℂ) (n : ℕ) : Fin 4 → Fin 512 → ℕ → ℂ := fun q l t => win (a q l) (f q l) n t
/-- A power of every rate. -/
def pn (a : Fin 4 → Fin 512 → ℂ) (n : ℕ) : Fin 4 → Fin 512 → ℂ := fun q l => a q l ^ n
variable (a : Fin 4 → Fin 512 → ℂ) (f : Fin 4 → Fin 512 → ℕ → ℂ)
theorem wn_one : wn a f 1 = f := by funext q l t; exact win_one _ _ _
theorem pn_one : pn a 1 = a := by funext q l; exact pow_one _
theorem wn_step {n m : ℕ} (e : n + n = m) : (fun q l t => wn a f n q l t + pn a n q l * dl n (wn a f n) q l t) = wn a f m := by
  subst e; funext q l t; exact win_double (a q l) (f q l) n t
theorem pn_step {n m : ℕ} (e : n + n = m) : (fun q l => pn a n q l * pn a n q l) = pn a m := by
  subst e; funext q l; exact (pow_add _ _ _).symm
theorem level_256 {n m k : ℕ} (e : n + n = m) (e' : k + n = 256)
    (h : (⟨4, ![4, 256, 512, 2]⟩ : Shape).Slices ![0, 0, 0, 0] ⟨4, ![4, k, 512, 2]⟩)
    (h' : (⟨4, ![4, k, 512, 2]⟩ : Shape).Pads ![0, n, 0, 0] ![0, 0, 0, 0] ![0, 0, 0, 0] ⟨4, ![4, 256, 512, 2]⟩) (hu : 0 < S_.numel) :
    addf (lay 256 (wn a f n)) (transpose S4x256x512x2 [0, 3, 1, 2] (Host.dotGeneral dot_S4x512x2x2_S4x256x512x2_S4x512x2x256_2_3_3_1_01_02 none (rot (pn a n))
      (pad ⟨4, ![4, 256, 512, 2]⟩ ![0, n, 0, 0] ![0, 0, 0, 0] ![0, 0, 0, 0] (extractStridedSlice ⟨4, ![4, k, 512, 2]⟩ ![0, 0, 0, 0] (lay 256 (wn a f n)) h) (constant (F := Ideal) S_ .f32 0x00000000#32) h' hu) : FVec Ideal S4x512x2x256 .f32)
      transposes_S4x512x2x256_S4x256x512x2_0_3_1_2) = lay 256 (wn a f m) := by
  rw [shift_lay e', turn_256, add_lay, wn_step a f e]
theorem level_8192 {n m k : ℕ} (e : n + n = m) (e' : k + n = 8192)
    (h : (⟨4, ![4, 8192, 512, 2]⟩ : Shape).Slices ![0, 0, 0, 0] ⟨4, ![4, k, 512, 2]⟩)
    (h' : (⟨4, ![4, k, 512, 2]⟩ : Shape).Pads ![0, n, 0, 0] ![0, 0, 0, 0] ![0, 0, 0, 0] ⟨4, ![4, 8192, 512, 2]⟩) (hu : 0 < S_.numel) :
    addf (lay 8192 (wn a f n)) (transpose S4x8192x512x2 [0, 3, 1, 2] (Host.dotGeneral dot_S4x512x2x2_S4x8192x512x2_S4x512x2x8192_2_3_3_1_01_02 none (rot (pn a n))
      (pad ⟨4, ![4, 8192, 512, 2]⟩ ![0, n, 0, 0] ![0, 0, 0, 0] ![0, 0, 0, 0] (extractStridedSlice ⟨4, ![4, k, 512, 2]⟩ ![0, 0, 0, 0] (lay 8192 (wn a f n)) h) (constant (F := Ideal) S_ .f32 0x00000000#32) h' hu) : FVec Ideal S4x512x2x8192 .f32)
      transposes_S4x512x2x8192_S4x8192x512x2_0_3_1_2) = lay 8192 (wn a f m) := by
  rw [shift_lay e', turn_8192, add_lay, wn_step a f e]
theorem sq_pn {n m : ℕ} (e : n + n = m) :
    (Host.dotGeneral dot_S4x512x2x2_S4x512x2x2_S4x512x2x2_3_2_2_3_01_01 none (rot (pn a n)) (rot (pn a n)) : FVec Ideal S4x512x2x2 .f32) = rot (pn a m) := by
  rw [turn_turn, pn_step a e]
theorem upto_add {ops : List (HloOp τ sig (Elt Ideal))} (W : Valuation τ sig (Elt Ideal)) (n k : ℕ) :
    StableHlo.upto ops W (n + k) = StableHlo.after ((ops.drop n).take k) (StableHlo.upto ops W n) := by
  have h : ∀ (l₁ l₂ : List (HloOp τ sig (Elt Ideal))) (V : Valuation τ sig (Elt Ideal)), StableHlo.after (l₁ ++ l₂) V = StableHlo.after l₂ (StableHlo.after l₁ V) := fun l₁ => by
    induction l₁ with
    | nil => exact fun _ _ => rfl
    | cons op l ih => exact fun l₂ V => ih l₂ _
  unfold StableHlo.upto
  rw [List.take_add, h]
variable {a f} {W : Valuation τ sig (Elt Ideal)}
theorem pow_1 (hx : W (Proc.devRef .tc main_v89) = lay 256 (wn a f 1)) (hr : W (Proc.devRef .tc main_v88) = rot (pn a 1)) :
    StableHlo.upto hostOps0_2 W 7 (Proc.devRef .tc main_v94) = lay 256 (wn a f 2) ∧ StableHlo.upto hostOps0_2 W 7 (Proc.devRef .tc main_v95) = rot (pn a 2) := by
  have h : StableHlo.upto hostOps0_2 W 0 (Proc.devRef .tc main_v89) = _ := hx; have h' : StableHlo.upto hostOps0_2 W 0 (Proc.devRef .tc main_v88) = _ := hr
  rw [show StableHlo.upto hostOps0_2 W 7 = _ from upto_add W 0 7]
  generalize StableHlo.upto hostOps0_2 W 0 = V at h h'
  constructor <;> after_reads_simp
  · rw [h, h']; exact level_256 a f (by decide) (by decide) _ _ _
  · rw [h']; exact sq_pn a (by decide)
theorem pow_2 (hx : W (Proc.devRef .tc main_v89) = lay 256 (wn a f 1)) (hr : W (Proc.devRef .tc main_v88) = rot (pn a 1)) :
    StableHlo.upto hostOps0_2 W 14 (Proc.devRef .tc main_v100) = lay 256 (wn a f 4) ∧ StableHlo.upto hostOps0_2 W 14 (Proc.devRef .tc main_v101) = rot (pn a 4) := by
  have ⟨h, h'⟩ := pow_1 hx hr
  rw [show StableHlo.upto hostOps0_2 W 14 = _ from upto_add W 7 7]
  generalize StableHlo.upto hostOps0_2 W 7 = V at h h'
  constructor <;> after_reads_simp
  · rw [h, h']; exact level_256 a f (by decide) (by decide) _ _ _
  · rw [h']; exact sq_pn a (by decide)
theorem pow_3 (hx : W (Proc.devRef .tc main_v89) = lay 256 (wn a f 1)) (hr : W (Proc.devRef .tc main_v88) = rot (pn a 1)) :
    StableHlo.upto hostOps0_2 W 21 (Proc.devRef .tc main_v106) = lay 256 (wn a f 8) ∧ StableHlo.upto hostOps0_2 W 21 (Proc.devRef .tc main_v107) = rot (pn a 8) := by
  have ⟨h, h'⟩ := pow_2 hx hr
  rw [show StableHlo.upto hostOps0_2 W 21 = _ from upto_add W 14 7]
  generalize StableHlo.upto hostOps0_2 W 14 = V at h h'
  constructor <;> after_reads_simp
  · rw [h, h']; exact level_256 a f (by decide) (by decide) _ _ _
  · rw [h']; exact sq_pn a (by decide)
theorem pow_4 (hx : W (Proc.devRef .tc main_v89) = lay 256 (wn a f 1)) (hr : W (Proc.devRef .tc main_v88) = rot (pn a 1)) :
    StableHlo.upto hostOps0_2 W 28 (Proc.devRef .tc main_v112) = lay 256 (wn a f 16) ∧ StableHlo.upto hostOps0_2 W 28 (Proc.devRef .tc main_v113) = rot (pn a 16) := by
  have ⟨h, h'⟩ := pow_3 hx hr
  rw [show StableHlo.upto hostOps0_2 W 28 = _ from upto_add W 21 7]
  generalize StableHlo.upto hostOps0_2 W 21 = V at h h'
  constructor <;> after_reads_simp
  · rw [h, h']; exact level_256 a f (by decide) (by decide) _ _ _
  · rw [h']; exact sq_pn a (by decide)
theorem pow_5 (hx : W (Proc.devRef .tc main_v89) = lay 256 (wn a f 1)) (hr : W (Proc.devRef .tc main_v88) = rot (pn a 1)) :
    StableHlo.upto hostOps0_2 W 35 (Proc.devRef .tc main_v118) = lay 256 (wn a f 32) ∧ StableHlo.upto hostOps0_2 W 35 (Proc.devRef .tc main_v119) = rot (pn a 32) := by
  have ⟨h, h'⟩ := pow_4 hx hr
  rw [show StableHlo.upto hostOps0_2 W 35 = _ from upto_add W 28 7]
  generalize StableHlo.upto hostOps0_2 W 28 = V at h h'
  constructor <;> after_reads_simp
  · rw [h, h']; exact level_256 a f (by decide) (by decide) _ _ _
  · rw [h']; exact sq_pn a (by decide)
theorem pow_6 (hx : W (Proc.devRef .tc main_v89) = lay 256 (wn a f 1)) (hr : W (Proc.devRef .tc main_v88) = rot (pn a 1)) :
    StableHlo.upto hostOps0_2 W 42 (Proc.devRef .tc main_v124) = lay 256 (wn a f 64) ∧ StableHlo.upto hostOps0_2 W 42 (Proc.devRef .tc main_v125) = rot (pn a 64) := by
  have ⟨h, h'⟩ := pow_5 hx hr
  rw [show StableHlo.upto hostOps0_2 W 42 = _ from upto_add W 35 7]
  generalize StableHlo.upto hostOps0_2 W 35 = V at h h'
  constructor <;> after_reads_simp
  · rw [h, h']; exact level_256 a f (by decide) (by decide) _ _ _
  · rw [h']; exact sq_pn a (by decide)
theorem pow_7 (hx : W (Proc.devRef .tc main_v89) = lay 256 (wn a f 1)) (hr : W (Proc.devRef .tc main_v88) = rot (pn a 1)) :
    StableHlo.upto hostOps0_2 W 49 (Proc.devRef .tc main_v130) = lay 256 (wn a f 128) ∧ StableHlo.upto hostOps0_2 W 49 (Proc.devRef .tc main_v131) = rot (pn a 128) := by
  have ⟨h, h'⟩ := pow_6 hx hr
  rw [show StableHlo.upto hostOps0_2 W 49 = _ from upto_add W 42 7]
  generalize StableHlo.upto hostOps0_2 W 42 = V at h h'
  constructor <;> after_reads_simp
  · rw [h, h']; exact level_256 a f (by decide) (by decide) _ _ _
  · rw [h']; exact sq_pn a (by decide)
theorem pow_8 (hx : W (Proc.devRef .tc main_v89) = lay 256 (wn a f 1)) (hr : W (Proc.devRef .tc main_v88) = rot (pn a 1)) :
    StableHlo.upto hostOps0_2 W 56 (Proc.devRef .tc main_v136) = lay 256 (wn a f 256) ∧ StableHlo.upto hostOps0_2 W 56 (Proc.devRef .tc main_v137) = rot (pn a 256) := by
  have ⟨h, h'⟩ := pow_7 hx hr
  rw [show StableHlo.upto hostOps0_2 W 56 = _ from upto_add W 49 7]
  generalize StableHlo.upto hostOps0_2 W 49 = V at h h'
  constructor <;> after_reads_simp
  · rw [h, h']; exact level_256 a f (by decide) (by decide) _ _ _
  · rw [h']; exact sq_pn a (by decide)
theorem sum_1 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 70 (Proc.devRef .tc main_v149) = lay 8192 (wn a f 2) ∧ StableHlo.upto hostOps0_2 W 70 (Proc.devRef .tc main_v150) = rot (pn a 2) := by
  have h := hx; have h' := hr
  rw [show StableHlo.upto hostOps0_2 W 70 = _ from upto_add W 63 7]
  generalize StableHlo.upto hostOps0_2 W 63 = V at h h'
  constructor <;> after_reads_simp
  · rw [h, h']; exact level_8192 a f (by decide) (by decide) _ _ _
  · rw [h']; exact sq_pn a (by decide)
theorem sum_2 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 77 (Proc.devRef .tc main_v155) = lay 8192 (wn a f 4) ∧ StableHlo.upto hostOps0_2 W 77 (Proc.devRef .tc main_v156) = rot (pn a 4) := by
  have ⟨h, h'⟩ := sum_1 hx hr
  rw [show StableHlo.upto hostOps0_2 W 77 = _ from upto_add W 70 7]
  generalize StableHlo.upto hostOps0_2 W 70 = V at h h'
  constructor <;> after_reads_simp
  · rw [h, h']; exact level_8192 a f (by decide) (by decide) _ _ _
  · rw [h']; exact sq_pn a (by decide)
theorem sum_3 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 84 (Proc.devRef .tc main_v161) = lay 8192 (wn a f 8) ∧ StableHlo.upto hostOps0_2 W 84 (Proc.devRef .tc main_v162) = rot (pn a 8) := by
  have ⟨h, h'⟩ := sum_2 hx hr
  rw [show StableHlo.upto hostOps0_2 W 84 = _ from upto_add W 77 7]
  generalize StableHlo.upto hostOps0_2 W 77 = V at h h'
  constructor <;> after_reads_simp
  · rw [h, h']; exact level_8192 a f (by decide) (by decide) _ _ _
  · rw [h']; exact sq_pn a (by decide)
theorem sum_4 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 91 (Proc.devRef .tc main_v167) = lay 8192 (wn a f 16) ∧ StableHlo.upto hostOps0_2 W 91 (Proc.devRef .tc main_v168) = rot (pn a 16) := by
  have ⟨h, h'⟩ := sum_3 hx hr
  rw [show StableHlo.upto hostOps0_2 W 91 = _ from upto_add W 84 7]
  generalize StableHlo.upto hostOps0_2 W 84 = V at h h'
  constructor <;> after_reads_simp
  · rw [h, h']; exact level_8192 a f (by decide) (by decide) _ _ _
  · rw [h']; exact sq_pn a (by decide)
theorem sum_5 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 98 (Proc.devRef .tc main_v173) = lay 8192 (wn a f 32) ∧ StableHlo.upto hostOps0_2 W 98 (Proc.devRef .tc main_v174) = rot (pn a 32) := by
  have ⟨h, h'⟩ := sum_4 hx hr
  rw [show StableHlo.upto hostOps0_2 W 98 = _ from upto_add W 91 7]
  generalize StableHlo.upto hostOps0_2 W 91 = V at h h'
  constructor <;> after_reads_simp
  · rw [h, h']; exact level_8192 a f (by decide) (by decide) _ _ _
  · rw [h']; exact sq_pn a (by decide)
theorem sum_6 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 105 (Proc.devRef .tc main_v179) = lay 8192 (wn a f 64) ∧ StableHlo.upto hostOps0_2 W 105 (Proc.devRef .tc main_v180) = rot (pn a 64) := by
  have ⟨h, h'⟩ := sum_5 hx hr
  rw [show StableHlo.upto hostOps0_2 W 105 = _ from upto_add W 98 7]
  generalize StableHlo.upto hostOps0_2 W 98 = V at h h'
  constructor <;> after_reads_simp
  · rw [h, h']; exact level_8192 a f (by decide) (by decide) _ _ _
  · rw [h']; exact sq_pn a (by decide)
theorem sum_7 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 112 (Proc.devRef .tc main_v185) = lay 8192 (wn a f 128) ∧ StableHlo.upto hostOps0_2 W 112 (Proc.devRef .tc main_v186) = rot (pn a 128) := by
  have ⟨h, h'⟩ := sum_6 hx hr
  rw [show StableHlo.upto hostOps0_2 W 112 = _ from upto_add W 105 7]
  generalize StableHlo.upto hostOps0_2 W 105 = V at h h'
  constructor <;> after_reads_simp
  · rw [h, h']; exact level_8192 a f (by decide) (by decide) _ _ _
  · rw [h']; exact sq_pn a (by decide)
theorem sum_8 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 119 (Proc.devRef .tc main_v191) = lay 8192 (wn a f 256) ∧ StableHlo.upto hostOps0_2 W 119 (Proc.devRef .tc main_v192) = rot (pn a 256) := by
  have ⟨h, h'⟩ := sum_7 hx hr
  rw [show StableHlo.upto hostOps0_2 W 119 = _ from upto_add W 112 7]
  generalize StableHlo.upto hostOps0_2 W 112 = V at h h'
  constructor <;> after_reads_simp
  · rw [h, h']; exact level_8192 a f (by decide) (by decide) _ _ _
  · rw [h']; exact sq_pn a (by decide)
theorem sum_9 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 126 (Proc.devRef .tc main_v197) = lay 8192 (wn a f 512) ∧ StableHlo.upto hostOps0_2 W 126 (Proc.devRef .tc main_v198) = rot (pn a 512) := by
  have ⟨h, h'⟩ := sum_8 hx hr
  rw [show StableHlo.upto hostOps0_2 W 126 = _ from upto_add W 119 7]
  generalize StableHlo.upto hostOps0_2 W 119 = V at h h'
  constructor <;> after_reads_simp
  · rw [h, h']; exact level_8192 a f (by decide) (by decide) _ _ _
  · rw [h']; exact sq_pn a (by decide)
theorem sum_10 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 133 (Proc.devRef .tc main_v203) = lay 8192 (wn a f 1024) ∧ StableHlo.upto hostOps0_2 W 133 (Proc.devRef .tc main_v204) = rot (pn a 1024) := by
  have ⟨h, h'⟩ := sum_9 hx hr
  rw [show StableHlo.upto hostOps0_2 W 133 = _ from upto_add W 126 7]
  generalize StableHlo.upto hostOps0_2 W 126 = V at h h'
  constructor <;> after_reads_simp
  · rw [h, h']; exact level_8192 a f (by decide) (by decide) _ _ _
  · rw [h']; exact sq_pn a (by decide)
theorem sum_11 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 140 (Proc.devRef .tc main_v209) = lay 8192 (wn a f 2048) ∧ StableHlo.upto hostOps0_2 W 140 (Proc.devRef .tc main_v210) = rot (pn a 2048) := by
  have ⟨h, h'⟩ := sum_10 hx hr
  rw [show StableHlo.upto hostOps0_2 W 140 = _ from upto_add W 133 7]
  generalize StableHlo.upto hostOps0_2 W 133 = V at h h'
  constructor <;> after_reads_simp
  · rw [h, h']; exact level_8192 a f (by decide) (by decide) _ _ _
  · rw [h']; exact sq_pn a (by decide)
theorem sum_12 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 147 (Proc.devRef .tc main_v215) = lay 8192 (wn a f 4096) ∧ StableHlo.upto hostOps0_2 W 147 (Proc.devRef .tc main_v216) = rot (pn a 4096) := by
  have ⟨h, h'⟩ := sum_11 hx hr
  rw [show StableHlo.upto hostOps0_2 W 147 = _ from upto_add W 140 7]
  generalize StableHlo.upto hostOps0_2 W 140 = V at h h'
  constructor <;> after_reads_simp
  · rw [h, h']; exact level_8192 a f (by decide) (by decide) _ _ _
  · rw [h']; exact sq_pn a (by decide)
theorem sum_13 (hx : StableHlo.upto hostOps0_2 W 63 (Proc.devRef .tc main_v144) = lay 8192 (wn a f 1)) (hr : StableHlo.upto hostOps0_2 W 63 (Proc.devRef .tc main_v88) = rot (pn a 1)) :
    StableHlo.upto hostOps0_2 W 154 (Proc.devRef .tc main_v221) = lay 8192 (wn a f 8192) ∧ StableHlo.upto hostOps0_2 W 154 (Proc.devRef .tc main_v222) = rot (pn a 8192) := by
  have ⟨h, h'⟩ := sum_12 hx hr
  rw [show StableHlo.upto hostOps0_2 W 154 = _ from upto_add W 147 7]
  generalize StableHlo.upto hostOps0_2 W 147 = V at h h'
  constructor <;> after_reads_simp
  · rw [h, h']; exact level_8192 a f (by decide) (by decide) _ _ _
  · rw [h']; exact sq_pn a (by decide)
end Cert.S5
-- ==== Proof.S5Entry.lean ====
module
public import proofs.«01_k».proof.Proof.S5Chain
@[expose] public section
set_option maxRecDepth 16384
noncomputable section
open Idealize.ShloMosaic Idealize.ShloMosaic.TcCoe Idealize.SL.Sem
open ComplexConjugate
/-! The arrays the kernel is launched on. -/
namespace Cert.S5
open Cert.S5KernelIdeal Cert.S5KernelIdeal.Gen
variable {D : Data} {d : FVec Ideal S32x16 .f32} {W : Valuation τ sig (Elt Ideal)} (X : Valuation τ sig (Elt Ideal))
/-- What the host does after the first stretch. -/
def rest (X : Valuation τ sig (Elt Ideal)) : Valuation τ sig (Elt Ideal) :=
  StableHlo.after hostOps0_6 (StableHlo.after hostOps0_5 (StableHlo.after hostOps0_4 (StableHlo.after hostOps0_3 (StableHlo.after hostOps0_2 (StableHlo.after hostOps0_1 X)))))
theorem after_add (l₁ l₂ : List (HloOp τ sig (Elt Ideal))) (V : Valuation τ sig (Elt Ideal)) : StableHlo.after (l₁ ++ l₂) V = StableHlo.after l₂ (StableHlo.after l₁ V) := by
  induction l₁ generalizing V with
  | nil => rfl
  | cons op l ih => exact ih _
theorem all_of (W : Valuation τ sig (Elt Ideal)) : StableHlo.after ([hostOps0, hostOps0_1, hostOps0_2, hostOps0_3, hostOps0_4, hostOps0_5, hostOps0_6] : List (List (HloOp τ sig (Elt Ideal)))).flatten W = rest (StableHlo.after hostOps0 W) := by
  simp only [List.flatten_cons, List.flatten_nil, List.append_nil, after_add]; rfl
theorem rest_71 : rest X (Proc.devRef .tc main_v71) = X (Proc.devRef .tc main_v71) := by
  unfold rest; after_reads_simp
theorem rest_75 : rest X (Proc.devRef .tc main_v75) = X (Proc.devRef .tc main_v75) := by
  unfold rest; after_reads_simp
theorem rest_14 : rest X (Proc.devRef .tc main_v14) = X (Proc.devRef .tc main_v14) := by
  unfold rest; after_reads_simp
theorem rest_29 : rest X (Proc.devRef .tc main_v29) = X (Proc.devRef .tc main_v29) := by
  unfold rest; after_reads_simp
theorem rest_44 : rest X (Proc.devRef .tc main_v44) = X (Proc.devRef .tc main_v44) := by
  unfold rest; after_reads_simp
theorem rest_59 : rest X (Proc.devRef .tc main_v59) = X (Proc.devRef .tc main_v59) := by
  unfold rest; after_reads_simp
theorem rest_60 : rest X (Proc.devRef .tc main_v60) = X (Proc.devRef .tc main_v60) := by
  unfold rest; after_reads_simp
theorem rest_10 : rest X (Proc.devRef .tc main_v10) = X (Proc.devRef .tc main_v10) := by
  unfold rest; after_reads_simp
theorem rest_25 : rest X (Proc.devRef .tc main_v25) = X (Proc.devRef .tc main_v25) := by
  unfold rest; after_reads_simp
theorem rest_40 : rest X (Proc.devRef .tc main_v40) = X (Proc.devRef .tc main_v40) := by
  unfold rest; after_reads_simp
theorem rest_55 : rest X (Proc.devRef .tc main_v55) = X (Proc.devRef .tc main_v55) := by
  unfold rest; after_reads_simp
theorem rest_arg9 : rest X (Proc.devRef .tc main_arg9) = X (Proc.devRef .tc main_arg9) := by
  unfold rest; after_reads_simp
theorem rest_228 : ∃ v : FVec Ideal S_ .f32, rest X (Proc.devRef .tc main_v228) = pad S8192x5376 ![0, 4608] ![0, 256] ![0, 0] (X (Proc.devRef .tc main_arg0) : FVec Ideal S8192x512 .f32) v pads_S8192x512_S8192x5376_000_46082560 h_S_ :=
  ⟨_, by unfold rest; after_reads_simp; rfl⟩
/-- An impulse of the rate at the first step: its response is the powers. -/
def imp (a : Fin 4 → Fin 512 → ℂ) : Fin 4 → Fin 512 → ℕ → ℂ := fun q l t => if t = 0 then a q l else 0
theorem imp_hst (a : ℂ) (t : ℕ) : hst a (fun t => if t = 0 then a else 0) t = a ^ (t + 1) := by
  unfold hst
  rw [Finset.sum_range_succ, Nat.sub_self, pow_succ]
  refine (add_eq_right.mpr (Finset.sum_eq_zero fun i hi => ?_))
  have h : ¬ t - i = 0 := by have := Finset.mem_range.mp hi; omega
  simp only [if_neg h, mul_zero]
theorem at_89 (a : Fin 4 → Fin 512 → ℂ) (h : X (Proc.devRef .tc main_v78) = (fun i => ((pr (i 3) (a (i 0) (i 2)) : ℝ) : EReal) : FVec Ideal S4x1x512x2 .f32))
    (h' : X (Proc.devRef .tc main_c_3) = constantI S_ 32 0#32) :
    StableHlo.after hostOps0_1 X (Proc.devRef .tc main_v89) = lay 256 (wn a (imp a) 1) := by
  after_reads_simp
  rw [h, h', wn_one]
  refine Eq.trans (b := pad S4x256x512x2 ![0, 0, 0, 0] ![0, 255, 0, 0] ![0, 0, 0, 0] (fun i => ((pr (i 3) (a (i 0) (i 2)) : ℝ) : EReal) : FVec Ideal S4x1x512x2 .f32)
    (sitofp (F := Ideal) .f32 (constantI S_ 32 0#32) : FVec Ideal S_ .f32) pads_S4x1x512x2_S4x256x512x2_000_02550_000_000 h_S_) rfl ?_
  funext i
  by_cases hi : (i 1).val = 0
  · refine (pad_apply_of_inside _ _ _ _ _ _ _ i (ix4 (i 0) 0 (i 2) (i 3)) fun b => ?_).trans ?_
    · fin_cases b
      · show (i 0).val = 0 + (i 0).val * 1; omega
      · show (i 1).val = 0 + 0 * 1; omega
      · show (i 2).val = 0 + (i 2).val * 1; omega
      · show (i 3).val = 0 + (i 3).val * 1; omega
    · exact congrArg (fun z => ((pr (i 3) z : ℝ) : EReal)) (if_pos hi : imp a (i 0) (i 2) (i 1).val = _).symm
  · refine (pad_apply_of_not_inside _ _ _ _ _ _ _ i 1 (fun hh => hi ?_)).trans ?_
    · have := hh.2.2
      change ((i 1).val - 0) / 1 < 1 at this
      omega
    · refine Eq.trans (b := ((0 : ℝ) : EReal)) ?_ ((congrArg (fun z : ℝ => (z : EReal)) (pr_zero (i 3)).symm).trans (congrArg (fun z => ((pr (i 3) z : ℝ) : EReal)) (if_neg hi : imp a (i 0) (i 2) (i 1).val = _).symm))
      show (((0#32 : BitVec 32).toInt : ℝ) : EReal) = _
      simp
theorem rest_136 (V : Valuation τ sig (Elt Ideal)) (X : Fin 4 → Fin 512 → ℕ → ℂ) (h : V (Proc.devRef .tc main_v136) = lay 256 X) :
    StableHlo.after hostOps0_6 V (Proc.devRef .tc main_v230) = (fun i => (((X (i 0) (i 2) (i 1).val).re : ℝ) : EReal) : FVec Ideal S4x256x512 .f32) ∧
    StableHlo.after hostOps0_6 V (Proc.devRef .tc main_v232) = (fun i => (((X (i 0) (i 2) (i 1).val).im : ℝ) : EReal) : FVec Ideal S4x256x512 .f32) := by
  constructor <;> after_reads_simp <;> rw [h] <;> funext i <;> idx_vars i <;> pointwise [lay, pr]
  done
theorem rest_227 (V : Valuation τ sig (Elt Ideal)) (f : Fin 4 → Fin 32 → Fin 512 → ℂ) (h : V (Proc.devRef .tc main_v227) = (fun i => ((pr (i 4) (f (i 0) (i 1) (i 3)) : ℝ) : EReal) : FVec Ideal S4x32x1x512x2 .f32)) :
    StableHlo.after hostOps0_6 V (Proc.devRef .tc main_v234) = (fun i => (((f (i 0) (i 1) (i 3)).re : ℝ) : EReal) : FVec Ideal S4x32x1x512 .f32) ∧
    StableHlo.after hostOps0_6 V (Proc.devRef .tc main_v236) = (fun i => (((f (i 0) (i 1) (i 3)).im : ℝ) : EReal) : FVec Ideal S4x32x1x512 .f32) := by
  constructor <;> after_reads_simp <;> rw [h] <;> funext i <;> idx_vars i <;> pointwise [pr]
  done
theorem at_225 (X : Fin 4 → Fin 512 → ℕ → ℂ) (V : Valuation τ sig (Elt Ideal)) (h : V (Proc.devRef .tc main_v221) = lay 8192 X) :
    StableHlo.after ((hostOps0_2.drop 154).take 4) V (Proc.devRef .tc main_v225) = (fun i => ((pr (i 3) (X (i 0) (i 2) (256 * (i 1).val + 255)) : ℝ) : EReal) : FVec Ideal S4x31x512x2 .f32) := by
  after_reads_simp
  rw [h]
  funext i
  idx_vars i
  pointwise [lay]
  rw [mul_comm]
theorem at_227 (f : Fin 4 → Fin 512 → ℕ → ℂ) (h : X (Proc.devRef .tc main_v225) = (fun i => ((pr (i 3) (f (i 0) (i 2) (256 * (i 1).val + 255)) : ℝ) : EReal) : FVec Ideal S4x31x512x2 .f32))
    (h' : X (Proc.devRef .tc main_c_24) = constantI S_ 32 0#32) :
    StableHlo.after hostOps0_4 (StableHlo.after hostOps0_3 X) (Proc.devRef .tc main_v227) =
      (fun i => ((pr (i 4) (if (i 1).val = 0 then 0 else f (i 0) (i 3) (256 * (i 1).val - 1)) : ℝ) : EReal) : FVec Ideal S4x32x1x512x2 .f32) := by
  have e : StableHlo.after hostOps0_3 X (Proc.devRef .tc main_v226) = (fun i => ((pr (i 3) (if (i 1).val = 0 then 0 else f (i 0) (i 2) (256 * (i 1).val - 1)) : ℝ) : EReal) : FVec Ideal S4x32x512x2 .f32) := by
    after_reads_simp
    rw [h, h']
    refine Eq.trans (b := pad S4x32x512x2 ![0, 1, 0, 0] ![0, 0, 0, 0] ![0, 0, 0, 0] (fun i => ((pr (i 3) (f (i 0) (i 2) (256 * (i 1).val + 255)) : ℝ) : EReal) : FVec Ideal S4x31x512x2 .f32)
      (sitofp (F := Ideal) .f32 (constantI S_ 32 0#32) : FVec Ideal S_ .f32) pads_S4x31x512x2_S4x32x512x2_000_100_000_000 h_S_) rfl ?_
    funext i
    by_cases hi : (i 1).val = 0
    · refine (pad_apply_of_not_inside _ _ _ _ _ _ _ i 1 (fun hh => ?_)).trans ?_
      · have := hh.1
        change 1 ≤ (i 1).val at this
        omega
      · refine Eq.trans (b := ((0 : ℝ) : EReal)) ?_ ((congrArg (fun z : ℝ => (z : EReal)) (pr_zero (i 3)).symm).trans (congrArg (fun z => ((pr (i 3) z : ℝ) : EReal)) (if_pos hi).symm))
        show (((0#32 : BitVec 32).toInt : ℝ) : EReal) = _
        simp
    · have hl : (i 1).val < 32 := (i 1).isLt
      refine (pad_apply_of_inside _ _ _ _ _ _ _ i (ix4 (i 0) ⟨(i 1).val - 1, by omega⟩ (i 2) (i 3)) fun b => ?_).trans ?_
      · fin_cases b
        · show (i 0).val = 0 + (i 0).val * 1; omega
        · show (i 1).val = 1 + ((i 1).val - 1) * 1; omega
        · show (i 2).val = 0 + (i 2).val * 1; omega
        · show (i 3).val = 0 + (i 3).val * 1; omega
      · refine congrArg (fun z => ((pr (i 3) z : ℝ) : EReal)) (Eq.trans (b := f (i 0) (i 2) (256 * (i 1).val - 1)) (congrArg (f (i 0) (i 2)) ?_) (if_neg hi).symm)
        show 256 * ((i 1).val - 1) + 255 = _
        omega
  generalize StableHlo.after hostOps0_3 X = V at e
  after_reads_simp
  rw [e]
  funext i
  idx_vars i
  pointwise
  done
/-- A sum over the channels of a block that sees only those of the lane's group. -/
theorem mask_k {M : Type} [AddCommMonoid M] (l : Fin 512) (x : Fin 128 → M) :
    (∑ k : Fin 128, if k.val / 16 = l.val / 64 then x k else 0) = ∑ c : Fin 16, x ⟨16 * (l.val / 64) + c.val, by omega⟩ := by
  refine (sum_block 8 16 ⟨l.val / 64, by omega⟩ (fun k : Fin 128 => if k.val / 16 = l.val / 64 then x k else 0) fun k hk => if_neg hk).trans (Finset.sum_congr rfl fun c _ => ?_)
  exact if_pos (by show (16 * (l.val / 64) + c.val) / 16 = _; omega)
/-- A sum over the lanes of a block that sees only those of the channel's group. -/
theorem mask_l {M : Type} [AddCommMonoid M] (k : Fin 128) (x : Fin 512 → M) :
    (∑ l : Fin 512, if k.val / 16 = l.val / 64 then x l else 0) = ∑ p : Fin 64, x ⟨64 * (k.val / 16) + p.val, by omega⟩ := by
  refine (sum_block 8 64 ⟨k.val / 16, by omega⟩ (fun l : Fin 512 => if k.val / 16 = l.val / 64 then x l else 0) fun l hl => if_neg (Ne.symm hl)).trans (Finset.sum_congr rfl fun c _ => ?_)
  exact if_pos (by show _ = (64 * (k.val / 16) + c.val) / 64; omega)
theorem mul_mask (x y : ℝ) (p : Prop) [Decidable p] : x * (if p then y else 0) = if p then x * y else 0 := by split_ifs <;> simp
/-- A lane's drive … -/
def Data.drv (D : Data) : Fin 4 → Fin 512 → ℕ → ℂ := fun q l => D.drive (gl q l) (pl l)
/-- … and channel `k` of block `q`. -/
abbrev kc (q : Fin 4) (k : Fin 128) : Fin 512 := ⟨q.val * 128 + k.val, by omega⟩
theorem ch_eq (q : Fin 4) (l : Fin 512) (c : Fin 16) : kc q ⟨16 * (l.val / 64) + c.val, by omega⟩ = ch (gl q l) c := by
  apply Fin.ext; show q.val * 128 + (16 * (l.val / 64) + c.val) = (q.val * 8 + l.val / 64) * 16 + c.val; omega
theorem brk_sum (x : Fin 512 → ℝ) (q : Fin 4) (l : Fin 512) : ∑ k, x (kc q k) * D.brk q k l = ∑ c, x (ch (gl q l) c) * D.br (gl q l) (pl l) c := by
  simp only [Data.brk, mul_mask]
  refine (mask_k l fun k => x (kc q k) * D.br (gk q k) (pl l) ⟨k.val % 16, by omega⟩).trans (Finset.sum_congr rfl fun c _ => ?_)
  rw [ch_eq]
  congr 2
  · apply Fin.ext; show q.val * 8 + (16 * (l.val / 64) + c.val) / 16 = q.val * 8 + l.val / 64; omega
  · apply Fin.ext; show (16 * (l.val / 64) + c.val) % 16 = _; omega
theorem bik_sum (x : Fin 512 → ℝ) (q : Fin 4) (l : Fin 512) : ∑ k, x (kc q k) * D.bik q k l = ∑ c, x (ch (gl q l) c) * D.bi (gl q l) (pl l) c := by
  simp only [Data.bik, mul_mask]
  refine (mask_k l fun k => x (kc q k) * D.bi (gk q k) (pl l) ⟨k.val % 16, by omega⟩).trans (Finset.sum_congr rfl fun c _ => ?_)
  rw [ch_eq]
  congr 2
  · apply Fin.ext; show q.val * 8 + (16 * (l.val / 64) + c.val) / 16 = q.val * 8 + l.val / 64; omega
  · apply Fin.ext; show (16 * (l.val / 64) + c.val) % 16 = _; omega
theorem drv_eq (q : Fin 4) (l : Fin 512) (t : Fin 8192) : D.drv q l t.val = ⟨∑ k, D.u t (kc q k) * D.brk q k l, ∑ k, D.u t (kc q k) * D.bik q k l⟩ := by
  rw [Data.drv, Data.drive, dif_pos t.isLt, brk_sum, bik_sum]
theorem read_142 (h0 : X (Proc.devRef .tc main_arg0) = D.x0) (h14 : X (Proc.devRef .tc main_v14) = (fun i => ((D.brk (i 0) (i 1) (i 2) : ℝ) : EReal) : FVec Ideal S4x128x512 .f32)) :
    StableHlo.upto hostOps0_2 X 62 (Proc.devRef .tc main_v142) = (fun i => (((D.drv (i 0) (i 2) (i 1).val).re : ℝ) : EReal) : FVec Ideal S4x8192x512x1 .f32) := by
  after_reads_simp
  rw [h0, h14]
  funext i
  idx_vars i
  rw [drv_eq i0 i2 i1]
  pointwise [Data.x0]
  simp only [← EReal.coe_mul]
  rw [← Ops.coe_sum']
theorem read_143 (h0 : X (Proc.devRef .tc main_arg0) = D.x0) (h29 : X (Proc.devRef .tc main_v29) = (fun i => ((D.bik (i 0) (i 1) (i 2) : ℝ) : EReal) : FVec Ideal S4x128x512 .f32)) :
    StableHlo.upto hostOps0_2 X 62 (Proc.devRef .tc main_v143) = (fun i => (((D.drv (i 0) (i 2) (i 1).val).im : ℝ) : EReal) : FVec Ideal S4x8192x512x1 .f32) := by
  after_reads_simp
  rw [h0, h29]
  funext i
  idx_vars i
  rw [drv_eq i0 i2 i1]
  pointwise [Data.x0]
  simp only [← EReal.coe_mul]
  rw [← Ops.coe_sum']
theorem at_144 (a : Fin 4 → Fin 512 → ℂ) (h0 : X (Proc.devRef .tc main_arg0) = D.x0) (h14 : X (Proc.devRef .tc main_v14) = (fun i => ((D.brk (i 0) (i 1) (i 2) : ℝ) : EReal) : FVec Ideal S4x128x512 .f32))
    (h29 : X (Proc.devRef .tc main_v29) = (fun i => ((D.bik (i 0) (i 1) (i 2) : ℝ) : EReal) : FVec Ideal S4x128x512 .f32)) :
    StableHlo.upto hostOps0_2 X 63 (Proc.devRef .tc main_v144) = lay 8192 (wn a D.drv 1) := by
  after_reads_simp
  rw [cat_congr (s := S4x8192x512x1) (read_142 X h0 h14) (read_143 X h0 h29) _, wn_one]
  funext i
  idx_vars i
  pointwise [pr, lay]
  fin_cases i3 <;> simp
theorem at_88 : StableHlo.upto hostOps0_2 X 63 (Proc.devRef .tc main_v88) = X (Proc.devRef .tc main_v88) := by
  after_reads_simp
theorem lay_congr {N : ℕ} {X Y : Fin 4 → Fin 512 → ℕ → ℂ} (h : ∀ q l, ∀ t < N, X q l t = Y q l t) : lay N X = lay N Y := by
  funext i
  exact congrArg (fun z => ((pr (i 3) z : ℝ) : EReal)) (h (i 0) (i 2) (i 1).val (i 1).isLt)
theorem c24 (V : Valuation τ sig (Elt Ideal)) : StableHlo.after hostOps0_2 V (Proc.devRef .tc main_c_24) = constantI S_ 32 0#32 := by after_reads_simp
theorem states_lay : lay 8192 (wn D.ra D.drv 8192) = lay 8192 fun q l t => D.state (gl q l) (pl l) t :=
  lay_congr fun q l t ht => win_full (D.ra q l) (D.drv q l) ht
/-- The state before chunk `s`. -/
def Data.hb (D : Data) (q : Fin 4) (s : Fin 32) (l : Fin 512) : ℂ := if s.val = 0 then 0 else D.state (gl q l) (pl l) (256 * s.val - 1)
variable (H : Holds D d W)
include H
theorem c3_head : StableHlo.after hostOps0 W (Proc.devRef .tc main_c_3) = constantI S_ 32 0#32 := by after_reads_simp
theorem arg0_head : StableHlo.after hostOps0_1 (StableHlo.after hostOps0 W) (Proc.devRef .tc main_arg0) = D.x0 := by
  after_reads_simp
  exact H.x0
theorem v14_1 : StableHlo.after hostOps0_1 (StableHlo.after hostOps0 W) (Proc.devRef .tc main_v14) = (fun i => ((D.brk (i 0) (i 1) (i 2) : ℝ) : EReal) : FVec Ideal S4x128x512 .f32) :=
  (show _ = StableHlo.after hostOps0 W (Proc.devRef .tc main_v14) by generalize StableHlo.after hostOps0 W = V; after_reads_simp).trans (head_14 H)
theorem v29_1 : StableHlo.after hostOps0_1 (StableHlo.after hostOps0 W) (Proc.devRef .tc main_v29) = (fun i => ((D.bik (i 0) (i 1) (i 2) : ℝ) : EReal) : FVec Ideal S4x128x512 .f32) :=
  (show _ = StableHlo.after hostOps0 W (Proc.devRef .tc main_v29) by generalize StableHlo.after hostOps0 W = V; after_reads_simp).trans (head_29 H)
theorem v88_1 : StableHlo.after hostOps0_1 (StableHlo.after hostOps0 W) (Proc.devRef .tc main_v88) = rot (pn D.ra 1) :=
  (show _ = StableHlo.after hostOps0 W (Proc.devRef .tc main_v88) by generalize StableHlo.after hostOps0 W = V; after_reads_simp).trans ((head_88 H).trans (by rw [pn_one]))
/-- The powers of the rates, as the host leaves them. -/
theorem powers : StableHlo.after hostOps0_2 (StableHlo.after hostOps0_1 (StableHlo.after hostOps0 W)) (Proc.devRef .tc main_v136) = lay 256 fun q l t => D.ra q l ^ (t + 1) := by
  have e := (pow_8 (a := D.ra) (f := imp D.ra) (at_89 _ D.ra (head_78 H) (c3_head H)) (v88_1 H)).1
  generalize StableHlo.after hostOps0_1 (StableHlo.after hostOps0 W) = V at e ⊢
  rw [show StableHlo.after hostOps0_2 V = _ from upto_add (ops := hostOps0_2) V 56 102]
  generalize StableHlo.upto hostOps0_2 V 56 = V' at e
  after_reads_simp
  rw [e]
  exact lay_congr fun q l t ht => (win_full _ _ ht).trans (imp_hst _ _)
/-- The states at the chunks' ends, as the host leaves them. -/
theorem states : StableHlo.after hostOps0_2 (StableHlo.after hostOps0_1 (StableHlo.after hostOps0 W)) (Proc.devRef .tc main_v225) =
    (fun i => ((pr (i 3) ((fun q l t => D.state (gl q l) (pl l) t) (i 0) (i 2) (256 * (i 1).val + 255)) : ℝ) : EReal) : FVec Ideal S4x31x512x2 .f32) := by
  have e := (sum_13 (W := StableHlo.after hostOps0_1 (StableHlo.after hostOps0 W)) (a := D.ra) (f := D.drv) (at_144 _ D.ra (arg0_head H) (v14_1 H) (v29_1 H)) ((at_88 _).trans (v88_1 H))).1
  generalize StableHlo.after hostOps0_1 (StableHlo.after hostOps0 W) = V at e ⊢
  rw [show StableHlo.after hostOps0_2 V = _ from upto_add (ops := hostOps0_2) V 154 4]
  exact at_225 (fun q l t => D.state (gl q l) (pl l) t) _ (e.trans states_lay)
theorem entry_71 : rest (StableHlo.after hostOps0 W) (Proc.devRef .tc main_v71) = (fun i => ((D.ra (i 0) (i 2)).re : EReal) : FVec Ideal S4x1x512 .f32) := (rest_71 _).trans (head_71 H)
theorem entry_75 : rest (StableHlo.after hostOps0 W) (Proc.devRef .tc main_v75) = (fun i => ((D.ra (i 0) (i 2)).im : EReal) : FVec Ideal S4x1x512 .f32) := (rest_75 _).trans (head_75 H)
theorem entry_14 : rest (StableHlo.after hostOps0 W) (Proc.devRef .tc main_v14) = (fun i => ((D.brk (i 0) (i 1) (i 2) : ℝ) : EReal) : FVec Ideal S4x128x512 .f32) := (rest_14 _).trans (head_14 H)
theorem entry_29 : rest (StableHlo.after hostOps0 W) (Proc.devRef .tc main_v29) = (fun i => ((D.bik (i 0) (i 1) (i 2) : ℝ) : EReal) : FVec Ideal S4x128x512 .f32) := (rest_29 _).trans (head_29 H)
theorem entry_44 : rest (StableHlo.after hostOps0 W) (Proc.devRef .tc main_v44) = (fun i => ((D.crk (i 0) (i 1) (i 2) : ℝ) : EReal) : FVec Ideal S4x512x128 .f32) := (rest_44 _).trans (head_44 H)
theorem entry_59 : rest (StableHlo.after hostOps0 W) (Proc.devRef .tc main_v59) = (fun i => ((D.cik (i 0) (i 1) (i 2) : ℝ) : EReal) : FVec Ideal S4x512x128 .f32) := (rest_59 _).trans (head_59 H)
theorem entry_60 : rest (StableHlo.after hostOps0 W) (Proc.devRef .tc main_v60) = (fun i => d (ix2 (gOf (i 1)) (cOf (i 1))) : FVec Ideal S1x512 .f32) := (rest_60 _).trans (head_60 H)
theorem entry_arg9 : rest (StableHlo.after hostOps0 W) (Proc.devRef .tc main_arg9) = D.x9 := by
  refine (rest_arg9 _).trans ?_
  after_reads_simp
  exact H.x9
theorem entry_228 : ∃ v : FVec Ideal S_ .f32, rest (StableHlo.after hostOps0 W) (Proc.devRef .tc main_v228) = pad S8192x5376 ![0, 4608] ![0, 256] ![0, 0] D.x0 v pads_S8192x512_S8192x5376_000_46082560 h_S_ := by
  obtain ⟨v, h⟩ := rest_228 (StableHlo.after hostOps0 W)
  refine ⟨v, h.trans ?_⟩
  rw [show StableHlo.after hostOps0 W (Proc.devRef .tc main_arg0) = D.x0 by after_reads_simp; exact H.x0]
theorem pw_left : StableHlo.after hostOps0_5 (StableHlo.after hostOps0_4 (StableHlo.after hostOps0_3 (StableHlo.after hostOps0_2 (StableHlo.after hostOps0_1 (StableHlo.after hostOps0 W))))) (Proc.devRef .tc main_v136) = lay 256 fun q l t => D.ra q l ^ (t + 1) := by
  refine Eq.trans ?_ (powers H)
  generalize StableHlo.after hostOps0_2 (StableHlo.after hostOps0_1 (StableHlo.after hostOps0 W)) = V
  after_reads_simp
theorem entry_230 : rest (StableHlo.after hostOps0 W) (Proc.devRef .tc main_v230) = (fun i => (((D.ra (i 0) (i 2) ^ ((i 1).val + 1)).re : ℝ) : EReal) : FVec Ideal S4x256x512 .f32) := (rest_136 _ _ (pw_left H)).1
theorem entry_232 : rest (StableHlo.after hostOps0 W) (Proc.devRef .tc main_v232) = (fun i => (((D.ra (i 0) (i 2) ^ ((i 1).val + 1)).im : ℝ) : EReal) : FVec Ideal S4x256x512 .f32) := (rest_136 _ _ (pw_left H)).2
theorem hb_left : StableHlo.after hostOps0_5 (StableHlo.after hostOps0_4 (StableHlo.after hostOps0_3 (StableHlo.after hostOps0_2 (StableHlo.after hostOps0_1 (StableHlo.after hostOps0 W))))) (Proc.devRef .tc main_v227) =
    (fun i => ((pr (i 4) (D.hb (i 0) (i 1) (i 3)) : ℝ) : EReal) : FVec Ideal S4x32x1x512x2 .f32) := by
  refine Eq.trans ?_ (at_227 _ (fun q l t => D.state (gl q l) (pl l) t) (states H) (c24 _))
  generalize StableHlo.after hostOps0_4 (StableHlo.after hostOps0_3 (StableHlo.after hostOps0_2 (StableHlo.after hostOps0_1 (StableHlo.after hostOps0 W)))) = V
  after_reads_simp
theorem entry_234 : rest (StableHlo.after hostOps0 W) (Proc.devRef .tc main_v234) = (fun i => (((D.hb (i 0) (i 1) (i 3)).re : ℝ) : EReal) : FVec Ideal S4x32x1x512 .f32) := (rest_227 _ D.hb (hb_left H)).1
theorem entry_236 : rest (StableHlo.after hostOps0 W) (Proc.devRef .tc main_v236) = (fun i => (((D.hb (i 0) (i 1) (i 3)).im : ℝ) : EReal) : FVec Ideal S4x32x1x512 .f32) := (rest_227 _ D.hb (hb_left H)).2
end Cert.S5
-- ==== Proof.S5Tile.lean ====
module
public import proofs.«01_k».proof.Proof.S5Ref
public import proofs.«01_k».proof.Proof.S5Ref
public import proofs.«01_k».proof.Proof.S5Ref
public import proofs.«01_k».proof.Proof.Ops
public import proofs.«01_k».proof.Proof.Gen.S5KernelIdeal.Skeleton
@[expose] public section
set_option maxRecDepth 16384
noncomputable section
open Idealize.ShloMosaic Idealize.ShloMosaic.TcCoe Idealize.SL.Sem
open ComplexConjugate
/-! What one grid point of the kernel computes: a chunk of 256 steps of 512 states, and their adjoints. -/
namespace Cert.S5
open Cert.S5KernelIdeal Cert.S5KernelIdeal.Gen
/-- A number for every state and every step of a chunk. -/
abbrev Fam := Fin 512 → ℕ → ℂ
/-- A part of every number, as the kernel lays it out. -/
def part (φ : ℂ → ℝ) (X : Fam) : FVec Ideal S256x512 .f32 := fun i => (φ (X (i 1) (i 0).val) : EReal)
abbrev re (X : Fam) : FVec Ideal S256x512 .f32 := part Complex.re X
abbrev im (X : Fam) : FVec Ideal S256x512 .f32 := part Complex.im X
/-- The parts of a number for every state. -/
def rr (a : Fin 512 → ℂ) : FVec Ideal S1x512 .f32 := fun i => ((a (i 1)).re : EReal)
def ri (a : Fin 512 → ℂ) : FVec Ideal S1x512 .f32 := fun i => ((a (i 1)).im : EReal)
/-- A real matrix. -/
def mt {m n : ℕ} (X : Fin m → Fin n → ℝ) : FVec Ideal ⟨2, ![m, n]⟩ .f32 := fun i => (X (i 0) (i 1) : EReal)
/-- Shifts down and up, zeros filled in. -/
def dn (k : ℕ) (X : Fam) : Fam := fun l t => if k ≤ t then X l (t - k) else 0
def upp (k : ℕ) (X : Fam) : Fam := fun l t => if t + k < 256 then X l (t + k) else 0
abbrev rowNo : IVec S256x512 32 := iota .tc S256x512 32 [0] iota_S256x512_d0_w32
abbrev zeros : FVec Ideal S256x512 .f32 := broadcast S256x512 (Scalar.ofBits .f32 0x00000000#32)
theorem dn_part (φ : ℂ → ℝ) (h0 : φ 0 = 0) (k : ℕ) (hk : k < 256) (X : Fam) :
    select (cmpi .sge rowNo (broadcast S256x512 (BitVec.ofNat 32 k))) (dynamicRotate 0 (BitVec.ofNat 32 k) none (part φ X) rotates_S256x512_d0) zeros = part φ (dn k X) := by
  funext i
  idx_vars i
  show (if cmpi .sge rowNo (broadcast S256x512 (BitVec.ofNat 32 k)) (ix2 i0 i1) = 1#1 then dynamicRotate 0 (BitVec.ofNat 32 k) none (part φ X) rotates_S256x512_d0 (ix2 i0 i1) else Ideal.ofBits .f32 0x00000000#32) = ((φ (dn k X i1 i0.val) : ℝ) : EReal)
  rw [Ops.sge_row k hk, Ops.rotate_row k hk, Ops.zero_bits, dn]
  have := i0.isLt
  by_cases h : k ≤ i0.val
  · rw [if_pos (if_pos h), if_pos h]
    show ((φ (X i1 ((i0.val + 256 - k) % 256)) : ℝ) : EReal) = _
    rw [show (i0.val + 256 - k) % 256 = i0.val - k by omega]
  · rw [if_neg (by rw [if_neg h]; decide), if_neg h, h0]
theorem dn_re (k : ℕ) (hk : k < 256) (X : Fam) :
    select (cmpi .sge rowNo (broadcast S256x512 (BitVec.ofNat 32 k))) (dynamicRotate 0 (BitVec.ofNat 32 k) none (re X) rotates_S256x512_d0) zeros = re (dn k X) := dn_part _ rfl k hk X
theorem dn_im (k : ℕ) (hk : k < 256) (X : Fam) :
    select (cmpi .sge rowNo (broadcast S256x512 (BitVec.ofNat 32 k))) (dynamicRotate 0 (BitVec.ofNat 32 k) none (im X) rotates_S256x512_d0) zeros = im (dn k X) := dn_part _ rfl k hk X
theorem up_part (φ : ℂ → ℝ) (h0 : φ 0 = 0) (k n : ℕ) (hk : k < 256) (hn : n + k = 256) (hk0 : 0 < k) (X : Fam) :
    select (cmpi .slt rowNo (broadcast S256x512 (BitVec.ofNat 32 n))) (dynamicRotate 0 (BitVec.ofNat 32 n) none (part φ X) rotates_S256x512_d0) zeros = part φ (upp k X) := by
  funext i
  idx_vars i
  refine (Ops.up_apply k n hk hn hk0 (part φ X) i0 i1).trans ?_
  show _ = ((φ (upp k X i1 i0.val) : ℝ) : EReal)
  rw [upp]
  by_cases h : i0.val + k < 256
  · rw [dif_pos h, if_pos h]; rfl
  · rw [dif_neg h, if_neg h, h0]; rfl
theorem up_re (k n : ℕ) (hk : k < 256) (hn : n + k = 256) (hk0 : 0 < k) (X : Fam) :
    select (cmpi .slt rowNo (broadcast S256x512 (BitVec.ofNat 32 n))) (dynamicRotate 0 (BitVec.ofNat 32 n) none (re X) rotates_S256x512_d0) zeros = re (upp k X) := up_part _ rfl k n hk hn hk0 X
theorem up_im (k n : ℕ) (hk : k < 256) (hn : n + k = 256) (hk0 : 0 < k) (X : Fam) :
    select (cmpi .slt rowNo (broadcast S256x512 (BitVec.ofNat 32 n))) (dynamicRotate 0 (BitVec.ofNat 32 n) none (im X) rotates_S256x512_d0) zeros = im (upp k X) := up_part _ rfl k n hk hn hk0 X
/-- Products with a number for every state. -/
theorem mulc_re (a : Fin 512 → ℂ) (Y : Fam) :
    subf (mulf (broadcastTo S256x512 (rr a) broadcasts_S1x512_S256x512) (re Y)) (mulf (broadcastTo S256x512 (ri a) broadcasts_S1x512_S256x512) (im Y)) = re fun l t => a l * Y l t := by
  funext i
  idx_vars i
  pointwise [part, rr, ri]
  rw [Complex.mul_re]; push_cast; rfl
theorem mulc_im (a : Fin 512 → ℂ) (Y : Fam) :
    addf (mulf (broadcastTo S256x512 (rr a) broadcasts_S1x512_S256x512) (im Y)) (mulf (broadcastTo S256x512 (ri a) broadcasts_S1x512_S256x512) (re Y)) = im fun l t => a l * Y l t := by
  funext i
  idx_vars i
  pointwise [part, rr, ri]
  rw [Complex.mul_im]; push_cast; rfl
theorem add_re (X Y : Fam) : addf (re X) (re Y) = re fun l t => X l t + Y l t := by
  funext i
  idx_vars i
  pointwise [part]
  rw [Complex.add_re]; push_cast; rfl
theorem add_im (X Y : Fam) : addf (im X) (im Y) = im fun l t => X l t + Y l t := by
  funext i
  idx_vars i
  pointwise [part]
  rw [Complex.add_im]; push_cast; rfl
/-- Powers of a number for every state. -/
abbrev pw (a : Fin 512 → ℂ) (k : ℕ) : Fin 512 → ℂ := fun l => a l ^ k
theorem sq_re (a : Fin 512 → ℂ) (k : ℕ) :
    subf (mulf (rr (pw a k)) (rr (pw a k))) (mulf (ri (pw a k)) (ri (pw a k))) = rr (pw a (k + k)) := by
  funext i
  idx_vars i
  pointwise [rr, ri]
  show _ = (((a i1 ^ (k + k)).re : ℝ) : EReal)
  rw [pow_add, Complex.mul_re]; push_cast; rfl
theorem sq_im (a : Fin 512 → ℂ) (k : ℕ) :
    addf (mulf (rr (pw a k)) (ri (pw a k))) (mulf (ri (pw a k)) (rr (pw a k))) = ri (pw a (k + k)) := by
  funext i
  idx_vars i
  pointwise [rr, ri]
  show _ = (((a i1 ^ (k + k)).im : ℝ) : EReal)
  rw [pow_add, Complex.mul_im]; push_cast; rfl
/-- The windows of the states … -/
def W (a : Fin 512 → ℂ) (f : Fam) (k : ℕ) : Fam := fun l t => win (a l) (f l) k t
/-- … and of the adjoints. -/
def RW (b : Fin 512 → ℂ) (e : Fam) (k : ℕ) : Fam := fun l t => rwin (b l) (e l) 256 k t
theorem lev (a : Fin 512 → ℂ) (f : Fam) (k : ℕ) : (fun l t => W a f k l t + pw a k l * dn k (W a f k) l t) = W a f (k + k) :=
  funext fun l => funext fun t => win_double (a l) (f l) k t
theorem rlev (b : Fin 512 → ℂ) (e : Fam) (k : ℕ) : (fun l t => RW b e k l t + pw b k l * upp k (RW b e k) l t) = RW b e (k + k) :=
  funext fun l => funext fun t => rwin_double (b l) (e l) 256 k t
theorem mulr_re (h : Fin 512 → ℂ) (P : Fam) :
    subf (mulf (re P) (broadcastTo S256x512 (rr h) broadcasts_S1x512_S256x512)) (mulf (im P) (broadcastTo S256x512 (ri h) broadcasts_S1x512_S256x512)) = re fun l t => P l t * h l := by
  funext i
  idx_vars i
  pointwise [part, rr, ri]
  rw [Complex.mul_re]; push_cast; rfl
theorem mulr_im (h : Fin 512 → ℂ) (P : Fam) :
    addf (mulf (re P) (broadcastTo S256x512 (ri h) broadcasts_S1x512_S256x512)) (mulf (im P) (broadcastTo S256x512 (rr h) broadcasts_S1x512_S256x512)) = im fun l t => P l t * h l := by
  funext i
  idx_vars i
  pointwise [part, rr, ri]
  rw [Complex.mul_im]; push_cast; rfl
abbrev cj (a : Fin 512 → ℂ) : Fin 512 → ℂ := fun l => conj (a l)
theorem rr_cj (a : Fin 512 → ℂ) : rr (pw a 1) = rr (pw (cj a) 1) := by
  funext i
  show (((a (i 1) ^ 1).re : ℝ) : EReal) = (((conj (a (i 1)) ^ 1).re : ℝ) : EReal)
  rw [pow_one, pow_one, Complex.conj_re]
theorem ri_cj (a : Fin 512 → ℂ) : k0_pay85 (ri (pw a 1)) = ri (pw (cj a) 1) := by
  funext i
  idx_vars i
  pointwise [k0_pay85, ri]
  show (0 : EReal) - (((a i1 ^ 1).im : ℝ) : EReal) = (((conj (a i1) ^ 1).im : ℝ) : EReal)
  rw [pow_one, pow_one, Complex.conj_im, EReal.coe_neg, zero_sub]
/-- What drives the states of a chunk … -/
def tf (U : Fin 256 → Fin 128 → ℝ) (BR BI : Fin 128 → Fin 512 → ℝ) : Fam := fun l t =>
  if h : t < 256 then ⟨∑ k, U ⟨t, h⟩ k * BR k l, ∑ k, U ⟨t, h⟩ k * BI k l⟩ else 0
/-- … what its cotangents ask of them … -/
def te (G : Fin 256 → Fin 128 → ℝ) (CR CI : Fin 512 → Fin 128 → ℝ) : Fam := fun l t =>
  if h : t < 256 then ⟨∑ c, G ⟨t, h⟩ c * CR l c, ∑ c, -G ⟨t, h⟩ c * CI l c⟩ else 0
/-- … and what the chunk after it sends back, to the last step. -/
def cf (dc : Fin 512 → ℂ) : Fam := fun l t => if t = 255 then dc l else 0
/-- All that is asked of the states of a chunk. -/
def ea (G : Fin 256 → Fin 128 → ℝ) (CR CI : Fin 512 → Fin 128 → ℝ) (dc : Fin 512 → ℂ) : Fam := fun l t => cf dc l t + te G CR CI l t
theorem part_congr (φ : ℂ → ℝ) (X Y : Fam) (h : ∀ l t, t < 256 → X l t = Y l t) : part φ X = part φ Y :=
  funext fun i => congrArg (fun z : ℂ => ((φ z : ℝ) : EReal)) (h _ _ (i 0).isLt)
theorem sumR {n : ℕ} (f g : Fin n → ℝ) : ∑ k, (f k : EReal) * (g k : EReal) = ((∑ k, f k * g k : ℝ) : EReal) := by
  rw [Ops.coe_sum']; exact Finset.sum_congr rfl fun k _ => (EReal.coe_mul _ _).symm
section
variable (a h : Fin 512 → ℂ) (U G : Fin 256 → Fin 128 → ℝ) (BR BI : Fin 128 → Fin 512 → ℝ) (CR CI : Fin 512 → Fin 128 → ℝ) (dc : Fin 512 → ℂ) (P f : Fam)
theorem W_one (l t) (ht : t < 256) : tf U BR BI l t = W a (tf U BR BI) 1 l t := (win_one _ _ _).symm
theorem b16 : k0_pay16 (mt U) (mt BR) = re (W a (tf U BR BI) 1) := by
  refine Eq.trans ?_ (part_congr Complex.re _ _ (W_one a U BR BI))
  funext i
  idx_vars i
  pointwise [k0_pay16, mt, part, tf]
  rw [sumR]
theorem b17 : k0_pay17 (mt U) (mt BI) = im (W a (tf U BR BI) 1) := by
  refine Eq.trans ?_ (part_congr Complex.im _ _ (W_one a U BR BI))
  funext i
  idx_vars i
  pointwise [k0_pay17, mt, part, tf]
  rw [sumR]
theorem q20 : k0_pay20 (mt U) (rr (pw a 1)) (ri (pw a 1)) (mt BR) (mt BI) = re (W a (tf U BR BI) 2) := by
  simp only [k0_pay20, k0_pay18, k0_pay19, b16 a U BR BI, b17 a U BR BI, dn_re 1 (by norm_num), dn_im 1 (by norm_num), mulc_re, mulc_im, add_re, add_im, lev, Nat.reduceAdd]
theorem q21 : k0_pay21 (mt U) (rr (pw a 1)) (ri (pw a 1)) (mt BR) (mt BI) = im (W a (tf U BR BI) 2) := by
  simp only [k0_pay21, k0_pay18, k0_pay19, b16 a U BR BI, b17 a U BR BI, dn_re 1 (by norm_num), dn_im 1 (by norm_num), mulc_re, mulc_im, add_re, add_im, lev, Nat.reduceAdd]
theorem q22 : k0_pay22 (rr (pw a 1)) (ri (pw a 1)) = rr (pw a 2) := by
  simp only [k0_pay22, sq_re, sq_im, Nat.reduceAdd]
theorem q23 : k0_pay23 (rr (pw a 1)) (ri (pw a 1)) = ri (pw a 2) := by
  simp only [k0_pay23, sq_re, sq_im, Nat.reduceAdd]
theorem q28 : k0_pay28 (re (W a f 2)) (im (W a f 2)) (rr (pw a 2)) (ri (pw a 2)) k0_pay24 2#32 = im (W a f 4) := by
  simp only [k0_pay28, k0_pay25, k0_pay26, k0_pay24, dn_re 2 (by norm_num), dn_im 2 (by norm_num), mulc_re, mulc_im, add_re, add_im, lev, Nat.reduceAdd]
theorem q29 : k0_pay29 (rr (pw a 2)) (ri (pw a 2)) = rr (pw a 4) := by
  simp only [k0_pay29, sq_re, sq_im, Nat.reduceAdd]
theorem q30 : k0_pay30 (rr (pw a 2)) (ri (pw a 2)) = ri (pw a 4) := by
  simp only [k0_pay30, sq_re, sq_im, Nat.reduceAdd]
theorem q33 : k0_pay33 (re (W a f 2)) (im (W a f 2)) (rr (pw a 2)) (ri (pw a 2)) k0_pay24 2#32 = im fun l t => pw a 4 l * dn 4 (W a f 4) l t := by
  simp only [k0_pay33, k0_pay25, k0_pay26, k0_pay27, k0_pay28, k0_pay29, k0_pay30, k0_pay31, k0_pay32, k0_pay24, dn_re 2 (by norm_num), dn_im 2 (by norm_num), dn_re 4 (by norm_num), dn_im 4 (by norm_num), sq_re, sq_im, mulc_re, mulc_im, add_re, add_im, lev, Nat.reduceAdd]
theorem q34 : k0_pay34 (re (W a f 2)) (im (W a f 2)) (rr (pw a 2)) (ri (pw a 2)) k0_pay24 2#32 = re (W a f 8) := by
  simp only [k0_pay34, k0_pay25, k0_pay26, k0_pay27, k0_pay28, k0_pay29, k0_pay30, k0_pay31, k0_pay32, k0_pay24, dn_re 2 (by norm_num), dn_im 2 (by norm_num), dn_re 4 (by norm_num), dn_im 4 (by norm_num), sq_re, sq_im, mulc_re, mulc_im, add_re, add_im, lev, Nat.reduceAdd]
theorem q40 : k0_pay40 (im (W a f 4)) (rr (pw a 4)) (ri (pw a 4)) (im fun l t => pw a 4 l * dn 4 (W a f 4) l t) (re (W a f 8)) = re (W a f 16) := by
  simp only [k0_pay40, k0_pay35, k0_pay36, k0_pay37, k0_pay38, k0_pay39, dn_re 8 (by norm_num), dn_im 8 (by norm_num), sq_re, sq_im, mulc_re, mulc_im, add_re, add_im, lev, Nat.reduceAdd]
theorem q41 : k0_pay41 (im (W a f 4)) (rr (pw a 4)) (ri (pw a 4)) (im fun l t => pw a 4 l * dn 4 (W a f 4) l t) (re (W a f 8)) = im (W a f 16) := by
  simp only [k0_pay41, k0_pay35, k0_pay36, k0_pay37, k0_pay38, k0_pay39, dn_re 8 (by norm_num), dn_im 8 (by norm_num), sq_re, sq_im, mulc_re, mulc_im, add_re, add_im, lev, Nat.reduceAdd]
theorem q42 : k0_pay42 (rr (pw a 4)) (ri (pw a 4)) = rr (pw a 16) := by
  simp only [k0_pay42, k0_pay36, k0_pay37, sq_re, sq_im, Nat.reduceAdd]
theorem q43 : k0_pay43 (rr (pw a 4)) (ri (pw a 4)) = ri (pw a 16) := by
  simp only [k0_pay43, k0_pay36, k0_pay37, sq_re, sq_im, Nat.reduceAdd]
theorem q44 : k0_pay44 (im (W a f 4)) (rr (pw a 4)) (ri (pw a 4)) (im fun l t => pw a 4 l * dn 4 (W a f 4) l t) (re (W a f 8)) = re (dn 16 (W a f 16)) := by
  simp only [k0_pay44, k0_pay35, k0_pay36, k0_pay37, k0_pay38, k0_pay39, k0_pay40, dn_re 8 (by norm_num), dn_im 8 (by norm_num), sq_re, sq_im, mulc_re, mulc_im, add_re, add_im, lev, Nat.reduceAdd, dn_re 16 (by norm_num), dn_im 16 (by norm_num)]
theorem q46 : k0_pay46 (im (W a f 4)) (rr (pw a 4)) (ri (pw a 4)) (im fun l t => pw a 4 l * dn 4 (W a f 4) l t) (re (W a f 8)) = dynamicRotate 0 16#32 none (im (W a f 16)) rotates_S256x512_d0 := by
  simp only [k0_pay46, k0_pay35, k0_pay36, k0_pay37, k0_pay38, k0_pay39, k0_pay41, dn_re 8 (by norm_num), dn_im 8 (by norm_num), sq_re, sq_im, mulc_re, mulc_im, add_re, add_im, lev, Nat.reduceAdd]
theorem q55 : k0_pay55 (re (W a f 16)) (im (W a f 16)) (rr (pw a 16)) (ri (pw a 16)) (re (dn 16 (W a f 16))) k0_pay45 (dynamicRotate 0 16#32 none (im (W a f 16)) rotates_S256x512_d0) (k0_pay47 (F := Ideal)) = re (W a f 64) := by
  simp only [k0_pay55, k0_pay48, k0_pay49, k0_pay50, k0_pay51, k0_pay52, k0_pay53, k0_pay54, k0_pay45, k0_pay47, dn_re 16 (by norm_num), dn_im 16 (by norm_num), dn_re 32 (by norm_num), dn_im 32 (by norm_num), sq_re, sq_im, mulc_re, mulc_im, add_re, add_im, lev, Nat.reduceAdd]
theorem q56 : k0_pay56 (re (W a f 16)) (im (W a f 16)) (rr (pw a 16)) (ri (pw a 16)) (re (dn 16 (W a f 16))) k0_pay45 (dynamicRotate 0 16#32 none (im (W a f 16)) rotates_S256x512_d0) (k0_pay47 (F := Ideal)) = im (W a f 64) := by
  simp only [k0_pay56, k0_pay48, k0_pay49, k0_pay50, k0_pay51, k0_pay52, k0_pay53, k0_pay54, k0_pay45, k0_pay47, dn_re 16 (by norm_num), dn_im 16 (by norm_num), dn_re 32 (by norm_num), dn_im 32 (by norm_num), sq_re, sq_im, mulc_re, mulc_im, add_re, add_im, lev, Nat.reduceAdd]
theorem q57 : k0_pay57 (rr (pw a 16)) (ri (pw a 16)) = rr (pw a 64) := by
  simp only [k0_pay57, k0_pay51, k0_pay52, sq_re, sq_im, Nat.reduceAdd]
theorem q58 : k0_pay58 (rr (pw a 16)) (ri (pw a 16)) = ri (pw a 64) := by
  simp only [k0_pay58, k0_pay51, k0_pay52, sq_re, sq_im, Nat.reduceAdd]
theorem q63 : k0_pay63 (re (W a f 64)) (im (W a f 64)) (rr (pw a 64)) (ri (pw a 64)) k0_pay59 64#32 = im (W a f 128) := by
  simp only [k0_pay63, k0_pay60, k0_pay61, k0_pay59, dn_re 64 (by norm_num), dn_im 64 (by norm_num), dn_re 128 (by norm_num), dn_im 128 (by norm_num), sq_re, sq_im, mulc_re, mulc_im, add_re, add_im, lev, Nat.reduceAdd]
theorem q68 : k0_pay68 (re (W a f 64)) (im (W a f 64)) (rr (pw a 64)) (ri (pw a 64)) k0_pay59 64#32 = im fun l t => pw a 128 l * dn 128 (W a f 128) l t := by
  simp only [k0_pay68, k0_pay60, k0_pay61, k0_pay62, k0_pay63, k0_pay64, k0_pay65, k0_pay66, k0_pay67, k0_pay59, dn_re 64 (by norm_num), dn_im 64 (by norm_num), dn_re 128 (by norm_num), dn_im 128 (by norm_num), sq_re, sq_im, mulc_re, mulc_im, add_re, add_im, lev, Nat.reduceAdd]
theorem q69 : k0_pay69 (re (W a f 64)) (im (W a f 64)) (rr (pw a 64)) (ri (pw a 64)) k0_pay59 64#32 = re (W a f 256) := by
  simp only [k0_pay69, k0_pay60, k0_pay61, k0_pay62, k0_pay63, k0_pay64, k0_pay65, k0_pay66, k0_pay67, k0_pay59, dn_re 64 (by norm_num), dn_im 64 (by norm_num), dn_re 128 (by norm_num), dn_im 128 (by norm_num), sq_re, sq_im, mulc_re, mulc_im, add_re, add_im, lev, Nat.reduceAdd]
/-- The states of a chunk, with what the chunk before left. -/
def hs (a h : Fin 512 → ℂ) (P f : Fam) : Fam := fun l t => W a f 256 l t + P l t * h l
theorem q70 : k0_pay70 (re P) (im P) (rr h) (ri h) (re (W a f 256)) = re (hs a h P f) := by
  simp only [k0_pay70, mulr_re, add_re]; rfl
theorem q79 : k0_pay79 (re P) (im P) (mt G) (rr h) (ri h) (im (W a f 128)) (im fun l t => pw a 128 l * dn 128 (W a f 128) l t) = mt fun l c => ∑ t : Fin 256, (hs a h P f l t.val).im * -G t c := by
  simp only [k0_pay79, mulr_im, add_im, lev, Nat.reduceAdd]
  funext i
  idx_vars i
  pointwise [k0_pay77, k0_pay73, mt, part, hs]
  simp only [zero_sub, ← EReal.coe_neg]
  exact sumR _ _
theorem eq_row (k : ℕ) (hk : k < 256) (t : Fin 256) (l : Fin 512) : cmpi .eq rowNo (broadcast S256x512 (BitVec.ofNat 32 k)) (ix2 t l) = if t.val = k then 1#1 else 0#1 := by
  pointwise
  have := t.isLt
  have e : (BitVec.ofNat 32 t.val == BitVec.ofNat 32 k) = decide (t.val = k) := by
    rw [Bool.eq_iff_iff, beq_iff_eq, decide_eq_true_iff]
    refine ⟨fun h => ?_, fun h => h ▸ rfl⟩
    have h' := congrArg BitVec.toNat h
    rw [BitVec.toNat_ofNat, BitVec.toNat_ofNat] at h'
    omega
  simp only [IntOp.cmpi, e]
  split_ifs with h
  · rw [decide_eq_true h]; rfl
  · rw [decide_eq_false h]; rfl
theorem carry_at (x : FVec Ideal S1x512 .f32) (t : Fin 256) (l : Fin 512) :
    select (cmpi .eq rowNo (broadcast S256x512 255#32)) (broadcastTo S256x512 (shapeCast S1x512 (multiReduction .add [0] S512 x 0x00000000#32 reduces_S1x512_S512 (.inl rfl) rfl) shapeCasts_S512_S1x512) broadcasts_S1x512_S256x512) zeros (ix2 t l) = if t.val = 255 then x (ix2 0 l) else 0 := by
  show (if cmpi .eq rowNo (broadcast S256x512 255#32) (ix2 t l) = 1#1 then _ else Ideal.ofBits .f32 0x00000000#32) = _
  rw [eq_row 255 (by norm_num), Ops.zero_bits]
  by_cases h : t.val = 255
  · rw [if_pos (if_pos h), if_pos h]
    pointwise
    rw [Fin.sum_univ_one]
  · rw [if_neg (by rw [if_neg h]; decide), if_neg h]; rfl
theorem q71 : k0_pay71 (ri dc) = im (cf dc) := by
  funext i
  idx_vars i
  refine (carry_at _ i0 i1).trans ?_
  show _ = (((cf dc i1 i0.val).im : ℝ) : EReal)
  rw [cf]
  split <;> rfl
theorem q72 : k0_pay72 (rr dc) = re (cf dc) := by
  funext i
  idx_vars i
  refine (carry_at _ i0 i1).trans ?_
  show _ = (((cf dc i1 i0.val).re : ℝ) : EReal)
  rw [cf]
  split <;> rfl
theorem q73 : k0_pay73 (mt G) = mt G := by
  funext i
  idx_vars i
  pointwise [k0_pay73]
theorem q76 : k0_pay76 (mt U) (mt G) = mt fun (_ : Fin 1) c => ∑ t, G t c * U t c := by
  funext i
  idx_vars i
  pointwise [k0_pay76, k0_pay74, mt]
  exact sumR _ _
theorem q78 : k0_pay78 (mt CI) (mt G) = im (te G CR CI) := by
  funext i
  idx_vars i
  pointwise [k0_pay78, k0_pay77, k0_pay73, mt, part, te]
  simp only [zero_sub, ← EReal.coe_neg]
  rw [sumR]
theorem E_one (b : Fin 512 → ℂ) (l t) (ht : t < 256) : ea G CR CI dc l t = RW b (ea G CR CI dc) 1 l t := (rwin_one _ _ ht).symm
theorem q80 : k0_pay80 (im (cf dc)) (im (te G CR CI)) = im (RW (cj a) (ea G CR CI dc) 1) := by
  refine Eq.trans ?_ (part_congr Complex.im _ _ (E_one G CR CI dc (cj a)))
  simp only [k0_pay80, add_im]; rfl
theorem te_re : (matmul dot_S256x128_S512x128_S256x512_1_1_0_0_n_n none (truncf .bf16 (mt G) bitsLt_bf16_f32 : FVec Ideal S256x128 .bf16) (truncf .bf16 (mt CR) bitsLt_bf16_f32 : FVec Ideal S512x128 .bf16) (constant S256x512 .f32 0x00000000#32) : FVec Ideal S256x512 .f32) = re (te G CR CI) := by
  funext i
  idx_vars i
  pointwise [mt, part, te]
  rw [sumR]
theorem q82 : k0_pay82 (mt CR) (re (cf dc)) (mt G) = re (RW (cj a) (ea G CR CI dc) 1) := by
  refine Eq.trans ?_ (part_congr Complex.re _ _ (E_one G CR CI dc (cj a)))
  simp only [k0_pay82, te_re G CR CI, add_re]; rfl
theorem q81 : k0_pay81 (re P) (mt G) = mt fun l c => ∑ t : Fin 256, (P l t.val).re * G t c := by
  funext i
  idx_vars i
  pointwise [k0_pay81, mt, part]
  exact sumR _ _
/-- What a chunk sends back. -/
def ob (P e : Fam) : Fin 512 → ℂ := fun l => ∑ t : Fin 256, conj (P l t.val) * e l t.val
theorem q84 : k0_pay84 (re P) (im P) (mt CR) (im (cf dc)) (re (cf dc)) (mt G) (im (te G CR CI)) = rr (ob P (RW (cj a) (ea G CR CI dc) 1)) := by
  rw [k0_pay84, q80 a, q82 a G CR CI]
  generalize RW (cj a) (ea G CR CI dc) 1 = e
  funext i
  idx_vars i
  pointwise [part, rr, ob]
  rw [sumR, sumR, ← EReal.coe_add, ← Finset.sum_add_distrib, re_sum]
  refine congrArg _ (Finset.sum_congr rfl fun t _ => ?_)
  rw [Complex.mul_re, Complex.conj_re, Complex.conj_im]; ring
theorem q83 : k0_pay83 (re P) (im P) (mt CR) (im (cf dc)) (re (cf dc)) (mt G) (im (te G CR CI)) = ri (ob P (RW (cj a) (ea G CR CI dc) 1)) := by
  rw [k0_pay83, q80 a, q82 a G CR CI]
  generalize RW (cj a) (ea G CR CI dc) 1 = e
  funext i
  idx_vars i
  pointwise [part, ri, ob]
  simp only [zero_sub, ← EReal.coe_neg]
  rw [sumR, sumR, ← EReal.coe_add, ← Finset.sum_add_distrib, im_sum]
  refine congrArg _ (Finset.sum_congr rfl fun t _ => ?_)
  rw [Complex.mul_im, Complex.conj_re, Complex.conj_im]; ring
theorem q86 : k0_pay86 (mt CR) (re (cf dc)) (mt G) = re (upp 1 (RW (cj a) (ea G CR CI dc) 1)) := by
  simp only [k0_pay86, q82 a G CR CI, up_re 1 255 (by norm_num) (by norm_num) (by norm_num), up_im 1 255 (by norm_num) (by norm_num) (by norm_num)]
theorem q88 : k0_pay88 (rr (pw a 1)) (ri (pw a 1)) (mt CR) (im (cf dc)) (re (cf dc)) (mt G) (im (te G CR CI)) = re fun l t => pw (cj a) 1 l * upp 1 (RW (cj a) (ea G CR CI dc) 1) l t := by
  simp only [k0_pay88, k0_pay86, k0_pay87, q82 a G CR CI, q80 a, rr_cj a, ri_cj a, up_re 1 255 (by norm_num) (by norm_num) (by norm_num), up_im 1 255 (by norm_num) (by norm_num) (by norm_num), mulc_re, mulc_im, add_re, add_im]
theorem q89 : k0_pay89 (rr (pw a 1)) (im (cf dc)) (im (te G CR CI)) = mulf (broadcastTo S256x512 (rr (pw (cj a) 1)) broadcasts_S1x512_S256x512) (im (upp 1 (RW (cj a) (ea G CR CI dc) 1))) := by
  simp only [k0_pay89, k0_pay87, q80 a, rr_cj a, up_re 1 255 (by norm_num) (by norm_num) (by norm_num), up_im 1 255 (by norm_num) (by norm_num) (by norm_num)]
theorem q90 : k0_pay90 (ri (pw a 1)) = (broadcastTo S256x512 (ri (pw (cj a) 1)) broadcasts_S1x512_S256x512) := by
  simp only [k0_pay90, ri_cj a]
end
section
variable (b : Fin 512 → ℂ) (e : Fam) (U : Fin 256 → Fin 128 → ℝ) (BR BI : Fin 128 → Fin 512 → ℝ) (x : FVec Ideal S256x128 .f32)
theorem q97 : k0_pay97 (rr (pw b 1)) (im (RW b e 1)) (re (RW b e 1)) (ri (pw b 1)) (re (upp 1 (RW b e 1))) (re fun l t => pw b 1 l * upp 1 (RW b e 1) l t) (mulf (broadcastTo S256x512 (rr (pw b 1)) broadcasts_S1x512_S256x512) (im (upp 1 (RW b e 1)))) (broadcastTo S256x512 (ri (pw b 1)) broadcasts_S1x512_S256x512) = re (RW b e 4) := by
  simp only [k0_pay97, k0_pay91, k0_pay92, k0_pay93, k0_pay94, k0_pay95, k0_pay96, up_re 1 255 (by norm_num) (by norm_num) (by norm_num), up_im 1 255 (by norm_num) (by norm_num) (by norm_num), up_re 2 254 (by norm_num) (by norm_num) (by norm_num), up_im 2 254 (by norm_num) (by norm_num) (by norm_num), up_re 4 252 (by norm_num) (by norm_num) (by norm_num), up_im 4 252 (by norm_num) (by norm_num) (by norm_num), sq_re, sq_im, mulc_re, mulc_im, add_re, add_im, rlev, Nat.reduceAdd]
theorem q98 : k0_pay98 (rr (pw b 1)) (im (RW b e 1)) (re (RW b e 1)) (ri (pw b 1)) (re (upp 1 (RW b e 1))) (re fun l t => pw b 1 l * upp 1 (RW b e 1) l t) (mulf (broadcastTo S256x512 (rr (pw b 1)) broadcasts_S1x512_S256x512) (im (upp 1 (RW b e 1)))) (broadcastTo S256x512 (ri (pw b 1)) broadcasts_S1x512_S256x512) = im (RW b e 4) := by
  simp only [k0_pay98, k0_pay91, k0_pay92, k0_pay93, k0_pay94, k0_pay95, k0_pay96, up_re 1 255 (by norm_num) (by norm_num) (by norm_num), up_im 1 255 (by norm_num) (by norm_num) (by norm_num), up_re 2 254 (by norm_num) (by norm_num) (by norm_num), up_im 2 254 (by norm_num) (by norm_num) (by norm_num), up_re 4 252 (by norm_num) (by norm_num) (by norm_num), up_im 4 252 (by norm_num) (by norm_num) (by norm_num), sq_re, sq_im, mulc_re, mulc_im, add_re, add_im, rlev, Nat.reduceAdd]
theorem q99 : k0_pay99 (rr (pw b 1)) (ri (pw b 1)) = rr (pw b 4) := by
  simp only [k0_pay99, k0_pay93, k0_pay94, sq_re, sq_im, Nat.reduceAdd]
theorem q100 : k0_pay100 (rr (pw b 1)) (ri (pw b 1)) = ri (pw b 4) := by
  simp only [k0_pay100, k0_pay93, k0_pay94, sq_re, sq_im, Nat.reduceAdd]
theorem q101 : k0_pay101 (rr (pw b 1)) (im (RW b e 1)) (re (RW b e 1)) (ri (pw b 1)) (re (upp 1 (RW b e 1))) (re fun l t => pw b 1 l * upp 1 (RW b e 1) l t) (mulf (broadcastTo S256x512 (rr (pw b 1)) broadcasts_S1x512_S256x512) (im (upp 1 (RW b e 1)))) (broadcastTo S256x512 (ri (pw b 1)) broadcasts_S1x512_S256x512) = re (upp 4 (RW b e 4)) := by
  simp only [k0_pay101, k0_pay91, k0_pay92, k0_pay93, k0_pay94, k0_pay95, k0_pay96, k0_pay97, up_re 1 255 (by norm_num) (by norm_num) (by norm_num), up_im 1 255 (by norm_num) (by norm_num) (by norm_num), up_re 2 254 (by norm_num) (by norm_num) (by norm_num), up_im 2 254 (by norm_num) (by norm_num) (by norm_num), up_re 4 252 (by norm_num) (by norm_num) (by norm_num), up_im 4 252 (by norm_num) (by norm_num) (by norm_num), sq_re, sq_im, mulc_re, mulc_im, add_re, add_im, rlev, Nat.reduceAdd]
theorem q110 : k0_pay110 (re (RW b e 4)) (im (RW b e 4)) (rr (pw b 4)) (ri (pw b 4)) (re (upp 4 (RW b e 4))) k0_pay102 252#32 = re (RW b e 16) := by
  simp only [k0_pay110, k0_pay103, k0_pay104, k0_pay105, k0_pay106, k0_pay107, k0_pay108, k0_pay109, k0_pay102, up_re 4 252 (by norm_num) (by norm_num) (by norm_num), up_im 4 252 (by norm_num) (by norm_num) (by norm_num), up_re 8 248 (by norm_num) (by norm_num) (by norm_num), up_im 8 248 (by norm_num) (by norm_num) (by norm_num), up_re 16 240 (by norm_num) (by norm_num) (by norm_num), up_im 16 240 (by norm_num) (by norm_num) (by norm_num), sq_re, sq_im, mulc_re, mulc_im, add_re, add_im, rlev, Nat.reduceAdd]
theorem q111 : k0_pay111 (re (RW b e 4)) (im (RW b e 4)) (rr (pw b 4)) (ri (pw b 4)) (re (upp 4 (RW b e 4))) k0_pay102 252#32 = im (RW b e 16) := by
  simp only [k0_pay111, k0_pay103, k0_pay104, k0_pay105, k0_pay106, k0_pay107, k0_pay108, k0_pay109, k0_pay102, up_re 4 252 (by norm_num) (by norm_num) (by norm_num), up_im 4 252 (by norm_num) (by norm_num) (by norm_num), up_re 8 248 (by norm_num) (by norm_num) (by norm_num), up_im 8 248 (by norm_num) (by norm_num) (by norm_num), up_re 16 240 (by norm_num) (by norm_num) (by norm_num), up_im 16 240 (by norm_num) (by norm_num) (by norm_num), sq_re, sq_im, mulc_re, mulc_im, add_re, add_im, rlev, Nat.reduceAdd]
theorem q112 : k0_pay112 (rr (pw b 4)) (ri (pw b 4)) = rr (pw b 16) := by
  simp only [k0_pay112, k0_pay106, k0_pay107, sq_re, sq_im, Nat.reduceAdd]
theorem q113 : k0_pay113 (rr (pw b 4)) (ri (pw b 4)) = ri (pw b 16) := by
  simp only [k0_pay113, k0_pay106, k0_pay107, sq_re, sq_im, Nat.reduceAdd]
theorem q116 : k0_pay116 (re (RW b e 16)) (im (RW b e 16)) (rr (pw b 16)) (ri (pw b 16)) rowNo 240#32 = re (RW b e 32) := by
  simp only [k0_pay116, k0_pay114, k0_pay115, up_re 16 240 (by norm_num) (by norm_num) (by norm_num), up_im 16 240 (by norm_num) (by norm_num) (by norm_num), up_re 32 224 (by norm_num) (by norm_num) (by norm_num), up_im 32 224 (by norm_num) (by norm_num) (by norm_num), sq_re, sq_im, mulc_re, mulc_im, add_re, add_im, rlev, Nat.reduceAdd]
theorem q117 : k0_pay117 (re (RW b e 16)) (im (RW b e 16)) (rr (pw b 16)) (ri (pw b 16)) rowNo 240#32 = im (RW b e 32) := by
  simp only [k0_pay117, k0_pay114, k0_pay115, up_re 16 240 (by norm_num) (by norm_num) (by norm_num), up_im 16 240 (by norm_num) (by norm_num) (by norm_num), up_re 32 224 (by norm_num) (by norm_num) (by norm_num), up_im 32 224 (by norm_num) (by norm_num) (by norm_num), sq_re, sq_im, mulc_re, mulc_im, add_re, add_im, rlev, Nat.reduceAdd]
theorem q118 : k0_pay118 (rr (pw b 16)) (ri (pw b 16)) = rr (pw b 32) := by
  simp only [k0_pay118, sq_re, sq_im, Nat.reduceAdd]
theorem q119 : k0_pay119 (rr (pw b 16)) (ri (pw b 16)) = ri (pw b 32) := by
  simp only [k0_pay119, sq_re, sq_im, Nat.reduceAdd]
theorem q120 : k0_pay120 (re (RW b e 16)) (im (RW b e 16)) (rr (pw b 16)) (ri (pw b 16)) rowNo 240#32 = re (upp 32 (RW b e 32)) := by
  simp only [k0_pay120, k0_pay114, k0_pay115, k0_pay116, up_re 16 240 (by norm_num) (by norm_num) (by norm_num), up_im 16 240 (by norm_num) (by norm_num) (by norm_num), up_re 32 224 (by norm_num) (by norm_num) (by norm_num), up_im 32 224 (by norm_num) (by norm_num) (by norm_num), sq_re, sq_im, mulc_re, mulc_im, add_re, add_im, rlev, Nat.reduceAdd]
theorem q122 : k0_pay122 (re (RW b e 16)) (im (RW b e 16)) (rr (pw b 16)) (ri (pw b 16)) rowNo 240#32 = re fun l t => pw b 32 l * upp 32 (RW b e 32) l t := by
  simp only [k0_pay122, k0_pay114, k0_pay115, k0_pay116, k0_pay117, k0_pay118, k0_pay119, k0_pay120, k0_pay121, up_re 16 240 (by norm_num) (by norm_num) (by norm_num), up_im 16 240 (by norm_num) (by norm_num) (by norm_num), up_re 32 224 (by norm_num) (by norm_num) (by norm_num), up_im 32 224 (by norm_num) (by norm_num) (by norm_num), sq_re, sq_im, mulc_re, mulc_im, add_re, add_im, rlev, Nat.reduceAdd]
theorem q123 : k0_pay123 (re (RW b e 16)) (im (RW b e 16)) (rr (pw b 16)) (ri (pw b 16)) rowNo 240#32 = mulf (broadcastTo S256x512 (rr (pw b 32)) broadcasts_S1x512_S256x512) (im (upp 32 (RW b e 32))) := by
  simp only [k0_pay123, k0_pay114, k0_pay115, k0_pay117, k0_pay118, k0_pay121, up_re 16 240 (by norm_num) (by norm_num) (by norm_num), up_im 16 240 (by norm_num) (by norm_num) (by norm_num), up_re 32 224 (by norm_num) (by norm_num) (by norm_num), up_im 32 224 (by norm_num) (by norm_num) (by norm_num), sq_re, sq_im, mulc_re, mulc_im, add_re, add_im, rlev, Nat.reduceAdd]
theorem q124 : k0_pay124 (rr (pw b 16)) (ri (pw b 16)) = (broadcastTo S256x512 (ri (pw b 32)) broadcasts_S1x512_S256x512) := by
  simp only [k0_pay124, k0_pay119, sq_re, sq_im, Nat.reduceAdd]
theorem q131 : k0_pay131 (re (RW b e 32)) (im (RW b e 32)) (rr (pw b 32)) (ri (pw b 32)) (re (upp 32 (RW b e 32))) (re fun l t => pw b 32 l * upp 32 (RW b e 32) l t) (mulf (broadcastTo S256x512 (rr (pw b 32)) broadcasts_S1x512_S256x512) (im (upp 32 (RW b e 32)))) (broadcastTo S256x512 (ri (pw b 32)) broadcasts_S1x512_S256x512) = re (RW b e 128) := by
  simp only [k0_pay131, k0_pay125, k0_pay126, k0_pay127, k0_pay128, k0_pay129, k0_pay130, up_re 32 224 (by norm_num) (by norm_num) (by norm_num), up_im 32 224 (by norm_num) (by norm_num) (by norm_num), up_re 64 192 (by norm_num) (by norm_num) (by norm_num), up_im 64 192 (by norm_num) (by norm_num) (by norm_num), up_re 128 128 (by norm_num) (by norm_num) (by norm_num), up_im 128 128 (by norm_num) (by norm_num) (by norm_num), sq_re, sq_im, mulc_re, mulc_im, add_re, add_im, rlev, Nat.reduceAdd]
theorem q132 : k0_pay132 (re (RW b e 32)) (im (RW b e 32)) (rr (pw b 32)) (ri (pw b 32)) (re (upp 32 (RW b e 32))) (re fun l t => pw b 32 l * upp 32 (RW b e 32) l t) (mulf (broadcastTo S256x512 (rr (pw b 32)) broadcasts_S1x512_S256x512) (im (upp 32 (RW b e 32)))) (broadcastTo S256x512 (ri (pw b 32)) broadcasts_S1x512_S256x512) = im (RW b e 128) := by
  simp only [k0_pay132, k0_pay125, k0_pay126, k0_pay127, k0_pay128, k0_pay129, k0_pay130, up_re 32 224 (by norm_num) (by norm_num) (by norm_num), up_im 32 224 (by norm_num) (by norm_num) (by norm_num), up_re 64 192 (by norm_num) (by norm_num) (by norm_num), up_im 64 192 (by norm_num) (by norm_num) (by norm_num), up_re 128 128 (by norm_num) (by norm_num) (by norm_num), up_im 128 128 (by norm_num) (by norm_num) (by norm_num), sq_re, sq_im, mulc_re, mulc_im, add_re, add_im, rlev, Nat.reduceAdd]
theorem q133 : k0_pay133 (rr (pw b 32)) (ri (pw b 32)) = rr (pw b 128) := by
  simp only [k0_pay133, k0_pay127, k0_pay128, sq_re, sq_im, Nat.reduceAdd]
theorem q134 : k0_pay134 (rr (pw b 32)) (ri (pw b 32)) = ri (pw b 128) := by
  simp only [k0_pay134, k0_pay127, k0_pay128, sq_re, sq_im, Nat.reduceAdd]
theorem q135 : k0_pay135 (re (RW b e 32)) (im (RW b e 32)) (rr (pw b 32)) (ri (pw b 32)) (re (upp 32 (RW b e 32))) (re fun l t => pw b 32 l * upp 32 (RW b e 32) l t) (mulf (broadcastTo S256x512 (rr (pw b 32)) broadcasts_S1x512_S256x512) (im (upp 32 (RW b e 32)))) (broadcastTo S256x512 (ri (pw b 32)) broadcasts_S1x512_S256x512) = re (upp 128 (RW b e 128)) := by
  simp only [k0_pay135, k0_pay125, k0_pay126, k0_pay127, k0_pay128, k0_pay129, k0_pay130, k0_pay131, up_re 32 224 (by norm_num) (by norm_num) (by norm_num), up_im 32 224 (by norm_num) (by norm_num) (by norm_num), up_re 64 192 (by norm_num) (by norm_num) (by norm_num), up_im 64 192 (by norm_num) (by norm_num) (by norm_num), up_re 128 128 (by norm_num) (by norm_num) (by norm_num), up_im 128 128 (by norm_num) (by norm_num) (by norm_num), sq_re, sq_im, mulc_re, mulc_im, add_re, add_im, rlev, Nat.reduceAdd]
theorem q138 : k0_pay138 (re (RW b e 128)) (im (RW b e 128)) (rr (pw b 128)) (ri (pw b 128)) (re (upp 128 (RW b e 128))) k0_pay136 128#32 = re (RW b e 256) := by
  simp only [k0_pay138, k0_pay137, k0_pay136, up_re 128 128 (by norm_num) (by norm_num) (by norm_num), up_im 128 128 (by norm_num) (by norm_num) (by norm_num), mulc_re, mulc_im, add_re, add_im, rlev, Nat.reduceAdd]
theorem q139 : k0_pay139 (im (RW b e 128)) (rr (pw b 128)) (ri (pw b 128)) (re (upp 128 (RW b e 128))) k0_pay136 128#32 = im (RW b e 256) := by
  simp only [k0_pay139, k0_pay137, k0_pay136, up_re 128 128 (by norm_num) (by norm_num) (by norm_num), up_im 128 128 (by norm_num) (by norm_num) (by norm_num), mulc_re, mulc_im, add_re, add_im, rlev, Nat.reduceAdd]
theorem q140 : k0_pay140 (mt U) (im (RW b e 128)) (rr (pw b 128)) (ri (pw b 128)) (re (upp 128 (RW b e 128))) k0_pay136 128#32 = mt fun k l => ∑ t : Fin 256, U t k * (RW b e 256 l t.val).im := by
  rw [k0_pay140, q139]
  funext i
  idx_vars i
  pointwise [mt, part]
  exact sumR _ _
theorem q141 : k0_pay141 (mt U) (re (RW b e 128)) (im (RW b e 128)) (rr (pw b 128)) (ri (pw b 128)) (re (upp 128 (RW b e 128))) k0_pay136 128#32 = mt fun k l => ∑ t : Fin 256, U t k * (RW b e 256 l t.val).re := by
  rw [k0_pay141, q138]
  funext i
  idx_vars i
  pointwise [mt, part]
  exact sumR _ _
theorem q142 (t : Fin 256) (c : Fin 128) : k0_pay142 (mt BR) (mt BI) x (re (RW b e 128)) (im (RW b e 128)) (rr (pw b 128)) (ri (pw b 128)) (re (upp 128 (RW b e 128))) k0_pay136 128#32 (ix2 t c) = x (ix2 t c) + ((∑ l, (RW b e 256 l t.val).im * BI c l : ℝ) : EReal) + ((∑ l, (RW b e 256 l t.val).re * BR c l : ℝ) : EReal) := by
  rw [k0_pay142, q138, q139]
  pointwise [mt, part]
  rw [sumR, sumR]
end
end Cert.S5
-- ==== Proof.S5Step.lean ====
module
public import proofs.«01_k».proof.Proof.S5Entry
public import proofs.«01_k».proof.Proof.S5Tile
public import Idealize.ShloMosaic.Lib.Pipeline.ReadBack
public import proofs.«01_k».proof.Proof.Gen.S5KernelIdeal.Frame
@[expose] public section
set_option maxRecDepth 16384
noncomputable section
open Idealize.ShloMosaic Idealize.ShloMosaic.TcCoe Idealize.SL.Sem
open ComplexConjugate
/-! One grid point of the kernel: its tiles, and what it leaves. -/
namespace Cert.S5
open Cert.S5KernelIdeal Cert.S5KernelIdeal.Gen
variable (m : (ℓ : Loc nD τ sig) → Buf (Elt Ideal) ℓ)
theorem idx : ∀ t : Fin cfg0.N, win0_0.index t = ![31 - t.val % 32, 36 + t.val / 32] ∧ win0_1.index t = ![t.val / 32, 0, 0] ∧ win0_2.index t = ![t.val / 32, 0, 0] ∧
    win0_3.index t = ![t.val / 32, 0, 0] ∧ win0_4.index t = ![t.val / 32, 0, 0] ∧ win0_5.index t = ![t.val / 32, 0, 0] ∧ win0_6.index t = ![t.val / 32, 0, 0] ∧
    win0_7.index t = ![t.val / 32, 0, 0] ∧ win0_8.index t = ![t.val / 32, 0, 0] ∧ win0_9.index t = ![0, t.val / 32] ∧ win0_10.index t = ![31 - t.val % 32, t.val / 32] ∧
    win0_11.index t = ![t.val / 32, 31 - t.val % 32, 0, 0] ∧ win0_12.index t = ![t.val / 32, 31 - t.val % 32, 0, 0] ∧ win0_13.index t = ![31 - t.val % 32, 36 + t.val / 32] ∧
    win0_14.index t = ![t.val / 32, 0, 0] ∧ win0_15.index t = ![t.val / 32, 0, 0] ∧ win0_16.index t = ![t.val / 32, 0, 0] ∧ win0_17.index t = ![t.val / 32, 0, 0] ∧ win0_18.index t = ![0, t.val / 32] :=
  (by decide +kernel : ∀ t : Fin grid0.N, _)
theorem lt128 (t : Fin cfg0.N) : t.val < 128 := by have := t.isLt; have : cfg0.N = 128 := N_0; omega
/-- The block of a grid point, -/
abbrev qq (t : Fin cfg0.N) : Fin 4 := ⟨t.val / 32, by have := lt128 t; omega⟩
/-- its chunk of time, -/
abbrev ck (t : Fin cfg0.N) : Fin 32 := ⟨31 - t.val % 32, by omega⟩
/-- and a step of a chunk. -/
abbrev tm (s : Fin 32) (r : Fin 256) : Fin 8192 := ⟨s.val * 256 + r.val, by omega⟩
variable (D : Data) (d : FVec Ideal S32x16 .f32)
/-- The input and the cotangent of a chunk. -/
def Data.ut (q : Fin 4) (s : Fin 32) : Fin 256 → Fin 128 → ℝ := fun r k => D.u (tm s r) (kc q k)
def Data.gt (q : Fin 4) (s : Fin 32) : Fin 256 → Fin 128 → ℝ := fun r k => D.gy (tm s r) (kc q k)
/-- The powers of the rates. -/
def Data.pws (q : Fin 4) : Fam := fun l t => D.ra q l ^ (t + 1)
/-- The states of a chunk, -/
def Data.hc (q : Fin 4) (s : Fin 32) : Fam := hs (D.ra q) (D.hb q s) (D.pws q) (tf (D.ut q s) (D.brk q) (D.bik q))
/-- its adjoints, from what the next chunk asks, -/
def Data.ac (q : Fin 4) (s : Fin 32) (dc : Fin 512 → ℂ) : Fam := RW (cj (D.ra q)) (ea (D.gt q s) (D.crk q) (D.cik q) dc) 256
/-- and what it asks of the chunk before. -/
def Data.oc (q : Fin 4) (s : Fin 32) (dc : Fin 512 → ℂ) : Fin 512 → ℂ := ob (D.pws q) (RW (cj (D.ra q)) (ea (D.gt q s) (D.crk q) (D.cik q) dc) 1)
/-- The gradient of a chunk's input. -/
def duT (q : Fin 4) (s : Fin 32) (dc : Fin 512 → ℂ) : FVec Ideal S256x128 .f32 := fun i =>
  d (ix2 (gOf (kc q (i 1))) (cOf (kc q (i 1)))) * (D.gt q s (i 0) (i 1) : EReal) + ((∑ l, (D.ac q s dc l (i 0).val).im * D.bik q (i 1) l : ℝ) : EReal) + ((∑ l, (D.ac q s dc l (i 0).val).re * D.brk q (i 1) l : ℝ) : EReal)
variable {D d} {m} (c : Dev nD) (H : Holds D d fun b => m (c, b)) (t : Fin cfg0.N)
include H
theorem arr_v14 : V0 m c (Proc.devRef .tc main_v14) = (fun i => ((D.brk (i 0) (i 1) (i 2) : ℝ) : EReal) : FVec Ideal S4x128x512 .f32) := (congrFun (all_of _) _).trans (entry_14 H)
theorem arr_v29 : V0 m c (Proc.devRef .tc main_v29) = (fun i => ((D.bik (i 0) (i 1) (i 2) : ℝ) : EReal) : FVec Ideal S4x128x512 .f32) := (congrFun (all_of _) _).trans (entry_29 H)
theorem arr_v44 : V0 m c (Proc.devRef .tc main_v44) = (fun i => ((D.crk (i 0) (i 1) (i 2) : ℝ) : EReal) : FVec Ideal S4x512x128 .f32) := (congrFun (all_of _) _).trans (entry_44 H)
theorem arr_v59 : V0 m c (Proc.devRef .tc main_v59) = (fun i => ((D.cik (i 0) (i 1) (i 2) : ℝ) : EReal) : FVec Ideal S4x512x128 .f32) := (congrFun (all_of _) _).trans (entry_59 H)
theorem arr_v71 : V0 m c (Proc.devRef .tc main_v71) = (fun i => ((D.ra (i 0) (i 2)).re : EReal) : FVec Ideal S4x1x512 .f32) := (congrFun (all_of _) _).trans (entry_71 H)
theorem arr_v75 : V0 m c (Proc.devRef .tc main_v75) = (fun i => ((D.ra (i 0) (i 2)).im : EReal) : FVec Ideal S4x1x512 .f32) := (congrFun (all_of _) _).trans (entry_75 H)
theorem arr_v60 : V0 m c (Proc.devRef .tc main_v60) = (fun i => d (ix2 (gOf (i 1)) (cOf (i 1))) : FVec Ideal S1x512 .f32) := (congrFun (all_of _) _).trans (entry_60 H)
theorem arr_v230 : V0 m c (Proc.devRef .tc main_v230) = (fun i => (((D.ra (i 0) (i 2) ^ ((i 1).val + 1)).re : ℝ) : EReal) : FVec Ideal S4x256x512 .f32) := (congrFun (all_of _) _).trans (entry_230 H)
theorem arr_v232 : V0 m c (Proc.devRef .tc main_v232) = (fun i => (((D.ra (i 0) (i 2) ^ ((i 1).val + 1)).im : ℝ) : EReal) : FVec Ideal S4x256x512 .f32) := (congrFun (all_of _) _).trans (entry_232 H)
theorem arr_v234 : V0 m c (Proc.devRef .tc main_v234) = (fun i => (((D.hb (i 0) (i 1) (i 3)).re : ℝ) : EReal) : FVec Ideal S4x32x1x512 .f32) := (congrFun (all_of _) _).trans (entry_234 H)
theorem arr_v236 : V0 m c (Proc.devRef .tc main_v236) = (fun i => (((D.hb (i 0) (i 1) (i 3)).im : ℝ) : EReal) : FVec Ideal S4x32x1x512 .f32) := (congrFun (all_of _) _).trans (entry_236 H)
theorem arr_arg9 : V0 m c (Proc.devRef .tc main_arg9) = D.x9 := (congrFun (all_of _) _).trans (entry_arg9 H)
theorem tile_1 : k0_pay3 (iblk m c 1 t) = rr (pw (D.ra (qq t)) 1) := by
  have b : ∀ (l : Fin 512), iblk m c 1 t (ix3 0 0 l) = ((fun i => ((D.ra (i 0) (i 2)).re : EReal) : FVec Ideal S4x1x512 .f32) : FVec Ideal S4x1x512 .f32) (ix3 (qq t) 0 l) := fun l => by
    have e : ((View.whole main_v71).slice (win0_1.rect t)).emb (ix3 0 0 l) = (ix3 (qq t) 0 l : S4x1x512.Idx) := by
      blk_ext [idx t]
    blk_simp [iblk, idx t]
    exact (congrFun (arr_v71 c H) _).trans (congrArg ((fun i => ((D.ra (i 0) (i 2)).re : EReal) : FVec Ideal S4x1x512 .f32) : FVec Ideal S4x1x512 .f32) e)
  funext i
  idx_vars i
  pointwise [k0_pay3, b]
  show _ = (((D.ra (qq t) i1 ^ 1).re : ℝ) : EReal)
  rw [pow_one]
theorem tile_2 : k0_pay4 (iblk m c 2 t) = ri (pw (D.ra (qq t)) 1) := by
  have b : ∀ (l : Fin 512), iblk m c 2 t (ix3 0 0 l) = ((fun i => ((D.ra (i 0) (i 2)).im : EReal) : FVec Ideal S4x1x512 .f32) : FVec Ideal S4x1x512 .f32) (ix3 (qq t) 0 l) := fun l => by
    have e : ((View.whole main_v75).slice (win0_2.rect t)).emb (ix3 0 0 l) = (ix3 (qq t) 0 l : S4x1x512.Idx) := by
      blk_ext [idx t]
    blk_simp [iblk, idx t]
    exact (congrFun (arr_v75 c H) _).trans (congrArg ((fun i => ((D.ra (i 0) (i 2)).im : EReal) : FVec Ideal S4x1x512 .f32) : FVec Ideal S4x1x512 .f32) e)
  funext i
  idx_vars i
  pointwise [k0_pay4, b]
  show _ = (((D.ra (qq t) i1 ^ 1).im : ℝ) : EReal)
  rw [pow_one]
theorem tile_3 : k0_pay5 (iblk m c 3 t) = mt (D.brk (qq t)) := by
  have b : ∀ (k : Fin 128) (l : Fin 512), iblk m c 3 t (ix3 0 k l) = ((fun i => ((D.brk (i 0) (i 1) (i 2) : ℝ) : EReal) : FVec Ideal S4x128x512 .f32) : FVec Ideal S4x128x512 .f32) (ix3 (qq t) k l) := fun k l => by
    have e : ((View.whole main_v14).slice (win0_3.rect t)).emb (ix3 0 k l) = (ix3 (qq t) k l : S4x128x512.Idx) := by
      blk_ext [idx t]
    blk_simp [iblk, idx t]
    exact (congrFun (arr_v14 c H) _).trans (congrArg ((fun i => ((D.brk (i 0) (i 1) (i 2) : ℝ) : EReal) : FVec Ideal S4x128x512 .f32) : FVec Ideal S4x128x512 .f32) e)
  funext i
  idx_vars i
  pointwise [k0_pay5, b]
  rfl
theorem tile_4 : k0_pay6 (iblk m c 4 t) = mt (D.bik (qq t)) := by
  have b : ∀ (k : Fin 128) (l : Fin 512), iblk m c 4 t (ix3 0 k l) = ((fun i => ((D.bik (i 0) (i 1) (i 2) : ℝ) : EReal) : FVec Ideal S4x128x512 .f32) : FVec Ideal S4x128x512 .f32) (ix3 (qq t) k l) := fun k l => by
    have e : ((View.whole main_v29).slice (win0_4.rect t)).emb (ix3 0 k l) = (ix3 (qq t) k l : S4x128x512.Idx) := by
      blk_ext [idx t]
    blk_simp [iblk, idx t]
    exact (congrFun (arr_v29 c H) _).trans (congrArg ((fun i => ((D.bik (i 0) (i 1) (i 2) : ℝ) : EReal) : FVec Ideal S4x128x512 .f32) : FVec Ideal S4x128x512 .f32) e)
  funext i
  idx_vars i
  pointwise [k0_pay6, b]
  rfl
theorem tile_5 : k0_pay7 (iblk m c 5 t) = re (D.pws (qq t)) := by
  have b : ∀ (r : Fin 256) (l : Fin 512), iblk m c 5 t (ix3 0 r l) = ((fun i => (((D.ra (i 0) (i 2) ^ ((i 1).val + 1)).re : ℝ) : EReal) : FVec Ideal S4x256x512 .f32) : FVec Ideal S4x256x512 .f32) (ix3 (qq t) r l) := fun r l => by
    have e : ((View.whole main_v230).slice (win0_5.rect t)).emb (ix3 0 r l) = (ix3 (qq t) r l : S4x256x512.Idx) := by
      blk_ext [idx t]
    blk_simp [iblk, idx t]
    exact (congrFun (arr_v230 c H) _).trans (congrArg ((fun i => (((D.ra (i 0) (i 2) ^ ((i 1).val + 1)).re : ℝ) : EReal) : FVec Ideal S4x256x512 .f32) : FVec Ideal S4x256x512 .f32) e)
  funext i
  idx_vars i
  pointwise [k0_pay7, b]
  rfl
theorem tile_6 : k0_pay8 (iblk m c 6 t) = im (D.pws (qq t)) := by
  have b : ∀ (r : Fin 256) (l : Fin 512), iblk m c 6 t (ix3 0 r l) = ((fun i => (((D.ra (i 0) (i 2) ^ ((i 1).val + 1)).im : ℝ) : EReal) : FVec Ideal S4x256x512 .f32) : FVec Ideal S4x256x512 .f32) (ix3 (qq t) r l) := fun r l => by
    have e : ((View.whole main_v232).slice (win0_6.rect t)).emb (ix3 0 r l) = (ix3 (qq t) r l : S4x256x512.Idx) := by
      blk_ext [idx t]
    blk_simp [iblk, idx t]
    exact (congrFun (arr_v232 c H) _).trans (congrArg ((fun i => (((D.ra (i 0) (i 2) ^ ((i 1).val + 1)).im : ℝ) : EReal) : FVec Ideal S4x256x512 .f32) : FVec Ideal S4x256x512 .f32) e)
  funext i
  idx_vars i
  pointwise [k0_pay8, b]
  rfl
theorem tile_7 : k0_pay9 (iblk m c 7 t) = mt (D.crk (qq t)) := by
  have b : ∀ (l : Fin 512) (k : Fin 128), iblk m c 7 t (ix3 0 l k) = ((fun i => ((D.crk (i 0) (i 1) (i 2) : ℝ) : EReal) : FVec Ideal S4x512x128 .f32) : FVec Ideal S4x512x128 .f32) (ix3 (qq t) l k) := fun l k => by
    have e : ((View.whole main_v44).slice (win0_7.rect t)).emb (ix3 0 l k) = (ix3 (qq t) l k : S4x512x128.Idx) := by
      blk_ext [idx t]
    blk_simp [iblk, idx t]
    exact (congrFun (arr_v44 c H) _).trans (congrArg ((fun i => ((D.crk (i 0) (i 1) (i 2) : ℝ) : EReal) : FVec Ideal S4x512x128 .f32) : FVec Ideal S4x512x128 .f32) e)
  funext i
  idx_vars i
  pointwise [k0_pay9, b]
  rfl
theorem tile_8 : k0_pay10 (iblk m c 8 t) = mt (D.cik (qq t)) := by
  have b : ∀ (l : Fin 512) (k : Fin 128), iblk m c 8 t (ix3 0 l k) = ((fun i => ((D.cik (i 0) (i 1) (i 2) : ℝ) : EReal) : FVec Ideal S4x512x128 .f32) : FVec Ideal S4x512x128 .f32) (ix3 (qq t) l k) := fun l k => by
    have e : ((View.whole main_v59).slice (win0_8.rect t)).emb (ix3 0 l k) = (ix3 (qq t) l k : S4x512x128.Idx) := by
      blk_ext [idx t]
    blk_simp [iblk, idx t]
    exact (congrFun (arr_v59 c H) _).trans (congrArg ((fun i => ((D.cik (i 0) (i 1) (i 2) : ℝ) : EReal) : FVec Ideal S4x512x128 .f32) : FVec Ideal S4x512x128 .f32) e)
  funext i
  idx_vars i
  pointwise [k0_pay10, b]
  rfl
theorem tile_11 : k0_pay14 (iblk m c 11 t) = rr (D.hb (qq t) (ck t)) := by
  have b : ∀ (l : Fin 512), iblk m c 11 t (ix4 0 0 0 l) = ((fun i => (((D.hb (i 0) (i 1) (i 3)).re : ℝ) : EReal) : FVec Ideal S4x32x1x512 .f32) : FVec Ideal S4x32x1x512 .f32) (ix4 (qq t) (ck t) 0 l) := fun l => by
    have e : ((View.whole main_v234).slice (win0_11.rect t)).emb (ix4 0 0 0 l) = (ix4 (qq t) (ck t) 0 l : S4x32x1x512.Idx) := by
      blk_ext [idx t]
    blk_simp [iblk, idx t]
    exact (congrFun (arr_v234 c H) _).trans (congrArg ((fun i => (((D.hb (i 0) (i 1) (i 3)).re : ℝ) : EReal) : FVec Ideal S4x32x1x512 .f32) : FVec Ideal S4x32x1x512 .f32) e)
  funext i
  idx_vars i
  pointwise [k0_pay14, b]
  rfl
theorem tile_12 : k0_pay15 (iblk m c 12 t) = ri (D.hb (qq t) (ck t)) := by
  have b : ∀ (l : Fin 512), iblk m c 12 t (ix4 0 0 0 l) = ((fun i => (((D.hb (i 0) (i 1) (i 3)).im : ℝ) : EReal) : FVec Ideal S4x32x1x512 .f32) : FVec Ideal S4x32x1x512 .f32) (ix4 (qq t) (ck t) 0 l) := fun l => by
    have e : ((View.whole main_v236).slice (win0_12.rect t)).emb (ix4 0 0 0 l) = (ix4 (qq t) (ck t) 0 l : S4x32x1x512.Idx) := by
      blk_ext [idx t]
    blk_simp [iblk, idx t]
    exact (congrFun (arr_v236 c H) _).trans (congrArg ((fun i => (((D.hb (i 0) (i 1) (i 3)).im : ℝ) : EReal) : FVec Ideal S4x32x1x512 .f32) : FVec Ideal S4x32x1x512 .f32) e)
  funext i
  idx_vars i
  pointwise [k0_pay15, b]
  rfl
theorem tile_9 (k : Fin 128) : k0_pay11 (iblk m c 9 t) (ix2 0 k) = d (ix2 (gOf (kc (qq t) k)) (cOf (kc (qq t) k))) := by
  have b : ∀ (k : Fin 128), iblk m c 9 t (ix2 0 k) = ((fun i => d (ix2 (gOf (i 1)) (cOf (i 1))) : FVec Ideal S1x512 .f32) : FVec Ideal S1x512 .f32) (ix2 0 (kc (qq t) k)) := fun k => by
    have e : ((View.whole main_v60).slice (win0_9.rect t)).emb (ix2 0 k) = (ix2 0 (kc (qq t) k) : S1x512.Idx) := by
      blk_ext [idx t]
    blk_simp [iblk, idx t]
    exact (congrFun (arr_v60 c H) _).trans (congrArg ((fun i => d (ix2 (gOf (i 1)) (cOf (i 1))) : FVec Ideal S1x512 .f32) : FVec Ideal S1x512 .f32) e)
  pointwise [k0_pay11, b]
theorem tile_10 : iblk m c 10 t = mt (D.gt (qq t) (ck t)) := by
  funext i
  idx_vars i
  have e : ((View.whole main_arg9).slice (win0_10.rect t)).emb (ix2 i0 i1) = (ix2 (tm (ck t) i0) (kc (qq t) i1) : S8192x512.Idx) := by
    blk_ext [idx t]
  blk_simp [iblk, idx t]
  exact (congrFun (arr_arg9 c H) _).trans (congrArg _ e)
theorem tile_0 : k0_pay2 (iblk m c 0 t) = mt (D.ut (qq t) (ck t)) := by
  have b : ∀ (r : Fin 256) (k : Fin 128), iblk m c 0 t (ix2 r k) = ((D.ut (qq t) (ck t) r k : ℝ) : EReal) := fun r k => by
    have e : ((View.whole main_v228).slice (win0_0.rect t)).emb (ix2 r k) = (ix2 (tm (ck t) r) ⟨4608 + (kc (qq t) k).val, by omega⟩ : S8192x5376.Idx) := by
      blk_ext [idx t]
    obtain ⟨v, hv⟩ := entry_228 H
    blk_simp [iblk, idx t]
    refine (congrFun ((congrFun (all_of _) _).trans hv) _).trans ((congrArg _ e).trans ?_)
    refine pad_apply_of_inside _ _ _ _ _ _ _ _ (ix2 (tm (ck t) r) (kc (qq t) k)) fun a => ?_
    fin_cases a
    · show (tm (ck t) r).val = 0 + (tm (ck t) r).val * 1; omega
    · show 4608 + (kc (qq t) k).val = 4608 + (kc (qq t) k).val * 1; omega
  funext i
  idx_vars i
  pointwise [k0_pay2, b]
  rfl
end Cert.S5
-- ==== Proof.S5Out.lean ====
module
public import proofs.«01_k».proof.Proof.S5Step
@[expose] public section
set_option maxRecDepth 16384
noncomputable section
open Idealize.ShloMosaic Idealize.ShloMosaic.TcCoe Idealize.SL.Sem
open ComplexConjugate
/-! What a grid point of the kernel leaves, of what the chunk after it asks. -/
namespace Cert.S5
open Cert.S5KernelIdeal Cert.S5KernelIdeal.Gen
variable (a : Fin 512 → ℂ) (e : Fam)
theorem p97 : k0_pay97 (rr (pw a 1)) (im (RW (cj a) e 1)) (re (RW (cj a) e 1)) (ri (pw (cj a) 1)) (re (upp 1 (RW (cj a) e 1))) (re fun l t => pw (cj a) 1 l * upp 1 (RW (cj a) e 1) l t) (mulf (broadcastTo S256x512 (rr (pw (cj a) 1)) broadcasts_S1x512_S256x512) (im (upp 1 (RW (cj a) e 1)))) (broadcastTo S256x512 (ri (pw (cj a) 1)) broadcasts_S1x512_S256x512) = re (RW (cj a) e 4) := by
  rw [rr_cj a]
  exact q97 _ _
theorem p98 : k0_pay98 (rr (pw a 1)) (im (RW (cj a) e 1)) (re (RW (cj a) e 1)) (ri (pw (cj a) 1)) (re (upp 1 (RW (cj a) e 1))) (re fun l t => pw (cj a) 1 l * upp 1 (RW (cj a) e 1) l t) (mulf (broadcastTo S256x512 (rr (pw (cj a) 1)) broadcasts_S1x512_S256x512) (im (upp 1 (RW (cj a) e 1)))) (broadcastTo S256x512 (ri (pw (cj a) 1)) broadcasts_S1x512_S256x512) = im (RW (cj a) e 4) := by
  rw [rr_cj a]
  exact q98 _ _
theorem p99 : k0_pay99 (rr (pw a 1)) (ri (pw (cj a) 1)) = rr (pw (cj a) 4) := by
  rw [rr_cj a]
  exact q99 _
theorem p100 : k0_pay100 (rr (pw a 1)) (ri (pw (cj a) 1)) = ri (pw (cj a) 4) := by
  rw [rr_cj a]
  exact q100 _
theorem p101 : k0_pay101 (rr (pw a 1)) (im (RW (cj a) e 1)) (re (RW (cj a) e 1)) (ri (pw (cj a) 1)) (re (upp 1 (RW (cj a) e 1))) (re fun l t => pw (cj a) 1 l * upp 1 (RW (cj a) e 1) l t) (mulf (broadcastTo S256x512 (rr (pw (cj a) 1)) broadcasts_S1x512_S256x512) (im (upp 1 (RW (cj a) e 1)))) (broadcastTo S256x512 (ri (pw (cj a) 1)) broadcasts_S1x512_S256x512) = re (upp 4 (RW (cj a) e 4)) := by
  rw [rr_cj a]
  exact q101 _ _
theorem none_re : k0_pay12 = rr fun _ => 0 := by
  funext i
  idx_vars i
  pointwise [k0_pay12]
  exact EReal.coe_zero.symm
theorem none_im : k0_pay13 = ri fun _ => 0 := by
  funext i
  idx_vars i
  pointwise [k0_pay13]
  exact EReal.coe_zero.symm
theorem kept_re (x : FVec Ideal S1x512 .f32) : k0_pay143 x = x := by
  funext i
  idx_vars i
  pointwise [k0_pay143]
theorem kept_im (x : FVec Ideal S1x512 .f32) : k0_pay144 x = x := by
  funext i
  idx_vars i
  pointwise [k0_pay144]
variable (D : Data) (d : FVec Ideal S32x16 .f32)
/-- The five gradients of the weights that a chunk gives. -/
def Data.bre (q : Fin 4) (s : Fin 32) (dc : Fin 512 → ℂ) (k : Fin 128) (l : Fin 512) : ℝ := ∑ t : Fin 256, D.ut q s t k * (D.ac q s dc l t.val).re
def Data.bim (q : Fin 4) (s : Fin 32) (dc : Fin 512 → ℂ) (k : Fin 128) (l : Fin 512) : ℝ := ∑ t : Fin 256, D.ut q s t k * (D.ac q s dc l t.val).im
def Data.cre (q : Fin 4) (s : Fin 32) (l : Fin 512) (k : Fin 128) : ℝ := ∑ t : Fin 256, (D.hc q s l t.val).re * D.gt q s t k
def Data.cim (q : Fin 4) (s : Fin 32) (l : Fin 512) (k : Fin 128) : ℝ := ∑ t : Fin 256, (D.hc q s l t.val).im * -D.gt q s t k
def Data.dd (q : Fin 4) (s : Fin 32) (_ : Fin 1) (k : Fin 128) : ℝ := ∑ t : Fin 256, D.gt q s t k * D.ut q s t k
theorem skip_at (x : FVec Ideal S1x128 .f32) (G : Fin 256 → Fin 128 → ℝ) (r : Fin 256) (k : Fin 128) : k0_pay75 x (mt G) (ix2 r k) = x (ix2 0 k) * (G r k : EReal) := by
  pointwise [k0_pay75, k0_pay74, q73]
  rfl
variable {D d} {m : (ℓ : Loc nD τ sig) → Buf (Elt Ideal) ℓ} (c : Dev nD) (H : Holds D d fun b => m (c, b)) (t : Fin cfg0.N) (dc : Fin 512 → ℂ)
include H
/-- The gradient of the input is that of the state equation and of the skip. -/
theorem input_eq (x) (hx : x = iblk m c 9 t) : k0_pay142 (mt (D.brk (qq t))) (mt (D.bik (qq t))) (k0_pay75 (k0_pay11 x) (mt (D.gt (qq t) (ck t)))) (re (RW (cj (D.ra (qq t))) (ea (D.gt (qq t) (ck t)) (D.crk (qq t)) (D.cik (qq t)) dc) 128)) (im (RW (cj (D.ra (qq t))) (ea (D.gt (qq t) (ck t)) (D.crk (qq t)) (D.cik (qq t)) dc) 128)) (rr (pw (cj (D.ra (qq t))) 128)) (ri (pw (cj (D.ra (qq t))) 128)) (re (upp 128 (RW (cj (D.ra (qq t))) (ea (D.gt (qq t) (ck t)) (D.crk (qq t)) (D.cik (qq t)) dc) 128))) k0_pay136 128#32 = duT D d (qq t) (ck t) dc := by
  subst hx
  funext i
  idx_vars i
  rw [q142, skip_at, tile_9 c H t]
  rfl
theorem of_first (h : t.val % 32 = 0) (hd : dc = fun _ => 0) : outsAt0 m c t.val t.isLt = (duT D d (qq t) (ck t) dc,
      k0_pay147 (mt (D.bre (qq t) (ck t) dc)),
      k0_pay147 (mt (D.bim (qq t) (ck t) dc)),
      k0_pay149 (mt (D.cre (qq t) (ck t))),
      k0_pay151 (mt (D.cim (qq t) (ck t))),
      mt (D.dd (qq t) (ck t)),
      rr (D.oc (qq t) (ck t) dc), ri (D.oc (qq t) (ck t) dc)) := by
  subst hd
  rw [outsAt0_A m c t (by omega) (by omega) (by omega) (by omega) (by omega) (by omega) (by omega) (by omega) (by omega) (by omega) (by omega)]
  frame_out
  simp only [read_unread_whole, k0_pay145, none_re, none_im, kept_re, kept_im, tile_0 c H t, tile_1 c H t, tile_2 c H t, tile_3 c H t, tile_4 c H t, tile_5 c H t, tile_6 c H t, tile_7 c H t, tile_8 c H t, tile_10 c H t, tile_11 c H t, tile_12 c H t, ri_cj, q20, q21, q22, q23, q28, q29, q30, q33, q34, q40, q41, q42, q43, q44, q46, q55, q56, q57, q58, q63, q68, q69, q70, q79, q71, q72, q73, q76, q78 (CR := D.crk (qq t)), q80 (a := D.ra (qq t)), q82 (a := D.ra (qq t)) (CI := D.cik (qq t)), q81, q84 (a := D.ra (qq t)), q83 (a := D.ra (qq t)), q86 (a := D.ra (qq t)) (CI := D.cik (qq t)), q88, q89, q90, p97, p98, p99, p100, p101, q110, q111, q112, q113, q116, q117, q118, q119, q120, q122, q123, q124, q131, q132, q133, q134, q135, q138, q139, q140, q141]
  rw [q55, q56]
  simp only [ri_cj, q20, q21, q22, q23, q28, q29, q30, q33, q34, q40, q41, q42, q43, q44, q46, q55, q56, q57, q58, q63, q68, q69, q70, q79, q71, q72, q73, q76, q78 (CR := D.crk (qq t)), q80 (a := D.ra (qq t)), q82 (a := D.ra (qq t)) (CI := D.cik (qq t)), q81, q84 (a := D.ra (qq t)), q83 (a := D.ra (qq t)), q86 (a := D.ra (qq t)) (CI := D.cik (qq t)), q88, q89, q90, p97, p98, p99, p100, p101, q110, q111, q112, q113, q116, q117, q118, q119, q120, q122, q123, q124, q131, q132, q133, q134, q135, q138, q139, q140, q141]
  rw [q116, q117, q120, q122, q123]
  simp only [ri_cj, q20, q21, q22, q23, q28, q29, q30, q33, q34, q40, q41, q42, q43, q44, q46, q55, q56, q57, q58, q63, q68, q69, q70, q79, q71, q72, q73, q76, q78 (CR := D.crk (qq t)), q80 (a := D.ra (qq t)), q82 (a := D.ra (qq t)) (CI := D.cik (qq t)), q81, q84 (a := D.ra (qq t)), q83 (a := D.ra (qq t)), q86 (a := D.ra (qq t)) (CI := D.cik (qq t)), q88, q89, q90, p97, p98, p99, p100, p101, q110, q111, q112, q113, q116, q117, q118, q119, q120, q122, q123, q124, q131, q132, q133, q134, q135, q138, q139, q140, q141]
  rw [input_eq c H t _ _ rfl]
  rfl
theorem of_later (h : 0 < t.val % 32) (h0 : (outsAt0 m c (t.val - 1) (by have := t.isLt; omega)).2.2.2.2.2.2 = (rr dc, ri dc)) : outsAt0 m c t.val t.isLt = (duT D d (qq t) (ck t) dc,
      k0_pay146 (mt (D.bre (qq t) (ck t) dc)) (outsAt0 m c (t.val - 1) (by have := t.isLt; omega)).2.1,
      k0_pay148 (mt (D.bim (qq t) (ck t) dc)) (outsAt0 m c (t.val - 1) (by have := t.isLt; omega)).2.2.1,
      k0_pay150 (mt (D.cre (qq t) (ck t))) (outsAt0 m c (t.val - 1) (by have := t.isLt; omega)).2.2.2.1,
      k0_pay152 (mt (D.cim (qq t) (ck t))) (outsAt0 m c (t.val - 1) (by have := t.isLt; omega)).2.2.2.2.1,
      k0_pay1 (mt (D.dd (qq t) (ck t))) (outsAt0 m c (t.val - 1) (by have := t.isLt; omega)).2.2.2.2.2.1,
      rr (D.oc (qq t) (ck t) dc), ri (D.oc (qq t) (ck t) dc)) := by
  rw [outsAt0_B m c t (by omega) (by omega) (by omega) (by omega) (by omega) (by omega) (by omega) (by omega) (by omega) (by omega) (by omega)]
  frame_out
  simp only [read_unread_whole, h0, kept_re, kept_im, tile_0 c H t, tile_1 c H t, tile_2 c H t, tile_3 c H t, tile_4 c H t, tile_5 c H t, tile_6 c H t, tile_7 c H t, tile_8 c H t, tile_10 c H t, tile_11 c H t, tile_12 c H t, ri_cj, q20, q21, q22, q23, q28, q29, q30, q33, q34, q40, q41, q42, q43, q44, q46, q55, q56, q57, q58, q63, q68, q69, q70, q79, q71, q72, q73, q76, q78 (CR := D.crk (qq t)), q80 (a := D.ra (qq t)), q82 (a := D.ra (qq t)) (CI := D.cik (qq t)), q81, q84 (a := D.ra (qq t)), q83 (a := D.ra (qq t)), q86 (a := D.ra (qq t)) (CI := D.cik (qq t)), q88, q89, q90, p97, p98, p99, p100, p101, q110, q111, q112, q113, q116, q117, q118, q119, q120, q122, q123, q124, q131, q132, q133, q134, q135, q138, q139, q140, q141]
  rw [q55, q56]
  simp only [ri_cj, q20, q21, q22, q23, q28, q29, q30, q33, q34, q40, q41, q42, q43, q44, q46, q55, q56, q57, q58, q63, q68, q69, q70, q79, q71, q72, q73, q76, q78 (CR := D.crk (qq t)), q80 (a := D.ra (qq t)), q82 (a := D.ra (qq t)) (CI := D.cik (qq t)), q81, q84 (a := D.ra (qq t)), q83 (a := D.ra (qq t)), q86 (a := D.ra (qq t)) (CI := D.cik (qq t)), q88, q89, q90, p97, p98, p99, p100, p101, q110, q111, q112, q113, q116, q117, q118, q119, q120, q122, q123, q124, q131, q132, q133, q134, q135, q138, q139, q140, q141]
  rw [q116, q117, q120, q122, q123]
  simp only [ri_cj, q20, q21, q22, q23, q28, q29, q30, q33, q34, q40, q41, q42, q43, q44, q46, q55, q56, q57, q58, q63, q68, q69, q70, q79, q71, q72, q73, q76, q78 (CR := D.crk (qq t)), q80 (a := D.ra (qq t)), q82 (a := D.ra (qq t)) (CI := D.cik (qq t)), q81, q84 (a := D.ra (qq t)), q83 (a := D.ra (qq t)), q86 (a := D.ra (qq t)) (CI := D.cik (qq t)), q88, q89, q90, p97, p98, p99, p100, p101, q110, q111, q112, q113, q116, q117, q118, q119, q120, q122, q123, q124, q131, q132, q133, q134, q135, q138, q139, q140, q141]
  rw [input_eq c H t _ _ rfl]
  rfl
end Cert.S5
-- ==== Proof.S5Carry.lean ====
module
public import proofs.«01_k».proof.Proof.S5Out
@[expose] public section
set_option maxRecDepth 16384
noncomputable section
open Idealize.ShloMosaic Idealize.ShloMosaic.TcCoe Idealize.SL.Sem
open ComplexConjugate
/-! The chunks one after another: the states, the adjoints, and the arrays at the end. -/
namespace Cert.S5
open Cert.S5KernelIdeal Cert.S5KernelIdeal.Gen
variable (D : Data)
theorem crk_sum (x : Fin 512 → ℝ) (q : Fin 4) (l : Fin 512) : ∑ k, x (kc q k) * D.crk q l k = ∑ c, x (ch (gl q l) c) * D.cr (gl q l) c (pl l) := by
  have e : ∀ k, x (kc q k) * D.crk q l k = if k.val / 16 = l.val / 64 then x (kc q k) * D.cr (gl q l) ⟨k.val % 16, by omega⟩ (pl l) else 0 := fun k => by
    simp only [Data.crk, eq_comm (a := l.val / 64), mul_mask]
  simp only [e]
  refine (mask_k l fun k => x (kc q k) * D.cr (gl q l) ⟨k.val % 16, by omega⟩ (pl l)).trans (Finset.sum_congr rfl fun c _ => ?_)
  rw [ch_eq]
  congr 2
  apply Fin.ext; show (16 * (l.val / 64) + c.val) % 16 = _; omega
theorem cik_sum (x : Fin 512 → ℝ) (q : Fin 4) (l : Fin 512) : ∑ k, x (kc q k) * D.cik q l k = ∑ c, x (ch (gl q l) c) * D.ci (gl q l) c (pl l) := by
  have e : ∀ k, x (kc q k) * D.cik q l k = if k.val / 16 = l.val / 64 then x (kc q k) * D.ci (gl q l) ⟨k.val % 16, by omega⟩ (pl l) else 0 := fun k => by
    simp only [Data.cik, eq_comm (a := l.val / 64), mul_mask]
  simp only [e]
  refine (mask_k l fun k => x (kc q k) * D.ci (gl q l) ⟨k.val % 16, by omega⟩ (pl l)).trans (Finset.sum_congr rfl fun c _ => ?_)
  rw [ch_eq]
  congr 2
  apply Fin.ext; show (16 * (l.val / 64) + c.val) % 16 = _; omega
theorem bik_back (x : Fin 32 → Fin 64 → ℝ) (q : Fin 4) (k : Fin 128) : ∑ l, x (gl q l) (pl l) * D.bik q k l = ∑ p, x (gk q k) p * D.bi (gk q k) p ⟨k.val % 16, by omega⟩ := by
  simp only [Data.bik, mul_mask]
  refine (mask_l k fun l => x (gl q l) (pl l) * D.bi (gk q k) (pl l) ⟨k.val % 16, by omega⟩).trans (Finset.sum_congr rfl fun p _ => ?_)
  have e1 : gl q ⟨64 * (k.val / 16) + p.val, by omega⟩ = gk q k := Fin.ext (by show q.val * 8 + (64 * (k.val / 16) + p.val) / 64 = q.val * 8 + k.val / 16; omega)
  have e2 : pl ⟨64 * (k.val / 16) + p.val, by omega⟩ = p := Fin.ext (by show (64 * (k.val / 16) + p.val) % 64 = p.val; omega)
  rw [e1, e2]
theorem brk_back (x : Fin 32 → Fin 64 → ℝ) (q : Fin 4) (k : Fin 128) : ∑ l, x (gl q l) (pl l) * D.brk q k l = ∑ p, x (gk q k) p * D.br (gk q k) p ⟨k.val % 16, by omega⟩ := by
  simp only [Data.brk, mul_mask]
  refine (mask_l k fun l => x (gl q l) (pl l) * D.br (gk q k) (pl l) ⟨k.val % 16, by omega⟩).trans (Finset.sum_congr rfl fun p _ => ?_)
  have e1 : gl q ⟨64 * (k.val / 16) + p.val, by omega⟩ = gk q k := Fin.ext (by show q.val * 8 + (64 * (k.val / 16) + p.val) / 64 = q.val * 8 + k.val / 16; omega)
  have e2 : pl ⟨64 * (k.val / 16) + p.val, by omega⟩ = p := Fin.ext (by show (64 * (k.val / 16) + p.val) % 64 = p.val; omega)
  rw [e1, e2]
/-- What drives a chunk's states, and what is asked of them. -/
theorem tf_eq (q : Fin 4) (s : Fin 32) (l : Fin 512) (r : ℕ) (h : r < 256) :
    tf (D.ut q s) (D.brk q) (D.bik q) l r = D.drive (gl q l) (pl l) (s.val * 256 + r) := by
  rw [tf, dif_pos h]
  exact (drv_eq q l (tm s ⟨r, h⟩)).symm
theorem te_eq (q : Fin 4) (s : Fin 32) (l : Fin 512) (r : ℕ) (h : r < 256) :
    te (D.gt q s) (D.crk q) (D.cik q) l r = D.ask (gl q l) (pl l) (s.val * 256 + r) := by
  have hs : s.val * 256 + r < 8192 := by omega
  rw [te, dif_pos h, Data.ask, dif_pos hs]
  have e1 := crk_sum D (fun c => D.gy (tm s ⟨r, h⟩) c) q l
  have e2 := cik_sum D (fun c => -D.gy (tm s ⟨r, h⟩) c) q l
  exact congrArg₂ Complex.mk e1 e2
theorem hst_congr (a : ℂ) (f g : ℕ → ℂ) (t : ℕ) (h : ∀ i, i ≤ t → f i = g i) : hst a f t = hst a g t :=
  Finset.sum_congr rfl fun i _ => by rw [h _ (Nat.sub_le _ _)]
theorem mst_congr (b : ℂ) (e f : ℕ → ℂ) (N t : ℕ) (h : ∀ i, i < N → e i = f i) : mst b e N t = mst b f N t :=
  Finset.sum_congr rfl fun i hi => by rw [h _ (by have := Finset.mem_range.mp hi; omega)]
/-- The states of a chunk. -/
theorem hc_eq (q : Fin 4) (s : Fin 32) (l : Fin 512) (r : Fin 256) : D.hc q s l r.val = D.state (gl q l) (pl l) (tm s r).val := by
  show W (D.ra q) _ 256 l r.val + D.pws q l r.val * D.hb q s l = _
  rw [W, win_full _ _ r.isLt, Data.state, hst_split, hst_congr _ _ (fun i => D.drive (gl q l) (pl l) (s.val * 256 + i)) _ fun i hi => tf_eq D q s l i (by omega)]
  refine congrArg₂ (· + ·) rfl (congrArg (D.ra q l ^ (r.val + 1) * ·) ?_)
  rw [Data.hb, Data.state]
  have e : (s.val * 256 = 0) = (s.val = 0) := propext (by omega)
  simp only [e, Nat.mul_comm 256]
/-- What a chunk sends back. -/
def Data.cout (q : Fin 4) (s : ℕ) : Fin 512 → ℂ := fun l => conj (D.ra q l) * D.adj (gl q l) (pl l) (s * 256)
theorem cout_last (q : Fin 4) : D.cout q 32 = fun _ => 0 := by
  funext l
  show _ * mst _ _ 8192 (32 * 256) = 0
  simp [mst]
/-- All that is asked of a chunk, with what the next one sends back, gives the adjoints. -/
theorem mst_ea (q : Fin 4) (s : Fin 32) (l : Fin 512) (r : ℕ) (h : r < 256) :
    mst (conj (D.ra q l)) (ea (D.gt q s) (D.crk q) (D.cik q) (D.cout q (s.val + 1)) l) 256 r = D.adj (gl q l) (pl l) (s.val * 256 + r) := by
  refine Eq.trans ?_ (mst_split (conj (D.ra q l)) (D.ask (gl q l) (pl l)) 8192 256 (s.val * 256) r h (by omega))
  refine mst_congr _ _ _ _ _ fun i hi => ?_
  show cf (D.cout q (s.val + 1)) l i + te _ _ _ l i = _
  rw [te_eq D q s l i hi, add_comm]
  refine congrArg (D.ask (gl q l) (pl l) (s.val * 256 + i) + ·) ?_
  show (if i = 255 then D.cout q (s.val + 1) l else 0) = if i = 256 - 1 then _ else 0
  rw [Data.cout, Data.adj, show (s.val + 1) * 256 = s.val * 256 + 256 by ring]
  rfl
/-- The adjoints of a chunk. -/
theorem ac_eq (q : Fin 4) (s : Fin 32) (l : Fin 512) (r : Fin 256) : D.ac q s (D.cout q (s.val + 1)) l r.val = D.adj (gl q l) (pl l) (tm s r).val := by
  show rwin _ _ 256 256 r.val = _
  rw [rwin_full _ _ (by omega)]
  exact mst_ea D q s l r.val r.isLt
theorem oc_eq (q : Fin 4) (s : Fin 32) : D.oc q s (D.cout q (s.val + 1)) = D.cout q s.val := by
  funext l
  refine Eq.trans ?_ ((carry_out (conj (D.ra q l)) (ea (D.gt q s) (D.crk q) (D.cik q) (D.cout q (s.val + 1)) l) 256).trans ?_)
  · show (∑ t : Fin 256, conj (D.ra q l ^ (t.val + 1)) * RW (cj (D.ra q)) (ea (D.gt q s) (D.crk q) (D.cik q) (D.cout q (s.val + 1))) 1 l t.val) = _
    refine Finset.sum_congr rfl fun (t : Fin 256) _ => congrArg₂ (fun x y : ℂ => x * y) (map_pow (starRingEnd ℂ) (D.ra q l) (t.val + 1)) ?_
    exact rwin_one _ _ t.isLt
  · rw [mst_ea D q s l 0 (by omega)]
    rfl
variable {D} {d : FVec Ideal S32x16 .f32} {m : (ℓ : Loc nD τ sig) → Buf (Elt Ideal) ℓ} (c : Dev nD) (H : Holds D d fun b => m (c, b))
include H
theorem first_out (t : Fin cfg0.N) (h : t.val % 32 = 0) : D.cout (qq t) ((ck t).val + 1) = fun _ => 0 := by
  rw [show (ck t).val + 1 = 32 by show 31 - t.val % 32 + 1 = 32; omega]
  exact cout_last D _
/-- What the chunks hand on. -/
theorem carried : ∀ (n : ℕ) (h : n < cfg0.N), (outsAt0 m c n h).2.2.2.2.2.2 = (rr (D.cout (qq ⟨n, h⟩) (ck ⟨n, h⟩).val), ri (D.cout (qq ⟨n, h⟩) (ck ⟨n, h⟩).val)) := by
  intro n
  induction n with
  | zero => intro h; rw [of_first c H ⟨0, h⟩ (D.cout (qq ⟨0, h⟩) ((ck ⟨0, h⟩).val + 1)) rfl (first_out c H _ rfl), oc_eq]
  | succ n ih =>
    intro h
    by_cases hn : (n + 1) % 32 = 0
    · rw [of_first c H ⟨n + 1, h⟩ (D.cout (qq ⟨n + 1, h⟩) ((ck ⟨n + 1, h⟩).val + 1)) hn (first_out c H _ hn), oc_eq]
    · have e := ih (by omega)
      have e1 : qq ⟨n, by omega⟩ = qq ⟨n + 1, h⟩ := Fin.ext (by show n / 32 = (n + 1) / 32; omega)
      have e2 : (ck ⟨n, by omega⟩).val = (ck ⟨n + 1, h⟩).val + 1 := by show 31 - n % 32 = 31 - (n + 1) % 32 + 1; omega
      rw [e1, e2] at e
      rw [of_later c H ⟨n + 1, h⟩ (D.cout (qq ⟨n + 1, h⟩) ((ck ⟨n + 1, h⟩).val + 1)) (by show 0 < (n + 1) % 32; omega) e, oc_eq]
omit H in
/-- A sum over the chunks of a block, last chunk first, is the sum over all times. -/
theorem sum_time (t : Fin cfg0.N) (h : ∀ s : Fin 32, 32 * (t.val / 32) + s.val < cfg0.N) (f : Fin 4 → Fin 8192 → ℝ) :
    ∑ s : Fin 32, ((∑ r : Fin 256, f (qq ⟨32 * (t.val / 32) + s.val, h s⟩) (tm (ck ⟨32 * (t.val / 32) + s.val, h s⟩) r) : ℝ) : EReal) = ((∑ a : Fin 8192, f (qq t) a : ℝ) : EReal) := by
  rw [← Ops.coe_sum']
  congr 1
  refine Eq.trans ?_ (Fin.sum_univ_tiles 32 256 rfl (f (qq t))).symm
  refine Eq.trans (Finset.sum_congr rfl fun s _ => ?_) (Equiv.sum_comp Fin.revPerm fun s : Fin 32 => ∑ r : Fin 256, f (qq t) ⟨s.val * 256 + r.val, by omega⟩)
  refine Finset.sum_congr rfl fun r _ => congrArg₂ f (Fin.ext ?_) (Fin.ext ?_)
  · show (32 * (t.val / 32) + s.val) / 32 = t.val / 32
    omega
  · show (31 - (32 * (t.val / 32) + s.val) % 32) * 256 + r.val = (Fin.rev s).val * 256 + r.val
    rw [Fin.val_rev]
    omega
omit H in
/-- What is gathered over the chunks of a block. -/
theorem gather {ι : Type} (O : (n : ℕ) → n < cfg0.N → ι → EReal) (f : ι → Fin 4 → Fin 8192 → ℝ)
    (h0 : ∀ t : Fin cfg0.N, t.val % 32 = 0 → ∀ i, O t.val t.isLt i = ((∑ r, f i (qq t) (tm (ck t) r) : ℝ) : EReal))
    (h1 : ∀ t : Fin cfg0.N, 0 < t.val % 32 → ∀ i, O t.val t.isLt i = O (t.val - 1) (by have := t.isLt; omega) i + ((∑ r, f i (qq t) (tm (ck t) r) : ℝ) : EReal))
    (t : Fin cfg0.N) (h : t.val % 32 = 31) (i : ι) : O t.val t.isLt i = ((∑ a, f i (qq t) a : ℝ) : EReal) := by
  have e := Pipeline.eq_sum_fin_of_reset_step_apply_of_flush (M := EReal) O 32 (fun _ => (0 : EReal))
    (fun t i => ((∑ r, f i (qq t) (tm (ck t) r) : ℝ) : EReal)) (fun t h i => by rw [h0 t h i, zero_add]) (fun t h i => h1 t (by omega) i) t h i
  rw [zero_add] at e
  exact e.trans (sum_time t _ (f i))
/-- What every grid point leaves: the first of a block, -/
theorem out_first (t : Fin cfg0.N) (h : t.val % 32 = 0) : outsAt0 m c t.val t.isLt = (duT D d (qq t) (ck t) (D.cout (qq t) ((ck t).val + 1)),
      k0_pay147 (mt (D.bre (qq t) (ck t) (D.cout (qq t) ((ck t).val + 1)))),
      k0_pay147 (mt (D.bim (qq t) (ck t) (D.cout (qq t) ((ck t).val + 1)))),
      k0_pay149 (mt (D.cre (qq t) (ck t))),
      k0_pay151 (mt (D.cim (qq t) (ck t))),
      mt (D.dd (qq t) (ck t)),
      rr (D.oc (qq t) (ck t) (D.cout (qq t) ((ck t).val + 1))), ri (D.oc (qq t) (ck t) (D.cout (qq t) ((ck t).val + 1)))) := of_first c H t _ h (first_out c H t h)
/-- and a later one. -/
theorem out_later (t : Fin cfg0.N) (h : 0 < t.val % 32) : outsAt0 m c t.val t.isLt = (duT D d (qq t) (ck t) (D.cout (qq t) ((ck t).val + 1)),
      k0_pay146 (mt (D.bre (qq t) (ck t) (D.cout (qq t) ((ck t).val + 1)))) (outsAt0 m c (t.val - 1) (by have := t.isLt; omega)).2.1,
      k0_pay148 (mt (D.bim (qq t) (ck t) (D.cout (qq t) ((ck t).val + 1)))) (outsAt0 m c (t.val - 1) (by have := t.isLt; omega)).2.2.1,
      k0_pay150 (mt (D.cre (qq t) (ck t))) (outsAt0 m c (t.val - 1) (by have := t.isLt; omega)).2.2.2.1,
      k0_pay152 (mt (D.cim (qq t) (ck t))) (outsAt0 m c (t.val - 1) (by have := t.isLt; omega)).2.2.2.2.1,
      k0_pay1 (mt (D.dd (qq t) (ck t))) (outsAt0 m c (t.val - 1) (by have := t.isLt; omega)).2.2.2.2.2.1,
      rr (D.oc (qq t) (ck t) (D.cout (qq t) ((ck t).val + 1))), ri (D.oc (qq t) (ck t) (D.cout (qq t) ((ck t).val + 1)))) := of_later c H t (D.cout (qq t) ((ck t).val + 1)) h (by
  have e := carried c H (t.val - 1) (by have := t.isLt; omega)
  have e1 : qq ⟨t.val - 1, by have := t.isLt; omega⟩ = qq t := Fin.ext (by show (t.val - 1) / 32 = t.val / 32; omega)
  have e2 : (ck ⟨t.val - 1, by have := t.isLt; omega⟩).val = (ck t).val + 1 := by show 31 - (t.val - 1) % 32 = 31 - t.val % 32 + 1; omega
  rwa [e1, e2] at e)
omit H in
variable (D) in
theorem bre_eq (q : Fin 4) (s : Fin 32) (k : Fin 128) (l : Fin 512) : D.bre q s (D.cout q (s.val + 1)) k l = ∑ r, (fun a => D.u a (kc q k) * (D.adj (gl q l) (pl l) a.val).re : Fin 8192 → ℝ) (tm s r) :=
  Finset.sum_congr rfl fun r _ => by rw [ac_eq]; rfl
variable (D) in
omit H in
/-- The array of that gradient, all pairs of a block's lanes and channels. -/
def Data.breA : FVec Ideal S4x128x512 .f32 := fun i => ((∑ a, (fun a => D.u a (kc (i 0) (i 1)) * (D.adj (gl (i 0) (i 2)) (pl (i 2)) a.val).re : Fin 8192 → ℝ) a : ℝ) : EReal)
theorem final_bre : (dats m 0 c).arrAt 14 cfg0.N = D.breA := by
  refine (dats m 0 c).arrAt_eq_of_covers 14 _ (by decide +kernel) fun t hf y => ?_
  idx_vars y
  obtain rfl : y0 = 0 := Subsingleton.elim _ _
  have e0 : (win0_14.blk t).view.emb (ix3 0 y1 y2) = ix3 (qq t) y1 y2 := by
    blk_ext [idx t]
  blk_simp
  rw [after0_14, e0]
  exact gather (fun n h i => (outsAt0 m c n h).2.1 i) (fun (i : S1x128x512.Idx) q => fun a => D.u a (kc q (i 1)) * (D.adj (gl q (i 2)) (pl (i 2)) a.val).re)
    (fun t h i => by
      idx_vars i
      beta_reduce
      rw [out_first c H t h]
      pointwise [k0_pay147, mt]
      rw [bre_eq])
    (fun t h i => by
      idx_vars i
      obtain rfl : i0 = 0 := Subsingleton.elim _ _
      beta_reduce
      rw [out_later c H t h]
      pointwise [k0_pay146, mt]
      rw [bre_eq])
    t ((flush0_14 t).mp hf) (ix3 0 y1 y2)
omit H in
variable (D) in
theorem bim_eq (q : Fin 4) (s : Fin 32) (k : Fin 128) (l : Fin 512) : D.bim q s (D.cout q (s.val + 1)) k l = ∑ r, (fun a => D.u a (kc q k) * (D.adj (gl q l) (pl l) a.val).im : Fin 8192 → ℝ) (tm s r) :=
  Finset.sum_congr rfl fun r _ => by rw [ac_eq]; rfl
variable (D) in
omit H in
/-- The array of that gradient, all pairs of a block's lanes and channels. -/
def Data.bimA : FVec Ideal S4x128x512 .f32 := fun i => ((∑ a, (fun a => D.u a (kc (i 0) (i 1)) * (D.adj (gl (i 0) (i 2)) (pl (i 2)) a.val).im : Fin 8192 → ℝ) a : ℝ) : EReal)
theorem final_bim : (dats m 0 c).arrAt 15 cfg0.N = D.bimA := by
  refine (dats m 0 c).arrAt_eq_of_covers 15 _ (by decide +kernel) fun t hf y => ?_
  idx_vars y
  obtain rfl : y0 = 0 := Subsingleton.elim _ _
  have e0 : (win0_15.blk t).view.emb (ix3 0 y1 y2) = ix3 (qq t) y1 y2 := by
    blk_ext [idx t]
  blk_simp
  rw [after0_15, e0]
  exact gather (fun n h i => (outsAt0 m c n h).2.2.1 i) (fun (i : S1x128x512.Idx) q => fun a => D.u a (kc q (i 1)) * (D.adj (gl q (i 2)) (pl (i 2)) a.val).im)
    (fun t h i => by
      idx_vars i
      beta_reduce
      rw [out_first c H t h]
      pointwise [k0_pay147, mt]
      rw [bim_eq])
    (fun t h i => by
      idx_vars i
      obtain rfl : i0 = 0 := Subsingleton.elim _ _
      beta_reduce
      rw [out_later c H t h]
      pointwise [k0_pay148, mt]
      rw [bim_eq])
    t ((flush0_15 t).mp hf) (ix3 0 y1 y2)
omit H in
variable (D) in
theorem cre_eq (q : Fin 4) (s : Fin 32) (k : Fin 128) (l : Fin 512) : D.cre q s l k = ∑ r, (fun a => (D.state (gl q l) (pl l) a.val).re * D.gy a (kc q k) : Fin 8192 → ℝ) (tm s r) :=
  Finset.sum_congr rfl fun r _ => by rw [hc_eq]; rfl
variable (D) in
omit H in
/-- The array of that gradient, all pairs of a block's lanes and channels. -/
def Data.creA : FVec Ideal S4x512x128 .f32 := fun i => ((∑ a, (fun a => (D.state (gl (i 0) (i 1)) (pl (i 1)) a.val).re * D.gy a (kc (i 0) (i 2)) : Fin 8192 → ℝ) a : ℝ) : EReal)
theorem final_cre : (dats m 0 c).arrAt 16 cfg0.N = D.creA := by
  refine (dats m 0 c).arrAt_eq_of_covers 16 _ (by decide +kernel) fun t hf y => ?_
  idx_vars y
  obtain rfl : y0 = 0 := Subsingleton.elim _ _
  have e0 : (win0_16.blk t).view.emb (ix3 0 y1 y2) = ix3 (qq t) y1 y2 := by
    blk_ext [idx t]
  blk_simp
  rw [after0_16, e0]
  exact gather (fun n h i => (outsAt0 m c n h).2.2.2.1 i) (fun (i : S1x512x128.Idx) q => fun a => (D.state (gl q (i 1)) (pl (i 1)) a.val).re * D.gy a (kc q (i 2)))
    (fun t h i => by
      idx_vars i
      beta_reduce
      rw [out_first c H t h]
      pointwise [k0_pay149, mt]
      rw [cre_eq])
    (fun t h i => by
      idx_vars i
      obtain rfl : i0 = 0 := Subsingleton.elim _ _
      beta_reduce
      rw [out_later c H t h]
      pointwise [k0_pay150, mt]
      rw [cre_eq])
    t ((flush0_16 t).mp hf) (ix3 0 y1 y2)
omit H in
variable (D) in
theorem cim_eq (q : Fin 4) (s : Fin 32) (k : Fin 128) (l : Fin 512) : D.cim q s l k = ∑ r, (fun a => (D.state (gl q l) (pl l) a.val).im * -D.gy a (kc q k) : Fin 8192 → ℝ) (tm s r) :=
  Finset.sum_congr rfl fun r _ => by rw [hc_eq]; rfl
variable (D) in
omit H in
/-- The array of that gradient, all pairs of a block's lanes and channels. -/
def Data.cimA : FVec Ideal S4x512x128 .f32 := fun i => ((∑ a, (fun a => (D.state (gl (i 0) (i 1)) (pl (i 1)) a.val).im * -D.gy a (kc (i 0) (i 2)) : Fin 8192 → ℝ) a : ℝ) : EReal)
theorem final_cim : (dats m 0 c).arrAt 17 cfg0.N = D.cimA := by
  refine (dats m 0 c).arrAt_eq_of_covers 17 _ (by decide +kernel) fun t hf y => ?_
  idx_vars y
  obtain rfl : y0 = 0 := Subsingleton.elim _ _
  have e0 : (win0_17.blk t).view.emb (ix3 0 y1 y2) = ix3 (qq t) y1 y2 := by
    blk_ext [idx t]
  blk_simp
  rw [after0_17, e0]
  exact gather (fun n h i => (outsAt0 m c n h).2.2.2.2.1 i) (fun (i : S1x512x128.Idx) q => fun a => (D.state (gl q (i 1)) (pl (i 1)) a.val).im * -D.gy a (kc q (i 2)))
    (fun t h i => by
      idx_vars i
      beta_reduce
      rw [out_first c H t h]
      pointwise [k0_pay151, mt]
      rw [cim_eq])
    (fun t h i => by
      idx_vars i
      obtain rfl : i0 = 0 := Subsingleton.elim _ _
      beta_reduce
      rw [out_later c H t h]
      pointwise [k0_pay152, mt]
      rw [cim_eq])
    t ((flush0_17 t).mp hf) (ix3 0 y1 y2)
omit H in
variable (D) in
theorem dd_eq (q : Fin 4) (s : Fin 32) (k : Fin 128) : D.dd q s 0 k = ∑ r, (fun a => D.gy a (kc q k) * D.u a (kc q k) : Fin 8192 → ℝ) (tm s r) := rfl
variable (D) in
omit H in
/-- The gradient of the skip's factors, in a row. -/
def Data.ddA : FVec Ideal S1x512 .f32 := fun i => ((∑ a, D.gy a (i 1) * D.u a (i 1) : ℝ) : EReal)
theorem final_dd : (dats m 0 c).arrAt 18 cfg0.N = D.ddA := by
  refine (dats m 0 c).arrAt_eq_of_covers 18 _ (by decide +kernel) fun t hf y => ?_
  idx_vars y
  obtain rfl : y0 = 0 := Subsingleton.elim _ _
  have e0 : (win0_18.blk t).view.emb (ix2 0 y1) = ix2 0 (kc (qq t) y1) := by
    blk_ext [idx t]
  blk_simp
  rw [after0_18, e0]
  exact gather (fun n h i => (outsAt0 m c n h).2.2.2.2.2.1 i) (fun (i : S1x128.Idx) q => fun a => D.gy a (kc q (i 1)) * D.u a (kc q (i 1)))
    (fun t h i => by
      idx_vars i
      beta_reduce
      rw [out_first c H t h]
      rfl)
    (fun t h i => by
      idx_vars i
      obtain rfl : i0 = 0 := Subsingleton.elim _ _
      beta_reduce
      rw [out_later c H t h]
      pointwise [k0_pay1, mt]
      rfl)
    t ((flush0_18 t).mp hf) (ix2 0 y1)
/-- The gradient of the input, in a block's columns. -/
theorem duT_eq (q : Fin 4) (s : Fin 32) (r : Fin 256) (k : Fin 128) : duT D d q s (D.cout q (s.val + 1)) (ix2 r k) = D.duV d (ix2 (tm s r) (kc q k)) := by
  have e1 : gOf (kc q k) = gk q k := Fin.ext (by show (q.val * 128 + k.val) / 16 = q.val * 8 + k.val / 16; omega)
  have e2 : cOf (kc q k) = ⟨k.val % 16, by omega⟩ := Fin.ext (by show (q.val * 128 + k.val) % 16 = k.val % 16; omega)
  show d (ix2 (gOf (kc q k)) (cOf (kc q k))) * (D.gy (tm s r) (kc q k) : EReal) + ((∑ l, (D.ac q s (D.cout q (s.val + 1)) l r.val).im * D.bik q k l : ℝ) : EReal) + ((∑ l, (D.ac q s (D.cout q (s.val + 1)) l r.val).re * D.brk q k l : ℝ) : EReal)
    = d (ix2 (gOf (kc q k)) (cOf (kc q k))) * (D.gy (tm s r) (kc q k) : EReal) + (D.duI (tm s r) (gOf (kc q k)) (cOf (kc q k)) : EReal) + (D.duR (tm s r) (gOf (kc q k)) (cOf (kc q k)) : EReal)
  simp only [ac_eq]
  rw [bik_back D (fun g p => (D.adj g p (tm s r).val).im), brk_back D (fun g p => (D.adj g p (tm s r).val).re), e1, e2]
  rfl
variable (D d) in
omit H in
/-- The wide array of the input's gradient, where the kernel writes it. -/
def Data.duW : FVec Ideal S8192x5376 .f32 := fun i => D.duV d (ix2 (i 0) ⟨(i 1).val % 512, by omega⟩)
theorem final_du (a : Fin 8192) (k : Fin 512) : (dats m 0 c).arrAt 13 cfg0.N (ix2 a ⟨4608 + k.val, by omega⟩ : S8192x5376.Idx) = D.duV d (ix2 a k) := by
  refine ((dats m 0 c).arrAt_apply_of_coversWhere 13 (D.duW d) (P := fun i : S8192x5376.Idx => 36 ≤ (i 1).val / 128 ∧ (i 1).val / 128 < 40)
    (fun β => 36 ≤ β (1 : Fin 2) ∧ β (1 : Fin 2) < 40) (by decide +kernel) (fun t hf y => ?_) (fun j => Iff.rfl) _).trans ?_
  · idx_vars y
    have e0 : (win0_13.blk t).view.emb (ix2 y0 y1) = ix2 (tm (ck t) y0) ⟨(36 + t.val / 32) * 128 + y1.val, by have := lt128 t; omega⟩ := by
      blk_ext [idx t]
    have e1 : (⟨((36 + t.val / 32) * 128 + y1.val) % 512, by omega⟩ : Fin 512) = kc (qq t) y1 := Fin.ext (by
      have := lt128 t
      show ((36 + t.val / 32) * 128 + y1.val) % 512 = t.val / 32 * 128 + y1.val; omega)
    blk_simp
    rw [after0_13, e0]
    show _ = D.duV d (ix2 (tm (ck t) y0) (⟨((36 + t.val / 32) * 128 + y1.val) % 512, by omega⟩ : Fin 512))
    rw [e1, ← duT_eq c H]
    rcases Nat.eq_zero_or_pos (t.val % 32) with h | h
    · rw [out_first c H t h]
    · rw [out_later c H t h]
  · refine (if_pos ?_).trans ?_
    · show 36 ≤ (4608 + k.val) / 128 ∧ (4608 + k.val) / 128 < 40
      omega
    · have e1 : (⟨(4608 + k.val) % 512, by omega⟩ : Fin 512) = k := Fin.ext (by show (4608 + k.val) % 512 = k.val; omega)
      show D.duV d (ix2 a (⟨(4608 + k.val) % 512, by omega⟩ : Fin 512)) = _
      rw [e1]
end Cert.S5
-- ==== Proof.S5fHost.lean ====
module
public import proofs.«01_k».proof.Proof.S5Carry
public import proofs.«01_k».proof.Proof.Gen.S5fKernelIdeal.Frame
@[expose] public section
set_option maxRecDepth 16384
noncomputable section
open Idealize.ShloMosaic Idealize.ShloMosaic.TcCoe Idealize.SL.Sem
/-! What the host hands to the forward kernel: the rates, their powers in closed form, and the factors packed by eights. -/
namespace Cert.S5f
open Cert.S5fKernelIdeal Cert.S5fKernelIdeal.Gen
open Cert.S5 (Data times_mask gOf cOf gl pl)
/-- A valuation whose arguments are the data. -/
structure Holds (D : Data) (d : FVec Ideal S32x16 .f32) (W : Valuation τ sig (Elt Ideal)) : Prop where
  x0 : W (Proc.devRef .tc main_arg0) = D.x0
  x1 : W (Proc.devRef .tc main_arg1) = D.x1
  x2 : W (Proc.devRef .tc main_arg2) = D.x2
  x3 : W (Proc.devRef .tc main_arg3) = D.x3
  x4 : W (Proc.devRef .tc main_arg4) = D.x4
  x5 : W (Proc.devRef .tc main_arg5) = D.x5
  x6 : W (Proc.devRef .tc main_arg6) = D.x6
  x7 : W (Proc.devRef .tc main_arg7) = D.x7
  x8 : W (Proc.devRef .tc main_arg8) = d
theorem after_add (l₁ l₂ : List (HloOp τ sig (Elt Ideal))) (V : Valuation τ sig (Elt Ideal)) : StableHlo.after (l₁ ++ l₂) V = StableHlo.after l₂ (StableHlo.after l₁ V) := by
  induction l₁ generalizing V with
  | nil => rfl
  | cons op l ih => exact ih _
/-- The buffers when the kernel starts. -/
def start (W : Valuation τ sig (Elt Ideal)) : Valuation τ sig (Elt Ideal) := StableHlo.after hostOps0_2 (StableHlo.after hostOps0_1 (StableHlo.after hostOps0 W))
theorem start_of (W : Valuation τ sig (Elt Ideal)) : StableHlo.after ([hostOps0, hostOps0_1, hostOps0_2] : List (List (HloOp τ sig (Elt Ideal)))).flatten W = start W := by
  simp only [List.flatten_cons, List.flatten_nil, List.append_nil, after_add]; rfl
/-- One more than a row's number, as the host writes it. -/
theorem next (t : ℕ) (h : t < 256) : (1 : EReal) + FloatOps.sitofp (F := Ideal) FTy.f32 (BitVec.ofNat 32 t) = (((t + 1 : ℕ) : ℝ) : EReal) := by
  have e := Ops.nn_eq ⟨t, h⟩
  unfold Ops.nn at e
  rw [Ops.one_eq, EReal.coe_one] at e
  exact e
variable {D : Data} {d : FVec Ideal S32x16 .f32} {W : Valuation τ sig (Elt Ideal)} (H : Holds D d W)
include H
theorem start_10 : start W (Proc.devRef .tc main_v10) = (fun i => ((D.ra (i 0) (i 2)).re : EReal) : FVec Ideal S4x1x512 .f32) := by
  unfold start
  after_reads_simp
  rw [H.x1, H.x2, H.x3]
  funext i
  idx_vars i
  pointwise [Data.x1, Data.x2, Data.x3, Data.ra, Data.rate]
  simp only [← EReal.coe_mul, Ideal.exp_coe, Ideal.cos_coe]
theorem start_14 : start W (Proc.devRef .tc main_v14) = (fun i => ((D.ra (i 0) (i 2)).im : EReal) : FVec Ideal S4x1x512 .f32) := by
  unfold start
  after_reads_simp
  rw [H.x1, H.x2, H.x3]
  funext i
  idx_vars i
  pointwise [Data.x1, Data.x2, Data.x3, Data.ra, Data.rate]
  simp only [← EReal.coe_mul, Ideal.exp_coe, Ideal.sin_coe]
theorem start_31 : start W (Proc.devRef .tc main_v31) = (fun i => (((D.ra (i 0) (i 2) ^ ((i 1).val + 1)).re : ℝ) : EReal) : FVec Ideal S4x256x512 .f32) := by
  unfold start
  after_reads_simp
  rw [H.x1, H.x2, H.x3]
  funext i
  idx_vars i
  pointwise [Data.x1, Data.x2, Data.x3, Data.ra, Data.rate]
  rw [Powers.polar_pow]
  simp only [next i1.val i1.isLt, ← EReal.coe_mul, Ideal.exp_coe, Ideal.cos_coe]
theorem start_38 : start W (Proc.devRef .tc main_v38) = (fun i => (((D.ra (i 0) (i 2) ^ ((i 1).val + 1)).im : ℝ) : EReal) : FVec Ideal S4x256x512 .f32) := by
  unfold start
  after_reads_simp
  rw [H.x1, H.x2, H.x3]
  funext i
  idx_vars i
  pointwise [Data.x1, Data.x2, Data.x3, Data.ra, Data.rate]
  rw [Powers.polar_pow]
  simp only [next i1.val i1.isLt, ← EReal.coe_mul, Ideal.exp_coe, Ideal.sin_coe]
theorem start_54 : start W (Proc.devRef .tc main_v54) = (fun i => ((D.brk (i 0) (i 1) (i 2) : ℝ) : EReal) : FVec Ideal S4x128x512 .f32) := by
  unfold start
  after_reads_simp
  rw [H.x4]
  funext i
  idx_vars i
  pointwise [Data.x4, Data.brk]
  exact times_mask (i1.val / 16) (i2.val / 64) (by omega) (by omega) _
theorem start_69 : start W (Proc.devRef .tc main_v69) = (fun i => ((D.bik (i 0) (i 1) (i 2) : ℝ) : EReal) : FVec Ideal S4x128x512 .f32) := by
  unfold start
  after_reads_simp
  rw [H.x5]
  funext i
  idx_vars i
  pointwise [Data.x5, Data.bik]
  exact times_mask (i1.val / 16) (i2.val / 64) (by omega) (by omega) _
theorem start_84 : start W (Proc.devRef .tc main_v84) = (fun i => ((D.crk (i 0) (i 1) (i 2) : ℝ) : EReal) : FVec Ideal S4x512x128 .f32) := by
  unfold start
  after_reads_simp
  rw [H.x6]
  funext i
  idx_vars i
  pointwise [Data.x6, Data.crk]
  exact times_mask (i1.val / 64) (i2.val / 16) (by omega) (by omega) _
theorem start_99 : start W (Proc.devRef .tc main_v99) = (fun i => ((D.cik (i 0) (i 1) (i 2) : ℝ) : EReal) : FVec Ideal S4x512x128 .f32) := by
  unfold start
  after_reads_simp
  rw [H.x7]
  funext i
  idx_vars i
  pointwise [Data.x7, Data.cik]
  exact times_mask (i1.val / 64) (i2.val / 16) (by omega) (by omega) _
theorem start_100 : start W (Proc.devRef .tc main_v100) = (fun i => d (ix2 (gOf (i 1)) (cOf (i 1))) : FVec Ideal S1x512 .f32) := by
  unfold start
  after_reads_simp
  rw [H.x8]
  funext i
  idx_vars i
  pointwise
  done
theorem start_39 : ∃ v : FVec Ideal S_ .f32, start W (Proc.devRef .tc main_v39) = pad S8192x5376 ![0, 4608] ![0, 256] ![0, 0] D.x0 v pads_S8192x512_S8192x5376_000_46082560 h_S_ := by
  unfold start
  after_reads_simp
  rw [H.x0]
  exact ⟨_, rfl⟩
end Cert.S5f
-- ==== Proof.S5fTile.lean ====
module
public import proofs.«01_k».proof.Proof.S5Tile
public import proofs.«01_k».proof.Proof.Gen.S5fKernelIdeal.Skeleton
@[expose] public section
set_option maxRecDepth 16384
noncomputable section
open Idealize.ShloMosaic Idealize.ShloMosaic.TcCoe Idealize.SL.Sem
/-! What one grid point of the forward kernel computes: a chunk of 256 steps of 512 states. -/
namespace Cert.S5f
open Cert.S5fKernelIdeal Cert.S5fKernelIdeal.Gen
open Cert.S5 (Fam part re im rr ri mt dn dn_re dn_im rowNo zeros pw W tf hs mulc_re mulc_im mulr_re mulr_im add_re add_im sq_re sq_im lev part_congr W_one sumR eq_row)
/-- A rate times a shifted window, the product of the real parts … -/
abbrev mre (a : Fin 512 → ℂ) (Y : Fam) : FVec Ideal S256x512 .f32 := mulf (broadcastTo S256x512 (rr a) broadcasts_S1x512_S256x512) (re Y)
/-- … and that of the imaginary parts. -/
abbrev mim (a : Fin 512 → ℂ) (Y : Fam) : FVec Ideal S256x512 .f32 := mulf (broadcastTo S256x512 (ri a) broadcasts_S1x512_S256x512) (im Y)
variable (a h : Fin 512 → ℂ) (U : Fin 256 → Fin 128 → ℝ) (BR BI : Fin 128 → Fin 512 → ℝ) (CR CI : Fin 512 → Fin 128 → ℝ) (P f : Fam) (x : FVec Ideal S1x128 .f32)
theorem b16 : k0_pay16 (mt U) (mt BR) = re (W a (tf U BR BI) 1) := by
  refine Eq.trans ?_ (part_congr Complex.re _ _ (W_one a U BR BI))
  funext i
  idx_vars i
  pointwise [k0_pay16, S5.mt, part, tf]
  rw [sumR]
theorem b17 : k0_pay17 (mt U) (mt BI) = im (W a (tf U BR BI) 1) := by
  refine Eq.trans ?_ (part_congr Complex.im _ _ (W_one a U BR BI))
  funext i
  idx_vars i
  pointwise [k0_pay17, S5.mt, part, tf]
  rw [sumR]
theorem q20 : k0_pay20 (mt U) (rr (pw a 1)) (ri (pw a 1)) (mt BR) (mt BI) = re (W a (tf U BR BI) 2) := by
  simp only [k0_pay20, k0_pay18, k0_pay19, b16 a U BR BI, b17 a U BR BI, dn_re 1 (by norm_num), dn_im 1 (by norm_num), mulc_re, add_re, lev, Nat.reduceAdd]
theorem q21 : k0_pay21 (mt U) (rr (pw a 1)) (ri (pw a 1)) (mt BR) (mt BI) = im (W a (tf U BR BI) 2) := by
  simp only [k0_pay21, k0_pay18, k0_pay19, b16 a U BR BI, b17 a U BR BI, dn_re 1 (by norm_num), dn_im 1 (by norm_num), mulc_im, add_im, lev, Nat.reduceAdd]
theorem q22 : k0_pay22 (rr (pw a 1)) (ri (pw a 1)) = rr (pw a 2) := by
  simp only [k0_pay22, sq_re, Nat.reduceAdd]
theorem q23 : k0_pay23 (rr (pw a 1)) (ri (pw a 1)) = (mulf (rr (pw a 1)) (ri (pw a 1))) := rfl
theorem q27 : k0_pay27 (rr (pw a 1)) (ri (pw a 1)) (re (W a f 2)) (im (W a f 2)) (rr (pw a 2)) (mulf (rr (pw a 1)) (ri (pw a 1))) = re (W a f 4) := by
  simp only [k0_pay24, k0_pay25, k0_pay26, k0_pay27, dn_re 2 (by norm_num), dn_im 2 (by norm_num), sq_re, sq_im, mulc_re, mulc_im, add_re, add_im, lev, Nat.reduceAdd]
theorem q28 : k0_pay28 (rr (pw a 1)) (ri (pw a 1)) (re (W a f 2)) (im (W a f 2)) (rr (pw a 2)) (mulf (rr (pw a 1)) (ri (pw a 1))) = im (W a f 4) := by
  simp only [k0_pay24, k0_pay25, k0_pay26, k0_pay28, dn_re 2 (by norm_num), dn_im 2 (by norm_num), sq_re, sq_im, mulc_re, mulc_im, add_re, add_im, lev, Nat.reduceAdd]
theorem q29 : k0_pay29 (rr (pw a 1)) (ri (pw a 1)) (rr (pw a 2)) (mulf (rr (pw a 1)) (ri (pw a 1))) = rr (pw a 4) := by
  simp only [k0_pay24, k0_pay29, sq_re, sq_im, mulc_re, mulc_im, add_re, add_im, lev, Nat.reduceAdd]
theorem q30 : k0_pay30 (rr (pw a 1)) (ri (pw a 1)) (rr (pw a 2)) (mulf (rr (pw a 1)) (ri (pw a 1))) = ri (pw a 4) := by
  simp only [k0_pay24, k0_pay30, sq_re, sq_im, mulc_re, mulc_im, add_re, add_im, lev, Nat.reduceAdd]
theorem q31 : k0_pay31 (rr (pw a 1)) (ri (pw a 1)) (re (W a f 2)) (im (W a f 2)) (rr (pw a 2)) (mulf (rr (pw a 1)) (ri (pw a 1))) = re (dn 4 (W a f 4)) := by
  simp only [k0_pay24, k0_pay25, k0_pay26, k0_pay27, k0_pay31, dn_re 2 (by norm_num), dn_im 2 (by norm_num), dn_re 4 (by norm_num), dn_im 4 (by norm_num), sq_re, sq_im, mulc_re, mulc_im, add_re, add_im, lev, Nat.reduceAdd]
theorem q32 : k0_pay32 (rr (pw a 1)) (ri (pw a 1)) (re (W a f 2)) (im (W a f 2)) (rr (pw a 2)) (mulf (rr (pw a 1)) (ri (pw a 1))) = im (dn 4 (W a f 4)) := by
  simp only [k0_pay24, k0_pay25, k0_pay26, k0_pay28, k0_pay32, dn_re 2 (by norm_num), dn_im 2 (by norm_num), dn_re 4 (by norm_num), dn_im 4 (by norm_num), sq_re, sq_im, mulc_re, mulc_im, add_re, add_im, lev, Nat.reduceAdd]
theorem q33 : k0_pay33 (rr (pw a 1)) (ri (pw a 1)) (re (W a f 2)) (im (W a f 2)) (rr (pw a 2)) (mulf (rr (pw a 1)) (ri (pw a 1))) = mre (pw a 4) (dn 4 (W a f 4)) := by
  simp only [k0_pay24, k0_pay25, k0_pay26, k0_pay27, k0_pay29, k0_pay31, k0_pay33, dn_re 2 (by norm_num), dn_im 2 (by norm_num), dn_re 4 (by norm_num), dn_im 4 (by norm_num), sq_re, sq_im, mulc_re, mulc_im, add_re, add_im, lev, Nat.reduceAdd]
theorem q34 : k0_pay34 (rr (pw a 1)) (ri (pw a 1)) (re (W a f 2)) (im (W a f 2)) (rr (pw a 2)) (mulf (rr (pw a 1)) (ri (pw a 1))) = mim (pw a 4) (dn 4 (W a f 4)) := by
  simp only [k0_pay24, k0_pay25, k0_pay26, k0_pay28, k0_pay30, k0_pay32, k0_pay34, dn_re 2 (by norm_num), dn_im 2 (by norm_num), dn_re 4 (by norm_num), dn_im 4 (by norm_num), sq_re, sq_im, mulc_re, mulc_im, add_re, add_im, lev, Nat.reduceAdd]
theorem q41 : k0_pay41 (re (W a f 4)) (im (W a f 4)) (rr (pw a 4)) (ri (pw a 4)) (re (dn 4 (W a f 4))) (im (dn 4 (W a f 4))) (mre (pw a 4) (dn 4 (W a f 4))) (mim (pw a 4) (dn 4 (W a f 4))) = re (W a f 16) := by
  simp only [k0_pay35, k0_pay36, k0_pay37, k0_pay38, k0_pay39, k0_pay40, k0_pay41, dn_re 8 (by norm_num), dn_im 8 (by norm_num), sq_re, sq_im, mulc_re, mulc_im, add_re, add_im, lev, Nat.reduceAdd]
theorem q42 : k0_pay42 (re (W a f 4)) (im (W a f 4)) (rr (pw a 4)) (ri (pw a 4)) (re (dn 4 (W a f 4))) (im (dn 4 (W a f 4))) (mre (pw a 4) (dn 4 (W a f 4))) (mim (pw a 4) (dn 4 (W a f 4))) = im (W a f 16) := by
  simp only [k0_pay35, k0_pay36, k0_pay37, k0_pay38, k0_pay39, k0_pay40, k0_pay42, dn_re 8 (by norm_num), dn_im 8 (by norm_num), sq_re, sq_im, mulc_re, mulc_im, add_re, add_im, lev, Nat.reduceAdd]
theorem q43 : k0_pay43 (rr (pw a 4)) (ri (pw a 4)) = rr (pw a 16) := by
  simp only [k0_pay37, k0_pay38, k0_pay43, sq_re, sq_im, mulc_re, mulc_im, add_re, add_im, lev, Nat.reduceAdd]
theorem q44 : k0_pay44 (rr (pw a 4)) (ri (pw a 4)) = ri (pw a 16) := by
  simp only [k0_pay37, k0_pay38, k0_pay44, sq_re, sq_im, mulc_re, mulc_im, add_re, add_im, lev, Nat.reduceAdd]
theorem q45 : k0_pay45 (re (W a f 4)) (im (W a f 4)) (rr (pw a 4)) (ri (pw a 4)) (re (dn 4 (W a f 4))) (im (dn 4 (W a f 4))) (mre (pw a 4) (dn 4 (W a f 4))) (mim (pw a 4) (dn 4 (W a f 4))) = re (dn 16 (W a f 16)) := by
  simp only [k0_pay35, k0_pay36, k0_pay37, k0_pay38, k0_pay39, k0_pay40, k0_pay41, k0_pay45, dn_re 8 (by norm_num), dn_im 8 (by norm_num), dn_re 16 (by norm_num), dn_im 16 (by norm_num), sq_re, sq_im, mulc_re, mulc_im, add_re, add_im, lev, Nat.reduceAdd]
theorem q49 : k0_pay49 (rr (pw a 16)) (ri (pw a 16)) = rr (pw a 32) := by
  simp only [k0_pay49, sq_re, sq_im, mulc_re, mulc_im, add_re, add_im, lev, Nat.reduceAdd]
theorem q50 : k0_pay50 (rr (pw a 16)) (ri (pw a 16)) = ri (pw a 32) := by
  simp only [k0_pay50, sq_re, sq_im, mulc_re, mulc_im, add_re, add_im, lev, Nat.reduceAdd]
theorem q53 : k0_pay53 (re (W a f 16)) (im (W a f 16)) (rr (pw a 16)) (ri (pw a 16)) (re (dn 16 (W a f 16))) rowNo = re (W a f 64) := by
  simp only [k0_pay46, k0_pay47, k0_pay48, k0_pay49, k0_pay50, k0_pay51, k0_pay52, k0_pay53, dn_re 16 (by norm_num), dn_im 16 (by norm_num), dn_re 32 (by norm_num), dn_im 32 (by norm_num), sq_re, sq_im, mulc_re, mulc_im, add_re, add_im, lev, Nat.reduceAdd]
theorem q54 : k0_pay54 (re (W a f 16)) (im (W a f 16)) (rr (pw a 16)) (ri (pw a 16)) (re (dn 16 (W a f 16))) rowNo = im (W a f 64) := by
  simp only [k0_pay46, k0_pay47, k0_pay48, k0_pay49, k0_pay50, k0_pay51, k0_pay52, k0_pay54, dn_re 16 (by norm_num), dn_im 16 (by norm_num), dn_re 32 (by norm_num), dn_im 32 (by norm_num), sq_re, sq_im, mulc_re, mulc_im, add_re, add_im, lev, Nat.reduceAdd]
theorem q55 : k0_pay55 (rr (pw a 16)) (ri (pw a 16)) = rr (pw a 64) := by
  simp only [k0_pay49, k0_pay50, k0_pay55, sq_re, sq_im, mulc_re, mulc_im, add_re, add_im, lev, Nat.reduceAdd]
theorem q56 : k0_pay56 (rr (pw a 16)) (ri (pw a 16)) = mulf (rr (pw a 32)) (ri (pw a 32)) := by
  simp only [k0_pay49, k0_pay50, k0_pay56, sq_re, sq_im, mulc_re, mulc_im, add_re, add_im, lev, Nat.reduceAdd]
theorem q60 : k0_pay60 (rr (pw a 32)) (ri (pw a 32)) (re (W a f 64)) (im (W a f 64)) (rr (pw a 64)) (mulf (rr (pw a 32)) (ri (pw a 32))) = re (W a f 128) := by
  simp only [k0_pay57, k0_pay58, k0_pay59, k0_pay60, dn_re 64 (by norm_num), dn_im 64 (by norm_num), sq_re, sq_im, mulc_re, mulc_im, add_re, add_im, lev, Nat.reduceAdd]
theorem q61 : k0_pay61 (rr (pw a 32)) (ri (pw a 32)) (re (W a f 64)) (im (W a f 64)) (rr (pw a 64)) (mulf (rr (pw a 32)) (ri (pw a 32))) = im (W a f 128) := by
  simp only [k0_pay57, k0_pay58, k0_pay59, k0_pay61, dn_re 64 (by norm_num), dn_im 64 (by norm_num), sq_re, sq_im, mulc_re, mulc_im, add_re, add_im, lev, Nat.reduceAdd]
theorem q62 : k0_pay62 (rr (pw a 32)) (ri (pw a 32)) (rr (pw a 64)) (mulf (rr (pw a 32)) (ri (pw a 32))) = rr (pw a 128) := by
  simp only [k0_pay57, k0_pay62, sq_re, sq_im, mulc_re, mulc_im, add_re, add_im, lev, Nat.reduceAdd]
theorem q63 : k0_pay63 (rr (pw a 32)) (ri (pw a 32)) (rr (pw a 64)) (mulf (rr (pw a 32)) (ri (pw a 32))) = ri (pw a 128) := by
  simp only [k0_pay57, k0_pay63, sq_re, sq_im, mulc_re, mulc_im, add_re, add_im, lev, Nat.reduceAdd]
theorem q64 : k0_pay64 (rr (pw a 32)) (ri (pw a 32)) (re (W a f 64)) (im (W a f 64)) (rr (pw a 64)) (mulf (rr (pw a 32)) (ri (pw a 32))) = re (dn 128 (W a f 128)) := by
  simp only [k0_pay57, k0_pay58, k0_pay59, k0_pay60, k0_pay64, dn_re 64 (by norm_num), dn_im 64 (by norm_num), dn_re 128 (by norm_num), dn_im 128 (by norm_num), sq_re, sq_im, mulc_re, mulc_im, add_re, add_im, lev, Nat.reduceAdd]
theorem q65 : k0_pay65 (rr (pw a 32)) (ri (pw a 32)) (re (W a f 64)) (im (W a f 64)) (rr (pw a 64)) (mulf (rr (pw a 32)) (ri (pw a 32))) = im (dn 128 (W a f 128)) := by
  simp only [k0_pay57, k0_pay58, k0_pay59, k0_pay61, k0_pay65, dn_re 64 (by norm_num), dn_im 64 (by norm_num), dn_re 128 (by norm_num), dn_im 128 (by norm_num), sq_re, sq_im, mulc_re, mulc_im, add_re, add_im, lev, Nat.reduceAdd]
theorem q66 : k0_pay66 (rr (pw a 32)) (ri (pw a 32)) (re (W a f 64)) (im (W a f 64)) (rr (pw a 64)) (mulf (rr (pw a 32)) (ri (pw a 32))) = mre (pw a 128) (dn 128 (W a f 128)) := by
  simp only [k0_pay57, k0_pay58, k0_pay59, k0_pay60, k0_pay62, k0_pay64, k0_pay66, dn_re 64 (by norm_num), dn_im 64 (by norm_num), dn_re 128 (by norm_num), dn_im 128 (by norm_num), sq_re, sq_im, mulc_re, mulc_im, add_re, add_im, lev, Nat.reduceAdd]
theorem q67 : k0_pay67 (rr (pw a 32)) (ri (pw a 32)) (re (W a f 64)) (im (W a f 64)) (rr (pw a 64)) (mulf (rr (pw a 32)) (ri (pw a 32))) = mim (pw a 128) (dn 128 (W a f 128)) := by
  simp only [k0_pay57, k0_pay58, k0_pay59, k0_pay61, k0_pay63, k0_pay65, k0_pay67, dn_re 64 (by norm_num), dn_im 64 (by norm_num), dn_re 128 (by norm_num), dn_im 128 (by norm_num), sq_re, sq_im, mulc_re, mulc_im, add_re, add_im, lev, Nat.reduceAdd]
theorem q68 : k0_pay68 (re P) (im P) (rr h) (ri h) (re (W a f 128)) (mre (pw a 128) (dn 128 (W a f 128))) (mim (pw a 128) (dn 128 (W a f 128))) = re (hs a h P f) := by
  simp only [k0_pay68, sq_re, sq_im, mulc_re, mulc_im, add_re, add_im, lev, Nat.reduceAdd, mulr_re]
  rfl
theorem q69 : k0_pay69 (re P) (im P) (rr h) (ri h) (im (W a f 128)) (rr (pw a 128)) (ri (pw a 128)) (re (dn 128 (W a f 128))) (im (dn 128 (W a f 128))) = im (hs a h P f) := by
  simp only [k0_pay69, sq_re, sq_im, mulc_re, mulc_im, add_re, add_im, lev, Nat.reduceAdd, mulr_im]
  rfl
/-- The output of a chunk. -/
theorem q70 : k0_pay70 (mt U) (re P) (im P) (mt CR) (mt CI) x (rr h) (ri h) (re (W a f 128)) (im (W a f 128)) (rr (pw a 128)) (ri (pw a 128)) (re (dn 128 (W a f 128))) (im (dn 128 (W a f 128))) (mre (pw a 128) (dn 128 (W a f 128))) (mim (pw a 128) (dn 128 (W a f 128))) =
    fun i => ((∑ l, (hs a h P f l (i 0).val).re * CR l (i 1) : ℝ) : EReal) - ((∑ l, (hs a h P f l (i 0).val).im * CI l (i 1) : ℝ) : EReal) + x (ix2 0 (i 1)) * (U (i 0) (i 1) : EReal) := by
  simp only [k0_pay70, q68, q69]
  funext i
  idx_vars i
  pointwise [S5.mt, part]
  show (∑ l : Fin 512, ((hs a h P f l i0.val).re : EReal) * (CR l i1 : EReal)) - (∑ l : Fin 512, ((hs a h P f l i0.val).im : EReal) * (CI l i1 : EReal)) + x (ix2 0 i1) * (U i0 i1 : EReal) = _
  rw [sumR, sumR]
/-- The last row of a chunk, picked out by a sum. -/
theorem row_255 (Y : Fin 256 → EReal) : ∑ t : Fin 256, (if t.val = 255 then Y t else 0) = Y 255 := by
  refine (Finset.sum_eq_single (255 : Fin 256) (fun b _ hb => if_neg fun e => hb (Fin.ext e)) (fun hb => absurd (Finset.mem_univ _) hb)).trans ?_
  exact if_pos rfl
theorem eq_255 : ∀ t : Fin 256, IntOp.cmpi CmpIPredicate.eq (BitVec.ofNat 32 t.val) 255#32 = if t.val = 255 then 1#1 else 0#1 := by decide +kernel
theorem q71 : k0_pay71 (re P) (im P) (rr h) (ri h) (im (W a f 128)) (rr (pw a 128)) (ri (pw a 128)) (re (dn 128 (W a f 128))) (im (dn 128 (W a f 128))) = ri fun l => hs a h P f l 255 := by
  simp only [k0_pay71, q69]
  funext i
  idx_vars i
  obtain rfl : i0 = 0 := Subsingleton.elim _ _
  pointwise
  refine Eq.trans (Finset.sum_congr rfl fun t _ => ?_) (row_255 fun t => im (hs a h P f) (ix2 t i1))
  refine (congrArg (fun b : BitVec 1 => Scalar.select b (im (hs a h P f) (ix2 t i1)) 0) (eq_255 t)).trans ?_
  split <;> rfl
theorem q72 : k0_pay72 (re P) (im P) (rr h) (ri h) (re (W a f 128)) (mre (pw a 128) (dn 128 (W a f 128))) (mim (pw a 128) (dn 128 (W a f 128))) = rr fun l => hs a h P f l 255 := by
  simp only [k0_pay72, q68]
  funext i
  idx_vars i
  obtain rfl : i0 = 0 := Subsingleton.elim _ _
  pointwise
  refine Eq.trans (Finset.sum_congr rfl fun t _ => ?_) (row_255 fun t => re (hs a h P f) (ix2 t i1))
  refine (congrArg (fun b : BitVec 1 => Scalar.select b (re (hs a h P f) (ix2 t i1)) 0) (eq_255 t)).trans ?_
  split <;> rfl
theorem none_re : k0_pay12 = rr fun _ => 0 := by
  funext i
  idx_vars i
  pointwise [k0_pay12, rr]
  rfl
theorem none_im : k0_pay13 = ri fun _ => 0 := by
  funext i
  idx_vars i
  pointwise [k0_pay13, ri]
  rfl
end Cert.S5f
-- ==== Proof.S5fStep.lean ====
module
public import proofs.«01_k».proof.Proof.S5fHost
public import proofs.«01_k».proof.Proof.S5fTile
@[expose] public section
set_option maxRecDepth 16384
noncomputable section
open Idealize.ShloMosaic Idealize.ShloMosaic.TcCoe Idealize.SL.Sem
/-! One grid point of the forward kernel: its tiles, and what it leaves. -/
namespace Cert.S5f
open Cert.S5fKernelIdeal Cert.S5fKernelIdeal.Gen
open Cert.S5 (Data gOf cOf ch gl pl gk kc tm Fam part re im rr ri pw W tf hs rowNo hc_eq mul_mask mask_l)
variable (m : (ℓ : Loc nD τ sig) → Buf (Elt Ideal) ℓ)
theorem idx : ∀ t : Fin cfg0.N, win0_0.index t = ![t.val % 32, 36 + t.val / 32] ∧ win0_1.index t = ![t.val / 32, 0, 0] ∧ win0_2.index t = ![t.val / 32, 0, 0] ∧
    win0_3.index t = ![t.val / 32, 0, 0] ∧ win0_4.index t = ![t.val / 32, 0, 0] ∧ win0_5.index t = ![t.val / 32, 0, 0] ∧ win0_6.index t = ![t.val / 32, 0, 0] ∧
    win0_7.index t = ![t.val / 32, 0, 0] ∧ win0_8.index t = ![t.val / 32, 0, 0] ∧ win0_9.index t = ![0, t.val / 32] ∧ win0_10.index t = ![t.val % 32, t.val / 32] ∧
    win0_11.index t = ![t.val / 32, t.val % 32, 0, 0] ∧ win0_12.index t = ![t.val / 32, t.val % 32, 0, 0] :=
  (by decide +kernel : ∀ t : Fin grid0.N, _)
theorem lt128 (t : Fin cfg0.N) : t.val < 128 := by have := t.isLt; have : cfg0.N = 128 := N_0; omega
/-- The block of a grid point, -/
abbrev qq (t : Fin cfg0.N) : Fin 4 := ⟨t.val / 32, by have := lt128 t; omega⟩
/-- and its chunk of time. -/
abbrev ck (t : Fin cfg0.N) : Fin 32 := ⟨t.val % 32, by omega⟩
variable {D : Data} {d : FVec Ideal S32x16 .f32} {m} (c : Dev nD) (H : Holds D d fun b => m (c, b)) (t : Fin cfg0.N)
include H
theorem arr_v10 : V m c main_v10 = (fun i => ((D.ra (i 0) (i 2)).re : EReal) : FVec Ideal S4x1x512 .f32) := (congrFun (start_of _) _).trans (start_10 H)
theorem tile_1 : k0_pay3 (iblk m c 1 t) = rr (pw (D.ra (qq t)) 1) := by
  have b : ∀ (l : Fin 512), iblk m c 1 t (ix3 0 0 l) = (fun i => ((D.ra (i 0) (i 2)).re : EReal) : FVec Ideal S4x1x512 .f32) (ix3 (qq t) 0 l) := fun l => by
    have e : ((View.whole main_v10).slice (win0_1.rect t)).emb (ix3 0 0 l) = (ix3 (qq t) 0 l : S4x1x512.Idx) := by
      blk_ext [idx t]
    blk_simp [iblk, idx t]
    exact (congrFun (arr_v10 c H) _).trans (congrArg (fun i => ((D.ra (i 0) (i 2)).re : EReal) : FVec Ideal S4x1x512 .f32) e)
  funext i
  idx_vars i
  pointwise [k0_pay3, b]
  show _ = (((D.ra (qq t) i1 ^ 1).re : ℝ) : EReal)
  rw [pow_one]
theorem arr_v14 : V m c main_v14 = (fun i => ((D.ra (i 0) (i 2)).im : EReal) : FVec Ideal S4x1x512 .f32) := (congrFun (start_of _) _).trans (start_14 H)
theorem tile_2 : k0_pay4 (iblk m c 2 t) = ri (pw (D.ra (qq t)) 1) := by
  have b : ∀ (l : Fin 512), iblk m c 2 t (ix3 0 0 l) = (fun i => ((D.ra (i 0) (i 2)).im : EReal) : FVec Ideal S4x1x512 .f32) (ix3 (qq t) 0 l) := fun l => by
    have e : ((View.whole main_v14).slice (win0_2.rect t)).emb (ix3 0 0 l) = (ix3 (qq t) 0 l : S4x1x512.Idx) := by
      blk_ext [idx t]
    blk_simp [iblk, idx t]
    exact (congrFun (arr_v14 c H) _).trans (congrArg (fun i => ((D.ra (i 0) (i 2)).im : EReal) : FVec Ideal S4x1x512 .f32) e)
  funext i
  idx_vars i
  pointwise [k0_pay4, b]
  show _ = (((D.ra (qq t) i1 ^ 1).im : ℝ) : EReal)
  rw [pow_one]
theorem arr_v54 : V m c main_v54 = (fun i => ((D.brk (i 0) (i 1) (i 2) : ℝ) : EReal) : FVec Ideal S4x128x512 .f32) := (congrFun (start_of _) _).trans (start_54 H)
theorem tile_3 : k0_pay5 (iblk m c 3 t) = S5.mt (D.brk (qq t)) := by
  have b : ∀ (k : Fin 128) (l : Fin 512), iblk m c 3 t (ix3 0 k l) = (fun i => ((D.brk (i 0) (i 1) (i 2) : ℝ) : EReal) : FVec Ideal S4x128x512 .f32) (ix3 (qq t) k l) := fun k l => by
    have e : ((View.whole main_v54).slice (win0_3.rect t)).emb (ix3 0 k l) = (ix3 (qq t) k l : S4x128x512.Idx) := by
      blk_ext [idx t]
    blk_simp [iblk, idx t]
    exact (congrFun (arr_v54 c H) _).trans (congrArg (fun i => ((D.brk (i 0) (i 1) (i 2) : ℝ) : EReal) : FVec Ideal S4x128x512 .f32) e)
  funext i
  idx_vars i
  pointwise [k0_pay5, b]
  rfl
theorem arr_v69 : V m c main_v69 = (fun i => ((D.bik (i 0) (i 1) (i 2) : ℝ) : EReal) : FVec Ideal S4x128x512 .f32) := (congrFun (start_of _) _).trans (start_69 H)
theorem tile_4 : k0_pay6 (iblk m c 4 t) = S5.mt (D.bik (qq t)) := by
  have b : ∀ (k : Fin 128) (l : Fin 512), iblk m c 4 t (ix3 0 k l) = (fun i => ((D.bik (i 0) (i 1) (i 2) : ℝ) : EReal) : FVec Ideal S4x128x512 .f32) (ix3 (qq t) k l) := fun k l => by
    have e : ((View.whole main_v69).slice (win0_4.rect t)).emb (ix3 0 k l) = (ix3 (qq t) k l : S4x128x512.Idx) := by
      blk_ext [idx t]
    blk_simp [iblk, idx t]
    exact (congrFun (arr_v69 c H) _).trans (congrArg (fun i => ((D.bik (i 0) (i 1) (i 2) : ℝ) : EReal) : FVec Ideal S4x128x512 .f32) e)
  funext i
  idx_vars i
  pointwise [k0_pay6, b]
  rfl
theorem arr_v31 : V m c main_v31 = (fun i => (((D.ra (i 0) (i 2) ^ ((i 1).val + 1)).re : ℝ) : EReal) : FVec Ideal S4x256x512 .f32) := (congrFun (start_of _) _).trans (start_31 H)
theorem tile_5 : k0_pay7 (iblk m c 5 t) = re (D.pws (qq t)) := by
  have b : ∀ (r : Fin 256) (l : Fin 512), iblk m c 5 t (ix3 0 r l) = (fun i => (((D.ra (i 0) (i 2) ^ ((i 1).val + 1)).re : ℝ) : EReal) : FVec Ideal S4x256x512 .f32) (ix3 (qq t) r l) := fun r l => by
    have e : ((View.whole main_v31).slice (win0_5.rect t)).emb (ix3 0 r l) = (ix3 (qq t) r l : S4x256x512.Idx) := by
      blk_ext [idx t]
    blk_simp [iblk, idx t]
    exact (congrFun (arr_v31 c H) _).trans (congrArg (fun i => (((D.ra (i 0) (i 2) ^ ((i 1).val + 1)).re : ℝ) : EReal) : FVec Ideal S4x256x512 .f32) e)
  funext i
  idx_vars i
  pointwise [k0_pay7, b]
  rfl
theorem arr_v38 : V m c main_v38 = (fun i => (((D.ra (i 0) (i 2) ^ ((i 1).val + 1)).im : ℝ) : EReal) : FVec Ideal S4x256x512 .f32) := (congrFun (start_of _) _).trans (start_38 H)
theorem tile_6 : k0_pay8 (iblk m c 6 t) = im (D.pws (qq t)) := by
  have b : ∀ (r : Fin 256) (l : Fin 512), iblk m c 6 t (ix3 0 r l) = (fun i => (((D.ra (i 0) (i 2) ^ ((i 1).val + 1)).im : ℝ) : EReal) : FVec Ideal S4x256x512 .f32) (ix3 (qq t) r l) := fun r l => by
    have e : ((View.whole main_v38).slice (win0_6.rect t)).emb (ix3 0 r l) = (ix3 (qq t) r l : S4x256x512.Idx) := by
      blk_ext [idx t]
    blk_simp [iblk, idx t]
    exact (congrFun (arr_v38 c H) _).trans (congrArg (fun i => (((D.ra (i 0) (i 2) ^ ((i 1).val + 1)).im : ℝ) : EReal) : FVec Ideal S4x256x512 .f32) e)
  funext i
  idx_vars i
  pointwise [k0_pay8, b]
  rfl
theorem arr_v84 : V m c main_v84 = (fun i => ((D.crk (i 0) (i 1) (i 2) : ℝ) : EReal) : FVec Ideal S4x512x128 .f32) := (congrFun (start_of _) _).trans (start_84 H)
theorem tile_7 : k0_pay9 (iblk m c 7 t) = S5.mt (D.crk (qq t)) := by
  have b : ∀ (l : Fin 512) (k : Fin 128), iblk m c 7 t (ix3 0 l k) = (fun i => ((D.crk (i 0) (i 1) (i 2) : ℝ) : EReal) : FVec Ideal S4x512x128 .f32) (ix3 (qq t) l k) := fun l k => by
    have e : ((View.whole main_v84).slice (win0_7.rect t)).emb (ix3 0 l k) = (ix3 (qq t) l k : S4x512x128.Idx) := by
      blk_ext [idx t]
    blk_simp [iblk, idx t]
    exact (congrFun (arr_v84 c H) _).trans (congrArg (fun i => ((D.crk (i 0) (i 1) (i 2) : ℝ) : EReal) : FVec Ideal S4x512x128 .f32) e)
  funext i
  idx_vars i
  pointwise [k0_pay9, b]
  rfl
theorem arr_v99 : V m c main_v99 = (fun i => ((D.cik (i 0) (i 1) (i 2) : ℝ) : EReal) : FVec Ideal S4x512x128 .f32) := (congrFun (start_of _) _).trans (start_99 H)
theorem tile_8 : k0_pay10 (iblk m c 8 t) = S5.mt (D.cik (qq t)) := by
  have b : ∀ (l : Fin 512) (k : Fin 128), iblk m c 8 t (ix3 0 l k) = (fun i => ((D.cik (i 0) (i 1) (i 2) : ℝ) : EReal) : FVec Ideal S4x512x128 .f32) (ix3 (qq t) l k) := fun l k => by
    have e : ((View.whole main_v99).slice (win0_8.rect t)).emb (ix3 0 l k) = (ix3 (qq t) l k : S4x512x128.Idx) := by
      blk_ext [idx t]
    blk_simp [iblk, idx t]
    exact (congrFun (arr_v99 c H) _).trans (congrArg (fun i => ((D.cik (i 0) (i 1) (i 2) : ℝ) : EReal) : FVec Ideal S4x512x128 .f32) e)
  funext i
  idx_vars i
  pointwise [k0_pay10, b]
  rfl
theorem arr_v100 : V m c main_v100 = (fun i => d (ix2 (gOf (i 1)) (cOf (i 1))) : FVec Ideal S1x512 .f32) := (congrFun (start_of _) _).trans (start_100 H)
theorem tile_9 (k : Fin 128) : k0_pay11 (iblk m c 9 t) (ix2 0 k) = d (ix2 (gOf (kc (qq t) k)) (cOf (kc (qq t) k))) := by
  have b : ∀ (k : Fin 128), iblk m c 9 t (ix2 0 k) = (fun i => d (ix2 (gOf (i 1)) (cOf (i 1))) : FVec Ideal S1x512 .f32) (ix2 0 (kc (qq t) k)) := fun k => by
    have e : ((View.whole main_v100).slice (win0_9.rect t)).emb (ix2 0 k) = (ix2 0 (kc (qq t) k) : S1x512.Idx) := by
      blk_ext [idx t]
    blk_simp [iblk, idx t]
    exact (congrFun (arr_v100 c H) _).trans (congrArg (fun i => d (ix2 (gOf (i 1)) (cOf (i 1))) : FVec Ideal S1x512 .f32) e)
  pointwise [k0_pay11, b]
theorem tile_0 : k0_pay2 (iblk m c 0 t) = S5.mt (D.ut (qq t) (ck t)) := by
  have b : ∀ (r : Fin 256) (k : Fin 128), iblk m c 0 t (ix2 r k) = ((D.ut (qq t) (ck t) r k : ℝ) : EReal) := fun r k => by
    have e : ((View.whole main_v39).slice (win0_0.rect t)).emb (ix2 r k) = (ix2 (tm (ck t) r) ⟨4608 + (kc (qq t) k).val, by omega⟩ : S8192x5376.Idx) := by
      blk_ext [idx t]
    obtain ⟨v, hv⟩ := start_39 H
    blk_simp [iblk, idx t]
    refine (congrFun ((congrFun (start_of _) _).trans hv) _).trans ((congrArg _ e).trans ?_)
    refine pad_apply_of_inside _ _ _ _ _ _ _ _ (ix2 (tm (ck t) r) (kc (qq t) k)) fun a => ?_
    fin_cases a
    · show (tm (ck t) r).val = 0 + (tm (ck t) r).val * 1; omega
    · show 4608 + (kc (qq t) k).val = 4608 + (kc (qq t) k).val * 1; omega
  funext i
  idx_vars i
  pointwise [k0_pay2, b]
  rfl
omit H in
theorem kept (x : FVec Ideal S1x512 .f32) : k0_pay1 x = x := by
  funext i
  idx_vars i
  pointwise [k0_pay1]
/-- The output of a chunk. -/
def yT (D : Data) (d : FVec Ideal S32x16 .f32) (q : Fin 4) (s : Fin 32) : FVec Ideal S256x128 .f32 := fun i =>
  ((∑ l, (D.hc q s l (i 0).val).re * D.crk q l (i 1) : ℝ) : EReal) - ((∑ l, (D.hc q s l (i 0).val).im * D.cik q l (i 1) : ℝ) : EReal)
    + d (ix2 (gOf (kc q (i 1))) (cOf (kc q (i 1)))) * (D.ut q s (i 0) (i 1) : EReal)
theorem out_eq (x) (hx : x = iblk m c 9 t) : (fun i => ((∑ l, (hs (D.ra (qq t)) (D.hb (qq t) (ck t)) (D.pws (qq t)) (tf (D.ut (qq t) (ck t)) (D.brk (qq t)) (D.bik (qq t))) l (i 0).val).re * D.crk (qq t) l (i 1) : ℝ) : EReal)
    - ((∑ l, (hs (D.ra (qq t)) (D.hb (qq t) (ck t)) (D.pws (qq t)) (tf (D.ut (qq t) (ck t)) (D.brk (qq t)) (D.bik (qq t))) l (i 0).val).im * D.cik (qq t) l (i 1) : ℝ) : EReal)
    + k0_pay11 x (ix2 0 (i 1)) * (D.ut (qq t) (ck t) (i 0) (i 1) : EReal) : FVec Ideal S256x128 .f32) = yT D d (qq t) (ck t) := by
  subst hx
  funext i
  idx_vars i
  have e := tile_9 c H t i1
  show _ - _ + k0_pay11 (iblk m c 9 t) (ix2 0 i1) * _ = _
  rw [e]
  rfl
theorem of_first (h : t.val % 32 = 0) : outsAt0 m c t.val t.isLt = (yT D d (qq t) (ck t), k0_pay14 (F := Ideal) (rr (D.hb (qq t) (ck t))), k0_pay15 (F := Ideal) (ri (D.hb (qq t) (ck t))),
      rr (fun l => D.hc (qq t) (ck t) l 255), ri (fun l => D.hc (qq t) (ck t) l 255)) := by
  have hz : (rr fun _ => 0 : FVec Ideal S1x512 .f32) = rr (D.hb (qq t) (ck t)) := congrArg rr (funext fun l => (if_pos h).symm)
  have hz' : (ri fun _ => 0 : FVec Ideal S1x512 .f32) = ri (D.hb (qq t) (ck t)) := congrArg ri (funext fun l => (if_pos h).symm)
  rw [outsAt0_A m c t h]
  frame_out
  simp only [read_unread_whole, none_re, none_im, hz, hz', kept, tile_0 c H t, tile_1 c H t, tile_2 c H t, tile_3 c H t, tile_4 c H t, tile_5 c H t, tile_6 c H t, tile_7 c H t, tile_8 c H t, q20, q21, q22, q23, q27, q28, q29, q30, q31, q32, q33, q34, q41, q42, q43, q44, q45, q49, q50, q55, q56]
  rw [q53, q54]
  simp only [q60, q61, q62, q63, q64, q65, q66, q67, q68, q69, q70, q71, q72, out_eq c H t _ rfl]
  rfl
theorem of_later (h : ¬t.val % 32 = 0) (h0 : (outsAt0 m c (t.val - 1) (by have := t.isLt; omega)).2.2.2 = (rr (D.hb (qq t) (ck t)), ri (D.hb (qq t) (ck t)))) : outsAt0 m c t.val t.isLt = (yT D d (qq t) (ck t), k0_pay14 (F := Ideal) (rr (D.hb (qq t) (ck t))), k0_pay15 (F := Ideal) (ri (D.hb (qq t) (ck t))),
      rr (fun l => D.hc (qq t) (ck t) l 255), ri (fun l => D.hc (qq t) (ck t) l 255)) := by
  rw [outsAt0_B m c t h]
  frame_out
  simp only [read_unread_whole, h0, kept, tile_0 c H t, tile_1 c H t, tile_2 c H t, tile_3 c H t, tile_4 c H t, tile_5 c H t, tile_6 c H t, tile_7 c H t, tile_8 c H t, q20, q21, q22, q23, q27, q28, q29, q30, q31, q32, q33, q34, q41, q42, q43, q44, q45, q49, q50, q55, q56]
  rw [q53, q54]
  simp only [q60, q61, q62, q63, q64, q65, q66, q67, q68, q69, q70, q71, q72, out_eq c H t _ rfl]
  rfl
end Cert.S5f
-- ==== Proof.S5fRef.lean ====
module
public import proofs.«01_k».proof.Proof.S5Carry
public import proofs.«01_k».proof.Proof.Gen.S5fReferenceIdeal.Read
@[expose] public section
set_option maxRecDepth 16384
noncomputable section
open Idealize.ShloMosaic Idealize.ShloMosaic.TcCoe Idealize.SL.Sem
/-! What the forward reference computes: the output of the recurrence, and its state before every chunk of 256 steps. -/
namespace Cert.S5f
open Cert.S5fReferenceIdeal Cert.S5fReferenceIdeal.Read
open Cert.S5 (Data gOf cOf ch gl pl)
variable (D : Data) (d : FVec Ideal S32x16 .f32)
/-- The output. -/
def yV : FVec Ideal S8192x512 .f32 := fun i =>
  ((∑ p, (D.state (gOf (i 1)) p (i 0).val).re * D.cr (gOf (i 1)) (cOf (i 1)) p : ℝ) : EReal) - ((∑ p, (D.state (gOf (i 1)) p (i 0).val).im * D.ci (gOf (i 1)) (cOf (i 1)) p : ℝ) : EReal)
    + d (ix2 (gOf (i 1)) (cOf (i 1))) * (D.u (i 0) (i 1) : EReal)
/-- The states before every chunk, -/
def reV : FVec Ideal S4x32x1x512 .f32 := fun i => (((D.hb (i 0) (i 1) (i 3)).re : ℝ) : EReal)
def imV : FVec Ideal S4x32x1x512 .f32 := fun i => (((D.hb (i 0) (i 1) (i 3)).im : ℝ) : EReal)
theorem r0 (t : Fin 8192) (g : Fin 32) (c : Fin 16) : val_main_v0 (F := Ideal) D.x0 (ix3 t g c) = (D.u t (ch g c) : EReal) := S5.r0 D t g c
theorem r47 (t : Fin 8192) (g : Fin 32) (p : Fin 64) : val_main_v47 (F := Ideal) D.x0 D.x1 D.x2 D.x3 D.x4 D.x5 (ix3 t g p) = ((D.state g p t.val).re : EReal) := S5.r47 D t g p
theorem r52 (t : Fin 8192) (g : Fin 32) (p : Fin 64) : val_main_v52 (F := Ideal) D.x0 D.x1 D.x2 D.x3 D.x4 D.x5 (ix3 t g p) = ((D.state g p t.val).im : EReal) := S5.r52 D t g p
theorem r54 (t : Fin 8192) (g : Fin 32) (c : Fin 16) : val_main_v54 (F := Ideal) D.x0 D.x1 D.x2 D.x3 D.x4 D.x5 D.x6 (ix3 t g c) = ((∑ p, (D.state g p t.val).re * D.cr g c p : ℝ) : EReal) := by
  pointwise [val_main_v54, val_main_v53, r47, Data.x6]
  simp only [Ops.coe_sum', EReal.coe_mul, mul_comm]
theorem r56 (t : Fin 8192) (g : Fin 32) (c : Fin 16) : val_main_v56 (F := Ideal) D.x0 D.x1 D.x2 D.x3 D.x4 D.x5 D.x7 (ix3 t g c) = ((∑ p, (D.state g p t.val).im * D.ci g c p : ℝ) : EReal) := by
  pointwise [val_main_v56, val_main_v55, r52, Data.x7]
  simp only [Ops.coe_sum', EReal.coe_mul, mul_comm]
theorem r62 (t : Fin 8192) (k : Fin 512) : val_main_v62 (F := Ideal) D.x0 D.x1 D.x2 D.x3 D.x4 D.x5 D.x6 D.x7 d (ix2 t k) = yV D d (ix2 t k) := by
  pointwise [val_main_v62, val_main_v61, val_main_v60, val_main_v59, val_main_v58, val_main_v57, r54, r56, r0]
  show _ = ((∑ p, (D.state (gOf k) p t.val).re * D.cr (gOf k) (cOf k) p : ℝ) : EReal) - ((∑ p, (D.state (gOf k) p t.val).im * D.ci (gOf k) (cOf k) p : ℝ) : EReal) + d (ix2 (gOf k) (cOf k)) * (D.u t k : EReal)
  have e : ch (gOf k) (cOf k) = k := Fin.ext (Nat.div_add_mod' k.val 16)
  exact congrArg (fun j => ((∑ p, (D.state (gOf k) p t.val).re * D.cr (gOf k) (cOf k) p : ℝ) : EReal) - ((∑ p, (D.state (gOf k) p t.val).im * D.ci (gOf k) (cOf k) p : ℝ) : EReal) + d (ix2 (gOf k) (cOf k)) * (D.u t j : EReal)) e
theorem before (q : Fin 4) (s : Fin 32) (l : Fin 512) (h : s.val ≠ 0) (a : ℕ) (g : Fin 32) (p : Fin 64) (ha : a = 256 * s.val - 1) (hg : g.val = q.val * 8 + l.val / 64) (hp : p.val = l.val % 64) :
    D.state g p a = D.hb q s l := by
  rw [Data.hb, if_neg h, ha, show g = gl q l from Fin.ext hg, show p = pl l from Fin.ext hp]
theorem r69 (q : Fin 4) (s : Fin 32) (l : Fin 512) : val_main_v69 (F := Ideal) D.x0 D.x1 D.x2 D.x3 D.x4 D.x5 (ix4 q s 0 l) = reV D (ix4 q s 0 l) := by
  show _ = (((D.hb q s l).re : ℝ) : EReal)
  pointwise [val_main_v69, val_main_v68, val_main_v67, val_main_v66, val_main_v65, val_main_v64, val_main_v63, val_main_cst_3, r47]
  by_cases h : s.val = 0
  · rw [Data.hb, if_pos h]
    simp [h]
  · rw [dif_neg (by omega)]
    exact congrArg (fun z : ℂ => ((z.re : ℝ) : EReal)) (before D q s l h _ _ _ (by omega) rfl rfl)
theorem r76 (q : Fin 4) (s : Fin 32) (l : Fin 512) : val_main_v76 (F := Ideal) D.x0 D.x1 D.x2 D.x3 D.x4 D.x5 (ix4 q s 0 l) = imV D (ix4 q s 0 l) := by
  show _ = (((D.hb q s l).im : ℝ) : EReal)
  pointwise [val_main_v76, val_main_v75, val_main_v74, val_main_v73, val_main_v72, val_main_v71, val_main_v70, val_main_cst_4, r52]
  by_cases h : s.val = 0
  · rw [Data.hb, if_pos h]
    simp [h]
  · rw [dif_neg (by omega)]
    exact congrArg (fun z : ℂ => ((z.im : ℝ) : EReal)) (before D q s l h _ _ _ (by omega) rfl rfl)
end Cert.S5f
-- ==== Proof.S5.lean ====
module
public import proofs.«01_k».proof.Proof.S5Carry
public import proofs.«01_k».proof.Proof.OpsClaim
@[expose] public section
set_option maxRecDepth 16384
noncomputable section
open Idealize.ShloMosaic Idealize.ShloMosaic.TcCoe Idealize.SL.Sem
open ComplexConjugate
/-! The host code after the kernel, and the claim. -/
namespace Cert.S5
section
open Cert.S5KernelIdeal Cert.S5KernelIdeal.Gen
/-- One where two groups of a block are the same. -/
def eye : FVec Ideal S1x8x1x8x1 .f32 := fun i => (((if (i 1).val = (i 3).val then 1 else 0 : ℝ)) : EReal)
/-- The pairs of a lane and a channel of one group, picked from all pairs of a block. -/
def foldC (x : FVec Ideal S4x512x128 .f32) (e : FVec Ideal S1x8x1x8x1 .f32) : FVec Ideal S32x16x64 .f32 :=
  transpose S32x16x64 [0, 2, 1] (shapeCast S32x64x16 (Host.reduceAdd (shapeCast S4x8x64x1x16 (Host.reduceAdd (mulf (shapeCast S4x8x64x8x16 x shapeCasts_S4x512x128_S4x8x64x8x16)
    (broadcastInDim S4x8x64x8x16 ![0, 1, 2, 3, 4] bcast_S1x8x1x8x1_S4x8x64x8x16_0_1_2_3_4 e)) (constant S_ .f32 0x00000000#32) reducesTo_S4x8x64x8x16_S4x8x64x16_d3 h_S_) shapeCasts_S4x8x64x16_S4x8x64x1x16)
    (constant S_ .f32 0x00000000#32) reducesTo_S4x8x64x1x16_S4x8x64x16_d3 h_S_) shapeCasts_S4x8x64x16_S32x64x16) transposes_S32x64x16_S32x16x64_0_2_1
/-- The pairs of a channel and a lane of one group, picked from all pairs of a block. -/
def foldB (x : FVec Ideal S4x128x512 .f32) (e : FVec Ideal S1x8x1x8x1 .f32) : FVec Ideal S32x64x16 .f32 :=
  transpose S32x64x16 [0, 2, 1] (shapeCast S32x16x64 (Host.reduceAdd (shapeCast S4x8x16x1x64 (Host.reduceAdd (mulf (shapeCast S4x8x16x8x64 x shapeCasts_S4x128x512_S4x8x16x8x64)
    (broadcastInDim S4x8x16x8x64 ![0, 1, 2, 3, 4] bcast_S1x8x1x8x1_S4x8x16x8x64_0_1_2_3_4 e)) (constant S_ .f32 0x00000000#32) reducesTo_S4x8x16x8x64_S4x8x16x64_d3 h_S_) shapeCasts_S4x8x16x64_S4x8x16x1x64)
    (constant S_ .f32 0x00000000#32) reducesTo_S4x8x16x1x64_S4x8x16x64_d3 h_S_) shapeCasts_S4x8x16x64_S32x16x64) transposes_S32x16x64_S32x64x16_0_2_1
/-- A sum weighed by a Kronecker delta is one term. -/
theorem pick (x : Fin 8 → EReal) (j : Fin 8) : ∑ k : Fin 8, x k * (((if j.val = k.val then 1 else 0 : ℝ)) : EReal) = x j := by
  refine (Finset.sum_eq_single j (fun k _ h => ?_) (fun h => absurd (Finset.mem_univ _) h)).trans ?_
  · rw [if_neg fun e => h (Fin.ext e.symm), EReal.coe_zero, mul_zero]
  · rw [if_pos rfl, EReal.coe_one, mul_one]
/-- The block of a group. -/
abbrev gb (g : Fin 32) : Fin 4 := ⟨g.val / 8, by omega⟩
/-- The lane of a group's position. -/
abbrev ln (g : Fin 32) (p : Fin 64) : Fin 512 := ⟨g.val % 8 * 64 + p.val, by omega⟩
/-- A group's channel in its block. -/
abbrev cn (g : Fin 32) (c : Fin 16) : Fin 128 := ⟨g.val % 8 * 16 + c.val, by omega⟩
/-- What is picked, entry by entry. -/
theorem foldC_at (x : FVec Ideal S4x512x128 .f32) (g : Fin 32) (c : Fin 16) (p : Fin 64) : foldC x eye (ix3 g c p) = x (ix3 (gb g) (ln g p) (cn g c)) := by
  pointwise [foldC, eye]
  refine (Fin.sum_univ_one _).trans ?_
  refine Eq.trans ?_ (pick (fun k : Fin 8 => x (ix3 (gb g) (ln g p) ⟨k.val * 16 + c.val, by omega⟩)) ⟨g.val % 8, by omega⟩)
  rfl
theorem foldB_at (x : FVec Ideal S4x128x512 .f32) (g : Fin 32) (p : Fin 64) (c : Fin 16) : foldB x eye (ix3 g p c) = x (ix3 (gb g) (cn g c) (ln g p)) := by
  pointwise [foldB, eye]
  refine (Fin.sum_univ_one _).trans ?_
  refine Eq.trans ?_ (pick (fun k : Fin 8 => x (ix3 (gb g) (cn g c) ⟨k.val * 64 + p.val, by omega⟩)) ⟨g.val % 8, by omega⟩)
  rfl
section
variable (W : Valuation τ sig (Elt Ideal))
theorem tail_239 : StableHlo.after hostOps1 W (Proc.devRef .tc main_v239) = extractStridedSlice S8192x512 ![0, 4608] (W (Proc.devRef .tc main_v238_0)) slices_S8192x5376_S8192x512_0_4608 := by
  unfold hostOps1
  after_region_results
theorem tail_240 : StableHlo.after hostOps1 W (Proc.devRef .tc main_v240) = shapeCast S32x16 (W (Proc.devRef .tc main_v238_5)) shapeCasts_S1x512_S32x16 := by
  unfold hostOps1
  after_region_results
  rfl
set_option maxHeartbeats 4000000 in
theorem tail_248 : StableHlo.after hostOps1 W (Proc.devRef .tc main_v248) = foldC (W (Proc.devRef .tc main_v238_4)) (W (Proc.devRef .tc main_v55)) := by
  unfold hostOps1
  after_region_results
  rfl
set_option maxHeartbeats 4000000 in
theorem tail_256 : StableHlo.after hostOps1 W (Proc.devRef .tc main_v256) = foldC (W (Proc.devRef .tc main_v238_3)) (W (Proc.devRef .tc main_v40)) := by
  unfold hostOps1
  after_region_results
  rfl
set_option maxHeartbeats 4000000 in
theorem tail_264 : StableHlo.after hostOps1 W (Proc.devRef .tc main_v264) = foldB (W (Proc.devRef .tc main_v238_2)) (W (Proc.devRef .tc main_v25)) := by
  unfold hostOps1
  after_region_results
  rfl
set_option maxHeartbeats 4000000 in
theorem tail_272 : StableHlo.after hostOps1 W (Proc.devRef .tc main_v272) = foldB (W (Proc.devRef .tc main_v238_1)) (W (Proc.devRef .tc main_v10)) := by
  unfold hostOps1
  after_region_results
  rfl
set_option maxHeartbeats 4000000 in
theorem eye_10 : StableHlo.after hostOps0 W (Proc.devRef .tc main_v10) = eye := by
  after_reads_simp
  funext i
  idx_vars i
  pointwise [eye]
  exact same_group i1.val i3.val (by omega) (by omega)
set_option maxHeartbeats 4000000 in
theorem eye_25 : StableHlo.after hostOps0 W (Proc.devRef .tc main_v25) = eye := by
  after_reads_simp
  funext i
  idx_vars i
  pointwise [eye]
  exact same_group i1.val i3.val (by omega) (by omega)
set_option maxHeartbeats 4000000 in
theorem eye_40 : StableHlo.after hostOps0 W (Proc.devRef .tc main_v40) = eye := by
  after_reads_simp
  funext i
  idx_vars i
  pointwise [eye]
  exact same_group i1.val i3.val (by omega) (by omega)
set_option maxHeartbeats 4000000 in
theorem eye_55 : StableHlo.after hostOps0 W (Proc.devRef .tc main_v55) = eye := by
  after_reads_simp
  funext i
  idx_vars i
  pointwise [eye]
  exact same_group i1.val i3.val (by omega) (by omega)
end
variable (m : (ℓ : Loc nD τ sig) → Buf (Elt Ideal) ℓ)
theorem end_of (w : Fin cfg0.W) (c : Dev nD) : Pipeline.withArrays (cfgs 0).spec c (V0 m c) (fun w => (dats m 0 c).arrAt w (cfgs 0).N) (Proc.devRef .tc (Pipeline.arrRef spec0 w)) =
    (dats m 0 c).arrAt w cfg0.N := Pipeline.withArrays_arr _ launch0.win.arr_inj c _ _ w
theorem kept_10 (c : Dev nD) : Pipeline.withArrays (cfgs 0).spec c (V0 m c) (fun w => (dats m 0 c).arrAt w (cfgs 0).N) (Proc.devRef .tc main_v10) = eye :=
  (Pipeline.withArrays_of_ne _ c (V0 m c) _ main_v10 (by exact (by decide : ∀ w, Pipeline.arrRef spec0 w ≠ main_v10))).trans ((congrFun (all_of _) _).trans ((rest_10 _).trans (eye_10 _)))
theorem kept_25 (c : Dev nD) : Pipeline.withArrays (cfgs 0).spec c (V0 m c) (fun w => (dats m 0 c).arrAt w (cfgs 0).N) (Proc.devRef .tc main_v25) = eye :=
  (Pipeline.withArrays_of_ne _ c (V0 m c) _ main_v25 (by exact (by decide : ∀ w, Pipeline.arrRef spec0 w ≠ main_v25))).trans ((congrFun (all_of _) _).trans ((rest_25 _).trans (eye_25 _)))
theorem kept_40 (c : Dev nD) : Pipeline.withArrays (cfgs 0).spec c (V0 m c) (fun w => (dats m 0 c).arrAt w (cfgs 0).N) (Proc.devRef .tc main_v40) = eye :=
  (Pipeline.withArrays_of_ne _ c (V0 m c) _ main_v40 (by exact (by decide : ∀ w, Pipeline.arrRef spec0 w ≠ main_v40))).trans ((congrFun (all_of _) _).trans ((rest_40 _).trans (eye_40 _)))
theorem kept_55 (c : Dev nD) : Pipeline.withArrays (cfgs 0).spec c (V0 m c) (fun w => (dats m 0 c).arrAt w (cfgs 0).N) (Proc.devRef .tc main_v55) = eye :=
  (Pipeline.withArrays_of_ne _ c (V0 m c) _ main_v55 (by exact (by decide : ∀ w, Pipeline.arrRef spec0 w ≠ main_v55))).trans ((congrFun (all_of _) _).trans ((rest_55 _).trans (eye_55 _)))
/-- The kernel's run, its results named. -/
theorem ker_run (ρ : Dev nD → PrngReg) :
 θ_run defs (onTc (τ := τ) (main (F := Ideal))) ⟨m, fun _ => 0, ρ⟩ fun r => ∀ c : Dev nD,
      r.2.mem (c.tc.loc main_v239) = extractStridedSlice S8192x512 ![0, 4608] ((dats m 0 c).arrAt 13 cfg0.N : FVec Ideal S8192x5376 .f32) slices_S8192x5376_S8192x512_0_4608
 ∧ r.2.mem (c.tc.loc main_v272) = foldB ((dats m 0 c).arrAt 14 cfg0.N) eye
 ∧ r.2.mem (c.tc.loc main_v264) = foldB ((dats m 0 c).arrAt 15 cfg0.N) eye
 ∧ r.2.mem (c.tc.loc main_v256) = foldC ((dats m 0 c).arrAt 16 cfg0.N) eye
 ∧ r.2.mem (c.tc.loc main_v248) = foldC ((dats m 0 c).arrAt 17 cfg0.N) eye
 ∧ r.2.mem (c.tc.loc main_v240) = shapeCast S32x16 ((dats m 0 c).arrAt 18 cfg0.N : FVec Ideal S1x512 .f32) shapeCasts_S1x512_S32x16 := by
  refine (θ_run defs _ _).mono (fun r h c => ?_) (run_main m ρ)
  have e := (h c).2
  refine ⟨(e main_v239 (by decide)).trans ?_, (e main_v272 (by decide)).trans ?_, (e main_v264 (by decide)).trans ?_, (e main_v256 (by decide)).trans ?_,
    (e main_v248 (by decide)).trans ?_, (e main_v240 (by decide)).trans ?_⟩ <;> unfold Pipeline.afterTail₀
  · exact (tail_239 _).trans (congrArg (fun x : FVec Ideal S8192x5376 .f32 => extractStridedSlice S8192x512 ![0, 4608] x slices_S8192x5376_S8192x512_0_4608) (end_of m 13 c))
  · exact (tail_272 _).trans (congrArg₂ foldB (end_of m 14 c) (kept_10 m c))
  · exact (tail_264 _).trans (congrArg₂ foldB (end_of m 15 c) (kept_25 m c))
  · exact (tail_256 _).trans (congrArg₂ foldC (end_of m 16 c) (kept_40 m c))
  · exact (tail_248 _).trans (congrArg₂ foldC (end_of m 17 c) (kept_55 m c))
  · exact (tail_240 _).trans (congrArg (fun x : FVec Ideal S1x512 .f32 => shapeCast S32x16 x shapeCasts_S1x512_S32x16) (end_of m 18 c))
theorem cast_dd (x : FVec Ideal S1x512 .f32) (g : Fin 32) (k : Fin 16) : shapeCast S32x16 x shapeCasts_S1x512_S32x16 (ix2 g k) = x (ix2 0 (ch g k)) := by
  pointwise []
section
variable {m} {D : Data} {d : FVec Ideal S32x16 .f32} (c : Dev nD) (H : Holds D d fun b => m (c, b))
include H
theorem res_du : extractStridedSlice S8192x512 ![0, 4608] ((dats m 0 c).arrAt 13 cfg0.N : FVec Ideal S8192x5376 .f32) slices_S8192x5376_S8192x512_0_4608 = D.duV d := by
  funext i
  idx_vars i
  refine Eq.trans ?_ (final_du c H i0 i1)
  pointwise []
theorem group_of (g : Fin 32) (p : Fin 64) : gl (gb g) (ln g p) = g ∧ pl (ln g p) = p :=
  ⟨Fin.ext (by show g.val / 8 * 8 + (g.val % 8 * 64 + p.val) / 64 = g.val; omega), Fin.ext (by show (g.val % 8 * 64 + p.val) % 64 = p.val; omega)⟩
theorem chan_of (g : Fin 32) (k : Fin 16) : kc (gb g) (cn g k) = ch g k := Fin.ext (by show g.val / 8 * 128 + (g.val % 8 * 16 + k.val) = g.val * 16 + k.val; omega)
theorem res_bre : foldB ((dats m 0 c).arrAt 14 cfg0.N) eye = D.dBreV := by
  rw [final_bre c H]
  funext i
  idx_vars i
  rw [foldB_at]
  show ((∑ a, D.u a (kc (gb i0) (cn i0 i2)) * (D.adj (gl (gb i0) (ln i0 i1)) (pl (ln i0 i1)) a.val).re : ℝ) : EReal) = _
  rw [(group_of c H i0 i1).1, (group_of c H i0 i1).2, chan_of c H]
  exact congrArg _ (Finset.sum_congr rfl fun _ _ => mul_comm _ _)
theorem res_bim : foldB ((dats m 0 c).arrAt 15 cfg0.N) eye = D.dBimV := by
  rw [final_bim c H]
  funext i
  idx_vars i
  rw [foldB_at]
  show ((∑ a, D.u a (kc (gb i0) (cn i0 i2)) * (D.adj (gl (gb i0) (ln i0 i1)) (pl (ln i0 i1)) a.val).im : ℝ) : EReal) = _
  rw [(group_of c H i0 i1).1, (group_of c H i0 i1).2, chan_of c H]
  exact congrArg _ (Finset.sum_congr rfl fun _ _ => mul_comm _ _)
theorem res_cre : foldC ((dats m 0 c).arrAt 16 cfg0.N) eye = D.dCreV := by
  rw [final_cre c H]
  funext i
  idx_vars i
  rw [foldC_at]
  show ((∑ a, (D.state (gl (gb i0) (ln i0 i2)) (pl (ln i0 i2)) a.val).re * D.gy a (kc (gb i0) (cn i0 i1)) : ℝ) : EReal) = _
  rw [(group_of c H i0 i2).1, (group_of c H i0 i2).2, chan_of c H]
  exact congrArg _ (Finset.sum_congr rfl fun _ _ => mul_comm _ _)
theorem res_cim : foldC ((dats m 0 c).arrAt 17 cfg0.N) eye = D.dCimV := by
  rw [final_cim c H]
  funext i
  idx_vars i
  rw [foldC_at]
  show ((∑ a, (D.state (gl (gb i0) (ln i0 i2)) (pl (ln i0 i2)) a.val).im * -D.gy a (kc (gb i0) (cn i0 i1)) : ℝ) : EReal) = _
  rw [(group_of c H i0 i2).1, (group_of c H i0 i2).2, chan_of c H]
  exact congrArg _ (Finset.sum_congr rfl fun _ _ => mul_comm _ _)
theorem res_dd : shapeCast S32x16 ((dats m 0 c).arrAt 18 cfg0.N : FVec Ideal S1x512 .f32) shapeCasts_S1x512_S32x16 = D.dDV := by
  rw [final_dd c H]
  funext i
  idx_vars i
  exact cast_dd _ i0 i1
end
end
section
open Cert.Pre_finite_s5
theorem pre_facts : Cert.Pre_finite_s5.Facts where
  bcast_S_S8192x512 := by decide
  reducesTo_S8192x512_S_d0_1 := by decide
  h_S_ := by decide
  bcast_S_S32 := by decide
  reducesTo_S32_S_d0 := by decide
  bcast_S_S32x64 := by decide
  reducesTo_S32x64_S_d0_1 := by decide
  bcast_S_S32x64x16 := by decide
  reducesTo_S32x64x16_S_d0_1_2 := by decide
  bcast_S_S32x16x64 := by decide
  reducesTo_S32x16x64_S_d0_1_2 := by decide
attribute [local instance] pre_facts
variable (x0 : FVec Ideal S8192x512 .f32) (x1 : FVec Ideal S32 .f32) (x2 : FVec Ideal S32x64 .f32) (x3 : FVec Ideal S32x64 .f32) (x4 : FVec Ideal S32x64x16 .f32) (x5 : FVec Ideal S32x64x16 .f32) (x6 : FVec Ideal S32x16x64 .f32) (x7 : FVec Ideal S32x16x64 .f32) (x8 : FVec Ideal S32x16 .f32) (x9 : FVec Ideal S8192x512 .f32)
/-- The real numbers that finite arguments are. -/
def dataOf : Data where
  u := fun a b => (x0 (ix2 a b)).toReal
  st := fun a => (x1 (ix1 a)).toReal
  ar := fun a b => (x2 (ix2 a b)).toReal
  ai := fun a b => (x3 (ix2 a b)).toReal
  br := fun a b e => (x4 (ix3 a b e)).toReal
  bi := fun a b e => (x5 (ix3 a b e)).toReal
  cr := fun a b e => (x6 (ix3 a b e)).toReal
  ci := fun a b e => (x7 (ix3 a b e)).toReal
  gy := fun a b => (x9 (ix2 a b)).toReal
theorem reals (h : Cert.Pre_finite_s5.fn (F := Ideal) x0 x1 x2 x3 x4 x5 x6 x7 x8 x9 = fun _ => 1#1) :
    x0 = (dataOf x0 x1 x2 x3 x4 x5 x6 x7 x9).x0 ∧ x1 = (dataOf x0 x1 x2 x3 x4 x5 x6 x7 x9).x1 ∧ x2 = (dataOf x0 x1 x2 x3 x4 x5 x6 x7 x9).x2 ∧ x3 = (dataOf x0 x1 x2 x3 x4 x5 x6 x7 x9).x3 ∧ x4 = (dataOf x0 x1 x2 x3 x4 x5 x6 x7 x9).x4 ∧ x5 = (dataOf x0 x1 x2 x3 x4 x5 x6 x7 x9).x5 ∧ x6 = (dataOf x0 x1 x2 x3 x4 x5 x6 x7 x9).x6 ∧ x7 = (dataOf x0 x1 x2 x3 x4 x5 x6 x7 x9).x7 ∧ x9 = (dataOf x0 x1 x2 x3 x4 x5 x6 x7 x9).x9 := by
  have h := congrFun h (fun k => k.elim0)
  unfold Cert.Pre_finite_s5.fn Cert.Pre_finite_s5.fn_part1 Cert.Pre_finite_s5.fn_part2 at h
  dsimp only at h
  obtain ⟨h, h9⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨?_, ?_, ?_, ?_, ?_, ?_, ?_, ?_, ?_⟩
  · funext i; idx_vars i; exact Ops.real_all _ _ _ _ _ h0 _
  · funext i; idx_vars i; exact Ops.real_all _ _ _ _ _ h1 _
  · funext i; idx_vars i; exact Ops.real_all _ _ _ _ _ h2 _
  · funext i; idx_vars i; exact Ops.real_all _ _ _ _ _ h3 _
  · funext i; idx_vars i; exact Ops.real_all _ _ _ _ _ h4 _
  · funext i; idx_vars i; exact Ops.real_all _ _ _ _ _ h5 _
  · funext i; idx_vars i; exact Ops.real_all _ _ _ _ _ h6 _
  · funext i; idx_vars i; exact Ops.real_all _ _ _ _ _ h7 _
  · funext i; idx_vars i; exact Ops.real_all _ _ _ _ _ h9 _
end
section
open Cert.S5ReferenceIdeal Cert.S5ReferenceIdeal.Gen Cert.S5ReferenceIdeal.Read
variable {D : Data} {x0 x9 : FVec Ideal S8192x512 .f32} {x1 : FVec Ideal S32 .f32} {x2 x3 : FVec Ideal S32x64 .f32} {x4 x5 : FVec Ideal S32x64x16 .f32} {x6 x7 : FVec Ideal S32x16x64 .f32}
theorem ref_du (d : FVec Ideal S32x16 .f32) (e1 : x1 = D.x1) (e2 : x2 = D.x2) (e3 : x3 = D.x3) (e4 : x4 = D.x4) (e5 : x5 = D.x5) (e6 : x6 = D.x6) (e7 : x7 = D.x7) (e9 : x9 = D.x9) : val_main_v104 (F := Ideal) x1 x2 x3 x4 x5 x6 x7 d x9 = D.duV d := by
  subst e1 e2 e3 e4 e5 e6 e7 e9
  funext i
  idx_vars i
  first | exact r104 i0 i1 | exact r104 _ i0 i1 | exact r104 _ _ i0 i1
theorem ref_bre (e0 : x0 = D.x0) (e1 : x1 = D.x1) (e2 : x2 = D.x2) (e3 : x3 = D.x3) (e6 : x6 = D.x6) (e7 : x7 = D.x7) (e9 : x9 = D.x9) : val_main_v103 (F := Ideal) x0 x1 x2 x3 x6 x7 x9 = D.dBreV := by
  subst e0 e1 e2 e3 e6 e7 e9
  funext i
  idx_vars i
  first | exact r103 i0 i1 i2 | exact r103 _ i0 i1 i2 | exact r103 _ _ i0 i1 i2
theorem ref_bim (e0 : x0 = D.x0) (e1 : x1 = D.x1) (e2 : x2 = D.x2) (e3 : x3 = D.x3) (e6 : x6 = D.x6) (e7 : x7 = D.x7) (e9 : x9 = D.x9) : val_main_v98 (F := Ideal) x0 x1 x2 x3 x6 x7 x9 = D.dBimV := by
  subst e0 e1 e2 e3 e6 e7 e9
  funext i
  idx_vars i
  first | exact r98 i0 i1 i2 | exact r98 _ i0 i1 i2 | exact r98 _ _ i0 i1 i2
theorem ref_cre (e0 : x0 = D.x0) (e1 : x1 = D.x1) (e2 : x2 = D.x2) (e3 : x3 = D.x3) (e4 : x4 = D.x4) (e5 : x5 = D.x5) (e9 : x9 = D.x9) : val_main_v78 (F := Ideal) x0 x1 x2 x3 x4 x5 x9 = D.dCreV := by
  subst e0 e1 e2 e3 e4 e5 e9
  funext i
  idx_vars i
  first | exact r78 i0 i1 i2 | exact r78 _ i0 i1 i2 | exact r78 _ _ i0 i1 i2
theorem ref_cim (e0 : x0 = D.x0) (e1 : x1 = D.x1) (e2 : x2 = D.x2) (e3 : x3 = D.x3) (e4 : x4 = D.x4) (e5 : x5 = D.x5) (e9 : x9 = D.x9) : val_main_v74 (F := Ideal) x0 x1 x2 x3 x4 x5 x9 = D.dCimV := by
  subst e0 e1 e2 e3 e4 e5 e9
  funext i
  idx_vars i
  first | exact r74 i0 i1 i2 | exact r74 _ i0 i1 i2 | exact r74 _ _ i0 i1 i2
theorem ref_dd (e0 : x0 = D.x0) (e9 : x9 = D.x9) : val_main_v69 (F := Ideal) x0 x9 = D.dDV := by
  subst e0 e9
  funext i
  idx_vars i
  first | exact r69 i0 i1 | exact r69 _ i0 i1 | exact r69 _ _ i0 i1
end
section
attribute [local instance] pre_facts
/-- The memory holds real numbers where the precondition does. -/
theorem held (m : (ℓ : Loc Cert.S5KernelIdeal.nD Cert.S5KernelIdeal.τ Cert.S5KernelIdeal.sig) → Buf (Elt Ideal) ℓ) (c : Dev Cert.S5KernelIdeal.nD)
    (h : Cert.Pre_finite_s5.fn (F := Ideal) (m (c.tc.loc Cert.S5KernelIdeal.main_arg0))
      (m (c.tc.loc Cert.S5KernelIdeal.main_arg1))
      (m (c.tc.loc Cert.S5KernelIdeal.main_arg2))
      (m (c.tc.loc Cert.S5KernelIdeal.main_arg3))
      (m (c.tc.loc Cert.S5KernelIdeal.main_arg4))
      (m (c.tc.loc Cert.S5KernelIdeal.main_arg5))
      (m (c.tc.loc Cert.S5KernelIdeal.main_arg6))
      (m (c.tc.loc Cert.S5KernelIdeal.main_arg7))
      (m (c.tc.loc Cert.S5KernelIdeal.main_arg8))
      (m (c.tc.loc Cert.S5KernelIdeal.main_arg9)) = fun _ => 1#1) :
    ∃ D, Holds D (m (c.tc.loc Cert.S5KernelIdeal.main_arg8)) (fun b => m (c, b)) ∧ (m (c.tc.loc Cert.S5KernelIdeal.main_arg0)) = D.x0 ∧ (m (c.tc.loc Cert.S5KernelIdeal.main_arg1)) = D.x1 ∧ (m (c.tc.loc Cert.S5KernelIdeal.main_arg2)) = D.x2 ∧ (m (c.tc.loc Cert.S5KernelIdeal.main_arg3)) = D.x3 ∧ (m (c.tc.loc Cert.S5KernelIdeal.main_arg4)) = D.x4 ∧ (m (c.tc.loc Cert.S5KernelIdeal.main_arg5)) = D.x5 ∧ (m (c.tc.loc Cert.S5KernelIdeal.main_arg6)) = D.x6 ∧ (m (c.tc.loc Cert.S5KernelIdeal.main_arg7)) = D.x7 ∧ (m (c.tc.loc Cert.S5KernelIdeal.main_arg9)) = D.x9 :=
  have ⟨h0, h1, h2, h3, h4, h5, h6, h7, h9⟩ := reals _ _ _ _ _ _ _ _ _ _ h
  ⟨_, ⟨h0, h1, h2, h3, h4, h5, h6, h7, rfl, h9⟩, h0, h1, h2, h3, h4, h5, h6, h7, h9⟩
end
set_option maxHeartbeats 4000000 in
/-- The kernel's gradients of the linear time-invariant recurrence are the reference's. -/
theorem algebraic : Cert.algebraic_S5KernelIdeal_S5ReferenceIdeal_pre_finite_s5 (hS5KernelIdeal := Cert.S5KernelIdeal.Gen.facts) (hS5ReferenceIdeal := Cert.S5ReferenceIdeal.Gen.facts)
    (hPre_finite_s5 := pre_facts) := by
  pair_intro
  · run_from ker_run m g & Cert.S5KernelIdeal.Gen.frame m g
  · run_from ref_run m' g'
    all_goals obtain ⟨D, H, e0, e1, e2, e3, e4, e5, e6, e7, e9⟩ := held m c (hpre c)
    · exact (ref_du _ e1 e2 e3 e4 e5 e6 e7 e9).trans (res_du c H).symm
    · exact (ref_bre e0 e1 e2 e3 e6 e7 e9).trans (res_bre c H).symm
    · exact (ref_bim e0 e1 e2 e3 e6 e7 e9).trans (res_bim c H).symm
    · exact (ref_cre e0 e1 e2 e3 e4 e5 e9).trans (res_cre c H).symm
    · exact (ref_cim e0 e1 e2 e3 e4 e5 e9).trans (res_cim c H).symm
    · exact (ref_dd e0 e9).trans (res_dd c H).symm
end Cert.S5
-- ==== Proof.S5f.lean ====
module
public import proofs.«01_k».proof.Proof.S5fStep
public import proofs.«01_k».proof.Proof.S5fRef
public import proofs.«01_k».proof.Proof.S5
public import proofs.«01_k».proof.Proof.Gen.S5fKernelIdeal.Value
@[expose] public section
set_option maxRecDepth 16384
noncomputable section
open Idealize.ShloMosaic Idealize.ShloMosaic.TcCoe Idealize.SL.Sem
/-! The forward recurrence: the chunks one after another, and the equality with the reference. -/
namespace Cert.S5f
section
open Cert.S5fKernelIdeal Cert.S5fKernelIdeal.Gen
open Cert.S5 (Data gOf cOf ch gl pl gk kc tm rr ri hc_eq mul_mask mask_l)
variable (D : Data)
theorem crk_back (x : Fin 32 → Fin 64 → ℝ) (q : Fin 4) (k : Fin 128) : ∑ l, x (gl q l) (pl l) * D.crk q l k = ∑ p, x (gk q k) p * D.cr (gk q k) ⟨k.val % 16, by omega⟩ p := by
  have e : ∀ l, x (gl q l) (pl l) * D.crk q l k = if k.val / 16 = l.val / 64 then x (gl q l) (pl l) * D.cr (gl q l) ⟨k.val % 16, by omega⟩ (pl l) else 0 := fun l => by
    simp only [Data.crk, eq_comm (a := l.val / 64), mul_mask]
  simp only [e]
  refine (mask_l k fun l => x (gl q l) (pl l) * D.cr (gl q l) ⟨k.val % 16, by omega⟩ (pl l)).trans (Finset.sum_congr rfl fun p _ => ?_)
  have e1 : gl q ⟨64 * (k.val / 16) + p.val, by omega⟩ = gk q k := Fin.ext (by show q.val * 8 + (64 * (k.val / 16) + p.val) / 64 = q.val * 8 + k.val / 16; omega)
  have e2 : pl ⟨64 * (k.val / 16) + p.val, by omega⟩ = p := Fin.ext (by show (64 * (k.val / 16) + p.val) % 64 = p.val; omega)
  rw [e1, e2]
theorem cik_back (x : Fin 32 → Fin 64 → ℝ) (q : Fin 4) (k : Fin 128) : ∑ l, x (gl q l) (pl l) * D.cik q l k = ∑ p, x (gk q k) p * D.ci (gk q k) ⟨k.val % 16, by omega⟩ p := by
  have e : ∀ l, x (gl q l) (pl l) * D.cik q l k = if k.val / 16 = l.val / 64 then x (gl q l) (pl l) * D.ci (gl q l) ⟨k.val % 16, by omega⟩ (pl l) else 0 := fun l => by
    simp only [Data.cik, eq_comm (a := l.val / 64), mul_mask]
  simp only [e]
  refine (mask_l k fun l => x (gl q l) (pl l) * D.ci (gl q l) ⟨k.val % 16, by omega⟩ (pl l)).trans (Finset.sum_congr rfl fun p _ => ?_)
  have e1 : gl q ⟨64 * (k.val / 16) + p.val, by omega⟩ = gk q k := Fin.ext (by show q.val * 8 + (64 * (k.val / 16) + p.val) / 64 = q.val * 8 + k.val / 16; omega)
  have e2 : pl ⟨64 * (k.val / 16) + p.val, by omega⟩ = p := Fin.ext (by show (64 * (k.val / 16) + p.val) % 64 = p.val; omega)
  rw [e1, e2]
/-- The last state of a chunk is the one before the next. -/
theorem hand_on (q : Fin 4) (s s' : Fin 32) (h : s'.val = s.val + 1) (l : Fin 512) : D.hc q s l 255 = D.hb q s' l := by
  refine (hc_eq D q s l 255).trans ?_
  rw [Data.hb, if_neg (by omega)]
  exact congrArg (D.state (gl q l) (pl l)) (by show s.val * 256 + 255 = 256 * s'.val - 1; omega)
variable {D} {d : FVec Ideal S32x16 .f32} {m : (ℓ : Loc nD τ sig) → Buf (Elt Ideal) ℓ} (c : Dev nD) (H : Holds D d fun b => m (c, b))
include H
/-- What the chunks hand on. -/
theorem carried : ∀ (n : ℕ) (h : n < cfg0.N), (outsAt0 m c n h).2.2.2 = (rr (fun l => D.hc (qq ⟨n, h⟩) (ck ⟨n, h⟩) l 255), ri (fun l => D.hc (qq ⟨n, h⟩) (ck ⟨n, h⟩) l 255)) := by
  intro n
  induction n with
  | zero => intro h; rw [of_first c H ⟨0, h⟩ rfl]
  | succ n ih =>
    intro h
    by_cases hn : (n + 1) % 32 = 0
    · rw [of_first c H ⟨n + 1, h⟩ hn]
    · have e := ih (by omega)
      have e1 : qq ⟨n, by omega⟩ = qq ⟨n + 1, h⟩ := Fin.ext (by show n / 32 = (n + 1) / 32; omega)
      have e2 : (ck ⟨n + 1, h⟩).val = (ck ⟨n, by omega⟩).val + 1 := by show (n + 1) % 32 = n % 32 + 1; omega
      rw [show (fun l => D.hc (qq ⟨n, by omega⟩) (ck ⟨n, by omega⟩) l 255) = D.hb (qq ⟨n + 1, h⟩) (ck ⟨n + 1, h⟩) from funext fun l => (congrArg (fun q => D.hc q (ck ⟨n, by omega⟩) l 255) e1).trans (hand_on D _ _ _ e2 l)] at e
      rw [of_later c H ⟨n + 1, h⟩ hn e]
/-- What every grid point leaves. -/
theorem left (t : Fin cfg0.N) : outsAt0 m c t.val t.isLt = (yT D d (qq t) (ck t), k0_pay14 (F := Ideal) (rr (D.hb (qq t) (ck t))), k0_pay15 (F := Ideal) (ri (D.hb (qq t) (ck t))),
      rr (fun l => D.hc (qq t) (ck t) l 255), ri (fun l => D.hc (qq t) (ck t) l 255)) := by
  by_cases h : t.val % 32 = 0
  · exact of_first c H t h
  · refine of_later c H t h ((carried c H (t.val - 1) (by have := t.isLt; omega)).trans ?_)
    have e1 : qq ⟨t.val - 1, by have := t.isLt; omega⟩ = qq t := Fin.ext (by show (t.val - 1) / 32 = t.val / 32; omega)
    have e2 : (ck t).val = (ck ⟨t.val - 1, by have := t.isLt; omega⟩).val + 1 := by show t.val % 32 = (t.val - 1) % 32 + 1; omega
    rw [show (fun l => D.hc (qq ⟨t.val - 1, by have := t.isLt; omega⟩) (ck ⟨t.val - 1, by have := t.isLt; omega⟩) l 255) = D.hb (qq t) (ck t) from funext fun l => (congrArg (fun q => D.hc q (ck ⟨t.val - 1, by have := t.isLt; omega⟩) l 255) e1).trans (hand_on D _ _ _ e2 l)]
variable (D d) in
omit H in
theorem yT_eq (q : Fin 4) (s : Fin 32) (r : Fin 256) (k : Fin 128) : yT D d q s (ix2 r k) = yV D d (ix2 (tm s r) (kc q k)) := by
  have e1 : gOf (kc q k) = gk q k := Fin.ext (by show (q.val * 128 + k.val) / 16 = q.val * 8 + k.val / 16; omega)
  have e2 : cOf (kc q k) = ⟨k.val % 16, by omega⟩ := Fin.ext (by show (q.val * 128 + k.val) % 16 = k.val % 16; omega)
  show ((∑ l, (D.hc q s l r.val).re * D.crk q l k : ℝ) : EReal) - ((∑ l, (D.hc q s l r.val).im * D.cik q l k : ℝ) : EReal) + d (ix2 (gOf (kc q k)) (cOf (kc q k))) * (D.u (tm s r) (kc q k) : EReal)
    = ((∑ p, (D.state (gOf (kc q k)) p (tm s r).val).re * D.cr (gOf (kc q k)) (cOf (kc q k)) p : ℝ) : EReal) - ((∑ p, (D.state (gOf (kc q k)) p (tm s r).val).im * D.ci (gOf (kc q k)) (cOf (kc q k)) p : ℝ) : EReal)
      + d (ix2 (gOf (kc q k)) (cOf (kc q k))) * (D.u (tm s r) (kc q k) : EReal)
  simp only [hc_eq]
  rw [crk_back D (fun g p => (D.state g p (tm s r).val).re), cik_back D (fun g p => (D.state g p (tm s r).val).im), e1, e2]
theorem final_y : (dats m 0 c).arrAt 10 cfg0.N = yV D d := by
  refine (dats m 0 c).arrAt_eq_of_covers 10 _ (by decide +kernel) fun t hf y => ?_
  idx_vars y
  have e0 : (win0_10.blk t).view.emb (ix2 y0 y1) = ix2 (tm (ck t) y0) (kc (qq t) y1) := by
    blk_ext [idx t]
  blk_simp
  rw [after0_10, e0, left c H t]
  exact yT_eq D d (qq t) (ck t) y0 y1
set_option maxHeartbeats 4000000 in
theorem final_re : (dats m 0 c).arrAt 11 cfg0.N = reV D := by
  refine (dats m 0 c).arrAt_eq_of_covers 11 _ (by decide +kernel) fun t hf y => ?_
  idx_vars y
  obtain rfl : y0 = 0 := Subsingleton.elim _ _
  obtain rfl : y1 = 0 := Subsingleton.elim _ _
  obtain rfl : y2 = 0 := Subsingleton.elim _ _
  have e0 : (win0_11.blk t).view.emb (ix4 0 0 0 y3) = ix4 (qq t) (ck t) 0 y3 := by
    blk_ext [idx t]
  blk_simp
  rw [after0_11, e0, left c H t]
  pointwise [k0_pay14]
  rfl
set_option maxHeartbeats 4000000 in
theorem final_im : (dats m 0 c).arrAt 12 cfg0.N = imV D := by
  refine (dats m 0 c).arrAt_eq_of_covers 12 _ (by decide +kernel) fun t hf y => ?_
  idx_vars y
  obtain rfl : y0 = 0 := Subsingleton.elim _ _
  obtain rfl : y1 = 0 := Subsingleton.elim _ _
  obtain rfl : y2 = 0 := Subsingleton.elim _ _
  have e0 : (win0_12.blk t).view.emb (ix4 0 0 0 y3) = ix4 (qq t) (ck t) 0 y3 := by
    blk_ext [idx t]
  blk_simp
  rw [after0_12, e0, left c H t]
  pointwise [k0_pay15]
  rfl
end
section
open Cert.S5fReferenceIdeal Cert.S5fReferenceIdeal.Read
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v62) = val_main_v62 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
 ∧ r.2.mem (c.tc.loc main_v69) = val_main_v69 (F := Ideal) (m (c.tc.loc main_arg0)) (m (c.tc.loc main_arg1)) (m (c.tc.loc main_arg2)) (m (c.tc.loc main_arg3)) (m (c.tc.loc main_arg4)) (m (c.tc.loc main_arg5))
 ∧ r.2.mem (c.tc.loc main_v76) = val_main_v76 (F := Ideal) (m (c.tc.loc main_arg0)) (m (c.tc.loc main_arg1)) (m (c.tc.loc main_arg2)) (m (c.tc.loc main_arg3)) (m (c.tc.loc main_arg4)) (m (c.tc.loc main_arg5))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4)
 ∧ r.2.mem (c.tc.loc main_arg5) = m (c.tc.loc main_arg5)
 ∧ r.2.mem (c.tc.loc main_arg6) = m (c.tc.loc main_arg6)
 ∧ r.2.mem (c.tc.loc main_arg7) = m (c.tc.loc main_arg7)
 ∧ r.2.mem (c.tc.loc main_arg8) = m (c.tc.loc main_arg8) :=
  (θ_run defs _ _).mono (fun _ h c => by
    obtain ⟨h0, h1, h2, h3⟩ := h c
    exact ⟨h0.trans (val_main_v62_eq ..), h1.trans (val_main_v69_eq ..), h2.trans (val_main_v76_eq ..), h3⟩) (Cert.S5fReferenceIdeal.Value.run m ρ)
variable {D : S5.Data} {x0 : FVec Ideal S8192x512 .f32} {x1 : FVec Ideal S32 .f32} {x2 x3 : FVec Ideal S32x64 .f32} {x4 x5 : FVec Ideal S32x64x16 .f32} {x6 x7 : FVec Ideal S32x16x64 .f32}
theorem ref_y (d : FVec Ideal S32x16 .f32) (e0 : x0 = D.x0) (e1 : x1 = D.x1) (e2 : x2 = D.x2) (e3 : x3 = D.x3) (e4 : x4 = D.x4) (e5 : x5 = D.x5) (e6 : x6 = D.x6) (e7 : x7 = D.x7) : val_main_v62 (F := Ideal) x0 x1 x2 x3 x4 x5 x6 x7 d = yV D d := by
  subst e0 e1 e2 e3 e4 e5 e6 e7
  funext i
  idx_vars i
  exact r62 D d i0 i1
theorem ref_re (e0 : x0 = D.x0) (e1 : x1 = D.x1) (e2 : x2 = D.x2) (e3 : x3 = D.x3) (e4 : x4 = D.x4) (e5 : x5 = D.x5) : val_main_v69 (F := Ideal) x0 x1 x2 x3 x4 x5 = reV D := by
  subst e0 e1 e2 e3 e4 e5
  funext i
  idx_vars i
  obtain rfl : i2 = 0 := Subsingleton.elim _ _
  exact r69 D i0 i1 i3
theorem ref_im (e0 : x0 = D.x0) (e1 : x1 = D.x1) (e2 : x2 = D.x2) (e3 : x3 = D.x3) (e4 : x4 = D.x4) (e5 : x5 = D.x5) : val_main_v76 (F := Ideal) x0 x1 x2 x3 x4 x5 = imV D := by
  subst e0 e1 e2 e3 e4 e5
  funext i
  idx_vars i
  obtain rfl : i2 = 0 := Subsingleton.elim _ _
  exact r76 D i0 i1 i3
end
section
open Cert.Pre_finite_s5f
theorem pre_facts : Cert.Pre_finite_s5f.Facts where
  bcast_S_S8192x512 := by decide
  reducesTo_S8192x512_S_d0_1 := by decide
  h_S_ := by decide
  bcast_S_S32 := by decide
  reducesTo_S32_S_d0 := by decide
  bcast_S_S32x64 := by decide
  reducesTo_S32x64_S_d0_1 := by decide
  bcast_S_S32x64x16 := by decide
  reducesTo_S32x64x16_S_d0_1_2 := by decide
  bcast_S_S32x16x64 := by decide
  reducesTo_S32x16x64_S_d0_1_2 := by decide
attribute [local instance] pre_facts
variable (x0 : FVec Ideal S8192x512 .f32) (x1 : FVec Ideal S32 .f32) (x2 : FVec Ideal S32x64 .f32) (x3 : FVec Ideal S32x64 .f32) (x4 : FVec Ideal S32x64x16 .f32) (x5 : FVec Ideal S32x64x16 .f32) (x6 : FVec Ideal S32x16x64 .f32) (x7 : FVec Ideal S32x16x64 .f32) (x8 : FVec Ideal S32x16 .f32)
/-- The real numbers that finite arguments are; there is no cotangent. -/
abbrev dataOf : S5.Data := S5.dataOf x0 x1 x2 x3 x4 x5 x6 x7 fun _ => 0
theorem reals (h : Cert.Pre_finite_s5f.fn (F := Ideal) x0 x1 x2 x3 x4 x5 x6 x7 x8 = fun _ => 1#1) :
    x0 = (dataOf x0 x1 x2 x3 x4 x5 x6 x7).x0 ∧ x1 = (dataOf x0 x1 x2 x3 x4 x5 x6 x7).x1 ∧ x2 = (dataOf x0 x1 x2 x3 x4 x5 x6 x7).x2 ∧ x3 = (dataOf x0 x1 x2 x3 x4 x5 x6 x7).x3
 ∧ x4 = (dataOf x0 x1 x2 x3 x4 x5 x6 x7).x4 ∧ x5 = (dataOf x0 x1 x2 x3 x4 x5 x6 x7).x5 ∧ x6 = (dataOf x0 x1 x2 x3 x4 x5 x6 x7).x6 ∧ x7 = (dataOf x0 x1 x2 x3 x4 x5 x6 x7).x7 := by
  have h := congrFun h (fun k => k.elim0)
  unfold Cert.Pre_finite_s5f.fn Cert.Pre_finite_s5f.fn_part1 Cert.Pre_finite_s5f.fn_part2 at h
  dsimp only at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨?_, ?_, ?_, ?_, ?_, ?_, ?_, ?_⟩
  · funext i; idx_vars i; exact Ops.real_all _ _ _ _ _ h0 _
  · funext i; idx_vars i; exact Ops.real_all _ _ _ _ _ h1 _
  · funext i; idx_vars i; exact Ops.real_all _ _ _ _ _ h2 _
  · funext i; idx_vars i; exact Ops.real_all _ _ _ _ _ h3 _
  · funext i; idx_vars i; exact Ops.real_all _ _ _ _ _ h4 _
  · funext i; idx_vars i; exact Ops.real_all _ _ _ _ _ h5 _
  · funext i; idx_vars i; exact Ops.real_all _ _ _ _ _ h6 _
  · funext i; idx_vars i; exact Ops.real_all _ _ _ _ _ h7 _
/-- The memory holds real numbers where the precondition does. -/
theorem held (m : (ℓ : Loc Cert.S5fKernelIdeal.nD Cert.S5fKernelIdeal.τ Cert.S5fKernelIdeal.sig) → Buf (Elt Ideal) ℓ) (c : Dev Cert.S5fKernelIdeal.nD)
    (h : Cert.Pre_finite_s5f.fn (F := Ideal) (m (c.tc.loc Cert.S5fKernelIdeal.main_arg0)) (m (c.tc.loc Cert.S5fKernelIdeal.main_arg1)) (m (c.tc.loc Cert.S5fKernelIdeal.main_arg2)) (m (c.tc.loc Cert.S5fKernelIdeal.main_arg3)) (m (c.tc.loc Cert.S5fKernelIdeal.main_arg4)) (m (c.tc.loc Cert.S5fKernelIdeal.main_arg5)) (m (c.tc.loc Cert.S5fKernelIdeal.main_arg6)) (m (c.tc.loc Cert.S5fKernelIdeal.main_arg7)) (m (c.tc.loc Cert.S5fKernelIdeal.main_arg8)) = fun _ => 1#1) :
    ∃ D, Holds D (m (c.tc.loc Cert.S5fKernelIdeal.main_arg8)) (fun b => m (c, b)) ∧ (m (c.tc.loc Cert.S5fKernelIdeal.main_arg0)) = D.x0 ∧ (m (c.tc.loc Cert.S5fKernelIdeal.main_arg1)) = D.x1 ∧ (m (c.tc.loc Cert.S5fKernelIdeal.main_arg2)) = D.x2 ∧ (m (c.tc.loc Cert.S5fKernelIdeal.main_arg3)) = D.x3 ∧ (m (c.tc.loc Cert.S5fKernelIdeal.main_arg4)) = D.x4 ∧ (m (c.tc.loc Cert.S5fKernelIdeal.main_arg5)) = D.x5 ∧ (m (c.tc.loc Cert.S5fKernelIdeal.main_arg6)) = D.x6 ∧ (m (c.tc.loc Cert.S5fKernelIdeal.main_arg7)) = D.x7 :=
  have ⟨h0, h1, h2, h3, h4, h5, h6, h7⟩ := reals _ _ _ _ _ _ _ _ _ h
  ⟨_, ⟨h0, h1, h2, h3, h4, h5, h6, h7, rfl⟩, h0, h1, h2, h3, h4, h5, h6, h7⟩
end
set_option maxHeartbeats 4000000 in
/-- The kernel's output and states of the linear time-invariant recurrence are the reference's. -/
theorem algebraic : Cert.algebraic_S5fKernelIdeal_S5fReferenceIdeal_pre_finite_s5f (hS5fKernelIdeal := Cert.S5fKernelIdeal.Gen.facts) (hS5fReferenceIdeal := Cert.S5fReferenceIdeal.Gen.facts)
    (hPre_finite_s5f := pre_facts) := by
  pair_intro
  · run_from Cert.S5fKernelIdeal.Value.run_blocks m g
  · run_from ref_run m' g'
    all_goals obtain ⟨D, H, e0, e1, e2, e3, e4, e5, e6, e7⟩ := held m c (hpre c)
    · exact (ref_y _ e0 e1 e2 e3 e4 e5 e6 e7).trans (final_y c H).symm
    · exact (ref_re e0 e1 e2 e3 e4 e5).trans (final_re c H).symm
    · exact (ref_im e0 e1 e2 e3 e4 e5).trans (final_im c H).symm
end Cert.S5f
-- ==== Proof.Gates.lean ====
module
public import proofs.«01_k».proof.Proof.Rows
@[expose] public section
set_option maxRecDepth 16384
noncomputable section
open Idealize.ShloMosaic
/-! The gates of the layer and their derivatives, over the extended reals. -/
namespace Cert.Gates
/-- The logistic function. -/
def sgm (x : EReal) : EReal := Ideal.div 1 (1 + Ideal.exp (-x))
/-- Its derivative. -/
def dsgm (x : EReal) : EReal := sgm x * (1 - sgm x)
theorem logistic_eq (x : EReal) : Ideal.logistic x = sgm x := rfl
/-- The hyperbolic tangent inside the smooth rectifier. -/
def gtanh (x : EReal) : EReal :=
  Ideal.tanh (Ideal.ofBits .f32 0x3F4C422A#32 * (x + Ideal.ofBits .f32 0x3D372713#32 * (x * x * x)))
/-- The smooth rectifier. -/
def gelu (x : EReal) : EReal := x * (Ideal.ofBits .f32 0x3F000000#32 * (1 + gtanh x))
/-- What the cotangent `d` of the smooth rectifier gives the argument of its tangent. -/
def garg (x d : EReal) : EReal :=
  Ideal.ofBits .f32 0x3F4C422A#32 * (Ideal.ofBits .f32 0x3F000000#32 * (x * d) * ((1 + gtanh x) * (1 - gtanh x)))
/-- The derivative of the smooth rectifier applied to the cotangent `d`. -/
def dgelu (x d : EReal) : EReal :=
  d * (Ideal.ofBits .f32 0x3F000000#32 * (1 + gtanh x)) + garg x d +
    Ideal.ofBits .f32 0x3D372713#32 * garg x d * (Ideal.ofBits .f32 0x40400000#32 * (x * x))
/-- Three times a number is its sum with itself, twice. -/
theorem three_mul_eq (x : EReal) : Ideal.ofBits .f32 0x40400000#32 * x = x + x + x := by
  have e : Ideal.ofBits .f32 0x40400000#32 = ((3 : ℝ) : EReal) := by
    simp [Ideal.ofBits, Ideal.ieee, -EReal.coe_mul]; norm_num
  have h : ((3 : ℝ) : EReal) = ((2 : ℝ) : EReal) + 1 := by norm_cast
  rw [e, h, EReal.right_distrib_of_nonneg (by norm_num) (by norm_num), one_mul, Rows.two_mul_eq]
end Cert.Gates
-- ==== Proof.Reals.lean ====
module
public import proofs.«01_k».proof.Proof.Gates
@[expose] public section
set_option maxRecDepth 16384
noncomputable section
open Idealize.ShloMosaic
/-! Real values among the extended reals. -/
namespace Cert.Reals
/-- A value that is neither infinity. -/
def IsReal (x : EReal) : Prop := ∃ r : ℝ, x = (r : EReal)
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih
/-- The logistic function is real everywhere. -/
theorem isReal_sgm (x : EReal) : IsReal (Gates.sgm x) := by
  unfold Gates.sgm Ideal.div
  have key : ∀ e : EReal, 0 ≤ e → IsReal (if (1 : EReal) + e = 0 then (if (0 : EReal) < 1 then ⊤ else ⊥) else 1 * (1 + e)⁻¹) := by
    intro e he
    induction e using EReal.rec with
    | bot => exact absurd he (by simp)
    | coe r =>
      have hr : (0 : ℝ) ≤ r := EReal.coe_nonneg.1 he
      have h1 : (1 : EReal) + (r : EReal) = ((1 + r : ℝ) : EReal) := by norm_cast
      rw [h1, if_neg (by rw [← EReal.coe_zero, EReal.coe_eq_coe_iff]; positivity), one_mul, ← EReal.coe_inv]
      exact ⟨_, rfl⟩
    | top => rw [EReal.add_top_of_ne_bot (by rw [← EReal.coe_one]; exact EReal.coe_ne_bot 1)]; exact ⟨0, by simp⟩
  refine key _ ?_
  induction (-x) using EReal.rec with
  | bot => exact le_refl _
  | coe r => exact EReal.coe_nonneg.2 (Real.exp_pos r).le
  | top => exact le_top
/-- A real factor goes over a sum of reals. -/
theorem sum_mul_real {ι : Type} (s : Finset ι) (f : ι → EReal) (h : ∀ i, IsReal (f i)) (c : EReal) (hc : IsReal c) :
    (∑ i ∈ s, f i) * c = ∑ i ∈ s, f i * c := by
  classical
  obtain ⟨c, rfl⟩ := hc
  induction s using Finset.induction_on with
  | empty => simp
  | insert a s ha ih =>
    rw [Finset.sum_insert ha, Finset.sum_insert ha, ← ih]
    obtain ⟨x, hx⟩ := h a
    obtain ⟨y, hy⟩ := IsReal.sum s f h
    rw [hx, hy, ← EReal.coe_add, ← EReal.coe_mul, ← EReal.coe_mul, ← EReal.coe_mul, ← EReal.coe_add, add_mul]
end Cert.Reals
-- ==== Proof.Merge.lean ====
module
public import proofs.«01_k».proof.Proof.Reals
public import proofs.«01_k».proof.Proof.OpsClaim
public import proofs.«01_k».proof.Proof.Gen.MergeKernelIdeal.Value
public import proofs.«01_k».proof.Proof.Gen.MergeReferenceIdeal.Read
@[expose] public section
set_option maxRecDepth 16384
noncomputable section
open Idealize.ShloMosaic Idealize.ShloMosaic.TcCoe Idealize.SL.Sem
open Cert.Rows Cert.Gates Cert.Reals
/-! The gradient of the gated merge of four branches, `h + (Σ n, sigmoid (gate n) * (y n · w n)) · w_out`. -/
namespace Cert.Merge
section
variable (y : Fin 512 → EReal) (q : Fin 1024 → EReal) (w : Fin 512 → Fin 1024 → EReal) (o : Fin 1024 → Fin 1024 → EReal) (d : Fin 1024 → EReal)
/-- A branch's product, the cotangent of the gated branch, the gated branch, the cotangent of the branch. -/
def br (k : Fin 1024) : EReal := ∑ j, y j * w j k
def ct (k : Fin 1024) : EReal := ∑ j, d j * o k j
def mid (k : Fin 1024) : EReal := sgm (q k) * br y w k
def db (k : Fin 1024) : EReal := sgm (q k) * ct o d k
/-- The gradients of one row of a branch and of its gate. -/
def dY (j : Fin 512) : EReal := ∑ k, db q o d k * w j k
def dQ (k : Fin 1024) : EReal := ct o d k * br y w k * dsgm (q k)
end
/-- Row `a` of branch `n`, of its gate, and its weight. -/
def ysb (y : FVec Ideal ⟨2, ![8192, 2048]⟩ .f32) (a : Fin 8192) (n : Fin 4) : Fin 512 → EReal := fun j => y (ix2 a ⟨n.val * 512 + j.val, by omega⟩)
def gpb (q : FVec Ideal ⟨2, ![8192, 4096]⟩ .f32) (a : Fin 8192) (n : Fin 4) : Fin 1024 → EReal := fun k => q (ix2 a ⟨n.val * 1024 + k.val, by omega⟩)
def wbn (w : FVec Ideal ⟨3, ![4, 512, 1024]⟩ .f32) (n : Fin 4) : Fin 512 → Fin 1024 → EReal := fun j k => w (ix3 n j k)
/-- The four gradients as arrays. -/
def dysV (y : FVec Ideal ⟨2, ![8192, 2048]⟩ .f32) (q : FVec Ideal ⟨2, ![8192, 4096]⟩ .f32) (w : FVec Ideal ⟨3, ![4, 512, 1024]⟩ .f32) (o : FVec Ideal ⟨2, ![1024, 1024]⟩ .f32)
    (d : FVec Ideal ⟨2, ![8192, 1024]⟩ .f32) : FVec Ideal ⟨2, ![8192, 2048]⟩ .f32 := fun i =>
  dY (gpb q (i 0) ⟨(i 1).val / 512, by have : (i 1).val < 2048 := (i 1).isLt; omega⟩) (wbn w ⟨(i 1).val / 512, by have : (i 1).val < 2048 := (i 1).isLt; omega⟩) (fun i j => o (ix2 i j)) (fun j => d (ix2 (i 0) j)) ⟨(i 1).val % 512, by omega⟩
def dgpV (y : FVec Ideal ⟨2, ![8192, 2048]⟩ .f32) (q : FVec Ideal ⟨2, ![8192, 4096]⟩ .f32) (w : FVec Ideal ⟨3, ![4, 512, 1024]⟩ .f32) (o : FVec Ideal ⟨2, ![1024, 1024]⟩ .f32)
    (d : FVec Ideal ⟨2, ![8192, 1024]⟩ .f32) : FVec Ideal ⟨2, ![8192, 4096]⟩ .f32 := fun i =>
  dQ (ysb y (i 0) ⟨(i 1).val / 1024, by have : (i 1).val < 4096 := (i 1).isLt; omega⟩) (gpb q (i 0) ⟨(i 1).val / 1024, by have : (i 1).val < 4096 := (i 1).isLt; omega⟩)
    (wbn w ⟨(i 1).val / 1024, by have : (i 1).val < 4096 := (i 1).isLt; omega⟩) (fun i j => o (ix2 i j)) (fun j => d (ix2 (i 0) j)) ⟨(i 1).val % 1024, by omega⟩
def dwbV (y : FVec Ideal ⟨2, ![8192, 2048]⟩ .f32) (q : FVec Ideal ⟨2, ![8192, 4096]⟩ .f32) (w : FVec Ideal ⟨3, ![4, 512, 1024]⟩ .f32) (o : FVec Ideal ⟨2, ![1024, 1024]⟩ .f32)
    (d : FVec Ideal ⟨2, ![8192, 1024]⟩ .f32) : FVec Ideal ⟨3, ![4, 512, 1024]⟩ .f32 := fun i =>
  ∑ a : Fin 8192, ysb y a (i 0) (i 1) * db (gpb q a (i 0)) (fun i j => o (ix2 i j)) (fun j => d (ix2 a j)) (i 2)
def dwoV (y : FVec Ideal ⟨2, ![8192, 2048]⟩ .f32) (q : FVec Ideal ⟨2, ![8192, 4096]⟩ .f32) (w : FVec Ideal ⟨3, ![4, 512, 1024]⟩ .f32) (o : FVec Ideal ⟨2, ![1024, 1024]⟩ .f32)
    (d : FVec Ideal ⟨2, ![8192, 1024]⟩ .f32) : FVec Ideal ⟨2, ![1024, 1024]⟩ .f32 := fun i =>
  ∑ a : Fin 8192, (∑ n : Fin 4, mid (ysb y a n) (gpb q a n) (wbn w n) (i 0)) * d (ix2 a (i 1))
/-- The last one, branch by branch. -/
def dwoK (y : FVec Ideal ⟨2, ![8192, 2048]⟩ .f32) (q : FVec Ideal ⟨2, ![8192, 4096]⟩ .f32) (w : FVec Ideal ⟨3, ![4, 512, 1024]⟩ .f32) (o : FVec Ideal ⟨2, ![1024, 1024]⟩ .f32)
    (d : FVec Ideal ⟨2, ![8192, 1024]⟩ .f32) : FVec Ideal ⟨2, ![1024, 1024]⟩ .f32 := fun i =>
  ∑ n : Fin 4, ∑ a : Fin 8192, mid (ysb y a n) (gpb q a n) (wbn w n) (i 0) * d (ix2 a (i 1))
/-- Where the branches, their weights and the cotangent are real, the branches may be added before the product or after. -/
theorem dwo_eq (y : FVec Ideal ⟨2, ![8192, 2048]⟩ .f32) (q : FVec Ideal ⟨2, ![8192, 4096]⟩ .f32) (w : FVec Ideal ⟨3, ![4, 512, 1024]⟩ .f32) (o : FVec Ideal ⟨2, ![1024, 1024]⟩ .f32)
    (d : FVec Ideal ⟨2, ![8192, 1024]⟩ .f32) (hy : ∀ i, IsReal (y i)) (hw : ∀ i, IsReal (w i)) (hd : ∀ i, IsReal (d i)) : dwoK y q w o d = dwoV y q w o d := by
  funext i
  unfold dwoK dwoV
  rw [Finset.sum_comm]
  refine Finset.sum_congr rfl fun a _ => (sum_mul_real _ _ (fun n => ?_) _ (hd _)).symm
  exact (isReal_sgm _).mul (IsReal.sum _ _ fun j => (hy _).mul (hw _))
section
open Cert.MergeReferenceIdeal Cert.MergeReferenceIdeal.Read
variable (x0 : FVec Ideal S8192x1024 .f32) (x1 : FVec Ideal S8192x2048 .f32) (x2 : FVec Ideal S8192x4096 .f32) (x3 : FVec Ideal S4x512x1024 .f32)
  (x4 : FVec Ideal S1024x1024 .f32) (x5 : FVec Ideal S8192x1024 .f32)
theorem ref_br (a : Fin 8192) (n : Fin 4) (k : Fin 1024) : val_main_v2 (F := Ideal) x1 x3 (ix3 a n k) = br (ysb x1 a n) (wbn x3 n) k := by
  pointwise [val_main_v2, val_main_v1, val_main_v0, br, ysb, wbn]
  exact Finset.sum_congr rfl fun _ _ => mul_comm _ _
theorem ref_gate (a : Fin 8192) (c : Fin 4096) : val_main_v8 (F := Ideal) x2 (ix2 a c) = sgm (x2 (ix2 a c)) := by
  pointwise [val_main_v8, val_main_v7, val_main_cst_0, val_main_v6, val_main_v5, val_main_cst, val_main_v4, val_main_v3, sgm]
theorem ref_mid (a : Fin 8192) (k : Fin 1024) : val_main_v14 (F := Ideal) x1 x2 x3 (ix2 a k) = ∑ n : Fin 4, mid (ysb x1 a n) (gpb x2 a n) (wbn x3 n) k := by
  pointwise [val_main_v14, val_main_v13, val_main_v12, val_main_cst_2, ref_gate, ref_br, mid, gpb]
theorem ref_ct (a : Fin 8192) (k : Fin 1024) : val_main_v19 (F := Ideal) x4 x5 (ix2 a k) = ct (fun i j => x4 (ix2 i j)) (fun j => x5 (ix2 a j)) k := by
  pointwise [val_main_v19, ct]
theorem ref_dwo (j k : Fin 1024) : val_main_v18 (F := Ideal) x1 x2 x3 x5 (ix2 j k) = ∑ a : Fin 8192, (∑ n : Fin 4, mid (ysb x1 a n) (gpb x2 a n) (wbn x3 n) j) * x5 (ix2 a k) := by
  pointwise [val_main_v18, val_main_v17, ref_mid]
  exact Finset.sum_congr rfl fun _ _ => mul_comm _ _
theorem ref_db (a : Fin 8192) (n : Fin 4) (k : Fin 1024) : val_main_v21 (F := Ideal) x2 x4 x5 (ix3 a n k) = db (gpb x2 a n) (fun i j => x4 (ix2 i j)) (fun j => x5 (ix2 a j)) k := by
  pointwise [val_main_v21, val_main_v12, val_main_v20, ref_gate, ref_ct, db, gpb]
theorem ref_dq (a : Fin 8192) (c : Fin 4096) : val_main_v24 (F := Ideal) x1 x2 x3 x4 x5 (ix2 a c) = dQ (ysb x1 a ⟨c.val / 1024, by omega⟩) (gpb x2 a ⟨c.val / 1024, by omega⟩) (wbn x3 ⟨c.val / 1024, by omega⟩) (fun i j => x4 (ix2 i j)) (fun j => x5 (ix2 a j)) ⟨c.val % 1024, by omega⟩ := by
  pointwise [val_main_v24, val_main_v23, val_main_v22, val_main_v20, val_main_v11, val_main_v10, val_main_v9, val_main_cst_1, ref_ct, ref_br, ref_gate, dQ, gpb, dsgm]
  simp only [Nat.div_add_mod']
theorem ref_dy (a : Fin 8192) (c : Fin 2048) : val_main_v30 (F := Ideal) x2 x3 x4 x5 (ix2 a c) = dY (gpb x2 a ⟨c.val / 512, by omega⟩) (wbn x3 ⟨c.val / 512, by omega⟩) (fun i j => x4 (ix2 i j)) (fun j => x5 (ix2 a j)) ⟨c.val % 512, by omega⟩ := by
  pointwise [val_main_v30, val_main_v27, val_main_v26, val_main_v25, ref_db, dY, wbn]
theorem ref_dwb (n : Fin 4) (j : Fin 512) (k : Fin 1024) : val_main_v29 (F := Ideal) x1 x2 x4 x5 (ix3 n j k) = ∑ a : Fin 8192, ysb x1 a n j * db (gpb x2 a n) (fun i j => x4 (ix2 i j)) (fun j => x5 (ix2 a j)) k := by
  pointwise [val_main_v29, val_main_v28, val_main_v25, val_main_v0, ref_db, ysb]
  exact Finset.sum_congr rfl fun _ _ => mul_comm _ _
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v30) = dysV (m (c.tc.loc main_arg1)) (m (c.tc.loc main_arg2)) (m (c.tc.loc main_arg3)) (m (c.tc.loc main_arg4)) (m (c.tc.loc main_arg5))
 ∧ r.2.mem (c.tc.loc main_v24) = dgpV (m (c.tc.loc main_arg1)) (m (c.tc.loc main_arg2)) (m (c.tc.loc main_arg3)) (m (c.tc.loc main_arg4)) (m (c.tc.loc main_arg5))
 ∧ r.2.mem (c.tc.loc main_v29) = dwbV (m (c.tc.loc main_arg1)) (m (c.tc.loc main_arg2)) (m (c.tc.loc main_arg3)) (m (c.tc.loc main_arg4)) (m (c.tc.loc main_arg5))
 ∧ r.2.mem (c.tc.loc main_v18) = dwoV (m (c.tc.loc main_arg1)) (m (c.tc.loc main_arg2)) (m (c.tc.loc main_arg3)) (m (c.tc.loc main_arg4)) (m (c.tc.loc main_arg5))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4)
 ∧ r.2.mem (c.tc.loc main_arg5) = m (c.tc.loc main_arg5) :=
  (θ_run defs _ _).mono (fun _ h c => by
    obtain ⟨h0, h1, h2, h3, h4⟩ := h c
    refine ⟨(h0.trans (val_main_v30_eq ..)).trans (funext fun j => ?_), (h1.trans (val_main_v24_eq ..)).trans (funext fun j => ?_), (h2.trans (val_main_v29_eq ..)).trans (funext fun j => ?_), (h3.trans (val_main_v18_eq ..)).trans (funext fun j => ?_), h4⟩
    · idx_vars j
      exact ref_dy _ _ _ _ j0 j1
    · idx_vars j
      exact ref_dq _ _ _ _ _ j0 j1
    · idx_vars j
      exact ref_dwb _ _ _ _ j0 j1 j2
    · idx_vars j
      exact ref_dwo _ _ _ _ j0 j1) (Cert.MergeReferenceIdeal.Value.run m ρ)
end
section
open Cert.MergeKernelIdeal Cert.MergeKernelIdeal.Gen
variable (y : FVec Ideal S512x512 .f32) (q d : FVec Ideal S512x1024 .f32) (w : FVec Ideal S1x512x1024 .bf16) (o : FVec Ideal S1024x1024 .bf16)
theorem ker_br (a : Fin 512) (k : Fin 1024) : k0_pay6 (F := Ideal) y w (ix2 a k) = br (fun j => y (ix2 a j)) (fun j k => w (ix3 0 j k))  k := by
  pointwise [k0_pay6, k0_pay4, br]
theorem ker_ct (a : Fin 512) (k : Fin 1024) : k0_pay7 (F := Ideal) o d (ix2 a k) = ct (fun i j => o (ix2 i j)) (fun j => d (ix2 a j)) k := by
  pointwise [k0_pay7, ct]
theorem ker_db (a : Fin 512) (k : Fin 1024) : k0_pay9 (F := Ideal) q o d (ix2 a k) = db (fun k => q (ix2 a k)) (fun i j => o (ix2 i j)) (fun j => d (ix2 a j)) k := by
  pointwise [k0_pay9, k0_pay5, ker_ct, db, logistic_eq]
/-- The kernel's four gradients, on one tile of rows of one branch. -/
theorem ker_dy (a j : Fin 512) : k0_pay10 (F := Ideal) q w o d (ix2 a j) = dY (fun k => q (ix2 a k)) (fun j k => w (ix3 0 j k)) (fun i j => o (ix2 i j)) (fun j => d (ix2 a j)) j := by
  pointwise [k0_pay10, k0_pay4, ker_db, dY]
theorem ker_dq (a : Fin 512) (k : Fin 1024) : k0_pay12 (F := Ideal) y q w o d (ix2 a k) = dQ (fun j => y (ix2 a j)) (fun k => q (ix2 a k)) (fun j k => w (ix3 0 j k)) (fun i j => o (ix2 i j)) (fun j => d (ix2 a j)) k := by
  pointwise [k0_pay12, k0_pay5, ker_ct, ker_br, dQ, dsgm, logistic_eq]
theorem ker_dwb (j : Fin 512) (k : Fin 1024) : k0_pay11 (F := Ideal) y q o d (ix2 j k) = ∑ a : Fin 512, y (ix2 a j) * db (fun k => q (ix2 a k)) (fun i j => o (ix2 i j)) (fun j => d (ix2 a j)) k := by
  pointwise [k0_pay11, ker_db]
theorem ker_dwo (j k : Fin 1024) : k0_pay8 (F := Ideal) y q w d (ix2 j k) = ∑ a : Fin 512, mid (fun j => y (ix2 a j)) (fun k => q (ix2 a k)) (fun j k => w (ix3 0 j k))  j * d (ix2 a k) := by
  pointwise [k0_pay8, k0_pay5, ker_br, mid, logistic_eq]
end
section
open Cert.MergeKernelIdeal Cert.MergeKernelIdeal.Gen
variable (m : (ℓ : Loc nD τ sig) → Buf (Elt Ideal) ℓ)
theorem idx : ∀ t : Fin cfg0.N, win0_1.index t = ![t.val % 16, t.val / 16] ∧ win0_2.index t = ![t.val % 16, t.val / 16] ∧
    win0_3.index t = ![t.val / 16, 0, 0] ∧ win0_4.index t = ![0, 0] ∧ win0_5.index t = ![t.val % 16, 0] ∧ win0_6.index t = ![t.val % 16, t.val / 16] ∧
    win0_7.index t = ![t.val % 16, t.val / 16] ∧ win0_8.index t = ![t.val / 16, 0, 0] ∧ win0_9.index t = ![0, 0] :=
  (by decide +kernel : ∀ t : Fin grid0.N, _)
/-- The branches, the gates, the two weights and the cotangent. -/
abbrev Y (c : Dev nD) : FVec Ideal S8192x2048 .f32 := m ((c : Thread nD τ).loc main_arg1)
abbrev Q (c : Dev nD) : FVec Ideal S8192x4096 .f32 := m ((c : Thread nD τ).loc main_arg2)
abbrev W (c : Dev nD) : FVec Ideal S4x512x1024 .f32 := m ((c : Thread nD τ).loc main_arg3)
abbrev O (c : Dev nD) : FVec Ideal S1024x1024 .f32 := m ((c : Thread nD τ).loc main_arg4)
abbrev D (c : Dev nD) : FVec Ideal S8192x1024 .f32 := m ((c : Thread nD τ).loc main_arg5)
theorem lt64 (t : Fin cfg0.N) : t.val < 64 := by have := t.isLt; have : cfg0.N = 64 := N_0; omega
/-- Row `a` of the tile at grid point `t`, and that point's branch. -/
abbrev row (t : Fin cfg0.N) (a : Fin 512) : Fin 8192 := ⟨512 * (t.val % 16) + a.val, by omega⟩
abbrev brn (t : Fin cfg0.N) : Fin 4 := ⟨t.val / 16, by have := lt64 t; omega⟩
/-- The last grid point. -/
abbrev last : Fin cfg0.N := ⟨63, by decide⟩
/-- The tiles of the arguments. -/
theorem tile_y (c : Dev nD) (t : Fin cfg0.N) (a j : Fin 512) : iblk m c 1 t (ix2 a j) = ysb (Y m c) (row t a) (brn t) j := by
  unfold ysb
  blk_point [iblk, V, idx t]
theorem tile_q (c : Dev nD) (t : Fin cfg0.N) (a : Fin 512) (k : Fin 1024) : iblk m c 2 t (ix2 a k) = gpb (Q m c) (row t a) (brn t) k := by
  unfold gpb
  blk_point [iblk, V, idx t]
theorem tile_d (c : Dev nD) (t : Fin cfg0.N) (a : Fin 512) (k : Fin 1024) : iblk m c 5 t (ix2 a k) = D m c (ix2 (row t a) k) := by
  blk_point [iblk, V, idx t]
theorem tile_w (c : Dev nD) (t : Fin cfg0.N) (j : Fin 512) (k : Fin 1024) : iblk m c 3 t (ix3 0 j k) = wbn (W m c) (brn t) j k := by
  have e : ((View.whole main_v0).slice (win0_3.rect t)).emb (ix3 0 j k) = (ix3 (brn t) j k : S4x512x1024.Idx) := by
    blk_ext [idx t]
  blk_simp [iblk, V, idx t]
  entry_read
  refine (congrArg _ e).trans ?_
  pointwise [wbn]
theorem tile_o (c : Dev nD) (t : Fin cfg0.N) (j k : Fin 1024) : iblk m c 4 t (ix2 j k) = O m c (ix2 j k) := by
  have e : ((View.whole main_v1).slice (win0_4.rect t)).emb (ix2 j k) = (ix2 j k : S1024x1024.Idx) := by
    blk_ext [idx t]
  blk_simp [iblk, V, idx t]
  entry_read
  refine (congrArg _ e).trans ?_
  pointwise
/-- A sum over the tiles of one branch is the sum over the rows. -/
theorem sum_rows (f : Fin 8192 → EReal) : ∑ s : Fin 16, ∑ a : Fin 512, f ⟨512 * s.val + a.val, by omega⟩ = ∑ a : Fin 8192, f a := by
  refine Eq.trans ?_ (Fin.sum_univ_tiles 16 512 rfl f).symm
  exact Finset.sum_congr rfl fun t _ => Finset.sum_congr rfl fun a _ => congrArg f (Fin.ext (by
    show 512 * t.val + a.val = t.val * 512 + a.val; omega))
/-- A sum over the grid is a sum over the branches and the rows. -/
theorem sum_grid (f : Fin 4 → Fin 8192 → EReal) : ∑ t : Fin cfg0.N, ∑ a : Fin 512, f (brn t) (row t a) = ∑ n : Fin 4, ∑ a : Fin 8192, f n a := by
  refine (Fin.sum_univ_tiles 4 16 rfl fun t : Fin cfg0.N => ∑ a : Fin 512, f (brn t) (row t a)).trans (Finset.sum_congr rfl fun n _ => ?_)
  refine Eq.trans (Finset.sum_congr rfl fun s _ => Finset.sum_congr rfl fun a _ => ?_) (sum_rows (f n))
  exact congrArg₂ f (Fin.ext (by show (n.val * 16 + s.val) / 16 = n.val; omega)) (Fin.ext (by show 512 * ((n.val * 16 + s.val) % 16) + a.val = 512 * s.val + a.val; omega))
/-- The gradient of the branches. -/
theorem final_dy (c : Dev nD) : (dats m 0 c).arrAt 6 cfg0.N = dysV (Y m c) (Q m c) (W m c) (O m c) (D m c) := by
  refine (dats m 0 c).arrAt_eq_of_covers 6 _ (by decide +kernel) fun t hf y => ?_
  idx_vars y
  have := lt64 t
  have e0 : (win0_6.blk t).view.emb (ix2 y0 y1) = ix2 (row t y0) ⟨t.val / 16 * 512 + y1.val, by omega⟩ := by
    blk_ext [idx t]
  have e1 : (⟨(t.val / 16 * 512 + y1.val) / 512, by omega⟩ : Fin 4) = brn t := Fin.ext (by show (t.val / 16 * 512 + y1.val) / 512 = t.val / 16; omega)
  have e2 : (⟨(t.val / 16 * 512 + y1.val) % 512, by omega⟩ : Fin 512) = y1 := Fin.ext (by show (t.val / 16 * 512 + y1.val) % 512 = y1.val; omega)
  blk_simp
  rw [after0_6, e0]
  have e3 : (outsAt0 m c t.val t.isLt).1 (ix2 y0 y1) = dY (gpb (Q m c) (row t y0) (brn t)) (wbn (W m c) (brn t)) (fun i j => O m c (ix2 i j)) (fun j => D m c (ix2 (row t y0) j)) y1 := by
    rcases Nat.eq_zero_or_pos (t.val % 16) with h | h
    · rcases Nat.eq_zero_or_pos t.val with h' | h'
      on_goal 1 => rw [outsAt0_A m c t (by omega) (by omega) (by omega) (by omega)]
      on_goal 2 => rw [outsAt0_C m c t (by omega) (by omega) (by omega) (by omega)]
      all_goals
        frame_out
        refine (ker_dy _ _ _ _ y0 y1).trans ?_
        simp only [tile_y, tile_q, tile_d, tile_w, tile_o]
    · rw [outsAt0_B m c t (by omega) (by omega) (by omega) (by omega)]
      frame_out
      refine (ker_dy _ _ _ _ y0 y1).trans ?_
      simp only [tile_y, tile_q, tile_d, tile_w, tile_o]
  rw [e3]
  unfold dysV
  show _ = dY (gpb (Q m c) (row t y0) ⟨(t.val / 16 * 512 + y1.val) / 512, by omega⟩) (wbn (W m c) ⟨(t.val / 16 * 512 + y1.val) / 512, by omega⟩) _ _ ⟨(t.val / 16 * 512 + y1.val) % 512, by omega⟩
  rw [e1, e2]
  rfl
/-- The gradient of the gates. -/
theorem final_dq (c : Dev nD) : (dats m 0 c).arrAt 7 cfg0.N = dgpV (Y m c) (Q m c) (W m c) (O m c) (D m c) := by
  refine (dats m 0 c).arrAt_eq_of_covers 7 _ (by decide +kernel) fun t hf y => ?_
  idx_vars y
  have := lt64 t
  have e0 : (win0_7.blk t).view.emb (ix2 y0 y1) = ix2 (row t y0) ⟨t.val / 16 * 1024 + y1.val, by omega⟩ := by
    blk_ext [idx t]
  have e1 : (⟨(t.val / 16 * 1024 + y1.val) / 1024, by omega⟩ : Fin 4) = brn t := Fin.ext (by show (t.val / 16 * 1024 + y1.val) / 1024 = t.val / 16; omega)
  have e2 : (⟨(t.val / 16 * 1024 + y1.val) % 1024, by omega⟩ : Fin 1024) = y1 := Fin.ext (by show (t.val / 16 * 1024 + y1.val) % 1024 = y1.val; omega)
  blk_simp
  rw [after0_7, e0]
  have e3 : (outsAt0 m c t.val t.isLt).2.1 (ix2 y0 y1) = dQ (ysb (Y m c) (row t y0) (brn t)) (gpb (Q m c) (row t y0) (brn t)) (wbn (W m c) (brn t)) (fun i j => O m c (ix2 i j)) (fun j => D m c (ix2 (row t y0) j)) y1 := by
    rcases Nat.eq_zero_or_pos (t.val % 16) with h | h
    · rcases Nat.eq_zero_or_pos t.val with h' | h'
      on_goal 1 => rw [outsAt0_A m c t (by omega) (by omega) (by omega) (by omega)]
      on_goal 2 => rw [outsAt0_C m c t (by omega) (by omega) (by omega) (by omega)]
      all_goals
        frame_out
        refine (ker_dq _ _ _ _ _ y0 y1).trans ?_
        simp only [tile_y, tile_q, tile_d, tile_w, tile_o]
    · rw [outsAt0_B m c t (by omega) (by omega) (by omega) (by omega)]
      frame_out
      refine (ker_dq _ _ _ _ _ y0 y1).trans ?_
      simp only [tile_y, tile_q, tile_d, tile_w, tile_o]
  rw [e3]
  unfold dgpV
  show _ = dQ (ysb (Y m c) (row t y0) ⟨(t.val / 16 * 1024 + y1.val) / 1024, by omega⟩) (gpb (Q m c) (row t y0) ⟨(t.val / 16 * 1024 + y1.val) / 1024, by omega⟩) (wbn (W m c) ⟨(t.val / 16 * 1024 + y1.val) / 1024, by omega⟩) _ _ ⟨(t.val / 16 * 1024 + y1.val) % 1024, by omega⟩
  rw [e1, e2]
  rfl
/-- The gradient of the branches' weights. -/
theorem final_dwb (c : Dev nD) : (dats m 0 c).arrAt 8 cfg0.N = dwbV (Y m c) (Q m c) (W m c) (O m c) (D m c) := by
  refine (dats m 0 c).arrAt_eq_of_covers 8 _ (by decide +kernel) fun t hf y => ?_
  idx_vars y
  obtain rfl : y0 = 0 := Subsingleton.elim _ _
  have := lt64 t
  have e0 : (win0_8.blk t).view.emb (ix3 0 y1 y2) = ix3 (brn t) y1 y2 := by
    blk_ext [idx t]
  blk_simp
  have e := Pipeline.eq_sum_fin_of_reset_step_apply_of_flush (M := EReal) (fun n h => (outsAt0 m c n h).2.2.1) 16 (fun _ => (0 : EReal))
    (fun t i => ∑ a : Fin 512, ysb (Y m c) (row t a) (brn t) (i 1) * db (gpb (Q m c) (row t a) (brn t)) (fun i j => O m c (ix2 i j)) (fun j => D m c (ix2 (row t a) j)) (i 2))
    (fun t h i => by
      have := lt64 t
      idx_vars i
      obtain rfl : i0 = 0 := Subsingleton.elim _ _
      rcases Nat.eq_zero_or_pos t.val with h' | h'
      on_goal 1 => rw [outsAt0_A m c t (by omega) (by omega) (by omega) (by omega)]
      on_goal 2 => rw [outsAt0_C m c t (by omega) (by omega) (by omega) (by omega)]
      all_goals
        frame_out
        pointwise [k0_pay1]
        refine (ker_dwb _ _ _ _ _ _).trans ?_
        simp only [tile_y, tile_q, tile_d, tile_w, tile_o])
    (fun t h i => by
      have := lt64 t
      idx_vars i
      obtain rfl : i0 = 0 := Subsingleton.elim _ _
      rw [outsAt0_B m c t (by omega) (by omega) (by omega) (by omega)]
      frame_out
      pointwise [k0_pay2]
      refine congrArg _ ((ker_dwb _ _ _ _ _ _).trans ?_)
      simp only [tile_y, tile_q, tile_d, tile_w, tile_o])
    t ((flush0_8 t).mp hf) (ix3 0 y1 y2)
  rw [after0_8, e0]
  refine e.trans ?_
  rw [zero_add]
  refine Eq.trans (Finset.sum_congr rfl fun s _ => Finset.sum_congr rfl fun a _ => ?_)
    (sum_rows fun a => ysb (Y m c) a (brn t) y1 * db (gpb (Q m c) a (brn t)) (fun i j => O m c (ix2 i j)) (fun j => D m c (ix2 a j)) y2)
  have e1 : brn ⟨16 * (t.val / 16) + s.val, by have : cfg0.N = 64 := N_0; omega⟩ = brn t := Fin.ext (by show (16 * (t.val / 16) + s.val) / 16 = t.val / 16; omega)
  have e2 : row ⟨16 * (t.val / 16) + s.val, by have : cfg0.N = 64 := N_0; omega⟩ a = ⟨512 * s.val + a.val, by omega⟩ :=
    Fin.ext (by show 512 * ((16 * (t.val / 16) + s.val) % 16) + a.val = 512 * s.val + a.val; omega)
  rw [e1, e2]
  rfl
/-- The gradient of the output weight, branch by branch. -/
theorem final_dwo (c : Dev nD) : (dats m 0 c).arrAt 9 cfg0.N = dwoK (Y m c) (Q m c) (W m c) (O m c) (D m c) := by
  refine (dats m 0 c).arrAt_eq_of_after_last 9 last (by decide +kernel) _ fun j => ?_
  idx_vars j
  blk_simp
  have e := Pipeline.eq_sum_fin_of_reset_step_apply_last (M := EReal) (fun n h => (outsAt0 m c n h).2.2.2) 64 (fun _ => (0 : EReal))
    (fun t i => ∑ a : Fin 512, mid (ysb (Y m c) (row t a) (brn t)) (gpb (Q m c) (row t a) (brn t)) (wbn (W m c) (brn t)) (i 0) * D m c (ix2 (row t a) (i 1)))
    (fun t h i => by
      have := lt64 t
      idx_vars i
      rw [outsAt0_A m c t (by omega) (by omega) (by omega) (by omega)]
      frame_out
      refine (ker_dwo _ _ _ _ _ _).trans ?_
      simp only [tile_y, tile_q, tile_d, tile_w, tile_o, zero_add])
    (fun t h i => by
      have := lt64 t
      idx_vars i
      rcases Nat.eq_zero_or_pos (t.val % 16) with h' | h'
      on_goal 1 => rw [outsAt0_C m c t (by omega) (by omega) (by omega) (by omega)]
      on_goal 2 => rw [outsAt0_B m c t (by omega) (by omega) (by omega) (by omega)]
      all_goals
        frame_out
        pointwise [k0_pay3]
        refine congrArg _ ((ker_dwo _ _ _ _ _ _).trans ?_)
        simp only [tile_y, tile_q, tile_d, tile_w, tile_o])
    (le_of_eq N_0) last rfl (ix2 j0 j1)
  rw [after0_9]
  refine e.trans ?_
  rw [zero_add]
  exact sum_grid fun n a => mid (ysb (Y m c) a n) (gpb (Q m c) a n) (wbn (W m c) n) j0 * D m c (ix2 a j1)
end
theorem pre_facts : Cert.Pre_finite_merge.Facts where
  bcast_S_S8192x2048 := by decide
  reducesTo_S8192x2048_S_d0_1 := by decide
  h_S_ := by decide
  bcast_S_S4x512x1024 := by decide
  reducesTo_S4x512x1024_S_d0_1_2 := by decide
  bcast_S_S8192x1024 := by decide
  reducesTo_S8192x1024_S_d0_1 := by decide
section
open Cert.Pre_finite_merge
attribute [local instance] pre_facts
/-- The precondition: the branches, their weights and the cotangent are real. -/
theorem reals (x0 : FVec Ideal S8192x1024 .f32) (x1 : FVec Ideal S8192x2048 .f32) (x2 : FVec Ideal S8192x4096 .f32) (x3 : FVec Ideal S4x512x1024 .f32)
    (x4 : FVec Ideal S1024x1024 .f32) (x5 : FVec Ideal S8192x1024 .f32) (h : Cert.Pre_finite_merge.fn (F := Ideal) x0 x1 x2 x3 x4 x5 = fun _ => 1#1) :
    (∀ i, IsReal (x1 i)) ∧ (∀ i, IsReal (x3 i)) ∧ (∀ i, IsReal (x5 i)) := by
  have h := congrFun h (fun k => k.elim0)
  unfold Cert.Pre_finite_merge.fn at h
  dsimp only at h
  obtain ⟨h, h5⟩ := IntOp.andi_eq_one.1 h
  obtain ⟨h1, h3⟩ := IntOp.andi_eq_one.1 h
  exact ⟨fun i => ⟨_, Cert.Ops.real_all _ _ _ _ _ h1 i⟩, fun i => ⟨_, Cert.Ops.real_all _ _ _ _ _ h3 i⟩, fun i => ⟨_, Cert.Ops.real_all _ _ _ _ _ h5 i⟩⟩
end
/-- The kernel's gradients of the gated merge are the reference's. -/
theorem algebraic : Cert.algebraic_MergeKernelIdeal_MergeReferenceIdeal_pre_finite_merge (hMergeKernelIdeal := Cert.MergeKernelIdeal.Gen.facts) (hMergeReferenceIdeal := Cert.MergeReferenceIdeal.Gen.facts)
    (hPre_finite_merge := pre_facts) := by
  pair_intro
  · run_from Cert.MergeKernelIdeal.Value.run_blocks m g
  · run_from ref_run m' g'
    · exact (final_dy m c).symm
    · exact (final_dq m c).symm
    · exact (final_dwb m c).symm
    · obtain ⟨h1, h3, h5⟩ := reals _ _ _ _ _ _ (hpre c)
      exact (dwo_eq _ _ _ _ _ h1 h3 h5).symm.trans (final_dwo m c).symm
end Cert.Merge
-- ==== Proof.Flag.lean ====
module
public import proofs.«01_k».proof.Defs
public import Idealize.ShloMosaic.Adequacy
@[expose] public section
noncomputable section
open Idealize.ShloMosaic Idealize.ShloMosaic.TcCoe
/-! The number a test of a grid coordinate against zero gives. -/
namespace Cert.Flag
/-- It is one at the coordinate zero and zero elsewhere. -/
theorem flag_eq (n : ℕ) (h : n < 4) : Scalar.sitofp (F := Ideal) .f32 (Scalar.extui (Scalar.cmpi .eq (BitVec.ofNat 32 n) 0#32) : BitVec 32) = if n = 0 then (1 : EReal) else 0 := by
  rcases Nat.eq_zero_or_pos n with rfl | hn
  · show (((1#32).toInt : ℝ) : EReal) = _
    norm_num
  · have e : Scalar.cmpi .eq (BitVec.ofNat 32 n) 0#32 = 0#1 := by
      have : n = 1 ∨ n = 2 ∨ n = 3 := by omega
      rcases this with rfl | rfl | rfl <;> rfl
    rw [e, if_neg (by omega)]
    show (((0#32).toInt : ℝ) : EReal) = _
    norm_num
end Cert.Flag
-- ==== Proof.Mergef.lean ====
module
public import proofs.«01_k».proof.Proof.Merge
public import proofs.«01_k».proof.Proof.Flag
public import proofs.«01_k».proof.Proof.Gen.MergefKernelIdeal.Value
public import proofs.«01_k».proof.Proof.Gen.MergefReferenceIdeal.Read
@[expose] public section
set_option maxRecDepth 16384
noncomputable section
open Idealize.ShloMosaic Idealize.ShloMosaic.TcCoe Idealize.SL.Sem
open Cert.Rows Cert.Gates Cert.Reals
/-! The gated sum of the four branches, projected and added to the residual rows. -/
namespace Cert.Mergef
/-- One gated entry of a branch. -/
def gated (y : FVec Ideal ⟨2, ![8192, 2048]⟩ .f32) (q : FVec Ideal ⟨2, ![8192, 4096]⟩ .f32) (w : FVec Ideal ⟨3, ![4, 512, 1024]⟩ .f32) (a : Fin 8192) (n : Fin 4) (k : Fin 1024) : EReal :=
  Merge.mid (Merge.ysb y a n) (Merge.gpb q a n) (Merge.wbn w n) k
/-- The result as the reference forms it: the branches are added up before the projection. -/
def outV (h : FVec Ideal ⟨2, ![8192, 1024]⟩ .f32) (y : FVec Ideal ⟨2, ![8192, 2048]⟩ .f32) (q : FVec Ideal ⟨2, ![8192, 4096]⟩ .f32) (w : FVec Ideal ⟨3, ![4, 512, 1024]⟩ .f32)
    (o : FVec Ideal ⟨2, ![1024, 1024]⟩ .f32) : FVec Ideal ⟨2, ![8192, 1024]⟩ .f32 := fun i =>
  h (ix2 (i 0) (i 1)) + ∑ k, (∑ n, gated y q w (i 0) n k) * o (ix2 k (i 1))
/-- One branch's projection. -/
def branch (y : FVec Ideal ⟨2, ![8192, 2048]⟩ .f32) (q : FVec Ideal ⟨2, ![8192, 4096]⟩ .f32) (w : FVec Ideal ⟨3, ![4, 512, 1024]⟩ .f32)
    (o : FVec Ideal ⟨2, ![1024, 1024]⟩ .f32) (a : Fin 8192) (j : Fin 1024) (n : Fin 4) : EReal := ∑ k, gated y q w a n k * o (ix2 k j)
/-- The result as the kernel forms it: each branch is projected by itself. -/
def outK (h : FVec Ideal ⟨2, ![8192, 1024]⟩ .f32) (y : FVec Ideal ⟨2, ![8192, 2048]⟩ .f32) (q : FVec Ideal ⟨2, ![8192, 4096]⟩ .f32) (w : FVec Ideal ⟨3, ![4, 512, 1024]⟩ .f32)
    (o : FVec Ideal ⟨2, ![1024, 1024]⟩ .f32) : FVec Ideal ⟨2, ![8192, 1024]⟩ .f32 := fun i =>
  ∑ n : Fin 4, (branch y q w o (i 0) (i 1) n + (if n.val = 0 then (1 : EReal) else 0) * h (ix2 (i 0) (i 1)))
/-- The two are one for real branches and weights. -/
theorem out_eq (h : FVec Ideal ⟨2, ![8192, 1024]⟩ .f32) (y : FVec Ideal ⟨2, ![8192, 2048]⟩ .f32) (q : FVec Ideal ⟨2, ![8192, 4096]⟩ .f32) (w : FVec Ideal ⟨3, ![4, 512, 1024]⟩ .f32)
    (o : FVec Ideal ⟨2, ![1024, 1024]⟩ .f32) (hy : ∀ i, IsReal (y i)) (hw : ∀ i, IsReal (w i)) (ho : ∀ i, IsReal (o i)) : outV h y q w o = outK h y q w o := by
  funext i
  have hg : ∀ n k, IsReal (gated y q w (i 0) n k) := fun n k => (isReal_sgm _).mul (IsReal.sum _ _ fun j => (hy _).mul (hw _))
  have e : ∑ n : Fin 4, (if n.val = 0 then (1 : EReal) else 0) * h (ix2 (i 0) (i 1)) = h (ix2 (i 0) (i 1)) := by
    rw [Fin.sum_univ_four]
    simp
  show h (ix2 (i 0) (i 1)) + ∑ k, (∑ n, gated y q w (i 0) n k) * o (ix2 k (i 1)) = ∑ n : Fin 4, (branch y q w o (i 0) (i 1) n + (if n.val = 0 then (1 : EReal) else 0) * h (ix2 (i 0) (i 1)))
  rw [Finset.sum_add_distrib, e, add_comm]
  unfold branch
  rw [Finset.sum_comm]
  exact congrArg (· + _) (Finset.sum_congr rfl fun k _ => sum_mul_real _ _ (fun n => hg n k) _ (ho _))
section
open Cert.MergefReferenceIdeal Cert.MergefReferenceIdeal.Read
variable (x0 : FVec Ideal S8192x1024 .f32) (x1 : FVec Ideal S8192x2048 .f32) (x2 : FVec Ideal S8192x4096 .f32) (x3 : FVec Ideal S4x512x1024 .f32) (x4 : FVec Ideal S1024x1024 .f32)
theorem ref_br (a : Fin 8192) (n : Fin 4) (k : Fin 1024) : val_main_v2 (F := Ideal) x1 x3 (ix3 a n k) = Merge.br (Merge.ysb x1 a n) (Merge.wbn x3 n) k := by
  pointwise [val_main_v2, val_main_v1, val_main_v0, Merge.br, Merge.ysb, Merge.wbn]
  exact Finset.sum_congr rfl fun j _ => mul_comm _ _
theorem ref_gate (a : Fin 8192) (n : Fin 4) (k : Fin 1024) : val_main_v9 (F := Ideal) x2 (ix3 a n k) = sgm (Merge.gpb x2 a n k) := by
  pointwise [val_main_v9, val_main_v8, val_main_v7, val_main_cst_0, val_main_v6, val_main_v5, val_main_cst, val_main_v4, val_main_v3, sgm, Merge.gpb]
theorem ref_sum (a : Fin 8192) (k : Fin 1024) : val_main_v11 (F := Ideal) x1 x2 x3 (ix2 a k) = ∑ n, gated x1 x2 x3 a n k := by
  pointwise [val_main_v11, val_main_v10, val_main_cst_1, ref_gate, ref_br, gated, Merge.mid]
theorem ref_out (a : Fin 8192) (k : Fin 1024) : val_main_v13 (F := Ideal) x0 x1 x2 x3 x4 (ix2 a k) = x0 (ix2 a k) + ∑ j, (∑ n, gated x1 x2 x3 a n j) * x4 (ix2 j k) := by
  pointwise [val_main_v13, val_main_v12, ref_sum]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v13) = outV (m (c.tc.loc main_arg0)) (m (c.tc.loc main_arg1)) (m (c.tc.loc main_arg2)) (m (c.tc.loc main_arg3)) (m (c.tc.loc main_arg4))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4) :=
  (θ_run defs _ _).mono (fun _ h c => by
    obtain ⟨h0, h1⟩ := h c
    refine ⟨(h0.trans (val_main_v13_eq ..)).trans (funext fun j => ?_), h1⟩
    · idx_vars j
      exact ref_out _ _ _ _ _ j0 j1) (Cert.MergefReferenceIdeal.Value.run m ρ)
end
section
open Cert.MergefKernelIdeal Cert.MergefKernelIdeal.Gen
variable (x0 : FVec Ideal S512x1024 .f32) (x1 : FVec Ideal S512x512 .f32) (x2 : FVec Ideal S512x1024 .f32) (x3 : FVec Ideal S1x512x1024 .bf16) (x4 : FVec Ideal S1024x1024 .bf16)
/-- What one branch adds to an entry of a tile; the first adds the residual row too. -/
theorem ker_part (i : grid0.Coords) (a : Fin 512) (k : Fin 1024) : k0_pay1 (F := Ideal) i x0 x1 x2 x3 x4 (ix2 a k) =
    (∑ j, Merge.mid (fun j => x1 (ix2 a j)) (fun j => x2 (ix2 a j)) (fun i j => x3 (ix3 0 i j)) j * x4 (ix2 j k)) + (if (i 1).val = 0 then (1 : EReal) else 0) * x0 (ix2 a k) := by
  rw [← Flag.flag_eq (i 1).val (lt_of_lt_of_le (i 1).isLt (by decide))]
  unfold k0_pay1
  generalize Scalar.sitofp (F := Ideal) .f32 (Scalar.extui (Scalar.cmpi .eq (BitVec.ofNat 32 (i 1).val) 0#32) : BitVec 32) = e
  pointwise [Merge.mid, Merge.br, logistic_eq]
variable (m : (ℓ : Loc nD τ sig) → Buf (Elt Ideal) ℓ)
/-- Where the windows stand at a grid point. -/
theorem idx : ∀ t : Fin cfg0.N, win0_0.index t = ![t.val / 4, 0] ∧ win0_1.index t = ![t.val / 4, t.val % 4] ∧ win0_2.index t = ![t.val / 4, t.val % 4] ∧
    win0_3.index t = ![t.val % 4, 0, 0] ∧ win0_4.index t = ![0, 0] ∧ win0_5.index t = ![t.val / 4, 0] :=
  (by decide +kernel : ∀ t : Fin grid0.N, _)
theorem coord : ∀ t : Fin cfg0.N, ((grid0.coords t) 1).val = t.val % 4 := (by decide +kernel : ∀ t : Fin grid0.N, _)
/-- The residual rows, the branches, the gates and the two weights. -/
abbrev X (c : Dev nD) : FVec Ideal S8192x1024 .f32 := m ((c : Thread nD τ).loc main_arg0)
abbrev Y (c : Dev nD) : FVec Ideal S8192x2048 .f32 := m ((c : Thread nD τ).loc main_arg1)
abbrev Q (c : Dev nD) : FVec Ideal S8192x4096 .f32 := m ((c : Thread nD τ).loc main_arg2)
abbrev W (c : Dev nD) : FVec Ideal S4x512x1024 .f32 := m ((c : Thread nD τ).loc main_arg3)
abbrev O (c : Dev nD) : FVec Ideal S1024x1024 .f32 := m ((c : Thread nD τ).loc main_arg4)
theorem lt64 (t : Fin cfg0.N) : t.val < 64 := by have := t.isLt; have : cfg0.N = 64 := N_0; omega
/-- Row `a` of the tile at grid point `t`, and that point's branch. -/
abbrev row (t : Fin cfg0.N) (a : Fin 512) : Fin 8192 := ⟨512 * (t.val / 4) + a.val, by have := lt64 t; omega⟩
abbrev brn (t : Fin cfg0.N) : Fin 4 := ⟨t.val % 4, by omega⟩
/-- The tiles of the arguments. -/
theorem tile_x (c : Dev nD) (t : Fin cfg0.N) (a : Fin 512) (k : Fin 1024) : iblk m c 0 t (ix2 a k) = X m c (ix2 (row t a) k) := by
  blk_point [iblk, V, idx t]
theorem tile_y (c : Dev nD) (t : Fin cfg0.N) (a j : Fin 512) : iblk m c 1 t (ix2 a j) = Merge.ysb (Y m c) (row t a) (brn t) j := by
  unfold Merge.ysb
  blk_point [iblk, V, idx t]
theorem tile_q (c : Dev nD) (t : Fin cfg0.N) (a : Fin 512) (k : Fin 1024) : iblk m c 2 t (ix2 a k) = Merge.gpb (Q m c) (row t a) (brn t) k := by
  unfold Merge.gpb
  blk_point [iblk, V, idx t]
theorem tile_w (c : Dev nD) (t : Fin cfg0.N) (j : Fin 512) (k : Fin 1024) : iblk m c 3 t (ix3 0 j k) = Merge.wbn (W m c) (brn t) j k := by
  have e : ((View.whole main_v0).slice (win0_3.rect t)).emb (ix3 0 j k) = (ix3 (brn t) j k : S4x512x1024.Idx) := by
    blk_ext [idx t]
  blk_simp [iblk, V, idx t]
  entry_read
  refine (congrArg _ e).trans ?_
  pointwise [Merge.wbn]
theorem tile_o (c : Dev nD) (t : Fin cfg0.N) (j k : Fin 1024) : iblk m c 4 t (ix2 j k) = O m c (ix2 j k) := by
  have e : ((View.whole main_v1).slice (win0_4.rect t)).emb (ix2 j k) = (ix2 j k : S1024x1024.Idx) := by
    blk_ext [idx t]
  blk_simp [iblk, V, idx t]
  entry_read
  refine (congrArg _ e).trans ?_
  pointwise
/-- What grid point `t` adds to an entry. -/
theorem part_eq (c : Dev nD) (t : Fin cfg0.N) (a : Fin 512) (k : Fin 1024) : k0_pay1 (F := Ideal) (grid0.coords t) (iblk m c 0 t) (iblk m c 1 t) (iblk m c 2 t) (iblk m c 3 t) (iblk m c 4 t) (ix2 a k) =
    branch (Y m c) (Q m c) (W m c) (O m c) (row t a) k (brn t) + (if (brn t).val = 0 then (1 : EReal) else 0) * X m c (ix2 (row t a) k) := by
  refine (ker_part _ _ _ _ _ _ a k).trans ?_
  rw [coord t]
  simp only [tile_x, tile_y, tile_q, tile_w, tile_o]
  rfl
/-- The merged rows. -/
theorem final_out (c : Dev nD) : (dats m 0 c).arrAt 5 cfg0.N = outK (X m c) (Y m c) (Q m c) (W m c) (O m c) := by
  refine (dats m 0 c).arrAt_eq_of_covers 5 _ (by decide +kernel) fun t hf y => ?_
  idx_vars y
  have := lt64 t
  have e0 : (win0_5.blk t).view.emb (ix2 y0 y1) = ix2 (row t y0) y1 := by
    blk_ext [idx t]
  blk_simp
  have e := Pipeline.eq_sum_fin_of_reset_step_apply_of_flush (M := EReal) (fun n h => outsAt0 m c n h) 4 (fun _ => (0 : EReal))
    (fun t i => branch (Y m c) (Q m c) (W m c) (O m c) (row t (i 0)) (i 1) (brn t) + (if (brn t).val = 0 then (1 : EReal) else 0) * X m c (ix2 (row t (i 0)) (i 1)))
    (fun t h i => by
      idx_vars i
      rw [outsAt0_A m c t (by omega) (by omega)]
      frame_out
      exact (part_eq m c t i0 i1).trans (zero_add _).symm)
    (fun t h i => by
      idx_vars i
      rw [outsAt0_B m c t (by omega) (by omega)]
      frame_out
      pointwise [k0_pay2]
      exact congrArg _ (part_eq m c t i0 i1))
    t ((flush0_5 t).mp hf) (ix2 y0 y1)
  rw [after0_5, e0]
  refine e.trans ?_
  rw [zero_add]
  refine Finset.sum_congr rfl fun s _ => ?_
  have r0 : ∀ h : 4 * (t.val / 4) + s.val < cfg0.N, row ⟨4 * (t.val / 4) + s.val, h⟩ y0 = row t y0 := fun h => Fin.ext (by
    show 512 * ((4 * (t.val / 4) + s.val) / 4) + y0.val = 512 * (t.val / 4) + y0.val; omega)
  have c0 : ∀ h : 4 * (t.val / 4) + s.val < cfg0.N, brn ⟨4 * (t.val / 4) + s.val, h⟩ = s := fun h => Fin.ext (by
    show (4 * (t.val / 4) + s.val) % 4 = s.val; omega)
  have p0 : (4 * (t.val / 4) + s.val) % 4 = s.val := by omega
  have i0 : ∀ (a : Fin 512) (b : Fin 1024), (ix2 a b : S512x1024.Idx) 0 = a := fun _ _ => rfl
  have i1 : ∀ (a : Fin 512) (b : Fin 1024), (ix2 a b : S512x1024.Idx) 1 = b := fun _ _ => rfl
  simp only [i0, i1, r0, c0, p0]
  rfl
end
theorem pre_facts : Cert.Pre_finite_mergef.Facts where
  bcast_S_S8192x2048 := by decide
  reducesTo_S8192x2048_S_d0_1 := by decide
  h_S_ := by decide
  bcast_S_S4x512x1024 := by decide
  reducesTo_S4x512x1024_S_d0_1_2 := by decide
  bcast_S_S1024x1024 := by decide
  reducesTo_S1024x1024_S_d0_1 := by decide
section
open Cert.Pre_finite_mergef
attribute [local instance] pre_facts
/-- The precondition: the branches and the two weights are real. -/
theorem reals (x0 : FVec Ideal S8192x1024 .f32) (x1 : FVec Ideal S8192x2048 .f32) (x2 : FVec Ideal S8192x4096 .f32) (x3 : FVec Ideal S4x512x1024 .f32)
    (x4 : FVec Ideal S1024x1024 .f32) (h : Cert.Pre_finite_mergef.fn (F := Ideal) x0 x1 x2 x3 x4 = fun _ => 1#1) :
    (∀ i, IsReal (x1 i)) ∧ (∀ i, IsReal (x3 i)) ∧ (∀ i, IsReal (x4 i)) := by
  have h := congrFun h (fun k => k.elim0)
  unfold Cert.Pre_finite_mergef.fn at h
  dsimp only at h
  obtain ⟨h, h4⟩ := IntOp.andi_eq_one.1 h
  obtain ⟨h1, h3⟩ := IntOp.andi_eq_one.1 h
  exact ⟨fun i => ⟨_, Cert.Ops.real_all _ _ _ _ _ h1 i⟩, fun i => ⟨_, Cert.Ops.real_all _ _ _ _ _ h3 i⟩, fun i => ⟨_, Cert.Ops.real_all _ _ _ _ _ h4 i⟩⟩
end
/-- The kernel's merged rows are the reference's. -/
theorem algebraic : Cert.algebraic_MergefKernelIdeal_MergefReferenceIdeal_pre_finite_mergef (hMergefKernelIdeal := Cert.MergefKernelIdeal.Gen.facts) (hMergefReferenceIdeal := Cert.MergefReferenceIdeal.Gen.facts)
    (hPre_finite_mergef := pre_facts) := by
  pair_intro
  · run_from Cert.MergefKernelIdeal.Value.run_blocks m g
  · run_from ref_run m' g'
    · obtain ⟨h1, h3, h4⟩ := reals _ _ _ _ _ (hpre c)
      exact (out_eq _ _ _ _ _ h1 h3 h4).trans (final_out m c).symm
end Cert.Mergef
-- ==== Proof.Ffn.lean ====
module
public import proofs.«01_k».proof.Defs
public import proofs.«01_k».proof.Proof.Gates
public import proofs.«01_k».proof.Proof.Gen.FfnKernelIdeal.Frame
public import proofs.«01_k».proof.Proof.Gen.FfnReferenceIdeal.Read
@[expose] public section
set_option maxRecDepth 16384
noncomputable section
open Idealize.ShloMosaic Idealize.ShloMosaic.TcCoe Idealize.SL.Sem
open Cert.Rows Cert.Gates
/-! The gradient of the feed-forward block `0.5 * (silu (x · w_gate) * (x · w_up)) · w_out`. -/
namespace Cert.Ffn
section
variable {n : ℕ} (x : Fin 1024 → EReal) (g u : Fin 1024 → Fin n → EReal) (o : Fin n → Fin 1024 → EReal) (d : Fin 1024 → EReal)
/-- One row's gate (and, with the other weight, what it gates). -/
def gate (k : Fin n) : EReal := ∑ j, x j * g j k
/-- The gate's activation. -/
def act (k : Fin n) : EReal := gate x g k * sgm (gate x g k)
/-- The cotangent of the gated row. -/
def ctw (k : Fin n) : EReal := ∑ j, Ideal.ofBits .f32 0x3F000000#32 * d j * o k j
/-- The cotangents of what is gated and of the gate. -/
def dup (k : Fin n) : EReal := act x g k * ctw o d k
def dgt (k : Fin n) : EReal :=
  ctw o d k * gate x u k * sgm (gate x g k) + gate x g k * (ctw o d k * gate x u k) * dsgm (gate x g k)
/-- The gradient of the row. -/
def dX (j : Fin 1024) : EReal := ∑ k, dgt x g u o d k * g j k + ∑ k, dup x g o d k * u j k
end
/-- The two halves of the first weight. -/
def wgF (w : FVec Ideal ⟨2, ![1024, 5632]⟩ .f32) : Fin 1024 → Fin 2816 → EReal := fun j k => w (ix2 j ⟨k.val, by omega⟩)
def wuF (w : FVec Ideal ⟨2, ![1024, 5632]⟩ .f32) : Fin 1024 → Fin 2816 → EReal := fun j k => w (ix2 j ⟨2816 + k.val, by omega⟩)
/-- Column `k` of tile `t` of the inner width. -/
abbrev col (t : Fin 11) (k : Fin 256) : Fin 2816 := ⟨t.val * 256 + k.val, by omega⟩
/-- The four gradients as arrays. -/
def dxV (x : FVec Ideal ⟨2, ![8192, 1024]⟩ .f32) (w : FVec Ideal ⟨2, ![1024, 5632]⟩ .f32) (o : FVec Ideal ⟨2, ![2816, 1024]⟩ .f32) (d : FVec Ideal ⟨2, ![8192, 1024]⟩ .f32) : FVec Ideal ⟨2, ![8192, 1024]⟩ .f32 := fun i => dX (fun j => x (ix2 (i 0) j)) (wgF w) (wuF w) (fun i j => o (ix2 i j)) (fun j => d (ix2 (i 0) j)) (i 1)
def dwgV (x : FVec Ideal ⟨2, ![8192, 1024]⟩ .f32) (w : FVec Ideal ⟨2, ![1024, 5632]⟩ .f32) (o : FVec Ideal ⟨2, ![2816, 1024]⟩ .f32) (d : FVec Ideal ⟨2, ![8192, 1024]⟩ .f32) : FVec Ideal ⟨2, ![1024, 2816]⟩ .f32 := fun i => ∑ a : Fin 8192, x (ix2 a (i 0)) * dgt (fun j => x (ix2 a j)) (wgF w) (wuF w) (fun i j => o (ix2 i j)) (fun j => d (ix2 a j)) (i 1)
def dwuV (x : FVec Ideal ⟨2, ![8192, 1024]⟩ .f32) (w : FVec Ideal ⟨2, ![1024, 5632]⟩ .f32) (o : FVec Ideal ⟨2, ![2816, 1024]⟩ .f32) (d : FVec Ideal ⟨2, ![8192, 1024]⟩ .f32) : FVec Ideal ⟨2, ![1024, 2816]⟩ .f32 := fun i => ∑ a : Fin 8192, x (ix2 a (i 0)) * dup (fun j => x (ix2 a j)) (wgF w) (fun i j => o (ix2 i j)) (fun j => d (ix2 a j)) (i 1)
def dwoV (x : FVec Ideal ⟨2, ![8192, 1024]⟩ .f32) (w : FVec Ideal ⟨2, ![1024, 5632]⟩ .f32) (o : FVec Ideal ⟨2, ![2816, 1024]⟩ .f32) (d : FVec Ideal ⟨2, ![8192, 1024]⟩ .f32) : FVec Ideal ⟨2, ![2816, 1024]⟩ .f32 := fun i =>
  ∑ a : Fin 8192, act (fun j => x (ix2 a j)) (wgF w) (i 0) * gate (fun j => x (ix2 a j)) (wuF w) (i 0) * (Ideal.ofBits .f32 0x3F000000#32 * d (ix2 a (i 1)))
/-- The gradient of the rows, the part of each tile of 256 columns apart. -/
def partV (x : FVec Ideal ⟨2, ![8192, 1024]⟩ .f32) (w : FVec Ideal ⟨2, ![1024, 5632]⟩ .f32) (o : FVec Ideal ⟨2, ![2816, 1024]⟩ .f32) (d : FVec Ideal ⟨2, ![8192, 1024]⟩ .f32) : FVec Ideal ⟨3, ![11, 8192, 1024]⟩ .bf16 := fun i =>
  ∑ k : Fin 256, dup (fun j => x (ix2 (i 1) j)) (wgF w) (fun i j => o (ix2 i j)) (fun j => d (ix2 (i 1) j)) (col (i 0) k) * wuF w (i 2) (col (i 0) k) + ∑ k : Fin 256, dgt (fun j => x (ix2 (i 1) j)) (wgF w) (wuF w) (fun i j => o (ix2 i j)) (fun j => d (ix2 (i 1) j)) (col (i 0) k) * wgF w (i 2) (col (i 0) k)
/-- The tiles' parts together are the gradient of the row. -/
theorem part_sum (x : FVec Ideal ⟨2, ![8192, 1024]⟩ .f32) (w : FVec Ideal ⟨2, ![1024, 5632]⟩ .f32) (o : FVec Ideal ⟨2, ![2816, 1024]⟩ .f32) (d : FVec Ideal ⟨2, ![8192, 1024]⟩ .f32) (a : Fin 8192) (j : Fin 1024) : ∑ t : Fin 11, partV x w o d (ix3 t a j) = dxV x w o d (ix2 a j) := by
  refine Finset.sum_add_distrib.trans ((add_comm _ _).trans ?_)
  exact congrArg₂ (· + ·) (Fin.sum_univ_tiles 11 256 rfl fun k : Fin 2816 => dgt (fun j => x (ix2 a j)) (wgF w) (wuF w) (fun i j => o (ix2 i j)) (fun j => d (ix2 a j)) k * wgF w j k).symm
    (Fin.sum_univ_tiles 11 256 rfl fun k : Fin 2816 => dup (fun j => x (ix2 a j)) (wgF w) (fun i j => o (ix2 i j)) (fun j => d (ix2 a j)) k * wuF w j k).symm
section
open Cert.FfnReferenceIdeal Cert.FfnReferenceIdeal.Read
variable (x0 : FVec Ideal S8192x1024 .f32) (x1 : FVec Ideal S1024x5632 .f32) (x2 : FVec Ideal S2816x1024 .f32) (x3 : FVec Ideal S8192x1024 .f32)
theorem ref_gate (a : Fin 8192) (k : Fin 2816) : val_main_v1 (F := Ideal) x0 x1 (ix2 a k) = gate (fun j => x0 (ix2 a j)) (wgF x1) k := by
  pointwise [val_main_v1, val_main_v0, gate, wgF]
theorem ref_up (a : Fin 8192) (k : Fin 2816) : val_main_v2 (F := Ideal) x0 x1 (ix2 a k) = gate (fun j => x0 (ix2 a j)) (wuF x1) k := by
  pointwise [val_main_v2, val_main_v0, gate, wuF]
theorem ref_sgm (a : Fin 8192) (k : Fin 2816) : val_main_v3_2 (F := Ideal) x0 x1 (ix2 a k) = sgm (gate (fun j => x0 (ix2 a j)) (wgF x1) k) := by
  pointwise [val_main_v3_2, val_main_call0_v4, val_main_call0_cst_0, val_main_call0_v3, val_main_call0_v2, val_main_call0_cst, val_main_call0_v1, val_main_call0_v0, ref_gate, sgm]
theorem ref_act (a : Fin 8192) (k : Fin 2816) : val_main_v3_0 (F := Ideal) x0 x1 (ix2 a k) = act (fun j => x0 (ix2 a j)) (wgF x1) k := by
  pointwise [val_main_v3_0, ref_gate, ref_sgm, act]
theorem ref_ctw (a : Fin 8192) (k : Fin 2816) : val_main_v12 (F := Ideal) x2 x3 (ix2 a k) = ctw (fun i j => x2 (ix2 i j)) (fun j => x3 (ix2 a j)) k := by
  pointwise [val_main_v12, val_main_v9, val_main_v8, val_main_cst_0, ctw]
theorem ref_dup (a : Fin 8192) (k : Fin 2816) : val_main_v13 (F := Ideal) x0 x1 x2 x3 (ix2 a k) = dup (fun j => x0 (ix2 a j)) (wgF x1) (fun i j => x2 (ix2 i j)) (fun j => x3 (ix2 a j)) k := by
  pointwise [val_main_v13, ref_act, ref_ctw, dup]
theorem ref_dgt (a : Fin 8192) (k : Fin 2816) : val_main_v15 (F := Ideal) x0 x1 x2 x3 (ix2 a k) = dgt (fun j => x0 (ix2 a j)) (wgF x1) (wuF x1) (fun i j => x2 (ix2 i j)) (fun j => x3 (ix2 a j)) k := by
  pointwise [val_main_v15, val_main_call1_v1, val_main_v14, val_main_call1_v2, val_main_call1_v0, val_main_v3_1, val_main_call0_v7, val_main_call0_v6, val_main_call0_cst_1, ref_ctw, ref_up, ref_sgm, ref_gate, dgt, dsgm]
theorem ref_dwo (k : Fin 2816) (j : Fin 1024) : val_main_v11 (F := Ideal) x0 x1 x3 (ix2 k j) = ∑ a : Fin 8192, act (fun j => x0 (ix2 a j)) (wgF x1) k * gate (fun j => x0 (ix2 a j)) (wuF x1) k * (Ideal.ofBits .f32 0x3F000000#32 * x3 (ix2 a j)) := by
  pointwise [val_main_v11, val_main_v10, val_main_v9, val_main_v8, val_main_cst_0, val_main_v4, ref_act, ref_up]
  exact Finset.sum_congr rfl fun _ _ => mul_comm _ _
/-- The two halves side by side. -/
theorem ref_lo (a : Fin 8192) (k : Fin 2816) : val_main_v16 (F := Ideal) x0 x1 x2 x3 (ix2 a ⟨k.val, by omega⟩) = dgt (fun j => x0 (ix2 a j)) (wgF x1) (wuF x1) (fun i j => x2 (ix2 i j)) (fun j => x3 (ix2 a j)) k := by
  refine Eq.trans ?_ (ref_dgt x0 x1 x2 x3 a k)
  pointwise [val_main_v16]
theorem ref_hi (a : Fin 8192) (k : Fin 2816) : val_main_v16 (F := Ideal) x0 x1 x2 x3 (ix2 a ⟨2816 + k.val, by omega⟩) = dup (fun j => x0 (ix2 a j)) (wgF x1) (fun i j => x2 (ix2 i j)) (fun j => x3 (ix2 a j)) k := by
  refine Eq.trans ?_ (ref_dup x0 x1 x2 x3 a k)
  pointwise [val_main_v16]
theorem ref_dx (a : Fin 8192) (j : Fin 1024) : val_main_v19 (F := Ideal) x0 x1 x2 x3 (ix2 a j) = dX (fun j => x0 (ix2 a j)) (wgF x1) (wuF x1) (fun i j => x2 (ix2 i j)) (fun j => x3 (ix2 a j)) j := by
  have e : val_main_v19 (F := Ideal) x0 x1 x2 x3 (ix2 a j) = ∑ k : Fin 5632, val_main_v16 (F := Ideal) x0 x1 x2 x3 (ix2 a k) * x1 (ix2 j k) := by
    pointwise [val_main_v19]
  refine e.trans ((Fin.sum_univ_add (a := 2816) (b := 2816) fun k : Fin 5632 => val_main_v16 (F := Ideal) x0 x1 x2 x3 (ix2 a k) * x1 (ix2 j k)).trans ?_)
  exact congrArg₂ (· + ·) (Finset.sum_congr rfl fun k _ => congrArg (· * _) (ref_lo x0 x1 x2 x3 a k))
    (Finset.sum_congr rfl fun k _ => congrArg (· * _) (ref_hi x0 x1 x2 x3 a k))
theorem ref_dw (k : Fin 5632) (j : Fin 1024) : val_main_v17 (F := Ideal) x0 x1 x2 x3 (ix2 k j) = ∑ a : Fin 8192, x0 (ix2 a j) * val_main_v16 (F := Ideal) x0 x1 x2 x3 (ix2 a k) := by
  pointwise [val_main_v17]
  exact Finset.sum_congr rfl fun _ _ => mul_comm _ _
theorem ref_dwg (j : Fin 1024) (k : Fin 2816) : val_main_v20 (F := Ideal) x0 x1 x2 x3 (ix2 j k) = ∑ a : Fin 8192, x0 (ix2 a j) * dgt (fun j => x0 (ix2 a j)) (wgF x1) (wuF x1) (fun i j => x2 (ix2 i j)) (fun j => x3 (ix2 a j)) k := by
  have e : val_main_v20 (F := Ideal) x0 x1 x2 x3 (ix2 j k) = val_main_v17 (F := Ideal) x0 x1 x2 x3 (ix2 ⟨k.val, by omega⟩ j) := by
    pointwise [val_main_v20, val_main_v18]
  refine e.trans ((ref_dw x0 x1 x2 x3 _ j).trans (Finset.sum_congr rfl fun a _ => congrArg (_ * ·) (ref_lo x0 x1 x2 x3 a k)))
theorem ref_dwu (j : Fin 1024) (k : Fin 2816) : val_main_v21 (F := Ideal) x0 x1 x2 x3 (ix2 j k) = ∑ a : Fin 8192, x0 (ix2 a j) * dup (fun j => x0 (ix2 a j)) (wgF x1) (fun i j => x2 (ix2 i j)) (fun j => x3 (ix2 a j)) k := by
  have e : val_main_v21 (F := Ideal) x0 x1 x2 x3 (ix2 j k) = val_main_v17 (F := Ideal) x0 x1 x2 x3 (ix2 ⟨2816 + k.val, by omega⟩ j) := by
    pointwise [val_main_v21, val_main_v18]
  refine e.trans ((ref_dw x0 x1 x2 x3 _ j).trans (Finset.sum_congr rfl fun a _ => congrArg (_ * ·) (ref_hi x0 x1 x2 x3 a k)))
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v19) = dxV (m (c.tc.loc main_arg0)) (m (c.tc.loc main_arg1)) (m (c.tc.loc main_arg2)) (m (c.tc.loc main_arg3))
 ∧ r.2.mem (c.tc.loc main_v20) = dwgV (m (c.tc.loc main_arg0)) (m (c.tc.loc main_arg1)) (m (c.tc.loc main_arg2)) (m (c.tc.loc main_arg3))
 ∧ r.2.mem (c.tc.loc main_v21) = dwuV (m (c.tc.loc main_arg0)) (m (c.tc.loc main_arg1)) (m (c.tc.loc main_arg2)) (m (c.tc.loc main_arg3))
 ∧ r.2.mem (c.tc.loc main_v11) = dwoV (m (c.tc.loc main_arg0)) (m (c.tc.loc main_arg1)) (m (c.tc.loc main_arg2)) (m (c.tc.loc main_arg3))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3) :=
  (θ_run defs _ _).mono (fun _ h c => by
    obtain ⟨h0, h1, h2, h3, h4⟩ := h c
    refine ⟨(h0.trans (val_main_v19_eq ..)).trans (funext fun j => ?_), (h1.trans (val_main_v20_eq ..)).trans (funext fun j => ?_), (h2.trans (val_main_v21_eq ..)).trans (funext fun j => ?_), (h3.trans (val_main_v11_eq ..)).trans (funext fun j => ?_), h4⟩
    · idx_vars j
      exact ref_dx _ _ _ _ j0 j1
    · idx_vars j
      exact ref_dwg _ _ _ _ j0 j1
    · idx_vars j
      exact ref_dwu _ _ _ _ j0 j1
    · idx_vars j
      exact ref_dwo _ _ _ j0 j1) (Cert.FfnReferenceIdeal.Value.run m ρ)
end
section
open Cert.FfnKernelIdeal Cert.FfnKernelIdeal.Gen
variable (x : FVec Ideal S1024x1024 .bf16) (g u : FVec Ideal S1024x256 .bf16) (o : FVec Ideal S256x1024 .bf16) (d : FVec Ideal S1024x1024 .f32)
theorem ker_gate (a : Fin 1024) (k : Fin 256) : k0_pay11 (F := Ideal) x g (ix2 a k) = gate (fun j => x (ix2 a j)) (fun j k => g (ix2 j k)) k := by
  pointwise [k0_pay11, k0_pay8, k0_pay9, gate]
theorem ker_sgm (a : Fin 1024) (k : Fin 256) : k0_pay12 (F := Ideal) x g (ix2 a k) = sgm (gate (fun j => x (ix2 a j)) (fun j k => g (ix2 j k)) k) := by
  pointwise [k0_pay12, ker_gate, logistic_eq]
theorem ker_dsgm (a : Fin 1024) (k : Fin 256) : k0_pay13 (F := Ideal) x g (ix2 a k) = dsgm (gate (fun j => x (ix2 a j)) (fun j k => g (ix2 j k)) k) := by
  pointwise [k0_pay13, ker_sgm, dsgm]
theorem ker_act (a : Fin 1024) (k : Fin 256) : k0_pay14 (F := Ideal) x g (ix2 a k) = act (fun j => x (ix2 a j)) (fun j k => g (ix2 j k)) k := by
  pointwise [k0_pay14, ker_gate, ker_sgm, act]
theorem ker_up (a : Fin 1024) (k : Fin 256) : k0_pay15 (F := Ideal) x u (ix2 a k) = gate (fun j => x (ix2 a j)) (fun j k => u (ix2 j k)) k := by
  pointwise [k0_pay15, k0_pay8, k0_pay10, gate]
theorem ker_ctw (a : Fin 1024) (k : Fin 256) : k0_pay17 (F := Ideal) o d (ix2 a k) = ctw (fun i j => o (ix2 i j)) (fun j => d (ix2 a j)) k := by
  pointwise [k0_pay17, k0_pay16, ctw]
theorem ker_dup (a : Fin 1024) (k : Fin 256) : k0_pay19 (F := Ideal) x g o d (ix2 a k) = dup (fun j => x (ix2 a j)) (fun j k => g (ix2 j k)) (fun i j => o (ix2 i j)) (fun j => d (ix2 a j)) k := by
  pointwise [k0_pay19, ker_act, ker_ctw, dup]
theorem ker_dgt (a : Fin 1024) (k : Fin 256) : k0_pay2 (F := Ideal) (k0_pay11 x g) (k0_pay12 x g) (k0_pay13 x g) (k0_pay20 x u o d) (ix2 a k) = dgt (fun j => x (ix2 a j)) (fun j k => g (ix2 j k)) (fun j k => u (ix2 j k)) (fun i j => o (ix2 i j)) (fun j => d (ix2 a j)) k := by
  pointwise [k0_pay2, k0_pay20, ker_gate, ker_sgm, ker_dsgm, ker_up, ker_ctw, dgt]
/-- The kernel's four gradients, on one tile. -/
theorem ker_dx (a j : Fin 1024) : k0_pay4 (F := Ideal) (k0_pay9 g) (k0_pay11 x g) (k0_pay12 x g) (k0_pay13 x g) (k0_pay20 x u o d) (k0_pay21 x g u o d) (ix3 0 a j) =
    ∑ k, dup (fun j => x (ix2 a j)) (fun j k => g (ix2 j k)) (fun i j => o (ix2 i j)) (fun j => d (ix2 a j)) k * u (ix2 j k) + ∑ k, dgt (fun j => x (ix2 a j)) (fun j k => g (ix2 j k)) (fun j k => u (ix2 j k)) (fun i j => o (ix2 i j)) (fun j => d (ix2 a j)) k * g (ix2 j k) := by
  pointwise [k0_pay4, k0_pay21, k0_pay9, k0_pay10, ker_dup, ker_dgt]
theorem ker_dwg (j : Fin 1024) (k : Fin 256) : k0_pay3 (F := Ideal) (k0_pay8 x) (k0_pay11 x g) (k0_pay12 x g) (k0_pay13 x g) (k0_pay20 x u o d) (ix2 j k) = ∑ a : Fin 1024, x (ix2 a j) * dgt (fun j => x (ix2 a j)) (fun j k => g (ix2 j k)) (fun j k => u (ix2 j k)) (fun i j => o (ix2 i j)) (fun j => d (ix2 a j)) k := by
  pointwise [k0_pay3, k0_pay8, ker_dgt]
theorem ker_dwu (j : Fin 1024) (k : Fin 256) : k0_pay1 (F := Ideal) (k0_pay22 x) (k0_pay23 x g o d) (constant S1024x256 .f32 0x00000000#32) (ix2 j k) = ∑ a : Fin 1024, x (ix2 a j) * dup (fun j => x (ix2 a j)) (fun j k => g (ix2 j k)) (fun i j => o (ix2 i j)) (fun j => d (ix2 a j)) k := by
  pointwise [k0_pay1, k0_pay22, k0_pay23, k0_pay8, ker_dup]
theorem ker_dwo (k : Fin 256) (j : Fin 1024) : k0_pay18 (F := Ideal) x g u d (ix2 k j) =
    ∑ a : Fin 1024, act (fun j => x (ix2 a j)) (fun j k => g (ix2 j k)) k * gate (fun j => x (ix2 a j)) (fun j k => u (ix2 j k)) k * (Ideal.ofBits .f32 0x3F000000#32 * d (ix2 a j)) := by
  pointwise [k0_pay18, k0_pay16, ker_act, ker_up]
end
section
open Cert.FfnKernelIdeal Cert.FfnKernelIdeal.Gen
section
variable (W : Valuation τ sig (Elt Ideal))
/-- What the host makes of the arguments, and of the tiles' parts. -/
def castO (x : FVec Ideal S2816x1024 .f32) : FVec Ideal S2816x1024 .bf16 := truncf .bf16 x bitsLt_bf16_f32
def castX (x : FVec Ideal S8192x1024 .f32) : FVec Ideal S8192x1024 .bf16 := truncf .bf16 x bitsLt_bf16_f32
def castG (x : FVec Ideal S1024x5632 .f32) : FVec Ideal S1024x2816 .bf16 := extractStridedSlice S1024x2816 ![0, 0] (truncf .bf16 x bitsLt_bf16_f32) slices_S1024x5632_S1024x2816_0_0
def castU (x : FVec Ideal S1024x5632 .f32) : FVec Ideal S1024x2816 .bf16 := extractStridedSlice S1024x2816 ![0, 2816] (truncf .bf16 x bitsLt_bf16_f32) slices_S1024x5632_S1024x2816_0_2816
theorem head_1 : StableHlo.after hostOps0 W (Proc.devRef .tc main_v1) = castO (W (Proc.devRef .tc main_arg2)) := by
  unfold hostOps0
  after_region_results
  rfl
theorem head_2 : StableHlo.after hostOps0 W (Proc.devRef .tc main_v2) = castX (W (Proc.devRef .tc main_arg0)) := by
  unfold hostOps0
  after_region_results
  rfl
theorem head_3 : StableHlo.after hostOps0 W (Proc.devRef .tc main_v3) =
    castG (W (Proc.devRef .tc main_arg1)) := by
  unfold hostOps0
  after_region_results
  rfl
theorem head_4 : StableHlo.after hostOps0 W (Proc.devRef .tc main_v4) =
    castU (W (Proc.devRef .tc main_arg1)) := by
  unfold hostOps0
  after_region_results
  rfl
def sumParts (x : FVec Ideal S11x8192x1024 .bf16) : FVec Ideal S8192x1024 .f32 :=
  Host.reduceAdd (extf .f32 x bitsLt_bf16_f32) (constant S_ .f32 0x00000000#32) reducesTo_S11x8192x1024_S8192x1024_d0 h_S_
theorem tail_7 : StableHlo.after hostOps1 W (Proc.devRef .tc main_v7) = sumParts (W (Proc.devRef .tc main_v5_0)) := by
  unfold hostOps1
  after_region_results
  rfl
end
theorem sumParts_at (x : FVec Ideal S11x8192x1024 .bf16) (a : Fin 8192) (j : Fin 1024) : sumParts x (ix2 a j) = ∑ t : Fin 11, x (ix3 t a j) := by
  pointwise [sumParts]
variable (m : (ℓ : Loc nD τ sig) → Buf (Elt Ideal) ℓ)
theorem idx : ∀ t : Fin cfg0.N, win0_0.index t = ![t.val % 8, 0] ∧ win0_1.index t = ![0, t.val / 8] ∧ win0_2.index t = ![0, t.val / 8] ∧
    win0_3.index t = ![t.val / 8, 0] ∧ win0_4.index t = ![t.val % 8, 0] ∧ win0_5.index t = ![t.val / 8, t.val % 8, 0] ∧ win0_6.index t = ![0, t.val / 8] ∧
    win0_7.index t = ![0, t.val / 8] ∧ win0_8.index t = ![t.val / 8, 0] :=
  (by decide +kernel : ∀ t : Fin grid0.N, _)
/-- The rows, the two weights and the cotangent. -/
abbrev X (c : Dev nD) : FVec Ideal S8192x1024 .f32 := m ((c : Thread nD τ).loc main_arg0)
abbrev W (c : Dev nD) : FVec Ideal S1024x5632 .f32 := m ((c : Thread nD τ).loc main_arg1)
abbrev O (c : Dev nD) : FVec Ideal S2816x1024 .f32 := m ((c : Thread nD τ).loc main_arg2)
abbrev D (c : Dev nD) : FVec Ideal S8192x1024 .f32 := m ((c : Thread nD τ).loc main_arg3)
theorem lt88 (t : Fin cfg0.N) : t.val < 88 := by have := t.isLt; have : cfg0.N = 88 := N_0; omega
/-- Row `a` of the tile at grid point `t`, and that point's tile of columns. -/
abbrev row (t : Fin cfg0.N) (a : Fin 1024) : Fin 8192 := ⟨1024 * (t.val % 8) + a.val, by omega⟩
abbrev tl (t : Fin cfg0.N) : Fin 11 := ⟨t.val / 8, by have := lt88 t; omega⟩
/-- The tiles of the arguments. -/
theorem tile_x (c : Dev nD) (t : Fin cfg0.N) (a k : Fin 1024) : iblk m c 0 t (ix2 a k) = X m c (ix2 (row t a) k) := by
  have e : ((View.whole main_v2).slice (win0_0.rect t)).emb (ix2 a k) = (ix2 (row t a) k : S8192x1024.Idx) := by
    blk_ext [idx t]
  blk_simp [iblk, idx t]
  exact (congrFun (head_2 _) _).trans (congrArg (X m c) e)
theorem tile_g (c : Dev nD) (t : Fin cfg0.N) (j : Fin 1024) (k : Fin 256) : iblk m c 1 t (ix2 j k) = wgF (W m c) j (col (tl t) k) := by
  have e : ((View.whole main_v3).slice (win0_1.rect t)).emb (ix2 j k) = (ix2 j (col (tl t) k) : S1024x2816.Idx) := by
    blk_ext [idx t]
  blk_simp [iblk, idx t]
  refine (congrFun (head_3 _) _).trans ((congrArg _ e).trans ?_)
  pointwise [wgF, castG]
theorem tile_u (c : Dev nD) (t : Fin cfg0.N) (j : Fin 1024) (k : Fin 256) : iblk m c 2 t (ix2 j k) = wuF (W m c) j (col (tl t) k) := by
  have e : ((View.whole main_v4).slice (win0_2.rect t)).emb (ix2 j k) = (ix2 j (col (tl t) k) : S1024x2816.Idx) := by
    blk_ext [idx t]
  blk_simp [iblk, idx t]
  refine (congrFun (head_4 _) _).trans ((congrArg _ e).trans ?_)
  pointwise [wuF, castU]
theorem tile_o (c : Dev nD) (t : Fin cfg0.N) (k : Fin 256) (j : Fin 1024) : iblk m c 3 t (ix2 k j) = O m c (ix2 (col (tl t) k) j) := by
  have e : ((View.whole main_v1).slice (win0_3.rect t)).emb (ix2 k j) = (ix2 (col (tl t) k) j : S2816x1024.Idx) := by
    blk_ext [idx t]
  blk_simp [iblk, idx t]
  exact (congrFun (head_1 _) _).trans (congrArg (O m c) e)
theorem tile_d (c : Dev nD) (t : Fin cfg0.N) (a k : Fin 1024) : iblk m c 4 t (ix2 a k) = D m c (ix2 (row t a) k) := by
  blk_point [iblk, V, idx t]
/-- A sum over the eight tiles of rows is the sum over the rows. -/
theorem sum_rows (f : Fin 8192 → EReal) : ∑ s : Fin 8, ∑ a : Fin 1024, f ⟨1024 * s.val + a.val, by omega⟩ = ∑ a : Fin 8192, f a := by
  refine Eq.trans ?_ (Fin.sum_univ_tiles 8 1024 rfl f).symm
  exact Finset.sum_congr rfl fun t _ => Finset.sum_congr rfl fun a _ => congrArg f (Fin.ext (by
    show 1024 * t.val + a.val = t.val * 1024 + a.val; omega))
/-- The same, at the eight grid points of a tile of columns. -/
theorem sum_run (t : Fin cfg0.N) (h : ∀ s : Fin 8, 8 * (t.val / 8) + s.val < cfg0.N) (f : Fin 11 → Fin 8192 → EReal) :
    ∑ s : Fin 8, ∑ a : Fin 1024, f (tl ⟨8 * (t.val / 8) + s.val, h s⟩) (row ⟨8 * (t.val / 8) + s.val, h s⟩ a) = ∑ a : Fin 8192, f (tl t) a := by
  refine Eq.trans (Finset.sum_congr rfl fun s _ => Finset.sum_congr rfl fun a _ => ?_) (sum_rows (f (tl t)))
  exact congrArg₂ f (Fin.ext (by show (8 * (t.val / 8) + s.val) / 8 = t.val / 8; omega))
    (Fin.ext (by show 1024 * ((8 * (t.val / 8) + s.val) % 8) + a.val = 1024 * s.val + a.val; omega))
/-- The tiles' parts of the gradient of the rows. -/
theorem final_parts (c : Dev nD) : (dats m 0 c).arrAt 5 cfg0.N = partV (X m c) (W m c) (O m c) (D m c) := by
  refine (dats m 0 c).arrAt_eq_of_covers 5 _ (by decide +kernel) fun t hf y => ?_
  idx_vars y
  obtain rfl : y0 = 0 := Subsingleton.elim _ _
  have := lt88 t
  have e0 : (win0_5.blk t).view.emb (ix3 0 y1 y2) = ix3 (tl t) (row t y1) y2 := by
    blk_ext [idx t]
  blk_simp
  rw [after0_5, e0]
  rcases Nat.eq_zero_or_pos (t.val % 8) with h | h
  on_goal 1 => rw [outsAt0_A m c t (by omega) (by omega) (by omega) (by omega) (by omega) (by omega)]
  on_goal 2 => rw [outsAt0_B m c t (by omega) (by omega) (by omega) (by omega) (by omega) (by omega)]
  all_goals
    frame_out
    refine (ker_dx _ _ _ _ _ y1 y2).trans ?_
    simp only [tile_x, tile_g, tile_u, tile_o, tile_d]
    rfl
/-- The gradient of the gate's weight. -/
theorem final_dwg (c : Dev nD) : (dats m 0 c).arrAt 6 cfg0.N = dwgV (X m c) (W m c) (O m c) (D m c) := by
  refine (dats m 0 c).arrAt_eq_of_covers 6 _ (by decide +kernel) fun t hf y => ?_
  idx_vars y
  have := lt88 t
  have e0 : (win0_6.blk t).view.emb (ix2 y0 y1) = ix2 y0 (col (tl t) y1) := by
    blk_ext [idx t]
  blk_simp
  have e := Pipeline.eq_sum_fin_of_reset_step_apply_of_flush (M := EReal) (fun n h => (outsAt0 m c n h).2.1) 8 (fun _ => (0 : EReal))
    (fun t i => ∑ a : Fin 1024, X m c (ix2 (row t a) (i 0)) * dgt (fun j => X m c (ix2 (row t a) j)) (wgF (W m c)) (wuF (W m c)) (fun i j => O m c (ix2 i j)) (fun j => D m c (ix2 (row t a) j)) (col (tl t) (i 1)))
    (fun t h i => by
      have := lt88 t
      idx_vars i
      rw [outsAt0_A m c t (by omega) (by omega) (by omega) (by omega) (by omega) (by omega)]
      frame_out
      refine (ker_dwg _ _ _ _ _ _ _).trans ?_
      simp only [tile_x, tile_g, tile_u, tile_o, tile_d, zero_add]
      rfl)
    (fun t h i => by
      have := lt88 t
      idx_vars i
      rw [outsAt0_B m c t (by omega) (by omega) (by omega) (by omega) (by omega) (by omega)]
      frame_out
      pointwise [k0_pay5]
      refine congrArg _ ((ker_dwg _ _ _ _ _ _ _).trans ?_)
      simp only [tile_x, tile_g, tile_u, tile_o, tile_d]
      rfl)
    t ((flush0_6 t).mp hf) (ix2 y0 y1)
  rw [after0_6, e0]
  refine e.trans ?_
  rw [zero_add]
  exact sum_run t _ fun b a => X m c (ix2 a y0) * dgt (fun j => X m c (ix2 a j)) (wgF (W m c)) (wuF (W m c)) (fun i j => O m c (ix2 i j)) (fun j => D m c (ix2 a j)) (col b y1)
/-- The gradient of the weight of what is gated. -/
theorem final_dwu (c : Dev nD) : (dats m 0 c).arrAt 7 cfg0.N = dwuV (X m c) (W m c) (O m c) (D m c) := by
  refine (dats m 0 c).arrAt_eq_of_covers 7 _ (by decide +kernel) fun t hf y => ?_
  idx_vars y
  have := lt88 t
  have e0 : (win0_7.blk t).view.emb (ix2 y0 y1) = ix2 y0 (col (tl t) y1) := by
    blk_ext [idx t]
  blk_simp
  have e := Pipeline.eq_sum_fin_of_reset_step_apply_of_flush (M := EReal) (fun n h => (outsAt0 m c n h).2.2.1) 8 (fun _ => (0 : EReal))
    (fun t i => ∑ a : Fin 1024, X m c (ix2 (row t a) (i 0)) * dup (fun j => X m c (ix2 (row t a) j)) (wgF (W m c)) (fun i j => O m c (ix2 i j)) (fun j => D m c (ix2 (row t a) j)) (col (tl t) (i 1)))
    (fun t h i => by
      have := lt88 t
      idx_vars i
      rw [outsAt0_A m c t (by omega) (by omega) (by omega) (by omega) (by omega) (by omega)]
      frame_out
      refine (ker_dwu _ _ _ _ _ _).trans ?_
      simp only [tile_x, tile_g, tile_u, tile_o, tile_d, zero_add]
      rfl)
    (fun t h i => by
      have := lt88 t
      idx_vars i
      rw [outsAt0_B m c t (by omega) (by omega) (by omega) (by omega) (by omega) (by omega)]
      frame_out
      pointwise [k0_pay6]
      refine congrArg _ ((ker_dwu _ _ _ _ _ _).trans ?_)
      simp only [tile_x, tile_g, tile_u, tile_o, tile_d]
      rfl)
    t ((flush0_7 t).mp hf) (ix2 y0 y1)
  rw [after0_7, e0]
  refine e.trans ?_
  rw [zero_add]
  exact sum_run t _ fun b a => X m c (ix2 a y0) * dup (fun j => X m c (ix2 a j)) (wgF (W m c)) (fun i j => O m c (ix2 i j)) (fun j => D m c (ix2 a j)) (col b y1)
/-- The gradient of the output weight. -/
theorem final_dwo (c : Dev nD) : (dats m 0 c).arrAt 8 cfg0.N = dwoV (X m c) (W m c) (O m c) (D m c) := by
  refine (dats m 0 c).arrAt_eq_of_covers 8 _ (by decide +kernel) fun t hf y => ?_
  idx_vars y
  have := lt88 t
  have e0 : (win0_8.blk t).view.emb (ix2 y0 y1) = ix2 (col (tl t) y0) y1 := by
    blk_ext [idx t]
  blk_simp
  have e := Pipeline.eq_sum_fin_of_reset_step_apply_of_flush (M := EReal) (fun n h => (outsAt0 m c n h).2.2.2) 8 (fun _ => (0 : EReal))
    (fun t i => ∑ a : Fin 1024, act (fun j => X m c (ix2 (row t a) j)) (wgF (W m c)) (col (tl t) (i 0)) * gate (fun j => X m c (ix2 (row t a) j)) (wuF (W m c)) (col (tl t) (i 0)) * (Ideal.ofBits .f32 0x3F000000#32 * D m c (ix2 (row t a) (i 1))))
    (fun t h i => by
      have := lt88 t
      idx_vars i
      rw [outsAt0_A m c t (by omega) (by omega) (by omega) (by omega) (by omega) (by omega)]
      frame_out
      refine (ker_dwo _ _ _ _ _ _).trans ?_
      simp only [tile_x, tile_g, tile_u, tile_o, tile_d, zero_add]
      rfl)
    (fun t h i => by
      have := lt88 t
      idx_vars i
      rw [outsAt0_B m c t (by omega) (by omega) (by omega) (by omega) (by omega) (by omega)]
      frame_out
      pointwise [k0_pay7]
      refine congrArg _ ((ker_dwo _ _ _ _ _ _).trans ?_)
      simp only [tile_x, tile_g, tile_u, tile_o, tile_d]
      rfl)
    t ((flush0_8 t).mp hf) (ix2 y0 y1)
  rw [after0_8, e0]
  refine e.trans ?_
  rw [zero_add]
  exact sum_run t _ fun b a => act (fun j => X m c (ix2 a j)) (wgF (W m c)) (col b y0) * gate (fun j => X m c (ix2 a j)) (wuF (W m c)) (col b y0) * (Ideal.ofBits .f32 0x3F000000#32 * D m c (ix2 a y1))
theorem end_of (w : Fin cfg0.W) (c : Dev nD) : Pipeline.withArrays (cfgs 0).spec c (V0 m c) (fun w => (dats m 0 c).arrAt w (cfgs 0).N) (Proc.devRef .tc (Pipeline.arrRef spec0 w)) =
    (dats m 0 c).arrAt w cfg0.N := Pipeline.withArrays_arr _ launch0.win.arr_inj c _ _ w
/-- The kernel's run, its results named. -/
theorem ker_run (ρ : Dev nD → PrngReg) :
 θ_run defs (onTc (τ := τ) (main (F := Ideal))) ⟨m, fun _ => 0, ρ⟩ fun r => ∀ c : Dev nD,
      r.2.mem (c.tc.loc main_v7) = sumParts ((dats m 0 c).arrAt 5 cfg0.N)
 ∧ r.2.mem (c.tc.loc main_v5_1) = (dats m 0 c).arrAt 6 cfg0.N
 ∧ r.2.mem (c.tc.loc main_v5_2) = (dats m 0 c).arrAt 7 cfg0.N
 ∧ r.2.mem (c.tc.loc main_v5_3) = (dats m 0 c).arrAt 8 cfg0.N := by
  refine (θ_run defs _ _).mono (fun r h c => ?_) (run_main m ρ)
  have e := (h c).2
  refine ⟨(e main_v7 (by decide)).trans ?_, (h c).1 6, (h c).1 7, (h c).1 8⟩
  unfold Pipeline.afterTail₀
  refine (tail_7 _).trans (congrArg sumParts ?_)
  exact end_of m 5 c
/-- The gradient of the rows. -/
theorem final_dx (c : Dev nD) : sumParts ((dats m 0 c).arrAt 5 cfg0.N) = dxV (X m c) (W m c) (O m c) (D m c) := by
  funext i
  idx_vars i
  rw [sumParts_at, final_parts]
  exact part_sum (X m c) (W m c) (O m c) (D m c) i0 i1
end
/-- The kernel's gradients of the feed-forward block are the reference's. -/
theorem algebraic : Cert.algebraic_FfnKernelIdeal_FfnReferenceIdeal := by
  pair_intro
  · run_from ker_run m g & Cert.FfnKernelIdeal.Gen.frame m g
  · run_from ref_run m' g'
    · exact (final_dx m c).symm
    · exact (final_dwg m c).symm
    · exact (final_dwu m c).symm
    · exact (final_dwo m c).symm
end Cert.Ffn
-- ==== Proof.Ffnf.lean ====
module
public import proofs.«01_k».proof.Proof.Ffn
public import proofs.«01_k».proof.Proof.Flag
public import proofs.«01_k».proof.Proof.Gen.FfnfKernelIdeal.Value
public import proofs.«01_k».proof.Proof.Gen.FfnfReferenceIdeal.Read
@[expose] public section
set_option maxRecDepth 16384
noncomputable section
open Idealize.ShloMosaic Idealize.ShloMosaic.TcCoe Idealize.SL.Sem
open Cert.Rows Cert.Gates
/-! The feed-forward half step `h + 1/2 swiglu (rmsnorm h)`, and the normalised rows. -/
namespace Cert.Ffnf
/-- One normalised row of the input. -/
def nrow (h : FVec Ideal ⟨2, ![8192, 1024]⟩ .f32) (g : FVec Ideal ⟨1, ![1024]⟩ .f32) (a : Fin 8192) : Fin 1024 → EReal :=
  fun j => rms (fun j => h (ix2 a j)) (fun j => g (ix1 j)) j
/-- One gated entry of a normalised row. -/
def hid (n : Fin 1024 → EReal) (w : FVec Ideal ⟨2, ![1024, 5632]⟩ .f32) (k : Fin 2816) : EReal := Ffn.act n (Ffn.wgF w) k * Ffn.gate n (Ffn.wuF w) k
/-- The two results as arrays. -/
def outV (h : FVec Ideal ⟨2, ![8192, 1024]⟩ .f32) (g : FVec Ideal ⟨1, ![1024]⟩ .f32) (w : FVec Ideal ⟨2, ![1024, 5632]⟩ .f32) (o : FVec Ideal ⟨2, ![2816, 1024]⟩ .f32) :
    FVec Ideal ⟨2, ![8192, 1024]⟩ .f32 :=
  fun i => h (ix2 (i 0) (i 1)) + Ideal.ofBits .f32 0x3F000000#32 * ∑ k, hid (nrow h g (i 0)) w k * o (ix2 k (i 1))
def normV (h : FVec Ideal ⟨2, ![8192, 1024]⟩ .f32) (g : FVec Ideal ⟨1, ![1024]⟩ .f32) : FVec Ideal ⟨2, ![8192, 1024]⟩ .bf16 :=
  fun i => nrow h g (i 0) (i 1)
section
open Cert.FfnfReferenceIdeal Cert.FfnfReferenceIdeal.Read
variable (x0 : FVec Ideal S8192x1024 .f32) (x1 : FVec Ideal S1024 .f32) (x2 : FVec Ideal S1024x5632 .f32) (x3 : FVec Ideal S2816x1024 .f32)
theorem ref_msq (a : Fin 8192): val_main_v6 (F := Ideal) x0 (ix2 a 0) = msq (fun j => x0 (ix2 a j)) := by
  pointwise [val_main_v6, val_main_v4, val_main_v2, val_main_v1, val_main_v0, val_main_cst, val_main_v3, val_main_cst_0, val_main_v5, val_main_cst_1, msq]
theorem ref_rms (a : Fin 8192) (k : Fin 1024) : val_main_v12 (F := Ideal) x0 x1 (ix2 a k) = nrow x0 x1 a k := by
  pointwise [val_main_v12, val_main_v9, val_main_v8, val_main_v7, val_main_v11, val_main_v10, ref_msq, nrow, rms, rinv]
theorem ref_gate (a : Fin 8192) (k : Fin 2816) : val_main_v14 (F := Ideal) x0 x1 x2 (ix2 a k) = Ffn.gate (nrow x0 x1 a) (Ffn.wgF x2) k := by
  pointwise [val_main_v14, val_main_v13, ref_rms, Ffn.gate, Ffn.wgF]
theorem ref_up (a : Fin 8192) (k : Fin 2816) : val_main_v15 (F := Ideal) x0 x1 x2 (ix2 a k) = Ffn.gate (nrow x0 x1 a) (Ffn.wuF x2) k := by
  pointwise [val_main_v15, val_main_v13, ref_rms, Ffn.gate, Ffn.wuF]
theorem ref_hid (a : Fin 8192) (k : Fin 2816) : val_main_v17 (F := Ideal) x0 x1 x2 (ix2 a k) = hid (nrow x0 x1 a) x2 k := by
  pointwise [val_main_v17, val_main_v16, val_main_call0_v5, val_main_call0_v4, val_main_call0_cst_0, val_main_call0_v3, val_main_call0_v2, val_main_call0_cst, val_main_call0_v1, val_main_call0_v0, ref_gate, ref_up, hid, Ffn.act, sgm]
theorem ref_out (a : Fin 8192) (k : Fin 1024) : val_main_v21 (F := Ideal) x0 x1 x2 x3 (ix2 a k) = x0 (ix2 a k) + Ideal.ofBits .f32 0x3F000000#32 * ∑ j, hid (nrow x0 x1 a) x2 j * x3 (ix2 j k) := by
  pointwise [val_main_v21, val_main_v20, val_main_v19, val_main_cst_2, val_main_v18, ref_hid]
theorem ref_norm (a : Fin 8192) (k : Fin 1024) : val_main_v22 (F := Ideal) x0 x1 (ix2 a k) = nrow x0 x1 a k := by
  pointwise [val_main_v22, ref_rms]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v21) = outV (m (c.tc.loc main_arg0)) (m (c.tc.loc main_arg1)) (m (c.tc.loc main_arg2)) (m (c.tc.loc main_arg3))
 ∧ r.2.mem (c.tc.loc main_v22) = normV (m (c.tc.loc main_arg0)) (m (c.tc.loc main_arg1))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3) :=
  (θ_run defs _ _).mono (fun _ h c => by
    obtain ⟨h0, h1, h2⟩ := h c
    refine ⟨(h0.trans (val_main_v21_eq ..)).trans (funext fun j => ?_), (h1.trans (val_main_v22_eq ..)).trans (funext fun j => ?_), h2⟩
    · idx_vars j
      exact ref_out _ _ _ _ j0 j1
    · idx_vars j
      exact ref_norm _ _ j0 j1) (Cert.FfnfReferenceIdeal.Value.run m ρ)
end
section
open Cert.FfnfKernelIdeal Cert.FfnfKernelIdeal.Gen
variable (x0 : FVec Ideal S512x1024 .f32) (x1 : FVec Ideal S1x1024 .f32) (x2 x3 : FVec Ideal S1024x1408 .bf16) (x4 : FVec Ideal S1408x1024 .bf16)
/-- One normalised entry of a tile. -/
theorem ker_rms (a : Fin 512) (k : Fin 1024) : k0_pay3 (F := Ideal) x0 x1 (ix2 a k) = rms (fun j => x0 (ix2 a j)) (fun j => x1 (ix2 0 j)) k := by
  pointwise [k0_pay3, rms, rinv, msq]
theorem ker_norm (a : Fin 512) (k : Fin 1024) : k0_pay2 (F := Ideal) (k0_pay3 x0 x1) (ix2 a k) = rms (fun j => x0 (ix2 a j)) (fun j => x1 (ix2 0 j)) k := by
  pointwise [k0_pay2, ker_rms]
/-- What one tile of the hidden columns adds to an entry; the first of a row's tiles adds the input too. -/
theorem ker_part (i : grid0.Coords) (a : Fin 512) (k : Fin 1024) : k0_pay4 (F := Ideal) i x0 x1 x2 x3 x4 (ix2 a k) =
    Ideal.ofBits .f32 0x3F000000#32 * (∑ l, Ffn.act (fun j => rms (fun j => x0 (ix2 a j)) (fun j => x1 (ix2 0 j)) j) (fun i j => x2 (ix2 i j)) l *
      Ffn.gate (fun j => rms (fun j => x0 (ix2 a j)) (fun j => x1 (ix2 0 j)) j) (fun i j => x3 (ix2 i j)) l * x4 (ix2 l k)) +
    (if (i 1).val = 0 then (1 : EReal) else 0) * x0 (ix2 a k) := by
  rw [← Flag.flag_eq (i 1).val (lt_of_lt_of_le (i 1).isLt (by decide))]
  unfold k0_pay4
  generalize Scalar.sitofp (F := Ideal) .f32 (Scalar.extui (Scalar.cmpi .eq (BitVec.ofNat 32 (i 1).val) 0#32) : BitVec 32) = e
  pointwise [ker_rms, Ffn.act, Ffn.gate, logistic_eq]
variable (m : (ℓ : Loc nD τ sig) → Buf (Elt Ideal) ℓ)
/-- Where the windows stand at a grid point. -/
theorem idx : ∀ t : Fin cfg0.N, win0_0.index t = ![t.val / 2, 0] ∧ win0_1.index t = ![0, 0] ∧ win0_2.index t = ![0, t.val % 2] ∧ win0_3.index t = ![0, t.val % 2] ∧
    win0_4.index t = ![t.val % 2, 0] ∧ win0_5.index t = ![t.val / 2, 0] ∧ win0_6.index t = ![t.val / 2, 0] :=
  (by decide +kernel : ∀ t : Fin grid0.N, _)
theorem coord : ∀ t : Fin cfg0.N, ((grid0.coords t) 1).val = t.val % 2 := (by decide +kernel : ∀ t : Fin grid0.N, _)
/-- The rows, the gain and the two weights. -/
abbrev X (c : Dev nD) : FVec Ideal S8192x1024 .f32 := m ((c : Thread nD τ).loc main_arg0)
abbrev G (c : Dev nD) : FVec Ideal S1024 .f32 := m ((c : Thread nD τ).loc main_arg1)
abbrev W (c : Dev nD) : FVec Ideal S1024x5632 .f32 := m ((c : Thread nD τ).loc main_arg2)
abbrev O (c : Dev nD) : FVec Ideal S2816x1024 .f32 := m ((c : Thread nD τ).loc main_arg3)
theorem lt32 (t : Fin cfg0.N) : t.val < 32 := by have := t.isLt; have : cfg0.N = 32 := N_0; omega
/-- Row `a` of the tile at grid point `t`, and a column of that point's half of the hidden columns. -/
abbrev row (t : Fin cfg0.N) (a : Fin 512) : Fin 8192 := ⟨512 * (t.val / 2) + a.val, by have := lt32 t; omega⟩
abbrev col (s : Fin 2) (k : Fin 1408) : Fin 2816 := ⟨s.val * 1408 + k.val, by omega⟩
abbrev tl (t : Fin cfg0.N) : Fin 2 := ⟨t.val % 2, by omega⟩
/-- The tiles of the arguments. -/
theorem tile_x (c : Dev nD) (t : Fin cfg0.N) (a : Fin 512) (k : Fin 1024) : iblk m c 0 t (ix2 a k) = X m c (ix2 (row t a) k) := by
  blk_point [iblk, V, idx t]
theorem tile_n (c : Dev nD) (t : Fin cfg0.N) (k : Fin 1024) : iblk m c 1 t (ix2 0 k) = G m c (ix1 k) := by
  have e : ((View.whole main_v2).slice (win0_1.rect t)).emb (ix2 0 k) = (ix2 0 k : S1x1024.Idx) := by
    blk_ext [idx t]
  blk_simp [iblk, V, idx t]
  entry_read
  refine (congrArg _ e).trans ?_
  pointwise
theorem tile_g (c : Dev nD) (t : Fin cfg0.N) (j : Fin 1024) (k : Fin 1408) : iblk m c 2 t (ix2 j k) = Ffn.wgF (W m c) j (col (tl t) k) := by
  have e : ((View.whole main_v3).slice (win0_2.rect t)).emb (ix2 j k) = (ix2 j (col (tl t) k) : S1024x2816.Idx) := by
    blk_ext [idx t]
  blk_simp [iblk, V, idx t]
  entry_read
  refine (congrArg _ e).trans ?_
  pointwise [Ffn.wgF]
theorem tile_u (c : Dev nD) (t : Fin cfg0.N) (j : Fin 1024) (k : Fin 1408) : iblk m c 3 t (ix2 j k) = Ffn.wuF (W m c) j (col (tl t) k) := by
  have e : ((View.whole main_v4).slice (win0_3.rect t)).emb (ix2 j k) = (ix2 j (col (tl t) k) : S1024x2816.Idx) := by
    blk_ext [idx t]
  blk_simp [iblk, V, idx t]
  entry_read
  refine (congrArg _ e).trans ?_
  pointwise [Ffn.wuF]
theorem tile_o (c : Dev nD) (t : Fin cfg0.N) (k : Fin 1408) (j : Fin 1024) : iblk m c 4 t (ix2 k j) = O m c (ix2 (col (tl t) k) j) := by
  have e : ((View.whole main_v1).slice (win0_4.rect t)).emb (ix2 k j) = (ix2 (col (tl t) k) j : S2816x1024.Idx) := by
    blk_ext [idx t]
  blk_simp [iblk, V, idx t]
  entry_read
  refine (congrArg _ e).trans ?_
  pointwise
/-- One half of the hidden columns. -/
def half (h : FVec Ideal S8192x1024 .f32) (g : FVec Ideal S1024 .f32) (w : FVec Ideal S1024x5632 .f32) (o : FVec Ideal S2816x1024 .f32) (a : Fin 8192) (k : Fin 1024) (s : Fin 2) : EReal :=
  ∑ l : Fin 1408, hid (nrow h g a) w (col s l) * o (ix2 (col s l) k)
/-- What grid point `t` adds to an entry. -/
theorem part_eq (c : Dev nD) (t : Fin cfg0.N) (a : Fin 512) (k : Fin 1024) : k0_pay4 (F := Ideal) (grid0.coords t) (iblk m c 0 t) (iblk m c 1 t) (iblk m c 2 t) (iblk m c 3 t) (iblk m c 4 t) (ix2 a k) =
    Ideal.ofBits .f32 0x3F000000#32 * half (X m c) (G m c) (W m c) (O m c) (row t a) k (tl t) + (if t.val % 2 = 0 then (1 : EReal) else 0) * X m c (ix2 (row t a) k) := by
  refine (ker_part _ _ _ _ _ _ a k).trans ?_
  rw [coord t]
  simp only [tile_x, tile_n, tile_g, tile_u, tile_o]
  rfl
theorem half_eq : Ideal.ofBits .f32 0x3F000000#32 = ((1 / 2 : ℝ) : EReal) := by
  simp [Ideal.ofBits, Ideal.ieee, -EReal.coe_mul]; norm_num
/-- The two halves, each halved, and the input. -/
theorem halves (h : FVec Ideal S8192x1024 .f32) (g : FVec Ideal S1024 .f32) (w : FVec Ideal S1024x5632 .f32) (o : FVec Ideal S2816x1024 .f32) (a : Fin 8192) (k : Fin 1024) :
    (Ideal.ofBits .f32 0x3F000000#32 * half h g w o a k 0 + 1 * h (ix2 a k)) + (Ideal.ofBits .f32 0x3F000000#32 * half h g w o a k 1 + 0 * h (ix2 a k)) = outV h g w o (ix2 a k) := by
  have e : (∑ l, hid (nrow h g a) w l * o (ix2 l k)) = half h g w o a k 0 + half h g w o a k 1 :=
    (Fin.sum_univ_tiles 2 1408 rfl fun l : Fin 2816 => hid (nrow h g a) w l * o (ix2 l k)).trans (Fin.sum_univ_two _)
  show _ = h (ix2 a k) + Ideal.ofBits .f32 0x3F000000#32 * ∑ l, hid (nrow h g a) w l * o (ix2 l k)
  rw [e, show Ideal.ofBits .f32 0x3F000000#32 = ((1 / 2 : ℝ) : EReal) from half_eq, EReal.left_distrib_of_nonneg_of_ne_top (by norm_cast; norm_num) (EReal.coe_ne_top _), one_mul, zero_mul, add_zero]
  ac_rfl
/-- The half step. -/
theorem final_out (c : Dev nD) : (dats m 0 c).arrAt 5 cfg0.N = outV (X m c) (G m c) (W m c) (O m c) := by
  refine (dats m 0 c).arrAt_eq_of_covers 5 _ (by decide +kernel) fun t hf y => ?_
  idx_vars y
  have := lt32 t
  have e0 : (win0_5.blk t).view.emb (ix2 y0 y1) = ix2 (row t y0) y1 := by
    blk_ext [idx t]
  blk_simp
  have e := Pipeline.eq_sum_fin_of_reset_step_apply_of_flush (M := EReal) (fun n h => (outsAt0 m c n h).1) 2 (fun _ => (0 : EReal))
    (fun t i => Ideal.ofBits .f32 0x3F000000#32 * half (X m c) (G m c) (W m c) (O m c) (row t (i 0)) (i 1) (tl t) + (if t.val % 2 = 0 then (1 : EReal) else 0) * X m c (ix2 (row t (i 0)) (i 1)))
    (fun t h i => by
      idx_vars i
      rw [outsAt0_A m c t (by omega) (by omega)]
      frame_out
      exact (part_eq m c t i0 i1).trans (zero_add _).symm)
    (fun t h i => by
      idx_vars i
      rw [outsAt0_B m c t (by omega) (by omega)]
      frame_out
      pointwise [k0_pay1]
      exact congrArg _ (part_eq m c t i0 i1))
    t ((flush0_5 t).mp hf) (ix2 y0 y1)
  rw [after0_5, e0]
  refine e.trans ?_
  rw [zero_add, Fin.sum_univ_two, ← halves]
  have h1 := (flush0_5 t).mp hf
  have r0 : ∀ s : Fin 2, ∀ h : 2 * (t.val / 2) + s.val < cfg0.N, row ⟨2 * (t.val / 2) + s.val, h⟩ y0 = row t y0 := fun s h => Fin.ext (by
    show 512 * ((2 * (t.val / 2) + s.val) / 2) + y0.val = 512 * (t.val / 2) + y0.val; omega)
  have c0 : ∀ s : Fin 2, ∀ h : 2 * (t.val / 2) + s.val < cfg0.N, tl ⟨2 * (t.val / 2) + s.val, h⟩ = s := fun s h => Fin.ext (by
    show (2 * (t.val / 2) + s.val) % 2 = s.val; omega)
  have p0 : (2 * (t.val / 2) + (0 : Fin 2).val) % 2 = 0 := by simp
  have p1 : ¬(2 * (t.val / 2) + (1 : Fin 2).val) % 2 = 0 := by simp
  have i0 : ∀ (a : Fin 512) (b : Fin 1024), (ix2 a b : S512x1024.Idx) 0 = a := fun _ _ => rfl
  have i1 : ∀ (a : Fin 512) (b : Fin 1024), (ix2 a b : S512x1024.Idx) 1 = b := fun _ _ => rfl
  dsimp only
  rw [if_pos p0, if_neg p1]
  simp only [i0, i1, r0, c0]
/-- The normalised rows. -/
theorem final_norm (c : Dev nD) : (dats m 0 c).arrAt 6 cfg0.N = normV (X m c) (G m c) := by
  refine (dats m 0 c).arrAt_eq_of_covers 6 _ (by decide +kernel) fun t hf y => ?_
  idx_vars y
  have := lt32 t
  have h1 := (flush0_6 t).mp hf
  have e0 : (win0_6.blk t).view.emb (ix2 y0 y1) = ix2 (row t y0) y1 := by
    blk_ext [idx t]
  blk_simp
  rw [after0_6, e0, outsAt0_B m c t (by omega) (by omega)]
  frame_out
  refine (ker_norm _ _ y0 y1).trans ?_
  simp only [tile_x, tile_n]
  rfl
end
/-- The kernel's half step and normalised rows are the reference's. -/
theorem algebraic : Cert.algebraic_FfnfKernelIdeal_FfnfReferenceIdeal := by
  pair_intro
  · run_from Cert.FfnfKernelIdeal.Value.run_blocks m g
  · run_from ref_run m' g'
    · exact (final_out m c).symm
    · exact (final_norm m c).symm
end Cert.Ffnf
-- ==== Proof.Ple.lean ====
module
public import proofs.«01_k».proof.Defs
public import proofs.«01_k».proof.Proof.Gates
public import proofs.«01_k».proof.Proof.Gen.PleKernelIdeal.Value
public import proofs.«01_k».proof.Proof.Gen.PleReferenceIdeal.Read
@[expose] public section
set_option maxRecDepth 16384
noncomputable section
open Idealize.ShloMosaic Idealize.ShloMosaic.TcCoe Idealize.SL.Sem
open Cert.Rows Cert.Gates
/-! The gradient of the gated per-layer input embedding `h + sigmoid (norm h u) * (p v)`. -/
namespace Cert.Ple
/-- The gate before the logistic function, for one row. -/
def pre (x g : Fin 1024 → EReal) (u : Fin 1024 → Fin 1024 → EReal) (k : Fin 1024) : EReal := ∑ j, rms x g j * u j k
/-- The projected embedding. -/
def proj (p : Fin 256 → EReal) (v : Fin 256 → Fin 1024 → EReal) (k : Fin 1024) : EReal := ∑ j, p j * v j k
section
variable (x : Fin 1024 → EReal) (p : Fin 256 → EReal) (g : Fin 1024 → EReal) (u : Fin 1024 → Fin 1024 → EReal) (v : Fin 256 → Fin 1024 → EReal) (d : Fin 1024 → EReal)
/-- The cotangent of the gate before the logistic function. -/
def delta (k : Fin 1024) : EReal := d k * proj p v k * dsgm (pre x g u k)
/-- The cotangent of the normalised row. -/
def up (k : Fin 1024) : EReal := ∑ j, delta x p g u v d j * u k j
/-- The gradient of the row. -/
def dH (k : Fin 1024) : EReal := d k + dRow x (fun j => up x p g u v d j * g j) k
end
/-- The four gradients as arrays. -/
def dhV (h : FVec Ideal ⟨2, ![8192, 1024]⟩ .f32) (p : FVec Ideal ⟨2, ![8192, 256]⟩ .f32) (g : FVec Ideal ⟨1, ![1024]⟩ .f32) (u : FVec Ideal ⟨2, ![1024, 1024]⟩ .f32)
    (v : FVec Ideal ⟨2, ![256, 1024]⟩ .f32) (d : FVec Ideal ⟨2, ![8192, 1024]⟩ .f32) : FVec Ideal ⟨2, ![8192, 1024]⟩ .f32 :=
  fun i => dH (fun j => h (ix2 (i 0) j)) (fun j => p (ix2 (i 0) j)) (fun j => g (ix1 j)) (fun i j => u (ix2 i j)) (fun i j => v (ix2 i j)) (fun j => d (ix2 (i 0) j)) (i 1)
def dgainV (h : FVec Ideal ⟨2, ![8192, 1024]⟩ .f32) (p : FVec Ideal ⟨2, ![8192, 256]⟩ .f32) (g : FVec Ideal ⟨1, ![1024]⟩ .f32) (u : FVec Ideal ⟨2, ![1024, 1024]⟩ .f32)
    (v : FVec Ideal ⟨2, ![256, 1024]⟩ .f32) (d : FVec Ideal ⟨2, ![8192, 1024]⟩ .f32) : FVec Ideal ⟨2, ![1, 1024]⟩ .f32 :=
  fun i => ∑ a : Fin 8192, dGain (fun j => h (ix2 a j)) (up (fun j => h (ix2 a j)) (fun j => p (ix2 a j)) (fun j => g (ix1 j)) (fun i j => u (ix2 i j)) (fun i j => v (ix2 i j)) (fun j => d (ix2 a j))) (i 1)
def dgateV (h : FVec Ideal ⟨2, ![8192, 1024]⟩ .f32) (p : FVec Ideal ⟨2, ![8192, 256]⟩ .f32) (g : FVec Ideal ⟨1, ![1024]⟩ .f32) (u : FVec Ideal ⟨2, ![1024, 1024]⟩ .f32)
    (v : FVec Ideal ⟨2, ![256, 1024]⟩ .f32) (d : FVec Ideal ⟨2, ![8192, 1024]⟩ .f32) : FVec Ideal ⟨2, ![1024, 1024]⟩ .f32 :=
  fun i => ∑ a : Fin 8192, rms (fun j => h (ix2 a j)) (fun j => g (ix1 j)) (i 0) * delta (fun j => h (ix2 a j)) (fun j => p (ix2 a j)) (fun j => g (ix1 j)) (fun i j => u (ix2 i j)) (fun i j => v (ix2 i j)) (fun j => d (ix2 a j)) (i 1)
def dprojV (h : FVec Ideal ⟨2, ![8192, 1024]⟩ .f32) (p : FVec Ideal ⟨2, ![8192, 256]⟩ .f32) (g : FVec Ideal ⟨1, ![1024]⟩ .f32) (u : FVec Ideal ⟨2, ![1024, 1024]⟩ .f32)
    (v : FVec Ideal ⟨2, ![256, 1024]⟩ .f32) (d : FVec Ideal ⟨2, ![8192, 1024]⟩ .f32) : FVec Ideal ⟨2, ![256, 1024]⟩ .f32 :=
  fun i => ∑ a : Fin 8192, p (ix2 a (i 0)) * (sgm (pre (fun j => h (ix2 a j)) (fun j => g (ix1 j)) (fun i j => u (ix2 i j)) (i 1)) * d (ix2 a (i 1)))
section
open Cert.PleReferenceIdeal Cert.PleReferenceIdeal.Read
variable (x0 : FVec Ideal S8192x1024 .f32) (x1 : FVec Ideal S8192x256 .f32) (x2 : FVec Ideal S1024 .f32) (x3 : FVec Ideal S1024x1024 .f32)
  (x4 : FVec Ideal S256x1024 .f32) (x5 : FVec Ideal S8192x1024 .f32)
theorem ref_msq (a : Fin 8192) : val_main_v6 (F := Ideal) x0 (ix2 a 0) = msq (fun j => x0 (ix2 a j)) := by
  pointwise [val_main_v6, val_main_v4, val_main_v2, val_main_v1, val_main_v0, val_main_cst, val_main_v3, val_main_cst_0, val_main_v5, val_main_cst_1, msq]
theorem ref_rinv (a : Fin 8192) : val_main_v7 (F := Ideal) x0 (ix2 a 0) = rinv (fun j => x0 (ix2 a j)) := by
  pointwise [val_main_v7, ref_msq, rinv]
theorem ref_dinv (a : Fin 8192) : val_main_v10 (F := Ideal) x0 (ix2 a 0) = dinv (fun j => x0 (ix2 a j)) := by
  pointwise [val_main_v10, val_main_v9, val_main_cst_2, val_main_v8, ref_rinv, ref_msq, dinv]
theorem ref_unit (a : Fin 8192) (k : Fin 1024) : val_main_v12 (F := Ideal) x0 (ix2 a k) = x0 (ix2 a k) * rinv (fun j => x0 (ix2 a j)) := by
  pointwise [val_main_v12, val_main_v11, ref_rinv]
theorem ref_rms (a : Fin 8192) (k : Fin 1024) : val_main_v15 (F := Ideal) x0 x2 (ix2 a k) = rms (fun j => x0 (ix2 a j)) (fun j => x2 (ix1 j)) k := by
  pointwise [val_main_v15, val_main_v14, val_main_v13, ref_unit, rms]
theorem ref_gate (a : Fin 8192) (k : Fin 1024) : val_main_v22 (F := Ideal) x0 x2 x3 (ix2 a k) = sgm (pre (fun j => x0 (ix2 a j)) (fun j => x2 (ix1 j)) (fun i j => x3 (ix2 i j)) k) := by
  pointwise [val_main_v22, val_main_v21, val_main_cst_4, val_main_v20, val_main_v19, val_main_cst_3, val_main_v18, val_main_v17, val_main_v16, ref_rms, sgm, pre]
theorem ref_proj (a : Fin 8192) (k : Fin 1024) : val_main_v26 (F := Ideal) x1 x4 (ix2 a k) = proj (fun j => x1 (ix2 a j)) (fun i j => x4 (ix2 i j)) k := by
  pointwise [val_main_v26, proj]
theorem ref_delta (a : Fin 8192) (k : Fin 1024) : val_main_v34 (F := Ideal) x0 x1 x2 x3 x4 x5 (ix2 a k) = delta (fun j => x0 (ix2 a j)) (fun j => x1 (ix2 a j)) (fun j => x2 (ix1 j)) (fun i j => x3 (ix2 i j)) (fun i j => x4 (ix2 i j)) (fun j => x5 (ix2 a j)) k := by
  pointwise [val_main_v34, val_main_v31, val_main_v29, val_main_v25, val_main_v24, val_main_v23, val_main_cst_5, ref_proj, ref_gate, delta, dsgm]
theorem ref_dproj (j : Fin 256) (k : Fin 1024) : val_main_v33 (F := Ideal) x0 x1 x2 x3 x5 (ix2 j k) = ∑ a : Fin 8192, x1 (ix2 a j) * (sgm (pre (fun j => x0 (ix2 a j)) (fun j => x2 (ix1 j)) (fun i j => x3 (ix2 i j)) k) * x5 (ix2 a k)) := by
  pointwise [val_main_v33, val_main_v32, val_main_v30, val_main_v29, ref_gate]
  exact Finset.sum_congr rfl fun a _ => mul_comm _ _
theorem ref_dgate (j k : Fin 1024) : val_main_v36 (F := Ideal) x0 x1 x2 x3 x4 x5 (ix2 j k) = ∑ a : Fin 8192, rms (fun j => x0 (ix2 a j)) (fun j => x2 (ix1 j)) j * delta (fun j => x0 (ix2 a j)) (fun j => x1 (ix2 a j)) (fun j => x2 (ix1 j)) (fun i j => x3 (ix2 i j)) (fun i j => x4 (ix2 i j)) (fun j => x5 (ix2 a j)) k := by
  pointwise [val_main_v36, val_main_v35, ref_delta, ref_rms]
  exact Finset.sum_congr rfl fun a _ => mul_comm _ _
theorem ref_up (a : Fin 8192) (k : Fin 1024) : val_main_v37 (F := Ideal) x0 x1 x2 x3 x4 x5 (ix2 a k) = up (fun j => x0 (ix2 a j)) (fun j => x1 (ix2 a j)) (fun j => x2 (ix1 j)) (fun i j => x3 (ix2 i j)) (fun i j => x4 (ix2 i j)) (fun j => x5 (ix2 a j)) k := by
  pointwise [val_main_v37, ref_delta, up]
theorem ref_dgain (k : Fin 1024) : val_main_v59 (F := Ideal) x0 x1 x2 x3 x4 x5 (ix2 0 k) = ∑ a : Fin 8192, dGain (fun j => x0 (ix2 a j)) (up (fun j => x0 (ix2 a j)) (fun j => x1 (ix2 a j)) (fun j => x2 (ix1 j)) (fun i j => x3 (ix2 i j)) (fun i j => x4 (ix2 i j)) (fun j => x5 (ix2 a j))) k := by
  pointwise [val_main_v59, val_main_v43, val_main_v40, val_main_v39, val_main_v38, val_main_cst_6, val_main_cst_7, ref_unit, ref_up, dGain, Fin.sum_univ_one]
theorem ref_dh (a : Fin 8192) (k : Fin 1024) : val_main_v58 (F := Ideal) x0 x1 x2 x3 x4 x5 (ix2 a k) = dH (fun j => x0 (ix2 a j)) (fun j => x1 (ix2 a j)) (fun j => x2 (ix1 j)) (fun i j => x3 (ix2 i j)) (fun i j => x4 (ix2 i j)) (fun j => x5 (ix2 a j)) k := by
  pointwise [val_main_v58, val_main_v56, val_main_v49, val_main_v48, val_main_v42, val_main_v41, val_main_v13, val_main_v47, val_main_v55, val_main_v54, val_main_v53, val_main_v52, val_main_v50, val_main_v46, val_main_v45, val_main_v44, val_main_cst_8, val_main_v51, val_main_cst_9, val_main_cst_10, val_main_v57, ref_up, ref_rinv, ref_dinv, dH, dRow, pull]
  simp only [Fin.sum_univ_one, ref_dinv]
  ac_rfl
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v58) = dhV (m (c.tc.loc main_arg0)) (m (c.tc.loc main_arg1)) (m (c.tc.loc main_arg2)) (m (c.tc.loc main_arg3)) (m (c.tc.loc main_arg4)) (m (c.tc.loc main_arg5))
 ∧ r.2.mem (c.tc.loc main_v59) = dgainV (m (c.tc.loc main_arg0)) (m (c.tc.loc main_arg1)) (m (c.tc.loc main_arg2)) (m (c.tc.loc main_arg3)) (m (c.tc.loc main_arg4)) (m (c.tc.loc main_arg5))
 ∧ r.2.mem (c.tc.loc main_v36) = dgateV (m (c.tc.loc main_arg0)) (m (c.tc.loc main_arg1)) (m (c.tc.loc main_arg2)) (m (c.tc.loc main_arg3)) (m (c.tc.loc main_arg4)) (m (c.tc.loc main_arg5))
 ∧ r.2.mem (c.tc.loc main_v33) = dprojV (m (c.tc.loc main_arg0)) (m (c.tc.loc main_arg1)) (m (c.tc.loc main_arg2)) (m (c.tc.loc main_arg3)) (m (c.tc.loc main_arg4)) (m (c.tc.loc main_arg5))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4)
 ∧ r.2.mem (c.tc.loc main_arg5) = m (c.tc.loc main_arg5) :=
  (θ_run defs _ _).mono (fun _ h c => by
    obtain ⟨h0, h1, h2, h3, h4⟩ := h c
    refine ⟨(h0.trans (val_main_v58_eq ..)).trans (funext fun j => ?_), (h1.trans (val_main_v59_eq ..)).trans (funext fun j => ?_), (h2.trans (val_main_v36_eq ..)).trans (funext fun j => ?_), (h3.trans (val_main_v33_eq ..)).trans (funext fun j => ?_), h4⟩
    · idx_vars j
      exact ref_dh _ _ _ _ _ _ j0 j1
    · idx_vars j
      obtain rfl : j0 = 0 := Subsingleton.elim _ _
      exact ref_dgain _ _ _ _ _ _ j1
    · idx_vars j
      exact ref_dgate _ _ _ _ _ _ j0 j1
    · idx_vars j
      exact ref_dproj _ _ _ _ _ j0 j1) (Cert.PleReferenceIdeal.Value.run m ρ)
end
section
open Cert.PleKernelIdeal Cert.PleKernelIdeal.Gen
variable (x0 x5 : FVec Ideal S512x1024 .f32) (x1 : FVec Ideal S512x256 .f32) (x2 : FVec Ideal S1x1024 .f32) (x3 : FVec Ideal S1024x1024 .bf16) (x4 : FVec Ideal S256x1024 .bf16)
theorem ker_msq (a : Fin 512) : k0_pay5 (F := Ideal) x0 (ix2 a 0) = msq (fun j => x0 (ix2 a j)) := by
  pointwise [k0_pay5, msq]
theorem ker_rinv (a : Fin 512) : k0_pay6 (F := Ideal) x0 (ix2 a 0) = rinv (fun j => x0 (ix2 a j)) := by
  pointwise [k0_pay6, ker_msq, rinv]
theorem ker_dinv (a : Fin 512) : k0_pay7 (F := Ideal) x0 (ix2 a 0) = dinv (fun j => x0 (ix2 a j)) := by
  pointwise [k0_pay7, ker_msq, ker_rinv, dinv]
theorem ker_unit (a : Fin 512) (k : Fin 1024) : k0_pay8 (F := Ideal) x0 (ix2 a k) = x0 (ix2 a k) * rinv (fun j => x0 (ix2 a j)) := by
  pointwise [k0_pay8, ker_rinv]
theorem ker_rms (a : Fin 512) (k : Fin 1024) : k0_pay9 (F := Ideal) x0 x2 (ix2 a k) = rms (fun j => x0 (ix2 a j)) (fun j => x2 (ix2 0 j)) k := by
  pointwise [k0_pay9, k0_pay3, ker_unit, rms]
theorem ker_gate (a : Fin 512) (k : Fin 1024) : k0_pay10 (F := Ideal) x0 x2 x3 (ix2 a k) = sgm (pre (fun j => x0 (ix2 a j)) (fun j => x2 (ix2 0 j)) (fun i j => x3 (ix2 i j)) k) := by
  pointwise [k0_pay10, k0_pay4, ker_rms, pre, logistic_eq]
theorem ker_slope (a : Fin 512) (k : Fin 1024) : k0_pay11 (F := Ideal) x0 x2 x3 (ix2 a k) = dsgm (pre (fun j => x0 (ix2 a j)) (fun j => x2 (ix2 0 j)) (fun i j => x3 (ix2 i j)) k) := by
  pointwise [k0_pay11, ker_gate, dsgm]
theorem ker_delta (a : Fin 512) (k : Fin 1024) : k0_pay17 (F := Ideal) (k0_pay11 x0 x2 x3) (k0_pay14 x1 x4 x5) (ix2 a k) = delta (fun j => x0 (ix2 a j)) (fun j => x1 (ix2 a j)) (fun j => x2 (ix2 0 j)) (fun i j => x3 (ix2 i j)) (fun i j => x4 (ix2 i j)) (fun j => x5 (ix2 a j)) k := by
  pointwise [k0_pay17, k0_pay14, k0_pay12, ker_slope, delta, proj]
theorem ker_up (a : Fin 512) (k : Fin 1024) : k0_pay18 (F := Ideal) (k0_pay4 x3) (k0_pay11 x0 x2 x3) (k0_pay14 x1 x4 x5) (ix2 a k) = up (fun j => x0 (ix2 a j)) (fun j => x1 (ix2 a j)) (fun j => x2 (ix2 0 j)) (fun i j => x3 (ix2 i j)) (fun i j => x4 (ix2 i j)) (fun j => x5 (ix2 a j)) k := by
  pointwise [k0_pay18, k0_pay4, ker_delta, up]
/-- The kernel's four gradients, on one tile of rows. -/
theorem ker_dh (a : Fin 512) (k : Fin 1024) : k0_pay21 (F := Ideal) x0 (k0_pay3 x2) (k0_pay4 x3) x5 (k0_pay6 x0) (k0_pay7 x0) (k0_pay11 x0 x2 x3) (k0_pay14 x1 x4 x5) (ix2 a k) = dH (fun j => x0 (ix2 a j)) (fun j => x1 (ix2 a j)) (fun j => x2 (ix2 0 j)) (fun i j => x3 (ix2 i j)) (fun i j => x4 (ix2 i j)) (fun j => x5 (ix2 a j)) k := by
  pointwise [k0_pay21, k0_pay3, ker_up, ker_rinv, ker_dinv, dH, dRow, pull]
  simp only [Fin.sum_univ_one, ker_dinv]
  ac_rfl
theorem ker_dgain (k : Fin 1024) : k0_pay20 (F := Ideal) (k0_pay4 x3) (k0_pay8 x0) (k0_pay11 x0 x2 x3) (k0_pay14 x1 x4 x5) (ix2 0 k) = ∑ a : Fin 512, dGain (fun j => x0 (ix2 a j)) (up (fun j => x0 (ix2 a j)) (fun j => x1 (ix2 a j)) (fun j => x2 (ix2 0 j)) (fun i j => x3 (ix2 i j)) (fun i j => x4 (ix2 i j)) (fun j => x5 (ix2 a j))) k := by
  pointwise [k0_pay20, ker_unit, ker_up, dGain]
theorem ker_dgate (j k : Fin 1024) : k0_pay19 (F := Ideal) (k0_pay9 x0 x2) (k0_pay11 x0 x2 x3) (k0_pay14 x1 x4 x5) (ix2 j k) = ∑ a : Fin 512, rms (fun j => x0 (ix2 a j)) (fun j => x2 (ix2 0 j)) j * delta (fun j => x0 (ix2 a j)) (fun j => x1 (ix2 a j)) (fun j => x2 (ix2 0 j)) (fun i j => x3 (ix2 i j)) (fun i j => x4 (ix2 i j)) (fun j => x5 (ix2 a j)) k := by
  pointwise [k0_pay19, ker_rms, ker_delta]
theorem ker_dproj (j : Fin 256) (k : Fin 1024) : k0_pay16 (F := Ideal) (k0_pay13 x0 x2 x3 x5) (k0_pay15 x1) (ix2 j k) = ∑ a : Fin 512, x1 (ix2 a j) * (sgm (pre (fun j => x0 (ix2 a j)) (fun j => x2 (ix2 0 j)) (fun i j => x3 (ix2 i j)) k) * x5 (ix2 a k)) := by
  pointwise [k0_pay16, k0_pay13, k0_pay15, k0_pay12, ker_gate]
variable (m : (ℓ : Loc nD τ sig) → Buf (Elt Ideal) ℓ)
/-- Where the windows stand at a grid point. -/
theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![t.val, 0] ∧ win0_6.index t = ![t.val, 0] ∧
    win0_7.index t = ![0, 0] ∧ win0_8.index t = ![0, 0] ∧ win0_9.index t = ![0, 0] :=
  (by decide +kernel : ∀ t : Fin grid0.N, _)
/-- The stream, the embedding, the gain, the two weights and the cotangent. -/
abbrev X (c : Dev nD) : FVec Ideal S8192x1024 .f32 := m ((c : Thread nD τ).loc main_arg0)
abbrev P (c : Dev nD) : FVec Ideal S8192x256 .f32 := m ((c : Thread nD τ).loc main_arg1)
abbrev G (c : Dev nD) : FVec Ideal S1024 .f32 := m ((c : Thread nD τ).loc main_arg2)
abbrev WG (c : Dev nD) : FVec Ideal S1024x1024 .f32 := m ((c : Thread nD τ).loc main_arg3)
abbrev WP (c : Dev nD) : FVec Ideal S256x1024 .f32 := m ((c : Thread nD τ).loc main_arg4)
abbrev D (c : Dev nD) : FVec Ideal S8192x1024 .f32 := m ((c : Thread nD τ).loc main_arg5)
theorem lt16 (t : Fin cfg0.N) : t.val < 16 := by have := t.isLt; have : cfg0.N = 16 := N_0; omega
/-- Row `a` of tile `t`. -/
abbrev row (t : Fin cfg0.N) (a : Fin 512) : Fin 8192 := ⟨512 * t.val + a.val, by have := lt16 t; omega⟩
/-- The last grid point. -/
abbrev last : Fin cfg0.N := ⟨15, by decide⟩
/-- The tiles of the arguments. -/
theorem tile_x (c : Dev nD) (t : Fin cfg0.N) (a : Fin 512) (k : Fin 1024) : iblk m c 0 t (ix2 a k) = X m c (ix2 (row t a) k) := by
  blk_point [iblk, V, idx t]
theorem tile_p (c : Dev nD) (t : Fin cfg0.N) (a : Fin 512) (k : Fin 256) : iblk m c 1 t (ix2 a k) = P m c (ix2 (row t a) k) := by
  blk_point [iblk, V, idx t]
theorem tile_d (c : Dev nD) (t : Fin cfg0.N) (a : Fin 512) (k : Fin 1024) : iblk m c 5 t (ix2 a k) = D m c (ix2 (row t a) k) := by
  blk_point [iblk, V, idx t]
theorem tile_g (c : Dev nD) (t : Fin cfg0.N) (k : Fin 1024) : iblk m c 2 t (ix2 0 k) = G m c (ix1 k) := by
  have e : ((View.whole main_v0).slice (win0_2.rect t)).emb (ix2 0 k) = (ix2 0 k : S1x1024.Idx) := by
    blk_ext [idx t]
  blk_simp [iblk, V, idx t]
  entry_read
  refine (congrArg _ e).trans ?_
  pointwise
theorem tile_u (c : Dev nD) (t : Fin cfg0.N) (j k : Fin 1024) : iblk m c 3 t (ix2 j k) = WG m c (ix2 j k) := by
  have e : ((View.whole main_v1).slice (win0_3.rect t)).emb (ix2 j k) = (ix2 j k : S1024x1024.Idx) := by
    blk_ext [idx t]
  blk_simp [iblk, V, idx t]
  entry_read
  refine (congrArg _ e).trans ?_
  pointwise
theorem tile_v (c : Dev nD) (t : Fin cfg0.N) (j : Fin 256) (k : Fin 1024) : iblk m c 4 t (ix2 j k) = WP m c (ix2 j k) := by
  have e : ((View.whole main_v2).slice (win0_4.rect t)).emb (ix2 j k) = (ix2 j k : S256x1024.Idx) := by
    blk_ext [idx t]
  blk_simp [iblk, V, idx t]
  entry_read
  refine (congrArg _ e).trans ?_
  pointwise
/-- A sum over the tiles is the sum over the rows. -/
theorem sum_rows (f : Fin 8192 → EReal) : ∑ t : Fin cfg0.N, ∑ a : Fin 512, f (row t a) = ∑ a : Fin 8192, f a := by
  refine Eq.trans ?_ (Fin.sum_univ_tiles 16 512 rfl f).symm
  exact Finset.sum_congr rfl fun t _ => Finset.sum_congr rfl fun a _ => congrArg f (Fin.ext (by
    show 512 * t.val + a.val = t.val * 512 + a.val; omega))
/-- The gradient of the stream. -/
theorem final_dh (c : Dev nD) : (dats m 0 c).arrAt 6 cfg0.N = dhV (X m c) (P m c) (G m c) (WG m c) (WP m c) (D m c) := by
  refine (dats m 0 c).arrAt_eq_of_covers 6 _ (by decide +kernel) fun t hf y => ?_
  idx_vars y
  have e0 : (win0_6.blk t).view.emb (ix2 y0 y1) = ix2 (row t y0) y1 := by
    blk_ext [idx t]
  blk_simp
  rw [after0_6, e0]
  have := lt16 t
  by_cases h : t.val % 16 = 0
  on_goal 1 => rw [outsAt0_A m c t h (by omega) h (by omega) h (by omega)]
  on_goal 2 => rw [outsAt0_B m c t h (by omega) h (by omega) h (by omega)]
  all_goals
    frame_out
    refine (ker_dh _ _ _ _ _ _ y0 y1).trans ?_
    simp only [tile_x, tile_p, tile_d, tile_g, tile_u, tile_v]
    rfl
/-- The gradient of the gain. -/
theorem final_gain (c : Dev nD) : (dats m 0 c).arrAt 7 cfg0.N = dgainV (X m c) (P m c) (G m c) (WG m c) (WP m c) (D m c) := by
  refine (dats m 0 c).arrAt_eq_of_after_last 7 last (by decide +kernel) _ fun j => ?_
  idx_vars j
  obtain rfl : j0 = 0 := Subsingleton.elim _ _
  blk_simp
  have e := Pipeline.eq_sum_fin_of_reset_step_apply_last (M := EReal) (fun n h => (outsAt0 m c n h).2.1) 16 (fun _ => (0 : EReal))
    (fun t i => ∑ a : Fin 512, dGain (fun j => X m c (ix2 (row t a) j)) (up (fun j => X m c (ix2 (row t a) j)) (fun j => P m c (ix2 (row t a) j)) (fun j => G m c (ix1 j)) (fun i j => WG m c (ix2 i j)) (fun i j => WP m c (ix2 i j)) (fun j => D m c (ix2 (row t a) j))) (i 1))
    (fun t h i => by
      have := lt16 t
      idx_vars i
      obtain rfl : i0 = 0 := Subsingleton.elim _ _
      rw [outsAt0_A m c t h (by omega) h (by omega) h (by omega)]
      frame_out
      refine (ker_dgain _ _ _ _ _ _ _).trans ?_
      simp only [tile_x, tile_p, tile_d, tile_g, tile_u, tile_v, zero_add])
    (fun t h i => by
      have := lt16 t
      idx_vars i
      obtain rfl : i0 = 0 := Subsingleton.elim _ _
      rw [outsAt0_B m c t h (by omega) h (by omega) h (by omega)]
      frame_out
      pointwise [k0_pay22]
      refine congrArg _ ((ker_dgain _ _ _ _ _ _ _).trans ?_)
      simp only [tile_x, tile_p, tile_d, tile_g, tile_u, tile_v])
    (le_of_eq N_0) last rfl (ix2 0 j1)
  rw [after0_7]
  refine e.trans ?_
  rw [zero_add]
  exact sum_rows fun a => dGain (fun j => X m c (ix2 a j)) (up (fun j => X m c (ix2 a j)) (fun j => P m c (ix2 a j)) (fun j => G m c (ix1 j)) (fun i j => WG m c (ix2 i j)) (fun i j => WP m c (ix2 i j)) (fun j => D m c (ix2 a j))) j1
/-- The gradient of the gate's weight. -/
theorem final_gate (c : Dev nD) : (dats m 0 c).arrAt 8 cfg0.N = dgateV (X m c) (P m c) (G m c) (WG m c) (WP m c) (D m c) := by
  refine (dats m 0 c).arrAt_eq_of_after_last 8 last (by decide +kernel) _ fun j => ?_
  idx_vars j
  blk_simp
  have e := Pipeline.eq_sum_fin_of_reset_step_apply_last (M := EReal) (fun n h => (outsAt0 m c n h).2.2.1) 16 (fun _ => (0 : EReal))
    (fun t i => ∑ a : Fin 512, rms (fun j => X m c (ix2 (row t a) j)) (fun j => G m c (ix1 j)) (i 0) * delta (fun j => X m c (ix2 (row t a) j)) (fun j => P m c (ix2 (row t a) j)) (fun j => G m c (ix1 j)) (fun i j => WG m c (ix2 i j)) (fun i j => WP m c (ix2 i j)) (fun j => D m c (ix2 (row t a) j)) (i 1))
    (fun t h i => by
      have := lt16 t
      idx_vars i
      rw [outsAt0_A m c t h (by omega) h (by omega) h (by omega)]
      frame_out
      refine (ker_dgate _ _ _ _ _ _ _ _).trans ?_
      simp only [tile_x, tile_p, tile_d, tile_g, tile_u, tile_v, zero_add])
    (fun t h i => by
      have := lt16 t
      idx_vars i
      rw [outsAt0_B m c t h (by omega) h (by omega) h (by omega)]
      frame_out
      pointwise [k0_pay1]
      refine congrArg _ ((ker_dgate _ _ _ _ _ _ _ _).trans ?_)
      simp only [tile_x, tile_p, tile_d, tile_g, tile_u, tile_v])
    (le_of_eq N_0) last rfl (ix2 j0 j1)
  rw [after0_8]
  refine e.trans ?_
  rw [zero_add]
  exact sum_rows fun a => rms (fun j => X m c (ix2 a j)) (fun j => G m c (ix1 j)) j0 * delta (fun j => X m c (ix2 a j)) (fun j => P m c (ix2 a j)) (fun j => G m c (ix1 j)) (fun i j => WG m c (ix2 i j)) (fun i j => WP m c (ix2 i j)) (fun j => D m c (ix2 a j)) j1
/-- The gradient of the projection's weight. -/
theorem final_proj (c : Dev nD) : (dats m 0 c).arrAt 9 cfg0.N = dprojV (X m c) (P m c) (G m c) (WG m c) (WP m c) (D m c) := by
  refine (dats m 0 c).arrAt_eq_of_after_last 9 last (by decide +kernel) _ fun j => ?_
  idx_vars j
  blk_simp
  have e := Pipeline.eq_sum_fin_of_reset_step_apply_last (M := EReal) (fun n h => (outsAt0 m c n h).2.2.2) 16 (fun _ => (0 : EReal))
    (fun t i => ∑ a : Fin 512, P m c (ix2 (row t a) (i 0)) * (sgm (pre (fun j => X m c (ix2 (row t a) j)) (fun j => G m c (ix1 j)) (fun i j => WG m c (ix2 i j)) (i 1)) * D m c (ix2 (row t a) (i 1))))
    (fun t h i => by
      have := lt16 t
      idx_vars i
      rw [outsAt0_A m c t h (by omega) h (by omega) h (by omega)]
      frame_out
      refine (ker_dproj _ _ _ _ _ _ _).trans ?_
      simp only [tile_x, tile_p, tile_d, tile_g, tile_u, tile_v, zero_add])
    (fun t h i => by
      have := lt16 t
      idx_vars i
      rw [outsAt0_B m c t h (by omega) h (by omega) h (by omega)]
      frame_out
      pointwise [k0_pay2]
      refine congrArg _ ((ker_dproj _ _ _ _ _ _ _).trans ?_)
      simp only [tile_x, tile_p, tile_d, tile_g, tile_u, tile_v])
    (le_of_eq N_0) last rfl (ix2 j0 j1)
  rw [after0_9]
  refine e.trans ?_
  rw [zero_add]
  exact sum_rows fun a => P m c (ix2 a j0) * (sgm (pre (fun j => X m c (ix2 a j)) (fun j => G m c (ix1 j)) (fun i j => WG m c (ix2 i j)) j1) * D m c (ix2 a j1))
end
/-- The kernel's gradients of the gated embedding are the reference's. -/
theorem algebraic : Cert.algebraic_PleKernelIdeal_PleReferenceIdeal := by
  pair_intro
  · run_from Cert.PleKernelIdeal.Value.run_blocks m g
  · run_from ref_run m' g'
    · exact (final_dh m c).symm
    · exact (final_gain m c).symm
    · exact (final_gate m c).symm
    · exact (final_proj m c).symm
end Cert.Ple
-- ==== Proof.Plef.lean ====
module
public import proofs.«01_k».proof.Proof.Ple
public import proofs.«01_k».proof.Proof.Gen.PlefKernelIdeal.Value
public import proofs.«01_k».proof.Proof.Gen.PlefReferenceIdeal.Read
@[expose] public section
set_option maxRecDepth 16384
noncomputable section
open Idealize.ShloMosaic Idealize.ShloMosaic.TcCoe Idealize.SL.Sem
open Cert.Rows Cert.Gates
/-! The gated per-layer input embedding `h + sigmoid (rmsnorm h u) * (p v)`. -/
namespace Cert.Plef
/-- Its rows as an array; the gate and the projection are those of the gradient's theorem. -/
def outV (h : FVec Ideal ⟨2, ![8192, 1024]⟩ .f32) (p : FVec Ideal ⟨2, ![8192, 256]⟩ .f32) (g : FVec Ideal ⟨1, ![1024]⟩ .f32) (u : FVec Ideal ⟨2, ![1024, 1024]⟩ .f32)
    (v : FVec Ideal ⟨2, ![256, 1024]⟩ .f32) : FVec Ideal ⟨2, ![8192, 1024]⟩ .f32 :=
  fun i => h (ix2 (i 0) (i 1)) + sgm (Ple.pre (fun j => h (ix2 (i 0) j)) (fun j => g (ix1 j)) (fun i j => u (ix2 i j)) (i 1)) *
    Ple.proj (fun j => p (ix2 (i 0) j)) (fun i j => v (ix2 i j)) (i 1)
section
open Cert.PlefReferenceIdeal Cert.PlefReferenceIdeal.Read
variable (x0 : FVec Ideal S8192x1024 .f32) (x1 : FVec Ideal S8192x256 .f32) (x2 : FVec Ideal S1024 .f32) (x3 : FVec Ideal S1024x1024 .f32) (x4 : FVec Ideal S256x1024 .f32)
theorem ref_msq (a : Fin 8192): val_main_v6 (F := Ideal) x0 (ix2 a 0) = msq (fun j => x0 (ix2 a j)) := by
  pointwise [val_main_v6, val_main_v4, val_main_v2, val_main_v1, val_main_v0, val_main_cst, val_main_v3, val_main_cst_0, val_main_v5, val_main_cst_1, msq]
theorem ref_rms (a : Fin 8192) (k : Fin 1024) : val_main_v12 (F := Ideal) x0 x2 (ix2 a k) = rms (fun j => x0 (ix2 a j)) (fun j => x2 (ix1 j)) k := by
  pointwise [val_main_v12, val_main_v9, val_main_v8, val_main_v7, val_main_v11, val_main_v10, ref_msq, rms, rinv]
theorem ref_out (a : Fin 8192) (k : Fin 1024) : val_main_v22 (F := Ideal) x0 x1 x2 x3 x4 (ix2 a k) = x0 (ix2 a k) + sgm (Ple.pre (fun j => x0 (ix2 a j)) (fun j => x2 (ix1 j)) (fun i j => x3 (ix2 i j)) k) * Ple.proj (fun j => x1 (ix2 a j)) (fun i j => x4 (ix2 i j)) k := by
  pointwise [val_main_v22, val_main_v21, val_main_v19, val_main_v18, val_main_cst_3, val_main_v17, val_main_v16, val_main_cst_2, val_main_v15, val_main_v14, val_main_v13, val_main_v20, ref_rms, sgm, Ple.pre, Ple.proj]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v22) = outV (m (c.tc.loc main_arg0)) (m (c.tc.loc main_arg1)) (m (c.tc.loc main_arg2)) (m (c.tc.loc main_arg3)) (m (c.tc.loc main_arg4))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3)
 ∧ r.2.mem (c.tc.loc main_arg4) = m (c.tc.loc main_arg4) :=
  (θ_run defs _ _).mono (fun _ h c => by
    obtain ⟨h0, h1⟩ := h c
    refine ⟨(h0.trans (val_main_v22_eq ..)).trans (funext fun j => ?_), h1⟩
    · idx_vars j
      exact ref_out _ _ _ _ _ j0 j1) (Cert.PlefReferenceIdeal.Value.run m ρ)
end
section
open Cert.PlefKernelIdeal Cert.PlefKernelIdeal.Gen
variable (x0 : FVec Ideal S512x1024 .f32) (x1 : FVec Ideal S512x256 .f32) (x2 : FVec Ideal S1x1024 .f32) (x3 : FVec Ideal S1024x1024 .bf16) (x4 : FVec Ideal S256x1024 .bf16)
/-- One entry of a tile. -/
theorem ker_out (a : Fin 512) (k : Fin 1024) : k0_pay1 (F := Ideal) x0 x1 x2 x3 x4 (ix2 a k) =
    x0 (ix2 a k) + sgm (Ple.pre (fun j => x0 (ix2 a j)) (fun j => x2 (ix2 0 j)) (fun i j => x3 (ix2 i j)) k) * Ple.proj (fun j => x1 (ix2 a j)) (fun i j => x4 (ix2 i j)) k := by
  pointwise [k0_pay1, Ple.pre, Ple.proj, rms, rinv, msq, logistic_eq]
  exact add_comm _ _
variable (m : (ℓ : Loc nD τ sig) → Buf (Elt Ideal) ℓ)
/-- Where the windows stand at a grid point. -/
theorem idx : ∀ t : Fin cfg0.N, win0_0.index t = ![t.val, 0] ∧ win0_1.index t = ![t.val, 0] ∧ win0_2.index t = ![0, 0] ∧ win0_3.index t = ![0, 0] ∧
    win0_4.index t = ![0, 0] ∧ win0_5.index t = ![t.val, 0] :=
  (by decide +kernel : ∀ t : Fin grid0.N, _)
/-- The rows, the embedding, the gain and the two weights. -/
abbrev X (c : Dev nD) : FVec Ideal S8192x1024 .f32 := m ((c : Thread nD τ).loc main_arg0)
abbrev P (c : Dev nD) : FVec Ideal S8192x256 .f32 := m ((c : Thread nD τ).loc main_arg1)
abbrev G (c : Dev nD) : FVec Ideal S1024 .f32 := m ((c : Thread nD τ).loc main_arg2)
abbrev WG (c : Dev nD) : FVec Ideal S1024x1024 .f32 := m ((c : Thread nD τ).loc main_arg3)
abbrev WP (c : Dev nD) : FVec Ideal S256x1024 .f32 := m ((c : Thread nD τ).loc main_arg4)
theorem lt16 (t : Fin cfg0.N) : t.val < 16 := by have := t.isLt; have : cfg0.N = 16 := N_0; omega
/-- Row `a` of tile `t`. -/
abbrev row (t : Fin cfg0.N) (a : Fin 512) : Fin 8192 := ⟨512 * t.val + a.val, by have := lt16 t; omega⟩
/-- The tiles of the arguments. -/
theorem tile_x (c : Dev nD) (t : Fin cfg0.N) (a : Fin 512) (k : Fin 1024) : iblk m c 0 t (ix2 a k) = X m c (ix2 (row t a) k) := by
  blk_point [iblk, V, idx t]
theorem tile_p (c : Dev nD) (t : Fin cfg0.N) (a : Fin 512) (k : Fin 256) : iblk m c 1 t (ix2 a k) = P m c (ix2 (row t a) k) := by
  blk_point [iblk, V, idx t]
theorem tile_g (c : Dev nD) (t : Fin cfg0.N) (k : Fin 1024) : iblk m c 2 t (ix2 0 k) = G m c (ix1 k) := by
  have e : ((View.whole main_v0).slice (win0_2.rect t)).emb (ix2 0 k) = (ix2 0 k : S1x1024.Idx) := by
    blk_ext [idx t]
  blk_simp [iblk, V, idx t]
  entry_read
  refine (congrArg _ e).trans ?_
  pointwise
theorem tile_u (c : Dev nD) (t : Fin cfg0.N) (j k : Fin 1024) : iblk m c 3 t (ix2 j k) = WG m c (ix2 j k) := by
  have e : ((View.whole main_v1).slice (win0_3.rect t)).emb (ix2 j k) = (ix2 j k : S1024x1024.Idx) := by
    blk_ext [idx t]
  blk_simp [iblk, V, idx t]
  entry_read
  refine (congrArg _ e).trans ?_
  pointwise
theorem tile_v (c : Dev nD) (t : Fin cfg0.N) (j : Fin 256) (k : Fin 1024) : iblk m c 4 t (ix2 j k) = WP m c (ix2 j k) := by
  have e : ((View.whole main_v2).slice (win0_4.rect t)).emb (ix2 j k) = (ix2 j k : S256x1024.Idx) := by
    blk_ext [idx t]
  blk_simp [iblk, V, idx t]
  entry_read
  refine (congrArg _ e).trans ?_
  pointwise
/-- The rows with the gated embedding added. -/
theorem final_out (c : Dev nD) : (dats m 0 c).arrAt 5 cfg0.N = outV (X m c) (P m c) (G m c) (WG m c) (WP m c) := by
  refine (dats m 0 c).arrAt_eq_of_covers 5 _ (by decide +kernel) fun t hf y => ?_
  idx_vars y
  have e0 : (win0_5.blk t).view.emb (ix2 y0 y1) = ix2 (row t y0) y1 := by
    blk_ext [idx t]
  blk_simp
  rw [after0_5, e0]
  unfold out0_5
  frame_out
  refine (ker_out _ _ _ _ _ y0 y1).trans ?_
  simp only [tile_x, tile_p, tile_g, tile_u, tile_v]
  rfl
end
/-- The kernel's gated embedding is the reference's. -/
theorem algebraic : Cert.algebraic_PlefKernelIdeal_PlefReferenceIdeal := by
  pair_intro
  · run_from Cert.PlefKernelIdeal.Value.run_blocks m g
  · run_from ref_run m' g'
    · exact (final_out m c).symm
end Cert.Plef
-- ==== Proof.Glu.lean ====
module
public import proofs.«01_k».proof.Defs
public import proofs.«01_k».proof.Proof.Gates
public import proofs.«01_k».proof.Proof.Gen.GluKernelIdeal.Value
public import proofs.«01_k».proof.Proof.Gen.GluReferenceIdeal.Read
@[expose] public section
set_option maxRecDepth 16384
noncomputable section
open Idealize.ShloMosaic Idealize.ShloMosaic.TcCoe Idealize.SL.Sem
open Cert.Rows Cert.Gates
/-! The gradient of the S5 mixer's gated output `z * sigmoid (z w + b)` with `z = gelu y`. -/
namespace Cert.Glu
/-- The gate before the logistic function, for one row of `y`. -/
def pre (y : Fin 512 → EReal) (w : Fin 512 → Fin 512 → EReal) (b : Fin 512 → EReal) (k : Fin 512) : EReal :=
  (∑ j, gelu (y j) * w j k) + b k
/-- The cotangent of the gate. -/
def delta (y : Fin 512 → EReal) (w : Fin 512 → Fin 512 → EReal) (b g : Fin 512 → EReal) (k : Fin 512) : EReal :=
  gelu (y k) * g k * dsgm (pre y w b k)
/-- The cotangent of `z`. -/
def dz (y : Fin 512 → EReal) (w : Fin 512 → Fin 512 → EReal) (b g : Fin 512 → EReal) (k : Fin 512) : EReal :=
  g k * sgm (pre y w b k) + ∑ j, delta y w b g j * w k j
/-- A column of the first branch among the columns of all four. -/
abbrev col (j : Fin 512) : Fin 2048 := ⟨j.val, by omega⟩
section
open Cert.GluReferenceIdeal Cert.GluReferenceIdeal.Read
variable (x0 : FVec Ideal S8192x512 .f32) (x1 : FVec Ideal S512x512 .f32) (x2 : FVec Ideal S512 .f32) (x3 : FVec Ideal S8192x2048 .f32)
theorem ref_tanh (a : Fin 8192) (k : Fin 512) : val_main_v10 (F := Ideal) x0 (ix2 a k) = gtanh (x0 (ix2 a k)) := by
  pointwise [val_main_v10, val_main_v9, val_main_v8, val_main_cst_1, val_main_v7, val_main_v6, val_main_v5, val_main_cst_0, val_main_v1, val_main_v0, gtanh]
theorem ref_gelu (a : Fin 8192) (k : Fin 512) : val_main_v20 (F := Ideal) x0 (ix2 a k) = gelu (x0 (ix2 a k)) := by
  pointwise [val_main_v20, val_main_v19, val_main_v18, val_main_cst_5, val_main_v17, val_main_v16, val_main_cst_4, ref_tanh, gelu]
theorem ref_sig (a : Fin 8192) (k : Fin 512) : val_main_v30 (F := Ideal) x0 x1 x2 (ix2 a k) = sgm (pre (fun j => x0 (ix2 a j)) (fun i j => x1 (ix2 i j)) (fun j => x2 (ix1 j)) k) := by
  pointwise [val_main_v30, val_main_v29, val_main_cst_7, val_main_v28, val_main_v27, val_main_cst_6, val_main_v26, val_main_v25, val_main_v24, val_main_v21, val_main_v23, val_main_v22, ref_gelu, sgm, pre]
theorem ref_delta (a : Fin 8192) (k : Fin 512) : val_main_v38 (F := Ideal) x0 x1 x2 x3 (ix2 a k) = delta (fun j => x0 (ix2 a j)) (fun i j => x1 (ix2 i j)) (fun j => x2 (ix1 j)) (fun j => x3 (ix2 a (col j))) k := by
  pointwise [val_main_v38, val_main_v36, val_main_v35, val_main_v33, val_main_v32, val_main_v31, val_main_cst_8, ref_gelu, ref_sig, delta, dsgm]
theorem ref_dz (a : Fin 8192) (k : Fin 512) : val_main_v45 (F := Ideal) x0 x1 x2 x3 (ix2 a k) = dz (fun j => x0 (ix2 a j)) (fun i j => x1 (ix2 i j)) (fun j => x2 (ix1 j)) (fun j => x3 (ix2 a (col j))) k := by
  pointwise [val_main_v45, val_main_v37, val_main_v35, val_main_v44, ref_sig, ref_delta, dz]
theorem ref_dy (a : Fin 8192) (k : Fin 512) : val_main_v57 (F := Ideal) x0 x1 x2 x3 (ix2 a k) = dgelu (x0 (ix2 a k)) (dz (fun j => x0 (ix2 a j)) (fun i j => x1 (ix2 i j)) (fun j => x2 (ix1 j)) (fun j => x3 (ix2 a (col j))) k) := by
  pointwise [val_main_v57, val_main_v53, val_main_v47, val_main_v19, val_main_v18, val_main_cst_5, val_main_v17, val_main_v16, val_main_cst_4, val_main_v52, val_main_v51, val_main_cst_12, val_main_v50, val_main_v49, val_main_v48, val_main_cst_11, val_main_v46, val_main_v15, val_main_v12, val_main_v11, val_main_cst_2, val_main_v14, val_main_v13, val_main_cst_3, val_main_v56, val_main_v55, val_main_v54, val_main_cst_13, val_main_v4, val_main_v3, val_main_cst, val_main_v2, ref_dz, ref_tanh, dgelu, garg]
theorem ref_dw (j k : Fin 512) : val_main_v43 (F := Ideal) x0 x1 x2 x3 (ix2 j k) = ∑ a : Fin 8192, gelu (x0 (ix2 a j)) * delta (fun j => x0 (ix2 a j)) (fun i j => x1 (ix2 i j)) (fun j => x2 (ix1 j)) (fun j => x3 (ix2 a (col j))) k := by
  pointwise [val_main_v43, val_main_v42, ref_delta, ref_gelu]
  exact Finset.sum_congr rfl fun a _ => mul_comm _ _
theorem ref_db (k : Fin 512) : val_main_v58 (F := Ideal) x0 x1 x2 x3 (ix2 0 k) = ∑ a : Fin 8192, delta (fun j => x0 (ix2 a j)) (fun i j => x1 (ix2 i j)) (fun j => x2 (ix1 j)) (fun j => x3 (ix2 a (col j))) k := by
  pointwise [val_main_v58, val_main_v41, val_main_v40, val_main_v39, val_main_cst_9, val_main_cst_10, ref_delta, Fin.sum_univ_one]
/-- The three gradients as arrays. -/
def dyV (y : FVec Ideal ⟨2, ![8192, 512]⟩ .f32) (w : FVec Ideal ⟨2, ![512, 512]⟩ .f32) (b : FVec Ideal ⟨1, ![512]⟩ .f32) (g : FVec Ideal ⟨2, ![8192, 2048]⟩ .f32) :
    FVec Ideal ⟨2, ![8192, 512]⟩ .f32 :=
  fun i => dgelu (y (ix2 (i 0) (i 1))) (dz (fun j => y (ix2 (i 0) j)) (fun i j => w (ix2 i j)) (fun j => b (ix1 j)) (fun j => g (ix2 (i 0) (col j))) (i 1))
def dwV (y : FVec Ideal ⟨2, ![8192, 512]⟩ .f32) (w : FVec Ideal ⟨2, ![512, 512]⟩ .f32) (b : FVec Ideal ⟨1, ![512]⟩ .f32) (g : FVec Ideal ⟨2, ![8192, 2048]⟩ .f32) :
    FVec Ideal ⟨2, ![512, 512]⟩ .f32 :=
  fun i => ∑ a : Fin 8192, gelu (y (ix2 a (i 0))) * delta (fun j => y (ix2 a j)) (fun i j => w (ix2 i j)) (fun j => b (ix1 j)) (fun j => g (ix2 a (col j))) (i 1)
def dbV (y : FVec Ideal ⟨2, ![8192, 512]⟩ .f32) (w : FVec Ideal ⟨2, ![512, 512]⟩ .f32) (b : FVec Ideal ⟨1, ![512]⟩ .f32) (g : FVec Ideal ⟨2, ![8192, 2048]⟩ .f32) :
    FVec Ideal ⟨2, ![1, 512]⟩ .f32 :=
  fun i => ∑ a : Fin 8192, delta (fun j => y (ix2 a j)) (fun i j => w (ix2 i j)) (fun j => b (ix1 j)) (fun j => g (ix2 a (col j))) (i 1)
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v57) = dyV (m (c.tc.loc main_arg0)) (m (c.tc.loc main_arg1)) (m (c.tc.loc main_arg2)) (m (c.tc.loc main_arg3))
 ∧ r.2.mem (c.tc.loc main_v43) = dwV (m (c.tc.loc main_arg0)) (m (c.tc.loc main_arg1)) (m (c.tc.loc main_arg2)) (m (c.tc.loc main_arg3))
 ∧ r.2.mem (c.tc.loc main_v58) = dbV (m (c.tc.loc main_arg0)) (m (c.tc.loc main_arg1)) (m (c.tc.loc main_arg2)) (m (c.tc.loc main_arg3))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2)
 ∧ r.2.mem (c.tc.loc main_arg3) = m (c.tc.loc main_arg3) :=
  (θ_run defs _ _).mono (fun _ h c => by
    obtain ⟨h0, h1, h2, h3⟩ := h c
    refine ⟨(h0.trans (val_main_v57_eq ..)).trans (funext fun j => ?_), (h1.trans (val_main_v43_eq ..)).trans (funext fun j => ?_), (h2.trans (val_main_v58_eq ..)).trans (funext fun j => ?_), h3⟩
    · idx_vars j
      exact ref_dy _ _ _ _ j0 j1
    · idx_vars j
      exact ref_dw _ _ _ _ j0 j1
    · idx_vars j
      obtain rfl : j0 = 0 := Subsingleton.elim _ _
      exact ref_db _ _ _ _ j1) (Cert.GluReferenceIdeal.Value.run m ρ)
end
section
open Cert.GluKernelIdeal Cert.GluKernelIdeal.Gen
variable (x0 x3 : FVec Ideal S512x512 .f32) (x1 : FVec Ideal S512x512 .bf16) (x2 : FVec Ideal S1x512 .f32)
theorem ker_tanh (a k : Fin 512) : k0_pay9 (F := Ideal) x0 (ix2 a k) = gtanh (x0 (ix2 a k)) := by
  pointwise [k0_pay9, k0_pay8, k0_pay7, gtanh]
  ac_rfl
theorem ker_gelu (a k : Fin 512) : k0_pay12 (F := Ideal) x0 (ix2 a k) = gelu (x0 (ix2 a k)) := by
  pointwise [k0_pay12, k0_pay6, k0_pay11, ker_tanh, gelu]
  ac_rfl
theorem ker_sgm (a k : Fin 512) : k0_pay13 (F := Ideal) x0 x1 x2 (ix2 a k) = sgm (pre (fun j => x0 (ix2 a j)) (fun i j => x1 (ix2 i j)) (fun j => x2 (ix2 0 j)) k) := by
  pointwise [k0_pay13, k0_pay5, ker_gelu, pre, logistic_eq]
theorem ker_delta (a k : Fin 512) : k0_pay15 (F := Ideal) x0 x1 x2 x3 (ix2 a k) = delta (fun j => x0 (ix2 a j)) (fun i j => x1 (ix2 i j)) (fun j => x2 (ix2 0 j)) (fun j => x3 (ix2 a j)) k := by
  pointwise [k0_pay15, ker_gelu, ker_sgm, delta, dsgm]
theorem ker_dz (a k : Fin 512) : k0_pay2 (F := Ideal) x0 (k0_pay6 x0) (k0_pay7 x0) (k0_pay8 x0) (k0_pay10 x0) (k0_pay11 x0) (k0_pay14 x0 x1 x2 x3) (k0_pay17 x0 x1 x2 x3) (k0_pay18 x1) (constant S512x512 .f32 0x00000000#32) (ix2 a k) =
    dgelu (x0 (ix2 a k)) (dz (fun j => x0 (ix2 a j)) (fun i j => x1 (ix2 i j)) (fun j => x2 (ix2 0 j)) (fun j => x3 (ix2 a j)) k) := by
  have e : dz (fun j => x0 (ix2 a j)) (fun i j => x1 (ix2 i j)) (fun j => x2 (ix2 0 j)) (fun j => x3 (ix2 a j)) k =
      (addf (F := Ideal) (k0_pay14 x0 x1 x2 x3) (matmul dot_S512x512_S512x512_S512x512_1_1_0_0_n_n none (k0_pay17 x0 x1 x2 x3) (k0_pay18 x1) (constant S512x512 .f32 0x00000000#32)) : FVec Ideal S512x512 .f32) (ix2 a k) := by
    pointwise [k0_pay14, k0_pay17, k0_pay18, k0_pay5, ker_sgm, ker_delta, dz]
  rw [e]
  unfold k0_pay2
  generalize addf (F := Ideal) (k0_pay14 x0 x1 x2 x3) (matmul dot_S512x512_S512x512_S512x512_1_1_0_0_n_n none (k0_pay17 x0 x1 x2 x3) (k0_pay18 x1) (constant S512x512 .f32 0x00000000#32)) = d
  pointwise [k0_pay6, k0_pay7, k0_pay8, k0_pay10, k0_pay11, ker_tanh, dgelu, garg]
  rw [show ∀ E x : EReal, Ideal.ofBits .f32 0x3D372713#32 * E * (Ideal.ofBits .f32 0x40400000#32 * (x * x)) =
      Ideal.ofBits .f32 0x40400000#32 * (Ideal.ofBits .f32 0x3D372713#32 * E * (x * x)) from fun E x => by ac_rfl, three_mul_eq]
  generalize gtanh (x0 (ix2 a k)) = t
  generalize x0 (ix2 a k) = x
  generalize d (ix2 a k) = D
  generalize Ideal.ofBits .f32 0x3F4C422A#32 = c
  generalize Ideal.ofBits .f32 0x3D372713#32 = e
  generalize Ideal.ofBits .f32 0x3F000000#32 = q
  rw [show c * (q * x * D * ((1 + t) * (1 - t))) = c * (q * (x * D) * ((1 + t) * (1 - t))) by ac_rfl]
  generalize c * (q * (x * D) * ((1 + t) * (1 - t))) = v
  rw [show e * x * x * v = e * v * (x * x) by ac_rfl, show e * x * (v * x) = e * v * (x * x) by ac_rfl,
    show e * (v * x * x) = e * v * (x * x) by ac_rfl, show q * (D * (1 + t)) = D * (q * (1 + t)) by ac_rfl]
  generalize e * v * (x * x) = p
  generalize D * (q * (1 + t)) = r
  ac_rfl
theorem ker_dw (j k : Fin 512) : k0_pay1 (F := Ideal) (k0_pay12 x0) (k0_pay15 x0 x1 x2 x3) (ix2 j k) =
    ∑ a : Fin 512, gelu (x0 (ix2 a j)) * delta (fun j => x0 (ix2 a j)) (fun i j => x1 (ix2 i j)) (fun j => x2 (ix2 0 j)) (fun j => x3 (ix2 a j)) k := by
  pointwise [k0_pay1, ker_gelu, ker_delta]
theorem ker_db (k : Fin 512) : k0_pay16 (F := Ideal) x0 x1 x2 x3 (ix2 0 k) =
    ∑ a : Fin 512, delta (fun j => x0 (ix2 a j)) (fun i j => x1 (ix2 i j)) (fun j => x2 (ix2 0 j)) (fun j => x3 (ix2 a j)) k := by
  pointwise [k0_pay16, ker_delta]
variable (m : (ℓ : Loc nD τ sig) → Buf (Elt Ideal) ℓ)
/-- Where the windows stand at a grid point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![0, 0] ∧ win0_6.index t = ![0, 0] :=
  (by decide +kernel : ∀ t : Fin grid0.N, _)
/-- The input of the gate, its weight, its bias, and the cotangent of all four branches. -/
abbrev Y (c : Dev nD) : FVec Ideal S8192x512 .f32 := m ((c : Thread nD τ).loc main_arg0)
abbrev W (c : Dev nD) : FVec Ideal S512x512 .f32 := m ((c : Thread nD τ).loc main_arg1)
abbrev B (c : Dev nD) : FVec Ideal S512 .f32 := m ((c : Thread nD τ).loc main_arg2)
abbrev G (c : Dev nD) : FVec Ideal S8192x2048 .f32 := m ((c : Thread nD τ).loc main_arg3)
theorem lt16 (t : Fin cfg0.N) : t.val < 16 := by have := t.isLt; have : cfg0.N = 16 := N_0; omega
/-- Row `a` of tile `t`. -/
abbrev row (t : Fin cfg0.N) (a : Fin 512) : Fin 8192 := ⟨512 * t.val + a.val, by have := lt16 t; omega⟩
/-- The last grid point. -/
abbrev last : Fin cfg0.N := ⟨15, by decide⟩
/-- The tiles of the arguments. -/
theorem tile_y (c : Dev nD) (t : Fin cfg0.N) (a k : Fin 512) : iblk m c 0 t (ix2 a k) = Y m c (ix2 (row t a) k) := by
  blk_point [iblk, V, idx t]
theorem tile_g (c : Dev nD) (t : Fin cfg0.N) (a k : Fin 512) : iblk m c 3 t (ix2 a k) = G m c (ix2 (row t a) (col k)) := by
  blk_point [iblk, V, idx t]
theorem tile_w (c : Dev nD) (t : Fin cfg0.N) (j k : Fin 512) : iblk m c 1 t (ix2 j k) = W m c (ix2 j k) := by
  have e : ((View.whole main_v0).slice (win0_1.rect t)).emb (ix2 j k) = (ix2 j k : S512x512.Idx) := by
    blk_ext [idx t]
  blk_simp [iblk, V, idx t]
  entry_read
  refine (congrArg _ e).trans ?_
  pointwise
theorem tile_b (c : Dev nD) (t : Fin cfg0.N) (k : Fin 512) : iblk m c 2 t (ix2 0 k) = B m c (ix1 k) := by
  have e : ((View.whole main_v1).slice (win0_2.rect t)).emb (ix2 0 k) = (ix2 0 k : S1x512.Idx) := by
    blk_ext [idx t]
  blk_simp [iblk, V, idx t]
  entry_read
  refine (congrArg _ e).trans ?_
  pointwise
/-- The gradient of the input. -/
theorem final_dy (c : Dev nD) : (dats m 0 c).arrAt 4 cfg0.N = dyV (Y m c) (W m c) (B m c) (G m c) := by
  refine (dats m 0 c).arrAt_eq_of_covers 4 _ (by decide +kernel) fun t hf y => ?_
  idx_vars y
  have e0 : (win0_4.blk t).view.emb (ix2 y0 y1) = ix2 (row t y0) y1 := by
    blk_ext [idx t]
  blk_simp
  rw [after0_4, e0]
  have := lt16 t
  by_cases h : t.val % 16 = 0
  on_goal 1 => rw [outsAt0_A m c t h (by omega) h (by omega)]
  on_goal 2 => rw [outsAt0_B m c t h (by omega) h (by omega)]
  all_goals
    frame_out
    refine (ker_dz _ _ _ _ y0 y1).trans ?_
    simp only [tile_y, tile_w, tile_b, tile_g]
    rfl
/-- A sum over the tiles is the sum over the rows. -/
theorem sum_rows (f : Fin 8192 → EReal) : ∑ t : Fin cfg0.N, ∑ a : Fin 512, f (row t a) = ∑ a : Fin 8192, f a := by
  refine Eq.trans ?_ (Fin.sum_univ_tiles 16 512 rfl f).symm
  exact Finset.sum_congr rfl fun t _ => Finset.sum_congr rfl fun a _ => congrArg f (Fin.ext (by
    show 512 * t.val + a.val = t.val * 512 + a.val; omega))
/-- The gradient of the weight. -/
theorem final_dw (c : Dev nD) : (dats m 0 c).arrAt 5 cfg0.N = dwV (Y m c) (W m c) (B m c) (G m c) := by
  refine (dats m 0 c).arrAt_eq_of_after_last 5 last (by decide +kernel) _ fun j => ?_
  idx_vars j
  blk_simp
  have e := Pipeline.eq_sum_fin_of_reset_step_apply_last (M := EReal) (fun n h => (outsAt0 m c n h).2.1) 16 (fun _ => (0 : EReal))
    (fun t i => ∑ a : Fin 512, gelu (Y m c (ix2 (row t a) (i 0))) * delta (fun j => Y m c (ix2 (row t a) j)) (fun i j => W m c (ix2 i j)) (fun j => B m c (ix1 j)) (fun j => G m c (ix2 (row t a) (col j))) (i 1))
    (fun t h i => by
      have := lt16 t
      idx_vars i
      rw [outsAt0_A m c t h (by omega) h (by omega)]
      frame_out
      refine (ker_dw _ _ _ _ _ _).trans ?_
      simp only [tile_y, tile_w, tile_b, tile_g, zero_add])
    (fun t h i => by
      have := lt16 t
      idx_vars i
      rw [outsAt0_B m c t h (by omega) h (by omega)]
      frame_out
      pointwise [k0_pay3]
      refine congrArg _ ((ker_dw _ _ _ _ _ _).trans ?_)
      simp only [tile_y, tile_w, tile_b, tile_g])
    (le_of_eq N_0) last rfl (ix2 j0 j1)
  rw [after0_5]
  refine e.trans ?_
  rw [zero_add]
  exact sum_rows fun a => gelu (Y m c (ix2 a j0)) * delta (fun j => Y m c (ix2 a j)) (fun i j => W m c (ix2 i j)) (fun j => B m c (ix1 j)) (fun j => G m c (ix2 a (col j))) j1
/-- The gradient of the bias. -/
theorem final_db (c : Dev nD) : (dats m 0 c).arrAt 6 cfg0.N = dbV (Y m c) (W m c) (B m c) (G m c) := by
  refine (dats m 0 c).arrAt_eq_of_after_last 6 last (by decide +kernel) _ fun j => ?_
  idx_vars j
  obtain rfl : j0 = 0 := Subsingleton.elim _ _
  blk_simp
  have e := Pipeline.eq_sum_fin_of_reset_step_apply_last (M := EReal) (fun n h => (outsAt0 m c n h).2.2) 16 (fun _ => (0 : EReal))
    (fun t i => ∑ a : Fin 512, delta (fun j => Y m c (ix2 (row t a) j)) (fun i j => W m c (ix2 i j)) (fun j => B m c (ix1 j)) (fun j => G m c (ix2 (row t a) (col j))) (i 1))
    (fun t h i => by
      have := lt16 t
      idx_vars i
      obtain rfl : i0 = 0 := Subsingleton.elim _ _
      rw [outsAt0_A m c t h (by omega) h (by omega)]
      frame_out
      refine (ker_db _ _ _ _ _).trans ?_
      simp only [tile_y, tile_w, tile_b, tile_g, zero_add])
    (fun t h i => by
      have := lt16 t
      idx_vars i
      obtain rfl : i0 = 0 := Subsingleton.elim _ _
      rw [outsAt0_B m c t h (by omega) h (by omega)]
      frame_out
      pointwise [k0_pay4]
      refine congrArg _ ((ker_db _ _ _ _ _).trans ?_)
      simp only [tile_y, tile_w, tile_b, tile_g])
    (le_of_eq N_0) last rfl (ix2 0 j1)
  rw [after0_6]
  refine e.trans ?_
  rw [zero_add]
  exact sum_rows fun a => delta (fun j => Y m c (ix2 a j)) (fun i j => W m c (ix2 i j)) (fun j => B m c (ix1 j)) (fun j => G m c (ix2 a (col j))) j1
end
/-- The kernel's gradients of the gated output are the reference's. -/
theorem algebraic : Cert.algebraic_GluKernelIdeal_GluReferenceIdeal := by
  pair_intro
  · run_from Cert.GluKernelIdeal.Value.run_blocks m g
  · run_from ref_run m' g'
    · exact (final_dy m c).symm
    · exact (final_dw m c).symm
    · exact (final_db m c).symm
end Cert.Glu
-- ==== Proof.Gluf.lean ====
module
public import proofs.«01_k».proof.Proof.Glu
public import proofs.«01_k».proof.Proof.Gen.GlufKernelIdeal.Value
public import proofs.«01_k».proof.Proof.Gen.GlufReferenceIdeal.Read
@[expose] public section
set_option maxRecDepth 16384
noncomputable section
open Idealize.ShloMosaic Idealize.ShloMosaic.TcCoe Idealize.SL.Sem
open Cert.Rows Cert.Gates
/-! The S5 mixer's gated output `z * sigmoid (z w + b)` with `z = gelu y`. -/
namespace Cert.Gluf
/-- The gated output as an array; the gate is the one of the gradient's theorem. -/
def outV (y : FVec Ideal ⟨2, ![8192, 512]⟩ .f32) (w : FVec Ideal ⟨2, ![512, 512]⟩ .f32) (b : FVec Ideal ⟨1, ![512]⟩ .f32) : FVec Ideal ⟨2, ![8192, 512]⟩ .f32 :=
  fun i => gelu (y (ix2 (i 0) (i 1))) * sgm (Glu.pre (fun j => y (ix2 (i 0) j)) (fun i j => w (ix2 i j)) (fun j => b (ix1 j)) (i 1))
section
open Cert.GlufReferenceIdeal Cert.GlufReferenceIdeal.Read
variable (x0 : FVec Ideal S8192x512 .f32) (x1 : FVec Ideal S512x512 .f32) (x2 : FVec Ideal S512 .f32)
theorem ref_gelu (a : Fin 8192) (k : Fin 512) : val_main_v12 (F := Ideal) x0 (ix2 a k) = gelu (x0 (ix2 a k)) := by
  pointwise [val_main_v12, val_main_v11, val_main_v10, val_main_cst_2, val_main_v9, val_main_v8, val_main_cst_1, val_main_v7, val_main_v6, val_main_v5, val_main_cst_0, val_main_v4, val_main_v3, val_main_v2, val_main_cst, val_main_v1, val_main_v0, gelu, gtanh]
theorem ref_out (a : Fin 8192) (k : Fin 512) : val_main_v23 (F := Ideal) x0 x1 x2 (ix2 a k) = gelu (x0 (ix2 a k)) * sgm (Glu.pre (fun j => x0 (ix2 a j)) (fun i j => x1 (ix2 i j)) (fun j => x2 (ix1 j)) k) := by
  pointwise [val_main_v23, val_main_v22, val_main_v21, val_main_cst_4, val_main_v20, val_main_v19, val_main_cst_3, val_main_v18, val_main_v17, val_main_v16, val_main_v13, val_main_v15, val_main_v14, ref_gelu, sgm, Glu.pre]
/-- The reference's run, its results named. -/
theorem ref_run (m : (ℓ : Loc nD τ sig) → Buf (Elt Ideal) ℓ) (ρ : Dev nD → PrngReg) :
 θ_run defs (onTc (τ := τ) (main (F := Ideal))) ⟨m, fun _ => 0, ρ⟩ fun r => ∀ c : Dev nD,
      r.2.mem (c.tc.loc main_v23) = outV (m (c.tc.loc main_arg0)) (m (c.tc.loc main_arg1)) (m (c.tc.loc main_arg2))
 ∧ r.2.mem (c.tc.loc main_arg0) = m (c.tc.loc main_arg0)
 ∧ r.2.mem (c.tc.loc main_arg1) = m (c.tc.loc main_arg1)
 ∧ r.2.mem (c.tc.loc main_arg2) = m (c.tc.loc main_arg2) :=
  (θ_run defs _ _).mono (fun _ h c => by
    obtain ⟨h0, h1⟩ := h c
    refine ⟨(h0.trans (val_main_v23_eq ..)).trans (funext fun j => ?_), h1⟩
    · idx_vars j
      exact ref_out _ _ _ j0 j1) (Cert.GlufReferenceIdeal.Value.run m ρ)
end
section
open Cert.GlufKernelIdeal Cert.GlufKernelIdeal.Gen
variable (x0 : FVec Ideal S512x512 .f32) (x1 : FVec Ideal S512x512 .bf16) (x2 : FVec Ideal S1x512 .f32)
/-- The kernel's order of the factors of `gelu`. -/
theorem gelu_eq (x : EReal) : Ideal.ofBits .f32 0x3F000000#32 * x * (1 + gtanh x) = gelu x := by
  unfold gelu
  ac_rfl
theorem gtanh_eq (x : EReal) : Ideal.tanh (Ideal.ofBits .f32 0x3F4C422A#32 * (x + Ideal.ofBits .f32 0x3D372713#32 * x * x * x)) = gtanh x := by
  unfold gtanh
  ac_rfl
/-- One entry of a tile. -/
theorem ker_out (a k : Fin 512) : k0_pay1 (F := Ideal) x0 x1 x2 (ix2 a k) = gelu (x0 (ix2 a k)) * sgm (Glu.pre (fun j => x0 (ix2 a j)) (fun i j => x1 (ix2 i j)) (fun j => x2 (ix2 0 j)) k) := by
  pointwise [k0_pay1, Glu.pre, gtanh_eq, gelu_eq, logistic_eq]
variable (m : (ℓ : Loc nD τ sig) → Buf (Elt Ideal) ℓ)
/-- Where the windows stand at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)
/-- The input of the gate, its weight and its bias. -/
abbrev Y (c : Dev nD) : FVec Ideal S8192x512 .f32 := m ((c : Thread nD τ).loc main_arg0)
abbrev W (c : Dev nD) : FVec Ideal S512x512 .f32 := m ((c : Thread nD τ).loc main_arg1)
abbrev B (c : Dev nD) : FVec Ideal S512 .f32 := m ((c : Thread nD τ).loc main_arg2)
theorem lt16 (t : Fin cfg0.N) : t.val < 16 := by have := t.isLt; have : cfg0.N = 16 := N_0; omega
/-- Row `a` of tile `t`. -/
abbrev row (t : Fin cfg0.N) (a : Fin 512) : Fin 8192 := ⟨512 * t.val + a.val, by have := lt16 t; omega⟩
/-- The tiles of the arguments. -/
theorem tile_y (c : Dev nD) (t : Fin cfg0.N) (a k : Fin 512) : iblk m c 0 t (ix2 a k) = Y m c (ix2 (row t a) k) := by
  blk_point [iblk, V, idx t]
theorem tile_w (c : Dev nD) (t : Fin cfg0.N) (j k : Fin 512) : iblk m c 1 t (ix2 j k) = W m c (ix2 j k) := by
  have e : ((View.whole main_v0).slice (win0_1.rect t)).emb (ix2 j k) = (ix2 j k : S512x512.Idx) := by
    blk_ext [idx t]
  blk_simp [iblk, V, idx t]
  entry_read
  refine (congrArg _ e).trans ?_
  pointwise
theorem tile_b (c : Dev nD) (t : Fin cfg0.N) (k : Fin 512) : iblk m c 2 t (ix2 0 k) = B m c (ix1 k) := by
  have e : ((View.whole main_v1).slice (win0_2.rect t)).emb (ix2 0 k) = (ix2 0 k : S1x512.Idx) := by
    blk_ext [idx t]
  blk_simp [iblk, V, idx t]
  entry_read
  refine (congrArg _ e).trans ?_
  pointwise
/-- The gated output. -/
theorem final_out (c : Dev nD) : (dats m 0 c).arrAt 3 cfg0.N = outV (Y m c) (W m c) (B m c) := by
  refine (dats m 0 c).arrAt_eq_of_covers 3 _ (by decide +kernel) fun t hf y => ?_
  idx_vars y
  have e0 : (win0_3.blk t).view.emb (ix2 y0 y1) = ix2 (row t y0) y1 := by
    blk_ext [idx t]
  blk_simp
  rw [after0_3, e0]
  unfold out0_3
  frame_out
  refine (ker_out _ _ _ y0 y1).trans ?_
  simp only [tile_y, tile_w, tile_b]
  rfl
end
/-- The kernel's gated output is the reference's. -/
theorem algebraic : Cert.algebraic_GlufKernelIdeal_GlufReferenceIdeal := by
  pair_intro
  · run_from Cert.GlufKernelIdeal.Value.run_blocks m g
  · run_from ref_run m' g'
    · exact (final_out m c).symm
end Cert.Gluf
-- ==== Proof.lean ====
/- The claim: every program leaves its arguments as they were, and each kernel gives what its reference gives. -/
module
public import proofs.«01_k».proof.Proof.Gen.NlfKernel.Frame
public import proofs.«01_k».proof.Proof.Gen.LinfKernel.Frame
public import proofs.«01_k».proof.Proof.Gen.LinKernel.Frame
public import proofs.«01_k».proof.Proof.Gen.AdamKernel.Frame
public import proofs.«01_k».proof.Proof.Gen.OpsfKernel.Frame
public import proofs.«01_k».proof.Proof.Gen.GlufKernel.Frame
public import proofs.«01_k».proof.Proof.Gen.PlefKernel.Frame
public import proofs.«01_k».proof.Proof.Gen.FfnfKernel.Frame
public import proofs.«01_k».proof.Proof.Gen.MergefKernel.Frame
public import proofs.«01_k».proof.Proof.Gen.S5fKernel.Frame
public import proofs.«01_k».proof.Proof.Gen.NormKernel.Frame
public import proofs.«01_k».proof.Proof.Gen.LossKernel.Frame
public import proofs.«01_k».proof.Proof.Gen.GluKernel.Frame
public import proofs.«01_k».proof.Proof.Gen.PleKernel.Frame
public import proofs.«01_k».proof.Proof.Gen.FfnKernel.Frame
public import proofs.«01_k».proof.Proof.Gen.MergeKernel.Frame
public import proofs.«01_k».proof.Proof.Gen.OpsKernel.Frame
public import proofs.«01_k».proof.Proof.Norm
public import proofs.«01_k».proof.Proof.Loss
public import proofs.«01_k».proof.Proof.Opsf
public import proofs.«01_k».proof.Proof.Adam
public import proofs.«01_k».proof.Proof.Lin
public import proofs.«01_k».proof.Proof.Linf
public import proofs.«01_k».proof.Proof.Nlf
public import proofs.«01_k».proof.Proof.S5f
public import proofs.«01_k».proof.Proof.Mergef
public import proofs.«01_k».proof.Proof.Ffnf
public import proofs.«01_k».proof.Proof.Plef
public import proofs.«01_k».proof.Proof.Gluf
public import proofs.«01_k».proof.Proof.Gen.LruKernel.Frame
public import proofs.«01_k».proof.Proof.Gen.LruKernelIdeal.Frame
public import proofs.«01_k».proof.Proof.Gen.LruReferenceIdeal.Run
public import proofs.«01_k».proof.Proof.Gen.S5Kernel.Frame
@[expose] public section
noncomputable section
namespace Cert.Proof
open Idealize.ShloMosaic Idealize.SL.Sem
/-- The claims, in the order stated. -/
theorem claim : Cert.Claim := ⟨NormKernel.Gen.facts, NormKernelIdeal.Gen.facts, NormReferenceIdeal.Gen.facts,
 LossKernel.Gen.facts, LossKernelIdeal.Gen.facts, LossReferenceIdeal.Gen.facts,
 OpsKernel.Gen.facts, OpsKernelIdeal.Gen.facts, OpsReferenceIdeal.Gen.facts,
 GluKernel.Gen.facts, GluKernelIdeal.Gen.facts, GluReferenceIdeal.Gen.facts,
 PleKernel.Gen.facts, PleKernelIdeal.Gen.facts, PleReferenceIdeal.Gen.facts,
 FfnKernel.Gen.facts, FfnKernelIdeal.Gen.facts, FfnReferenceIdeal.Gen.facts,
 MergeKernel.Gen.facts, MergeKernelIdeal.Gen.facts, MergeReferenceIdeal.Gen.facts,
 S5Kernel.Gen.facts, S5KernelIdeal.Gen.facts, S5ReferenceIdeal.Gen.facts,
 LruKernel.Gen.facts, LruKernelIdeal.Gen.facts, LruReferenceIdeal.Gen.facts,
 GlufKernel.Gen.facts, GlufKernelIdeal.Gen.facts, GlufReferenceIdeal.Gen.facts,
 PlefKernel.Gen.facts, PlefKernelIdeal.Gen.facts, PlefReferenceIdeal.Gen.facts,
 FfnfKernel.Gen.facts, FfnfKernelIdeal.Gen.facts, FfnfReferenceIdeal.Gen.facts,
 MergefKernel.Gen.facts, MergefKernelIdeal.Gen.facts, MergefReferenceIdeal.Gen.facts,
 S5fKernel.Gen.facts, S5fKernelIdeal.Gen.facts, S5fReferenceIdeal.Gen.facts,
 NlfKernel.Gen.facts, NlfKernelIdeal.Gen.facts, NlfReferenceIdeal.Gen.facts,
 LinfKernel.Gen.facts, LinfKernelIdeal.Gen.facts, LinfReferenceIdeal.Gen.facts,
 LinKernel.Gen.facts, LinKernelIdeal.Gen.facts, LinReferenceIdeal.Gen.facts,
 AdamKernel.Gen.facts, AdamKernelIdeal.Gen.facts, AdamReferenceIdeal.Gen.facts,
 OpsfKernel.Gen.facts, OpsfKernelIdeal.Gen.facts, OpsfReferenceIdeal.Gen.facts,
 Ops.pre_facts, Merge.pre_facts, S5.pre_facts, Mergef.pre_facts, S5f.pre_facts, Opsf.pre_facts,
 fun m ρ _ => NormKernel.Gen.frame m ρ,
 fun m ρ _ => NormKernelIdeal.Gen.frame m ρ,
 fun m ρ _ => (θ_run NormReferenceIdeal.defs _ _).mono (fun r h => ⟨fun c => (h c).2.2, sem_eq_zero_of_no_sems (by decide) r.2⟩) (Norm.ref_run m ρ),
 fun m ρ _ => LossKernel.Gen.frame m ρ,
 fun m ρ _ => LossKernelIdeal.Gen.frame m ρ,
 fun m ρ _ => (θ_run LossReferenceIdeal.defs _ _).mono (fun r h => ⟨fun c => (h c).2.2.2, sem_eq_zero_of_no_sems (by decide) r.2⟩) (Loss.ref_run m ρ),
 fun m ρ _ => OpsKernel.Gen.frame m ρ,
 fun m ρ _ => OpsKernelIdeal.Gen.frame m ρ,
 fun m ρ _ => OpsKernelIdeal.Gen.frame m ρ,
 fun m ρ _ => (θ_run OpsReferenceIdeal.defs _ _).mono (fun r h => ⟨fun c => (h c).2.2.2.2.2, sem_eq_zero_of_no_sems (by decide) r.2⟩) (Ops.ref_run m ρ),
 fun m ρ _ => (θ_run OpsReferenceIdeal.defs _ _).mono (fun r h => ⟨fun c => (h c).2.2.2.2.2, sem_eq_zero_of_no_sems (by decide) r.2⟩) (Ops.ref_run m ρ),
 fun m ρ _ => GluKernel.Gen.frame m ρ,
 fun m ρ _ => GluKernelIdeal.Gen.frame m ρ,
 fun m ρ _ => (θ_run GluReferenceIdeal.defs _ _).mono (fun r h => ⟨fun c => (h c).2.2.2, sem_eq_zero_of_no_sems (by decide) r.2⟩) (Glu.ref_run m ρ),
 fun m ρ _ => PleKernel.Gen.frame m ρ,
 fun m ρ _ => PleKernelIdeal.Gen.frame m ρ,
 fun m ρ _ => (θ_run PleReferenceIdeal.defs _ _).mono (fun r h => ⟨fun c => (h c).2.2.2.2, sem_eq_zero_of_no_sems (by decide) r.2⟩) (Ple.ref_run m ρ),
 fun m ρ _ => FfnKernel.Gen.frame m ρ,
 fun m ρ _ => FfnKernelIdeal.Gen.frame m ρ,
 fun m ρ _ => (θ_run FfnReferenceIdeal.defs _ _).mono (fun r h => ⟨fun c => (h c).2.2.2.2, sem_eq_zero_of_no_sems (by decide) r.2⟩) (Ffn.ref_run m ρ),
 fun m ρ _ => MergeKernel.Gen.frame m ρ,
 fun m ρ _ => MergeKernelIdeal.Gen.frame m ρ,
 fun m ρ _ => MergeKernelIdeal.Gen.frame m ρ,
 fun m ρ _ => (θ_run MergeReferenceIdeal.defs _ _).mono (fun r h => ⟨fun c => (h c).2.2.2.2, sem_eq_zero_of_no_sems (by decide) r.2⟩) (Merge.ref_run m ρ),
 fun m ρ _ => (θ_run MergeReferenceIdeal.defs _ _).mono (fun r h => ⟨fun c => (h c).2.2.2.2, sem_eq_zero_of_no_sems (by decide) r.2⟩) (Merge.ref_run m ρ),
 fun m ρ _ => S5Kernel.Gen.frame m ρ,
 fun m ρ _ => S5KernelIdeal.Gen.frame m ρ,
 fun m ρ _ => S5KernelIdeal.Gen.frame m ρ,
 fun m ρ _ => (θ_run S5ReferenceIdeal.defs _ _).mono (fun r h => ⟨fun c => (h c).2.2.2.2.2.2, sem_eq_zero_of_no_sems (by decide) r.2⟩) (S5.ref_run m ρ),
 fun m ρ _ => (θ_run S5ReferenceIdeal.defs _ _).mono (fun r h => ⟨fun c => (h c).2.2.2.2.2.2, sem_eq_zero_of_no_sems (by decide) r.2⟩) (S5.ref_run m ρ),
 fun m ρ _ => LruKernel.Gen.frame m ρ,
 fun m ρ _ => LruKernelIdeal.Gen.frame m ρ,
 fun m ρ _ => (θ_run LruReferenceIdeal.defs _ _).mono (fun r h => ⟨fun c => (h c).2.2.2.2.2.2.2.2.2, sem_eq_zero_of_no_sems (by decide) r.2⟩) (LruReferenceIdeal.Value.run m ρ),
 fun m ρ _ => GlufKernel.Gen.frame m ρ,
 fun m ρ _ => GlufKernelIdeal.Gen.frame m ρ,
 fun m ρ _ => (θ_run GlufReferenceIdeal.defs _ _).mono (fun r h => ⟨fun c => (h c).2, sem_eq_zero_of_no_sems (by decide) r.2⟩) (Gluf.ref_run m ρ),
 fun m ρ _ => PlefKernel.Gen.frame m ρ,
 fun m ρ _ => PlefKernelIdeal.Gen.frame m ρ,
 fun m ρ _ => (θ_run PlefReferenceIdeal.defs _ _).mono (fun r h => ⟨fun c => (h c).2, sem_eq_zero_of_no_sems (by decide) r.2⟩) (Plef.ref_run m ρ),
 fun m ρ _ => FfnfKernel.Gen.frame m ρ,
 fun m ρ _ => FfnfKernelIdeal.Gen.frame m ρ,
 fun m ρ _ => (θ_run FfnfReferenceIdeal.defs _ _).mono (fun r h => ⟨fun c => (h c).2.2, sem_eq_zero_of_no_sems (by decide) r.2⟩) (Ffnf.ref_run m ρ),
 fun m ρ _ => MergefKernel.Gen.frame m ρ,
 fun m ρ _ => MergefKernelIdeal.Gen.frame m ρ,
 fun m ρ _ => MergefKernelIdeal.Gen.frame m ρ,
 fun m ρ _ => (θ_run MergefReferenceIdeal.defs _ _).mono (fun r h => ⟨fun c => (h c).2, sem_eq_zero_of_no_sems (by decide) r.2⟩) (Mergef.ref_run m ρ),
 fun m ρ _ => (θ_run MergefReferenceIdeal.defs _ _).mono (fun r h => ⟨fun c => (h c).2, sem_eq_zero_of_no_sems (by decide) r.2⟩) (Mergef.ref_run m ρ),
 fun m ρ _ => S5fKernel.Gen.frame m ρ,
 fun m ρ _ => S5fKernelIdeal.Gen.frame m ρ,
 fun m ρ _ => S5fKernelIdeal.Gen.frame m ρ,
 fun m ρ _ => (θ_run S5fReferenceIdeal.defs _ _).mono (fun r h => ⟨fun c => (h c).2.2.2, sem_eq_zero_of_no_sems (by decide) r.2⟩) (S5f.ref_run m ρ),
 fun m ρ _ => (θ_run S5fReferenceIdeal.defs _ _).mono (fun r h => ⟨fun c => (h c).2.2.2, sem_eq_zero_of_no_sems (by decide) r.2⟩) (S5f.ref_run m ρ),
 fun m ρ _ => NlfKernel.Gen.frame m ρ,
 fun m ρ _ => NlfKernelIdeal.Gen.frame m ρ,
 fun m ρ _ => (θ_run NlfReferenceIdeal.defs _ _).mono (fun r h => ⟨fun c => (h c).2.2, sem_eq_zero_of_no_sems (by decide) r.2⟩) (Nlf.ref_run m ρ),
 fun m ρ _ => LinfKernel.Gen.frame m ρ,
 fun m ρ _ => LinfKernelIdeal.Gen.frame m ρ,
 fun m ρ _ => (θ_run LinfReferenceIdeal.defs _ _).mono (fun r h => ⟨fun c => (h c).2, sem_eq_zero_of_no_sems (by decide) r.2⟩) (Linf.ref_run m ρ),
 fun m ρ _ => LinKernel.Gen.frame m ρ,
 fun m ρ _ => LinKernelIdeal.Gen.frame m ρ,
 fun m ρ _ => (θ_run LinReferenceIdeal.defs _ _).mono (fun r h => ⟨fun c => (h c).2.2.2, sem_eq_zero_of_no_sems (by decide) r.2⟩) (Lin.ref_run m ρ),
 fun m ρ _ => AdamKernel.Gen.frame m ρ,
 fun m ρ _ => AdamKernelIdeal.Gen.frame m ρ,
 fun m ρ _ => (θ_run AdamReferenceIdeal.defs _ _).mono (fun r h => ⟨fun c => (h c).2.2.2, sem_eq_zero_of_no_sems (by decide) r.2⟩) (Adam.ref_run m ρ),
 fun m ρ _ => OpsfKernel.Gen.frame m ρ,
 fun m ρ _ => OpsfKernelIdeal.Gen.frame m ρ,
 fun m ρ _ => OpsfKernelIdeal.Gen.frame m ρ,
 fun m ρ _ => (θ_run OpsfReferenceIdeal.defs _ _).mono (fun r h => ⟨fun c => (h c).2.2.2.2.2.2, sem_eq_zero_of_no_sems (by decide) r.2⟩) (Opsf.ref_run m ρ),
 fun m ρ _ => (θ_run OpsfReferenceIdeal.defs _ _).mono (fun r h => ⟨fun c => (h c).2.2.2.2.2.2, sem_eq_zero_of_no_sems (by decide) r.2⟩) (Opsf.ref_run m ρ),
 trivial, Norm.algebraic,
 trivial, Loss.algebraic,
 trivial, Ops.algebraic,
 trivial, Glu.algebraic,
 trivial, Ple.algebraic,
 trivial, Ffn.algebraic,
 trivial, Merge.algebraic,
 trivial, S5.algebraic,
 trivial,
 trivial, Gluf.algebraic,
 trivial, Plef.algebraic,
 trivial, Ffnf.algebraic,
 trivial, Mergef.algebraic,
 trivial, S5f.algebraic,
 trivial, Nlf.algebraic,
 trivial, Linf.algebraic,
 trivial, Lin.algebraic,
 trivial, Adam.algebraic,
 trivial, Opsf.algebraic⟩
end Cert.Proof
end
